-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17)
      ∧ r.2.mem ((c.tc : Thread Cert.Kernel5.nD Cert.Kernel5.τ).loc Cert.Kernel5.main_arg18) = m ((c.tc : Thread Cert.Kernel5.nD Cert.Kernel5.τ).loc Cert.Kernel5.main_arg18)
      ∧ r.2.mem ((c.tc : Thread Cert.Kernel5.nD Cert.Kernel5.τ).loc Cert.Kernel5.main_arg19) = m ((c.tc : Thread Cert.Kernel5.nD Cert.Kernel5.τ).loc Cert.Kernel5.main_arg19)
      ∧ r.2.mem ((c.tc : Thread Cert.Kernel5.nD Cert.Kernel5.τ).loc Cert.Kernel5.main_arg20) = m ((c.tc : Thread Cert.Kernel5.nD Cert.Kernel5.τ).loc Cert.Kernel5.main_arg20)
      ∧ r.2.mem ((c.tc : Thread Cert.Kernel5.nD Cert.Kernel5.τ).loc Cert.Kernel5.main_arg21) = m ((c.tc : Thread Cert.Kernel5.nD Cert.Kernel5.τ).loc Cert.Kernel5.main_arg21)
      ∧ r.2.mem ((c.tc : Thread Cert.Kernel5.nD Cert.Kernel5.τ).loc Cert.Kernel5.main_arg22) = m ((c.tc : Thread Cert.Kernel5.nD Cert.Kernel5.τ).loc Cert.Kernel5.main_arg22)
      ∧ r.2.mem ((c.tc : Thread Cert.Kernel5.nD Cert.Kernel5.τ).loc Cert.Kernel5.main_arg23) = m ((c.tc : Thread Cert.Kernel5.nD Cert.Kernel5.τ).loc Cert.Kernel5.main_arg23)
      ∧ r.2.mem ((c.tc : Thread Cert.Kernel5.nD Cert.Kernel5.τ).loc Cert.Kernel5.main_arg24) = m ((c.tc : Thread Cert.Kernel5.nD Cert.Kernel5.τ).loc Cert.Kernel5.main_arg24)
      ∧ r.2.mem ((c.tc : Thread Cert.Kernel5.nD Cert.Kernel5.τ).loc Cert.Kernel5.main_arg25) = m ((c.tc : Thread Cert.Kernel5.nD Cert.Kernel5.τ).loc Cert.Kernel5.main_arg25)
      ∧ r.2.mem ((c.tc : Thread Cert.Kernel5.nD Cert.Kernel5.τ).loc Cert.Kernel5.main_arg26) = m ((c.tc : Thread Cert.Kernel5.nD Cert.Kernel5.τ).loc Cert.Kernel5.main_arg26)
      ∧ r.2.mem ((c.tc : Thread Cert.Kernel5.nD Cert.Kernel5.τ).loc Cert.Kernel5.main_arg27) = m ((c.tc : Thread Cert.Kernel5.nD Cert.Kernel5.τ).loc Cert.Kernel5.main_arg27))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
      ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
      ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21)
      ∧ r.2.mem ((c.tc : Thread Cert.Kernel5Ideal.nD Cert.Kernel5Ideal.τ).loc Cert.Kernel5Ideal.main_arg22) = m ((c.tc : Thread Cert.Kernel5Ideal.nD Cert.Kernel5Ideal.τ).loc Cert.Kernel5Ideal.main_arg22)
      ∧ r.2.mem ((c.tc : Thread Cert.Kernel5Ideal.nD Cert.Kernel5Ideal.τ).loc Cert.Kernel5Ideal.main_arg23) = m ((c.tc : Thread Cert.Kernel5Ideal.nD Cert.Kernel5Ideal.τ).loc Cert.Kernel5Ideal.main_arg23)
      ∧ r.2.mem ((c.tc : Thread Cert.Kernel5Ideal.nD Cert.Kernel5Ideal.τ).loc Cert.Kernel5Ideal.main_arg24) = m ((c.tc : Thread Cert.Kernel5Ideal.nD Cert.Kernel5Ideal.τ).loc Cert.Kernel5Ideal.main_arg24)
      ∧ r.2.mem ((c.tc : Thread Cert.Kernel5Ideal.nD Cert.Kernel5Ideal.τ).loc Cert.Kernel5Ideal.main_arg25) = m ((c.tc : Thread Cert.Kernel5Ideal.nD Cert.Kernel5Ideal.τ).loc Cert.Kernel5Ideal.main_arg25)
      ∧ r.2.mem ((c.tc : Thread Cert.Kernel5Ideal.nD Cert.Kernel5Ideal.τ).loc Cert.Kernel5Ideal.main_arg26) = m ((c.tc : Thread Cert.Kernel5Ideal.nD Cert.Kernel5Ideal.τ).loc Cert.Kernel5Ideal.main_arg26)
      ∧ r.2.mem ((c.tc : Thread Cert.Kernel5Ideal.nD Cert.Kernel5Ideal.τ).loc Cert.Kernel5Ideal.main_arg27) = m ((c.tc : Thread Cert.Kernel5Ideal.nD Cert.Kernel5Ideal.τ).loc Cert.Kernel5Ideal.main_arg27))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18)
      ∧ r.2.mem ((c.tc : Thread Cert.Reference5Ideal.nD Cert.Reference5Ideal.τ).loc Cert.Reference5Ideal.main_arg19) = m ((c.tc : Thread Cert.Reference5Ideal.nD Cert.Reference5Ideal.τ).loc Cert.Reference5Ideal.main_arg19)
      ∧ r.2.mem ((c.tc : Thread Cert.Reference5Ideal.nD Cert.Reference5Ideal.τ).loc Cert.Reference5Ideal.main_arg20) = m ((c.tc : Thread Cert.Reference5Ideal.nD Cert.Reference5Ideal.τ).loc Cert.Reference5Ideal.main_arg20)
      ∧ r.2.mem ((c.tc : Thread Cert.Reference5Ideal.nD Cert.Reference5Ideal.τ).loc Cert.Reference5Ideal.main_arg21) = m ((c.tc : Thread Cert.Reference5Ideal.nD Cert.Reference5Ideal.τ).loc Cert.Reference5Ideal.main_arg21)
      ∧ r.2.mem ((c.tc : Thread Cert.Reference5Ideal.nD Cert.Reference5Ideal.τ).loc Cert.Reference5Ideal.main_arg22) = m ((c.tc : Thread Cert.Reference5Ideal.nD Cert.Reference5Ideal.τ).loc Cert.Reference5Ideal.main_arg22)
      ∧ r.2.mem ((c.tc : Thread Cert.Reference5Ideal.nD Cert.Reference5Ideal.τ).loc Cert.Reference5Ideal.main_arg23) = m ((c.tc : Thread Cert.Reference5Ideal.nD Cert.Reference5Ideal.τ).loc Cert.Reference5Ideal.main_arg23)
      ∧ r.2.mem ((c.tc : Thread Cert.Reference5Ideal.nD Cert.Reference5Ideal.τ).loc Cert.Reference5Ideal.main_arg24) = m ((c.tc : Thread Cert.Reference5Ideal.nD Cert.Reference5Ideal.τ).loc Cert.Reference5Ideal.main_arg24)
      ∧ r.2.mem ((c.tc : Thread Cert.Reference5Ideal.nD Cert.Reference5Ideal.τ).loc Cert.Reference5Ideal.main_arg25) = m ((c.tc : Thread Cert.Reference5Ideal.nD Cert.Reference5Ideal.τ).loc Cert.Reference5Ideal.main_arg25)
      ∧ r.2.mem ((c.tc : Thread Cert.Reference5Ideal.nD Cert.Reference5Ideal.τ).loc Cert.Reference5Ideal.main_arg26) = m ((c.tc : Thread Cert.Reference5Ideal.nD Cert.Reference5Ideal.τ).loc Cert.Reference5Ideal.main_arg26)
      ∧ r.2.mem ((c.tc : Thread Cert.Reference5Ideal.nD Cert.Reference5Ideal.τ).loc Cert.Reference5Ideal.main_arg27) = m ((c.tc : Thread Cert.Reference5Ideal.nD Cert.Reference5Ideal.τ).loc Cert.Reference5Ideal.main_arg27))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19)
      ∧ r.2.mem ((c.tc : Thread Cert.Kernel6.nD Cert.Kernel6.τ).loc Cert.Kernel6.main_arg20) = m ((c.tc : Thread Cert.Kernel6.nD Cert.Kernel6.τ).loc Cert.Kernel6.main_arg20)
      ∧ r.2.mem ((c.tc : Thread Cert.Kernel6.nD Cert.Kernel6.τ).loc Cert.Kernel6.main_arg21) = m ((c.tc : Thread Cert.Kernel6.nD Cert.Kernel6.τ).loc Cert.Kernel6.main_arg21)
      ∧ r.2.mem ((c.tc : Thread Cert.Kernel6.nD Cert.Kernel6.τ).loc Cert.Kernel6.main_arg22) = m ((c.tc : Thread Cert.Kernel6.nD Cert.Kernel6.τ).loc Cert.Kernel6.main_arg22)
      ∧ r.2.mem ((c.tc : Thread Cert.Kernel6.nD Cert.Kernel6.τ).loc Cert.Kernel6.main_arg23) = m ((c.tc : Thread Cert.Kernel6.nD Cert.Kernel6.τ).loc Cert.Kernel6.main_arg23)
      ∧ r.2.mem ((c.tc : Thread Cert.Kernel6.nD Cert.Kernel6.τ).loc Cert.Kernel6.main_arg24) = m ((c.tc : Thread Cert.Kernel6.nD Cert.Kernel6.τ).loc Cert.Kernel6.main_arg24)
      ∧ r.2.mem ((c.tc : Thread Cert.Kernel6.nD Cert.Kernel6.τ).loc Cert.Kernel6.main_arg25) = m ((c.tc : Thread Cert.Kernel6.nD Cert.Kernel6.τ).loc Cert.Kernel6.main_arg25)
      ∧ r.2.mem ((c.tc : Thread Cert.Kernel6.nD Cert.Kernel6.τ).loc Cert.Kernel6.main_arg26) = m ((c.tc : Thread Cert.Kernel6.nD Cert.Kernel6.τ).loc Cert.Kernel6.main_arg26)
      ∧ r.2.mem ((c.tc : Thread Cert.Kernel6.nD Cert.Kernel6.τ).loc Cert.Kernel6.main_arg27) = m ((c.tc : Thread Cert.Kernel6.nD Cert.Kernel6.τ).loc Cert.Kernel6.main_arg27))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
      ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
      ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
      ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
      ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
      ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
      ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19)
      ∧ r.2.mem ((c.tc : Thread Cert.Reference6Ideal.nD Cert.Reference6Ideal.τ).loc Cert.Reference6Ideal.main_arg20) = m ((c.tc : Thread Cert.Reference6Ideal.nD Cert.Reference6Ideal.τ).loc Cert.Reference6Ideal.main_arg20)
      ∧ r.2.mem ((c.tc : Thread Cert.Reference6Ideal.nD Cert.Reference6Ideal.τ).loc Cert.Reference6Ideal.main_arg21) = m ((c.tc : Thread Cert.Reference6Ideal.nD Cert.Reference6Ideal.τ).loc Cert.Reference6Ideal.main_arg21)
      ∧ r.2.mem ((c.tc : Thread Cert.Reference6Ideal.nD Cert.Reference6Ideal.τ).loc Cert.Reference6Ideal.main_arg22) = m ((c.tc : Thread Cert.Reference6Ideal.nD Cert.Reference6Ideal.τ).loc Cert.Reference6Ideal.main_arg22)
      ∧ r.2.mem ((c.tc : Thread Cert.Reference6Ideal.nD Cert.Reference6Ideal.τ).loc Cert.Reference6Ideal.main_arg23) = m ((c.tc : Thread Cert.Reference6Ideal.nD Cert.Reference6Ideal.τ).loc Cert.Reference6Ideal.main_arg23)
      ∧ r.2.mem ((c.tc : Thread Cert.Reference6Ideal.nD Cert.Reference6Ideal.τ).loc Cert.Reference6Ideal.main_arg24) = m ((c.tc : Thread Cert.Reference6Ideal.nD Cert.Reference6Ideal.τ).loc Cert.Reference6Ideal.main_arg24)
      ∧ r.2.mem ((c.tc : Thread Cert.Reference6Ideal.nD Cert.Reference6Ideal.τ).loc Cert.Reference6Ideal.main_arg25) = m ((c.tc : Thread Cert.Reference6Ideal.nD Cert.Reference6Ideal.τ).loc Cert.Reference6Ideal.main_arg25)
      ∧ r.2.mem ((c.tc : Thread Cert.Reference6Ideal.nD Cert.Reference6Ideal.τ).loc Cert.Reference6Ideal.main_arg26) = m ((c.tc : Thread Cert.Reference6Ideal.nD Cert.Reference6Ideal.τ).loc Cert.Reference6Ideal.main_arg26)
      ∧ r.2.mem ((c.tc : Thread Cert.Reference6Ideal.nD Cert.Reference6Ideal.τ).loc Cert.Reference6Ideal.main_arg27) = m ((c.tc : Thread Cert.Reference6Ideal.nD Cert.Reference6Ideal.τ).loc Cert.Reference6Ideal.main_arg27))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8)) (v1 : (c : Dev Cert.Kernel2Ideal.nD) → Buf (Elt Ideal) ((c.tc : Thread Cert.Kernel2Ideal.nD Cert.Kernel2Ideal.τ).loc Cert.Kernel2Ideal.main_v9_0)) (v2 : (c : Dev Cert.Kernel2Ideal.nD) → Buf (Elt Ideal) ((c.tc : Thread Cert.Kernel2Ideal.nD Cert.Kernel2Ideal.τ).loc Cert.Kernel2Ideal.main_v13)) (v3 : (c : Dev Cert.Kernel2Ideal.nD) → Buf (Elt Ideal) ((c.tc : Thread Cert.Kernel2Ideal.nD Cert.Kernel2Ideal.τ).loc Cert.Kernel2Ideal.main_v14)) (v4 : (c : Dev Cert.Kernel2Ideal.nD) → Buf (Elt Ideal) ((c.tc : Thread Cert.Kernel2Ideal.nD Cert.Kernel2Ideal.τ).loc Cert.Kernel2Ideal.main_v15)) (v5 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_v9_0) = v1 c
          ∧ r.2.mem ((c.tc : Thread Cert.Kernel2Ideal.nD Cert.Kernel2Ideal.τ).loc Cert.Kernel2Ideal.main_v13) = v2 c
          ∧ r.2.mem ((c.tc : Thread Cert.Kernel2Ideal.nD Cert.Kernel2Ideal.τ).loc Cert.Kernel2Ideal.main_v14) = v3 c
          ∧ r.2.mem ((c.tc : Thread Cert.Kernel2Ideal.nD Cert.Kernel2Ideal.τ).loc Cert.Kernel2Ideal.main_v15) = v4 c
          ∧ r.2.mem ((c.tc : Thread Cert.Kernel2Ideal.nD Cert.Kernel2Ideal.τ).loc Cert.Kernel2Ideal.main_v10) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_v51) = v2 c
          ∧ r.2.mem ((c.tc : Thread Cert.Reference2Ideal.nD Cert.Reference2Ideal.τ).loc Cert.Reference2Ideal.main_v46) = v3 c
          ∧ r.2.mem ((c.tc : Thread Cert.Reference2Ideal.nD Cert.Reference2Ideal.τ).loc Cert.Reference2Ideal.main_v43) = v4 c
          ∧ r.2.mem ((c.tc : Thread Cert.Reference2Ideal.nD Cert.Reference2Ideal.τ).loc Cert.Reference2Ideal.main_v37) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v12_0)) (v3 : (c : Dev Cert.Kernel3Ideal.nD) → Buf (Elt Ideal) ((c.tc : Thread Cert.Kernel3Ideal.nD Cert.Kernel3Ideal.τ).loc Cert.Kernel3Ideal.main_v14)) (v4 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v12_0) = v2 c
          ∧ r.2.mem ((c.tc : Thread Cert.Kernel3Ideal.nD Cert.Kernel3Ideal.τ).loc Cert.Kernel3Ideal.main_v14) = v3 c
          ∧ r.2.mem ((c.tc : Thread Cert.Kernel3Ideal.nD Cert.Kernel3Ideal.τ).loc Cert.Kernel3Ideal.main_v13) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_v53) = v2 c
          ∧ r.2.mem ((c.tc : Thread Cert.Reference3Ideal.nD Cert.Reference3Ideal.τ).loc Cert.Reference3Ideal.main_v36) = v3 c
          ∧ r.2.mem ((c.tc : Thread Cert.Reference3Ideal.nD Cert.Reference3Ideal.τ).loc Cert.Reference3Ideal.main_v32) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v3_0)) (v2 : (c : Dev Cert.Kernel4Ideal.nD) → Buf (Elt Ideal) ((c.tc : Thread Cert.Kernel4Ideal.nD Cert.Kernel4Ideal.τ).loc Cert.Kernel4Ideal.main_v3_1)) (v3 : (c : Dev Cert.Kernel4Ideal.nD) → Buf (Elt Ideal) ((c.tc : Thread Cert.Kernel4Ideal.nD Cert.Kernel4Ideal.τ).loc Cert.Kernel4Ideal.main_v4)) (v4 : (c : Dev Cert.Kernel4Ideal.nD) → Buf (Elt Ideal) ((c.tc : Thread Cert.Kernel4Ideal.nD Cert.Kernel4Ideal.τ).loc Cert.Kernel4Ideal.main_v5)) (v5 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v3_0) = v1 c
          ∧ r.2.mem ((c.tc : Thread Cert.Kernel4Ideal.nD Cert.Kernel4Ideal.τ).loc Cert.Kernel4Ideal.main_v3_1) = v2 c
          ∧ r.2.mem ((c.tc : Thread Cert.Kernel4Ideal.nD Cert.Kernel4Ideal.τ).loc Cert.Kernel4Ideal.main_v4) = v3 c
          ∧ r.2.mem ((c.tc : Thread Cert.Kernel4Ideal.nD Cert.Kernel4Ideal.τ).loc Cert.Kernel4Ideal.main_v5) = v4 c
          ∧ r.2.mem ((c.tc : Thread Cert.Kernel4Ideal.nD Cert.Kernel4Ideal.τ).loc Cert.Kernel4Ideal.main_v2) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_v76) = v1 c
          ∧ r.2.mem ((c.tc : Thread Cert.Reference4Ideal.nD Cert.Reference4Ideal.τ).loc Cert.Reference4Ideal.main_v57) = v2 c
          ∧ r.2.mem ((c.tc : Thread Cert.Reference4Ideal.nD Cert.Reference4Ideal.τ).loc Cert.Reference4Ideal.main_v60) = v3 c
          ∧ r.2.mem ((c.tc : Thread Cert.Reference4Ideal.nD Cert.Reference4Ideal.τ).loc Cert.Reference4Ideal.main_v41) = v4 c
          ∧ r.2.mem ((c.tc : Thread Cert.Reference4Ideal.nD Cert.Reference4Ideal.τ).loc Cert.Reference4Ideal.main_v35) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)
      ∧ m' ((c.tc : Thread Cert.Reference5Ideal.nD Cert.Reference5Ideal.τ).loc Cert.Reference5Ideal.main_arg18) = m ((c.tc : Thread Cert.Kernel5Ideal.nD Cert.Kernel5Ideal.τ).loc Cert.Kernel5Ideal.main_arg18)
      ∧ m' ((c.tc : Thread Cert.Reference5Ideal.nD Cert.Reference5Ideal.τ).loc Cert.Reference5Ideal.main_arg19) = m ((c.tc : Thread Cert.Kernel5Ideal.nD Cert.Kernel5Ideal.τ).loc Cert.Kernel5Ideal.main_arg19)
      ∧ m' ((c.tc : Thread Cert.Reference5Ideal.nD Cert.Reference5Ideal.τ).loc Cert.Reference5Ideal.main_arg20) = m ((c.tc : Thread Cert.Kernel5Ideal.nD Cert.Kernel5Ideal.τ).loc Cert.Kernel5Ideal.main_arg20)
      ∧ m' ((c.tc : Thread Cert.Reference5Ideal.nD Cert.Reference5Ideal.τ).loc Cert.Reference5Ideal.main_arg21) = m ((c.tc : Thread Cert.Kernel5Ideal.nD Cert.Kernel5Ideal.τ).loc Cert.Kernel5Ideal.main_arg21)
      ∧ m' ((c.tc : Thread Cert.Reference5Ideal.nD Cert.Reference5Ideal.τ).loc Cert.Reference5Ideal.main_arg22) = m ((c.tc : Thread Cert.Kernel5Ideal.nD Cert.Kernel5Ideal.τ).loc Cert.Kernel5Ideal.main_arg22)
      ∧ m' ((c.tc : Thread Cert.Reference5Ideal.nD Cert.Reference5Ideal.τ).loc Cert.Reference5Ideal.main_arg23) = m ((c.tc : Thread Cert.Kernel5Ideal.nD Cert.Kernel5Ideal.τ).loc Cert.Kernel5Ideal.main_arg23)
      ∧ m' ((c.tc : Thread Cert.Reference5Ideal.nD Cert.Reference5Ideal.τ).loc Cert.Reference5Ideal.main_arg24) = m ((c.tc : Thread Cert.Kernel5Ideal.nD Cert.Kernel5Ideal.τ).loc Cert.Kernel5Ideal.main_arg24)
      ∧ m' ((c.tc : Thread Cert.Reference5Ideal.nD Cert.Reference5Ideal.τ).loc Cert.Reference5Ideal.main_arg25) = m ((c.tc : Thread Cert.Kernel5Ideal.nD Cert.Kernel5Ideal.τ).loc Cert.Kernel5Ideal.main_arg25)
      ∧ m' ((c.tc : Thread Cert.Reference5Ideal.nD Cert.Reference5Ideal.τ).loc Cert.Reference5Ideal.main_arg26) = m ((c.tc : Thread Cert.Kernel5Ideal.nD Cert.Kernel5Ideal.τ).loc Cert.Kernel5Ideal.main_arg26)
      ∧ m' ((c.tc : Thread Cert.Reference5Ideal.nD Cert.Reference5Ideal.τ).loc Cert.Reference5Ideal.main_arg27) = m ((c.tc : Thread Cert.Kernel5Ideal.nD Cert.Kernel5Ideal.τ).loc Cert.Kernel5Ideal.main_arg27)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v25)) (v2 : (c : Dev Cert.Kernel5Ideal.nD) → Buf (Elt Ideal) ((c.tc : Thread Cert.Kernel5Ideal.nD Cert.Kernel5Ideal.τ).loc Cert.Kernel5Ideal.main_v15_0)) (v3 : (c : Dev Cert.Kernel5Ideal.nD) → Buf (Elt Ideal) ((c.tc : Thread Cert.Kernel5Ideal.nD Cert.Kernel5Ideal.τ).loc Cert.Kernel5Ideal.main_v16_0)) (v4 : (c : Dev Cert.Kernel5Ideal.nD) → Buf (Elt Ideal) ((c.tc : Thread Cert.Kernel5Ideal.nD Cert.Kernel5Ideal.τ).loc Cert.Kernel5Ideal.main_v19)) (v5 : (c : Dev Cert.Kernel5Ideal.nD) → Buf (Elt Ideal) ((c.tc : Thread Cert.Kernel5Ideal.nD Cert.Kernel5Ideal.τ).loc Cert.Kernel5Ideal.main_v22)) (v6 : (c : Dev Cert.Kernel5Ideal.nD) → Buf (Elt Ideal) ((c.tc : Thread Cert.Kernel5Ideal.nD Cert.Kernel5Ideal.τ).loc Cert.Kernel5Ideal.main_v8_0)) (v7 : (c : Dev Cert.Kernel5Ideal.nD) → Buf (Elt Ideal) ((c.tc : Thread Cert.Kernel5Ideal.nD Cert.Kernel5Ideal.τ).loc Cert.Kernel5Ideal.main_v13_1)) (v8 : (c : Dev Cert.Kernel5Ideal.nD) → Buf (Elt Ideal) ((c.tc : Thread Cert.Kernel5Ideal.nD Cert.Kernel5Ideal.τ).loc Cert.Kernel5Ideal.main_v26)) (v9 : (c : Dev Cert.Kernel5Ideal.nD) → Buf (Elt Ideal) ((c.tc : Thread Cert.Kernel5Ideal.nD Cert.Kernel5Ideal.τ).loc Cert.Kernel5Ideal.main_v15_1)) (v10 : (c : Dev Cert.Kernel5Ideal.nD) → Buf (Elt Ideal) ((c.tc : Thread Cert.Kernel5Ideal.nD Cert.Kernel5Ideal.τ).loc Cert.Kernel5Ideal.main_v16_1)) (v11 : (c : Dev Cert.Kernel5Ideal.nD) → Buf (Elt Ideal) ((c.tc : Thread Cert.Kernel5Ideal.nD Cert.Kernel5Ideal.τ).loc Cert.Kernel5Ideal.main_v20)) (v12 : (c : Dev Cert.Kernel5Ideal.nD) → Buf (Elt Ideal) ((c.tc : Thread Cert.Kernel5Ideal.nD Cert.Kernel5Ideal.τ).loc Cert.Kernel5Ideal.main_v23)) (v13 : (c : Dev Cert.Kernel5Ideal.nD) → Buf (Elt Ideal) ((c.tc : Thread Cert.Kernel5Ideal.nD Cert.Kernel5Ideal.τ).loc Cert.Kernel5Ideal.main_v8_1)) (v14 : (c : Dev Cert.Kernel5Ideal.nD) → Buf (Elt Ideal) ((c.tc : Thread Cert.Kernel5Ideal.nD Cert.Kernel5Ideal.τ).loc Cert.Kernel5Ideal.main_v13_2)) (v15 : (c : Dev Cert.Kernel5Ideal.nD) → Buf (Elt Ideal) ((c.tc : Thread Cert.Kernel5Ideal.nD Cert.Kernel5Ideal.τ).loc Cert.Kernel5Ideal.main_v27)) (v16 : (c : Dev Cert.Kernel5Ideal.nD) → Buf (Elt Ideal) ((c.tc : Thread Cert.Kernel5Ideal.nD Cert.Kernel5Ideal.τ).loc Cert.Kernel5Ideal.main_v15_2)) (v17 : (c : Dev Cert.Kernel5Ideal.nD) → Buf (Elt Ideal) ((c.tc : Thread Cert.Kernel5Ideal.nD Cert.Kernel5Ideal.τ).loc Cert.Kernel5Ideal.main_v16_2)) (v18 : (c : Dev Cert.Kernel5Ideal.nD) → Buf (Elt Ideal) ((c.tc : Thread Cert.Kernel5Ideal.nD Cert.Kernel5Ideal.τ).loc Cert.Kernel5Ideal.main_v21)) (v19 : (c : Dev Cert.Kernel5Ideal.nD) → Buf (Elt Ideal) ((c.tc : Thread Cert.Kernel5Ideal.nD Cert.Kernel5Ideal.τ).loc Cert.Kernel5Ideal.main_v24)) (v20 : (c : Dev Cert.Kernel5Ideal.nD) → Buf (Elt Ideal) ((c.tc : Thread Cert.Kernel5Ideal.nD Cert.Kernel5Ideal.τ).loc Cert.Kernel5Ideal.main_v8_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v25) = v1 c
          ∧ r.2.mem ((c.tc : Thread Cert.Kernel5Ideal.nD Cert.Kernel5Ideal.τ).loc Cert.Kernel5Ideal.main_v15_0) = v2 c
          ∧ r.2.mem ((c.tc : Thread Cert.Kernel5Ideal.nD Cert.Kernel5Ideal.τ).loc Cert.Kernel5Ideal.main_v16_0) = v3 c
          ∧ r.2.mem ((c.tc : Thread Cert.Kernel5Ideal.nD Cert.Kernel5Ideal.τ).loc Cert.Kernel5Ideal.main_v19) = v4 c
          ∧ r.2.mem ((c.tc : Thread Cert.Kernel5Ideal.nD Cert.Kernel5Ideal.τ).loc Cert.Kernel5Ideal.main_v22) = v5 c
          ∧ r.2.mem ((c.tc : Thread Cert.Kernel5Ideal.nD Cert.Kernel5Ideal.τ).loc Cert.Kernel5Ideal.main_v8_0) = v6 c
          ∧ r.2.mem ((c.tc : Thread Cert.Kernel5Ideal.nD Cert.Kernel5Ideal.τ).loc Cert.Kernel5Ideal.main_v13_1) = v7 c
          ∧ r.2.mem ((c.tc : Thread Cert.Kernel5Ideal.nD Cert.Kernel5Ideal.τ).loc Cert.Kernel5Ideal.main_v26) = v8 c
          ∧ r.2.mem ((c.tc : Thread Cert.Kernel5Ideal.nD Cert.Kernel5Ideal.τ).loc Cert.Kernel5Ideal.main_v15_1) = v9 c
          ∧ r.2.mem ((c.tc : Thread Cert.Kernel5Ideal.nD Cert.Kernel5Ideal.τ).loc Cert.Kernel5Ideal.main_v16_1) = v10 c
          ∧ r.2.mem ((c.tc : Thread Cert.Kernel5Ideal.nD Cert.Kernel5Ideal.τ).loc Cert.Kernel5Ideal.main_v20) = v11 c
          ∧ r.2.mem ((c.tc : Thread Cert.Kernel5Ideal.nD Cert.Kernel5Ideal.τ).loc Cert.Kernel5Ideal.main_v23) = v12 c
          ∧ r.2.mem ((c.tc : Thread Cert.Kernel5Ideal.nD Cert.Kernel5Ideal.τ).loc Cert.Kernel5Ideal.main_v8_1) = v13 c
          ∧ r.2.mem ((c.tc : Thread Cert.Kernel5Ideal.nD Cert.Kernel5Ideal.τ).loc Cert.Kernel5Ideal.main_v13_2) = v14 c
          ∧ r.2.mem ((c.tc : Thread Cert.Kernel5Ideal.nD Cert.Kernel5Ideal.τ).loc Cert.Kernel5Ideal.main_v27) = v15 c
          ∧ r.2.mem ((c.tc : Thread Cert.Kernel5Ideal.nD Cert.Kernel5Ideal.τ).loc Cert.Kernel5Ideal.main_v15_2) = v16 c
          ∧ r.2.mem ((c.tc : Thread Cert.Kernel5Ideal.nD Cert.Kernel5Ideal.τ).loc Cert.Kernel5Ideal.main_v16_2) = v17 c
          ∧ r.2.mem ((c.tc : Thread Cert.Kernel5Ideal.nD Cert.Kernel5Ideal.τ).loc Cert.Kernel5Ideal.main_v21) = v18 c
          ∧ r.2.mem ((c.tc : Thread Cert.Kernel5Ideal.nD Cert.Kernel5Ideal.τ).loc Cert.Kernel5Ideal.main_v24) = v19 c
          ∧ r.2.mem ((c.tc : Thread Cert.Kernel5Ideal.nD Cert.Kernel5Ideal.τ).loc Cert.Kernel5Ideal.main_v8_2) = v20 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
          ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
          ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
          ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
          ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21)
          ∧ r.2.mem ((c.tc : Thread Cert.Kernel5Ideal.nD Cert.Kernel5Ideal.τ).loc Cert.Kernel5Ideal.main_arg22) = m ((c.tc : Thread Cert.Kernel5Ideal.nD Cert.Kernel5Ideal.τ).loc Cert.Kernel5Ideal.main_arg22)
          ∧ r.2.mem ((c.tc : Thread Cert.Kernel5Ideal.nD Cert.Kernel5Ideal.τ).loc Cert.Kernel5Ideal.main_arg23) = m ((c.tc : Thread Cert.Kernel5Ideal.nD Cert.Kernel5Ideal.τ).loc Cert.Kernel5Ideal.main_arg23)
          ∧ r.2.mem ((c.tc : Thread Cert.Kernel5Ideal.nD Cert.Kernel5Ideal.τ).loc Cert.Kernel5Ideal.main_arg24) = m ((c.tc : Thread Cert.Kernel5Ideal.nD Cert.Kernel5Ideal.τ).loc Cert.Kernel5Ideal.main_arg24)
          ∧ r.2.mem ((c.tc : Thread Cert.Kernel5Ideal.nD Cert.Kernel5Ideal.τ).loc Cert.Kernel5Ideal.main_arg25) = m ((c.tc : Thread Cert.Kernel5Ideal.nD Cert.Kernel5Ideal.τ).loc Cert.Kernel5Ideal.main_arg25)
          ∧ r.2.mem ((c.tc : Thread Cert.Kernel5Ideal.nD Cert.Kernel5Ideal.τ).loc Cert.Kernel5Ideal.main_arg26) = m ((c.tc : Thread Cert.Kernel5Ideal.nD Cert.Kernel5Ideal.τ).loc Cert.Kernel5Ideal.main_arg26)
          ∧ r.2.mem ((c.tc : Thread Cert.Kernel5Ideal.nD Cert.Kernel5Ideal.τ).loc Cert.Kernel5Ideal.main_arg27) = m ((c.tc : Thread Cert.Kernel5Ideal.nD Cert.Kernel5Ideal.τ).loc Cert.Kernel5Ideal.main_arg27))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v47) = v1 c
          ∧ r.2.mem ((c.tc : Thread Cert.Reference5Ideal.nD Cert.Reference5Ideal.τ).loc Cert.Reference5Ideal.main_v71) = v2 c
          ∧ r.2.mem ((c.tc : Thread Cert.Reference5Ideal.nD Cert.Reference5Ideal.τ).loc Cert.Reference5Ideal.main_v95) = v3 c
          ∧ r.2.mem ((c.tc : Thread Cert.Reference5Ideal.nD Cert.Reference5Ideal.τ).loc Cert.Reference5Ideal.main_v119) = v4 c
          ∧ r.2.mem ((c.tc : Thread Cert.Reference5Ideal.nD Cert.Reference5Ideal.τ).loc Cert.Reference5Ideal.main_v143) = v5 c
          ∧ r.2.mem ((c.tc : Thread Cert.Reference5Ideal.nD Cert.Reference5Ideal.τ).loc Cert.Reference5Ideal.main_v167) = v6 c
          ∧ r.2.mem ((c.tc : Thread Cert.Reference5Ideal.nD Cert.Reference5Ideal.τ).loc Cert.Reference5Ideal.main_v4) = v7 c
          ∧ r.2.mem ((c.tc : Thread Cert.Reference5Ideal.nD Cert.Reference5Ideal.τ).loc Cert.Reference5Ideal.main_v28) = v8 c
          ∧ r.2.mem ((c.tc : Thread Cert.Reference5Ideal.nD Cert.Reference5Ideal.τ).loc Cert.Reference5Ideal.main_v52) = v9 c
          ∧ r.2.mem ((c.tc : Thread Cert.Reference5Ideal.nD Cert.Reference5Ideal.τ).loc Cert.Reference5Ideal.main_v76) = v10 c
          ∧ r.2.mem ((c.tc : Thread Cert.Reference5Ideal.nD Cert.Reference5Ideal.τ).loc Cert.Reference5Ideal.main_v100) = v11 c
          ∧ r.2.mem ((c.tc : Thread Cert.Reference5Ideal.nD Cert.Reference5Ideal.τ).loc Cert.Reference5Ideal.main_v124) = v12 c
          ∧ r.2.mem ((c.tc : Thread Cert.Reference5Ideal.nD Cert.Reference5Ideal.τ).loc Cert.Reference5Ideal.main_v148) = v13 c
          ∧ r.2.mem ((c.tc : Thread Cert.Reference5Ideal.nD Cert.Reference5Ideal.τ).loc Cert.Reference5Ideal.main_v10) = v14 c
          ∧ r.2.mem ((c.tc : Thread Cert.Reference5Ideal.nD Cert.Reference5Ideal.τ).loc Cert.Reference5Ideal.main_v34) = v15 c
          ∧ r.2.mem ((c.tc : Thread Cert.Reference5Ideal.nD Cert.Reference5Ideal.τ).loc Cert.Reference5Ideal.main_v58) = v16 c
          ∧ r.2.mem ((c.tc : Thread Cert.Reference5Ideal.nD Cert.Reference5Ideal.τ).loc Cert.Reference5Ideal.main_v82) = v17 c
          ∧ r.2.mem ((c.tc : Thread Cert.Reference5Ideal.nD Cert.Reference5Ideal.τ).loc Cert.Reference5Ideal.main_v106) = v18 c
          ∧ r.2.mem ((c.tc : Thread Cert.Reference5Ideal.nD Cert.Reference5Ideal.τ).loc Cert.Reference5Ideal.main_v130) = v19 c
          ∧ r.2.mem ((c.tc : Thread Cert.Reference5Ideal.nD Cert.Reference5Ideal.τ).loc Cert.Reference5Ideal.main_v154) = v20 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17)
          ∧ r.2.mem ((c.tc : Thread Cert.Reference5Ideal.nD Cert.Reference5Ideal.τ).loc Cert.Reference5Ideal.main_arg18) = m' ((c.tc : Thread Cert.Reference5Ideal.nD Cert.Reference5Ideal.τ).loc Cert.Reference5Ideal.main_arg18)
          ∧ r.2.mem ((c.tc : Thread Cert.Reference5Ideal.nD Cert.Reference5Ideal.τ).loc Cert.Reference5Ideal.main_arg19) = m' ((c.tc : Thread Cert.Reference5Ideal.nD Cert.Reference5Ideal.τ).loc Cert.Reference5Ideal.main_arg19)
          ∧ r.2.mem ((c.tc : Thread Cert.Reference5Ideal.nD Cert.Reference5Ideal.τ).loc Cert.Reference5Ideal.main_arg20) = m' ((c.tc : Thread Cert.Reference5Ideal.nD Cert.Reference5Ideal.τ).loc Cert.Reference5Ideal.main_arg20)
          ∧ r.2.mem ((c.tc : Thread Cert.Reference5Ideal.nD Cert.Reference5Ideal.τ).loc Cert.Reference5Ideal.main_arg21) = m' ((c.tc : Thread Cert.Reference5Ideal.nD Cert.Reference5Ideal.τ).loc Cert.Reference5Ideal.main_arg21)
          ∧ r.2.mem ((c.tc : Thread Cert.Reference5Ideal.nD Cert.Reference5Ideal.τ).loc Cert.Reference5Ideal.main_arg22) = m' ((c.tc : Thread Cert.Reference5Ideal.nD Cert.Reference5Ideal.τ).loc Cert.Reference5Ideal.main_arg22)
          ∧ r.2.mem ((c.tc : Thread Cert.Reference5Ideal.nD Cert.Reference5Ideal.τ).loc Cert.Reference5Ideal.main_arg23) = m' ((c.tc : Thread Cert.Reference5Ideal.nD Cert.Reference5Ideal.τ).loc Cert.Reference5Ideal.main_arg23)
          ∧ r.2.mem ((c.tc : Thread Cert.Reference5Ideal.nD Cert.Reference5Ideal.τ).loc Cert.Reference5Ideal.main_arg24) = m' ((c.tc : Thread Cert.Reference5Ideal.nD Cert.Reference5Ideal.τ).loc Cert.Reference5Ideal.main_arg24)
          ∧ r.2.mem ((c.tc : Thread Cert.Reference5Ideal.nD Cert.Reference5Ideal.τ).loc Cert.Reference5Ideal.main_arg25) = m' ((c.tc : Thread Cert.Reference5Ideal.nD Cert.Reference5Ideal.τ).loc Cert.Reference5Ideal.main_arg25)
          ∧ r.2.mem ((c.tc : Thread Cert.Reference5Ideal.nD Cert.Reference5Ideal.τ).loc Cert.Reference5Ideal.main_arg26) = m' ((c.tc : Thread Cert.Reference5Ideal.nD Cert.Reference5Ideal.τ).loc Cert.Reference5Ideal.main_arg26)
          ∧ r.2.mem ((c.tc : Thread Cert.Reference5Ideal.nD Cert.Reference5Ideal.τ).loc Cert.Reference5Ideal.main_arg27) = m' ((c.tc : Thread Cert.Reference5Ideal.nD Cert.Reference5Ideal.τ).loc Cert.Reference5Ideal.main_arg27))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)
      ∧ m' ((c.tc : Thread Cert.Reference6Ideal.nD Cert.Reference6Ideal.τ).loc Cert.Reference6Ideal.main_arg20) = m ((c.tc : Thread Cert.Kernel6Ideal.nD Cert.Kernel6Ideal.τ).loc Cert.Kernel6Ideal.main_arg20)
      ∧ m' ((c.tc : Thread Cert.Reference6Ideal.nD Cert.Reference6Ideal.τ).loc Cert.Reference6Ideal.main_arg21) = m ((c.tc : Thread Cert.Kernel6Ideal.nD Cert.Kernel6Ideal.τ).loc Cert.Kernel6Ideal.main_arg21)
      ∧ m' ((c.tc : Thread Cert.Reference6Ideal.nD Cert.Reference6Ideal.τ).loc Cert.Reference6Ideal.main_arg22) = m ((c.tc : Thread Cert.Kernel6Ideal.nD Cert.Kernel6Ideal.τ).loc Cert.Kernel6Ideal.main_arg22)
      ∧ m' ((c.tc : Thread Cert.Reference6Ideal.nD Cert.Reference6Ideal.τ).loc Cert.Reference6Ideal.main_arg23) = m ((c.tc : Thread Cert.Kernel6Ideal.nD Cert.Kernel6Ideal.τ).loc Cert.Kernel6Ideal.main_arg23)
      ∧ m' ((c.tc : Thread Cert.Reference6Ideal.nD Cert.Reference6Ideal.τ).loc Cert.Reference6Ideal.main_arg24) = m ((c.tc : Thread Cert.Kernel6Ideal.nD Cert.Kernel6Ideal.τ).loc Cert.Kernel6Ideal.main_arg24)
      ∧ m' ((c.tc : Thread Cert.Reference6Ideal.nD Cert.Reference6Ideal.τ).loc Cert.Reference6Ideal.main_arg25) = m ((c.tc : Thread Cert.Kernel6Ideal.nD Cert.Kernel6Ideal.τ).loc Cert.Kernel6Ideal.main_arg25)
      ∧ m' ((c.tc : Thread Cert.Reference6Ideal.nD Cert.Reference6Ideal.τ).loc Cert.Reference6Ideal.main_arg26) = m ((c.tc : Thread Cert.Kernel6Ideal.nD Cert.Kernel6Ideal.τ).loc Cert.Kernel6Ideal.main_arg26)
      ∧ m' ((c.tc : Thread Cert.Reference6Ideal.nD Cert.Reference6Ideal.τ).loc Cert.Reference6Ideal.main_arg27) = m ((c.tc : Thread Cert.Kernel6Ideal.nD Cert.Kernel6Ideal.τ).loc Cert.Kernel6Ideal.main_arg27)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v1_0)) (v2 : (c : Dev Cert.Kernel6Ideal.nD) → Buf (Elt Ideal) ((c.tc : Thread Cert.Kernel6Ideal.nD Cert.Kernel6Ideal.τ).loc Cert.Kernel6Ideal.main_v2_0)) (v3 : (c : Dev Cert.Kernel6Ideal.nD) → Buf (Elt Ideal) ((c.tc : Thread Cert.Kernel6Ideal.nD Cert.Kernel6Ideal.τ).loc Cert.Kernel6Ideal.main_v3_0)) (v4 : (c : Dev Cert.Kernel6Ideal.nD) → Buf (Elt Ideal) ((c.tc : Thread Cert.Kernel6Ideal.nD Cert.Kernel6Ideal.τ).loc Cert.Kernel6Ideal.main_v4_0)) (v5 : (c : Dev Cert.Kernel6Ideal.nD) → Buf (Elt Ideal) ((c.tc : Thread Cert.Kernel6Ideal.nD Cert.Kernel6Ideal.τ).loc Cert.Kernel6Ideal.main_v5_0)) (v6 : (c : Dev Cert.Kernel6Ideal.nD) → Buf (Elt Ideal) ((c.tc : Thread Cert.Kernel6Ideal.nD Cert.Kernel6Ideal.τ).loc Cert.Kernel6Ideal.main_v6_0)) (v7 : (c : Dev Cert.Kernel6Ideal.nD) → Buf (Elt Ideal) ((c.tc : Thread Cert.Kernel6Ideal.nD Cert.Kernel6Ideal.τ).loc Cert.Kernel6Ideal.main_v0_1)) (v8 : (c : Dev Cert.Kernel6Ideal.nD) → Buf (Elt Ideal) ((c.tc : Thread Cert.Kernel6Ideal.nD Cert.Kernel6Ideal.τ).loc Cert.Kernel6Ideal.main_v1_1)) (v9 : (c : Dev Cert.Kernel6Ideal.nD) → Buf (Elt Ideal) ((c.tc : Thread Cert.Kernel6Ideal.nD Cert.Kernel6Ideal.τ).loc Cert.Kernel6Ideal.main_v2_1)) (v10 : (c : Dev Cert.Kernel6Ideal.nD) → Buf (Elt Ideal) ((c.tc : Thread Cert.Kernel6Ideal.nD Cert.Kernel6Ideal.τ).loc Cert.Kernel6Ideal.main_v3_1)) (v11 : (c : Dev Cert.Kernel6Ideal.nD) → Buf (Elt Ideal) ((c.tc : Thread Cert.Kernel6Ideal.nD Cert.Kernel6Ideal.τ).loc Cert.Kernel6Ideal.main_v4_1)) (v12 : (c : Dev Cert.Kernel6Ideal.nD) → Buf (Elt Ideal) ((c.tc : Thread Cert.Kernel6Ideal.nD Cert.Kernel6Ideal.τ).loc Cert.Kernel6Ideal.main_v5_1)) (v13 : (c : Dev Cert.Kernel6Ideal.nD) → Buf (Elt Ideal) ((c.tc : Thread Cert.Kernel6Ideal.nD Cert.Kernel6Ideal.τ).loc Cert.Kernel6Ideal.main_v6_1)) (v14 : (c : Dev Cert.Kernel6Ideal.nD) → Buf (Elt Ideal) ((c.tc : Thread Cert.Kernel6Ideal.nD Cert.Kernel6Ideal.τ).loc Cert.Kernel6Ideal.main_v0_2)) (v15 : (c : Dev Cert.Kernel6Ideal.nD) → Buf (Elt Ideal) ((c.tc : Thread Cert.Kernel6Ideal.nD Cert.Kernel6Ideal.τ).loc Cert.Kernel6Ideal.main_v1_2)) (v16 : (c : Dev Cert.Kernel6Ideal.nD) → Buf (Elt Ideal) ((c.tc : Thread Cert.Kernel6Ideal.nD Cert.Kernel6Ideal.τ).loc Cert.Kernel6Ideal.main_v2_2)) (v17 : (c : Dev Cert.Kernel6Ideal.nD) → Buf (Elt Ideal) ((c.tc : Thread Cert.Kernel6Ideal.nD Cert.Kernel6Ideal.τ).loc Cert.Kernel6Ideal.main_v3_2)) (v18 : (c : Dev Cert.Kernel6Ideal.nD) → Buf (Elt Ideal) ((c.tc : Thread Cert.Kernel6Ideal.nD Cert.Kernel6Ideal.τ).loc Cert.Kernel6Ideal.main_v4_2)) (v19 : (c : Dev Cert.Kernel6Ideal.nD) → Buf (Elt Ideal) ((c.tc : Thread Cert.Kernel6Ideal.nD Cert.Kernel6Ideal.τ).loc Cert.Kernel6Ideal.main_v5_2)) (v20 : (c : Dev Cert.Kernel6Ideal.nD) → Buf (Elt Ideal) ((c.tc : Thread Cert.Kernel6Ideal.nD Cert.Kernel6Ideal.τ).loc Cert.Kernel6Ideal.main_v6_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v1_0) = v1 c
          ∧ r.2.mem ((c.tc : Thread Cert.Kernel6Ideal.nD Cert.Kernel6Ideal.τ).loc Cert.Kernel6Ideal.main_v2_0) = v2 c
          ∧ r.2.mem ((c.tc : Thread Cert.Kernel6Ideal.nD Cert.Kernel6Ideal.τ).loc Cert.Kernel6Ideal.main_v3_0) = v3 c
          ∧ r.2.mem ((c.tc : Thread Cert.Kernel6Ideal.nD Cert.Kernel6Ideal.τ).loc Cert.Kernel6Ideal.main_v4_0) = v4 c
          ∧ r.2.mem ((c.tc : Thread Cert.Kernel6Ideal.nD Cert.Kernel6Ideal.τ).loc Cert.Kernel6Ideal.main_v5_0) = v5 c
          ∧ r.2.mem ((c.tc : Thread Cert.Kernel6Ideal.nD Cert.Kernel6Ideal.τ).loc Cert.Kernel6Ideal.main_v6_0) = v6 c
          ∧ r.2.mem ((c.tc : Thread Cert.Kernel6Ideal.nD Cert.Kernel6Ideal.τ).loc Cert.Kernel6Ideal.main_v0_1) = v7 c
          ∧ r.2.mem ((c.tc : Thread Cert.Kernel6Ideal.nD Cert.Kernel6Ideal.τ).loc Cert.Kernel6Ideal.main_v1_1) = v8 c
          ∧ r.2.mem ((c.tc : Thread Cert.Kernel6Ideal.nD Cert.Kernel6Ideal.τ).loc Cert.Kernel6Ideal.main_v2_1) = v9 c
          ∧ r.2.mem ((c.tc : Thread Cert.Kernel6Ideal.nD Cert.Kernel6Ideal.τ).loc Cert.Kernel6Ideal.main_v3_1) = v10 c
          ∧ r.2.mem ((c.tc : Thread Cert.Kernel6Ideal.nD Cert.Kernel6Ideal.τ).loc Cert.Kernel6Ideal.main_v4_1) = v11 c
          ∧ r.2.mem ((c.tc : Thread Cert.Kernel6Ideal.nD Cert.Kernel6Ideal.τ).loc Cert.Kernel6Ideal.main_v5_1) = v12 c
          ∧ r.2.mem ((c.tc : Thread Cert.Kernel6Ideal.nD Cert.Kernel6Ideal.τ).loc Cert.Kernel6Ideal.main_v6_1) = v13 c
          ∧ r.2.mem ((c.tc : Thread Cert.Kernel6Ideal.nD Cert.Kernel6Ideal.τ).loc Cert.Kernel6Ideal.main_v0_2) = v14 c
          ∧ r.2.mem ((c.tc : Thread Cert.Kernel6Ideal.nD Cert.Kernel6Ideal.τ).loc Cert.Kernel6Ideal.main_v1_2) = v15 c
          ∧ r.2.mem ((c.tc : Thread Cert.Kernel6Ideal.nD Cert.Kernel6Ideal.τ).loc Cert.Kernel6Ideal.main_v2_2) = v16 c
          ∧ r.2.mem ((c.tc : Thread Cert.Kernel6Ideal.nD Cert.Kernel6Ideal.τ).loc Cert.Kernel6Ideal.main_v3_2) = v17 c
          ∧ r.2.mem ((c.tc : Thread Cert.Kernel6Ideal.nD Cert.Kernel6Ideal.τ).loc Cert.Kernel6Ideal.main_v4_2) = v18 c
          ∧ r.2.mem ((c.tc : Thread Cert.Kernel6Ideal.nD Cert.Kernel6Ideal.τ).loc Cert.Kernel6Ideal.main_v5_2) = v19 c
          ∧ r.2.mem ((c.tc : Thread Cert.Kernel6Ideal.nD Cert.Kernel6Ideal.τ).loc Cert.Kernel6Ideal.main_v6_2) = v20 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
          ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
          ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
          ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
          ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
          ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
          ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
          ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
          ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v47) = v1 c
          ∧ r.2.mem ((c.tc : Thread Cert.Reference6Ideal.nD Cert.Reference6Ideal.τ).loc Cert.Reference6Ideal.main_v71) = v2 c
          ∧ r.2.mem ((c.tc : Thread Cert.Reference6Ideal.nD Cert.Reference6Ideal.τ).loc Cert.Reference6Ideal.main_v95) = v3 c
          ∧ r.2.mem ((c.tc : Thread Cert.Reference6Ideal.nD Cert.Reference6Ideal.τ).loc Cert.Reference6Ideal.main_v119) = v4 c
          ∧ r.2.mem ((c.tc : Thread Cert.Reference6Ideal.nD Cert.Reference6Ideal.τ).loc Cert.Reference6Ideal.main_v143) = v5 c
          ∧ r.2.mem ((c.tc : Thread Cert.Reference6Ideal.nD Cert.Reference6Ideal.τ).loc Cert.Reference6Ideal.main_v167) = v6 c
          ∧ r.2.mem ((c.tc : Thread Cert.Reference6Ideal.nD Cert.Reference6Ideal.τ).loc Cert.Reference6Ideal.main_v4) = v7 c
          ∧ r.2.mem ((c.tc : Thread Cert.Reference6Ideal.nD Cert.Reference6Ideal.τ).loc Cert.Reference6Ideal.main_v28) = v8 c
          ∧ r.2.mem ((c.tc : Thread Cert.Reference6Ideal.nD Cert.Reference6Ideal.τ).loc Cert.Reference6Ideal.main_v52) = v9 c
          ∧ r.2.mem ((c.tc : Thread Cert.Reference6Ideal.nD Cert.Reference6Ideal.τ).loc Cert.Reference6Ideal.main_v76) = v10 c
          ∧ r.2.mem ((c.tc : Thread Cert.Reference6Ideal.nD Cert.Reference6Ideal.τ).loc Cert.Reference6Ideal.main_v100) = v11 c
          ∧ r.2.mem ((c.tc : Thread Cert.Reference6Ideal.nD Cert.Reference6Ideal.τ).loc Cert.Reference6Ideal.main_v124) = v12 c
          ∧ r.2.mem ((c.tc : Thread Cert.Reference6Ideal.nD Cert.Reference6Ideal.τ).loc Cert.Reference6Ideal.main_v148) = v13 c
          ∧ r.2.mem ((c.tc : Thread Cert.Reference6Ideal.nD Cert.Reference6Ideal.τ).loc Cert.Reference6Ideal.main_v10) = v14 c
          ∧ r.2.mem ((c.tc : Thread Cert.Reference6Ideal.nD Cert.Reference6Ideal.τ).loc Cert.Reference6Ideal.main_v34) = v15 c
          ∧ r.2.mem ((c.tc : Thread Cert.Reference6Ideal.nD Cert.Reference6Ideal.τ).loc Cert.Reference6Ideal.main_v58) = v16 c
          ∧ r.2.mem ((c.tc : Thread Cert.Reference6Ideal.nD Cert.Reference6Ideal.τ).loc Cert.Reference6Ideal.main_v82) = v17 c
          ∧ r.2.mem ((c.tc : Thread Cert.Reference6Ideal.nD Cert.Reference6Ideal.τ).loc Cert.Reference6Ideal.main_v106) = v18 c
          ∧ r.2.mem ((c.tc : Thread Cert.Reference6Ideal.nD Cert.Reference6Ideal.τ).loc Cert.Reference6Ideal.main_v130) = v19 c
          ∧ r.2.mem ((c.tc : Thread Cert.Reference6Ideal.nD Cert.Reference6Ideal.τ).loc Cert.Reference6Ideal.main_v154) = v20 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19)
          ∧ r.2.mem ((c.tc : Thread Cert.Reference6Ideal.nD Cert.Reference6Ideal.τ).loc Cert.Reference6Ideal.main_arg20) = m' ((c.tc : Thread Cert.Reference6Ideal.nD Cert.Reference6Ideal.τ).loc Cert.Reference6Ideal.main_arg20)
          ∧ r.2.mem ((c.tc : Thread Cert.Reference6Ideal.nD Cert.Reference6Ideal.τ).loc Cert.Reference6Ideal.main_arg21) = m' ((c.tc : Thread Cert.Reference6Ideal.nD Cert.Reference6Ideal.τ).loc Cert.Reference6Ideal.main_arg21)
          ∧ r.2.mem ((c.tc : Thread Cert.Reference6Ideal.nD Cert.Reference6Ideal.τ).loc Cert.Reference6Ideal.main_arg22) = m' ((c.tc : Thread Cert.Reference6Ideal.nD Cert.Reference6Ideal.τ).loc Cert.Reference6Ideal.main_arg22)
          ∧ r.2.mem ((c.tc : Thread Cert.Reference6Ideal.nD Cert.Reference6Ideal.τ).loc Cert.Reference6Ideal.main_arg23) = m' ((c.tc : Thread Cert.Reference6Ideal.nD Cert.Reference6Ideal.τ).loc Cert.Reference6Ideal.main_arg23)
          ∧ r.2.mem ((c.tc : Thread Cert.Reference6Ideal.nD Cert.Reference6Ideal.τ).loc Cert.Reference6Ideal.main_arg24) = m' ((c.tc : Thread Cert.Reference6Ideal.nD Cert.Reference6Ideal.τ).loc Cert.Reference6Ideal.main_arg24)
          ∧ r.2.mem ((c.tc : Thread Cert.Reference6Ideal.nD Cert.Reference6Ideal.τ).loc Cert.Reference6Ideal.main_arg25) = m' ((c.tc : Thread Cert.Reference6Ideal.nD Cert.Reference6Ideal.τ).loc Cert.Reference6Ideal.main_arg25)
          ∧ r.2.mem ((c.tc : Thread Cert.Reference6Ideal.nD Cert.Reference6Ideal.τ).loc Cert.Reference6Ideal.main_arg26) = m' ((c.tc : Thread Cert.Reference6Ideal.nD Cert.Reference6Ideal.τ).loc Cert.Reference6Ideal.main_arg26)
          ∧ r.2.mem ((c.tc : Thread Cert.Reference6Ideal.nD Cert.Reference6Ideal.τ).loc Cert.Reference6Ideal.main_arg27) = m' ((c.tc : Thread Cert.Reference6Ideal.nD Cert.Reference6Ideal.τ).loc Cert.Reference6Ideal.main_arg27))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8x8192 : Shape := ⟨2, ![8, 8192]⟩
abbrev S8x1 : Shape := ⟨2, ![8, 1]⟩
abbrev S_ : Shape := ⟨0, ![]⟩

class Facts : Prop where
  bcast_S_S8x8192 : S_.BroadcastsInDim S8x8192 (![] : Fin 0 → Fin S8x8192.rank)

variable [Facts]

def fn {F : FTy → Type} [FloatOps F] (main_arg0 : FVec F S8x8192 .f32) (main_arg1 : FVec F S8x8192 .f32) (main_arg2 : FVec F S8x1 .f32) : IVec S8x8192 1 :=
  let main_v0 : FVec F S8x8192 .f32 := Host.absf main_arg0
  let main_cst : FVec F S_ .f32 := constant S_ .f32 0x7F800000#32
  let main_v1 : FVec F S8x8192 .f32 := broadcastInDim S8x8192 ![] bcast_S_S8x8192 main_cst
  let main_v2 : IVec S8x8192 1 := cmpf .olt main_v0 main_v1
  main_v2
-- ==== Pre_finite2.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S1 : Shape := ⟨1, ![1]⟩
abbrev S6 : Shape := ⟨1, ![6]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1 : S_.BroadcastsInDim S1 (![] : Fin 0 → Fin S1.rank)
  concatenates_S1_S1_S1_S1_S1_S1_S6_d0 : Shape.Concatenates [S1, S1, S1, S1, S1, S1] S6 0

variable [Facts]

def fn_part1 {F : FTy → Type} [FloatOps F] (main_arg4 : FVec F S1024x2816 .f32) (main_arg5 : FVec F S2816x1024 .f32) (main_v3 : IVec S_ 1) (main_v7 : IVec S_ 1) (main_v11 : IVec S_ 1) (main_v15 : IVec S_ 1) : IVec S6 1 :=
  let main_v16 : FVec F S1024x2816 .f32 := Host.absf main_arg4
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S2816x1024 .f32 := Host.absf main_arg5
  let main_cst_8 : FVec F S_ .f32 := constant S_ .f32 0x7F800000#32
  let main_v21 : FVec F S2816x1024 .f32 := broadcastInDim S2816x1024 ![] bcast_S_S2816x1024 main_cst_8
  let main_v22 : IVec S2816x1024 1 := cmpf .olt main_v20 main_v21
  let main_c_9 : IVec S_ 1 := constantI S_ 1 1#1
  let main_v23 : IVec S_ 1 := (fun x v => Host.reduce IntOp.andi x v reducesTo_S2816x1024_S_d0_1 h_S_) main_v22 main_c_9
  let main_v24 : IVec S1 1 := broadcastInDim S1 ![] bcast_S_S1 main_v3
  let main_v25 : IVec S1 1 := broadcastInDim S1 ![] bcast_S_S1 main_v7
  let main_v26 : IVec S1 1 := broadcastInDim S1 ![] bcast_S_S1 main_v11
  let main_v27 : IVec S1 1 := broadcastInDim S1 ![] bcast_S_S1 main_v15
  let main_v28 : IVec S1 1 := broadcastInDim S1 ![] bcast_S_S1 main_v19
  let main_v29 : IVec S1 1 := broadcastInDim S1 ![] bcast_S_S1 main_v23
  let main_v30 : IVec S6 1 := concatenate S6 0 [⟨S1, main_v24⟩, ⟨S1, main_v25⟩, ⟨S1, main_v26⟩, ⟨S1, main_v27⟩, ⟨S1, main_v28⟩, ⟨S1, main_v29⟩] concatenates_S1_S1_S1_S1_S1_S1_S6_d0
  main_v30

def fn {F : FTy → Type} [FloatOps F] (main_arg0 : FVec F S8192x1024 .f32) (main_arg1 : FVec F S8192x1024 .f32) (main_arg2 : FVec F S1x1024 .f32) (main_arg3 : FVec F S1024x2816 .f32) (main_arg4 : FVec F S1024x2816 .f32) (main_arg5 : FVec F S2816x1024 .f32) : IVec S6 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== Kernel.lean ====
abbrev S8x8192 : Shape := ⟨2, ![8, 8192]⟩
abbrev S8x1 : Shape := ⟨2, ![8, 1]⟩
abbrev S8x128 : Shape := ⟨2, ![8, 128]⟩
abbrev S8x2048 : Shape := ⟨2, ![8, 2048]⟩
abbrev S256x256 : Shape := ⟨2, ![256, 256]⟩
abbrev S8x256 : Shape := ⟨2, ![8, 256]⟩
abbrev S8 : Shape := ⟨1, ![8]⟩

abbrev nBuf : Space → Nat
  | .hbm => 5
  | .vmem => 8
  | .smem => 0
  | _ => 0

abbrev bufTy : (tb : Table) → Fin (tcTables nBuf tb) → BufTy
  | .hbm, ⟨0, _⟩ => ⟨S8x8192, .f32⟩
  | .hbm, ⟨1, _⟩ => ⟨S8x8192, .f32⟩
  | .hbm, ⟨2, _⟩ => ⟨S8x1, .f32⟩
  | .hbm, ⟨3, _⟩ => ⟨S8x8192, .f32⟩
  | .hbm, ⟨4, _⟩ => ⟨S8x128, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x1, .f32⟩
  | .local _ .vmem, ⟨5, _⟩ => ⟨S8x2048, .f32⟩
  | .local _ .vmem, ⟨6, _⟩ => ⟨S8x2048, .f32⟩
  | .local _ .vmem, ⟨7, _⟩ => ⟨S8x128, .f32⟩
  | _, _ => ⟨S8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8x8192 : Shape := ⟨2, ![8, 8192]⟩
abbrev S8x1 : Shape := ⟨2, ![8, 1]⟩
abbrev S_ : Shape := ⟨0, ![]⟩
abbrev S8x4x2048 : Shape := ⟨3, ![8, 4, 2048]⟩
abbrev S8 : Shape := ⟨1, ![8]⟩
abbrev S8x128 : Shape := ⟨2, ![8, 128]⟩

abbrev nBuf : Space → Nat
  | .hbm => 70
  | .vmem => 0
  | .smem => 0
  | _ => 0

abbrev bufTy : (tb : Table) → Fin (tcTables nBuf tb) → BufTy
  | .hbm, ⟨0, _⟩ => ⟨S8x8192, .f32⟩
  | .hbm, ⟨1, _⟩ => ⟨S8x8192, .f32⟩
  | .hbm, ⟨2, _⟩ => ⟨S8x1, .f32⟩
  | .hbm, ⟨3, _⟩ => ⟨S8x8192, .f32⟩
  | .hbm, ⟨4, _⟩ => ⟨S8x8192, .f32⟩
  | .hbm, ⟨5, _⟩ => ⟨S8x8192, .f32⟩
  | .hbm, ⟨6, _⟩ => ⟨S_, .f32⟩
  | .hbm, ⟨7, _⟩ => ⟨S8x8192, .f32⟩
  | .hbm, ⟨8, _⟩ => ⟨S8x8192, .f32⟩
  | .hbm, ⟨9, _⟩ => ⟨S8x8192, .f32⟩
  | .hbm, ⟨10, _⟩ => ⟨S8x8192, .f32⟩
  | .hbm, ⟨11, _⟩ => ⟨S8x8192, .i1⟩
  | .hbm, ⟨12, _⟩ => ⟨S8x8192, .f32⟩
  | .hbm, ⟨13, _⟩ => ⟨S8x8192, .f32⟩
  | .hbm, ⟨14, _⟩ => ⟨S8x8192, .f32⟩
  | .hbm, ⟨15, _⟩ => ⟨S8x8192, .f32⟩
  | .hbm, ⟨16, _⟩ => ⟨S8x8192, .f32⟩
  | .hbm, ⟨17, _⟩ => ⟨S8x8192, .f32⟩
  | .hbm, ⟨18, _⟩ => ⟨S8x8192, .f32⟩
  | .hbm, ⟨19, _⟩ => ⟨S8x8192, .f32⟩
  | .hbm, ⟨20, _⟩ => ⟨S_, .f32⟩
  | .hbm, ⟨21, _⟩ => ⟨S8x8192, .f32⟩
  | .hbm, ⟨22, _⟩ => ⟨S8x8192, .i1⟩
  | .hbm, ⟨23, _⟩ => ⟨S_, .f32⟩
  | .hbm, ⟨24, _⟩ => ⟨S8x8192, .f32⟩
  | .hbm, ⟨25, _⟩ => ⟨S8x8192, .f32⟩
  | .hbm, ⟨26, _⟩ => ⟨S_, .f32⟩
  | .hbm, ⟨27, _⟩ => ⟨S8x8192, .f32⟩
  | .hbm, ⟨28, _⟩ => ⟨S8x8192, .i1⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S8x8192, .f32⟩
  | .hbm, ⟨33, _⟩ => ⟨S8x8192, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8x8192, .f32⟩
  | .hbm, ⟨42, _⟩ => ⟨S8x8192, .i1⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8x8192, .f32⟩
  | .hbm, ⟨47, _⟩ => ⟨S8x8192, .f32⟩
  | .hbm, ⟨48, _⟩ => ⟨S8x8192, .f32⟩
  | .hbm, ⟨49, _⟩ => ⟨S_, .f32⟩
  | .hbm, ⟨50, _⟩ => ⟨S8x8192, .f32⟩
  | .hbm, ⟨51, _⟩ => ⟨S8x8192, .f32⟩
  | .hbm, ⟨52, _⟩ => ⟨S8x8192, .f32⟩
  | .hbm, ⟨53, _⟩ => ⟨S8x4x2048, .f32⟩
  | .hbm, ⟨54, _⟩ => ⟨S_, .f32⟩
  | .hbm, ⟨55, _⟩ => ⟨S_, .f32⟩
  | .hbm, ⟨56, _⟩ => ⟨S8x4x2048, .f32⟩
  | .hbm, ⟨57, _⟩ => ⟨S8x8192, .f32⟩
  | .hbm, ⟨58, _⟩ => ⟨S8x4x2048, .f32⟩
  | .hbm, ⟨59, _⟩ => ⟨S_, .f32⟩
  | .hbm, ⟨60, _⟩ => ⟨S_, .f32⟩
  | .hbm, ⟨61, _⟩ => ⟨S8x4x2048, .f32⟩
  | .hbm, ⟨62, _⟩ => ⟨S8x8192, .f32⟩
  | .hbm, ⟨63, _⟩ => ⟨S8x8192, .f32⟩
  | .hbm, ⟨64, _⟩ => ⟨S8x8192, .f32⟩
  | .hbm, ⟨65, _⟩ => ⟨S8x8192, .f32⟩
  | .hbm, ⟨66, _⟩ => ⟨S_, .f32⟩
  | .hbm, ⟨67, _⟩ => ⟨S8, .f32⟩
  | .hbm, ⟨68, _⟩ => ⟨S8x1, .f32⟩
  | .hbm, ⟨69, _⟩ => ⟨S8x128, .f32⟩
  | _, _ => ⟨S8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1_0 : Ref sig .tc := ⟨.hbm, 19, rfl⟩
abbrev main_call0_call0_cst_0 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_cst_1 : Ref sig .tc := ⟨.hbm, 23, rfl⟩
abbrev main_call0_call0_v15 : Ref sig .tc := ⟨.hbm, 24, rfl⟩
abbrev main_call0_call0_v16 : Ref sig .tc := ⟨.hbm, 25, rfl⟩
abbrev main_call0_call0_cst_2 : Ref sig .tc := ⟨.hbm, 26, rfl⟩
abbrev main_call0_call0_v17 : Ref sig .tc := ⟨.hbm, 27, rfl⟩
abbrev main_call0_call0_v18 : Ref sig .tc := ⟨.hbm, 28, rfl⟩
abbrev main_call0_call0_cst_3 : Ref sig .tc := ⟨.hbm, 29, rfl⟩
abbrev main_call0_call0_v19 : Ref sig .tc := ⟨.hbm, 30, rfl⟩
abbrev main_call0_call0_v20 : Ref sig .tc := ⟨.hbm, 31, rfl⟩
abbrev main_call0_call0_v21 : Ref sig .tc := ⟨.hbm, 32, rfl⟩
abbrev main_v2_1 : Ref sig .tc := ⟨.hbm, 33, rfl⟩
abbrev main_call0_call0_cst_4 : Ref sig .tc := ⟨.hbm, 34, rfl⟩
abbrev main_call0_call0_cst_5 : Ref sig .tc := ⟨.hbm, 35, rfl⟩
abbrev main_call0_call0_v23 : Ref sig .tc := ⟨.hbm, 36, rfl⟩
abbrev main_call0_call0_cst_6 : Ref sig .tc := ⟨.hbm, 37, rfl⟩
abbrev main_call0_call0_cst_7 : Ref sig .tc := ⟨.hbm, 38, rfl⟩
abbrev main_call0_call0_v24 : Ref sig .tc := ⟨.hbm, 39, rfl⟩
abbrev main_call0_call0_cst_8 : Ref sig .tc := ⟨.hbm, 40, rfl⟩
abbrev main_call0_call0_v25 : Ref sig .tc := ⟨.hbm, 41, rfl⟩
abbrev main_call0_call0_v26 : Ref sig .tc := ⟨.hbm, 42, rfl⟩
abbrev main_call0_call0_cst_9 : Ref sig .tc := ⟨.hbm, 43, rfl⟩
abbrev main_call0_call0_v27 : Ref sig .tc := ⟨.hbm, 44, rfl⟩
abbrev main_call0_call0_v28 : Ref sig .tc := ⟨.hbm, 45, rfl⟩
abbrev main_call0_call0_v29 : Ref sig .tc := ⟨.hbm, 46, rfl⟩
abbrev main_call0_call0_v30 : Ref sig .tc := ⟨.hbm, 47, rfl⟩
abbrev main_call0_call0_v31 : Ref sig .tc := ⟨.hbm, 48, rfl⟩
abbrev main_call0_call0_cst_10 : Ref sig .tc := ⟨.hbm, 49, rfl⟩
abbrev main_call0_call0_v32 : Ref sig .tc := ⟨.hbm, 50, rfl⟩
abbrev main_v2_2 : Ref sig .tc := ⟨.hbm, 51, rfl⟩
abbrev main_v2_0 : Ref sig .tc := ⟨.hbm, 52, rfl⟩
abbrev main_v3 : Ref sig .tc := ⟨.hbm, 53, rfl⟩
abbrev main_call1_call0_cst : Ref sig .tc := ⟨.hbm, 54, rfl⟩
abbrev main_call1_call0_v0 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_call2_call0_cst : Ref sig .tc := ⟨.hbm, 59, rfl⟩
abbrev main_call2_call0_v0 : Ref sig .tc := ⟨.hbm, 60, rfl⟩
abbrev main_v7 : Ref sig .tc := ⟨.hbm, 61, rfl⟩
abbrev main_v8 : Ref sig .tc := ⟨.hbm, 62, rfl⟩
abbrev main_call3_v0 : Ref sig .tc := ⟨.hbm, 63, rfl⟩
abbrev main_call3_v1 : Ref sig .tc := ⟨.hbm, 64, rfl⟩
abbrev main_v9 : Ref sig .tc := ⟨.hbm, 65, rfl⟩
abbrev main_cst : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S32x8x128 : Shape := ⟨3, ![32, 8, 128]⟩
abbrev S256x1024 : Shape := ⟨2, ![256, 1024]⟩
abbrev S256x2816 : Shape := ⟨2, ![256, 2816]⟩
abbrev S1x8x128 : Shape := ⟨3, ![1, 8, 128]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S32x1x1 : Shape := ⟨3, ![32, 1, 1]⟩
abbrev S32 : Shape := ⟨1, ![32]⟩
abbrev S_ : Shape := ⟨0, ![]⟩
abbrev S8x1024 : Shape := ⟨2, ![8, 1024]⟩
abbrev S1024 : Shape := ⟨1, ![1024]⟩
abbrev S1024x512 : Shape := ⟨2, ![1024, 512]⟩
abbrev S2816x512 : Shape := ⟨2, ![2816, 512]⟩

abbrev nBuf : Space → Nat
  | .hbm => 31
  | .vmem => 57
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S8192x2816, .bf16⟩
  | .hbm, ⟨12, _⟩ => ⟨S8192x2816, .bf16⟩
  | .hbm, ⟨13, _⟩ => ⟨S8192x1024, .f32⟩
  | .hbm, ⟨14, _⟩ => ⟨S32x8x128, .f32⟩
  | .hbm, ⟨15, _⟩ => ⟨S32x1x1, .f32⟩
  | .hbm, ⟨16, _⟩ => ⟨S32, .f32⟩
  | .hbm, ⟨17, _⟩ => ⟨S_, .f32⟩
  | .hbm, ⟨18, _⟩ => ⟨S_, .f32⟩
  | .hbm, ⟨19, _⟩ => ⟨S8192x1024, .f32⟩
  | .hbm, ⟨20, _⟩ => ⟨S8192x2816, .bf16⟩
  | .hbm, ⟨21, _⟩ => ⟨S8192x2816, .bf16⟩
  | .hbm, ⟨22, _⟩ => ⟨S8192x2816, .bf16⟩
  | .hbm, ⟨23, _⟩ => ⟨S8192x1024, .bf16⟩
  | .hbm, ⟨24, _⟩ => ⟨S8x1024, .f32⟩
  | .hbm, ⟨25, _⟩ => ⟨S2816x1024, .f32⟩
  | .hbm, ⟨26, _⟩ => ⟨S2816x1024, .f32⟩
  | .hbm, ⟨27, _⟩ => ⟨S2816x1024, .f32⟩
  | .hbm, ⟨28, _⟩ => ⟨S1x1024, .f32⟩
  | .hbm, ⟨29, _⟩ => ⟨S1024x2816, .f32⟩
  | .hbm, ⟨30, _⟩ => ⟨S1024x2816, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2816x1024, .bf16⟩
  | .local _ .vmem, ⟨6, _⟩ => ⟨S2816x1024, .bf16⟩
  | .local _ .vmem, ⟨7, _⟩ => ⟨S2816x1024, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x1024, .f32⟩
  | .local _ .vmem, ⟨13, _⟩ => ⟨S256x1024, .f32⟩
  | .local _ .vmem, ⟨14, _⟩ => ⟨S1x8x128, .f32⟩
  | .local _ .vmem, ⟨15, _⟩ => ⟨S1x8x128, .f32⟩
  | .local _ .vmem, ⟨16, _⟩ => ⟨S256x1024, .f32⟩
  | .local _ .vmem, ⟨17, _⟩ => ⟨S256x1024, .f32⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x1024, .f32⟩
  | .local _ .vmem, ⟨23, _⟩ => ⟨S256x1024, .f32⟩
  | .local _ .vmem, ⟨24, _⟩ => ⟨S1x1024, .f32⟩
  | .local _ .vmem, ⟨25, _⟩ => ⟨S2816x1024, .bf16⟩
  | .local _ .vmem, ⟨26, _⟩ => ⟨S2816x1024, .bf16⟩
  | .local _ .vmem, ⟨27, _⟩ => ⟨S2816x1024, .bf16⟩
  | .local _ .vmem, ⟨28, _⟩ => ⟨S256x1024, .f32⟩
  | .local _ .vmem, ⟨29, _⟩ => ⟨S256x1024, .f32⟩
  | .local _ .vmem, ⟨30, _⟩ => ⟨S256x2816, .bf16⟩
  | .local _ .vmem, ⟨31, _⟩ => ⟨S256x2816, .bf16⟩
  | .local _ .vmem, ⟨32, _⟩ => ⟨S256x2816, .bf16⟩
  | .local _ .vmem, ⟨33, _⟩ => ⟨S256x2816, .bf16⟩
  | .local _ .vmem, ⟨34, _⟩ => ⟨S256x2816, .bf16⟩
  | .local _ .vmem, ⟨35, _⟩ => ⟨S256x2816, .bf16⟩
  | .local _ .vmem, ⟨36, _⟩ => ⟨S256x1024, .bf16⟩
  | .local _ .vmem, ⟨37, _⟩ => ⟨S256x1024, .bf16⟩
  | .local _ .vmem, ⟨38, _⟩ => ⟨S8x1024, .f32⟩
  | .local _ .vmem, ⟨39, _⟩ => ⟨S1024x2816, .bf16⟩
  | .local _ .vmem, ⟨40, _⟩ => ⟨S1024x2816, .bf16⟩
  | .local _ .vmem, ⟨41, _⟩ => ⟨S1024x512, .f32⟩
  | .local _ .vmem, ⟨42, _⟩ => ⟨S1024x512, .f32⟩
  | .local _ .vmem, ⟨43, _⟩ => ⟨S2816x512, .f32⟩
  | .local _ .vmem, ⟨44, _⟩ => ⟨S2816x512, .f32⟩
  | .local _ .vmem, ⟨45, _⟩ => ⟨S1024x2816, .bf16⟩
  | .local _ .vmem, ⟨46, _⟩ => ⟨S1024x2816, .bf16⟩
  | .local _ .vmem, ⟨47, _⟩ => ⟨S1024x512, .bf16⟩
  | .local _ .vmem, ⟨48, _⟩ => ⟨S1024x512, .bf16⟩
  | .local _ .vmem, ⟨49, _⟩ => ⟨S2816x512, .f32⟩
  | .local _ .vmem, ⟨50, _⟩ => ⟨S2816x512, .f32⟩
  | .local _ .vmem, ⟨51, _⟩ => ⟨S1024x2816, .bf16⟩
  | .local _ .vmem, ⟨52, _⟩ => ⟨S1024x2816, .bf16⟩
  | .local _ .vmem, ⟨53, _⟩ => ⟨S1024x512, .bf16⟩
  | .local _ .vmem, ⟨54, _⟩ => ⟨S1024x512, .bf16⟩
  | .local _ .vmem, ⟨55, _⟩ => ⟨S2816x512, .f32⟩
  | .local _ .vmem, ⟨56, _⟩ => ⟨S2816x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc1_stg11_1 : Ref sig .tc := ⟨.vmem, 35, rfl⟩
abbrev cc1_stg12_0 : Ref sig .tc := ⟨.vmem, 36, rfl⟩
abbrev cc1_stg12_1 : Ref sig .tc := ⟨.vmem, 37, rfl⟩
abbrev cc1_stg13_0 : Ref sig .tc := ⟨.vmem, 38, rfl⟩
abbrev cc2_stg0_0 : Ref sig .tc := ⟨.vmem, 39, rfl⟩
abbrev cc2_stg0_1 : Ref sig .tc := ⟨.vmem, 40, rfl⟩
abbrev cc2_stg1_0 : Ref sig .tc := ⟨.vmem, 41, rfl⟩
abbrev cc2_stg1_1 : Ref sig .tc := ⟨.vmem, 42, rfl⟩
abbrev cc2_stg2_0 : Ref sig .tc := ⟨.vmem, 43, rfl⟩
abbrev cc2_stg2_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc4_stg0_0 : Ref sig .tc := ⟨.vmem, 51, rfl⟩
abbrev cc4_stg0_1 : Ref sig .tc := ⟨.vmem, 52, rfl⟩
abbrev cc4_stg1_0 : Ref sig .tc := ⟨.vmem, 53, rfl⟩
abbrev cc4_stg1_1 : Ref sig .tc := ⟨.vmem, 54, rfl⟩
abbrev cc4_stg2_0 : Ref sig .tc := ⟨.vmem, 55, rfl⟩
abbrev cc4_stg2_1 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34
abbrev cc1_sem11_1 : DmaSem sig := 35
abbrev cc1_sem12_0 : DmaSem sig := 36
abbrev cc1_sem12_1 : DmaSem sig := 37
abbrev cc1_sem13_0 : DmaSem sig := 38
abbrev cc2_sem0_0 : DmaSem sig := 39
abbrev cc2_sem0_1 : DmaSem sig := 40
abbrev cc2_sem1_0 : DmaSem sig := 41
abbrev cc2_sem1_1 : DmaSem sig := 42
abbrev cc2_sem2_0 : DmaSem sig := 43
abbrev cc2_sem2_1 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem2_1 : DmaSem sig := 50
abbrev cc4_sem0_0 : DmaSem sig := 51
abbrev cc4_sem0_1 : DmaSem sig := 52
abbrev cc4_sem1_0 : DmaSem sig := 53
abbrev cc4_sem1_1 : DmaSem sig := 54
abbrev cc4_sem2_0 : DmaSem sig := 55
abbrev cc4_sem2_1 : DmaSem sig := 56

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2816x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x2816 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x2816 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x2816 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S8x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1024x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S2816x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![2, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S1024x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S2816x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![2, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S1024x2816 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S2816x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]
-- ==== Reference2Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩

abbrev nBuf : Space → Nat
  | .hbm => 106
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S1024x2816, .f32⟩
  | .hbm, ⟨67, _⟩ => ⟨S2816x1024, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S8192x2816, .f32⟩
  | .hbm, ⟨72, _⟩ => ⟨S8192x2816, .f32⟩
  | .hbm, ⟨73, _⟩ => ⟨S8192x2816, .f32⟩
  | .hbm, ⟨74, _⟩ => ⟨S8192x2816, .f32⟩
  | .hbm, ⟨75, _⟩ => ⟨S2816x1024, .f32⟩
  | .hbm, ⟨76, _⟩ => ⟨S1024x2816, .f32⟩
  | .hbm, ⟨77, _⟩ => ⟨S8192x1024, .f32⟩
  | .hbm, ⟨78, _⟩ => ⟨S2816x1024, .f32⟩
  | .hbm, ⟨79, _⟩ => ⟨S1024x2816, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S_, .f32⟩
  | .hbm, ⟨100, _⟩ => ⟨S8192, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_cst_7 : Ref sig .tc := ⟨.hbm, 55, rfl⟩
abbrev main_v29 : Ref sig .tc := ⟨.hbm, 56, rfl⟩
abbrev main_cst_8 : Ref sig .tc := ⟨.hbm, 57, rfl⟩
abbrev main_cst_9 : Ref sig .tc := ⟨.hbm, 58, rfl⟩
abbrev main_v30 : Ref sig .tc := ⟨.hbm, 59, rfl⟩
abbrev main_v31 : Ref sig .tc := ⟨.hbm, 60, rfl⟩
abbrev main_cst_10 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_11 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_12 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_13 : Ref sig .tc := ⟨.hbm, 96, rfl⟩
abbrev main_v61 : Ref sig .tc := ⟨.hbm, 97, rfl⟩
abbrev main_v62 : Ref sig .tc := ⟨.hbm, 98, rfl⟩
abbrev main_cst_14 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x3080 : Shape := ⟨2, ![1024, 3080]⟩
abbrev S8192x512 : Shape := ⟨2, ![8192, 512]⟩
abbrev S8x8192 : Shape := ⟨2, ![8, 8192]⟩
abbrev S1024x1536 : Shape := ⟨2, ![1024, 1536]⟩
abbrev S1024x3072 : Shape := ⟨2, ![1024, 3072]⟩
abbrev S1024x8 : Shape := ⟨2, ![1024, 8]⟩
abbrev S8x1024 : Shape := ⟨2, ![8, 1024]⟩
abbrev S8192x3072 : Shape := ⟨2, ![8192, 3072]⟩
abbrev S1024x8192 : Shape := ⟨2, ![1024, 8192]⟩
abbrev S512x1024 : Shape := ⟨2, ![512, 1024]⟩
abbrev S512x3072 : Shape := ⟨2, ![512, 3072]⟩
abbrev S8x512 : Shape := ⟨2, ![8, 512]⟩
abbrev S1024x512 : Shape := ⟨2, ![1024, 512]⟩
abbrev S512 : Shape := ⟨1, ![512]⟩
abbrev S512x1 : Shape := ⟨2, ![512, 1]⟩
abbrev S512x512 : Shape := ⟨2, ![512, 512]⟩
abbrev S1024x1024 : Shape := ⟨2, ![1024, 1024]⟩
abbrev S1024 : Shape := ⟨1, ![1024]⟩

abbrev nBuf : Space → Nat
  | .hbm => 30
  | .vmem => 57
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3080, .f32⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8x8192, .f32⟩
  | .hbm, ⟨10, _⟩ => ⟨S8192x1024, .f32⟩
  | .hbm, ⟨11, _⟩ => ⟨S1024x3080, .bf16⟩
  | .hbm, ⟨12, _⟩ => ⟨S1024x1536, .bf16⟩
  | .hbm, ⟨13, _⟩ => ⟨S1024x1536, .bf16⟩
  | .hbm, ⟨14, _⟩ => ⟨S1024x3072, .bf16⟩
  | .hbm, ⟨15, _⟩ => ⟨S1024x8, .bf16⟩
  | .hbm, ⟨16, _⟩ => ⟨S8x1024, .bf16⟩
  | .hbm, ⟨17, _⟩ => ⟨S8192x3072, .bf16⟩
  | .hbm, ⟨18, _⟩ => ⟨S8x8192, .f32⟩
  | .hbm, ⟨19, _⟩ => ⟨S8192x1024, .bf16⟩
  | .hbm, ⟨20, _⟩ => ⟨S1024x8192, .bf16⟩
  | .hbm, ⟨21, _⟩ => ⟨S1024x3072, .f32⟩
  | .hbm, ⟨22, _⟩ => ⟨S8x1024, .f32⟩
  | .hbm, ⟨23, _⟩ => ⟨S1024x1536, .f32⟩
  | .hbm, ⟨24, _⟩ => ⟨S1024x8, .f32⟩
  | .hbm, ⟨25, _⟩ => ⟨S1024x1536, .f32⟩
  | .hbm, ⟨26, _⟩ => ⟨S8192x1024, .f32⟩
  | .hbm, ⟨27, _⟩ => ⟨S8x1024, .f32⟩
  | .hbm, ⟨28, _⟩ => ⟨S1024x3080, .f32⟩
  | .hbm, ⟨29, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S8x1024, .bf16⟩
  | .local _ .vmem, ⟨5, _⟩ => ⟨S512x3072, .bf16⟩
  | .local _ .vmem, ⟨6, _⟩ => ⟨S512x3072, .bf16⟩
  | .local _ .vmem, ⟨7, _⟩ => ⟨S8x512, .f32⟩
  | .local _ .vmem, ⟨8, _⟩ => ⟨S8x512, .f32⟩
  | .local _ .vmem, ⟨9, _⟩ => ⟨S512x1024, .bf16⟩
  | .local _ .vmem, ⟨10, _⟩ => ⟨S512x1024, .bf16⟩
  | .local _ .vmem, ⟨11, _⟩ => ⟨S1024x512, .bf16⟩
  | .local _ .vmem, ⟨12, _⟩ => ⟨S1024x512, .bf16⟩
  | .local _ .vmem, ⟨13, _⟩ => ⟨S1024x1024, .bf16⟩
  | .local _ .vmem, ⟨14, _⟩ => ⟨S1024x1024, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S1024x512, .bf16⟩
  | .local _ .vmem, ⟨27, _⟩ => ⟨S1024x3072, .f32⟩
  | .local _ .vmem, ⟨28, _⟩ => ⟨S8x1024, .f32⟩
  | .local _ .vmem, ⟨29, _⟩ => ⟨S8x1024, .f32⟩
  | .local _ .vmem, ⟨30, _⟩ => ⟨S1024x1024, .bf16⟩
  | .local _ .vmem, ⟨31, _⟩ => ⟨S1024x1024, .bf16⟩
  | .local _ .vmem, ⟨32, _⟩ => ⟨S8x1024, .f32⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S512x512, .bf16⟩
  | .local _ .vmem, ⟨39, _⟩ => ⟨S512x512, .bf16⟩
  | .local _ .vmem, ⟨40, _⟩ => ⟨S512x512, .bf16⟩
  | .local _ .vmem, ⟨41, _⟩ => ⟨S512x512, .bf16⟩
  | .local _ .vmem, ⟨42, _⟩ => ⟨S512x512, .bf16⟩
  | .local _ .vmem, ⟨43, _⟩ => ⟨S512x512, .bf16⟩
  | .local _ .vmem, ⟨44, _⟩ => ⟨S512x512, .bf16⟩
  | .local _ .vmem, ⟨45, _⟩ => ⟨S8x512, .f32⟩
  | .local _ .vmem, ⟨46, _⟩ => ⟨S8x512, .f32⟩
  | .local _ .vmem, ⟨47, _⟩ => ⟨S1024x3072, .bf16⟩
  | .local _ .vmem, ⟨48, _⟩ => ⟨S8x1024, .bf16⟩
  | .local _ .vmem, ⟨49, _⟩ => ⟨S512x1024, .f32⟩
  | .local _ .vmem, ⟨50, _⟩ => ⟨S512x1024, .f32⟩
  | .local _ .vmem, ⟨51, _⟩ => ⟨S1x1024, .f32⟩
  | .local _ .vmem, ⟨52, _⟩ => ⟨S512x1024, .f32⟩
  | .local _ .vmem, ⟨53, _⟩ => ⟨S512x1024, .f32⟩
  | .local _ .vmem, ⟨54, _⟩ => ⟨S512x1024, .f32⟩
  | .local _ .vmem, ⟨55, _⟩ => ⟨S512x1024, .f32⟩
  | .local _ .vmem, ⟨56, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg4_1 : Ref sig .tc := ⟨.vmem, 42, rfl⟩
abbrev cc3_stg5_0 : Ref sig .tc := ⟨.vmem, 43, rfl⟩
abbrev cc3_stg5_1 : Ref sig .tc := ⟨.vmem, 44, rfl⟩
abbrev cc3_stg6_0 : Ref sig .tc := ⟨.vmem, 45, rfl⟩
abbrev cc3_stg6_1 : Ref sig .tc := ⟨.vmem, 46, rfl⟩
abbrev cc3_stg7_0 : Ref sig .tc := ⟨.vmem, 47, rfl⟩
abbrev cc3_stg8_0 : Ref sig .tc := ⟨.vmem, 48, rfl⟩
abbrev cc3_stg9_0 : Ref sig .tc := ⟨.vmem, 49, rfl⟩
abbrev cc3_stg9_1 : Ref sig .tc := ⟨.vmem, 50, rfl⟩
abbrev cc3_stg10_0 : Ref sig .tc := ⟨.vmem, 51, rfl⟩
abbrev cc3_stg11_0 : Ref sig .tc := ⟨.vmem, 52, rfl⟩
abbrev cc3_stg11_1 : Ref sig .tc := ⟨.vmem, 53, rfl⟩
abbrev cc3_stg12_0 : Ref sig .tc := ⟨.vmem, 54, rfl⟩
abbrev cc3_stg12_1 : Ref sig .tc := ⟨.vmem, 55, rfl⟩
abbrev cc3_stg13_0 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem4_1 : DmaSem sig := 42
abbrev cc3_sem5_0 : DmaSem sig := 43
abbrev cc3_sem5_1 : DmaSem sig := 44
abbrev cc3_sem6_0 : DmaSem sig := 45
abbrev cc3_sem6_1 : DmaSem sig := 46
abbrev cc3_sem7_0 : DmaSem sig := 47
abbrev cc3_sem8_0 : DmaSem sig := 48
abbrev cc3_sem9_0 : DmaSem sig := 49
abbrev cc3_sem9_1 : DmaSem sig := 50
abbrev cc3_sem10_0 : DmaSem sig := 51
abbrev cc3_sem11_0 : DmaSem sig := 52
abbrev cc3_sem11_1 : DmaSem sig := 53
abbrev cc3_sem12_0 : DmaSem sig := 54
abbrev cc3_sem12_1 : DmaSem sig := 55
abbrev cc3_sem13_0 : DmaSem sig := 56

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1024x3072 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S8x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1024x3072 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S8x1024 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S512x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 1 → Memref sig .tc .vmem S1x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S512x1024 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S512x1024 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 1 → Memref sig .tc .vmem S8x1024 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]
-- ==== Reference3Ideal.lean ====
abbrev S8192x1024 : Shape := ⟨2, ![8192, 1024]⟩
abbrev S1x1024 : Shape := ⟨2, ![1, 1024]⟩
abbrev S1024x3080 : Shape := ⟨2, ![1024, 3080]⟩
abbrev S8192x512 : Shape := ⟨2, ![8192, 512]⟩
abbrev S8x8192 : Shape := ⟨2, ![8, 8192]⟩
abbrev S_ : Shape := ⟨0, ![]⟩
abbrev S8192 : Shape := ⟨1, ![8192]⟩
abbrev S8192x1 : Shape := ⟨2, ![8192, 1]⟩
abbrev S8192x3080 : Shape := ⟨2, ![8192, 3080]⟩
abbrev S8192x8 : Shape := ⟨2, ![8192, 8]⟩
abbrev S3080x1024 : Shape := ⟨2, ![3080, 1024]⟩
abbrev S1024 : Shape := ⟨1, ![1024]⟩
abbrev S8192x3072 : Shape := ⟨2, ![8192, 3072]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3080, .f32⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8x8192, .f32⟩
  | .hbm, ⟨10, _⟩ => ⟨S8192x1024, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x3080, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x8, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x8, .f32⟩
  | .hbm, ⟨45, _⟩ => ⟨S8192x3080, .f32⟩
  | .hbm, ⟨46, _⟩ => ⟨S3080x1024, .f32⟩
  | .hbm, ⟨47, _⟩ => ⟨S1024x3080, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x3072, .f32⟩
  | .hbm, ⟨74, _⟩ => ⟨S8192x3072, .bf16⟩
  | .hbm, ⟨75, _⟩ => ⟨S8x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Kernel4.lean ====
abbrev S8192x512 : Shape := ⟨2, ![8192, 512]⟩
abbrev S8192x1024 : Shape := ⟨2, ![8192, 1024]⟩
abbrev S1x512 : Shape := ⟨2, ![1, 512]⟩
abbrev S1024x1024 : Shape := ⟨2, ![1024, 1024]⟩
abbrev S1024x8192 : Shape := ⟨2, ![1024, 8192]⟩
abbrev S512x512 : Shape := ⟨2, ![512, 512]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S8x512 : Shape := ⟨2, ![8, 512]⟩

abbrev nBuf : Space → Nat
  | .hbm => 17
  | .vmem => 33
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S8192x1024, .f32⟩
  | .hbm, ⟨7, _⟩ => ⟨S1024x1024, .bf16⟩
  | .hbm, ⟨8, _⟩ => ⟨S8192x1024, .f32⟩
  | .hbm, ⟨9, _⟩ => ⟨S1024x8192, .bf16⟩
  | .hbm, ⟨10, _⟩ => ⟨S1024x1024, .f32⟩
  | .hbm, ⟨11, _⟩ => ⟨S8192x512, .f32⟩
  | .hbm, ⟨12, _⟩ => ⟨S8192x512, .f32⟩
  | .hbm, ⟨13, _⟩ => ⟨S8x512, .f32⟩
  | .hbm, ⟨14, _⟩ => ⟨S8x512, .f32⟩
  | .hbm, ⟨15, _⟩ => ⟨S1x512, .f32⟩
  | .hbm, ⟨16, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1024x512, .bf16⟩
  | .local _ .vmem, ⟨12, _⟩ => ⟨S1024x512, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S512x1024, .f32⟩
  | .local _ .vmem, ⟨19, _⟩ => ⟨S512x1024, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S1x512, .f32⟩
  | .local _ .vmem, ⟨25, _⟩ => ⟨S1x512, .f32⟩
  | .local _ .vmem, ⟨26, _⟩ => ⟨S1024x1024, .bf16⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S8x512, .f32⟩
  | .local _ .vmem, ⟨32, _⟩ => ⟨S8x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc2_stg7_0 : Ref sig .tc := ⟨.vmem, 29, rfl⟩
abbrev cc2_stg7_1 : Ref sig .tc := ⟨.vmem, 30, rfl⟩
abbrev cc2_stg8_0 : Ref sig .tc := ⟨.vmem, 31, rfl⟩
abbrev cc2_stg9_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem6_1 : DmaSem sig := 28
abbrev cc2_sem7_0 : DmaSem sig := 29
abbrev cc2_sem7_1 : DmaSem sig := 30
abbrev cc2_sem8_0 : DmaSem sig := 31
abbrev cc2_sem9_0 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S8x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S8x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]
-- ==== Reference4Ideal.lean ====
abbrev S8192x512 : Shape := ⟨2, ![8192, 512]⟩
abbrev S8192x1024 : Shape := ⟨2, ![8192, 1024]⟩
abbrev S1x512 : Shape := ⟨2, ![1, 512]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 100
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S8192x1024, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S1024x1024, .f32⟩
  | .hbm, ⟨50, _⟩ => ⟨S1024x1024, .f32⟩
  | .hbm, ⟨51, _⟩ => ⟨S8192x1024, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x512, .f32⟩
  | .hbm, ⟨65, _⟩ => ⟨S8192x512, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S_, .f32⟩
  | .hbm, ⟨79, _⟩ => ⟨S512, .f32⟩
  | .hbm, ⟨80, _⟩ => ⟨S1x512, .f32⟩
  | .hbm, ⟨81, _⟩ => ⟨S8192x512, .f32⟩
  | .hbm, ⟨82, _⟩ => ⟨S8192x512, .f32⟩
  | .hbm, ⟨83, _⟩ => ⟨S8192x512, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x512, .f32⟩
  | .hbm, ⟨88, _⟩ => ⟨S8192x512, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x512, .f32⟩
  | .hbm, ⟨96, _⟩ => ⟨S8192x512, .f32⟩
  | .hbm, ⟨97, _⟩ => ⟨S8192x512, .f32⟩
  | .hbm, ⟨98, _⟩ => ⟨S8192x512, .f32⟩
  | .hbm, ⟨99, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩

abbrev nD : Nat := 1
abbrev τ : Topo := Topo.v7x

variable {F : FTy → Type} [FloatOps F]
-- ==== Kernel5.lean ====
abbrev S1x1024 : Shape := ⟨2, ![1, 1024]⟩
abbrev S1x1024x770 : Shape := ⟨3, ![1, 1024, 770]⟩
abbrev S1x8 : Shape := ⟨2, ![1, 8]⟩
abbrev S1x256x1024 : Shape := ⟨3, ![1, 256, 1024]⟩
abbrev S1x1024x704 : Shape := ⟨3, ![1, 1024, 704]⟩
abbrev S1x704x1024 : Shape := ⟨3, ![1, 704, 1024]⟩
abbrev S1x352x1024 : Shape := ⟨3, ![1, 352, 1024]⟩
abbrev S770x1x1024 : Shape := ⟨3, ![770, 1, 1024]⟩
abbrev S55x1x1024 : Shape := ⟨3, ![55, 1, 1024]⟩

abbrev nBuf : Space → Nat
  | .hbm => 70
  | .vmem => 77
  | .smem => 0
  | _ => 0

abbrev bufTy : (tb : Table) → Fin (tcTables nBuf tb) → BufTy
  | .hbm, ⟨0, _⟩ => ⟨S1x1024, .f32⟩
  | .hbm, ⟨1, _⟩ => ⟨S1x1024x770, .f32⟩
  | .hbm, ⟨2, _⟩ => ⟨S1x8, .f32⟩
  | .hbm, ⟨3, _⟩ => ⟨S1x256x1024, .f32⟩
  | .hbm, ⟨4, _⟩ => ⟨S1x1024x704, .f32⟩
  | .hbm, ⟨5, _⟩ => ⟨S1x1024x704, .f32⟩
  | .hbm, ⟨6, _⟩ => ⟨S1x704x1024, .f32⟩
  | .hbm, ⟨7, _⟩ => ⟨S1x1024, .f32⟩
  | .hbm, ⟨8, _⟩ => ⟨S1x1024x770, .f32⟩
  | .hbm, ⟨9, _⟩ => ⟨S1x8, .f32⟩
  | .hbm, ⟨10, _⟩ => ⟨S1x256x1024, .f32⟩
  | .hbm, ⟨11, _⟩ => ⟨S1x1024x704, .f32⟩
  | .hbm, ⟨12, _⟩ => ⟨S1x1024x704, .f32⟩
  | .hbm, ⟨13, _⟩ => ⟨S1x704x1024, .f32⟩
  | .hbm, ⟨14, _⟩ => ⟨S1x1024, .f32⟩
  | .hbm, ⟨15, _⟩ => ⟨S1x1024x770, .f32⟩
  | .hbm, ⟨16, _⟩ => ⟨S1x8, .f32⟩
  | .hbm, ⟨17, _⟩ => ⟨S1x256x1024, .f32⟩
  | .hbm, ⟨18, _⟩ => ⟨S1x1024x704, .f32⟩
  | .hbm, ⟨19, _⟩ => ⟨S1x1024x704, .f32⟩
  | .hbm, ⟨20, _⟩ => ⟨S1x704x1024, .f32⟩
  | .hbm, ⟨21, _⟩ => ⟨S1x1024, .f32⟩
  | .hbm, ⟨22, _⟩ => ⟨S1x1024x770, .f32⟩
  | .hbm, ⟨23, _⟩ => ⟨S1x8, .f32⟩
  | .hbm, ⟨24, _⟩ => ⟨S1x256x1024, .f32⟩
  | .hbm, ⟨25, _⟩ => ⟨S1x1024x704, .f32⟩
  | .hbm, ⟨26, _⟩ => ⟨S1x1024x704, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S1x704x1024, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S1x704x1024, .f32⟩
  | .hbm, ⟨35, _⟩ => ⟨S1x704x1024, .f32⟩
  | .hbm, ⟨36, _⟩ => ⟨S1x704x1024, .f32⟩
  | .hbm, ⟨37, _⟩ => ⟨S1x704x1024, .f32⟩
  | .hbm, ⟨38, _⟩ => ⟨S1x704x1024, .f32⟩
  | .hbm, ⟨39, _⟩ => ⟨S770x1x1024, .f32⟩
  | .hbm, ⟨40, _⟩ => ⟨S770x1x1024, .f32⟩
  | .hbm, ⟨41, _⟩ => ⟨S770x1x1024, .f32⟩
  | .hbm, ⟨42, _⟩ => ⟨S770x1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S770x1x1024, .f32⟩
  | .hbm, ⟨47, _⟩ => ⟨S770x1x1024, .f32⟩
  | .hbm, ⟨48, _⟩ => ⟨S770x1x1024, .f32⟩
  | .hbm, ⟨49, _⟩ => ⟨S1x8, .f32⟩
  | .hbm, ⟨50, _⟩ => ⟨S1x8, .f32⟩
  | .hbm, ⟨51, _⟩ => ⟨S1x8, .f32⟩
  | .hbm, ⟨52, _⟩ => ⟨S1x256x1024, .f32⟩
  | .hbm, ⟨53, _⟩ => ⟨S1x256x1024, .f32⟩
  | .hbm, ⟨54, _⟩ => ⟨S1x256x1024, .f32⟩
  | .hbm, ⟨55, _⟩ => ⟨S1x704x1024, .f32⟩
  | .hbm, ⟨56, _⟩ => ⟨S1x704x1024, .f32⟩
  | .hbm, ⟨57, _⟩ => ⟨S1x704x1024, .f32⟩
  | .hbm, ⟨58, _⟩ => ⟨S1x704x1024, .f32⟩
  | .hbm, ⟨59, _⟩ => ⟨S1x704x1024, .f32⟩
  | .hbm, ⟨60, _⟩ => ⟨S1x704x1024, .f32⟩
  | .hbm, ⟨61, _⟩ => ⟨S1x1024x704, .f32⟩
  | .hbm, ⟨62, _⟩ => ⟨S1x1024x704, .f32⟩
  | .hbm, ⟨63, _⟩ => ⟨S1x1024x704, .f32⟩
  | .hbm, ⟨64, _⟩ => ⟨S1x1024x704, .f32⟩
  | .hbm, ⟨65, _⟩ => ⟨S1x1024x704, .f32⟩
  | .hbm, ⟨66, _⟩ => ⟨S1x1024x704, .f32⟩
  | .hbm, ⟨67, _⟩ => ⟨S1x1024x770, .f32⟩
  | .hbm, ⟨68, _⟩ => ⟨S1x1024x770, .f32⟩
  | .hbm, ⟨69, _⟩ => ⟨S1x1024x770, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S55x1x1024, .f32⟩
  | .local _ .vmem, ⟨22, _⟩ => ⟨S55x1x1024, .f32⟩
  | .local _ .vmem, ⟨23, _⟩ => ⟨S55x1x1024, .f32⟩
  | .local _ .vmem, ⟨24, _⟩ => ⟨S55x1x1024, .f32⟩
  | .local _ .vmem, ⟨25, _⟩ => ⟨S55x1x1024, .f32⟩
  | .local _ .vmem, ⟨26, _⟩ => ⟨S55x1x1024, .f32⟩
  | .local _ .vmem, ⟨27, _⟩ => ⟨S55x1x1024, .f32⟩
  | .local _ .vmem, ⟨28, _⟩ => ⟨S55x1x1024, .f32⟩
  | .local _ .vmem, ⟨29, _⟩ => ⟨S55x1x1024, .f32⟩
  | .local _ .vmem, ⟨30, _⟩ => ⟨S55x1x1024, .f32⟩
  | .local _ .vmem, ⟨31, _⟩ => ⟨S55x1x1024, .f32⟩
  | .local _ .vmem, ⟨32, _⟩ => ⟨S55x1x1024, .f32⟩
  | .local _ .vmem, ⟨33, _⟩ => ⟨S55x1x1024, .f32⟩
  | .local _ .vmem, ⟨34, _⟩ => ⟨S55x1x1024, .f32⟩
  | .local _ .vmem, ⟨35, _⟩ => ⟨S1x8, .f32⟩
  | .local _ .vmem, ⟨36, _⟩ => ⟨S1x8, .f32⟩
  | .local _ .vmem, ⟨37, _⟩ => ⟨S1x8, .f32⟩
  | .local _ .vmem, ⟨38, _⟩ => ⟨S1x8, .f32⟩
  | .local _ .vmem, ⟨39, _⟩ => ⟨S1x8, .f32⟩
  | .local _ .vmem, ⟨40, _⟩ => ⟨S1x8, .f32⟩
  | .local _ .vmem, ⟨41, _⟩ => ⟨S1x8, .f32⟩
  | .local _ .vmem, ⟨42, _⟩ => ⟨S1x256x1024, .f32⟩
  | .local _ .vmem, ⟨43, _⟩ => ⟨S1x256x1024, .f32⟩
  | .local _ .vmem, ⟨44, _⟩ => ⟨S1x256x1024, .f32⟩
  | .local _ .vmem, ⟨45, _⟩ => ⟨S1x256x1024, .f32⟩
  | .local _ .vmem, ⟨46, _⟩ => ⟨S1x256x1024, .f32⟩
  | .local _ .vmem, ⟨47, _⟩ => ⟨S1x256x1024, .f32⟩
  | .local _ .vmem, ⟨48, _⟩ => ⟨S1x256x1024, .f32⟩
  | .local _ .vmem, ⟨49, _⟩ => ⟨S1x352x1024, .f32⟩
  | .local _ .vmem, ⟨50, _⟩ => ⟨S1x352x1024, .f32⟩
  | .local _ .vmem, ⟨51, _⟩ => ⟨S1x352x1024, .f32⟩
  | .local _ .vmem, ⟨52, _⟩ => ⟨S1x352x1024, .f32⟩
  | .local _ .vmem, ⟨53, _⟩ => ⟨S1x352x1024, .f32⟩
  | .local _ .vmem, ⟨54, _⟩ => ⟨S1x352x1024, .f32⟩
  | .local _ .vmem, ⟨55, _⟩ => ⟨S1x352x1024, .f32⟩
  | .local _ .vmem, ⟨56, _⟩ => ⟨S1x352x1024, .f32⟩
  | .local _ .vmem, ⟨57, _⟩ => ⟨S1x352x1024, .f32⟩
  | .local _ .vmem, ⟨58, _⟩ => ⟨S1x352x1024, .f32⟩
  | .local _ .vmem, ⟨59, _⟩ => ⟨S1x352x1024, .f32⟩
  | .local _ .vmem, ⟨60, _⟩ => ⟨S1x352x1024, .f32⟩
  | .local _ .vmem, ⟨61, _⟩ => ⟨S1x352x1024, .f32⟩
  | .local _ .vmem, ⟨62, _⟩ => ⟨S1x352x1024, .f32⟩
  | .local _ .vmem, ⟨63, _⟩ => ⟨S1x352x1024, .f32⟩
  | .local _ .vmem, ⟨64, _⟩ => ⟨S1x352x1024, .f32⟩
  | .local _ .vmem, ⟨65, _⟩ => ⟨S1x352x1024, .f32⟩
  | .local _ .vmem, ⟨66, _⟩ => ⟨S1x352x1024, .f32⟩
  | .local _ .vmem, ⟨67, _⟩ => ⟨S1x352x1024, .f32⟩
  | .local _ .vmem, ⟨68, _⟩ => ⟨S1x352x1024, .f32⟩
  | .local _ .vmem, ⟨69, _⟩ => ⟨S1x352x1024, .f32⟩
  | .local _ .vmem, ⟨70, _⟩ => ⟨S1x352x1024, .f32⟩
  | .local _ .vmem, ⟨71, _⟩ => ⟨S1x352x1024, .f32⟩
  | .local _ .vmem, ⟨72, _⟩ => ⟨S1x352x1024, .f32⟩
  | .local _ .vmem, ⟨73, _⟩ => ⟨S1x352x1024, .f32⟩
  | .local _ .vmem, ⟨74, _⟩ => ⟨S1x352x1024, .f32⟩
  | .local _ .vmem, ⟨75, _⟩ => ⟨S1x352x1024, .f32⟩
  | .local _ .vmem, ⟨76, _⟩ => ⟨S1x352x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8_0 : Ref sig .tc := ⟨.hbm, 36, rfl⟩
abbrev main_v8_1 : Ref sig .tc := ⟨.hbm, 37, rfl⟩
abbrev main_v8_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13_0 : Ref sig .tc := ⟨.hbm, 43, rfl⟩
abbrev main_v13_1 : Ref sig .tc := ⟨.hbm, 44, rfl⟩
abbrev main_v13_2 : Ref sig .tc := ⟨.hbm, 45, rfl⟩
abbrev main_v14_0 : Ref sig .tc := ⟨.hbm, 46, rfl⟩
abbrev main_v14_1 : Ref sig .tc := ⟨.hbm, 47, rfl⟩
abbrev main_v14_2 : Ref sig .tc := ⟨.hbm, 48, rfl⟩
abbrev main_v15_0 : Ref sig .tc := ⟨.hbm, 49, rfl⟩
abbrev main_v15_1 : Ref sig .tc := ⟨.hbm, 50, rfl⟩
abbrev main_v15_2 : Ref sig .tc := ⟨.hbm, 51, rfl⟩
abbrev main_v16_0 : Ref sig .tc := ⟨.hbm, 52, rfl⟩
abbrev main_v16_1 : Ref sig .tc := ⟨.hbm, 53, rfl⟩
abbrev main_v16_2 : Ref sig .tc := ⟨.hbm, 54, rfl⟩
abbrev main_v17_0 : Ref sig .tc := ⟨.hbm, 55, rfl⟩
abbrev main_v17_1 : Ref sig .tc := ⟨.hbm, 56, rfl⟩
abbrev main_v17_2 : Ref sig .tc := ⟨.hbm, 57, rfl⟩
abbrev main_v18_0 : Ref sig .tc := ⟨.hbm, 58, rfl⟩
abbrev main_v18_1 : Ref sig .tc := ⟨.hbm, 59, rfl⟩
abbrev main_v18_2 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc3_stg0_0 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc4_stg0_0 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc5_stg3_0 : Ref sig .tc := ⟨.vmem, 55, rfl⟩
abbrev cc5_stg3_1 : Ref sig .tc := ⟨.vmem, 56, rfl⟩
abbrev cc5_stg4_0 : Ref sig .tc := ⟨.vmem, 57, rfl⟩
abbrev cc5_stg4_1 : Ref sig .tc := ⟨.vmem, 58, rfl⟩
abbrev cc5_stg5_0 : Ref sig .tc := ⟨.vmem, 59, rfl⟩
abbrev cc5_stg5_1 : Ref sig .tc := ⟨.vmem, 60, rfl⟩
abbrev cc5_stg6_0 : Ref sig .tc := ⟨.vmem, 61, rfl⟩
abbrev cc5_stg6_1 : Ref sig .tc := ⟨.vmem, 62, rfl⟩
abbrev cc6_stg0_0 : Ref sig .tc := ⟨.vmem, 63, rfl⟩
abbrev cc6_stg0_1 : Ref sig .tc := ⟨.vmem, 64, rfl⟩
abbrev cc6_stg1_0 : Ref sig .tc := ⟨.vmem, 65, rfl⟩
abbrev cc6_stg1_1 : Ref sig .tc := ⟨.vmem, 66, rfl⟩
abbrev cc6_stg2_0 : Ref sig .tc := ⟨.vmem, 67, rfl⟩
abbrev cc6_stg2_1 : Ref sig .tc := ⟨.vmem, 68, rfl⟩
abbrev cc6_stg3_0 : Ref sig .tc := ⟨.vmem, 69, rfl⟩
abbrev cc6_stg3_1 : Ref sig .tc := ⟨.vmem, 70, rfl⟩
abbrev cc6_stg4_0 : Ref sig .tc := ⟨.vmem, 71, rfl⟩
abbrev cc6_stg4_1 : Ref sig .tc := ⟨.vmem, 72, rfl⟩
abbrev cc6_stg5_0 : Ref sig .tc := ⟨.vmem, 73, rfl⟩
abbrev cc6_stg5_1 : Ref sig .tc := ⟨.vmem, 74, rfl⟩
abbrev cc6_stg6_0 : Ref sig .tc := ⟨.vmem, 75, rfl⟩
abbrev cc6_stg6_1 : Ref sig .tc := ⟨.vmem, 76, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem6_1 : DmaSem sig := 34
abbrev cc3_sem0_0 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc4_sem0_0 : DmaSem sig := 42
abbrev cc4_sem1_0 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem2_1 : DmaSem sig := 54
abbrev cc5_sem3_0 : DmaSem sig := 55
abbrev cc5_sem3_1 : DmaSem sig := 56
abbrev cc5_sem4_0 : DmaSem sig := 57
abbrev cc5_sem4_1 : DmaSem sig := 58
abbrev cc5_sem5_0 : DmaSem sig := 59
abbrev cc5_sem5_1 : DmaSem sig := 60
abbrev cc5_sem6_0 : DmaSem sig := 61
abbrev cc5_sem6_1 : DmaSem sig := 62
abbrev cc6_sem0_0 : DmaSem sig := 63
abbrev cc6_sem0_1 : DmaSem sig := 64
abbrev cc6_sem1_0 : DmaSem sig := 65
abbrev cc6_sem1_1 : DmaSem sig := 66
abbrev cc6_sem2_0 : DmaSem sig := 67
abbrev cc6_sem2_1 : DmaSem sig := 68
abbrev cc6_sem3_0 : DmaSem sig := 69
abbrev cc6_sem3_1 : DmaSem sig := 70
abbrev cc6_sem4_0 : DmaSem sig := 71
abbrev cc6_sem4_1 : DmaSem sig := 72
abbrev cc6_sem5_0 : DmaSem sig := 73
abbrev cc6_sem5_1 : DmaSem sig := 74
abbrev cc6_sem6_0 : DmaSem sig := 75
abbrev cc6_sem6_1 : DmaSem sig := 76

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![14], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S55x1x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S55x1x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S55x1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S55x1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S55x1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S55x1x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S55x1x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S1x8 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S1x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S1x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S1x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S1x8 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S1x8 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S1x8 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage4_0 : Fin 1 → Memref sig .tc .vmem S1x256x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S1x256x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S1x256x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S1x256x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S1x256x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S1x256x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S1x256x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev grid5 : Pipeline.Grid := ⟨1, ![2], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_6 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage5_0 : Fin 2 → Memref sig .tc .vmem S1x352x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x352x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x352x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x352x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1x352x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1x352x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1x352x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![2], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_5 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_6 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage6_0 : Fin 2 → Memref sig .tc .vmem S1x352x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x352x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x352x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x352x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1x352x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S1x352x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S1x352x1024 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]
-- ==== Reference5Ideal.lean ====
abbrev S1x1024 : Shape := ⟨2, ![1, 1024]⟩
abbrev S1x1024x770 : Shape := ⟨3, ![1, 1024, 770]⟩
abbrev S1x8 : Shape := ⟨2, ![1, 8]⟩
abbrev S1x256x1024 : Shape := ⟨3, ![1, 256, 1024]⟩
abbrev S1x1024x704 : Shape := ⟨3, ![1, 1024, 704]⟩
abbrev S1x704x1024 : Shape := ⟨3, ![1, 704, 1024]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S1x1024, .f32⟩
  | 1 => ⟨S1x1024x770, .f32⟩
  | 2 => ⟨S1x8, .f32⟩
  | 3 => ⟨S1x256x1024, .f32⟩
  | 4 => ⟨S1x1024x704, .f32⟩
  | 5 => ⟨S1x1024x704, .f32⟩
  | 6 => ⟨S1x704x1024, .f32⟩
  | 7 => ⟨S1x1024, .f32⟩
  | 8 => ⟨S1x1024x770, .f32⟩
  | 9 => ⟨S1x8, .f32⟩
  | 10 => ⟨S1x256x1024, .f32⟩
  | 11 => ⟨S1x1024x704, .f32⟩
  | 12 => ⟨S1x1024x704, .f32⟩
  | 13 => ⟨S1x704x1024, .f32⟩
  | 14 => ⟨S1x1024, .f32⟩
  | 15 => ⟨S1x1024x770, .f32⟩
  | 16 => ⟨S1x8, .f32⟩
  | 17 => ⟨S1x256x1024, .f32⟩
  | 18 => ⟨S1x1024x704, .f32⟩
  | 19 => ⟨S1x1024x704, .f32⟩
  | 20 => ⟨S1x704x1024, .f32⟩
  | 21 => ⟨S1x1024, .f32⟩
  | 22 => ⟨S1x1024x770, .f32⟩
  | 23 => ⟨S1x8, .f32⟩
  | 24 => ⟨S1x256x1024, .f32⟩
  | 25 => ⟨S1x1024x704, .f32⟩
  | 26 => ⟨S1x1024x704, .f32⟩
  | 27 => ⟨S1x704x1024, .f32⟩
  | 28 => ⟨S_, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S_, .f32⟩
  | 62 => ⟨S1x1024x770, .f32⟩
  | 63 => ⟨S1x1024x770, .f32⟩
  | 64 => ⟨S_, .f32⟩
  | 65 => ⟨S1x1024x770, .f32⟩
  | 66 => ⟨S1x1024x770, .f32⟩
  | 67 => ⟨S1x1024x770, .f32⟩
  | 68 => ⟨S_, .f32⟩
  | 69 => ⟨S1x1024x770, .f32⟩
  | 70 => ⟨S1x1024x770, .f32⟩
  | 71 => ⟨S1x1024x770, .f32⟩
  | 72 => ⟨S_, .f32⟩
  | 73 => ⟨S1x1024x770, .f32⟩
  | 74 => ⟨S1x1024x770, .f32⟩
  | 75 => ⟨S1x1024x770, .f32⟩
  | 76 => ⟨S_, .f32⟩
  | 77 => ⟨S1x1024x770, .f32⟩
  | 78 => ⟨S1x1024x770, .f32⟩
  | 79 => ⟨S_, .f32⟩
  | 80 => ⟨S1x1024x770, .f32⟩
  | 81 => ⟨S1x1024x770, .f32⟩
  | 82 => ⟨S1x1024x770, .f32⟩
  | 83 => ⟨S_, .f32⟩
  | 84 => ⟨S1x1024x770, .f32⟩
  | 85 => ⟨S1x1024x770, .f32⟩
  | 86 => ⟨S1x1024x770, .f32⟩
  | 87 => ⟨S_, .f32⟩
  | 88 => ⟨S1x1024x770, .f32⟩
  | 89 => ⟨S1x1024x770, .f32⟩
  | 90 => ⟨S1x1024x770, .f32⟩
  | 91 => ⟨S_, .f32⟩
  | 92 => ⟨S1x1024x770, .f32⟩
  | 93 => ⟨S1x1024x770, .f32⟩
  | 94 => ⟨S_, .f32⟩
  | 95 => ⟨S1x8, .f32⟩
  | 96 => ⟨S1x8, .f32⟩
  | 97 => ⟨S_, .f32⟩
  | 98 => ⟨S1x8, .f32⟩
  | 99 => ⟨S1x8, .f32⟩
  | 100 => ⟨S1x8, .f32⟩
  | 101 => ⟨S_, .f32⟩
  | 102 => ⟨S1x8, .f32⟩
  | 103 => ⟨S1x8, .f32⟩
  | 104 => ⟨S1x8, .f32⟩
  | 105 => ⟨S_, .f32⟩
  | 106 => ⟨S1x8, .f32⟩
  | 107 => ⟨S1x8, .f32⟩
  | 108 => ⟨S1x8, .f32⟩
  | 109 => ⟨S_, .f32⟩
  | 110 => ⟨S1x8, .f32⟩
  | 111 => ⟨S1x8, .f32⟩
  | 112 => ⟨S_, .f32⟩
  | 113 => ⟨S1x8, .f32⟩
  | 114 => ⟨S1x8, .f32⟩
  | 115 => ⟨S1x8, .f32⟩
  | 116 => ⟨S_, .f32⟩
  | 117 => ⟨S1x8, .f32⟩
  | 118 => ⟨S1x8, .f32⟩
  | 119 => ⟨S1x8, .f32⟩
  | 120 => ⟨S_, .f32⟩
  | 121 => ⟨S1x8, .f32⟩
  | 122 => ⟨S1x8, .f32⟩
  | 123 => ⟨S1x8, .f32⟩
  | 124 => ⟨S_, .f32⟩
  | 125 => ⟨S1x8, .f32⟩
  | 126 => ⟨S1x8, .f32⟩
  | 127 => ⟨S_, .f32⟩
  | _ => ⟨S1x1024, .f32⟩

abbrev hbmTy0_1 (i : Nat) : BufTy := match i % 128 with
  | 0 => ⟨S1x256x1024, .f32⟩
  | 1 => ⟨S1x256x1024, .f32⟩
  | 2 => ⟨S_, .f32⟩
  | 3 => ⟨S1x256x1024, .f32⟩
  | 4 => ⟨S1x256x1024, .f32⟩
  | 5 => ⟨S1x256x1024, .f32⟩
  | 6 => ⟨S_, .f32⟩
  | 7 => ⟨S1x256x1024, .f32⟩
  | 8 => ⟨S1x256x1024, .f32⟩
  | 9 => ⟨S1x256x1024, .f32⟩
  | 10 => ⟨S_, .f32⟩
  | 11 => ⟨S1x256x1024, .f32⟩
  | 12 => ⟨S1x256x1024, .f32⟩
  | 13 => ⟨S1x256x1024, .f32⟩
  | 14 => ⟨S_, .f32⟩
  | 15 => ⟨S1x256x1024, .f32⟩
  | 16 => ⟨S1x256x1024, .f32⟩
  | 17 => ⟨S_, .f32⟩
  | 18 => ⟨S1x256x1024, .f32⟩
  | 19 => ⟨S1x256x1024, .f32⟩
  | 20 => ⟨S1x256x1024, .f32⟩
  | 21 => ⟨S_, .f32⟩
  | 22 => ⟨S1x256x1024, .f32⟩
  | 23 => ⟨S1x256x1024, .f32⟩
  | 24 => ⟨S1x256x1024, .f32⟩
  | 25 => ⟨S_, .f32⟩
  | 26 => ⟨S1x256x1024, .f32⟩
  | 27 => ⟨S1x256x1024, .f32⟩
  | 28 => ⟨S1x256x1024, .f32⟩
  | 29 => ⟨S_, .f32⟩
  | 30 => ⟨S1x256x1024, .f32⟩
  | 31 => ⟨S1x256x1024, .f32⟩
  | 32 => ⟨S_, .f32⟩
  | 33 => ⟨S1x1024x704, .f32⟩
  | 34 => ⟨S1x1024x704, .f32⟩
  | 35 => ⟨S_, .f32⟩
  | 36 => ⟨S1x1024x704, .f32⟩
  | 37 => ⟨S1x1024x704, .f32⟩
  | 38 => ⟨S1x1024x704, .f32⟩
  | 39 => ⟨S_, .f32⟩
  | 40 => ⟨S1x1024x704, .f32⟩
  | 41 => ⟨S1x1024x704, .f32⟩
  | 42 => ⟨S1x1024x704, .f32⟩
  | 43 => ⟨S_, .f32⟩
  | 44 => ⟨S1x1024x704, .f32⟩
  | 45 => ⟨S1x1024x704, .f32⟩
  | 46 => ⟨S1x1024x704, .f32⟩
  | 47 => ⟨S_, .f32⟩
  | 48 => ⟨S1x1024x704, .f32⟩
  | 49 => ⟨S1x1024x704, .f32⟩
  | 50 => ⟨S_, .f32⟩
  | 51 => ⟨S1x1024x704, .f32⟩
  | 52 => ⟨S1x1024x704, .f32⟩
  | 53 => ⟨S1x1024x704, .f32⟩
  | 54 => ⟨S_, .f32⟩
  | 55 => ⟨S1x1024x704, .f32⟩
  | 56 => ⟨S1x1024x704, .f32⟩
  | 57 => ⟨S1x1024x704, .f32⟩
  | 58 => ⟨S_, .f32⟩
  | 59 => ⟨S1x1024x704, .f32⟩
  | 60 => ⟨S1x1024x704, .f32⟩
  | 61 => ⟨S1x1024x704, .f32⟩
  | 62 => ⟨S_, .f32⟩
  | 63 => ⟨S1x1024x704, .f32⟩
  | 64 => ⟨S1x1024x704, .f32⟩
  | 65 => ⟨S_, .f32⟩
  | 66 => ⟨S1x1024x704, .f32⟩
  | 67 => ⟨S1x1024x704, .f32⟩
  | 68 => ⟨S_, .f32⟩
  | 69 => ⟨S1x1024x704, .f32⟩
  | 70 => ⟨S1x1024x704, .f32⟩
  | 71 => ⟨S1x1024x704, .f32⟩
  | 72 => ⟨S_, .f32⟩
  | 73 => ⟨S1x1024x704, .f32⟩
  | 74 => ⟨S1x1024x704, .f32⟩
  | 75 => ⟨S1x1024x704, .f32⟩
  | 76 => ⟨S_, .f32⟩
  | 77 => ⟨S1x1024x704, .f32⟩
  | 78 => ⟨S1x1024x704, .f32⟩
  | 79 => ⟨S1x1024x704, .f32⟩
  | 80 => ⟨S_, .f32⟩
  | 81 => ⟨S1x1024x704, .f32⟩
  | 82 => ⟨S1x1024x704, .f32⟩
  | 83 => ⟨S_, .f32⟩
  | 84 => ⟨S1x1024x704, .f32⟩
  | 85 => ⟨S1x1024x704, .f32⟩
  | 86 => ⟨S1x1024x704, .f32⟩
  | 87 => ⟨S_, .f32⟩
  | 88 => ⟨S1x1024x704, .f32⟩
  | 89 => ⟨S1x1024x704, .f32⟩
  | 90 => ⟨S1x1024x704, .f32⟩
  | 91 => ⟨S_, .f32⟩
  | 92 => ⟨S1x1024x704, .f32⟩
  | 93 => ⟨S1x1024x704, .f32⟩
  | 94 => ⟨S1x1024x704, .f32⟩
  | 95 => ⟨S_, .f32⟩
  | 96 => ⟨S1x1024x704, .f32⟩
  | 97 => ⟨S1x1024x704, .f32⟩
  | 98 => ⟨S_, .f32⟩
  | 99 => ⟨S1x704x1024, .f32⟩
  | 100 => ⟨S1x704x1024, .f32⟩
  | 101 => ⟨S_, .f32⟩
  | 102 => ⟨S1x704x1024, .f32⟩
  | 103 => ⟨S1x704x1024, .f32⟩
  | 104 => ⟨S1x704x1024, .f32⟩
  | 105 => ⟨S_, .f32⟩
  | 106 => ⟨S1x704x1024, .f32⟩
  | 107 => ⟨S1x704x1024, .f32⟩
  | 108 => ⟨S1x704x1024, .f32⟩
  | 109 => ⟨S_, .f32⟩
  | 110 => ⟨S1x704x1024, .f32⟩
  | 111 => ⟨S1x704x1024, .f32⟩
  | 112 => ⟨S1x704x1024, .f32⟩
  | 113 => ⟨S_, .f32⟩
  | 114 => ⟨S1x704x1024, .f32⟩
  | 115 => ⟨S1x704x1024, .f32⟩
  | 116 => ⟨S_, .f32⟩
  | 117 => ⟨S1x704x1024, .f32⟩
  | 118 => ⟨S1x704x1024, .f32⟩
  | 119 => ⟨S1x704x1024, .f32⟩
  | 120 => ⟨S_, .f32⟩
  | 121 => ⟨S1x704x1024, .f32⟩
  | 122 => ⟨S1x704x1024, .f32⟩
  | 123 => ⟨S1x704x1024, .f32⟩
  | 124 => ⟨S_, .f32⟩
  | 125 => ⟨S1x704x1024, .f32⟩
  | 126 => ⟨S1x704x1024, .f32⟩
  | 127 => ⟨S1x704x1024, .f32⟩
  | _ => ⟨S1x1024, .f32⟩

abbrev hbmTy0_2 (i : Nat) : BufTy := match i % 128 with
  | 0 => ⟨S_, .f32⟩
  | 1 => ⟨S1x704x1024, .f32⟩
  | 2 => ⟨S1x704x1024, .f32⟩
  | _ => ⟨S1x1024, .f32⟩

abbrev hbmTy (i : Nat) : BufTy := match i / 128 with
  | 0 => hbmTy0_0 i
  | 1 => hbmTy0_1 i
  | 2 => hbmTy0_2 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== Kernel6.lean ====
abbrev S1x64 : Shape := ⟨2, ![1, 64]⟩
abbrev S1x512 : Shape := ⟨2, ![1, 512]⟩
abbrev S1x1024 : Shape := ⟨2, ![1, 1024]⟩

abbrev nBuf : Space → Nat
  | .hbm => 49
  | .vmem => 49
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x512, .f32⟩
  | .hbm, ⟨12, _⟩ => ⟨S1x512, .f32⟩
  | .hbm, ⟨13, _⟩ => ⟨S1x1024, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x512, .f32⟩
  | .hbm, ⟨19, _⟩ => ⟨S1x512, .f32⟩
  | .hbm, ⟨20, _⟩ => ⟨S1x1024, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x512, .f32⟩
  | .hbm, ⟨26, _⟩ => ⟨S1x512, .f32⟩
  | .hbm, ⟨27, _⟩ => ⟨S1x1024, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S1x1024, .f32⟩
  | .hbm, ⟨47, _⟩ => ⟨S1x1024, .f32⟩
  | .hbm, ⟨48, _⟩ => ⟨S1x1024, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | .local _ .vmem, ⟨38, _⟩ => ⟨S1x512, .f32⟩
  | .local _ .vmem, ⟨39, _⟩ => ⟨S1x512, .f32⟩
  | .local _ .vmem, ⟨40, _⟩ => ⟨S1x512, .f32⟩
  | .local _ .vmem, ⟨41, _⟩ => ⟨S1x512, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S1x1024, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0_0 : Ref sig .tc := ⟨.hbm, 28, rfl⟩
abbrev main_v0_1 : Ref sig .tc := ⟨.hbm, 29, rfl⟩
abbrev main_v0_2 : Ref sig .tc := ⟨.hbm, 30, rfl⟩
abbrev main_v1_0 : Ref sig .tc := ⟨.hbm, 31, rfl⟩
abbrev main_v1_1 : Ref sig .tc := ⟨.hbm, 32, rfl⟩
abbrev main_v1_2 : Ref sig .tc := ⟨.hbm, 33, rfl⟩
abbrev main_v2_0 : Ref sig .tc := ⟨.hbm, 34, rfl⟩
abbrev main_v2_1 : Ref sig .tc := ⟨.hbm, 35, rfl⟩
abbrev main_v2_2 : Ref sig .tc := ⟨.hbm, 36, rfl⟩
abbrev main_v3_0 : Ref sig .tc := ⟨.hbm, 37, rfl⟩
abbrev main_v3_1 : Ref sig .tc := ⟨.hbm, 38, rfl⟩
abbrev main_v3_2 : Ref sig .tc := ⟨.hbm, 39, rfl⟩
abbrev main_v4_0 : Ref sig .tc := ⟨.hbm, 40, rfl⟩
abbrev main_v4_1 : Ref sig .tc := ⟨.hbm, 41, rfl⟩
abbrev main_v4_2 : Ref sig .tc := ⟨.hbm, 42, rfl⟩
abbrev main_v5_0 : Ref sig .tc := ⟨.hbm, 43, rfl⟩
abbrev main_v5_1 : Ref sig .tc := ⟨.hbm, 44, rfl⟩
abbrev main_v5_2 : Ref sig .tc := ⟨.hbm, 45, rfl⟩
abbrev main_v6_0 : Ref sig .tc := ⟨.hbm, 46, rfl⟩
abbrev main_v6_1 : Ref sig .tc := ⟨.hbm, 47, rfl⟩
abbrev main_v6_2 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc5_stg0_0 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg6_0 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg6_0 : Ref sig .tc := ⟨.vmem, 48, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc5_sem0_0 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem6_0 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem6_0 : DmaSem sig := 48

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S1x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S1x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S1x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S1x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S1x512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S1x512 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S1x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S1x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S1x512 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S1x1024 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S1x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S1x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S1x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S1x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S1x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]
-- ==== Reference6Ideal.lean ====
abbrev S1x64 : Shape := ⟨2, ![1, 64]⟩
abbrev S1x512 : Shape := ⟨2, ![1, 512]⟩
abbrev S1x1024 : Shape := ⟨2, ![1, 1024]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S1x64, .f32⟩
  | 1 => ⟨S1x64, .f32⟩
  | 2 => ⟨S1x64, .f32⟩
  | 3 => ⟨S1x64, .f32⟩
  | 4 => ⟨S1x512, .f32⟩
  | 5 => ⟨S1x512, .f32⟩
  | 6 => ⟨S1x1024, .f32⟩
  | 7 => ⟨S1x64, .f32⟩
  | 8 => ⟨S1x64, .f32⟩
  | 9 => ⟨S1x64, .f32⟩
  | 10 => ⟨S1x64, .f32⟩
  | 11 => ⟨S1x512, .f32⟩
  | 12 => ⟨S1x512, .f32⟩
  | 13 => ⟨S1x1024, .f32⟩
  | 14 => ⟨S1x64, .f32⟩
  | 15 => ⟨S1x64, .f32⟩
  | 16 => ⟨S1x64, .f32⟩
  | 17 => ⟨S1x64, .f32⟩
  | 18 => ⟨S1x512, .f32⟩
  | 19 => ⟨S1x512, .f32⟩
  | 20 => ⟨S1x1024, .f32⟩
  | 21 => ⟨S1x64, .f32⟩
  | 22 => ⟨S1x64, .f32⟩
  | 23 => ⟨S1x64, .f32⟩
  | 24 => ⟨S1x64, .f32⟩
  | 25 => ⟨S1x512, .f32⟩
  | 26 => ⟨S1x512, .f32⟩
  | 27 => ⟨S1x1024, .f32⟩
  | 28 => ⟨S_, .f32⟩
  | 29 => ⟨S1x64, .f32⟩
  | 30 => ⟨S1x64, .f32⟩
  | 31 => ⟨S_, .f32⟩
  | 32 => ⟨S1x64, .f32⟩
  | 33 => ⟨S1x64, .f32⟩
  | 34 => ⟨S1x64, .f32⟩
  | 35 => ⟨S_, .f32⟩
  | 36 => ⟨S1x64, .f32⟩
  | 37 => ⟨S1x64, .f32⟩
  | 38 => ⟨S1x64, .f32⟩
  | 39 => ⟨S_, .f32⟩
  | 40 => ⟨S1x64, .f32⟩
  | 41 => ⟨S1x64, .f32⟩
  | 42 => ⟨S1x64, .f32⟩
  | 43 => ⟨S_, .f32⟩
  | 44 => ⟨S1x64, .f32⟩
  | 45 => ⟨S1x64, .f32⟩
  | 46 => ⟨S_, .f32⟩
  | 47 => ⟨S1x64, .f32⟩
  | 48 => ⟨S1x64, .f32⟩
  | 49 => ⟨S1x64, .f32⟩
  | 50 => ⟨S_, .f32⟩
  | 51 => ⟨S1x64, .f32⟩
  | 52 => ⟨S1x64, .f32⟩
  | 53 => ⟨S1x64, .f32⟩
  | 54 => ⟨S_, .f32⟩
  | 55 => ⟨S1x64, .f32⟩
  | 56 => ⟨S1x64, .f32⟩
  | 57 => ⟨S1x64, .f32⟩
  | 58 => ⟨S_, .f32⟩
  | 59 => ⟨S1x64, .f32⟩
  | 60 => ⟨S1x64, .f32⟩
  | 61 => ⟨S_, .f32⟩
  | 62 => ⟨S1x64, .f32⟩
  | 63 => ⟨S1x64, .f32⟩
  | 64 => ⟨S_, .f32⟩
  | 65 => ⟨S1x64, .f32⟩
  | 66 => ⟨S1x64, .f32⟩
  | 67 => ⟨S1x64, .f32⟩
  | 68 => ⟨S_, .f32⟩
  | 69 => ⟨S1x64, .f32⟩
  | 70 => ⟨S1x64, .f32⟩
  | 71 => ⟨S1x64, .f32⟩
  | 72 => ⟨S_, .f32⟩
  | 73 => ⟨S1x64, .f32⟩
  | 74 => ⟨S1x64, .f32⟩
  | 75 => ⟨S1x64, .f32⟩
  | 76 => ⟨S_, .f32⟩
  | 77 => ⟨S1x64, .f32⟩
  | 78 => ⟨S1x64, .f32⟩
  | 79 => ⟨S_, .f32⟩
  | 80 => ⟨S1x64, .f32⟩
  | 81 => ⟨S1x64, .f32⟩
  | 82 => ⟨S1x64, .f32⟩
  | 83 => ⟨S_, .f32⟩
  | 84 => ⟨S1x64, .f32⟩
  | 85 => ⟨S1x64, .f32⟩
  | 86 => ⟨S1x64, .f32⟩
  | 87 => ⟨S_, .f32⟩
  | 88 => ⟨S1x64, .f32⟩
  | 89 => ⟨S1x64, .f32⟩
  | 90 => ⟨S1x64, .f32⟩
  | 91 => ⟨S_, .f32⟩
  | 92 => ⟨S1x64, .f32⟩
  | 93 => ⟨S1x64, .f32⟩
  | 94 => ⟨S_, .f32⟩
  | 95 => ⟨S1x64, .f32⟩
  | 96 => ⟨S1x64, .f32⟩
  | 97 => ⟨S_, .f32⟩
  | 98 => ⟨S1x64, .f32⟩
  | 99 => ⟨S1x64, .f32⟩
  | 100 => ⟨S1x64, .f32⟩
  | 101 => ⟨S_, .f32⟩
  | 102 => ⟨S1x64, .f32⟩
  | 103 => ⟨S1x64, .f32⟩
  | 104 => ⟨S1x64, .f32⟩
  | 105 => ⟨S_, .f32⟩
  | 106 => ⟨S1x64, .f32⟩
  | 107 => ⟨S1x64, .f32⟩
  | 108 => ⟨S1x64, .f32⟩
  | 109 => ⟨S_, .f32⟩
  | 110 => ⟨S1x64, .f32⟩
  | 111 => ⟨S1x64, .f32⟩
  | 112 => ⟨S_, .f32⟩
  | 113 => ⟨S1x64, .f32⟩
  | 114 => ⟨S1x64, .f32⟩
  | 115 => ⟨S1x64, .f32⟩
  | 116 => ⟨S_, .f32⟩
  | 117 => ⟨S1x64, .f32⟩
  | 118 => ⟨S1x64, .f32⟩
  | 119 => ⟨S1x64, .f32⟩
  | 120 => ⟨S_, .f32⟩
  | 121 => ⟨S1x64, .f32⟩
  | 122 => ⟨S1x64, .f32⟩
  | 123 => ⟨S1x64, .f32⟩
  | 124 => ⟨S_, .f32⟩
  | 125 => ⟨S1x64, .f32⟩
  | 126 => ⟨S1x64, .f32⟩
  | 127 => ⟨S_, .f32⟩
  | _ => ⟨S1x64, .f32⟩

abbrev hbmTy0_1 (i : Nat) : BufTy := match i % 128 with
  | 0 => ⟨S1x64, .f32⟩
  | 1 => ⟨S1x64, .f32⟩
  | 2 => ⟨S_, .f32⟩
  | 3 => ⟨S1x64, .f32⟩
  | 4 => ⟨S1x64, .f32⟩
  | 5 => ⟨S1x64, .f32⟩
  | 6 => ⟨S_, .f32⟩
  | 7 => ⟨S1x64, .f32⟩
  | 8 => ⟨S1x64, .f32⟩
  | 9 => ⟨S1x64, .f32⟩
  | 10 => ⟨S_, .f32⟩
  | 11 => ⟨S1x64, .f32⟩
  | 12 => ⟨S1x64, .f32⟩
  | 13 => ⟨S1x64, .f32⟩
  | 14 => ⟨S_, .f32⟩
  | 15 => ⟨S1x64, .f32⟩
  | 16 => ⟨S1x64, .f32⟩
  | 17 => ⟨S_, .f32⟩
  | 18 => ⟨S1x64, .f32⟩
  | 19 => ⟨S1x64, .f32⟩
  | 20 => ⟨S1x64, .f32⟩
  | 21 => ⟨S_, .f32⟩
  | 22 => ⟨S1x64, .f32⟩
  | 23 => ⟨S1x64, .f32⟩
  | 24 => ⟨S1x64, .f32⟩
  | 25 => ⟨S_, .f32⟩
  | 26 => ⟨S1x64, .f32⟩
  | 27 => ⟨S1x64, .f32⟩
  | 28 => ⟨S1x64, .f32⟩
  | 29 => ⟨S_, .f32⟩
  | 30 => ⟨S1x64, .f32⟩
  | 31 => ⟨S1x64, .f32⟩
  | 32 => ⟨S_, .f32⟩
  | 33 => ⟨S1x512, .f32⟩
  | 34 => ⟨S1x512, .f32⟩
  | 35 => ⟨S_, .f32⟩
  | 36 => ⟨S1x512, .f32⟩
  | 37 => ⟨S1x512, .f32⟩
  | 38 => ⟨S1x512, .f32⟩
  | 39 => ⟨S_, .f32⟩
  | 40 => ⟨S1x512, .f32⟩
  | 41 => ⟨S1x512, .f32⟩
  | 42 => ⟨S1x512, .f32⟩
  | 43 => ⟨S_, .f32⟩
  | 44 => ⟨S1x512, .f32⟩
  | 45 => ⟨S1x512, .f32⟩
  | 46 => ⟨S1x512, .f32⟩
  | 47 => ⟨S_, .f32⟩
  | 48 => ⟨S1x512, .f32⟩
  | 49 => ⟨S1x512, .f32⟩
  | 50 => ⟨S_, .f32⟩
  | 51 => ⟨S1x512, .f32⟩
  | 52 => ⟨S1x512, .f32⟩
  | 53 => ⟨S1x512, .f32⟩
  | 54 => ⟨S_, .f32⟩
  | 55 => ⟨S1x512, .f32⟩
  | 56 => ⟨S1x512, .f32⟩
  | 57 => ⟨S1x512, .f32⟩
  | 58 => ⟨S_, .f32⟩
  | 59 => ⟨S1x512, .f32⟩
  | 60 => ⟨S1x512, .f32⟩
  | 61 => ⟨S1x512, .f32⟩
  | 62 => ⟨S_, .f32⟩
  | 63 => ⟨S1x512, .f32⟩
  | 64 => ⟨S1x512, .f32⟩
  | 65 => ⟨S_, .f32⟩
  | 66 => ⟨S1x512, .f32⟩
  | 67 => ⟨S1x512, .f32⟩
  | 68 => ⟨S_, .f32⟩
  | 69 => ⟨S1x512, .f32⟩
  | 70 => ⟨S1x512, .f32⟩
  | 71 => ⟨S1x512, .f32⟩
  | 72 => ⟨S_, .f32⟩
  | 73 => ⟨S1x512, .f32⟩
  | 74 => ⟨S1x512, .f32⟩
  | 75 => ⟨S1x512, .f32⟩
  | 76 => ⟨S_, .f32⟩
  | 77 => ⟨S1x512, .f32⟩
  | 78 => ⟨S1x512, .f32⟩
  | 79 => ⟨S1x512, .f32⟩
  | 80 => ⟨S_, .f32⟩
  | 81 => ⟨S1x512, .f32⟩
  | 82 => ⟨S1x512, .f32⟩
  | 83 => ⟨S_, .f32⟩
  | 84 => ⟨S1x512, .f32⟩
  | 85 => ⟨S1x512, .f32⟩
  | 86 => ⟨S1x512, .f32⟩
  | 87 => ⟨S_, .f32⟩
  | 88 => ⟨S1x512, .f32⟩
  | 89 => ⟨S1x512, .f32⟩
  | 90 => ⟨S1x512, .f32⟩
  | 91 => ⟨S_, .f32⟩
  | 92 => ⟨S1x512, .f32⟩
  | 93 => ⟨S1x512, .f32⟩
  | 94 => ⟨S1x512, .f32⟩
  | 95 => ⟨S_, .f32⟩
  | 96 => ⟨S1x512, .f32⟩
  | 97 => ⟨S1x512, .f32⟩
  | 98 => ⟨S_, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S1x64, .f32⟩

abbrev hbmTy0_2 (i : Nat) : BufTy := match i % 128 with
  | 0 => ⟨S_, .f32⟩
  | 1 => ⟨S1x1024, .f32⟩
  | 2 => ⟨S1x1024, .f32⟩
  | _ => ⟨S1x64, .f32⟩

abbrev hbmTy (i : Nat) : BufTy := match i / 128 with
  | 0 => hbmTy0_0 i
  | 1 => hbmTy0_1 i
  | 2 => hbmTy0_2 i
  | _ => ⟨S1x64, .f32⟩

abbrev bufTy : (tb : Table) → Fin (tcTables nBuf tb) → BufTy
  | .hbm, ⟨i, _⟩ => hbmTy i
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== Proof.GateBody.lean ====
/- What the forget gate's backward body leaves in its two outputs at one grid point: the first holds, at row `h` and
   column `l`, the suffix sum of the cotangent's row from `l` on divided by `1 + exp (fa + b)`; the second gains the
   first's row sums. The body walks the columns in eight chunks from the last to the first and carries the suffix sum. -/
module

public import proofs.«01_k».proof.Proof.Gen.KernelIdeal.Value
public import Idealize.ShloMosaic.Lib.Pointwise
public import Idealize.ShloMosaic.Lib.Tactic

@[expose] public section

set_option maxRecDepth 16384

noncomputable section

namespace Cert.KernelIdeal.Gate

open Cert.KernelIdeal Cert.KernelIdeal.Gen Idealize.ShloMosaic Idealize.ShloMosaic.TcCoe Idealize.SL.Sem
open Idealize.ShloMosaic.ValueIdx

/-! ## The body's steps by name -/

/-- A chunk's suffix sums, from the carried sum of the chunks after it. -/
def dl (carry : FVec Ideal S8x1 .f32) (v : FVec Ideal S8x256 .f32) : FVec Ideal S8x256 .f32 := k0_pay7 k0_pay2 carry v
/-- The first column: what the next chunk is carried. -/
def lead (d : FVec Ideal S8x256 .f32) : FVec Ideal S8x1 .f32 := extractStridedSlice S8x1 ![0, 0] d slices_S8x256_o0_0_S8x1
/-- The gate's factor applied. -/
def gr (d fa : FVec Ideal S8x256 .f32) (b : FVec Ideal S8x1 .f32) : FVec Ideal S8x256 .f32 :=
  divf d (addf (broadcast S8x256 (Scalar.ofBits .f32 0x3F800000#32)) (exp (addf fa (broadcastTo S8x256 b broadcasts_S8x1_S8x256))))
/-- A chunk's row sums. -/
def rs (g : FVec Ideal S8x256 .f32) : FVec Ideal S8x1 .f32 :=
  shapeCast S8x1 (multiReduction .add [1] S8 g 0x00000000#32 reduces_S8x256_S8 (.inl rfl) rfl) shapeCasts_S8_S8x1
/-- Zero rows. -/
def z1 : FVec Ideal S8x1 .f32 := broadcast S8x1 (Scalar.ofBits .f32 0x00000000#32)

def c7 (x : Vec Ideal S8x2048 .f32) : FVec Ideal S8x256 .f32 := View.ld x (Rect.unit ![0, 1792] ![8, 256] inb_S8x2048_S8x256_0_1792)
def d7 (x : Vec Ideal S8x2048 .f32) : FVec Ideal S8x256 .f32 := dl z1 (c7 x)
def g7 (x f : Vec Ideal S8x2048 .f32) (b : Vec Ideal S8x1 .f32) : FVec Ideal S8x256 .f32 := gr (d7 x) (c7 f) b
def b7 (x f : Vec Ideal S8x2048 .f32) (b : Vec Ideal S8x1 .f32) : FVec Ideal S8x1 .f32 := addf z1 (rs (g7 x f b))
def c6 (x : Vec Ideal S8x2048 .f32) : FVec Ideal S8x256 .f32 := View.ld x (Rect.unit ![0, 1536] ![8, 256] inb_S8x2048_S8x256_0_1536)
def d6 (x : Vec Ideal S8x2048 .f32) : FVec Ideal S8x256 .f32 := dl (lead (d7 x)) (c6 x)
def g6 (x f : Vec Ideal S8x2048 .f32) (b : Vec Ideal S8x1 .f32) : FVec Ideal S8x256 .f32 := gr (d6 x) (c6 f) b
def b6 (x f : Vec Ideal S8x2048 .f32) (b : Vec Ideal S8x1 .f32) : FVec Ideal S8x1 .f32 := addf (b7 x f b) (rs (g6 x f b))
def c5 (x : Vec Ideal S8x2048 .f32) : FVec Ideal S8x256 .f32 := View.ld x (Rect.unit ![0, 1280] ![8, 256] inb_S8x2048_S8x256_0_1280)
def d5 (x : Vec Ideal S8x2048 .f32) : FVec Ideal S8x256 .f32 := dl (lead (d6 x)) (c5 x)
def g5 (x f : Vec Ideal S8x2048 .f32) (b : Vec Ideal S8x1 .f32) : FVec Ideal S8x256 .f32 := gr (d5 x) (c5 f) b
def b5 (x f : Vec Ideal S8x2048 .f32) (b : Vec Ideal S8x1 .f32) : FVec Ideal S8x1 .f32 := addf (b6 x f b) (rs (g5 x f b))
def c4 (x : Vec Ideal S8x2048 .f32) : FVec Ideal S8x256 .f32 := View.ld x (Rect.unit ![0, 1024] ![8, 256] inb_S8x2048_S8x256_0_1024)
def d4 (x : Vec Ideal S8x2048 .f32) : FVec Ideal S8x256 .f32 := dl (lead (d5 x)) (c4 x)
def g4 (x f : Vec Ideal S8x2048 .f32) (b : Vec Ideal S8x1 .f32) : FVec Ideal S8x256 .f32 := gr (d4 x) (c4 f) b
def b4 (x f : Vec Ideal S8x2048 .f32) (b : Vec Ideal S8x1 .f32) : FVec Ideal S8x1 .f32 := addf (b5 x f b) (rs (g4 x f b))
def c3 (x : Vec Ideal S8x2048 .f32) : FVec Ideal S8x256 .f32 := View.ld x (Rect.unit ![0, 768] ![8, 256] inb_S8x2048_S8x256_0_768)
def d3 (x : Vec Ideal S8x2048 .f32) : FVec Ideal S8x256 .f32 := dl (lead (d4 x)) (c3 x)
def g3 (x f : Vec Ideal S8x2048 .f32) (b : Vec Ideal S8x1 .f32) : FVec Ideal S8x256 .f32 := gr (d3 x) (c3 f) b
def b3 (x f : Vec Ideal S8x2048 .f32) (b : Vec Ideal S8x1 .f32) : FVec Ideal S8x1 .f32 := addf (b4 x f b) (rs (g3 x f b))
def c2 (x : Vec Ideal S8x2048 .f32) : FVec Ideal S8x256 .f32 := View.ld x (Rect.unit ![0, 512] ![8, 256] inb_S8x2048_S8x256_0_512)
def d2 (x : Vec Ideal S8x2048 .f32) : FVec Ideal S8x256 .f32 := dl (lead (d3 x)) (c2 x)
def g2 (x f : Vec Ideal S8x2048 .f32) (b : Vec Ideal S8x1 .f32) : FVec Ideal S8x256 .f32 := gr (d2 x) (c2 f) b
def b2 (x f : Vec Ideal S8x2048 .f32) (b : Vec Ideal S8x1 .f32) : FVec Ideal S8x1 .f32 := addf (b3 x f b) (rs (g2 x f b))
def c1 (x : Vec Ideal S8x2048 .f32) : FVec Ideal S8x256 .f32 := View.ld x (Rect.unit ![0, 256] ![8, 256] inb_S8x2048_S8x256_0_256)
def d1 (x : Vec Ideal S8x2048 .f32) : FVec Ideal S8x256 .f32 := dl (lead (d2 x)) (c1 x)
def g1 (x f : Vec Ideal S8x2048 .f32) (b : Vec Ideal S8x1 .f32) : FVec Ideal S8x256 .f32 := gr (d1 x) (c1 f) b
def b1 (x f : Vec Ideal S8x2048 .f32) (b : Vec Ideal S8x1 .f32) : FVec Ideal S8x1 .f32 := addf (b2 x f b) (rs (g1 x f b))
def c0 (x : Vec Ideal S8x2048 .f32) : FVec Ideal S8x256 .f32 := View.ld x (Rect.unit ![0, 0] ![8, 256] inb_S8x2048_S8x256_0_0)
def d0 (x : Vec Ideal S8x2048 .f32) : FVec Ideal S8x256 .f32 := dl (lead (d1 x)) (c0 x)
def g0 (x f : Vec Ideal S8x2048 .f32) (b : Vec Ideal S8x1 .f32) : FVec Ideal S8x256 .f32 := gr (d0 x) (c0 f) b
def b0 (x f : Vec Ideal S8x2048 .f32) (b : Vec Ideal S8x1 .f32) : FVec Ideal S8x1 .f32 := addf (b1 x f b) (rs (g0 x f b))

theorem hz : (![0, 0] : Fin 2 → Nat) = fun _ => 0 := funext fun a => by fin_cases a <;> rfl

theorem out3_A (c : Dev nD) (i : grid0.Coords) (arg1 : Memref sig .tc .vmem S8x2048 .f32) (harg1 : arg1.IsWhole)
    (arg2 : Memref sig .tc .vmem S8x2048 .f32) (harg2 : arg2.IsWhole) (arg3 : Memref sig .tc .vmem S8x1 .f32) (harg3 : arg3.IsWhole)
    (arg4 : Memref sig .tc .vmem S8x2048 .f32) (harg4 : arg4.IsWhole) (arg5 : Memref sig .tc .vmem S8x128 .f32) (harg5 : arg5.IsWhole)
    (hc0 : cond0_0 i) (x0 : Vec Ideal S8x2048 .f32) (x1 : Vec Ideal S8x2048 .f32) (x2 : Vec Ideal S8x1 .f32) :
    out0_A_3 c i arg1 harg1 arg2 harg2 arg3 harg3 arg4 harg4 arg5 harg5 hc0 x0 x1 x2 = View.canon [⟨Rect.unit ![0, 0] ![8, 256] inb_S8x2048_S8x256_0_0, g0 x0 x1 x2⟩,
      ⟨Rect.unit ![0, 256] ![8, 256] inb_S8x2048_S8x256_0_256, g1 x0 x1 x2⟩,
      ⟨Rect.unit ![0, 512] ![8, 256] inb_S8x2048_S8x256_0_512, g2 x0 x1 x2⟩,
      ⟨Rect.unit ![0, 768] ![8, 256] inb_S8x2048_S8x256_0_768, g3 x0 x1 x2⟩,
      ⟨Rect.unit ![0, 1024] ![8, 256] inb_S8x2048_S8x256_0_1024, g4 x0 x1 x2⟩,
      ⟨Rect.unit ![0, 1280] ![8, 256] inb_S8x2048_S8x256_0_1280, g5 x0 x1 x2⟩,
      ⟨Rect.unit ![0, 1536] ![8, 256] inb_S8x2048_S8x256_0_1536, g6 x0 x1 x2⟩,
      ⟨Rect.unit ![0, 1792] ![8, 256] inb_S8x2048_S8x256_0_1792, g7 x0 x1 x2⟩] := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  simp only [View.readAt_eq_ld, harg1.read_unread, harg2.read_unread, harg3.read_unread, View.ld_unit_zero (S := S8x1) hz]
  rfl

theorem out4_A (c : Dev nD) (i : grid0.Coords) (arg1 : Memref sig .tc .vmem S8x2048 .f32) (harg1 : arg1.IsWhole)
    (arg2 : Memref sig .tc .vmem S8x2048 .f32) (harg2 : arg2.IsWhole) (arg3 : Memref sig .tc .vmem S8x1 .f32) (harg3 : arg3.IsWhole)
    (arg4 : Memref sig .tc .vmem S8x2048 .f32) (harg4 : arg4.IsWhole) (arg5 : Memref sig .tc .vmem S8x128 .f32) (harg5 : arg5.IsWhole)
    (hc0 : cond0_0 i) (x0 : Vec Ideal S8x2048 .f32) (x1 : Vec Ideal S8x2048 .f32) (x2 : Vec Ideal S8x1 .f32) :
    out0_A_4 c i arg1 harg1 arg2 harg2 arg3 harg3 arg4 harg4 arg5 harg5 hc0 x0 x1 x2 = addf k0_pay1 (broadcastTo S8x128 (b0 x0 x1 x2) broadcasts_S8x1_S8x128) := by
  unfold out0_A_4
  rw [View.read_writes_eq_canon _ _ _ (cover0_A_4 c i arg1 harg1 arg2 harg2 arg3 harg3 arg4 harg4 arg5 harg5 hc0 x0 x1 x2)]
  unfold kernelRun0_A
  dsimp only
  sl_unfold_words
  rw [View.canon_cons_unit_zero (S := S8x128) hz]
  simp only [View.readAt_eq_ld, harg1.read_unread, harg2.read_unread, harg3.read_unread, harg5.read_unread, View.ld_unit_zero (S := S8x1) hz,
    View.ld_unit_zero (S := S8x128) hz, View.readCov_unit_zero (S := S8x128) _ hz]
  unfold k0_pay35
  dsimp only
  simp only [shapeCast_self]
  rfl

theorem out3_B (c : Dev nD) (i : grid0.Coords) (arg1 : Memref sig .tc .vmem S8x2048 .f32) (harg1 : arg1.IsWhole)
    (arg2 : Memref sig .tc .vmem S8x2048 .f32) (harg2 : arg2.IsWhole) (arg3 : Memref sig .tc .vmem S8x1 .f32) (harg3 : arg3.IsWhole)
    (arg4 : Memref sig .tc .vmem S8x2048 .f32) (harg4 : arg4.IsWhole) (arg5 : Memref sig .tc .vmem S8x128 .f32) (harg5 : arg5.IsWhole)
    (hc0 : ¬cond0_0 i) (x0 : Vec Ideal S8x2048 .f32) (x1 : Vec Ideal S8x2048 .f32) (x2 : Vec Ideal S8x1 .f32) (xo4 : Vec Ideal S8x128 .f32) :
    out0_B_3 c i arg1 harg1 arg2 harg2 arg3 harg3 arg4 harg4 arg5 harg5 hc0 x0 x1 x2 xo4 = View.canon [⟨Rect.unit ![0, 0] ![8, 256] inb_S8x2048_S8x256_0_0, g0 x0 x1 x2⟩,
      ⟨Rect.unit ![0, 256] ![8, 256] inb_S8x2048_S8x256_0_256, g1 x0 x1 x2⟩,
      ⟨Rect.unit ![0, 512] ![8, 256] inb_S8x2048_S8x256_0_512, g2 x0 x1 x2⟩,
      ⟨Rect.unit ![0, 768] ![8, 256] inb_S8x2048_S8x256_0_768, g3 x0 x1 x2⟩,
      ⟨Rect.unit ![0, 1024] ![8, 256] inb_S8x2048_S8x256_0_1024, g4 x0 x1 x2⟩,
      ⟨Rect.unit ![0, 1280] ![8, 256] inb_S8x2048_S8x256_0_1280, g5 x0 x1 x2⟩,
      ⟨Rect.unit ![0, 1536] ![8, 256] inb_S8x2048_S8x256_0_1536, g6 x0 x1 x2⟩,
      ⟨Rect.unit ![0, 1792] ![8, 256] inb_S8x2048_S8x256_0_1792, g7 x0 x1 x2⟩] := by
  unfold out0_B_3
  rw [View.read_writes_eq_canon _ _ _ (cover0_B_3 c i arg1 harg1 arg2 harg2 arg3 harg3 arg4 harg4 arg5 harg5 hc0 x0 x1 x2 xo4)]
  unfold kernelRun0_B
  dsimp only
  sl_unfold_words
  simp only [View.readAt_eq_ld, harg1.read_unread, harg2.read_unread, harg3.read_unread, View.ld_unit_zero (S := S8x1) hz]
  rfl

theorem out4_B (c : Dev nD) (i : grid0.Coords) (arg1 : Memref sig .tc .vmem S8x2048 .f32) (harg1 : arg1.IsWhole)
    (arg2 : Memref sig .tc .vmem S8x2048 .f32) (harg2 : arg2.IsWhole) (arg3 : Memref sig .tc .vmem S8x1 .f32) (harg3 : arg3.IsWhole)
    (arg4 : Memref sig .tc .vmem S8x2048 .f32) (harg4 : arg4.IsWhole) (arg5 : Memref sig .tc .vmem S8x128 .f32) (harg5 : arg5.IsWhole)
    (hc0 : ¬cond0_0 i) (x0 : Vec Ideal S8x2048 .f32) (x1 : Vec Ideal S8x2048 .f32) (x2 : Vec Ideal S8x1 .f32) (xo4 : Vec Ideal S8x128 .f32) :
    out0_B_4 c i arg1 harg1 arg2 harg2 arg3 harg3 arg4 harg4 arg5 harg5 hc0 x0 x1 x2 xo4 = addf xo4 (broadcastTo S8x128 (b0 x0 x1 x2) broadcasts_S8x1_S8x128) := by
  unfold out0_B_4
  rw [View.read_writes_eq_canon _ _ _ (cover0_B_4 c i arg1 harg1 arg2 harg2 arg3 harg3 arg4 harg4 arg5 harg5 hc0 x0 x1 x2 xo4)]
  unfold kernelRun0_B
  dsimp only
  sl_unfold_words
  rw [View.canon_unit_zero (S := S8x128) hz]
  simp only [View.readAt_eq_ld, harg1.read_unread, harg2.read_unread, harg3.read_unread, harg5.read_unread, View.ld_unit_zero (S := S8x1) hz,
    View.ld_unit_zero (S := S8x128) hz, View.readCov_unit_zero (S := S8x128) _ hz]
  unfold k0_pay35
  dsimp only
  simp only [shapeCast_self]
  rfl

end Cert.KernelIdeal.Gate
-- ==== Proof.GateSum.lean ====
/- The forget gate's backward body read at an index: its chunks' suffix sums are the whole row's. -/
module

public import proofs.«01_k».proof.Proof.GateBody

@[expose] public section

set_option maxRecDepth 16384

noncomputable section

namespace Cert.KernelIdeal.Gate

open Cert.KernelIdeal Cert.KernelIdeal.Gen Idealize.ShloMosaic Idealize.ShloMosaic.TcCoe Idealize.SL.Sem

/-- A finite sum of reals, read as an extended real, is the sum of the readings. -/
theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The triangle the body multiplies by: one where the row is at or after the column. -/
theorem tri_apply (i j : Fin 256) : k0_pay2 (F := Ideal) (ix2 i j) = if j ≤ i then (1 : EReal) else 0 := by
  pointwise [k0_pay2]
  have hi : i.val < 2 ^ (32 - 1) := by have := i.isLt; omega
  have hj : j.val < 2 ^ (32 - 1) := by have := j.isLt; omega
  by_cases h : j ≤ i
  · rw [(WordCmp.cmpi_sge_ofNat_eq_one_iff hi hj).mpr h, if_pos h]
    show (((BitVec.setWidth 32 1#1).toInt : ℝ) : EReal) = 1
    rw [show (BitVec.setWidth 32 1#1).toInt = 1 from by decide]; norm_num
  · rw [(WordCmp.cmpi_sge_ofNat_eq_zero_iff hi hj).mpr (by have : ¬ (j.val ≤ i.val) := h; omega), if_neg h]
    show (((BitVec.setWidth 32 0#1).toInt : ℝ) : EReal) = 0
    rw [show (BitVec.setWidth 32 0#1).toInt = 0 from by decide]; norm_num

/-- A sum over a chunk's places kept from a place on is the sum over the range from that place on. -/
theorem sum_from (y : ℕ → ℝ) (j : Fin 256) :
    (∑ x : Fin 256, (y x.val : EReal) * (if j ≤ x then (1 : EReal) else 0)) = ((∑ i ∈ Finset.Ico j.val 256, y i : ℝ) : EReal) := by
  have h1 : ∀ x : Fin 256, (y x.val : EReal) * (if j ≤ x then (1 : EReal) else 0) = ((if j.val ≤ x.val then y x.val else 0 : ℝ) : EReal) := by
    intro x
    by_cases h : j ≤ x
    · rw [if_pos h, if_pos (show j.val ≤ x.val from h), mul_one]
    · rw [if_neg h, if_neg (show ¬ j.val ≤ x.val from h), mul_zero]; rfl
  rw [Finset.sum_congr rfl (fun x _ => h1 x), ← coe_sum_real]
  congr 1
  rw [Fin.sum_univ_eq_sum_range (fun n => if j.val ≤ n then y n else 0) 256, ← Finset.sum_filter]
  congr 1
  ext n
  simp only [Finset.mem_filter, Finset.mem_range, Finset.mem_Ico]
  omega

theorem sub_self_coe (r : ℝ) : (r : EReal) - (r : EReal) = 0 := by
  rw [← EReal.coe_sub, sub_self]; rfl

/-- The three-piece split of a row of finite numbers, times the triangle, plus the carried sum. -/
theorem dl_apply (carry : FVec Ideal S8x1 .f32) (v : FVec Ideal S8x256 .f32) (y : Fin 8 → ℕ → ℝ) (cr : Fin 8 → ℝ)
    (hv : ∀ (h : Fin 8) (j : Fin 256), v (ix2 h j) = (y h j.val : EReal)) (hc : ∀ h : Fin 8, carry (ix2 h 0) = (cr h : EReal))
    (h : Fin 8) (j : Fin 256) :
    dl carry v (ix2 h j) = (((∑ i ∈ Finset.Ico j.val 256, y h i) + cr h : ℝ) : EReal) := by
  pointwise [dl, k0_pay7]
  simp only [tri_apply, hv, hc, sub_self_coe, sub_zero, zero_mul, Finset.sum_const_zero, add_zero, sum_from, ← EReal.coe_add]

/-- One chunk: its places from `j` on, and what is carried from the chunks after it. -/
theorem dl_suffix (carry : FVec Ideal S8x1 .f32) (v : FVec Ideal S8x256 .f32) (y : Fin 8 → ℕ → ℝ) (o : ℕ) (ho : o + 256 ≤ 2048)
    (hv : ∀ (h : Fin 8) (j : Fin 256), v (ix2 h j) = (y h (o + j.val) : EReal))
    (hc : ∀ h : Fin 8, carry (ix2 h 0) = ((∑ i ∈ Finset.Ico (o + 256) 2048, y h i : ℝ) : EReal)) (h : Fin 8) (j : Fin 256) :
    dl carry v (ix2 h j) = ((∑ i ∈ Finset.Ico (o + j.val) 2048, y h i : ℝ) : EReal) := by
  rw [dl_apply carry v (fun h n => y h (o + n)) _ hv hc h j]
  congr 1
  have hj := j.isLt
  rw [Finset.sum_Ico_add (fun n => y h n) j.val 256 o, Nat.add_comm j.val o, Nat.add_comm 256 o]
  exact Finset.sum_Ico_consecutive _ (by omega) ho

theorem lead_apply (d : FVec Ideal S8x256 .f32) (h : Fin 8) : lead d (ix2 h 0) = d (ix2 h 0) := by
  pointwise [lead]

theorem z1_apply (h : Fin 8) : z1 (ix2 h 0) = 0 := by
  pointwise [z1]

theorem gr_apply (d fa : FVec Ideal S8x256 .f32) (b : FVec Ideal S8x1 .f32) (h : Fin 8) (j : Fin 256) :
    gr d fa b (ix2 h j) = Ideal.div (d (ix2 h j)) (1 + Ideal.exp (fa (ix2 h j) + b (ix2 h 0))) := by
  pointwise [gr]
  try rw [EReal.coe_one]

theorem rs_apply (g : FVec Ideal S8x256 .f32) (h : Fin 8) : rs g (ix2 h 0) = ∑ j : Fin 256, g (ix2 h j) := by
  pointwise [rs]

theorem c7_apply (x : Vec Ideal S8x2048 .f32) (h : Fin 8) (j : Fin 256) : c7 x (ix2 h j) = x (ix2 h ⟨1792 + j.val, by omega⟩) := by
  pointwise [c7]

theorem c6_apply (x : Vec Ideal S8x2048 .f32) (h : Fin 8) (j : Fin 256) : c6 x (ix2 h j) = x (ix2 h ⟨1536 + j.val, by omega⟩) := by
  pointwise [c6]

theorem c5_apply (x : Vec Ideal S8x2048 .f32) (h : Fin 8) (j : Fin 256) : c5 x (ix2 h j) = x (ix2 h ⟨1280 + j.val, by omega⟩) := by
  pointwise [c5]

theorem c4_apply (x : Vec Ideal S8x2048 .f32) (h : Fin 8) (j : Fin 256) : c4 x (ix2 h j) = x (ix2 h ⟨1024 + j.val, by omega⟩) := by
  pointwise [c4]

theorem c3_apply (x : Vec Ideal S8x2048 .f32) (h : Fin 8) (j : Fin 256) : c3 x (ix2 h j) = x (ix2 h ⟨768 + j.val, by omega⟩) := by
  pointwise [c3]

theorem c2_apply (x : Vec Ideal S8x2048 .f32) (h : Fin 8) (j : Fin 256) : c2 x (ix2 h j) = x (ix2 h ⟨512 + j.val, by omega⟩) := by
  pointwise [c2]

theorem c1_apply (x : Vec Ideal S8x2048 .f32) (h : Fin 8) (j : Fin 256) : c1 x (ix2 h j) = x (ix2 h ⟨256 + j.val, by omega⟩) := by
  pointwise [c1]

theorem c0_apply (x : Vec Ideal S8x2048 .f32) (h : Fin 8) (j : Fin 256) : c0 x (ix2 h j) = x (ix2 h ⟨0 + j.val, by omega⟩) := by
  pointwise [c0]

/-- A sum over a block's columns, chunk by chunk. -/
theorem sum_chunks (R : Fin 2048 → EReal) :
    ∑ l, R l = ∑ k : Fin 8, ∑ j : Fin 256, R ⟨256 * k.val + j.val, by omega⟩ := by
  rw [← Fintype.sum_prod_type', ← Equiv.sum_comp (finProdFinEquiv (m := 8) (n := 256))]
  refine Finset.sum_congr rfl fun p _ => ?_
  congr 1
  apply Fin.ext
  show p.2.val + 256 * p.1.val = 256 * p.1.val + p.2.val
  omega

/-- A member of a list of eight with a property, from which of the eight has it. -/
theorem exists8 {α : Type} (P : α → Prop) (a0 a1 a2 a3 a4 a5 a6 a7 : α)
    (h : P a0 ∨ P a1 ∨ P a2 ∨ P a3 ∨ P a4 ∨ P a5 ∨ P a6 ∨ P a7) : ∃ p ∈ [a0, a1, a2, a3, a4, a5, a6, a7], P p := by
  simpa using h

theorem mem_cols (o : ℕ) (inb : ∀ a, (![0, o] : Fin 2 → ℕ) a + (![8, 256] : Fin 2 → ℕ) a ≤ S8x2048.size a) (i : S8x2048.Idx)
    (h0 : o ≤ (i 1).val) (h1 : (i 1).val < o + 256) : i ∈ (Rect.unit (s := S8x2048) ![0, o] ![8, 256] inb).set := by
  have h8 : (i 0).val < 8 := (i 0).isLt
  rw [Rect.mem_set_unit]
  intro a
  match a with
  | ⟨0, _⟩ => show 0 ≤ (i 0).val ∧ (i 0).val < 0 + 8; omega
  | ⟨1, _⟩ => show o ≤ (i 1).val ∧ (i 1).val < o + 256; omega

section Suffix
variable (x : Vec Ideal S8x2048 .f32) (y : Fin 8 → ℕ → ℝ) (hx : ∀ (h : Fin 8) (l : Fin 2048), x (ix2 h l) = (y h l.val : EReal))
include hx

theorem d7_suffix (h : Fin 8) (j : Fin 256) : d7 x (ix2 h j) = ((∑ i ∈ Finset.Ico (1792 + j.val) 2048, y h i : ℝ) : EReal) := by
  unfold d7
  exact dl_suffix _ _ y 1792 (by norm_num) (fun h j => by rw [c7_apply, hx]) (fun h => by rw [z1_apply]; simp) h j

theorem d6_suffix (h : Fin 8) (j : Fin 256) : d6 x (ix2 h j) = ((∑ i ∈ Finset.Ico (1536 + j.val) 2048, y h i : ℝ) : EReal) := by
  unfold d6
  exact dl_suffix _ _ y 1536 (by norm_num) (fun h j => by rw [c6_apply, hx]) (fun h => by rw [lead_apply, d7_suffix x y hx h 0]; rfl) h j

theorem d5_suffix (h : Fin 8) (j : Fin 256) : d5 x (ix2 h j) = ((∑ i ∈ Finset.Ico (1280 + j.val) 2048, y h i : ℝ) : EReal) := by
  unfold d5
  exact dl_suffix _ _ y 1280 (by norm_num) (fun h j => by rw [c5_apply, hx]) (fun h => by rw [lead_apply, d6_suffix x y hx h 0]; rfl) h j

theorem d4_suffix (h : Fin 8) (j : Fin 256) : d4 x (ix2 h j) = ((∑ i ∈ Finset.Ico (1024 + j.val) 2048, y h i : ℝ) : EReal) := by
  unfold d4
  exact dl_suffix _ _ y 1024 (by norm_num) (fun h j => by rw [c4_apply, hx]) (fun h => by rw [lead_apply, d5_suffix x y hx h 0]; rfl) h j

theorem d3_suffix (h : Fin 8) (j : Fin 256) : d3 x (ix2 h j) = ((∑ i ∈ Finset.Ico (768 + j.val) 2048, y h i : ℝ) : EReal) := by
  unfold d3
  exact dl_suffix _ _ y 768 (by norm_num) (fun h j => by rw [c3_apply, hx]) (fun h => by rw [lead_apply, d4_suffix x y hx h 0]; rfl) h j

theorem d2_suffix (h : Fin 8) (j : Fin 256) : d2 x (ix2 h j) = ((∑ i ∈ Finset.Ico (512 + j.val) 2048, y h i : ℝ) : EReal) := by
  unfold d2
  exact dl_suffix _ _ y 512 (by norm_num) (fun h j => by rw [c2_apply, hx]) (fun h => by rw [lead_apply, d3_suffix x y hx h 0]; rfl) h j

theorem d1_suffix (h : Fin 8) (j : Fin 256) : d1 x (ix2 h j) = ((∑ i ∈ Finset.Ico (256 + j.val) 2048, y h i : ℝ) : EReal) := by
  unfold d1
  exact dl_suffix _ _ y 256 (by norm_num) (fun h j => by rw [c1_apply, hx]) (fun h => by rw [lead_apply, d2_suffix x y hx h 0]; rfl) h j

theorem d0_suffix (h : Fin 8) (j : Fin 256) : d0 x (ix2 h j) = ((∑ i ∈ Finset.Ico (0 + j.val) 2048, y h i : ℝ) : EReal) := by
  unfold d0
  exact dl_suffix _ _ y 0 (by norm_num) (fun h j => by rw [c0_apply, hx]) (fun h => by rw [lead_apply, d1_suffix x y hx h 0]; rfl) h j

/-- What the body leaves of a block's rows, in closed form: the suffix sum over the gate's factor. -/
def rowCl (y : Fin 8 → ℕ → ℝ) (f : Vec Ideal S8x2048 .f32) (b : Vec Ideal S8x1 .f32) (i : S8x2048.Idx) : EReal :=
  Ideal.div ((∑ n ∈ Finset.Ico (i 1).val 2048, y (i 0) n : ℝ) : EReal) (1 + Ideal.exp (f i + b (ix2 (i 0) 0)))

theorem g0_apply (f : Vec Ideal S8x2048 .f32) (b : Vec Ideal S8x1 .f32) (h : Fin 8) (j : Fin 256) :
    g0 x f b (ix2 h j) = rowCl y f b (ix2 h ⟨0 + j.val, by omega⟩) := by
  unfold g0 rowCl
  rw [gr_apply, d0_suffix x y hx h j, c0_apply]
  rfl

theorem piece0 (f : Vec Ideal S8x2048 .f32) (b : Vec Ideal S8x1 .f32) (i : S8x256.Idx) :
    g0 x f b i = rowCl y f b ((Rect.unit (s := S8x2048) ![0, 0] ![8, 256] inb_S8x2048_S8x256_0_0).emb i) := by
  obtain ⟨h, j, rfl⟩ : ∃ (h : Fin 8) (j : Fin 256), i = ix2 h j := ⟨i 0, i 1, (ix2_eta i).symm⟩
  rw [g0_apply x y hx]
  congr 1
  funext a
  match a with
  | ⟨0, _⟩ => apply Fin.ext; show h.val = 0 + 1 * h.val; omega
  | ⟨1, _⟩ => apply Fin.ext; show 0 + j.val = 0 + 1 * j.val; omega

theorem g1_apply (f : Vec Ideal S8x2048 .f32) (b : Vec Ideal S8x1 .f32) (h : Fin 8) (j : Fin 256) :
    g1 x f b (ix2 h j) = rowCl y f b (ix2 h ⟨256 + j.val, by omega⟩) := by
  unfold g1 rowCl
  rw [gr_apply, d1_suffix x y hx h j, c1_apply]
  rfl

theorem piece1 (f : Vec Ideal S8x2048 .f32) (b : Vec Ideal S8x1 .f32) (i : S8x256.Idx) :
    g1 x f b i = rowCl y f b ((Rect.unit (s := S8x2048) ![0, 256] ![8, 256] inb_S8x2048_S8x256_0_256).emb i) := by
  obtain ⟨h, j, rfl⟩ : ∃ (h : Fin 8) (j : Fin 256), i = ix2 h j := ⟨i 0, i 1, (ix2_eta i).symm⟩
  rw [g1_apply x y hx]
  congr 1
  funext a
  match a with
  | ⟨0, _⟩ => apply Fin.ext; show h.val = 0 + 1 * h.val; omega
  | ⟨1, _⟩ => apply Fin.ext; show 256 + j.val = 256 + 1 * j.val; omega

theorem g2_apply (f : Vec Ideal S8x2048 .f32) (b : Vec Ideal S8x1 .f32) (h : Fin 8) (j : Fin 256) :
    g2 x f b (ix2 h j) = rowCl y f b (ix2 h ⟨512 + j.val, by omega⟩) := by
  unfold g2 rowCl
  rw [gr_apply, d2_suffix x y hx h j, c2_apply]
  rfl

theorem piece2 (f : Vec Ideal S8x2048 .f32) (b : Vec Ideal S8x1 .f32) (i : S8x256.Idx) :
    g2 x f b i = rowCl y f b ((Rect.unit (s := S8x2048) ![0, 512] ![8, 256] inb_S8x2048_S8x256_0_512).emb i) := by
  obtain ⟨h, j, rfl⟩ : ∃ (h : Fin 8) (j : Fin 256), i = ix2 h j := ⟨i 0, i 1, (ix2_eta i).symm⟩
  rw [g2_apply x y hx]
  congr 1
  funext a
  match a with
  | ⟨0, _⟩ => apply Fin.ext; show h.val = 0 + 1 * h.val; omega
  | ⟨1, _⟩ => apply Fin.ext; show 512 + j.val = 512 + 1 * j.val; omega

theorem g3_apply (f : Vec Ideal S8x2048 .f32) (b : Vec Ideal S8x1 .f32) (h : Fin 8) (j : Fin 256) :
    g3 x f b (ix2 h j) = rowCl y f b (ix2 h ⟨768 + j.val, by omega⟩) := by
  unfold g3 rowCl
  rw [gr_apply, d3_suffix x y hx h j, c3_apply]
  rfl

theorem piece3 (f : Vec Ideal S8x2048 .f32) (b : Vec Ideal S8x1 .f32) (i : S8x256.Idx) :
    g3 x f b i = rowCl y f b ((Rect.unit (s := S8x2048) ![0, 768] ![8, 256] inb_S8x2048_S8x256_0_768).emb i) := by
  obtain ⟨h, j, rfl⟩ : ∃ (h : Fin 8) (j : Fin 256), i = ix2 h j := ⟨i 0, i 1, (ix2_eta i).symm⟩
  rw [g3_apply x y hx]
  congr 1
  funext a
  match a with
  | ⟨0, _⟩ => apply Fin.ext; show h.val = 0 + 1 * h.val; omega
  | ⟨1, _⟩ => apply Fin.ext; show 768 + j.val = 768 + 1 * j.val; omega

theorem g4_apply (f : Vec Ideal S8x2048 .f32) (b : Vec Ideal S8x1 .f32) (h : Fin 8) (j : Fin 256) :
    g4 x f b (ix2 h j) = rowCl y f b (ix2 h ⟨1024 + j.val, by omega⟩) := by
  unfold g4 rowCl
  rw [gr_apply, d4_suffix x y hx h j, c4_apply]
  rfl

theorem piece4 (f : Vec Ideal S8x2048 .f32) (b : Vec Ideal S8x1 .f32) (i : S8x256.Idx) :
    g4 x f b i = rowCl y f b ((Rect.unit (s := S8x2048) ![0, 1024] ![8, 256] inb_S8x2048_S8x256_0_1024).emb i) := by
  obtain ⟨h, j, rfl⟩ : ∃ (h : Fin 8) (j : Fin 256), i = ix2 h j := ⟨i 0, i 1, (ix2_eta i).symm⟩
  rw [g4_apply x y hx]
  congr 1
  funext a
  match a with
  | ⟨0, _⟩ => apply Fin.ext; show h.val = 0 + 1 * h.val; omega
  | ⟨1, _⟩ => apply Fin.ext; show 1024 + j.val = 1024 + 1 * j.val; omega

theorem g5_apply (f : Vec Ideal S8x2048 .f32) (b : Vec Ideal S8x1 .f32) (h : Fin 8) (j : Fin 256) :
    g5 x f b (ix2 h j) = rowCl y f b (ix2 h ⟨1280 + j.val, by omega⟩) := by
  unfold g5 rowCl
  rw [gr_apply, d5_suffix x y hx h j, c5_apply]
  rfl

theorem piece5 (f : Vec Ideal S8x2048 .f32) (b : Vec Ideal S8x1 .f32) (i : S8x256.Idx) :
    g5 x f b i = rowCl y f b ((Rect.unit (s := S8x2048) ![0, 1280] ![8, 256] inb_S8x2048_S8x256_0_1280).emb i) := by
  obtain ⟨h, j, rfl⟩ : ∃ (h : Fin 8) (j : Fin 256), i = ix2 h j := ⟨i 0, i 1, (ix2_eta i).symm⟩
  rw [g5_apply x y hx]
  congr 1
  funext a
  match a with
  | ⟨0, _⟩ => apply Fin.ext; show h.val = 0 + 1 * h.val; omega
  | ⟨1, _⟩ => apply Fin.ext; show 1280 + j.val = 1280 + 1 * j.val; omega

theorem g6_apply (f : Vec Ideal S8x2048 .f32) (b : Vec Ideal S8x1 .f32) (h : Fin 8) (j : Fin 256) :
    g6 x f b (ix2 h j) = rowCl y f b (ix2 h ⟨1536 + j.val, by omega⟩) := by
  unfold g6 rowCl
  rw [gr_apply, d6_suffix x y hx h j, c6_apply]
  rfl

theorem piece6 (f : Vec Ideal S8x2048 .f32) (b : Vec Ideal S8x1 .f32) (i : S8x256.Idx) :
    g6 x f b i = rowCl y f b ((Rect.unit (s := S8x2048) ![0, 1536] ![8, 256] inb_S8x2048_S8x256_0_1536).emb i) := by
  obtain ⟨h, j, rfl⟩ : ∃ (h : Fin 8) (j : Fin 256), i = ix2 h j := ⟨i 0, i 1, (ix2_eta i).symm⟩
  rw [g6_apply x y hx]
  congr 1
  funext a
  match a with
  | ⟨0, _⟩ => apply Fin.ext; show h.val = 0 + 1 * h.val; omega
  | ⟨1, _⟩ => apply Fin.ext; show 1536 + j.val = 1536 + 1 * j.val; omega

theorem g7_apply (f : Vec Ideal S8x2048 .f32) (b : Vec Ideal S8x1 .f32) (h : Fin 8) (j : Fin 256) :
    g7 x f b (ix2 h j) = rowCl y f b (ix2 h ⟨1792 + j.val, by omega⟩) := by
  unfold g7 rowCl
  rw [gr_apply, d7_suffix x y hx h j, c7_apply]
  rfl

theorem piece7 (f : Vec Ideal S8x2048 .f32) (b : Vec Ideal S8x1 .f32) (i : S8x256.Idx) :
    g7 x f b i = rowCl y f b ((Rect.unit (s := S8x2048) ![0, 1792] ![8, 256] inb_S8x2048_S8x256_0_1792).emb i) := by
  obtain ⟨h, j, rfl⟩ : ∃ (h : Fin 8) (j : Fin 256), i = ix2 h j := ⟨i 0, i 1, (ix2_eta i).symm⟩
  rw [g7_apply x y hx]
  congr 1
  funext a
  match a with
  | ⟨0, _⟩ => apply Fin.ext; show h.val = 0 + 1 * h.val; omega
  | ⟨1, _⟩ => apply Fin.ext; show 1792 + j.val = 1792 + 1 * j.val; omega

/-- The eight chunks stored, read at a place of the block. -/
theorem canon_rows (f : Vec Ideal S8x2048 .f32) (b : Vec Ideal S8x1 .f32) (i : S8x2048.Idx) :
    (View.canon [⟨Rect.unit ![0, 0] ![8, 256] inb_S8x2048_S8x256_0_0, g0 x f b⟩, ⟨Rect.unit ![0, 256] ![8, 256] inb_S8x2048_S8x256_0_256, g1 x f b⟩, ⟨Rect.unit ![0, 512] ![8, 256] inb_S8x2048_S8x256_0_512, g2 x f b⟩, ⟨Rect.unit ![0, 768] ![8, 256] inb_S8x2048_S8x256_0_768, g3 x f b⟩, ⟨Rect.unit ![0, 1024] ![8, 256] inb_S8x2048_S8x256_0_1024, g4 x f b⟩, ⟨Rect.unit ![0, 1280] ![8, 256] inb_S8x2048_S8x256_0_1280, g5 x f b⟩, ⟨Rect.unit ![0, 1536] ![8, 256] inb_S8x2048_S8x256_0_1536, g6 x f b⟩, ⟨Rect.unit ![0, 1792] ![8, 256] inb_S8x2048_S8x256_0_1792, g7 x f b⟩] : Vec Ideal S8x2048 .f32) i = rowCl y f b i := by
  have h0 : (i 0).val < 8 := (i 0).isLt
  have h1 : (i 1).val < 2048 := (i 1).isLt
  refine View.canon_apply_of_pieces (Val := Elt Idealize.ShloMosaic.Ideal) (e := .f32) (rowCl y f b) _ ?_ i ?_
  · intro p hp
    simp only [List.mem_cons, List.not_mem_nil, or_false] at hp
    rcases hp with rfl | rfl | rfl | rfl | rfl | rfl | rfl | rfl
    · exact piece0 x y hx f b
    · exact piece1 x y hx f b
    · exact piece2 x y hx f b
    · exact piece3 x y hx f b
    · exact piece4 x y hx f b
    · exact piece5 x y hx f b
    · exact piece6 x y hx f b
    · exact piece7 x y hx f b
  · refine exists8 (fun p : (r : Rect S8x2048) × Vec Idealize.ShloMosaic.Ideal r.shape .f32 => i ∈ p.1.set) _ _ _ _ _ _ _ _ ?_
    have : (i 1).val / 256 = 0 ∨ (i 1).val / 256 = 1 ∨ (i 1).val / 256 = 2 ∨ (i 1).val / 256 = 3 ∨ (i 1).val / 256 = 4 ∨ (i 1).val / 256 = 5 ∨ (i 1).val / 256 = 6 ∨ (i 1).val / 256 = 7 := by omega
    rcases this with q | q | q | q | q | q | q | q
    · exact Or.inl (mem_cols 0 inb_S8x2048_S8x256_0_0 i (by omega) (by omega))
    · exact Or.inr (Or.inl (mem_cols 256 inb_S8x2048_S8x256_0_256 i (by omega) (by omega)))
    · exact Or.inr (Or.inr (Or.inl (mem_cols 512 inb_S8x2048_S8x256_0_512 i (by omega) (by omega))))
    · exact Or.inr (Or.inr (Or.inr (Or.inl (mem_cols 768 inb_S8x2048_S8x256_0_768 i (by omega) (by omega)))))
    · exact Or.inr (Or.inr (Or.inr (Or.inr (Or.inl (mem_cols 1024 inb_S8x2048_S8x256_0_1024 i (by omega) (by omega))))))
    · exact Or.inr (Or.inr (Or.inr (Or.inr (Or.inr (Or.inl (mem_cols 1280 inb_S8x2048_S8x256_0_1280 i (by omega) (by omega)))))))
    · exact Or.inr (Or.inr (Or.inr (Or.inr (Or.inr (Or.inr (Or.inl (mem_cols 1536 inb_S8x2048_S8x256_0_1536 i (by omega) (by omega))))))))
    · exact Or.inr (Or.inr (Or.inr (Or.inr (Or.inr (Or.inr (Or.inr (mem_cols 1792 inb_S8x2048_S8x256_0_1792 i (by omega) (by omega))))))))

/-- The block's row sums. -/
theorem b0_apply (f : Vec Ideal S8x2048 .f32) (b : Vec Ideal S8x1 .f32) (h : Fin 8) :
    b0 x f b (ix2 h 0) = ∑ l : Fin 2048, rowCl y f b (ix2 h l) := by
  rw [sum_chunks, Fin.sum_univ_eight]
  pointwise [b0, b1, b2, b3, b4, b5, b6, b7]
  simp only [rs_apply, z1_apply, zero_add, g0_apply x y hx, g1_apply x y hx, g2_apply x y hx, g3_apply x y hx, g4_apply x y hx, g5_apply x y hx, g6_apply x y hx, g7_apply x y hx]
  abel

end Suffix

end Cert.KernelIdeal.Gate
-- ==== Proof.GateArr.lean ====
/- The forget gate's backward call over its grid: the whole arrays it leaves, in closed form. -/
module

public import proofs.«01_k».proof.Proof.GateSum
public import proofs.«01_k».proof.Proof.Gen.KernelIdeal.Value

@[expose] public section

set_option maxRecDepth 16384

noncomputable section

namespace Cert.KernelIdeal.Gate

open Cert.KernelIdeal Cert.KernelIdeal.Gen Idealize.ShloMosaic Idealize.ShloMosaic.TcCoe Idealize.SL.Sem

variable (m : (ℓ : Loc nD τ sig) → Buf (Elt Idealize.ShloMosaic.Ideal) ℓ) (ρ : Dev nD → PrngReg)

/-- The cotangent, the gate logits and the bias the call is given. -/
abbrev argX (c : Dev nD) : Vec Ideal S8x8192 .f32 := m ((c : Thread nD τ).loc main_arg0)
abbrev argF (c : Dev nD) : Vec Ideal S8x8192 .f32 := m ((c : Thread nD τ).loc main_arg1)
abbrev argB (c : Dev nD) : Vec Ideal S8x1 .f32 := m ((c : Thread nD τ).loc main_arg2)

theorem N4 (t : Fin cfg0.N) : t.val < 4 := lt_of_lt_of_eq t.isLt N_0

/-- The point's blocks of the three. -/
abbrev xb (c : Dev nD) (t : Fin cfg0.N) : Vec Ideal S8x2048 .f32 := iblk m c 0 t
abbrev fb (c : Dev nD) (t : Fin cfg0.N) : Vec Ideal S8x2048 .f32 := iblk m c 1 t
abbrev bb (c : Dev nD) (t : Fin cfg0.N) : Vec Ideal S8x1 .f32 := iblk m c 2 t
/-- The finite values under a point's block. -/
abbrev yb (Y : Fin 8 → ℕ → ℝ) (t : ℕ) : Fin 8 → ℕ → ℝ := fun h n => Y h (2048 * t + n)

theorem iblk0_apply (c : Dev nD) (t : Fin cfg0.N) (h : Fin 8) (l : Fin 2048) :
    xb m c t (ix2 h l) = argX m c (ix2 h ⟨2048 * t.val + l.val, by have := N4 t; omega⟩) := by
  have hi : win0_0.index t 0 = 0 ∧ win0_0.index t 1 = t.val := by
    rcases fin_N0 t with rfl | rfl | rfl | rfl <;> decide
  show (iblk m c _ t) _ = _
  unfold iblk
  rw [View.read_apply]
  show V m c main_arg0 _ = m (c.tc.loc main_arg0) _
  unfold V
  congr 1
  funext a
  apply Fin.ext
  match a with
  | ⟨0, _⟩ => show win0_0.index t 0 * 8 + 1 * h.val = h.val; rw [hi.1]; omega
  | ⟨1, _⟩ => show win0_0.index t 1 * 2048 + 1 * l.val = 2048 * t.val + l.val; rw [hi.2]; omega

theorem iblk1_apply (c : Dev nD) (t : Fin cfg0.N) (h : Fin 8) (l : Fin 2048) :
    fb m c t (ix2 h l) = argF m c (ix2 h ⟨2048 * t.val + l.val, by have := N4 t; omega⟩) := by
  have hi : win0_1.index t 0 = 0 ∧ win0_1.index t 1 = t.val := by
    rcases fin_N0 t with rfl | rfl | rfl | rfl <;> decide
  show (iblk m c _ t) _ = _
  unfold iblk
  rw [View.read_apply]
  show V m c main_arg1 _ = m (c.tc.loc main_arg1) _
  unfold V
  congr 1
  funext a
  apply Fin.ext
  match a with
  | ⟨0, _⟩ => show win0_1.index t 0 * 8 + 1 * h.val = h.val; rw [hi.1]; omega
  | ⟨1, _⟩ => show win0_1.index t 1 * 2048 + 1 * l.val = 2048 * t.val + l.val; rw [hi.2]; omega

theorem iblk2_apply (c : Dev nD) (t : Fin cfg0.N) (h : Fin 8) :
    bb m c t (ix2 h 0) = argB m c (ix2 h 0) := by
  have hi : win0_2.index t 0 = 0 ∧ win0_2.index t 1 = 0 := by
    rcases fin_N0 t with rfl | rfl | rfl | rfl <;> decide
  show (iblk m c _ t) _ = _
  unfold iblk
  rw [View.read_apply]
  show V m c main_arg2 _ = m (c.tc.loc main_arg2) _
  unfold V
  congr 1
  funext a
  apply Fin.ext
  match a with
  | ⟨0, _⟩ => show win0_2.index t 0 * 8 + 1 * h.val = h.val; rw [hi.1]; omega
  | ⟨1, _⟩ => show win0_2.index t 1 * 1 + 1 * 0 = 0; rw [hi.2]

/-- The gradient of the logits: within a sequence, the cotangent's suffix sum over one plus the exponential. -/
def G0 (Y : Fin 8 → ℕ → ℝ) (c : Dev nD) (i : S8x8192.Idx) : EReal :=
  Ideal.div ((∑ n ∈ Finset.Ico ((i 1).val % 2048) 2048, Y (i 0) (2048 * ((i 1).val / 2048) + n) : ℝ) : EReal)
    (1 + Ideal.exp (argF m c i + argB m c (ix2 (i 0) 0)))

section Arr
variable (Y : Fin 8 → ℕ → ℝ) (c : Dev nD) (hY : ∀ (h : Fin 8) (n : Fin 8192), argX m c (ix2 h n) = (Y h n.val : EReal))
include hY

theorem blk_fin (t : Fin cfg0.N) (h : Fin 8) (l : Fin 2048) :
    xb m c t (ix2 h l) = (yb Y t.val h l.val : EReal) := by
  rw [iblk0_apply, hY]

omit hY in
theorem rowCl_blk (t : Fin cfg0.N) (h : Fin 8) (l : Fin 2048) :
    rowCl (yb Y t.val) (fb m c t) (bb m c t) (ix2 h l)
      = G0 m Y c (ix2 h ⟨2048 * t.val + l.val, by have := N4 t; omega⟩) := by
  have hl := l.isLt
  unfold rowCl G0
  show Ideal.div ((∑ n ∈ Finset.Ico l.val 2048, Y h (2048 * t.val + n) : ℝ) : EReal) (1 + Ideal.exp (fb m c t (ix2 h l) + bb m c t (ix2 h 0)))
    = Ideal.div ((∑ n ∈ Finset.Ico ((2048 * t.val + l.val) % 2048) 2048, Y h (2048 * ((2048 * t.val + l.val) / 2048) + n) : ℝ) : EReal)
      (1 + Ideal.exp (argF m c (ix2 h ⟨2048 * t.val + l.val, _⟩) + argB m c (ix2 h 0)))
  rw [iblk1_apply, iblk2_apply, show (2048 * t.val + l.val) % 2048 = l.val by omega, show (2048 * t.val + l.val) / 2048 = t.val by omega]

theorem outs3 (t : Fin cfg0.N) (h : Fin 8) (l : Fin 2048) :
    ((outsAt0 m c t.val t.isLt).1 : Vec Ideal S8x2048 .f32) (ix2 h l) = G0 m Y c (ix2 h ⟨2048 * t.val + l.val, by have := N4 t; omega⟩) := by
  by_cases h0 : t.val % 4 = 0
  · rw [outsAt0_A m c t h0]
    dsimp only
    rw [out3_A, canon_rows _ (yb Y t.val) (blk_fin m Y c hY t), rowCl_blk]
  · rw [outsAt0_B m c t h0]
    dsimp only
    rw [out3_B, canon_rows _ (yb Y t.val) (blk_fin m Y c hY t), rowCl_blk]

theorem flushed3_eq (t : Fin cfg0.N) (hf : (cfg0.win 3).flush t = true) :
    (dats m 0 c).flushed 3 t = ((cfg0.win 3).blk t).view.read (Elt Idealize.ShloMosaic.Ideal) (G0 m Y c) := by
  rw [Value.flushed3]
  funext j
  obtain ⟨h, l, rfl⟩ : ∃ (h : Fin 8) (l : Fin 2048), j = ix2 h l := ⟨j 0, j 1, (ix2_eta j).symm⟩
  have hi : win0_3.index t 0 = 0 ∧ win0_3.index t 1 = t.val := by
    rcases fin_N0 t with rfl | rfl | rfl | rfl <;> decide
  rw [View.read_apply]
  refine (outs3 m Y c hY t h l).trans ?_
  congr 1
  funext a
  apply Fin.ext
  match a with
  | ⟨0, _⟩ => show h.val = win0_3.index t 0 * 8 + 1 * h.val; rw [hi.1]; omega
  | ⟨1, _⟩ => show 2048 * t.val + l.val = win0_3.index t 1 * 2048 + 1 * l.val; rw [hi.2]; omega

theorem final3 : (dats m 0 c).arrAt 3 cfg0.N = G0 m Y c :=
  (dats m 0 c).arrAt_eq_of_cover 3 (G0 m Y c) (flushed3_eq m Y c hY) fun i => by
    have h0 : (i 0 : Nat) < 8 := (i 0).isLt
    have h1 : (i 1 : Nat) < 8192 := (i 1).isLt
    have ht : (i 1 : Nat) / 2048 < cfg0.N := by rw [show cfg0.N = 4 from N_0]; omega
    refine ⟨⟨(i 1 : Nat) / 2048, ht⟩, ?_, ?_⟩
    · rcases fin_N0 ⟨(i 1 : Nat) / 2048, ht⟩ with q | q | q | q <;> rw [q] <;> decide
    · show i ∈ ((View.whole main_v0_0).slice (win0_3.rect ⟨(i 1 : Nat) / 2048, ht⟩)).set
      have hi : win0_3.index ⟨(i 1 : Nat) / 2048, ht⟩ 0 = 0 ∧ win0_3.index ⟨(i 1 : Nat) / 2048, ht⟩ 1 = (i 1 : Nat) / 2048 := by
        have : ∀ t : Fin cfg0.N, win0_3.index t 0 = 0 ∧ win0_3.index t 1 = t.val := by
          intro t; rcases fin_N0 t with rfl | rfl | rfl | rfl <;> decide
        exact this _
      rw [View.set_slice_whole, Rect.mem_set_unit]
      intro a
      match a with
      | ⟨0, _⟩ => show win0_3.index ⟨(i 1 : Nat) / 2048, ht⟩ 0 * 8 ≤ (i 0 : Nat) ∧ (i 0 : Nat) < win0_3.index ⟨(i 1 : Nat) / 2048, ht⟩ 0 * 8 + 8
                  rw [hi.1]; omega
      | ⟨1, _⟩ => show win0_3.index ⟨(i 1 : Nat) / 2048, ht⟩ 1 * 2048 ≤ (i 1 : Nat) ∧ (i 1 : Nat) < win0_3.index ⟨(i 1 : Nat) / 2048, ht⟩ 1 * 2048 + 2048
                  rw [hi.2]; omega

/-- A sequence's row sums. -/
def seqSum (m : (ℓ : Loc nD τ sig) → Buf (Elt Idealize.ShloMosaic.Ideal) ℓ) (Y : Fin 8 → ℕ → ℝ) (c : Dev nD) (t : ℕ) (h : Fin 8) : EReal :=
  if ht : t < 4 then ∑ l : Fin 2048, G0 m Y c (ix2 h ⟨2048 * t + l.val, by omega⟩) else 0

theorem b0_blk (t : Fin cfg0.N) (h : Fin 8) :
    b0 (xb m c t) (fb m c t) (bb m c t) (ix2 h 0) = seqSum m Y c t.val h := by
  rw [b0_apply _ (yb Y t.val) (blk_fin m Y c hY t), seqSum, dif_pos (N4 t)]
  exact Finset.sum_congr rfl fun l _ => rowCl_blk m Y c t h l

theorem outs4 : ∀ (n : ℕ) (hn : n < cfg0.N) (h : Fin 8) (l : Fin 128),
    ((outsAt0 m c n hn).2 : Vec Ideal S8x128 .f32) (ix2 h l) = ∑ t ∈ Finset.range (n + 1), seqSum m Y c t h
  | 0, hn, h, l => by
    rw [outsAt0_A m c ⟨0, hn⟩ rfl]
    dsimp only
    rw [out4_A]
    pointwise [k0_pay1]
    exact (b0_blk m Y c hY ⟨0, hn⟩ h).trans (by simp)
  | n + 1, hn, h, l => by
    have hN : cfg0.N = 4 := N_0
    have hB : ¬(⟨n + 1, hn⟩ : Fin cfg0.N).val % 4 = 0 := by dsimp only; omega
    rw [outsAt0_B m c ⟨n + 1, hn⟩ hB]
    dsimp only
    rw [out4_B]
    pointwise []
    rw [Finset.sum_range_succ]
    exact congrArg₂ (· + ·) (outs4 n _ h l) (b0_blk m Y c hY ⟨n + 1, hn⟩ h)

omit hY in
theorem sum_seqs (h : Fin 8) : ∑ t ∈ Finset.range 4, seqSum m Y c t h = ∑ n : Fin 8192, G0 m Y c (ix2 h n) := by
  have e : ∑ n : Fin 8192, G0 m Y c (ix2 h n)
      = ∑ k : Fin 4, ∑ l : Fin 2048, G0 m Y c (ix2 h ⟨2048 * k.val + l.val, by omega⟩) := by
    rw [← Fintype.sum_prod_type', ← Equiv.sum_comp (finProdFinEquiv (m := 4) (n := 2048))]
    refine Finset.sum_congr rfl fun p _ => ?_
    congr 2
    apply Fin.ext
    show p.2.val + 2048 * p.1.val = 2048 * p.1.val + p.2.val
    omega
  rw [e, ← Fin.sum_univ_eq_sum_range (fun t => seqSum m Y c t h) 4]
  refine Finset.sum_congr rfl fun k _ => ?_
  rw [seqSum, dif_pos k.isLt]

/-- The gradient of the bias, in every lane. -/
def G1 (m : (ℓ : Loc nD τ sig) → Buf (Elt Idealize.ShloMosaic.Ideal) ℓ) (Y : Fin 8 → ℕ → ℝ) (c : Dev nD) (i : S8x128.Idx) : EReal :=
  ∑ n : Fin 8192, G0 m Y c (ix2 (i 0) n)

theorem flushed4_eq (t : Fin cfg0.N) (hf : (cfg0.win 4).flush t = true) :
    (dats m 0 c).flushed 4 t = ((cfg0.win 4).blk t).view.read (Elt Idealize.ShloMosaic.Ideal) (G1 m Y c) := by
  have h3 : t.val = 3 := by have := (flush0_4 t).mp hf; have := N4 t; omega
  rw [Value.flushed4]
  funext j
  obtain ⟨h, l, rfl⟩ : ∃ (h : Fin 8) (l : Fin 128), j = ix2 h l := ⟨j 0, j 1, (ix2_eta j).symm⟩
  have hi : win0_4.index t 0 = 0 ∧ win0_4.index t 1 = 0 := by
    rcases fin_N0 t with rfl | rfl | rfl | rfl <;> decide
  rw [View.read_apply]
  refine (outs4 m Y c hY t.val t.isLt h l).trans ?_
  rw [h3, sum_seqs]
  show _ = ∑ n : Fin 8192, G0 m Y c (ix2 _ n)
  congr 2
  funext n
  congr 2
  apply Fin.ext
  show h.val = win0_4.index t 0 * 8 + 1 * h.val
  rw [hi.1]; omega

theorem final4 : (dats m 0 c).arrAt 4 cfg0.N = G1 m Y c :=
  (dats m 0 c).arrAt_eq_of_cover 4 (G1 m Y c) (flushed4_eq m Y c hY) fun i =>
    ⟨t0_3, (flush0_4 t0_3).mpr rfl, by
      have h0 : (i 0 : Nat) < 8 := (i 0).isLt
      have h1 : (i 1 : Nat) < 128 := (i 1).isLt
      have hi : win0_4.index t0_3 0 = 0 ∧ win0_4.index t0_3 1 = 0 := by decide
      show i ∈ ((View.whole main_v0_1).slice (win0_4.rect t0_3)).set
      rw [View.set_slice_whole, Rect.mem_set_unit]
      intro a
      match a with
      | ⟨0, _⟩ => show win0_4.index t0_3 0 * 8 ≤ (i 0 : Nat) ∧ (i 0 : Nat) < win0_4.index t0_3 0 * 8 + 8
                  rw [hi.1]; omega
      | ⟨1, _⟩ => show win0_4.index t0_3 1 * 128 ≤ (i 1 : Nat) ∧ (i 1 : Nat) < win0_4.index t0_3 1 * 128 + 128
                  rw [hi.2]; omega⟩

end Arr

/-- The run, read: both gradients in closed form, the arguments unchanged. -/
theorem run (Y : Dev nD → Fin 8 → ℕ → ℝ) (hY : ∀ c (h : Fin 8) (n : Fin 8192), argX m c (ix2 h n) = (Y c h n.val : EReal)) :
    θ_run defs (onTc (τ := τ) (main (F := Idealize.ShloMosaic.Ideal))) ⟨m, fun _ => 0, ρ⟩ fun r => ∀ c : Dev nD,
      r.2.mem ((c : Thread nD τ).loc main_v0_0) = G0 m (Y c) c
      ∧ r.2.mem ((c : Thread nD τ).loc main_v0_1) = G1 m (Y c) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m (Y c) c (hY c)), (h c).2.1.trans (final4 m (Y c) c (hY c)), (h c).2.2⟩)
    (Value.run_blocks m ρ)

end Cert.KernelIdeal.Gate
-- ==== Proof.GateRef.lean ====
/- The reference's gradients read at a place: the suffix sum and the gate's factor. -/
module

public import proofs.«01_k».proof.Proof.GateSum
public import proofs.«01_k».proof.Proof.Gen.ReferenceIdeal.Run
public import proofs.«01_k».proof.Proof.Gen.ReferenceIdeal.Read

@[expose] public section

set_option maxRecDepth 16384

noncomputable section

namespace Cert.ReferenceIdeal.Gate

open Cert.ReferenceIdeal Cert.ReferenceIdeal.Gen Cert.ReferenceIdeal.Value Cert.ReferenceIdeal.Read Idealize.ShloMosaic Idealize.ShloMosaic.TcCoe Idealize.SL.Sem

theorem inf_word : Ideal.ofBits .f32 0x7F800000#32 = ⊤ := by simp [Ideal.ofBits, Ideal.ieee]

theorem coe_max' (a b : ℝ) : ((max a b : ℝ) : EReal) = max (a : EReal) (b : EReal) := EReal.coe_strictMono.monotone.map_max

theorem negf_neg (x : EReal) : (FloatOps.negf (F := Ideal) (φ := .f32) x : EReal) = -x := rfl
theorem absf_max (x : EReal) : (FloatOps.absf (F := Ideal) (φ := .f32) x : EReal) = max x (-x) := rfl

/-- `exp (x - log (e^x + 1))` as it is differentiated, at the negated gate logit. -/
theorem fac_apply (x1 : Vec Ideal S8x8192 .f32) (x2 : Vec Ideal S8x1 .f32) (i : S8x8192.Idx) (z : EReal)
    (hz : x1 i + x2 (idx_main_v0 i) = z) (s : ℝ) :
    (s : EReal) * val_main_v2_1 (F := Ideal) x1 x2 i = Ideal.div (s : EReal) (1 + Ideal.exp z) := by
  have h0 : val_main_call0_v0 (F := Ideal) x1 x2 i = -z := by
    rw [val_main_call0_v0_apply, val_main_v1_apply, val_main_v0_apply, Ideal.addf_def, hz]; rfl
  have zero : ∀ j : S_.Idx, val_main_call0_call0_cst (F := Ideal) j = 0 := fun j => Ideal.ofBits_zero_f32
  rw [val_main_v2_1_apply, val_main_call0_call0_v21_apply, val_main_call0_call0_v20_apply, val_main_call0_call0_v19_apply,
    val_main_call0_call0_v18_apply, val_main_call0_call0_v17_apply, val_main_call0_call0_v16_apply, val_main_call0_call0_v15_apply,
    val_main_call0_call0_v14_apply, val_main_call0_call0_v13_apply, val_main_call0_v1_0_apply, val_main_call0_call0_v11_apply,
    val_main_call0_call0_v10_apply, val_main_call0_call0_v9_apply, val_main_call0_call0_v8_apply, val_main_call0_call0_v7_apply,
    val_main_call0_call0_v6_apply, val_main_call0_call0_v5_apply, val_main_call0_call0_v4_apply, val_main_call0_call0_v3_apply,
    val_main_call0_call0_v2_apply, val_main_call0_call0_v1_apply, val_main_call0_call0_v0_apply, zero,
    val_main_call0_call0_cst_0_apply, val_main_call0_call0_cst_1_apply, val_main_call0_call0_cst_2_apply, val_main_call0_call0_cst_3_apply, h0]
  simp only [Ideal.ofBits_def, Ideal.ofBits_zero_f32, inf_word, Ideal.cmpf_def, Ideal.cmp, ne_eq, not_true_eq_false, decide_false,
    Ideal.subf_def, Ideal.addf_def, Ideal.maximumf_def, Ideal.hostNegf_def, Ideal.hostAbsf_def, Ideal.hostUnary_exp_def, Ideal.hostUnary_log1p_def, sub_zero, add_zero,
    Scalar.select, Ideal.log1p, WordCmp.ofBool_eq_one_iff', decide_eq_true_eq, Bool.false_eq_true, if_false, negf_neg, absf_max]
  clear h0 hz zero
  induction z with
  | bot =>
    have e1 : max (⊤ : EReal) 0 + Ideal.log (1 + Ideal.exp (-max (⊤ : EReal) (-⊤))) = ⊤ := by
      rw [EReal.neg_top, max_eq_left bot_le, EReal.neg_top, Ideal.exp_bot, add_zero, max_eq_left le_top, show (1 : EReal) = ((1 : ℝ) : EReal) from rfl, Ideal.log_coe]
      simp
    rw [EReal.neg_bot, e1, if_pos rfl, sub_zero, Ideal.exp_bot, add_zero]
    have e2 : Ideal.exp 0 = 1 := by
      rw [show (0 : EReal) = ((0 : ℝ) : EReal) from rfl, Ideal.exp_coe, Real.exp_zero]; rfl
    rw [e2, mul_one, show (1 : EReal) = ((1 : ℝ) : EReal) from rfl, Ideal.div_coe one_ne_zero]
    simp
  | top =>
    have e1 : max (⊥ : EReal) 0 + Ideal.log (1 + Ideal.exp (-max (⊥ : EReal) (-⊥))) = 0 := by
      rw [EReal.neg_bot, max_eq_right bot_le, max_eq_right bot_le, EReal.neg_top, Ideal.exp_bot, add_zero, zero_add, show (1 : EReal) = ((1 : ℝ) : EReal) from rfl, Ideal.log_coe]
      simp
    rw [EReal.neg_top, e1, if_neg (by simp), if_neg (by simp), sub_zero, Ideal.exp_bot, mul_zero, Ideal.exp_top]
    rw [show (1 : EReal) + ⊤ = ⊤ from rfl]
    unfold Ideal.div
    rw [if_neg (by simp), EReal.inv_top, mul_zero]
  | coe r =>
    have hp : ∀ x : ℝ, 0 < 1 + Real.exp x := fun x => by positivity
    have e1 : max (-(r : EReal)) 0 + Ideal.log (1 + Ideal.exp (-max (-(r : EReal)) (- -(r : EReal)))) = ((Real.log (1 + Real.exp (-r)) : ℝ) : EReal) := by
      rw [← EReal.coe_neg, ← EReal.coe_neg, ← coe_max', ← EReal.coe_neg, Ideal.exp_coe, show (1 : EReal) = ((1 : ℝ) : EReal) from rfl, ← EReal.coe_add,
        Ideal.log_coe, if_neg (not_le.mpr (hp _)), show (0 : EReal) = ((0 : ℝ) : EReal) from rfl, ← coe_max', ← EReal.coe_add]
      congr 1
      rw [neg_neg]
      rcases le_total 0 r with h | h
      · rw [max_eq_right (by linarith : -r ≤ 0), max_eq_right (by linarith : -r ≤ r), zero_add]
      · rw [max_eq_left (by linarith : 0 ≤ -r), max_eq_left (by linarith : r ≤ -r), neg_neg]
        have : 1 + Real.exp (-r) = Real.exp (-r) * (1 + Real.exp r) := by
          rw [mul_add, mul_one, ← Real.exp_add, neg_add_cancel, Real.exp_zero]; ring
        rw [this, Real.log_mul (Real.exp_ne_zero _) (hp _).ne', Real.log_exp]
    rw [e1, if_neg (EReal.coe_ne_top _), if_neg (by rw [← EReal.coe_neg]; exact EReal.coe_ne_top _), ← EReal.coe_neg, ← EReal.coe_sub, Ideal.exp_coe, Ideal.exp_coe,
      show (1 : EReal) = ((1 : ℝ) : EReal) from rfl, ← EReal.coe_add, Ideal.div_coe (hp r).ne']
    congr 2
    rw [Real.exp_sub, Real.exp_log (hp _), div_eq_div_iff (hp _).ne' (hp _).ne', one_mul, mul_add, mul_one, ← Real.exp_add, neg_add_cancel, Real.exp_zero]
    ring

/-- What a window's position reads of its operand: the element there, or zero in the padding. -/
def at_window {s : Shape} (strides lo : Fin s.rank → ℕ) (x : s.Idx → EReal) (j w : Fin s.rank → ℕ) : EReal :=
  if hin : ∀ a, lo a ≤ j a * strides a + w a ∧ j a * strides a + w a - lo a < s.size a
    then x (fun a => ⟨j a * strides a + w a - lo a, (hin a).2⟩) else 0

/-- A window's sum is the sum over its positions. -/
theorem window_sum {s t : Shape} (window strides lo hi : Fin s.rank → ℕ) (x : s.Idx → EReal)
    (h : s.ReduceWindows window strides lo hi t) (hu : 0 < (⟨0, ![]⟩ : Shape).numel) (j : t.Idx) :
    Host.reduceWindow (· + ·) window strides lo hi x (fun _ : (⟨0, ![]⟩ : Shape).Idx => (0 : EReal)) h hu j
      = ∑ w : (⟨s.rank, window⟩ : Shape).Idx, at_window strides lo x (fun a => (j (a.cast h.1.symm)).val) (fun a => (w a).val) := by
  rw [sum_idx_eq_foldl]
  unfold Host.reduceWindow
  dsimp only
  congr 1
  funext r n
  congr 1
  unfold at_window
  by_cases hin : ∀ a : Fin s.rank, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · rw [dif_pos hin, dif_pos hin]
  · rw [dif_neg hin, dif_neg hin]

/-- The reversed running sum within a sequence, at a place: the sum from that place on. -/
theorem v7_apply (x0 : Vec Ideal S8x8192 .f32) (y : Fin 8 → ℕ → ℝ) (hy : ∀ (h : Fin 8) (n : Fin 8192), x0 (ix2 h n) = (y h n.val : EReal))
    (h : Fin 8) (q : Fin 4) (l : Fin 2048) :
    val_main_v7 (F := Ideal) x0 (ix3 h q l) = ((∑ n ∈ Finset.Ico l.val 2048, y h (2048 * q.val + n) : ℝ) : EReal) := by
  have hl := l.isLt
  have hq := q.isLt
  have h6 : ∀ k : Fin 2048, val_main_v6 (F := Ideal) x0 (ix3 h q k) = (y h (2048 * q.val + k.val) : EReal) := by
    intro k
    rw [val_main_v6_apply, ← hy h ⟨2048 * q.val + k.val, by omega⟩]
    congr 1
    funext a
    apply Fin.ext
    have := h.isLt
    match a with
    | ⟨0, _⟩ => show ((h.val * 4 + q.val) * 2048 + k.val) / 8192 = h.val; omega
    | ⟨1, _⟩ => show ((h.val * 4 + q.val) * 2048 + k.val) % 8192 = 2048 * q.val + k.val; omega
  have h0 : (val_main_call2_call0_v0 (F := Ideal)) (Shape.Idx.first h_S_) = 0 := by
    rw [val_main_call2_call0_v0_apply, val_main_call2_call0_cst_apply]; exact Ideal.ofBits_zero_f32
  unfold val_main_v7 Host.reduceWindowAdd
  rw [Ideal.hostReduceWindowAdd_def, h0]
  unfold Ideal.hostReduceWindowAdd
  rw [window_sum]
  generalize val_main_v6 (F := Ideal) x0 = x6 at h6
  rw [sum_idx3]
  simp only [Fin.sum_univ_one]
  have ht : ∀ k : Fin 2048, at_window ![1, 1, 1] ![0, 0, 0] x6 (fun a => (ix3 h q l a).val) (fun a => (ix3 (0 : Fin 1) (0 : Fin 1) k a).val)
      = ((if l.val + k.val < 2048 then y h (2048 * q.val + (l.val + k.val)) else 0 : ℝ) : EReal) := by
    intro k
    unfold at_window
    by_cases hk : l.val + k.val < 2048
    · rw [dif_pos (fun a => by
          match a with
          | ⟨0, _⟩ => exact ⟨Nat.zero_le _, (by show h.val * 1 + 0 - 0 < 8; omega)⟩
          | ⟨1, _⟩ => exact ⟨Nat.zero_le _, (by show q.val * 1 + 0 - 0 < 4; omega)⟩
          | ⟨2, _⟩ => exact ⟨Nat.zero_le _, (by show l.val * 1 + k.val - 0 < 2048; omega)⟩), if_pos hk]
      rw [← h6 ⟨l.val + k.val, hk⟩]
      congr 1
      funext a
      apply Fin.ext
      match a with
      | ⟨0, _⟩ => show h.val * 1 + 0 - 0 = h.val; omega
      | ⟨1, _⟩ => show q.val * 1 + 0 - 0 = q.val; omega
      | ⟨2, _⟩ => show l.val * 1 + k.val - 0 = l.val + k.val; omega
    · rw [dif_neg (fun hin => by
          have : l.val * 1 + k.val - 0 < 2048 := (hin (2 : Fin 3)).2
          omega), if_neg hk]
      rfl
  refine (Finset.sum_congr rfl fun k _ => ht k).trans ?_
  rw [← Cert.KernelIdeal.Gate.coe_sum_real]
  congr 1
  rw [Fin.sum_univ_eq_sum_range (fun k => if l.val + k < 2048 then y h (2048 * q.val + (l.val + k)) else 0) 2048, ← Finset.sum_filter]
  refine Finset.sum_bij (fun k _ => l.val + k) ?_ ?_ ?_ ?_
  · intro k hk; simp only [Finset.mem_filter, Finset.mem_range] at hk; simp only [Finset.mem_Ico]; omega
  · intro a _ b _ hab; omega
  · intro n hn
    simp only [Finset.mem_Ico] at hn
    exact ⟨n - l.val, by simp only [Finset.mem_filter, Finset.mem_range]; omega, by omega⟩
  · intro k _; rfl

/-- The gradient of the logits, at a place. -/
theorem v9_apply (x0 x1 : Vec Ideal S8x8192 .f32) (x2 : Vec Ideal S8x1 .f32) (y : Fin 8 → ℕ → ℝ)
    (hy : ∀ (h : Fin 8) (n : Fin 8192), x0 (ix2 h n) = (y h n.val : EReal)) (h : Fin 8) (n : Fin 8192) :
    val_main_v9 (F := Ideal) x0 x1 x2 (ix2 h n)
      = Ideal.div ((∑ k ∈ Finset.Ico (n.val % 2048) 2048, y h (2048 * (n.val / 2048) + k) : ℝ) : EReal) (1 + Ideal.exp (x1 (ix2 h n) + x2 (ix2 h 0))) := by
  have hn := n.isLt
  have hh := h.isLt
  have e8 : val_main_v8 (F := Ideal) x0 (ix2 h n) = ((∑ k ∈ Finset.Ico (n.val % 2048) 2048, y h (2048 * (n.val / 2048) + k) : ℝ) : EReal) := by
    rw [val_main_v8_apply, ← v7_apply x0 y hy h ⟨n.val / 2048, by omega⟩ ⟨n.val % 2048, by omega⟩]
    congr 1
    funext a
    apply Fin.ext
    match a with
    | ⟨0, _⟩ => show (h.val * 8192 + n.val) / 8192 = h.val; omega
    | ⟨1, _⟩ => show (h.val * 8192 + n.val) / 2048 % 4 = n.val / 2048; omega
    | ⟨2, _⟩ => show (h.val * 8192 + n.val) % 2048 = n.val % 2048; omega
  rw [val_main_v9_apply, val_main_call3_v1_apply, val_main_call3_v0_apply, e8, Ideal.hostNegf_def, Ideal.hostNegf_def, Ideal.mulf_def]
  show -(-(_ : EReal) * _) = _
  rw [neg_mul, neg_neg]
  refine fac_apply x1 x2 (ix2 h n) _ (congrArg (fun k => x1 (ix2 h n) + x2 k) ?_) _
  funext a
  apply Fin.ext
  match a with
  | ⟨0, _⟩ => rfl
  | ⟨1, _⟩ => rfl

/-- The gradient of the bias, in every lane. -/
theorem v12_apply (x0 x1 : Vec Ideal S8x8192 .f32) (x2 : Vec Ideal S8x1 .f32) (h : Fin 8) (l : Fin 128) :
    val_main_v12 (F := Ideal) x0 x1 x2 (ix2 h l) = ∑ n : Fin 8192, val_main_v9 (F := Ideal) x0 x1 x2 (ix2 h n) := by
  rw [val_main_v12_apply, val_main_v11_apply, val_main_v10_apply, val_main_cst_apply]
  rw [Ideal.ofBits_def, Ideal.ofBits_zero_f32, zero_add]
  refine Finset.sum_congr rfl fun n _ => ?_
  congr 1
  funext a
  apply Fin.ext
  match a with
  | ⟨0, _⟩ => show h.val * 1 + 0 = h.val; omega
  | ⟨1, _⟩ => rfl

end Cert.ReferenceIdeal.Gate
-- ==== Proof.GateClaim.lean ====
/- The forget gate's backward call: its claims. -/
module

public import proofs.«01_k».proof.Defs
public import proofs.«01_k».proof.Proof.Gen.Kernel.Frame
public import proofs.«01_k».proof.Proof.GateArr
public import proofs.«01_k».proof.Proof.GateRef

@[expose] public section

set_option maxRecDepth 16384

noncomputable section

namespace Cert.Proof.Gate

open Idealize.ShloMosaic Idealize.SL.Sem

/-- The precondition's own side condition. -/
theorem preFacts : Cert.Pre_finite.Facts := ⟨by decide⟩

theorem frame_kernel : Cert.quiescent_Kernel (hKernel := Cert.Kernel.Gen.facts) := fun m ρ _ => Cert.Kernel.Gen.frame m ρ

theorem frame_ideal : Cert.quiescent_KernelIdeal (hKernelIdeal := Cert.KernelIdeal.Gen.facts) :=
  fun m ρ _ => Cert.KernelIdeal.Gen.frame m ρ

theorem frame_ideal_pre : Cert.quiescent_KernelIdeal_pre_finite (hKernelIdeal := Cert.KernelIdeal.Gen.facts) (hPre_finite := preFacts) :=
  fun m ρ _ => Cert.KernelIdeal.Gen.frame m ρ

/-- The reference's arguments are kept, and it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference_pre : Cert.quiescent_ReferenceIdeal_pre_finite (hReferenceIdeal := Cert.ReferenceIdeal.Gen.facts) (hPre_finite := preFacts) :=
  fun m ρ _ => frame_reference m ρ trivial

/-- An element below infinity in absolute value is a real number. -/
theorem coe_of_abs_lt (x : EReal) (h : Ideal.cmp .olt (max x (-x)) (Ideal.ofBits .f32 0x7F800000#32) = 1#1) : x = ((x.toReal : ℝ) : EReal) := by
  rw [Cert.ReferenceIdeal.Gate.inf_word] at h
  have h' : max x (-x) < ⊤ := by
    by_contra hn
    rw [show Ideal.cmp .olt (max x (-x)) ⊤ = BitVec.ofBool (decide (max x (-x) < ⊤)) from rfl, decide_eq_false hn] at h
    exact absurd h (by decide)
  refine (EReal.coe_toReal ?_ ?_).symm
  · rintro rfl; simp at h'
  · rintro rfl; simp at h'

theorem finite_coe (m : (ℓ : Loc Cert.KernelIdeal.nD Cert.KernelIdeal.τ Cert.KernelIdeal.sig) → Buf (Elt Ideal) ℓ)
    (hp : Cert.Pre_KernelIdeal_finite (hPre_finite := preFacts) m) (c : Dev Cert.KernelIdeal.nD) (i : Cert.KernelIdeal.S8x8192.Idx) :
    Cert.KernelIdeal.Gate.argX m c i = (((Cert.KernelIdeal.Gate.argX m c i).toReal : ℝ) : EReal) :=
  coe_of_abs_lt _ (congrFun (hp c) i)

theorem algebraic : Cert.algebraic_KernelIdeal_ReferenceIdeal_pre_finite (hKernelIdeal := Cert.KernelIdeal.Gen.facts)
    (hReferenceIdeal := Cert.ReferenceIdeal.Gen.facts) (hPre_finite := preFacts) := by
  intro m ρ m' ρ' hp hag
  let Y : Dev Cert.KernelIdeal.nD → Fin 8 → ℕ → ℝ := fun c h n =>
    if hn : n < 8192 then (Cert.KernelIdeal.Gate.argX m c (ix2 h ⟨n, hn⟩)).toReal else 0
  have hY : ∀ c (h : Fin 8) (n : Fin 8192), Cert.KernelIdeal.Gate.argX m c (ix2 h n) = (Y c h n.val : EReal) := by
    intro c h n
    rw [finite_coe m hp c (ix2 h n)]
    simp only [Y, dif_pos n.isLt]
  refine ⟨fun c => Cert.KernelIdeal.Gate.G0 m (Y c) c, fun c => Cert.KernelIdeal.Gate.G1 m (Y c) c, Cert.KernelIdeal.Gate.run m ρ Y hY, ?_⟩
  refine (θ_run Cert.ReferenceIdeal.defs _ _).mono (fun r h c => ?_) (Cert.ReferenceIdeal.Value.run (F := Ideal) m' ρ')
  obtain ⟨e0, e1, ek⟩ := h c
  obtain ⟨a0, a1, a2⟩ := hag c
  have k0 : ∀ (h : Fin 8) (n : Fin 8192), Cert.ReferenceIdeal.Read.val_main_v9 (F := Ideal) (Cert.KernelIdeal.Gate.argX m c) (Cert.KernelIdeal.Gate.argF m c) (Cert.KernelIdeal.Gate.argB m c) (ix2 h n)
      = Cert.KernelIdeal.Gate.G0 m (Y c) c (ix2 h n) := fun h n =>
    Cert.ReferenceIdeal.Gate.v9_apply _ _ _ (Y c) (hY c) h n
  rw [a0, a1, a2] at e0 e1
  refine ⟨e0.trans ?_, e1.trans ?_, ek⟩
  · show Cert.ReferenceIdeal.Read.val_main_v9 (F := Ideal) (Cert.KernelIdeal.Gate.argX m c) (Cert.KernelIdeal.Gate.argF m c) (Cert.KernelIdeal.Gate.argB m c) = _
    funext i
    obtain ⟨h, n, rfl⟩ : ∃ (h : Fin 8) (n : Fin 8192), i = ix2 h n := ⟨i 0, i 1, (ix2_eta i).symm⟩
    exact k0 h n
  · show Cert.ReferenceIdeal.Read.val_main_v12 (F := Ideal) (Cert.KernelIdeal.Gate.argX m c) (Cert.KernelIdeal.Gate.argF m c) (Cert.KernelIdeal.Gate.argB m c) = _
    funext i
    obtain ⟨h, l, rfl⟩ : ∃ (h : Fin 8) (l : Fin 128), i = ix2 h l := ⟨i 0, i 1, (ix2_eta i).symm⟩
    rw [Cert.ReferenceIdeal.Gate.v12_apply]
    exact Finset.sum_congr rfl fun n _ => k0 h n

end Cert.Proof.Gate
-- ==== Proof.FfnReal.lean ====
/- The feed-forward block's training step written over the real numbers, one token at a time, and the readings of its
   elementary steps as extended reals. -/
module

public import proofs.«01_k».proof.Proof.GateSum
public import Mathlib.Analysis.SpecialFunctions.Exp

@[expose] public section

noncomputable section

namespace Cert.Ffn

open Idealize.ShloMosaic

/-- The number added under the root. -/
def eps : ℝ := 8796093 / 8796093022208

theorem eps_pos : 0 < eps := by unfold eps; norm_num

/-- The mean square of a token's row, the small number added. -/
def ms (x : Fin 1024 → ℝ) : ℝ := (∑ k, x k * x k) / 1024 + eps
theorem ms_pos (x : Fin 1024 → ℝ) : 0 < ms x := by
  have h : 0 ≤ ∑ k, x k * x k := Finset.sum_nonneg fun k _ => mul_self_nonneg _
  have := eps_pos
  unfold ms; positivity
/-- The reciprocal root mean square. -/
def rr (x : Fin 1024 → ℝ) : ℝ := (√(ms x))⁻¹
/-- The row divided by its root mean square. -/
def xh (x : Fin 1024 → ℝ) (k : Fin 1024) : ℝ := x k * rr x
/-- The normalised row. -/
def hh (x g : Fin 1024 → ℝ) (k : Fin 1024) : ℝ := xh x k * g k
/-- A row times a matrix. -/
def pr (h : Fin 1024 → ℝ) (W : Fin 1024 → Fin 2816 → ℝ) (f : Fin 2816) : ℝ := ∑ k, h k * W k f
/-- The logistic function. -/
def sg (a : ℝ) : ℝ := 1 / (1 + Real.exp (-a))
/-- `silu` times the other branch. -/
def sv (a u : Fin 2816 → ℝ) (f : Fin 2816) : ℝ := a f * sg (a f) * u f
/-- The block's output less the target. -/
def er (x t : Fin 1024 → ℝ) (s : Fin 2816 → ℝ) (Wd : Fin 2816 → Fin 1024 → ℝ) (k : Fin 1024) : ℝ := x k + (∑ f, s f * Wd f k) - t k
/-- The loss's cotangent of the output. -/
def dyv (e : Fin 1024 → ℝ) (k : Fin 1024) : ℝ := e k * (1 / 1024)
/-- A token's part of the loss. -/
def ls (e : Fin 1024 → ℝ) : ℝ := 1 / 2 * (∑ k, e k * e k) * (1 / 1024)
/-- The cotangent of the hidden row. -/
def dsv (dy : Fin 1024 → ℝ) (Wd : Fin 2816 → Fin 1024 → ℝ) (f : Fin 2816) : ℝ := ∑ k, dy k * Wd f k
/-- The cotangent of the gate branch. -/
def dav (ds a u : Fin 2816 → ℝ) (f : Fin 2816) : ℝ := ds f * u f * (sg (a f) * (1 + a f * (1 - sg (a f))))
/-- The cotangent of the other branch. -/
def duv (ds a : Fin 2816 → ℝ) (f : Fin 2816) : ℝ := ds f * (a f * sg (a f))
/-- The cotangent of the normalised row. -/
def dhv (da du : Fin 2816 → ℝ) (Wg Wu : Fin 1024 → Fin 2816 → ℝ) (k : Fin 1024) : ℝ := (∑ f, da f * Wg k f) + ∑ f, du f * Wu k f
/-- The cotangent of the row. -/
def dxv (dy x dh g : Fin 1024 → ℝ) (k : Fin 1024) : ℝ :=
  dy k + rr x * (dh k * g k - xh x k * ((∑ j, dh j * g j * xh x j) / 1024))

/-! ## The whole step, over the real arguments -/

/-- The block's arguments. -/
structure Args where
  X : Fin 8192 → Fin 1024 → ℝ
  T : Fin 8192 → Fin 1024 → ℝ
  g : Fin 1024 → ℝ
  Wg : Fin 1024 → Fin 2816 → ℝ
  Wu : Fin 1024 → Fin 2816 → ℝ
  Wd : Fin 2816 → Fin 1024 → ℝ

def aH (D : Args) (n : Fin 8192) : Fin 1024 → ℝ := hh (D.X n) D.g
def aA (D : Args) (n : Fin 8192) : Fin 2816 → ℝ := pr (aH D n) D.Wg
def aU (D : Args) (n : Fin 8192) : Fin 2816 → ℝ := pr (aH D n) D.Wu
def aS (D : Args) (n : Fin 8192) : Fin 2816 → ℝ := sv (aA D n) (aU D n)
def aE (D : Args) (n : Fin 8192) : Fin 1024 → ℝ := er (D.X n) (D.T n) (aS D n) D.Wd
def aY (D : Args) (n : Fin 8192) : Fin 1024 → ℝ := dyv (aE D n)
def aDs (D : Args) (n : Fin 8192) : Fin 2816 → ℝ := dsv (aY D n) D.Wd
def aDa (D : Args) (n : Fin 8192) : Fin 2816 → ℝ := dav (aDs D n) (aA D n) (aU D n)
def aDu (D : Args) (n : Fin 8192) : Fin 2816 → ℝ := duv (aDs D n) (aA D n)
def aDh (D : Args) (n : Fin 8192) : Fin 1024 → ℝ := dhv (aDa D n) (aDu D n) D.Wg D.Wu
/-- The results: the loss and the five gradients. -/
def rLoss (D : Args) : ℝ := ∑ n, ls (aE D n)
def rX (D : Args) (n : Fin 8192) (k : Fin 1024) : ℝ := dxv (aY D n) (D.X n) (aDh D n) D.g k
def rG (D : Args) (k : Fin 1024) : ℝ := ∑ n, aDh D n k * xh (D.X n) k
def rWg (D : Args) (k : Fin 1024) (f : Fin 2816) : ℝ := ∑ n, aDa D n f * aH D n k
def rWu (D : Args) (k : Fin 1024) (f : Fin 2816) : ℝ := ∑ n, aDu D n f * aH D n k
def rWd (D : Args) (f : Fin 2816) (k : Fin 1024) : ℝ := ∑ n, aS D n f * aY D n k

/-- The token at place `p` of block `t` of 256. -/
def tok (t : ℕ) (ht : t < 32) (p : Fin 256) : Fin 8192 := ⟨256 * t + p.val, by have := p.isLt; omega⟩

/-- A sum over all tokens, block by block of 256. -/
theorem sum_tok (f : Fin 8192 → ℝ) : ∑ n, f n = ∑ t : Fin 32, ∑ p : Fin 256, f (tok t.val t.isLt p) := by
  rw [← Fintype.sum_prod_type', ← Equiv.sum_comp (finProdFinEquiv (m := 32) (n := 256))]
  refine Finset.sum_congr rfl fun p _ => ?_
  congr 1
  apply Fin.ext
  show p.2.val + 256 * p.1.val = 256 * p.1.val + p.2.val
  omega

theorem coe_rsqrt {r : ℝ} (h : 0 < r) : Ideal.rsqrt (r : EReal) = ((√r)⁻¹ : ℝ) := by
  rw [Ideal.rsqrt_coe, if_neg h.le.not_gt, if_neg h.ne']

theorem coe_divr (x : ℝ) {y : ℝ} (h : y ≠ 0) : Ideal.div (x : EReal) (y : EReal) = ((x / y : ℝ) : EReal) := by
  rw [Ideal.div_coe h, ← EReal.coe_mul, mul_one_div]

theorem one_add_exp_ne (a : ℝ) : 1 + Real.exp (-a) ≠ 0 := by positivity

export Cert.KernelIdeal.Gate (coe_sum_real)

theorem lit_1024 : Ideal.ofBits .f32 0x44800000#32 = ((1024 : ℝ) : EReal) := by
  simp [Ideal.ofBits, Ideal.ieee, -EReal.coe_mul]; norm_num
theorem lit_eps : Ideal.ofBits .f32 0x358637BD#32 = ((eps : ℝ) : EReal) := by
  simp [Ideal.ofBits, Ideal.ieee, eps, -EReal.coe_mul]; norm_num
theorem lit_half : Ideal.ofBits .f32 0x3F000000#32 = ((1 / 2 : ℝ) : EReal) := by
  simp [Ideal.ofBits, Ideal.ieee, -EReal.coe_mul]; norm_num
theorem lit_1024th : Ideal.ofBits .f32 0x3A800000#32 = ((1 / 1024 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num

/-- The reciprocal root mean square as the kernels and the reference compute it. -/
theorem rr_ereal (x : Fin 1024 → ℝ) :
    Ideal.rsqrt (Ideal.div (∑ k, (x k : EReal) * (x k : EReal)) ((1024 : ℝ) : EReal) + (eps : EReal)) = (rr x : EReal) := by
  simp only [← EReal.coe_mul, ← coe_sum_real]
  rw [coe_divr _ (by norm_num), ← EReal.coe_add]
  exact coe_rsqrt (ms_pos x)

/-- The logistic function as the kernels compute it. -/
theorem sg_ereal (a : ℝ) : Ideal.div 1 (1 + Ideal.exp (0 - (a : EReal))) = (sg a : EReal) := by
  rw [← EReal.coe_zero, ← EReal.coe_one, ← EReal.coe_sub, Ideal.exp_coe, ← EReal.coe_add, zero_sub, coe_divr _ (one_add_exp_ne a)]; rfl
theorem sl_ereal (a : ℝ) : Ideal.div (a : EReal) (1 + Ideal.exp (0 - (a : EReal))) = ((a * sg a : ℝ) : EReal) := by
  rw [← EReal.coe_zero, ← EReal.coe_one, ← EReal.coe_sub, Ideal.exp_coe, ← EReal.coe_add, zero_sub, coe_divr _ (one_add_exp_ne a)]
  unfold sg; rw [mul_one_div]

end Cert.Ffn
-- ==== Proof.FfnBody.lean ====
/- The feed-forward kernels' bodies read at an index, from blocks whose elements are real numbers. -/
module

public import proofs.«01_k».proof.Proof.FfnReal
public import proofs.«01_k».proof.Proof.Gen.Kernel2Ideal.Frame
public import Idealize.ShloMosaic.Lib.Pointwise
public import Idealize.ShloMosaic.Lib.Tactic

@[expose] public section

set_option maxRecDepth 16384

noncomputable section

namespace Cert.Kernel2Ideal.Ffn

open Cert.Kernel2Ideal Cert.Kernel2Ideal.Gen Cert.Ffn Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

abbrev M1 : Type := Vec Ideal S256x1024 .f32
abbrev M2 : Type := Vec Ideal S256x2816 .bf16
abbrev MW : Type := Vec Ideal S2816x1024 .bf16
abbrev MG : Type := Vec Ideal S1x1024 .f32

/-! ## The forward body -/

theorem pay4_0 (v0 : M1) (v11 : MG) (x : Fin 256 → Fin 1024 → ℝ) (g : Fin 1024 → ℝ)
    (hx : ∀ p k, v0 (ix2 p k) = (x p k : EReal)) (hg : ∀ k, v11 (ix2 0 k) = (g k : EReal)) (p : Fin 256) (k : Fin 1024) :
    k0_pay4 v0 v11 (ix2 p k) = (hh (x p) g k : EReal) := by
  pointwise [k0_pay4]
  simp only [hx, hg, lit_1024, lit_eps, rr_ereal]
  rw [← EReal.coe_mul, ← EReal.coe_mul]; rfl

theorem pay5_0 (v0 : M1) (v11 : MG) (w : MW) (x : Fin 256 → Fin 1024 → ℝ) (g : Fin 1024 → ℝ) (W : Fin 1024 → Fin 2816 → ℝ)
    (hx : ∀ p k, v0 (ix2 p k) = (x p k : EReal)) (hg : ∀ k, v11 (ix2 0 k) = (g k : EReal)) (hw : ∀ f k, w (ix2 f k) = (W k f : EReal))
    (p : Fin 256) (f : Fin 2816) : k0_pay5 v0 v11 w (ix2 p f) = (pr (hh (x p) g) W f : EReal) := by
  pointwise [k0_pay5]
  simp only [pay4_0 v0 v11 x g hx hg, hw, ← EReal.coe_mul, ← coe_sum_real]; rfl

theorem pay6_0 (v0 : M1) (v11 : MG) (w : MW) (x : Fin 256 → Fin 1024 → ℝ) (g : Fin 1024 → ℝ) (W : Fin 1024 → Fin 2816 → ℝ)
    (hx : ∀ p k, v0 (ix2 p k) = (x p k : EReal)) (hg : ∀ k, v11 (ix2 0 k) = (g k : EReal)) (hw : ∀ f k, w (ix2 f k) = (W k f : EReal))
    (p : Fin 256) (f : Fin 2816) : k0_pay6 v0 v11 w (ix2 p f) = (pr (hh (x p) g) W f : EReal) := by
  pointwise [k0_pay6]
  simp only [pay4_0 v0 v11 x g hx hg, hw, ← EReal.coe_mul, ← coe_sum_real]; rfl

theorem pay9_0 (v0 : M1) (v11 : MG) (w w' : MW) (x : Fin 256 → Fin 1024 → ℝ) (g : Fin 1024 → ℝ) (W W' : Fin 1024 → Fin 2816 → ℝ)
    (hx : ∀ p k, v0 (ix2 p k) = (x p k : EReal)) (hg : ∀ k, v11 (ix2 0 k) = (g k : EReal)) (hw : ∀ f k, w (ix2 f k) = (W k f : EReal))
    (hw' : ∀ f k, w' (ix2 f k) = (W' k f : EReal))
    (p : Fin 256) (f : Fin 2816) : k0_pay9 v0 v11 w w' (ix2 p f) = (sv (pr (hh (x p) g) W) (pr (hh (x p) g) W') f : EReal) := by
  pointwise [k0_pay9]
  rw [pay5_0 v0 v11 w x g W hx hg hw, pay6_0 v0 v11 w' x g W' hx hg hw', sl_ereal, ← EReal.coe_mul]; rfl

section
variable (v0 : M1) (v32 : M2) (v34 : MW) (v37 : M1) (x t : Fin 256 → Fin 1024 → ℝ) (s : Fin 256 → Fin 2816 → ℝ) (Wd : Fin 2816 → Fin 1024 → ℝ)
  (hx : ∀ p k, v0 (ix2 p k) = (x p k : EReal)) (hs : ∀ p f, v32 (ix2 p f) = (s p f : EReal)) (hw : ∀ f k, v34 (ix2 f k) = (Wd f k : EReal))
  (ht : ∀ p k, v37 (ix2 p k) = (t p k : EReal))
include hx hs hw ht

theorem pay1_0 (p : Fin 256) (k : Fin 1024) :
    k0_pay1 v0 v32 v34 (constant S256x1024 .f32 0x00000000#32) v37 (ix2 p k) = (er (x p) (t p) (s p) Wd k : EReal) := by
  pointwise [k0_pay1]
  simp only [hx, hs, hw, ht, ← EReal.coe_mul, ← coe_sum_real, ← EReal.coe_add, ← EReal.coe_sub]; rfl

theorem pay2_0 (p : Fin 256) (k : Fin 1024) :
    k0_pay2 v0 v32 v34 (constant S256x1024 .f32 0x00000000#32) v37 (ix2 p k) = (dyv (er (x p) (t p) (s p) Wd) k : EReal) := by
  pointwise [k0_pay2]
  rw [pay1_0 v0 v32 v34 v37 x t s Wd hx hs hw ht, lit_1024th, ← EReal.coe_mul]; rfl

theorem pay3_0 (a : Fin 1) (b : Fin 8) (d : Fin 128) :
    k0_pay3 v0 v32 v34 (constant S256x1024 .f32 0x00000000#32) v37 (ix3 a b d) = ((∑ p, ls (er (x p) (t p) (s p) Wd) : ℝ) : EReal) := by
  pointwise [k0_pay3]
  simp only [pay1_0 v0 v32 v34 v37 x t s Wd hx hs hw ht, lit_1024th, lit_half, ← EReal.coe_mul, ← coe_sum_real]
  congr 1
  unfold ls
  rw [Finset.mul_sum, Finset.sum_mul]
end

/-! ## The backward body -/

section
variable (v9 v12 : M2) (a u : Fin 256 → Fin 2816 → ℝ)
  (ha : ∀ p f, v9 (ix2 p f) = (a p f : EReal)) (hu : ∀ p f, v12 (ix2 p f) = (u p f : EReal))
include ha
theorem pay5_1 (p : Fin 256) (f : Fin 2816) : k1_pay5 v9 (ix2 p f) = (a p f : EReal) := by
  pointwise [k1_pay5]; exact ha p f
theorem pay7_1 (p : Fin 256) (f : Fin 2816) : k1_pay7 v9 (ix2 p f) = (sg (a p f) : EReal) := by
  pointwise [k1_pay7]
  rw [pay5_1 v9 a ha, sg_ereal]
theorem pay8_1 (p : Fin 256) (f : Fin 2816) : k1_pay8 v9 (ix2 p f) = ((a p f * sg (a p f) : ℝ) : EReal) := by
  pointwise [k1_pay8]
  rw [pay5_1 v9 a ha, pay7_1 v9 a ha, ← EReal.coe_mul]
include hu
theorem pay9_1 (p : Fin 256) (f : Fin 2816) : k1_pay9 v9 v12 (ix2 p f) = (sv (a p) (u p) f : EReal) := by
  pointwise [k1_pay9]
  rw [pay8_1 v9 a ha, show k1_pay6 v12 (ix2 p f) = (u p f : EReal) from by pointwise [k1_pay6]; exact hu p f, ← EReal.coe_mul]; rfl

variable (v3 : M1) (v6 : MW) (dy : Fin 256 → Fin 1024 → ℝ) (Wd : Fin 2816 → Fin 1024 → ℝ)
  (hd : ∀ p k, v3 (ix2 p k) = (dy p k : EReal)) (hw : ∀ f k, v6 (ix2 f k) = (Wd f k : EReal))
include hd hw
omit ha hu in
theorem pay4_1 (p : Fin 256) (f : Fin 2816) : k1_pay4 v3 v6 (ix2 p f) = (dsv (dy p) Wd f : EReal) := by
  pointwise [k1_pay4, k1_pay3]
  simp only [hd, hw, ← EReal.coe_mul, ← coe_sum_real]; rfl
theorem pay10_1 (p : Fin 256) (f : Fin 2816) : k1_pay10 v3 v6 v9 v12 (ix2 p f) = (dav (dsv (dy p) Wd) (a p) (u p) f : EReal) := by
  pointwise [k1_pay10]
  rw [pay4_1 v3 v6 dy Wd hd hw, pay5_1 v9 a ha, pay7_1 v9 a ha, show k1_pay6 v12 (ix2 p f) = (u p f : EReal) from by pointwise [k1_pay6]; exact hu p f,
    ← EReal.coe_one]
  simp only [← EReal.coe_mul, ← EReal.coe_sub, ← EReal.coe_add]; rfl
omit hu in
theorem pay11_1 (p : Fin 256) (f : Fin 2816) : k1_pay11 v3 v6 v9 (ix2 p f) = (duv (dsv (dy p) Wd) (a p) f : EReal) := by
  pointwise [k1_pay11]
  rw [pay4_1 v3 v6 dy Wd hd hw, pay8_1 v9 a ha, ← EReal.coe_mul]; rfl
end

section
variable (v46 : M1) (v57 : MG) (x : Fin 256 → Fin 1024 → ℝ) (g : Fin 1024 → ℝ)
  (hx : ∀ p k, v46 (ix2 p k) = (x p k : EReal)) (hg : ∀ k, v57 (ix2 0 k) = (g k : EReal))
include hx
theorem pay13_1 (p : Fin 256) (z : Fin 1) : k1_pay13 v46 (ix2 p z) = (rr (x p) : EReal) := by
  pointwise [k1_pay13]
  simp only [hx, lit_1024, lit_eps, rr_ereal]
theorem pay14_1 (p : Fin 256) (k : Fin 1024) : k1_pay14 v46 (ix2 p k) = (xh (x p) k : EReal) := by
  pointwise [k1_pay14]
  rw [pay13_1 v46 x hx, hx, ← EReal.coe_mul]; rfl
include hg
theorem pay15_1 (p : Fin 256) (k : Fin 1024) : k1_pay15 v46 v57 (ix2 p k) = (hh (x p) g k : EReal) := by
  pointwise [k1_pay15]
  rw [pay14_1 v46 x hx, hg, ← EReal.coe_mul]; rfl

variable (v34 v36 : M2) (da du : Fin 256 → Fin 2816 → ℝ) (v39 v42 : MW) (Wg Wu : Fin 1024 → Fin 2816 → ℝ)
  (hda : ∀ p f, v34 (ix2 p f) = (da p f : EReal)) (hdu : ∀ p f, v36 (ix2 p f) = (du p f : EReal))
  (hwg : ∀ f k, v39 (ix2 f k) = (Wg k f : EReal)) (hwu : ∀ f k, v42 (ix2 f k) = (Wu k f : EReal))
include hda hdu hwg hwu
omit hx hg in
theorem pay12_1 (p : Fin 256) (k : Fin 1024) : k1_pay12 v34 v36 v39 v42 (ix2 p k) = (dhv (da p) (du p) Wg Wu k : EReal) := by
  pointwise [k1_pay12]
  simp only [hda, hdu, hwg, hwu, ← EReal.coe_mul, ← coe_sum_real, ← EReal.coe_add]; rfl
theorem pay16_1 (v4 : M1) (dy : Fin 256 → Fin 1024 → ℝ) (hd : ∀ p k, v4 (ix2 p k) = (dy p k : EReal)) (p : Fin 256) (k : Fin 1024) :
    k1_pay16 v4 v34 v36 v39 v42 v46 v57 (ix2 p k) = (dxv (dy p) (x p) (dhv (da p) (du p) Wg Wu) g k : EReal) := by
  pointwise [k1_pay16]
  simp only [pay12_1 v34 v36 da du v39 v42 Wg Wu hda hdu hwg hwu, pay13_1 v46 x hx, pay14_1 v46 x hx, hd, hg, lit_1024, ← EReal.coe_mul, ← coe_sum_real]
  rw [coe_divr _ (by norm_num)]
  simp only [← EReal.coe_mul, ← EReal.coe_sub, ← EReal.coe_add]; rfl
end

theorem pay1_1 (v45 v56 : M1) (v76 : MG) (dh xh : Fin 256 → Fin 1024 → ℝ) (c : Fin 1024 → ℝ)
    (hdh : ∀ p k, v45 (ix2 p k) = (dh p k : EReal)) (hxh : ∀ p k, v56 (ix2 p k) = (xh p k : EReal)) (hc : ∀ k, v76 (ix2 0 k) = (c k : EReal))
    (k : Fin 1024) : k1_pay1 v45 v56 v76 (ix2 0 k) = ((c k + ∑ p, dh p k * xh p k : ℝ) : EReal) := by
  pointwise [k1_pay1]
  simp only [hdh, hxh, hc, ← EReal.coe_mul, ← coe_sum_real, ← EReal.coe_add]

theorem pay2_1 (p : Fin 8) (k : Fin 1024) : k1_pay2 (F := Ideal) (ix2 p k) = ((0 : ℝ) : EReal) := by
  pointwise [k1_pay2]; rfl

/-! ## The weight gradients' bodies -/

section
variable (v3 : Vec Ideal S2816x512 .f32) (v5 : Vec Ideal S1024x2816 .bf16) (acc : Fin 2816 → Fin 512 → ℝ) (s : Fin 1024 → Fin 2816 → ℝ)
  (y : Fin 1024 → Fin 512 → ℝ) (h3 : ∀ f j, v3 (ix2 f j) = (acc f j : EReal)) (h5 : ∀ n f, v5 (ix2 n f) = (s n f : EReal))
include h3 h5
theorem pay2_2 (v7 : Vec Ideal S1024x512 .f32) (h7 : ∀ n j, v7 (ix2 n j) = (y n j : EReal)) (f : Fin 2816) (j : Fin 512) :
    k2_pay2 v3 v5 v7 (ix2 f j) = ((acc f j + ∑ n, s n f * y n j : ℝ) : EReal) := by
  pointwise [k2_pay2]
  simp only [h3, h5, h7, ← EReal.coe_mul, ← coe_sum_real, ← EReal.coe_add]
theorem pay2_3 (v7 : Vec Ideal S1024x512 .bf16) (h7 : ∀ n j, v7 (ix2 n j) = (y n j : EReal)) (f : Fin 2816) (j : Fin 512) :
    k3_pay2 v3 v5 v7 (ix2 f j) = ((acc f j + ∑ n, s n f * y n j : ℝ) : EReal) := by
  pointwise [k3_pay2]
  simp only [h3, h5, h7, ← EReal.coe_mul, ← coe_sum_real, ← EReal.coe_add]
theorem pay2_4 (v7 : Vec Ideal S1024x512 .bf16) (h7 : ∀ n j, v7 (ix2 n j) = (y n j : EReal)) (f : Fin 2816) (j : Fin 512) :
    k4_pay2 v3 v5 v7 (ix2 f j) = ((acc f j + ∑ n, s n f * y n j : ℝ) : EReal) := by
  pointwise [k4_pay2]
  simp only [h3, h5, h7, ← EReal.coe_mul, ← coe_sum_real, ← EReal.coe_add]
end
theorem pay1_2 (f : Fin 2816) (j : Fin 512) : k2_pay1 (F := Ideal) (ix2 f j) = ((0 : ℝ) : EReal) := by pointwise [k2_pay1]; rfl
theorem pay1_3 (f : Fin 2816) (j : Fin 512) : k3_pay1 (F := Ideal) (ix2 f j) = ((0 : ℝ) : EReal) := by pointwise [k3_pay1]; rfl
theorem pay1_4 (f : Fin 2816) (j : Fin 512) : k4_pay1 (F := Ideal) (ix2 f j) = ((0 : ℝ) : EReal) := by pointwise [k4_pay1]; rfl

end Cert.Kernel2Ideal.Ffn
-- ==== Proof.FfnFwd.lean ====
/- The feed-forward forward call over its grid: the whole arrays it leaves, in closed form. -/
module

public import proofs.«01_k».proof.Proof.FfnBody

@[expose] public section

set_option maxRecDepth 16384

noncomputable section

namespace Cert.Kernel2Ideal.Ffn

open Cert.Kernel2Ideal Cert.Kernel2Ideal.Gen Cert.Ffn Idealize.ShloMosaic Idealize.ShloMosaic.TcCoe Idealize.SL.Sem

variable (V : (c : Dev nD) → (b : Ref sig .tc) → Buf (Elt Idealize.ShloMosaic.Ideal) ((c : Thread nD τ).loc b)) (c : Dev nD)

theorem N0 (t : Fin cfg0.N) : t.val < 32 := lt_of_lt_of_eq t.isLt N_0

/-! ## The blocks the call reads -/

theorem idx0_0 : ∀ t : Fin grid0.N, win0_0.index t 0 = t.val ∧ win0_0.index t 1 = 0 := by decide +kernel
theorem in0_0 (t : Fin cfg0.N) (p : Fin 256) (k : Fin 1024) :
    (iblk0 V c 0 t : M1) (ix2 p k) = (V c main_arg0 : Vec Ideal S8192x1024 .f32) (ix2 (tok t.val (N0 t) p) k) := by
  have hi := idx0_0 t
  unfold iblk0
  rw [View.read_apply]
  show V c main_arg0 _ = V c main_arg0 _
  congr 1
  funext a
  apply Fin.ext
  match a with
  | ⟨0, _⟩ => show win0_0.index t 0 * 256 + 1 * p.val = 256 * t.val + p.val; rw [hi.1]; omega
  | ⟨1, _⟩ => show win0_0.index t 1 * 1024 + 1 * k.val = k.val; rw [hi.2]; omega
theorem idx0_1 : ∀ t : Fin grid0.N, win0_1.index t 0 = t.val ∧ win0_1.index t 1 = 0 := by decide +kernel
theorem in0_1 (t : Fin cfg0.N) (p : Fin 256) (k : Fin 1024) :
    (iblk0 V c 1 t : M1) (ix2 p k) = (V c main_arg1 : Vec Ideal S8192x1024 .f32) (ix2 (tok t.val (N0 t) p) k) := by
  have hi := idx0_1 t
  unfold iblk0
  rw [View.read_apply]
  show V c main_arg1 _ = V c main_arg1 _
  congr 1
  funext a
  apply Fin.ext
  match a with
  | ⟨0, _⟩ => show win0_1.index t 0 * 256 + 1 * p.val = 256 * t.val + p.val; rw [hi.1]; omega
  | ⟨1, _⟩ => show win0_1.index t 1 * 1024 + 1 * k.val = k.val; rw [hi.2]; omega
theorem idx0_2 : ∀ t : Fin grid0.N, win0_2.index t 0 = 0 ∧ win0_2.index t 1 = 0 := by decide +kernel
theorem in0_2 (t : Fin cfg0.N) (p : Fin 1) (k : Fin 1024) :
    (iblk0 V c 2 t : MG) (ix2 p k) = (V c main_arg2 : Vec Ideal S1x1024 .f32) (ix2 p k) := by
  have hi := idx0_2 t
  unfold iblk0
  rw [View.read_apply]
  show V c main_arg2 _ = V c main_arg2 _
  congr 1
  funext a
  apply Fin.ext
  match a with
  | ⟨0, _⟩ => show win0_2.index t 0 * 1 + 1 * p.val = p.val; rw [hi.1]; omega
  | ⟨1, _⟩ => show win0_2.index t 1 * 1024 + 1 * k.val = k.val; rw [hi.2]; omega
theorem idx0_3 : ∀ t : Fin grid0.N, win0_3.index t 0 = 0 ∧ win0_3.index t 1 = 0 := by decide +kernel
theorem in0_3 (t : Fin cfg0.N) (p : Fin 2816) (k : Fin 1024) :
    (iblk0 V c 3 t : MW) (ix2 p k) = (V c main_v1 : Vec Ideal S2816x1024 .bf16) (ix2 p k) := by
  have hi := idx0_3 t
  unfold iblk0
  rw [View.read_apply]
  show V c main_v1 _ = V c main_v1 _
  congr 1
  funext a
  apply Fin.ext
  match a with
  | ⟨0, _⟩ => show win0_3.index t 0 * 2816 + 1 * p.val = p.val; rw [hi.1]; omega
  | ⟨1, _⟩ => show win0_3.index t 1 * 1024 + 1 * k.val = k.val; rw [hi.2]; omega
theorem idx0_4 : ∀ t : Fin grid0.N, win0_4.index t 0 = 0 ∧ win0_4.index t 1 = 0 := by decide +kernel
theorem in0_4 (t : Fin cfg0.N) (p : Fin 2816) (k : Fin 1024) :
    (iblk0 V c 4 t : MW) (ix2 p k) = (V c main_v3 : Vec Ideal S2816x1024 .bf16) (ix2 p k) := by
  have hi := idx0_4 t
  unfold iblk0
  rw [View.read_apply]
  show V c main_v3 _ = V c main_v3 _
  congr 1
  funext a
  apply Fin.ext
  match a with
  | ⟨0, _⟩ => show win0_4.index t 0 * 2816 + 1 * p.val = p.val; rw [hi.1]; omega
  | ⟨1, _⟩ => show win0_4.index t 1 * 1024 + 1 * k.val = k.val; rw [hi.2]; omega
theorem idx0_5 : ∀ t : Fin grid0.N, win0_5.index t 0 = 0 ∧ win0_5.index t 1 = 0 := by decide +kernel
theorem in0_5 (t : Fin cfg0.N) (p : Fin 2816) (k : Fin 1024) :
    (iblk0 V c 5 t : MW) (ix2 p k) = (V c main_v4 : Vec Ideal S2816x1024 .bf16) (ix2 p k) := by
  have hi := idx0_5 t
  unfold iblk0
  rw [View.read_apply]
  show V c main_v4 _ = V c main_v4 _
  congr 1
  funext a
  apply Fin.ext
  match a with
  | ⟨0, _⟩ => show win0_5.index t 0 * 2816 + 1 * p.val = p.val; rw [hi.1]; omega
  | ⟨1, _⟩ => show win0_5.index t 1 * 1024 + 1 * k.val = k.val; rw [hi.2]; omega

/-! ## What it leaves -/

section
variable (D : Args)
  (hX : ∀ n k, (V c main_arg0 : Vec Ideal S8192x1024 .f32) (ix2 n k) = (D.X n k : EReal))
  (hT : ∀ n k, (V c main_arg1 : Vec Ideal S8192x1024 .f32) (ix2 n k) = (D.T n k : EReal))
  (hg : ∀ k, (V c main_arg2 : Vec Ideal S1x1024 .f32) (ix2 0 k) = (D.g k : EReal))
  (hWg : ∀ f k, (V c main_v1 : Vec Ideal S2816x1024 .bf16) (ix2 f k) = (D.Wg k f : EReal))
  (hWu : ∀ f k, (V c main_v3 : Vec Ideal S2816x1024 .bf16) (ix2 f k) = (D.Wu k f : EReal))
  (hWd : ∀ f k, (V c main_v4 : Vec Ideal S2816x1024 .bf16) (ix2 f k) = (D.Wd f k : EReal))
include hX hT hg hWg hWu hWd

theorem out6 (t : Fin cfg0.N) (p : Fin 256) (f : Fin 2816) :
    out0_6 (iblk0 V c 0 t) (iblk0 V c 1 t) (iblk0 V c 2 t) (iblk0 V c 3 t) (iblk0 V c 4 t) (iblk0 V c 5 t) (ix2 p f)
      = (aA D (tok t.val (N0 t) p) f : EReal) := by
  unfold out0_6
  rw [View.canon_unit_zero (S := S256x2816) hz]
  simp only [View.ld_unit_zero (S := S256x1024) hz, View.ld_unit_zero (S := S1x1024) hz, View.ld_unit_zero (S := S2816x1024) hz]
  pointwise [k0_pay7]
  exact pay5_0 _ _ _ (fun p => D.X (tok t.val (N0 t) p)) D.g D.Wg (fun p k => (in0_0 V c t p k).trans (hX _ _)) (fun k => (in0_2 V c t 0 k).trans (hg _))
    (fun f k => (in0_3 V c t f k).trans (hWg _ _)) p f

theorem out7 (t : Fin cfg0.N) (p : Fin 256) (f : Fin 2816) :
    out0_7 (iblk0 V c 0 t) (iblk0 V c 1 t) (iblk0 V c 2 t) (iblk0 V c 3 t) (iblk0 V c 4 t) (iblk0 V c 5 t) (ix2 p f)
      = (aU D (tok t.val (N0 t) p) f : EReal) := by
  unfold out0_7
  rw [View.canon_unit_zero (S := S256x2816) hz]
  simp only [View.ld_unit_zero (S := S256x1024) hz, View.ld_unit_zero (S := S1x1024) hz, View.ld_unit_zero (S := S2816x1024) hz]
  pointwise [k0_pay8]
  exact pay6_0 _ _ _ (fun p => D.X (tok t.val (N0 t) p)) D.g D.Wu (fun p k => (in0_0 V c t p k).trans (hX _ _)) (fun k => (in0_2 V c t 0 k).trans (hg _))
    (fun f k => (in0_4 V c t f k).trans (hWu _ _)) p f

theorem hid (t : Fin cfg0.N) (p : Fin 256) (f : Fin 2816) :
    k0_pay12 (iblk0 V c 0 t) (iblk0 V c 1 t) (iblk0 V c 2 t) (iblk0 V c 3 t) (iblk0 V c 4 t) (iblk0 V c 5 t) (ix2 p f)
      = (aS D (tok t.val (N0 t) p) f : EReal) := by
  unfold k0_pay12
  simp only [View.ld_unit_zero (S := S256x1024) hz, View.ld_unit_zero (S := S1x1024) hz, View.ld_unit_zero (S := S2816x1024) hz]
  exact pay9_0 _ _ _ _ (fun p => D.X (tok t.val (N0 t) p)) D.g D.Wg D.Wu (fun p k => (in0_0 V c t p k).trans (hX _ _)) (fun k => (in0_2 V c t 0 k).trans (hg _))
    (fun f k => (in0_3 V c t f k).trans (hWg _ _)) (fun f k => (in0_4 V c t f k).trans (hWu _ _)) p f

theorem wdn (t : Fin cfg0.N) (f : Fin 2816) (k : Fin 1024) :
    k0_pay13 (iblk0 V c 0 t) (iblk0 V c 1 t) (iblk0 V c 2 t) (iblk0 V c 3 t) (iblk0 V c 4 t) (iblk0 V c 5 t) (ix2 f k)
      = (D.Wd f k : EReal) := by
  unfold k0_pay13
  simp only [View.ld_unit_zero (S := S2816x1024) hz]
  pointwise [k0_pay10]
  exact (in0_5 V c t f k).trans (hWd _ _)

theorem out8 (t : Fin cfg0.N) (p : Fin 256) (k : Fin 1024) :
    out0_8 (iblk0 V c 0 t) (iblk0 V c 1 t) (iblk0 V c 2 t) (iblk0 V c 3 t) (iblk0 V c 4 t) (iblk0 V c 5 t) (ix2 p k)
      = (aY D (tok t.val (N0 t) p) k : EReal) := by
  unfold out0_8 k0_pay11
  rw [View.canon_unit_zero (S := S256x1024) hz]
  simp only [View.ld_unit_zero (S := S256x1024) hz]
  exact pay2_0 _ _ _ _ (fun p => D.X (tok t.val (N0 t) p)) (fun p => D.T (tok t.val (N0 t) p)) (fun p => aS D (tok t.val (N0 t) p)) D.Wd
    (fun p k => (in0_0 V c t p k).trans (hX _ _)) (hid V c D hX hT hg hWg hWu hWd t) (wdn V c D hX hT hg hWg hWu hWd t)
    (fun p k => (in0_1 V c t p k).trans (hT _ _)) p k

theorem out9 (t : Fin cfg0.N) (z : Fin 1) (p : Fin 8) (k : Fin 128) :
    out0_9 (iblk0 V c 0 t) (iblk0 V c 1 t) (iblk0 V c 2 t) (iblk0 V c 3 t) (iblk0 V c 4 t) (iblk0 V c 5 t) (ix3 z p k)
      = ((∑ p, ls (aE D (tok t.val (N0 t) p)) : ℝ) : EReal) := by
  unfold out0_9 k0_pay11
  rw [View.canon_unit_zero (S := S1x8x128) hz3]
  simp only [View.ld_unit_zero (S := S256x1024) hz]
  exact pay3_0 _ _ _ _ (fun p => D.X (tok t.val (N0 t) p)) (fun p => D.T (tok t.val (N0 t) p)) (fun p => aS D (tok t.val (N0 t) p)) D.Wd
    (fun p k => (in0_0 V c t p k).trans (hX _ _)) (hid V c D hX hT hg hWg hWu hWd t) (wdn V c D hX hT hg hWg hWu hWd t)
    (fun p k => (in0_1 V c t p k).trans (hT _ _)) z p k

omit hX hT hg hWg hWu hWd in
theorem idx0_6 : ∀ t : Fin grid0.N, win0_6.index t 0 = t.val ∧ win0_6.index t 1 = 0 := by decide +kernel
theorem fin0_6 : (dat0 V c).arrAt 6 cfg0.N = (fun i : S8192x2816.Idx => ((aA D (i 0) (i 1) : ℝ) : EReal)) :=
  (dat0 V c).arrAt_eq_of_cover 6 (fun i : S8192x2816.Idx => ((aA D (i 0) (i 1) : ℝ) : EReal)) (fun t _ => by
    show (cfg0.win 6).cut (grid0.coords t) ((dat0 V c).after 6 t) = _
    rw [after0_6]
    funext j
    obtain ⟨p, k, rfl⟩ : ∃ (p : Fin 256) (k : Fin 2816), j = ix2 p k := ⟨j 0, j 1, (ix2_eta j).symm⟩
    have hi := idx0_6 t
    rw [View.read_apply]
    refine (out6 V c D hX hT hg hWg hWu hWd t p k).trans ?_
    have e : (((cfg0.win 6).blk t).view.emb (ix2 p k) : S8192x2816.Idx) = ix2 (tok t.val (N0 t) p) k := by
      funext a
      apply Fin.ext
      match a with
      | ⟨0, _⟩ => show win0_6.index t 0 * 256 + 1 * p.val = 256 * t.val + p.val; rw [hi.1]; omega
      | ⟨1, _⟩ => show win0_6.index t 1 * 2816 + 1 * k.val = k.val; rw [hi.2]; omega
    exact (congrArg (fun i : S8192x2816.Idx => ((aA D (i 0) (i 1) : ℝ) : EReal)) e).symm) fun i => by
    have h0 : (i 0 : Nat) < 8192 := (i 0).isLt
    have h1 : (i 1 : Nat) < 2816 := (i 1).isLt
    have ht : (i 0 : Nat) / 256 < cfg0.N := by rw [show cfg0.N = 32 from N_0]; omega
    have hi := idx0_6 ⟨(i 0 : Nat) / 256, ht⟩
    refine ⟨⟨(i 0 : Nat) / 256, ht⟩, flush0_6 _, ?_⟩
    show i ∈ ((View.whole main_v5_0).slice (win0_6.rect ⟨(i 0 : Nat) / 256, ht⟩)).set
    rw [View.set_slice_whole, Rect.mem_set_unit]
    intro a
    match a with
    | ⟨0, _⟩ => show win0_6.index ⟨(i 0 : Nat) / 256, ht⟩ 0 * 256 ≤ (i 0 : Nat) ∧ (i 0 : Nat) < win0_6.index ⟨(i 0 : Nat) / 256, ht⟩ 0 * 256 + 256
                rw [hi.1]; dsimp only; omega
    | ⟨1, _⟩ => show win0_6.index ⟨(i 0 : Nat) / 256, ht⟩ 1 * 2816 ≤ (i 1 : Nat) ∧ (i 1 : Nat) < win0_6.index ⟨(i 0 : Nat) / 256, ht⟩ 1 * 2816 + 2816
                rw [hi.2]; omega
omit hX hT hg hWg hWu hWd in
theorem idx0_7 : ∀ t : Fin grid0.N, win0_7.index t 0 = t.val ∧ win0_7.index t 1 = 0 := by decide +kernel
theorem fin0_7 : (dat0 V c).arrAt 7 cfg0.N = (fun i : S8192x2816.Idx => ((aU D (i 0) (i 1) : ℝ) : EReal)) :=
  (dat0 V c).arrAt_eq_of_cover 7 (fun i : S8192x2816.Idx => ((aU D (i 0) (i 1) : ℝ) : EReal)) (fun t _ => by
    show (cfg0.win 7).cut (grid0.coords t) ((dat0 V c).after 7 t) = _
    rw [after0_7]
    funext j
    obtain ⟨p, k, rfl⟩ : ∃ (p : Fin 256) (k : Fin 2816), j = ix2 p k := ⟨j 0, j 1, (ix2_eta j).symm⟩
    have hi := idx0_7 t
    rw [View.read_apply]
    refine (out7 V c D hX hT hg hWg hWu hWd t p k).trans ?_
    have e : (((cfg0.win 7).blk t).view.emb (ix2 p k) : S8192x2816.Idx) = ix2 (tok t.val (N0 t) p) k := by
      funext a
      apply Fin.ext
      match a with
      | ⟨0, _⟩ => show win0_7.index t 0 * 256 + 1 * p.val = 256 * t.val + p.val; rw [hi.1]; omega
      | ⟨1, _⟩ => show win0_7.index t 1 * 2816 + 1 * k.val = k.val; rw [hi.2]; omega
    exact (congrArg (fun i : S8192x2816.Idx => ((aU D (i 0) (i 1) : ℝ) : EReal)) e).symm) fun i => by
    have h0 : (i 0 : Nat) < 8192 := (i 0).isLt
    have h1 : (i 1 : Nat) < 2816 := (i 1).isLt
    have ht : (i 0 : Nat) / 256 < cfg0.N := by rw [show cfg0.N = 32 from N_0]; omega
    have hi := idx0_7 ⟨(i 0 : Nat) / 256, ht⟩
    refine ⟨⟨(i 0 : Nat) / 256, ht⟩, flush0_7 _, ?_⟩
    show i ∈ ((View.whole main_v5_1).slice (win0_7.rect ⟨(i 0 : Nat) / 256, ht⟩)).set
    rw [View.set_slice_whole, Rect.mem_set_unit]
    intro a
    match a with
    | ⟨0, _⟩ => show win0_7.index ⟨(i 0 : Nat) / 256, ht⟩ 0 * 256 ≤ (i 0 : Nat) ∧ (i 0 : Nat) < win0_7.index ⟨(i 0 : Nat) / 256, ht⟩ 0 * 256 + 256
                rw [hi.1]; dsimp only; omega
    | ⟨1, _⟩ => show win0_7.index ⟨(i 0 : Nat) / 256, ht⟩ 1 * 2816 ≤ (i 1 : Nat) ∧ (i 1 : Nat) < win0_7.index ⟨(i 0 : Nat) / 256, ht⟩ 1 * 2816 + 2816
                rw [hi.2]; omega
omit hX hT hg hWg hWu hWd in
theorem idx0_8 : ∀ t : Fin grid0.N, win0_8.index t 0 = t.val ∧ win0_8.index t 1 = 0 := by decide +kernel
theorem fin0_8 : (dat0 V c).arrAt 8 cfg0.N = (fun i : S8192x1024.Idx => ((aY D (i 0) (i 1) : ℝ) : EReal)) :=
  (dat0 V c).arrAt_eq_of_cover 8 (fun i : S8192x1024.Idx => ((aY D (i 0) (i 1) : ℝ) : EReal)) (fun t _ => by
    show (cfg0.win 8).cut (grid0.coords t) ((dat0 V c).after 8 t) = _
    rw [after0_8]
    funext j
    obtain ⟨p, k, rfl⟩ : ∃ (p : Fin 256) (k : Fin 1024), j = ix2 p k := ⟨j 0, j 1, (ix2_eta j).symm⟩
    have hi := idx0_8 t
    rw [View.read_apply]
    refine (out8 V c D hX hT hg hWg hWu hWd t p k).trans ?_
    have e : (((cfg0.win 8).blk t).view.emb (ix2 p k) : S8192x1024.Idx) = ix2 (tok t.val (N0 t) p) k := by
      funext a
      apply Fin.ext
      match a with
      | ⟨0, _⟩ => show win0_8.index t 0 * 256 + 1 * p.val = 256 * t.val + p.val; rw [hi.1]; omega
      | ⟨1, _⟩ => show win0_8.index t 1 * 1024 + 1 * k.val = k.val; rw [hi.2]; omega
    exact (congrArg (fun i : S8192x1024.Idx => ((aY D (i 0) (i 1) : ℝ) : EReal)) e).symm) fun i => by
    have h0 : (i 0 : Nat) < 8192 := (i 0).isLt
    have h1 : (i 1 : Nat) < 1024 := (i 1).isLt
    have ht : (i 0 : Nat) / 256 < cfg0.N := by rw [show cfg0.N = 32 from N_0]; omega
    have hi := idx0_8 ⟨(i 0 : Nat) / 256, ht⟩
    refine ⟨⟨(i 0 : Nat) / 256, ht⟩, flush0_8 _, ?_⟩
    show i ∈ ((View.whole main_v5_2).slice (win0_8.rect ⟨(i 0 : Nat) / 256, ht⟩)).set
    rw [View.set_slice_whole, Rect.mem_set_unit]
    intro a
    match a with
    | ⟨0, _⟩ => show win0_8.index ⟨(i 0 : Nat) / 256, ht⟩ 0 * 256 ≤ (i 0 : Nat) ∧ (i 0 : Nat) < win0_8.index ⟨(i 0 : Nat) / 256, ht⟩ 0 * 256 + 256
                rw [hi.1]; dsimp only; omega
    | ⟨1, _⟩ => show win0_8.index ⟨(i 0 : Nat) / 256, ht⟩ 1 * 1024 ≤ (i 1 : Nat) ∧ (i 1 : Nat) < win0_8.index ⟨(i 0 : Nat) / 256, ht⟩ 1 * 1024 + 1024
                rw [hi.2]; omega

/-- A block's part of the loss. -/
def part (D : Args) (t : Fin 32) : ℝ := ∑ p, ls (aE D (tok t.val t.isLt p))

omit hX hT hg hWg hWu hWd in
theorem idx0_9 : ∀ t : Fin grid0.N, win0_9.index t 0 = t.val ∧ win0_9.index t 1 = 0 ∧ win0_9.index t 2 = 0 := by decide +kernel
theorem fin0_9 : (dat0 V c).arrAt 9 cfg0.N = (fun i : S32x8x128.Idx => ((part D (i 0) : ℝ) : EReal)) :=
  (dat0 V c).arrAt_eq_of_cover 9 (fun i : S32x8x128.Idx => ((part D (i 0) : ℝ) : EReal)) (fun t _ => by
    show (cfg0.win 9).cut (grid0.coords t) ((dat0 V c).after 9 t) = _
    rw [after0_9]
    funext j
    obtain ⟨z, p, k, rfl⟩ : ∃ (z : Fin 1) (p : Fin 8) (k : Fin 128), j = ix3 z p k := ⟨j 0, j 1, j 2, (ix3_eta j).symm⟩
    have hi := idx0_9 t
    rw [View.read_apply]
    refine (out9 V c D hX hT hg hWg hWu hWd t z p k).trans ?_
    have e : (((cfg0.win 9).blk t).view.emb (ix3 z p k) : S32x8x128.Idx) = ix3 ⟨t.val, N0 t⟩ p k := by
      funext a
      apply Fin.ext
      match a with
      | ⟨0, _⟩ => show win0_9.index t 0 * 1 + 1 * z.val = t.val; rw [hi.1]; omega
      | ⟨1, _⟩ => show win0_9.index t 1 * 8 + 1 * p.val = p.val; rw [hi.2.1]; omega
      | ⟨2, _⟩ => show win0_9.index t 2 * 128 + 1 * k.val = k.val; rw [hi.2.2]; omega
    exact (congrArg (fun i : S32x8x128.Idx => ((part D (i 0) : ℝ) : EReal)) e).symm) fun i => by
    have h0 : (i 0 : Nat) < 32 := (i 0).isLt
    have h1 : (i 1 : Nat) < 8 := (i 1).isLt
    have h2 : (i 2 : Nat) < 128 := (i 2).isLt
    have ht : (i 0 : Nat) < cfg0.N := by rw [show cfg0.N = 32 from N_0]; omega
    have hi := idx0_9 ⟨(i 0 : Nat), ht⟩
    refine ⟨⟨(i 0 : Nat), ht⟩, flush0_9 _, ?_⟩
    show i ∈ ((View.whole main_v5_3).slice (win0_9.rect ⟨(i 0 : Nat), ht⟩)).set
    rw [View.set_slice_whole, Rect.mem_set_unit]
    intro a
    match a with
    | ⟨0, _⟩ => show win0_9.index ⟨(i 0 : Nat), ht⟩ 0 * 1 ≤ (i 0 : Nat) ∧ (i 0 : Nat) < win0_9.index ⟨(i 0 : Nat), ht⟩ 0 * 1 + 1
                rw [hi.1]; dsimp only; omega
    | ⟨1, _⟩ => show win0_9.index ⟨(i 0 : Nat), ht⟩ 1 * 8 ≤ (i 1 : Nat) ∧ (i 1 : Nat) < win0_9.index ⟨(i 0 : Nat), ht⟩ 1 * 8 + 8
                rw [hi.2.1]; omega
    | ⟨2, _⟩ => show win0_9.index ⟨(i 0 : Nat), ht⟩ 2 * 128 ≤ (i 2 : Nat) ∧ (i 2 : Nat) < win0_9.index ⟨(i 0 : Nat), ht⟩ 2 * 128 + 128
                rw [hi.2.2]; omega
end

end Cert.Kernel2Ideal.Ffn
-- ==== Proof.FfnBwdBody.lean ====
/- What the feed-forward backward body leaves in its outputs at one grid point, as its named steps. -/
module

public import proofs.«01_k».proof.Proof.FfnBody
public import Idealize.ShloMosaic.Lib.Pipeline.ReadBack

@[expose] public section

set_option maxRecDepth 16384

noncomputable section

namespace Cert.Kernel2Ideal.Ffn

open Cert.Kernel2Ideal Cert.Kernel2Ideal.Gen Cert.Ffn Idealize.ShloMosaic Idealize.ShloMosaic.TcCoe Idealize.SL.Sem

theorem fillRow (v : View sig .tc .vmem S8x1024 .f32) (Z : Vec Ideal S8x1024 .f32) :
    v.readCov (Val := Elt Ideal) [⟨Rect.unit ![0, 0] ![8, 1024] inb_S8x1024_S8x1024_0_0, Z⟩] (Rect.unit ![0, 0] ![1, 1024] inb_S8x1024_S1x1024_0_0).toLoadRect =
      View.ld Z (Rect.unit (s := S8x1024) ![0, 0] ![1, 1024] inb_S8x1024_S1x1024_0_0) := by
  rw [View.readCov_eq_canon']
  exact congrArg (fun z => View.ld z _) (View.canon_unit_zero (S := S8x1024) hz inb_S8x1024_S8x1024_0_0 Z)

section
variable (c : Dev nD) (i : grid1.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S8x1024 .f32) (harg14 : arg14.IsWhole)
  (x0 : Vec Ideal S256x1024 .f32) (x1 : Vec Ideal S256x2816 .bf16) (x2 : Vec Ideal S256x2816 .bf16) (x3 : Vec Ideal S256x1024 .f32) (x4 : Vec Ideal S1x1024 .f32) (x5 : Vec Ideal S2816x1024 .bf16) (x6 : Vec Ideal S2816x1024 .bf16) (x7 : Vec Ideal S2816x1024 .bf16)

/-- The first row of the accumulator. -/
abbrev row0 : Rect S8x1024 := Rect.unit (s := S8x1024) ![0, 0] S1x1024.size inb_S8x1024_S1x1024_0_0

theorem out8_A (hc0 : cond1_0 i) : out1_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = (k1_pay16 (k1_pay3 x0) (k1_pay10 x0 x7 x1 x2) (k1_pay11 x0 x7 x1) x5 x6 x3 x4 : M1) := by
  unfold out1_A_8
  rw [View.read_writes_eq_canon _ _ _ (cover1_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun1_A
  dsimp only
  sl_unfold_words
  rw [View.canon_unit_zero (S := S256x1024) hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S256x2816) hz, View.ld_unit_zero (S := S1x1024) hz, View.ld_unit_zero (S := S2816x1024) hz]

theorem out9_A (hc0 : cond1_0 i) : out1_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = (k1_pay9 x1 x2 : M2) := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun1_A
  dsimp only
  sl_unfold_words
  rw [View.canon_unit_zero (S := S256x2816) hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S256x2816) hz, View.ld_unit_zero (S := S1x1024) hz, View.ld_unit_zero (S := S2816x1024) hz]

theorem out10_A (hc0 : cond1_0 i) : out1_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = (k1_pay10 x0 x7 x1 x2 : M2) := by
  unfold out1_A_10
  rw [View.read_writes_eq_canon _ _ _ (cover1_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun1_A
  dsimp only
  sl_unfold_words
  rw [View.canon_unit_zero (S := S256x2816) hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S256x2816) hz, View.ld_unit_zero (S := S1x1024) hz, View.ld_unit_zero (S := S2816x1024) hz]

theorem out11_A (hc0 : cond1_0 i) : out1_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = (k1_pay11 x0 x7 x1 : M2) := by
  unfold out1_A_11
  rw [View.read_writes_eq_canon _ _ _ (cover1_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun1_A
  dsimp only
  sl_unfold_words
  rw [View.canon_unit_zero (S := S256x2816) hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S256x2816) hz, View.ld_unit_zero (S := S1x1024) hz, View.ld_unit_zero (S := S2816x1024) hz]

theorem out12_A (hc0 : cond1_0 i) : out1_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = (k1_pay15 x3 x4 : Vec Ideal S256x1024 .bf16) := by
  unfold out1_A_12
  rw [View.read_writes_eq_canon _ _ _ (cover1_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun1_A
  dsimp only
  sl_unfold_words
  rw [View.canon_unit_zero (S := S256x1024) hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S256x2816) hz, View.ld_unit_zero (S := S1x1024) hz, View.ld_unit_zero (S := S2816x1024) hz]

theorem out13_A (hc0 : cond1_0 i) (k : Fin 1024) :
    out1_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 0 k) =
      k1_pay1 (k1_pay12 (k1_pay10 x0 x7 x1 x2) (k1_pay11 x0 x7 x1) x5 x6) (k1_pay14 x3) (View.ld (k1_pay2 (F := Ideal)) row0) (ix2 0 k) := by
  unfold out1_A_13
  unfold kernelRun1_A
  dsimp only
  sl_unfold_words
  have e : (ix2 0 k : S8x1024.Idx) = row0.emb (ix2 0 k) := by
    funext a; apply Fin.ext
    match a with
    | ⟨0, _⟩ => show 0 = 0 + 1 * 0; omega
    | ⟨1, _⟩ => show k.val = 0 + 1 * k.val; omega
  rw [e]
  refine (View.read_writes_cons_emb _ _ _ _ _ _).trans ?_
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S256x2816) hz, View.ld_unit_zero (S := S1x1024) hz, View.ld_unit_zero (S := S2816x1024) hz, harg14.read_unread]
  rw [fillRow]

theorem out8_B (hc0 : ¬cond1_0 i) (xo13 : Vec Ideal S8x1024 .f32) : out1_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13 = (k1_pay16 (k1_pay3 x0) (k1_pay10 x0 x7 x1 x2) (k1_pay11 x0 x7 x1) x5 x6 x3 x4 : M1) := by
  unfold out1_B_8
  rw [View.read_writes_eq_canon _ _ _ (cover1_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13)]
  unfold kernelRun1_B
  dsimp only
  sl_unfold_words
  rw [View.canon_unit_zero (S := S256x1024) hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S256x2816) hz, View.ld_unit_zero (S := S1x1024) hz, View.ld_unit_zero (S := S2816x1024) hz]

theorem out9_B (hc0 : ¬cond1_0 i) (xo13 : Vec Ideal S8x1024 .f32) : out1_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13 = (k1_pay9 x1 x2 : M2) := by
  unfold out1_B_9
  rw [View.read_writes_eq_canon _ _ _ (cover1_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13)]
  unfold kernelRun1_B
  dsimp only
  sl_unfold_words
  rw [View.canon_unit_zero (S := S256x2816) hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S256x2816) hz, View.ld_unit_zero (S := S1x1024) hz, View.ld_unit_zero (S := S2816x1024) hz]

theorem out10_B (hc0 : ¬cond1_0 i) (xo13 : Vec Ideal S8x1024 .f32) : out1_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13 = (k1_pay10 x0 x7 x1 x2 : M2) := by
  unfold out1_B_10
  rw [View.read_writes_eq_canon _ _ _ (cover1_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13)]
  unfold kernelRun1_B
  dsimp only
  sl_unfold_words
  rw [View.canon_unit_zero (S := S256x2816) hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S256x2816) hz, View.ld_unit_zero (S := S1x1024) hz, View.ld_unit_zero (S := S2816x1024) hz]

theorem out11_B (hc0 : ¬cond1_0 i) (xo13 : Vec Ideal S8x1024 .f32) : out1_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13 = (k1_pay11 x0 x7 x1 : M2) := by
  unfold out1_B_11
  rw [View.read_writes_eq_canon _ _ _ (cover1_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13)]
  unfold kernelRun1_B
  dsimp only
  sl_unfold_words
  rw [View.canon_unit_zero (S := S256x2816) hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S256x2816) hz, View.ld_unit_zero (S := S1x1024) hz, View.ld_unit_zero (S := S2816x1024) hz]

theorem out12_B (hc0 : ¬cond1_0 i) (xo13 : Vec Ideal S8x1024 .f32) : out1_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13 = (k1_pay15 x3 x4 : Vec Ideal S256x1024 .bf16) := by
  unfold out1_B_12
  rw [View.read_writes_eq_canon _ _ _ (cover1_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13)]
  unfold kernelRun1_B
  dsimp only
  sl_unfold_words
  rw [View.canon_unit_zero (S := S256x1024) hz]
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S256x2816) hz, View.ld_unit_zero (S := S1x1024) hz, View.ld_unit_zero (S := S2816x1024) hz]

theorem out13_B (hc0 : ¬cond1_0 i) (xo13 : Vec Ideal S8x1024 .f32) (k : Fin 1024) :
    out1_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13 (ix2 0 k) =
      k1_pay1 (k1_pay12 (k1_pay10 x0 x7 x1 x2) (k1_pay11 x0 x7 x1) x5 x6) (k1_pay14 x3) (View.ld (xo13) row0) (ix2 0 k) := by
  unfold out1_B_13
  unfold kernelRun1_B
  dsimp only
  sl_unfold_words
  have e : (ix2 0 k : S8x1024.Idx) = row0.emb (ix2 0 k) := by
    funext a; apply Fin.ext
    match a with
    | ⟨0, _⟩ => show 0 = 0 + 1 * 0; omega
    | ⟨1, _⟩ => show k.val = 0 + 1 * k.val; omega
  rw [e]
  refine (View.read_writes_cons_emb _ _ _ _ _ _).trans ?_
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S256x2816) hz, View.ld_unit_zero (S := S1x1024) hz, View.ld_unit_zero (S := S2816x1024) hz, harg14.read_unread]

end

end Cert.Kernel2Ideal.Ffn
-- ==== Proof.FfnBwd.lean ====
/- The feed-forward backward call over its grid: the whole arrays it leaves, in closed form. -/
module

public import proofs.«01_k».proof.Proof.FfnBwdBody

@[expose] public section

set_option maxRecDepth 16384

noncomputable section

namespace Cert.Kernel2Ideal.Ffn

open Cert.Kernel2Ideal Cert.Kernel2Ideal.Gen Cert.Ffn Idealize.ShloMosaic Idealize.ShloMosaic.TcCoe Idealize.SL.Sem

variable (V : (c : Dev nD) → (b : Ref sig .tc) → Buf (Elt Idealize.ShloMosaic.Ideal) ((c : Thread nD τ).loc b)) (c : Dev nD)

theorem N1 (t : Fin cfg1.N) : t.val < 32 := lt_of_lt_of_eq t.isLt N_1

/-! ## The blocks the call reads -/

theorem idx1_0 : ∀ t : Fin grid1.N, win1_0.index t 0 = t.val ∧ win1_0.index t 1 = 0 := by decide +kernel
theorem in1_0 (t : Fin cfg1.N) (p : Fin 256) (k : Fin 1024) :
    (iblk1 V c 0 t : M1) (ix2 p k) = (V c main_v5_2 : Vec Ideal S8192x1024 .f32) (ix2 (tok t.val (N1 t) p) k) := by
  have hi := idx1_0 t
  unfold iblk1
  rw [View.read_apply]
  show V c main_v5_2 _ = V c main_v5_2 _
  congr 1
  funext a
  apply Fin.ext
  match a with
  | ⟨0, _⟩ => show win1_0.index t 0 * 256 + 1 * p.val = 256 * t.val + p.val; rw [hi.1]; omega
  | ⟨1, _⟩ => show win1_0.index t 1 * 1024 + 1 * k.val = k.val; rw [hi.2]; omega
theorem idx1_1 : ∀ t : Fin grid1.N, win1_1.index t 0 = t.val ∧ win1_1.index t 1 = 0 := by decide +kernel
theorem in1_1 (t : Fin cfg1.N) (p : Fin 256) (k : Fin 2816) :
    (iblk1 V c 1 t : M2) (ix2 p k) = (V c main_v5_0 : Vec Ideal S8192x2816 .bf16) (ix2 (tok t.val (N1 t) p) k) := by
  have hi := idx1_1 t
  unfold iblk1
  rw [View.read_apply]
  show V c main_v5_0 _ = V c main_v5_0 _
  congr 1
  funext a
  apply Fin.ext
  match a with
  | ⟨0, _⟩ => show win1_1.index t 0 * 256 + 1 * p.val = 256 * t.val + p.val; rw [hi.1]; omega
  | ⟨1, _⟩ => show win1_1.index t 1 * 2816 + 1 * k.val = k.val; rw [hi.2]; omega
theorem idx1_2 : ∀ t : Fin grid1.N, win1_2.index t 0 = t.val ∧ win1_2.index t 1 = 0 := by decide +kernel
theorem in1_2 (t : Fin cfg1.N) (p : Fin 256) (k : Fin 2816) :
    (iblk1 V c 2 t : M2) (ix2 p k) = (V c main_v5_1 : Vec Ideal S8192x2816 .bf16) (ix2 (tok t.val (N1 t) p) k) := by
  have hi := idx1_2 t
  unfold iblk1
  rw [View.read_apply]
  show V c main_v5_1 _ = V c main_v5_1 _
  congr 1
  funext a
  apply Fin.ext
  match a with
  | ⟨0, _⟩ => show win1_2.index t 0 * 256 + 1 * p.val = 256 * t.val + p.val; rw [hi.1]; omega
  | ⟨1, _⟩ => show win1_2.index t 1 * 2816 + 1 * k.val = k.val; rw [hi.2]; omega
theorem idx1_3 : ∀ t : Fin grid1.N, win1_3.index t 0 = t.val ∧ win1_3.index t 1 = 0 := by decide +kernel
theorem in1_3 (t : Fin cfg1.N) (p : Fin 256) (k : Fin 1024) :
    (iblk1 V c 3 t : M1) (ix2 p k) = (V c main_arg0 : Vec Ideal S8192x1024 .f32) (ix2 (tok t.val (N1 t) p) k) := by
  have hi := idx1_3 t
  unfold iblk1
  rw [View.read_apply]
  show V c main_arg0 _ = V c main_arg0 _
  congr 1
  funext a
  apply Fin.ext
  match a with
  | ⟨0, _⟩ => show win1_3.index t 0 * 256 + 1 * p.val = 256 * t.val + p.val; rw [hi.1]; omega
  | ⟨1, _⟩ => show win1_3.index t 1 * 1024 + 1 * k.val = k.val; rw [hi.2]; omega
theorem idx1_4 : ∀ t : Fin grid1.N, win1_4.index t 0 = 0 ∧ win1_4.index t 1 = 0 := by decide +kernel
theorem in1_4 (t : Fin cfg1.N) (p : Fin 1) (k : Fin 1024) :
    (iblk1 V c 4 t : MG) (ix2 p k) = (V c main_arg2 : Vec Ideal S1x1024 .f32) (ix2 p k) := by
  have hi := idx1_4 t
  unfold iblk1
  rw [View.read_apply]
  show V c main_arg2 _ = V c main_arg2 _
  congr 1
  funext a
  apply Fin.ext
  match a with
  | ⟨0, _⟩ => show win1_4.index t 0 * 1 + 1 * p.val = p.val; rw [hi.1]; omega
  | ⟨1, _⟩ => show win1_4.index t 1 * 1024 + 1 * k.val = k.val; rw [hi.2]; omega
theorem idx1_5 : ∀ t : Fin grid1.N, win1_5.index t 0 = 0 ∧ win1_5.index t 1 = 0 := by decide +kernel
theorem in1_5 (t : Fin cfg1.N) (p : Fin 2816) (k : Fin 1024) :
    (iblk1 V c 5 t : MW) (ix2 p k) = (V c main_v1 : Vec Ideal S2816x1024 .bf16) (ix2 p k) := by
  have hi := idx1_5 t
  unfold iblk1
  rw [View.read_apply]
  show V c main_v1 _ = V c main_v1 _
  congr 1
  funext a
  apply Fin.ext
  match a with
  | ⟨0, _⟩ => show win1_5.index t 0 * 2816 + 1 * p.val = p.val; rw [hi.1]; omega
  | ⟨1, _⟩ => show win1_5.index t 1 * 1024 + 1 * k.val = k.val; rw [hi.2]; omega
theorem idx1_6 : ∀ t : Fin grid1.N, win1_6.index t 0 = 0 ∧ win1_6.index t 1 = 0 := by decide +kernel
theorem in1_6 (t : Fin cfg1.N) (p : Fin 2816) (k : Fin 1024) :
    (iblk1 V c 6 t : MW) (ix2 p k) = (V c main_v3 : Vec Ideal S2816x1024 .bf16) (ix2 p k) := by
  have hi := idx1_6 t
  unfold iblk1
  rw [View.read_apply]
  show V c main_v3 _ = V c main_v3 _
  congr 1
  funext a
  apply Fin.ext
  match a with
  | ⟨0, _⟩ => show win1_6.index t 0 * 2816 + 1 * p.val = p.val; rw [hi.1]; omega
  | ⟨1, _⟩ => show win1_6.index t 1 * 1024 + 1 * k.val = k.val; rw [hi.2]; omega
theorem idx1_7 : ∀ t : Fin grid1.N, win1_7.index t 0 = 0 ∧ win1_7.index t 1 = 0 := by decide +kernel
theorem in1_7 (t : Fin cfg1.N) (p : Fin 2816) (k : Fin 1024) :
    (iblk1 V c 7 t : MW) (ix2 p k) = (V c main_v4 : Vec Ideal S2816x1024 .bf16) (ix2 p k) := by
  have hi := idx1_7 t
  unfold iblk1
  rw [View.read_apply]
  show V c main_v4 _ = V c main_v4 _
  congr 1
  funext a
  apply Fin.ext
  match a with
  | ⟨0, _⟩ => show win1_7.index t 0 * 2816 + 1 * p.val = p.val; rw [hi.1]; omega
  | ⟨1, _⟩ => show win1_7.index t 1 * 1024 + 1 * k.val = k.val; rw [hi.2]; omega

/-! ## What the body leaves at a point, as its named steps -/

theorem pt1_8 (t : Fin cfg1.N) : (outsAt1 V c t.val t.isLt).1 = (k1_pay16 (k1_pay3 (iblk1 V c 0 t)) (k1_pay10 (iblk1 V c 0 t) (iblk1 V c 7 t) (iblk1 V c 1 t) (iblk1 V c 2 t)) (k1_pay11 (iblk1 V c 0 t) (iblk1 V c 7 t) (iblk1 V c 1 t)) (iblk1 V c 5 t) (iblk1 V c 6 t) (iblk1 V c 3 t) (iblk1 V c 4 t) : M1) := by
  by_cases h0 : t.val % 32 = 0
  · have e := out8_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) ((hcond1_0 t).mpr h0)
    have e' := congrArg (fun z => z.1) (outsAt1_A V c t h0)
    dsimp only at e'
    rw [e']; exact e
  · have e := out8_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (fun h => h0 ((hcond1_0 t).mp h)) (outsAt1 V c (t.val - 1) (Nat.lt_of_le_of_lt (Nat.sub_le _ _) t.isLt)).2.2.2.2.2
    have e' := congrArg (fun z => z.1) (outsAt1_B V c t h0)
    dsimp only at e'
    rw [e']; exact e
theorem pt1_9 (t : Fin cfg1.N) : (outsAt1 V c t.val t.isLt).2.1 = (k1_pay9 (iblk1 V c 1 t) (iblk1 V c 2 t) : M2) := by
  by_cases h0 : t.val % 32 = 0
  · have e := out9_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) ((hcond1_0 t).mpr h0)
    have e' := congrArg (fun z => z.2.1) (outsAt1_A V c t h0)
    dsimp only at e'
    rw [e']; exact e
  · have e := out9_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (fun h => h0 ((hcond1_0 t).mp h)) (outsAt1 V c (t.val - 1) (Nat.lt_of_le_of_lt (Nat.sub_le _ _) t.isLt)).2.2.2.2.2
    have e' := congrArg (fun z => z.2.1) (outsAt1_B V c t h0)
    dsimp only at e'
    rw [e']; exact e
theorem pt1_10 (t : Fin cfg1.N) : (outsAt1 V c t.val t.isLt).2.2.1 = (k1_pay10 (iblk1 V c 0 t) (iblk1 V c 7 t) (iblk1 V c 1 t) (iblk1 V c 2 t) : M2) := by
  by_cases h0 : t.val % 32 = 0
  · have e := out10_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) ((hcond1_0 t).mpr h0)
    have e' := congrArg (fun z => z.2.2.1) (outsAt1_A V c t h0)
    dsimp only at e'
    rw [e']; exact e
  · have e := out10_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (fun h => h0 ((hcond1_0 t).mp h)) (outsAt1 V c (t.val - 1) (Nat.lt_of_le_of_lt (Nat.sub_le _ _) t.isLt)).2.2.2.2.2
    have e' := congrArg (fun z => z.2.2.1) (outsAt1_B V c t h0)
    dsimp only at e'
    rw [e']; exact e
theorem pt1_11 (t : Fin cfg1.N) : (outsAt1 V c t.val t.isLt).2.2.2.1 = (k1_pay11 (iblk1 V c 0 t) (iblk1 V c 7 t) (iblk1 V c 1 t) : M2) := by
  by_cases h0 : t.val % 32 = 0
  · have e := out11_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) ((hcond1_0 t).mpr h0)
    have e' := congrArg (fun z => z.2.2.2.1) (outsAt1_A V c t h0)
    dsimp only at e'
    rw [e']; exact e
  · have e := out11_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (fun h => h0 ((hcond1_0 t).mp h)) (outsAt1 V c (t.val - 1) (Nat.lt_of_le_of_lt (Nat.sub_le _ _) t.isLt)).2.2.2.2.2
    have e' := congrArg (fun z => z.2.2.2.1) (outsAt1_B V c t h0)
    dsimp only at e'
    rw [e']; exact e
theorem pt1_12 (t : Fin cfg1.N) : (outsAt1 V c t.val t.isLt).2.2.2.2.1 = (k1_pay15 (iblk1 V c 3 t) (iblk1 V c 4 t) : Vec Ideal S256x1024 .bf16) := by
  by_cases h0 : t.val % 32 = 0
  · have e := out12_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) ((hcond1_0 t).mpr h0)
    have e' := congrArg (fun z => z.2.2.2.2.1) (outsAt1_A V c t h0)
    dsimp only at e'
    rw [e']; exact e
  · have e := out12_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (fun h => h0 ((hcond1_0 t).mp h)) (outsAt1 V c (t.val - 1) (Nat.lt_of_le_of_lt (Nat.sub_le _ _) t.isLt)).2.2.2.2.2
    have e' := congrArg (fun z => z.2.2.2.2.1) (outsAt1_B V c t h0)
    dsimp only at e'
    rw [e']; exact e

theorem ld_row0 (z : Vec Ideal S8x1024 .f32) (k : Fin 1024) : View.ld z row0 (ix2 0 k) = z (ix2 0 k) := by
  have e : row0.emb (ix2 0 k) = (ix2 0 k : S8x1024.Idx) := by
    funext a; apply Fin.ext
    match a with
    | ⟨0, _⟩ => show 0 + 1 * 0 = 0; omega
    | ⟨1, _⟩ => show 0 + 1 * k.val = k.val; omega
  exact congrArg z e

/-! ## The same over the real arguments -/

section
variable (D : Args)
  (hY : ∀ n k, (V c main_v5_2 : Vec Ideal S8192x1024 .f32) (ix2 n k) = (aY D n k : EReal))
  (hA : ∀ n f, (V c main_v5_0 : Vec Ideal S8192x2816 .bf16) (ix2 n f) = (aA D n f : EReal))
  (hU : ∀ n f, (V c main_v5_1 : Vec Ideal S8192x2816 .bf16) (ix2 n f) = (aU D n f : EReal))
  (hX : ∀ n k, (V c main_arg0 : Vec Ideal S8192x1024 .f32) (ix2 n k) = (D.X n k : EReal))
  (hg : ∀ k, (V c main_arg2 : Vec Ideal S1x1024 .f32) (ix2 0 k) = (D.g k : EReal))
  (hWg : ∀ f k, (V c main_v1 : Vec Ideal S2816x1024 .bf16) (ix2 f k) = (D.Wg k f : EReal))
  (hWu : ∀ f k, (V c main_v3 : Vec Ideal S2816x1024 .bf16) (ix2 f k) = (D.Wu k f : EReal))
  (hWd : ∀ f k, (V c main_v4 : Vec Ideal S2816x1024 .bf16) (ix2 f k) = (D.Wd f k : EReal))
include hY hA hU hX hg hWg hWu hWd

theorem val1_9 (t : Fin cfg1.N) (p : Fin 256) (k : Fin 2816) : k1_pay9 (iblk1 V c 1 t) (iblk1 V c 2 t) (ix2 p k) = (aS D (tok t.val (N1 t) p) k : EReal) :=
  pay9_1 _ _ (fun p => aA D (tok t.val (N1 t) p)) (fun p => aU D (tok t.val (N1 t) p)) (fun p f => (in1_1 V c t p f).trans (hA _ _))
    (fun p f => (in1_2 V c t p f).trans (hU _ _)) p k

theorem val1_10 (t : Fin cfg1.N) (p : Fin 256) (k : Fin 2816) : k1_pay10 (iblk1 V c 0 t) (iblk1 V c 7 t) (iblk1 V c 1 t) (iblk1 V c 2 t) (ix2 p k) = (aDa D (tok t.val (N1 t) p) k : EReal) :=
  pay10_1 _ _ (fun p => aA D (tok t.val (N1 t) p)) (fun p => aU D (tok t.val (N1 t) p)) (fun p f => (in1_1 V c t p f).trans (hA _ _))
    (fun p f => (in1_2 V c t p f).trans (hU _ _)) _ _ (fun p => aY D (tok t.val (N1 t) p)) D.Wd (fun p k => (in1_0 V c t p k).trans (hY _ _))
    (fun f k => (in1_7 V c t f k).trans (hWd _ _)) p k

theorem val1_11 (t : Fin cfg1.N) (p : Fin 256) (k : Fin 2816) : k1_pay11 (iblk1 V c 0 t) (iblk1 V c 7 t) (iblk1 V c 1 t) (ix2 p k) = (aDu D (tok t.val (N1 t) p) k : EReal) :=
  pay11_1 _ (fun p => aA D (tok t.val (N1 t) p)) (fun p f => (in1_1 V c t p f).trans (hA _ _))
    _ _ (fun p => aY D (tok t.val (N1 t) p)) D.Wd (fun p k => (in1_0 V c t p k).trans (hY _ _))
    (fun f k => (in1_7 V c t f k).trans (hWd _ _)) p k

theorem val1_12 (t : Fin cfg1.N) (p : Fin 256) (k : Fin 1024) : k1_pay15 (iblk1 V c 3 t) (iblk1 V c 4 t) (ix2 p k) = (aH D (tok t.val (N1 t) p) k : EReal) :=
  pay15_1 _ _ (fun p => D.X (tok t.val (N1 t) p)) D.g (fun p k => (in1_3 V c t p k).trans (hX _ _)) (fun k => (in1_4 V c t 0 k).trans (hg _)) p k

theorem val1_dh (t : Fin cfg1.N) (p : Fin 256) (k : Fin 1024) :
    k1_pay12 (k1_pay10 (iblk1 V c 0 t) (iblk1 V c 7 t) (iblk1 V c 1 t) (iblk1 V c 2 t)) (k1_pay11 (iblk1 V c 0 t) (iblk1 V c 7 t) (iblk1 V c 1 t)) (iblk1 V c 5 t) (iblk1 V c 6 t) (ix2 p k) = (aDh D (tok t.val (N1 t) p) k : EReal) :=
  pay12_1 _ _ (fun p => aDa D (tok t.val (N1 t) p)) (fun p => aDu D (tok t.val (N1 t) p)) _ _ D.Wg D.Wu
    (val1_10 V c D hY hA hU hX hg hWg hWu hWd t) (val1_11 V c D hY hA hU hX hg hWg hWu hWd t)
    (fun f k => (in1_5 V c t f k).trans (hWg _ _)) (fun f k => (in1_6 V c t f k).trans (hWu _ _)) p k

theorem val1_8 (t : Fin cfg1.N) (p : Fin 256) (k : Fin 1024) : k1_pay16 (k1_pay3 (iblk1 V c 0 t)) (k1_pay10 (iblk1 V c 0 t) (iblk1 V c 7 t) (iblk1 V c 1 t) (iblk1 V c 2 t)) (k1_pay11 (iblk1 V c 0 t) (iblk1 V c 7 t) (iblk1 V c 1 t)) (iblk1 V c 5 t) (iblk1 V c 6 t) (iblk1 V c 3 t) (iblk1 V c 4 t) (ix2 p k) = (rX D (tok t.val (N1 t) p) k : EReal) :=
  pay16_1 _ _ (fun p => D.X (tok t.val (N1 t) p)) D.g (fun p k => (in1_3 V c t p k).trans (hX _ _)) (fun k => (in1_4 V c t 0 k).trans (hg _))
    _ _ (fun p => aDa D (tok t.val (N1 t) p)) (fun p => aDu D (tok t.val (N1 t) p)) _ _ D.Wg D.Wu
    (val1_10 V c D hY hA hU hX hg hWg hWu hWd t) (val1_11 V c D hY hA hU hX hg hWg hWu hWd t)
    (fun f k => (in1_5 V c t f k).trans (hWg _ _)) (fun f k => (in1_6 V c t f k).trans (hWu _ _))
    _ (fun p => aY D (tok t.val (N1 t) p)) (fun p k => by pointwise [k1_pay3]; exact (in1_0 V c t p k).trans (hY _ _)) p k

/-- A block's part of the scale's gradient. -/
def gpart (D : Args) (n : ℕ) (k : Fin 1024) : ℝ :=
  if h : n < 32 then ∑ p, aDh D (tok n h p) k * xh (D.X (tok n h p)) k else 0

theorem add1_13 (t : Fin cfg1.N) (z : MG) (s : Fin 1024 → ℝ) (hz : ∀ k, z (ix2 0 k) = (s k : EReal)) (k : Fin 1024) :
    k1_pay1 (k1_pay12 (k1_pay10 (iblk1 V c 0 t) (iblk1 V c 7 t) (iblk1 V c 1 t) (iblk1 V c 2 t)) (k1_pay11 (iblk1 V c 0 t) (iblk1 V c 7 t) (iblk1 V c 1 t)) (iblk1 V c 5 t) (iblk1 V c 6 t)) (k1_pay14 (iblk1 V c 3 t)) z (ix2 0 k) = ((s k + gpart D t.val k : ℝ) : EReal) := by
  unfold gpart
  rw [dif_pos (N1 t)]
  exact pay1_1 _ _ z (fun p => aDh D (tok t.val (N1 t) p)) (fun p => xh (D.X (tok t.val (N1 t) p))) s
    (val1_dh V c D hY hA hU hX hg hWg hWu hWd t)
    (pay14_1 _ (fun p => D.X (tok t.val (N1 t) p)) (fun p k => (in1_3 V c t p k).trans (hX _ _))) hz k

theorem pt1_13 : ∀ (n : ℕ) (hn : n < cfg1.N) (k : Fin 1024),
    (outsAt1 V c n hn).2.2.2.2.2 (ix2 0 k) = ((∑ q ∈ Finset.range (n + 1), gpart D q k : ℝ) : EReal)
  | 0, hn, k => by
    have e := out13_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) ((hcond1_0 ⟨0, hn⟩).mpr rfl) k
    have e' := congrArg (fun z => z.2.2.2.2.2) (outsAt1_A V c ⟨0, hn⟩ rfl)
    dsimp only at e'
    rw [e', e]
    rw [add1_13 V c D hY hA hU hX hg hWg hWu hWd ⟨0, hn⟩ _ (fun _ => 0) (fun k => (ld_row0 _ k).trans (pay2_1 0 k)) k]
    simp
  | n + 1, hn, k => by
    have h32 := N1 ⟨n + 1, hn⟩
    have h0 : ¬(⟨n + 1, hn⟩ : Fin cfg1.N).val % 32 = 0 := by dsimp only at h32 ⊢; omega
    have e := out13_B c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) (ms1_3 (⟨n + 1, hn⟩ : Fin cfg1.N)) (hs1_3 (⟨n + 1, hn⟩ : Fin cfg1.N)) (ms1_4 (⟨n + 1, hn⟩ : Fin cfg1.N)) (hs1_4 (⟨n + 1, hn⟩ : Fin cfg1.N)) (ms1_5 (⟨n + 1, hn⟩ : Fin cfg1.N)) (hs1_5 (⟨n + 1, hn⟩ : Fin cfg1.N)) (ms1_6 (⟨n + 1, hn⟩ : Fin cfg1.N)) (hs1_6 (⟨n + 1, hn⟩ : Fin cfg1.N)) (ms1_7 (⟨n + 1, hn⟩ : Fin cfg1.N)) (hs1_7 (⟨n + 1, hn⟩ : Fin cfg1.N)) (ms1_8 (⟨n + 1, hn⟩ : Fin cfg1.N)) (hs1_8 (⟨n + 1, hn⟩ : Fin cfg1.N)) (ms1_9 (⟨n + 1, hn⟩ : Fin cfg1.N)) (hs1_9 (⟨n + 1, hn⟩ : Fin cfg1.N)) (ms1_10 (⟨n + 1, hn⟩ : Fin cfg1.N)) (hs1_10 (⟨n + 1, hn⟩ : Fin cfg1.N)) (ms1_11 (⟨n + 1, hn⟩ : Fin cfg1.N)) (hs1_11 (⟨n + 1, hn⟩ : Fin cfg1.N)) (ms1_12 (⟨n + 1, hn⟩ : Fin cfg1.N)) (hs1_12 (⟨n + 1, hn⟩ : Fin cfg1.N)) (ms1_13 (⟨n + 1, hn⟩ : Fin cfg1.N)) (hs1_13 (⟨n + 1, hn⟩ : Fin cfg1.N)) (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (iblk1 V c 4 (⟨n + 1, hn⟩ : Fin cfg1.N)) (iblk1 V c 5 (⟨n + 1, hn⟩ : Fin cfg1.N)) (iblk1 V c 6 (⟨n + 1, hn⟩ : Fin cfg1.N)) (iblk1 V c 7 (⟨n + 1, hn⟩ : Fin cfg1.N)) (fun h => h0 ((hcond1_0 (⟨n + 1, hn⟩ : Fin cfg1.N)).mp h)) (outsAt1 V c ((⟨n + 1, hn⟩ : Fin cfg1.N).val - 1) (Nat.lt_of_le_of_lt (Nat.sub_le _ _) (⟨n + 1, hn⟩ : Fin cfg1.N).isLt)).2.2.2.2.2 k
    have e' := congrArg (fun z => z.2.2.2.2.2) (outsAt1_B V c ⟨n + 1, hn⟩ h0)
    dsimp only at e'
    rw [e']
    refine e.trans ?_
    refine (add1_13 V c D hY hA hU hX hg hWg hWu hWd ⟨n + 1, hn⟩ _ (fun k => ∑ q ∈ Finset.range (n + 1), gpart D q k)
      (fun k => (ld_row0 _ k).trans (pt1_13 n (Nat.lt_of_succ_lt hn) k)) k).trans ?_
    rw [Finset.sum_range_succ _ (n + 1)]

omit hY hA hU hX hg hWg hWu hWd in
theorem idx1_8 : ∀ t : Fin grid1.N, win1_8.index t 0 = t.val ∧ win1_8.index t 1 = 0 := by decide +kernel
theorem fin1_8 : (dat1 V c).arrAt 8 cfg1.N = (fun i : S8192x1024.Idx => ((rX D (i 0) (i 1) : ℝ) : EReal)) :=
  (dat1 V c).arrAt_eq_of_cover 8 (fun i : S8192x1024.Idx => ((rX D (i 0) (i 1) : ℝ) : EReal)) (fun t _ => by
    show (cfg1.win 8).cut (grid1.coords t) ((dat1 V c).after 8 t) = _
    rw [after1_8, pt1_8]
    funext j
    obtain ⟨p, k, rfl⟩ : ∃ (p : Fin 256) (k : Fin 1024), j = ix2 p k := ⟨j 0, j 1, (ix2_eta j).symm⟩
    have hi := idx1_8 t
    rw [View.read_apply]
    refine (val1_8 V c D hY hA hU hX hg hWg hWu hWd t p k).trans ?_
    have e : (((cfg1.win 8).blk t).view.emb (ix2 p k) : S8192x1024.Idx) = ix2 (tok t.val (N1 t) p) k := by
      funext a
      apply Fin.ext
      match a with
      | ⟨0, _⟩ => show win1_8.index t 0 * 256 + 1 * p.val = 256 * t.val + p.val; rw [hi.1]; omega
      | ⟨1, _⟩ => show win1_8.index t 1 * 1024 + 1 * k.val = k.val; rw [hi.2]; omega
    exact (congrArg (fun i : S8192x1024.Idx => ((rX D (i 0) (i 1) : ℝ) : EReal)) e).symm) fun i => by
    have h0 : (i 0 : Nat) < 8192 := (i 0).isLt
    have h1 : (i 1 : Nat) < 1024 := (i 1).isLt
    have ht : (i 0 : Nat) / 256 < cfg1.N := by rw [show cfg1.N = 32 from N_1]; omega
    have hi := idx1_8 ⟨(i 0 : Nat) / 256, ht⟩
    refine ⟨⟨(i 0 : Nat) / 256, ht⟩, flush1_8 _, ?_⟩
    show i ∈ ((View.whole main_v9_0).slice (win1_8.rect ⟨(i 0 : Nat) / 256, ht⟩)).set
    rw [View.set_slice_whole, Rect.mem_set_unit]
    intro a
    match a with
    | ⟨0, _⟩ => show win1_8.index ⟨(i 0 : Nat) / 256, ht⟩ 0 * 256 ≤ (i 0 : Nat) ∧ (i 0 : Nat) < win1_8.index ⟨(i 0 : Nat) / 256, ht⟩ 0 * 256 + 256
                rw [hi.1]; dsimp only; omega
    | ⟨1, _⟩ => show win1_8.index ⟨(i 0 : Nat) / 256, ht⟩ 1 * 1024 ≤ (i 1 : Nat) ∧ (i 1 : Nat) < win1_8.index ⟨(i 0 : Nat) / 256, ht⟩ 1 * 1024 + 1024
                rw [hi.2]; omega

omit hY hA hU hX hg hWg hWu hWd in
theorem idx1_9 : ∀ t : Fin grid1.N, win1_9.index t 0 = t.val ∧ win1_9.index t 1 = 0 := by decide +kernel
theorem fin1_9 : (dat1 V c).arrAt 9 cfg1.N = (fun i : S8192x2816.Idx => ((aS D (i 0) (i 1) : ℝ) : EReal)) :=
  (dat1 V c).arrAt_eq_of_cover 9 (fun i : S8192x2816.Idx => ((aS D (i 0) (i 1) : ℝ) : EReal)) (fun t _ => by
    show (cfg1.win 9).cut (grid1.coords t) ((dat1 V c).after 9 t) = _
    rw [after1_9, pt1_9]
    funext j
    obtain ⟨p, k, rfl⟩ : ∃ (p : Fin 256) (k : Fin 2816), j = ix2 p k := ⟨j 0, j 1, (ix2_eta j).symm⟩
    have hi := idx1_9 t
    rw [View.read_apply]
    refine (val1_9 V c D hY hA hU hX hg hWg hWu hWd t p k).trans ?_
    have e : (((cfg1.win 9).blk t).view.emb (ix2 p k) : S8192x2816.Idx) = ix2 (tok t.val (N1 t) p) k := by
      funext a
      apply Fin.ext
      match a with
      | ⟨0, _⟩ => show win1_9.index t 0 * 256 + 1 * p.val = 256 * t.val + p.val; rw [hi.1]; omega
      | ⟨1, _⟩ => show win1_9.index t 1 * 2816 + 1 * k.val = k.val; rw [hi.2]; omega
    exact (congrArg (fun i : S8192x2816.Idx => ((aS D (i 0) (i 1) : ℝ) : EReal)) e).symm) fun i => by
    have h0 : (i 0 : Nat) < 8192 := (i 0).isLt
    have h1 : (i 1 : Nat) < 2816 := (i 1).isLt
    have ht : (i 0 : Nat) / 256 < cfg1.N := by rw [show cfg1.N = 32 from N_1]; omega
    have hi := idx1_9 ⟨(i 0 : Nat) / 256, ht⟩
    refine ⟨⟨(i 0 : Nat) / 256, ht⟩, flush1_9 _, ?_⟩
    show i ∈ ((View.whole main_v9_1).slice (win1_9.rect ⟨(i 0 : Nat) / 256, ht⟩)).set
    rw [View.set_slice_whole, Rect.mem_set_unit]
    intro a
    match a with
    | ⟨0, _⟩ => show win1_9.index ⟨(i 0 : Nat) / 256, ht⟩ 0 * 256 ≤ (i 0 : Nat) ∧ (i 0 : Nat) < win1_9.index ⟨(i 0 : Nat) / 256, ht⟩ 0 * 256 + 256
                rw [hi.1]; dsimp only; omega
    | ⟨1, _⟩ => show win1_9.index ⟨(i 0 : Nat) / 256, ht⟩ 1 * 2816 ≤ (i 1 : Nat) ∧ (i 1 : Nat) < win1_9.index ⟨(i 0 : Nat) / 256, ht⟩ 1 * 2816 + 2816
                rw [hi.2]; omega

omit hY hA hU hX hg hWg hWu hWd in
theorem idx1_10 : ∀ t : Fin grid1.N, win1_10.index t 0 = t.val ∧ win1_10.index t 1 = 0 := by decide +kernel
theorem fin1_10 : (dat1 V c).arrAt 10 cfg1.N = (fun i : S8192x2816.Idx => ((aDa D (i 0) (i 1) : ℝ) : EReal)) :=
  (dat1 V c).arrAt_eq_of_cover 10 (fun i : S8192x2816.Idx => ((aDa D (i 0) (i 1) : ℝ) : EReal)) (fun t _ => by
    show (cfg1.win 10).cut (grid1.coords t) ((dat1 V c).after 10 t) = _
    rw [after1_10, pt1_10]
    funext j
    obtain ⟨p, k, rfl⟩ : ∃ (p : Fin 256) (k : Fin 2816), j = ix2 p k := ⟨j 0, j 1, (ix2_eta j).symm⟩
    have hi := idx1_10 t
    rw [View.read_apply]
    refine (val1_10 V c D hY hA hU hX hg hWg hWu hWd t p k).trans ?_
    have e : (((cfg1.win 10).blk t).view.emb (ix2 p k) : S8192x2816.Idx) = ix2 (tok t.val (N1 t) p) k := by
      funext a
      apply Fin.ext
      match a with
      | ⟨0, _⟩ => show win1_10.index t 0 * 256 + 1 * p.val = 256 * t.val + p.val; rw [hi.1]; omega
      | ⟨1, _⟩ => show win1_10.index t 1 * 2816 + 1 * k.val = k.val; rw [hi.2]; omega
    exact (congrArg (fun i : S8192x2816.Idx => ((aDa D (i 0) (i 1) : ℝ) : EReal)) e).symm) fun i => by
    have h0 : (i 0 : Nat) < 8192 := (i 0).isLt
    have h1 : (i 1 : Nat) < 2816 := (i 1).isLt
    have ht : (i 0 : Nat) / 256 < cfg1.N := by rw [show cfg1.N = 32 from N_1]; omega
    have hi := idx1_10 ⟨(i 0 : Nat) / 256, ht⟩
    refine ⟨⟨(i 0 : Nat) / 256, ht⟩, flush1_10 _, ?_⟩
    show i ∈ ((View.whole main_v9_2).slice (win1_10.rect ⟨(i 0 : Nat) / 256, ht⟩)).set
    rw [View.set_slice_whole, Rect.mem_set_unit]
    intro a
    match a with
    | ⟨0, _⟩ => show win1_10.index ⟨(i 0 : Nat) / 256, ht⟩ 0 * 256 ≤ (i 0 : Nat) ∧ (i 0 : Nat) < win1_10.index ⟨(i 0 : Nat) / 256, ht⟩ 0 * 256 + 256
                rw [hi.1]; dsimp only; omega
    | ⟨1, _⟩ => show win1_10.index ⟨(i 0 : Nat) / 256, ht⟩ 1 * 2816 ≤ (i 1 : Nat) ∧ (i 1 : Nat) < win1_10.index ⟨(i 0 : Nat) / 256, ht⟩ 1 * 2816 + 2816
                rw [hi.2]; omega

omit hY hA hU hX hg hWg hWu hWd in
theorem idx1_11 : ∀ t : Fin grid1.N, win1_11.index t 0 = t.val ∧ win1_11.index t 1 = 0 := by decide +kernel
theorem fin1_11 : (dat1 V c).arrAt 11 cfg1.N = (fun i : S8192x2816.Idx => ((aDu D (i 0) (i 1) : ℝ) : EReal)) :=
  (dat1 V c).arrAt_eq_of_cover 11 (fun i : S8192x2816.Idx => ((aDu D (i 0) (i 1) : ℝ) : EReal)) (fun t _ => by
    show (cfg1.win 11).cut (grid1.coords t) ((dat1 V c).after 11 t) = _
    rw [after1_11, pt1_11]
    funext j
    obtain ⟨p, k, rfl⟩ : ∃ (p : Fin 256) (k : Fin 2816), j = ix2 p k := ⟨j 0, j 1, (ix2_eta j).symm⟩
    have hi := idx1_11 t
    rw [View.read_apply]
    refine (val1_11 V c D hY hA hU hX hg hWg hWu hWd t p k).trans ?_
    have e : (((cfg1.win 11).blk t).view.emb (ix2 p k) : S8192x2816.Idx) = ix2 (tok t.val (N1 t) p) k := by
      funext a
      apply Fin.ext
      match a with
      | ⟨0, _⟩ => show win1_11.index t 0 * 256 + 1 * p.val = 256 * t.val + p.val; rw [hi.1]; omega
      | ⟨1, _⟩ => show win1_11.index t 1 * 2816 + 1 * k.val = k.val; rw [hi.2]; omega
    exact (congrArg (fun i : S8192x2816.Idx => ((aDu D (i 0) (i 1) : ℝ) : EReal)) e).symm) fun i => by
    have h0 : (i 0 : Nat) < 8192 := (i 0).isLt
    have h1 : (i 1 : Nat) < 2816 := (i 1).isLt
    have ht : (i 0 : Nat) / 256 < cfg1.N := by rw [show cfg1.N = 32 from N_1]; omega
    have hi := idx1_11 ⟨(i 0 : Nat) / 256, ht⟩
    refine ⟨⟨(i 0 : Nat) / 256, ht⟩, flush1_11 _, ?_⟩
    show i ∈ ((View.whole main_v9_3).slice (win1_11.rect ⟨(i 0 : Nat) / 256, ht⟩)).set
    rw [View.set_slice_whole, Rect.mem_set_unit]
    intro a
    match a with
    | ⟨0, _⟩ => show win1_11.index ⟨(i 0 : Nat) / 256, ht⟩ 0 * 256 ≤ (i 0 : Nat) ∧ (i 0 : Nat) < win1_11.index ⟨(i 0 : Nat) / 256, ht⟩ 0 * 256 + 256
                rw [hi.1]; dsimp only; omega
    | ⟨1, _⟩ => show win1_11.index ⟨(i 0 : Nat) / 256, ht⟩ 1 * 2816 ≤ (i 1 : Nat) ∧ (i 1 : Nat) < win1_11.index ⟨(i 0 : Nat) / 256, ht⟩ 1 * 2816 + 2816
                rw [hi.2]; omega

omit hY hA hU hX hg hWg hWu hWd in
theorem idx1_12 : ∀ t : Fin grid1.N, win1_12.index t 0 = t.val ∧ win1_12.index t 1 = 0 := by decide +kernel
theorem fin1_12 : (dat1 V c).arrAt 12 cfg1.N = (fun i : S8192x1024.Idx => ((aH D (i 0) (i 1) : ℝ) : EReal)) :=
  (dat1 V c).arrAt_eq_of_cover 12 (fun i : S8192x1024.Idx => ((aH D (i 0) (i 1) : ℝ) : EReal)) (fun t _ => by
    show (cfg1.win 12).cut (grid1.coords t) ((dat1 V c).after 12 t) = _
    rw [after1_12, pt1_12]
    funext j
    obtain ⟨p, k, rfl⟩ : ∃ (p : Fin 256) (k : Fin 1024), j = ix2 p k := ⟨j 0, j 1, (ix2_eta j).symm⟩
    have hi := idx1_12 t
    rw [View.read_apply]
    refine (val1_12 V c D hY hA hU hX hg hWg hWu hWd t p k).trans ?_
    have e : (((cfg1.win 12).blk t).view.emb (ix2 p k) : S8192x1024.Idx) = ix2 (tok t.val (N1 t) p) k := by
      funext a
      apply Fin.ext
      match a with
      | ⟨0, _⟩ => show win1_12.index t 0 * 256 + 1 * p.val = 256 * t.val + p.val; rw [hi.1]; omega
      | ⟨1, _⟩ => show win1_12.index t 1 * 1024 + 1 * k.val = k.val; rw [hi.2]; omega
    exact (congrArg (fun i : S8192x1024.Idx => ((aH D (i 0) (i 1) : ℝ) : EReal)) e).symm) fun i => by
    have h0 : (i 0 : Nat) < 8192 := (i 0).isLt
    have h1 : (i 1 : Nat) < 1024 := (i 1).isLt
    have ht : (i 0 : Nat) / 256 < cfg1.N := by rw [show cfg1.N = 32 from N_1]; omega
    have hi := idx1_12 ⟨(i 0 : Nat) / 256, ht⟩
    refine ⟨⟨(i 0 : Nat) / 256, ht⟩, flush1_12 _, ?_⟩
    show i ∈ ((View.whole main_v9_4).slice (win1_12.rect ⟨(i 0 : Nat) / 256, ht⟩)).set
    rw [View.set_slice_whole, Rect.mem_set_unit]
    intro a
    match a with
    | ⟨0, _⟩ => show win1_12.index ⟨(i 0 : Nat) / 256, ht⟩ 0 * 256 ≤ (i 0 : Nat) ∧ (i 0 : Nat) < win1_12.index ⟨(i 0 : Nat) / 256, ht⟩ 0 * 256 + 256
                rw [hi.1]; dsimp only; omega
    | ⟨1, _⟩ => show win1_12.index ⟨(i 0 : Nat) / 256, ht⟩ 1 * 1024 ≤ (i 1 : Nat) ∧ (i 1 : Nat) < win1_12.index ⟨(i 0 : Nat) / 256, ht⟩ 1 * 1024 + 1024
                rw [hi.2]; omega

omit hY hA hU hX hg hWg hWu hWd in
theorem idx1_13 : ∀ t : Fin grid1.N, win1_13.index t 0 = 0 ∧ win1_13.index t 1 = 0 := by decide +kernel
omit hY hA hU hX hg hWg hWu hWd in
theorem last1 : 31 < cfg1.N := by rw [show cfg1.N = 32 from N_1]; omega
omit hY hA hU hX hg hWg hWu hWd in
theorem at31 (n : ℕ) (h : n < cfg1.N) (e : n = 31) : outsAt1 V c n h = outsAt1 V c 31 last1 := by
  subst e; rfl
omit hY hA hU hX hg hWg hWu hWd in
theorem arr1_13 (z : Vec Ideal S8x1024 .f32) (hz : (outsAt1 V c 31 last1).2.2.2.2.2 = z) : (dat1 V c).arrAt 13 cfg1.N = z :=
  (dat1 V c).arrAt_eq_of_cover 13 z (fun t hf => by
    have h31 : t.val = 31 := by have := (flush1_13 t).mp hf; have := N1 t; omega
    have hz' := (congrArg (fun x => x.2.2.2.2.2) (at31 V c t.val t.isLt h31)).trans hz
    dsimp only at hz'
    show (cfg1.win 13).cut (grid1.coords t) ((dat1 V c).after 13 t) = _
    rw [after1_13, hz']
    funext j
    obtain ⟨p, k, rfl⟩ : ∃ (p : Fin 8) (k : Fin 1024), j = ix2 p k := ⟨j 0, j 1, (ix2_eta j).symm⟩
    have hi := idx1_13 t
    rw [View.read_apply]
    have e : (((cfg1.win 13).blk t).view.emb (ix2 p k) : S8x1024.Idx) = ix2 p k := by
      funext a
      apply Fin.ext
      match a with
      | ⟨0, _⟩ => show win1_13.index t 0 * 8 + 1 * p.val = p.val; rw [hi.1]; omega
      | ⟨1, _⟩ => show win1_13.index t 1 * 1024 + 1 * k.val = k.val; rw [hi.2]; omega
    refine (rfl : _ = z (ix2 p k)).trans ?_
    exact (congrArg z e).symm) fun i => by
    have h0 : (i 0 : Nat) < 8 := (i 0).isLt
    have h1 : (i 1 : Nat) < 1024 := (i 1).isLt
    have hi := idx1_13 ⟨31, last1⟩
    refine ⟨⟨31, last1⟩, (flush1_13 _).mpr rfl, ?_⟩
    show i ∈ ((View.whole main_v9_5).slice (win1_13.rect ⟨31, last1⟩)).set
    rw [View.set_slice_whole, Rect.mem_set_unit]
    intro a
    match a with
    | ⟨0, _⟩ => show win1_13.index ⟨31, last1⟩ 0 * 8 ≤ (i 0 : Nat) ∧ (i 0 : Nat) < win1_13.index ⟨31, last1⟩ 0 * 8 + 8
                rw [hi.1]; omega
    | ⟨1, _⟩ => show win1_13.index ⟨31, last1⟩ 1 * 1024 ≤ (i 1 : Nat) ∧ (i 1 : Nat) < win1_13.index ⟨31, last1⟩ 1 * 1024 + 1024
                rw [hi.2]; omega

theorem fin1_13 (k : Fin 1024) : ((dat1 V c).arrAt 13 cfg1.N : Vec Ideal S8x1024 .f32) (ix2 0 k) = ((rG D k : ℝ) : EReal) := by
  rw [arr1_13 V c _ rfl, pt1_13 V c D hY hA hU hX hg hWg hWu hWd 31 last1 k]
  congr 1
  unfold rG
  rw [sum_tok, Finset.sum_range]
  refine Finset.sum_congr rfl fun q _ => ?_
  unfold gpart
  rw [dif_pos q.isLt]
end

end Cert.Kernel2Ideal.Ffn
-- ==== Proof.FfnDw.lean ====
/- The feed-forward block's three weight-gradient calls over their grids: the whole arrays they leave, in closed form. -/
module

public import proofs.«01_k».proof.Proof.FfnBody
public import Idealize.ShloMosaic.Lib.Pipeline.ReadBack

@[expose] public section

set_option maxRecDepth 16384

noncomputable section

namespace Cert.Kernel2Ideal.Ffn

open Cert.Kernel2Ideal Cert.Kernel2Ideal.Gen Cert.Ffn Idealize.ShloMosaic Idealize.ShloMosaic.TcCoe Idealize.SL.Sem

variable (V : (c : Dev nD) → (b : Ref sig .tc) → Buf (Elt Idealize.ShloMosaic.Ideal) ((c : Thread nD τ).loc b)) (c : Dev nD)

/-- The token at place `p` of chunk `q` of 1024. -/
def chk (q : ℕ) (p : Fin 1024) : Fin 8192 := ⟨(1024 * q + p.val) % 8192, Nat.mod_lt _ (by norm_num)⟩
/-- The column at place `j` of block `b` of 512. -/
def col (b : ℕ) (j : Fin 512) : Fin 1024 := ⟨(512 * b + j.val) % 1024, Nat.mod_lt _ (by norm_num)⟩

/-- A sum over all tokens, chunk by chunk of 1024. -/
theorem sum_chk (f : Fin 8192 → ℝ) : ∑ n, f n = ∑ q ∈ Finset.range 8, ∑ p : Fin 1024, f (chk q p) := by
  rw [Finset.sum_range, ← Fintype.sum_prod_type', ← Equiv.sum_comp (finProdFinEquiv (m := 8) (n := 1024))]
  refine Finset.sum_congr rfl fun p _ => ?_
  congr 1
  apply Fin.ext
  show p.2.val + 1024 * p.1.val = (1024 * p.1.val + p.2.val) % 8192
  have := p.1.isLt; have := p.2.isLt
  omega

/-- A chunk's part of a product of two arrays over the tokens. -/
def wpart (A : Fin 8192 → Fin 2816 → ℝ) (B : Fin 8192 → Fin 1024 → ℝ) (q : ℕ) (f : Fin 2816) (k : Fin 1024) : ℝ :=
  ∑ p : Fin 1024, A (chk q p) f * B (chk q p) k

/-! ## Call 1 -/

section
variable (i : grid2.Coords) (arg2 : Memref sig .tc .vmem S1024x2816 .bf16) (harg2 : arg2.IsWhole) (arg3 : Memref sig .tc .vmem S1024x512 .f32) (harg3 : arg3.IsWhole) (arg4 : Memref sig .tc .vmem S2816x512 .f32) (harg4 : arg4.IsWhole)
  (x0 : Vec Ideal S1024x2816 .bf16) (x1 : Vec Ideal S1024x512 .f32)
theorem dw2_A (hc0 : cond2_0 i) : out2_A_2 c i arg2 harg2 arg3 harg3 arg4 harg4 hc0 x0 x1 = k2_pay2 (k2_pay1 (F := Ideal)) x0 x1 := by
  unfold out2_A_2
  rw [View.read_writes_eq_canon _ _ _ (cover2_A_2 c i arg2 harg2 arg3 harg3 arg4 harg4 hc0 x0 x1)]
  unfold kernelRun2_A
  dsimp only
  sl_unfold_words
  rw [View.canon_cons_unit_zero (S := S2816x512) hz]
  simp only [View.readAt_eq_ld, harg2.read_unread, harg3.read_unread, View.ld_unit_zero (S := S1024x2816) hz, View.ld_unit_zero (S := S1024x512) hz,
    View.readCov_unit_zero (S := S2816x512) _ hz]
theorem dw2_B (hc0 : ¬cond2_0 i) (xo : Vec Ideal S2816x512 .f32) : out2_B_2 c i arg2 harg2 arg3 harg3 arg4 harg4 hc0 x0 x1 xo = k2_pay2 xo x0 x1 := by
  unfold out2_B_2
  rw [View.read_writes_eq_canon _ _ _ (cover2_B_2 c i arg2 harg2 arg3 harg3 arg4 harg4 hc0 x0 x1 xo)]
  unfold kernelRun2_B
  dsimp only
  sl_unfold_words
  rw [View.canon_unit_zero (S := S2816x512) hz]
  simp only [View.readAt_eq_ld, harg2.read_unread, harg3.read_unread, harg4.read_unread, View.ld_unit_zero (S := S1024x2816) hz, View.ld_unit_zero (S := S1024x512) hz,
    View.ld_unit_zero (S := S2816x512) hz]
end

theorem N2 (t : Fin cfg2.N) : t.val < 16 := lt_of_lt_of_eq t.isLt N_2
theorem idx2_0 : ∀ t : Fin grid2.N, win2_0.index t 0 = t.val % 8 ∧ win2_0.index t 1 = 0 := by decide +kernel
theorem idx2_1 : ∀ t : Fin grid2.N, win2_1.index t 0 = t.val % 8 ∧ win2_1.index t 1 = t.val / 8 := by decide +kernel
theorem idx2_2 : ∀ t : Fin grid2.N, win2_2.index t 0 = 0 ∧ win2_2.index t 1 = t.val / 8 := by decide +kernel
theorem in2_0 (t : Fin cfg2.N) (p : Fin 1024) (k : Fin 2816) :
    (iblk2 V c 0 t : Vec Ideal S1024x2816 .bf16) (ix2 p k) = (V c main_v9_1 : Vec Ideal S8192x2816 .bf16) (ix2 (chk (t.val % 8) p) k) := by
  have hi := idx2_0 t
  unfold iblk2
  rw [View.read_apply]
  show V c main_v9_1 _ = V c main_v9_1 _
  congr 1
  funext a
  apply Fin.ext
  match a with
  | ⟨0, _⟩ => show win2_0.index t 0 * 1024 + 1 * p.val = (1024 * (t.val % 8) + p.val) % 8192; rw [hi.1]; have := p.isLt; omega
  | ⟨1, _⟩ => show win2_0.index t 1 * 2816 + 1 * k.val = k.val; rw [hi.2]; omega
theorem in2_1 (t : Fin cfg2.N) (p : Fin 1024) (k : Fin 512) :
    (iblk2 V c 1 t : Vec Ideal S1024x512 .f32) (ix2 p k) = (V c main_v5_2 : Vec Ideal S8192x1024 .f32) (ix2 (chk (t.val % 8) p) (col (t.val / 8) k)) := by
  have hi := idx2_1 t
  unfold iblk2
  rw [View.read_apply]
  show V c main_v5_2 _ = V c main_v5_2 _
  congr 1
  funext a
  apply Fin.ext
  match a with
  | ⟨0, _⟩ => show win2_1.index t 0 * 1024 + 1 * p.val = (1024 * (t.val % 8) + p.val) % 8192; rw [hi.1]; have := p.isLt; omega
  | ⟨1, _⟩ => show win2_1.index t 1 * 512 + 1 * k.val = (512 * (t.val / 8) + k.val) % 1024; rw [hi.2]; have := k.isLt; have := N2 t; omega

section
variable (A : Fin 8192 → Fin 2816 → ℝ) (B : Fin 8192 → Fin 1024 → ℝ)
  (hA : ∀ n f, (V c main_v9_1 : Vec Ideal S8192x2816 .bf16) (ix2 n f) = (A n f : EReal))
  (hB : ∀ n k, (V c main_v5_2 : Vec Ideal S8192x1024 .f32) (ix2 n k) = (B n k : EReal))
include hA hB

theorem add2 (t : Fin cfg2.N) (z : Vec Ideal S2816x512 .f32) (s : Fin 2816 → Fin 512 → ℝ) (h : ∀ f j, z (ix2 f j) = (s f j : EReal))
    (f : Fin 2816) (j : Fin 512) :
    k2_pay2 z (iblk2 V c 0 t) (iblk2 V c 1 t) (ix2 f j) = ((s f j + wpart A B (t.val % 8) f (col (t.val / 8) j) : ℝ) : EReal) :=
  pay2_2 z _ s (fun p f => A (chk (t.val % 8) p) f) (fun p j => B (chk (t.val % 8) p) (col (t.val / 8) j)) h
    (fun p f => (in2_0 V c t p f).trans (hA _ _)) _ (fun p j => (in2_1 V c t p j).trans (hB _ _)) f j

theorem ptA2 (t : Fin cfg2.N) (h0 : t.val % 8 = 0) (f : Fin 2816) (j : Fin 512) :
    outsAt2 V c t.val t.isLt (ix2 f j) = ((∑ q ∈ Finset.range (t.val % 8 + 1), wpart A B q f (col (t.val / 8) j) : ℝ) : EReal) := by
  have e := dw2_A c (grid2.coords t) (ms2_0 t) (hs2_0 t) (ms2_1 t) (hs2_1 t) (ms2_2 t) (hs2_2 t) (iblk2 V c 0 t) (iblk2 V c 1 t) ((hcond2_0 t).mpr h0)
  rw [outsAt2_A V c t h0, e, add2 V c A B hA hB t _ (fun _ _ => 0) pay1_2 f j, h0]
  simp

theorem pt2 : ∀ (n : ℕ) (hn : n < cfg2.N) (f : Fin 2816) (j : Fin 512),
    outsAt2 V c n hn (ix2 f j) = ((∑ q ∈ Finset.range (n % 8 + 1), wpart A B q f (col (n / 8) j) : ℝ) : EReal)
  | 0, hn, f, j => ptA2 V c A B hA hB ⟨0, hn⟩ rfl f j
  | n + 1, hn, f, j => by
    by_cases h0 : (n + 1) % 8 = 0
    · exact ptA2 V c A B hA hB ⟨n + 1, hn⟩ h0 f j
    · have e := dw2_B c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (iblk2 V c 0 (⟨n + 1, hn⟩ : Fin cfg2.N)) (iblk2 V c 1 (⟨n + 1, hn⟩ : Fin cfg2.N)) (fun h => h0 ((hcond2_0 (⟨n + 1, hn⟩ : Fin cfg2.N)).mp h)) (outsAt2 V c n (Nat.lt_of_succ_lt hn))
      have e' := outsAt2_B V c ⟨n + 1, hn⟩ h0
      refine (congrFun (e'.trans e) (ix2 f j)).trans ?_
      refine (add2 V c A B hA hB ⟨n + 1, hn⟩ _ _ (pt2 n (Nat.lt_of_succ_lt hn)) f j).trans ?_
      dsimp only
      have h1 : (n + 1) % 8 = n % 8 + 1 := by omega
      have h2 : (n + 1) / 8 = n / 8 := by omega
      rw [h1, h2, Finset.sum_range_succ _ (n % 8 + 1)]

theorem fin2_2 : (dat2 V c).arrAt 2 cfg2.N = (fun i : S2816x1024.Idx => ((∑ n, A n (i 0) * B n (i 1) : ℝ) : EReal)) :=
  (dat2 V c).arrAt_eq_of_cover 2 (fun i : S2816x1024.Idx => ((∑ n, A n (i 0) * B n (i 1) : ℝ) : EReal)) (fun t hf => by
    have h7 := (flush2_2 t).mp hf
    show (cfg2.win 2).cut (grid2.coords t) ((dat2 V c).after 2 t) = _
    rw [after2_2]
    funext j
    obtain ⟨p, k, rfl⟩ : ∃ (p : Fin 2816) (k : Fin 512), j = ix2 p k := ⟨j 0, j 1, (ix2_eta j).symm⟩
    have hi := idx2_2 t
    rw [View.read_apply]
    refine (pt2 V c A B hA hB t.val t.isLt p k).trans ?_
    rw [h7]
    have e : (((cfg2.win 2).blk t).view.emb (ix2 p k) : S2816x1024.Idx) = ix2 p (col (t.val / 8) k) := by
      funext a
      apply Fin.ext
      match a with
      | ⟨0, _⟩ => show win2_2.index t 0 * 2816 + 1 * p.val = p.val; rw [hi.1]; omega
      | ⟨1, _⟩ => show win2_2.index t 1 * 512 + 1 * k.val = (512 * (t.val / 8) + k.val) % 1024; rw [hi.2]; have := k.isLt; have := N2 t; omega
    refine Eq.trans ?_ (congrArg (fun i : S2816x1024.Idx => ((∑ n, A n (i 0) * B n (i 1) : ℝ) : EReal)) e).symm
    exact congrArg (fun r : ℝ => (r : EReal)) (sum_chk (fun n => A n p * B n (col (t.val / 8) k))).symm) fun i => by
    have h0 : (i 0 : Nat) < 2816 := (i 0).isLt
    have h1 : (i 1 : Nat) < 1024 := (i 1).isLt
    have ht : 8 * ((i 1 : Nat) / 512) + 7 < cfg2.N := by rw [show cfg2.N = 16 from N_2]; omega
    have hi := idx2_2 ⟨8 * ((i 1 : Nat) / 512) + 7, ht⟩
    refine ⟨⟨8 * ((i 1 : Nat) / 512) + 7, ht⟩, (flush2_2 _).mpr (by dsimp only; omega), ?_⟩
    show i ∈ ((View.whole main_v10).slice (win2_2.rect ⟨8 * ((i 1 : Nat) / 512) + 7, ht⟩)).set
    rw [View.set_slice_whole, Rect.mem_set_unit]
    intro a
    match a with
    | ⟨0, _⟩ => show win2_2.index ⟨8 * ((i 1 : Nat) / 512) + 7, ht⟩ 0 * 2816 ≤ (i 0 : Nat) ∧ (i 0 : Nat) < win2_2.index ⟨8 * ((i 1 : Nat) / 512) + 7, ht⟩ 0 * 2816 + 2816
                rw [hi.1]; omega
    | ⟨1, _⟩ => show win2_2.index ⟨8 * ((i 1 : Nat) / 512) + 7, ht⟩ 1 * 512 ≤ (i 1 : Nat) ∧ (i 1 : Nat) < win2_2.index ⟨8 * ((i 1 : Nat) / 512) + 7, ht⟩ 1 * 512 + 512
                rw [hi.2]; dsimp only; omega
end

/-! ## Call 2 -/

section
variable (i : grid3.Coords) (arg2 : Memref sig .tc .vmem S1024x2816 .bf16) (harg2 : arg2.IsWhole) (arg3 : Memref sig .tc .vmem S1024x512 .bf16) (harg3 : arg3.IsWhole) (arg4 : Memref sig .tc .vmem S2816x512 .f32) (harg4 : arg4.IsWhole)
  (x0 : Vec Ideal S1024x2816 .bf16) (x1 : Vec Ideal S1024x512 .bf16)
theorem dw3_A (hc0 : cond3_0 i) : out3_A_2 c i arg2 harg2 arg3 harg3 arg4 harg4 hc0 x0 x1 = k3_pay2 (k3_pay1 (F := Ideal)) x0 x1 := by
  unfold out3_A_2
  rw [View.read_writes_eq_canon _ _ _ (cover3_A_2 c i arg2 harg2 arg3 harg3 arg4 harg4 hc0 x0 x1)]
  unfold kernelRun3_A
  dsimp only
  sl_unfold_words
  rw [View.canon_cons_unit_zero (S := S2816x512) hz]
  simp only [View.readAt_eq_ld, harg2.read_unread, harg3.read_unread, View.ld_unit_zero (S := S1024x2816) hz, View.ld_unit_zero (S := S1024x512) hz,
    View.readCov_unit_zero (S := S2816x512) _ hz]
theorem dw3_B (hc0 : ¬cond3_0 i) (xo : Vec Ideal S2816x512 .f32) : out3_B_2 c i arg2 harg2 arg3 harg3 arg4 harg4 hc0 x0 x1 xo = k3_pay2 xo x0 x1 := by
  unfold out3_B_2
  rw [View.read_writes_eq_canon _ _ _ (cover3_B_2 c i arg2 harg2 arg3 harg3 arg4 harg4 hc0 x0 x1 xo)]
  unfold kernelRun3_B
  dsimp only
  sl_unfold_words
  rw [View.canon_unit_zero (S := S2816x512) hz]
  simp only [View.readAt_eq_ld, harg2.read_unread, harg3.read_unread, harg4.read_unread, View.ld_unit_zero (S := S1024x2816) hz, View.ld_unit_zero (S := S1024x512) hz,
    View.ld_unit_zero (S := S2816x512) hz]
end

theorem N3 (t : Fin cfg3.N) : t.val < 16 := lt_of_lt_of_eq t.isLt N_3
theorem idx3_0 : ∀ t : Fin grid3.N, win3_0.index t 0 = t.val % 8 ∧ win3_0.index t 1 = 0 := by decide +kernel
theorem idx3_1 : ∀ t : Fin grid3.N, win3_1.index t 0 = t.val % 8 ∧ win3_1.index t 1 = t.val / 8 := by decide +kernel
theorem idx3_2 : ∀ t : Fin grid3.N, win3_2.index t 0 = 0 ∧ win3_2.index t 1 = t.val / 8 := by decide +kernel
theorem in3_0 (t : Fin cfg3.N) (p : Fin 1024) (k : Fin 2816) :
    (iblk3 V c 0 t : Vec Ideal S1024x2816 .bf16) (ix2 p k) = (V c main_v9_2 : Vec Ideal S8192x2816 .bf16) (ix2 (chk (t.val % 8) p) k) := by
  have hi := idx3_0 t
  unfold iblk3
  rw [View.read_apply]
  show V c main_v9_2 _ = V c main_v9_2 _
  congr 1
  funext a
  apply Fin.ext
  match a with
  | ⟨0, _⟩ => show win3_0.index t 0 * 1024 + 1 * p.val = (1024 * (t.val % 8) + p.val) % 8192; rw [hi.1]; have := p.isLt; omega
  | ⟨1, _⟩ => show win3_0.index t 1 * 2816 + 1 * k.val = k.val; rw [hi.2]; omega
theorem in3_1 (t : Fin cfg3.N) (p : Fin 1024) (k : Fin 512) :
    (iblk3 V c 1 t : Vec Ideal S1024x512 .bf16) (ix2 p k) = (V c main_v9_4 : Vec Ideal S8192x1024 .bf16) (ix2 (chk (t.val % 8) p) (col (t.val / 8) k)) := by
  have hi := idx3_1 t
  unfold iblk3
  rw [View.read_apply]
  show V c main_v9_4 _ = V c main_v9_4 _
  congr 1
  funext a
  apply Fin.ext
  match a with
  | ⟨0, _⟩ => show win3_1.index t 0 * 1024 + 1 * p.val = (1024 * (t.val % 8) + p.val) % 8192; rw [hi.1]; have := p.isLt; omega
  | ⟨1, _⟩ => show win3_1.index t 1 * 512 + 1 * k.val = (512 * (t.val / 8) + k.val) % 1024; rw [hi.2]; have := k.isLt; have := N3 t; omega

section
variable (A : Fin 8192 → Fin 2816 → ℝ) (B : Fin 8192 → Fin 1024 → ℝ)
  (hA : ∀ n f, (V c main_v9_2 : Vec Ideal S8192x2816 .bf16) (ix2 n f) = (A n f : EReal))
  (hB : ∀ n k, (V c main_v9_4 : Vec Ideal S8192x1024 .bf16) (ix2 n k) = (B n k : EReal))
include hA hB

theorem add3 (t : Fin cfg3.N) (z : Vec Ideal S2816x512 .f32) (s : Fin 2816 → Fin 512 → ℝ) (h : ∀ f j, z (ix2 f j) = (s f j : EReal))
    (f : Fin 2816) (j : Fin 512) :
    k3_pay2 z (iblk3 V c 0 t) (iblk3 V c 1 t) (ix2 f j) = ((s f j + wpart A B (t.val % 8) f (col (t.val / 8) j) : ℝ) : EReal) :=
  pay2_3 z _ s (fun p f => A (chk (t.val % 8) p) f) (fun p j => B (chk (t.val % 8) p) (col (t.val / 8) j)) h
    (fun p f => (in3_0 V c t p f).trans (hA _ _)) _ (fun p j => (in3_1 V c t p j).trans (hB _ _)) f j

theorem ptA3 (t : Fin cfg3.N) (h0 : t.val % 8 = 0) (f : Fin 2816) (j : Fin 512) :
    outsAt3 V c t.val t.isLt (ix2 f j) = ((∑ q ∈ Finset.range (t.val % 8 + 1), wpart A B q f (col (t.val / 8) j) : ℝ) : EReal) := by
  have e := dw3_A c (grid3.coords t) (ms3_0 t) (hs3_0 t) (ms3_1 t) (hs3_1 t) (ms3_2 t) (hs3_2 t) (iblk3 V c 0 t) (iblk3 V c 1 t) ((hcond3_0 t).mpr h0)
  rw [outsAt3_A V c t h0, e, add3 V c A B hA hB t _ (fun _ _ => 0) pay1_3 f j, h0]
  simp

theorem pt3 : ∀ (n : ℕ) (hn : n < cfg3.N) (f : Fin 2816) (j : Fin 512),
    outsAt3 V c n hn (ix2 f j) = ((∑ q ∈ Finset.range (n % 8 + 1), wpart A B q f (col (n / 8) j) : ℝ) : EReal)
  | 0, hn, f, j => ptA3 V c A B hA hB ⟨0, hn⟩ rfl f j
  | n + 1, hn, f, j => by
    by_cases h0 : (n + 1) % 8 = 0
    · exact ptA3 V c A B hA hB ⟨n + 1, hn⟩ h0 f j
    · have e := dw3_B c (grid3.coords (⟨n + 1, hn⟩ : Fin cfg3.N)) (ms3_0 (⟨n + 1, hn⟩ : Fin cfg3.N)) (hs3_0 (⟨n + 1, hn⟩ : Fin cfg3.N)) (ms3_1 (⟨n + 1, hn⟩ : Fin cfg3.N)) (hs3_1 (⟨n + 1, hn⟩ : Fin cfg3.N)) (ms3_2 (⟨n + 1, hn⟩ : Fin cfg3.N)) (hs3_2 (⟨n + 1, hn⟩ : Fin cfg3.N)) (iblk3 V c 0 (⟨n + 1, hn⟩ : Fin cfg3.N)) (iblk3 V c 1 (⟨n + 1, hn⟩ : Fin cfg3.N)) (fun h => h0 ((hcond3_0 (⟨n + 1, hn⟩ : Fin cfg3.N)).mp h)) (outsAt3 V c n (Nat.lt_of_succ_lt hn))
      have e' := outsAt3_B V c ⟨n + 1, hn⟩ h0
      refine (congrFun (e'.trans e) (ix2 f j)).trans ?_
      refine (add3 V c A B hA hB ⟨n + 1, hn⟩ _ _ (pt3 n (Nat.lt_of_succ_lt hn)) f j).trans ?_
      dsimp only
      have h1 : (n + 1) % 8 = n % 8 + 1 := by omega
      have h2 : (n + 1) / 8 = n / 8 := by omega
      rw [h1, h2, Finset.sum_range_succ _ (n % 8 + 1)]

theorem fin3_2 : (dat3 V c).arrAt 2 cfg3.N = (fun i : S2816x1024.Idx => ((∑ n, A n (i 0) * B n (i 1) : ℝ) : EReal)) :=
  (dat3 V c).arrAt_eq_of_cover 2 (fun i : S2816x1024.Idx => ((∑ n, A n (i 0) * B n (i 1) : ℝ) : EReal)) (fun t hf => by
    have h7 := (flush3_2 t).mp hf
    show (cfg3.win 2).cut (grid3.coords t) ((dat3 V c).after 2 t) = _
    rw [after3_2]
    funext j
    obtain ⟨p, k, rfl⟩ : ∃ (p : Fin 2816) (k : Fin 512), j = ix2 p k := ⟨j 0, j 1, (ix2_eta j).symm⟩
    have hi := idx3_2 t
    rw [View.read_apply]
    refine (pt3 V c A B hA hB t.val t.isLt p k).trans ?_
    rw [h7]
    have e : (((cfg3.win 2).blk t).view.emb (ix2 p k) : S2816x1024.Idx) = ix2 p (col (t.val / 8) k) := by
      funext a
      apply Fin.ext
      match a with
      | ⟨0, _⟩ => show win3_2.index t 0 * 2816 + 1 * p.val = p.val; rw [hi.1]; omega
      | ⟨1, _⟩ => show win3_2.index t 1 * 512 + 1 * k.val = (512 * (t.val / 8) + k.val) % 1024; rw [hi.2]; have := k.isLt; have := N3 t; omega
    refine Eq.trans ?_ (congrArg (fun i : S2816x1024.Idx => ((∑ n, A n (i 0) * B n (i 1) : ℝ) : EReal)) e).symm
    exact congrArg (fun r : ℝ => (r : EReal)) (sum_chk (fun n => A n p * B n (col (t.val / 8) k))).symm) fun i => by
    have h0 : (i 0 : Nat) < 2816 := (i 0).isLt
    have h1 : (i 1 : Nat) < 1024 := (i 1).isLt
    have ht : 8 * ((i 1 : Nat) / 512) + 7 < cfg3.N := by rw [show cfg3.N = 16 from N_3]; omega
    have hi := idx3_2 ⟨8 * ((i 1 : Nat) / 512) + 7, ht⟩
    refine ⟨⟨8 * ((i 1 : Nat) / 512) + 7, ht⟩, (flush3_2 _).mpr (by dsimp only; omega), ?_⟩
    show i ∈ ((View.whole main_v11).slice (win3_2.rect ⟨8 * ((i 1 : Nat) / 512) + 7, ht⟩)).set
    rw [View.set_slice_whole, Rect.mem_set_unit]
    intro a
    match a with
    | ⟨0, _⟩ => show win3_2.index ⟨8 * ((i 1 : Nat) / 512) + 7, ht⟩ 0 * 2816 ≤ (i 0 : Nat) ∧ (i 0 : Nat) < win3_2.index ⟨8 * ((i 1 : Nat) / 512) + 7, ht⟩ 0 * 2816 + 2816
                rw [hi.1]; omega
    | ⟨1, _⟩ => show win3_2.index ⟨8 * ((i 1 : Nat) / 512) + 7, ht⟩ 1 * 512 ≤ (i 1 : Nat) ∧ (i 1 : Nat) < win3_2.index ⟨8 * ((i 1 : Nat) / 512) + 7, ht⟩ 1 * 512 + 512
                rw [hi.2]; dsimp only; omega
end

/-! ## Call 3 -/

section
variable (i : grid4.Coords) (arg2 : Memref sig .tc .vmem S1024x2816 .bf16) (harg2 : arg2.IsWhole) (arg3 : Memref sig .tc .vmem S1024x512 .bf16) (harg3 : arg3.IsWhole) (arg4 : Memref sig .tc .vmem S2816x512 .f32) (harg4 : arg4.IsWhole)
  (x0 : Vec Ideal S1024x2816 .bf16) (x1 : Vec Ideal S1024x512 .bf16)
theorem dw4_A (hc0 : cond4_0 i) : out4_A_2 c i arg2 harg2 arg3 harg3 arg4 harg4 hc0 x0 x1 = k4_pay2 (k4_pay1 (F := Ideal)) x0 x1 := by
  unfold out4_A_2
  rw [View.read_writes_eq_canon _ _ _ (cover4_A_2 c i arg2 harg2 arg3 harg3 arg4 harg4 hc0 x0 x1)]
  unfold kernelRun4_A
  dsimp only
  sl_unfold_words
  rw [View.canon_cons_unit_zero (S := S2816x512) hz]
  simp only [View.readAt_eq_ld, harg2.read_unread, harg3.read_unread, View.ld_unit_zero (S := S1024x2816) hz, View.ld_unit_zero (S := S1024x512) hz,
    View.readCov_unit_zero (S := S2816x512) _ hz]
theorem dw4_B (hc0 : ¬cond4_0 i) (xo : Vec Ideal S2816x512 .f32) : out4_B_2 c i arg2 harg2 arg3 harg3 arg4 harg4 hc0 x0 x1 xo = k4_pay2 xo x0 x1 := by
  unfold out4_B_2
  rw [View.read_writes_eq_canon _ _ _ (cover4_B_2 c i arg2 harg2 arg3 harg3 arg4 harg4 hc0 x0 x1 xo)]
  unfold kernelRun4_B
  dsimp only
  sl_unfold_words
  rw [View.canon_unit_zero (S := S2816x512) hz]
  simp only [View.readAt_eq_ld, harg2.read_unread, harg3.read_unread, harg4.read_unread, View.ld_unit_zero (S := S1024x2816) hz, View.ld_unit_zero (S := S1024x512) hz,
    View.ld_unit_zero (S := S2816x512) hz]
end

theorem N4 (t : Fin cfg4.N) : t.val < 16 := lt_of_lt_of_eq t.isLt N_4
theorem idx4_0 : ∀ t : Fin grid4.N, win4_0.index t 0 = t.val % 8 ∧ win4_0.index t 1 = 0 := by decide +kernel
theorem idx4_1 : ∀ t : Fin grid4.N, win4_1.index t 0 = t.val % 8 ∧ win4_1.index t 1 = t.val / 8 := by decide +kernel
theorem idx4_2 : ∀ t : Fin grid4.N, win4_2.index t 0 = 0 ∧ win4_2.index t 1 = t.val / 8 := by decide +kernel
theorem in4_0 (t : Fin cfg4.N) (p : Fin 1024) (k : Fin 2816) :
    (iblk4 V c 0 t : Vec Ideal S1024x2816 .bf16) (ix2 p k) = (V c main_v9_3 : Vec Ideal S8192x2816 .bf16) (ix2 (chk (t.val % 8) p) k) := by
  have hi := idx4_0 t
  unfold iblk4
  rw [View.read_apply]
  show V c main_v9_3 _ = V c main_v9_3 _
  congr 1
  funext a
  apply Fin.ext
  match a with
  | ⟨0, _⟩ => show win4_0.index t 0 * 1024 + 1 * p.val = (1024 * (t.val % 8) + p.val) % 8192; rw [hi.1]; have := p.isLt; omega
  | ⟨1, _⟩ => show win4_0.index t 1 * 2816 + 1 * k.val = k.val; rw [hi.2]; omega
theorem in4_1 (t : Fin cfg4.N) (p : Fin 1024) (k : Fin 512) :
    (iblk4 V c 1 t : Vec Ideal S1024x512 .bf16) (ix2 p k) = (V c main_v9_4 : Vec Ideal S8192x1024 .bf16) (ix2 (chk (t.val % 8) p) (col (t.val / 8) k)) := by
  have hi := idx4_1 t
  unfold iblk4
  rw [View.read_apply]
  show V c main_v9_4 _ = V c main_v9_4 _
  congr 1
  funext a
  apply Fin.ext
  match a with
  | ⟨0, _⟩ => show win4_1.index t 0 * 1024 + 1 * p.val = (1024 * (t.val % 8) + p.val) % 8192; rw [hi.1]; have := p.isLt; omega
  | ⟨1, _⟩ => show win4_1.index t 1 * 512 + 1 * k.val = (512 * (t.val / 8) + k.val) % 1024; rw [hi.2]; have := k.isLt; have := N4 t; omega

section
variable (A : Fin 8192 → Fin 2816 → ℝ) (B : Fin 8192 → Fin 1024 → ℝ)
  (hA : ∀ n f, (V c main_v9_3 : Vec Ideal S8192x2816 .bf16) (ix2 n f) = (A n f : EReal))
  (hB : ∀ n k, (V c main_v9_4 : Vec Ideal S8192x1024 .bf16) (ix2 n k) = (B n k : EReal))
include hA hB

theorem add4 (t : Fin cfg4.N) (z : Vec Ideal S2816x512 .f32) (s : Fin 2816 → Fin 512 → ℝ) (h : ∀ f j, z (ix2 f j) = (s f j : EReal))
    (f : Fin 2816) (j : Fin 512) :
    k4_pay2 z (iblk4 V c 0 t) (iblk4 V c 1 t) (ix2 f j) = ((s f j + wpart A B (t.val % 8) f (col (t.val / 8) j) : ℝ) : EReal) :=
  pay2_4 z _ s (fun p f => A (chk (t.val % 8) p) f) (fun p j => B (chk (t.val % 8) p) (col (t.val / 8) j)) h
    (fun p f => (in4_0 V c t p f).trans (hA _ _)) _ (fun p j => (in4_1 V c t p j).trans (hB _ _)) f j

theorem ptA4 (t : Fin cfg4.N) (h0 : t.val % 8 = 0) (f : Fin 2816) (j : Fin 512) :
    outsAt4 V c t.val t.isLt (ix2 f j) = ((∑ q ∈ Finset.range (t.val % 8 + 1), wpart A B q f (col (t.val / 8) j) : ℝ) : EReal) := by
  have e := dw4_A c (grid4.coords t) (ms4_0 t) (hs4_0 t) (ms4_1 t) (hs4_1 t) (ms4_2 t) (hs4_2 t) (iblk4 V c 0 t) (iblk4 V c 1 t) ((hcond4_0 t).mpr h0)
  rw [outsAt4_A V c t h0, e, add4 V c A B hA hB t _ (fun _ _ => 0) pay1_4 f j, h0]
  simp

theorem pt4 : ∀ (n : ℕ) (hn : n < cfg4.N) (f : Fin 2816) (j : Fin 512),
    outsAt4 V c n hn (ix2 f j) = ((∑ q ∈ Finset.range (n % 8 + 1), wpart A B q f (col (n / 8) j) : ℝ) : EReal)
  | 0, hn, f, j => ptA4 V c A B hA hB ⟨0, hn⟩ rfl f j
  | n + 1, hn, f, j => by
    by_cases h0 : (n + 1) % 8 = 0
    · exact ptA4 V c A B hA hB ⟨n + 1, hn⟩ h0 f j
    · have e := dw4_B c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (iblk4 V c 0 (⟨n + 1, hn⟩ : Fin cfg4.N)) (iblk4 V c 1 (⟨n + 1, hn⟩ : Fin cfg4.N)) (fun h => h0 ((hcond4_0 (⟨n + 1, hn⟩ : Fin cfg4.N)).mp h)) (outsAt4 V c n (Nat.lt_of_succ_lt hn))
      have e' := outsAt4_B V c ⟨n + 1, hn⟩ h0
      refine (congrFun (e'.trans e) (ix2 f j)).trans ?_
      refine (add4 V c A B hA hB ⟨n + 1, hn⟩ _ _ (pt4 n (Nat.lt_of_succ_lt hn)) f j).trans ?_
      dsimp only
      have h1 : (n + 1) % 8 = n % 8 + 1 := by omega
      have h2 : (n + 1) / 8 = n / 8 := by omega
      rw [h1, h2, Finset.sum_range_succ _ (n % 8 + 1)]

theorem fin4_2 : (dat4 V c).arrAt 2 cfg4.N = (fun i : S2816x1024.Idx => ((∑ n, A n (i 0) * B n (i 1) : ℝ) : EReal)) :=
  (dat4 V c).arrAt_eq_of_cover 2 (fun i : S2816x1024.Idx => ((∑ n, A n (i 0) * B n (i 1) : ℝ) : EReal)) (fun t hf => by
    have h7 := (flush4_2 t).mp hf
    show (cfg4.win 2).cut (grid4.coords t) ((dat4 V c).after 2 t) = _
    rw [after4_2]
    funext j
    obtain ⟨p, k, rfl⟩ : ∃ (p : Fin 2816) (k : Fin 512), j = ix2 p k := ⟨j 0, j 1, (ix2_eta j).symm⟩
    have hi := idx4_2 t
    rw [View.read_apply]
    refine (pt4 V c A B hA hB t.val t.isLt p k).trans ?_
    rw [h7]
    have e : (((cfg4.win 2).blk t).view.emb (ix2 p k) : S2816x1024.Idx) = ix2 p (col (t.val / 8) k) := by
      funext a
      apply Fin.ext
      match a with
      | ⟨0, _⟩ => show win4_2.index t 0 * 2816 + 1 * p.val = p.val; rw [hi.1]; omega
      | ⟨1, _⟩ => show win4_2.index t 1 * 512 + 1 * k.val = (512 * (t.val / 8) + k.val) % 1024; rw [hi.2]; have := k.isLt; have := N4 t; omega
    refine Eq.trans ?_ (congrArg (fun i : S2816x1024.Idx => ((∑ n, A n (i 0) * B n (i 1) : ℝ) : EReal)) e).symm
    exact congrArg (fun r : ℝ => (r : EReal)) (sum_chk (fun n => A n p * B n (col (t.val / 8) k))).symm) fun i => by
    have h0 : (i 0 : Nat) < 2816 := (i 0).isLt
    have h1 : (i 1 : Nat) < 1024 := (i 1).isLt
    have ht : 8 * ((i 1 : Nat) / 512) + 7 < cfg4.N := by rw [show cfg4.N = 16 from N_4]; omega
    have hi := idx4_2 ⟨8 * ((i 1 : Nat) / 512) + 7, ht⟩
    refine ⟨⟨8 * ((i 1 : Nat) / 512) + 7, ht⟩, (flush4_2 _).mpr (by dsimp only; omega), ?_⟩
    show i ∈ ((View.whole main_v12).slice (win4_2.rect ⟨8 * ((i 1 : Nat) / 512) + 7, ht⟩)).set
    rw [View.set_slice_whole, Rect.mem_set_unit]
    intro a
    match a with
    | ⟨0, _⟩ => show win4_2.index ⟨8 * ((i 1 : Nat) / 512) + 7, ht⟩ 0 * 2816 ≤ (i 0 : Nat) ∧ (i 0 : Nat) < win4_2.index ⟨8 * ((i 1 : Nat) / 512) + 7, ht⟩ 0 * 2816 + 2816
                rw [hi.1]; omega
    | ⟨1, _⟩ => show win4_2.index ⟨8 * ((i 1 : Nat) / 512) + 7, ht⟩ 1 * 512 ≤ (i 1 : Nat) ∧ (i 1 : Nat) < win4_2.index ⟨8 * ((i 1 : Nat) / 512) + 7, ht⟩ 1 * 512 + 512
                rw [hi.2]; dsimp only; omega
end

end Cert.Kernel2Ideal.Ffn
-- ==== Proof.FfnHost.lean ====
/- The feed-forward block's host lines, read at an index. -/
module

public import proofs.«01_k».proof.Proof.FfnBody

@[expose] public section

set_option maxRecDepth 16384

noncomputable section

namespace Cert.Kernel2Ideal.Ffn

open Cert.Kernel2Ideal Cert.Kernel2Ideal.Gen Cert.Ffn Idealize.ShloMosaic Idealize.ShloMosaic.TcCoe Idealize.ShloMosaic.StableHlo Idealize.SL.Sem

variable (X : Valuation τ sig (Elt Idealize.ShloMosaic.Ideal))

theorem host0_v1 (x : Vec Ideal S1024x2816 .f32) (hx : X (Proc.devRef .tc main_arg3) = x) :
    StableHlo.after (hostOps0 (F := Ideal)) X (Proc.devRef .tc main_v1) = (fun i : S2816x1024.Idx => x (ix2 (i 1) (i 0)) : Vec Ideal S2816x1024 .bf16) := by
  have e : StableHlo.after (hostOps0 (F := Ideal)) X (Proc.devRef .tc main_v1) = (truncf (F := Ideal) .bf16 (transpose S2816x1024 [1, 0] x transposes_S1024x2816_S2816x1024_1_0) bitsLt_bf16_f32 : Vec Ideal S2816x1024 .bf16) := by
    subst hx
    unfold hostOps0; after_results
    try rfl
  refine e.trans (funext fun i => ?_)
  obtain ⟨a, b, rfl⟩ : ∃ a b, i = ix2 a b := ⟨i 0, i 1, (ix2_eta i).symm⟩
  pointwise []
theorem host0_v3 (x : Vec Ideal S1024x2816 .f32) (hx : X (Proc.devRef .tc main_arg4) = x) :
    StableHlo.after (hostOps0 (F := Ideal)) X (Proc.devRef .tc main_v3) = (fun i : S2816x1024.Idx => x (ix2 (i 1) (i 0)) : Vec Ideal S2816x1024 .bf16) := by
  have e : StableHlo.after (hostOps0 (F := Ideal)) X (Proc.devRef .tc main_v3) = (truncf (F := Ideal) .bf16 (transpose S2816x1024 [1, 0] x transposes_S1024x2816_S2816x1024_1_0) bitsLt_bf16_f32 : Vec Ideal S2816x1024 .bf16) := by
    subst hx
    unfold hostOps0; after_results
    try rfl
  refine e.trans (funext fun i => ?_)
  obtain ⟨a, b, rfl⟩ : ∃ a b, i = ix2 a b := ⟨i 0, i 1, (ix2_eta i).symm⟩
  pointwise []
theorem host0_v4 (x : Vec Ideal S2816x1024 .f32) (hx : X (Proc.devRef .tc main_arg5) = x) :
    StableHlo.after (hostOps0 (F := Ideal)) X (Proc.devRef .tc main_v4) = (fun i : S2816x1024.Idx => x i : Vec Ideal S2816x1024 .bf16) := by
  have e : StableHlo.after (hostOps0 (F := Ideal)) X (Proc.devRef .tc main_v4) = (truncf (F := Ideal) .bf16 x bitsLt_bf16_f32 : Vec Ideal S2816x1024 .bf16) := by
    subst hx
    unfold hostOps0; after_results
    try rfl
  refine e.trans (funext fun i => ?_)
  obtain ⟨a, b, rfl⟩ : ∃ a b, i = ix2 a b := ⟨i 0, i 1, (ix2_eta i).symm⟩
  pointwise []
theorem host1_v8 (x : Vec Ideal S32x8x128 .f32) (hx : X (Proc.devRef .tc main_v5_3) = x) :
    StableHlo.after (hostOps1 (F := Ideal)) X (Proc.devRef .tc main_v8) = (fun i : S_.Idx => ∑ t : Fin 32, x (ix3 t 0 0) : Vec Ideal S_ .f32) := by
  have e : StableHlo.after (hostOps1 (F := Ideal)) X (Proc.devRef .tc main_v8) = (Host.reduceAdd (F := Ideal) (shapeCast S32 (extractStridedSlice S32x1x1 ![0, 0, 0] x slices_S32x8x128_S32x1x1_0_0_0) shapeCasts_S32x1x1_S32) (constant S_ .f32 0x00000000#32) reducesTo_S32_S_d0 h_S_ : Vec Ideal S_ .f32) := by
    subst hx
    unfold hostOps1; after_results
    try rfl
  refine e.trans (funext fun i => ?_)
  pointwise []
theorem host5_v13 (x : Vec Ideal S8x1024 .f32) (hx : X (Proc.devRef .tc main_v9_5) = x) :
    StableHlo.after (hostOps5 (F := Ideal)) X (Proc.devRef .tc main_v13) = (fun i : S1x1024.Idx => x (ix2 0 (i 1)) : Vec Ideal S1x1024 .f32) := by
  have e : StableHlo.after (hostOps5 (F := Ideal)) X (Proc.devRef .tc main_v13) = (extractStridedSlice S1x1024 ![0, 0] x slices_S8x1024_S1x1024_0_0 : Vec Ideal S1x1024 .f32) := by
    subst hx
    unfold hostOps5; after_results
    try rfl
  refine e.trans (funext fun i => ?_)
  obtain ⟨b, rfl⟩ : ∃ b, i = ix2 0 b := ⟨i 1, by rw [← ix2_eta i]; congr 1; exact Subsingleton.elim _ _⟩
  pointwise []
theorem host5_v14 (x : Vec Ideal S2816x1024 .f32) (hx : X (Proc.devRef .tc main_v11) = x) :
    StableHlo.after (hostOps5 (F := Ideal)) X (Proc.devRef .tc main_v14) = (fun i : S1024x2816.Idx => x (ix2 (i 1) (i 0)) : Vec Ideal S1024x2816 .f32) := by
  have e : StableHlo.after (hostOps5 (F := Ideal)) X (Proc.devRef .tc main_v14) = (transpose S1024x2816 [1, 0] x transposes_S2816x1024_S1024x2816_1_0 : Vec Ideal S1024x2816 .f32) := by
    subst hx
    unfold hostOps5; after_results
    try rfl
  refine e.trans (funext fun i => ?_)
  obtain ⟨a, b, rfl⟩ : ∃ a b, i = ix2 a b := ⟨i 0, i 1, (ix2_eta i).symm⟩
  pointwise []
theorem host5_v15 (x : Vec Ideal S2816x1024 .f32) (hx : X (Proc.devRef .tc main_v12) = x) :
    StableHlo.after (hostOps5 (F := Ideal)) X (Proc.devRef .tc main_v15) = (fun i : S1024x2816.Idx => x (ix2 (i 1) (i 0)) : Vec Ideal S1024x2816 .f32) := by
  have e : StableHlo.after (hostOps5 (F := Ideal)) X (Proc.devRef .tc main_v15) = (transpose S1024x2816 [1, 0] x transposes_S2816x1024_S1024x2816_1_0 : Vec Ideal S1024x2816 .f32) := by
    subst hx
    unfold hostOps5; after_results
    try rfl
  refine e.trans (funext fun i => ?_)
  obtain ⟨a, b, rfl⟩ : ∃ a b, i = ix2 a b := ⟨i 0, i 1, (ix2_eta i).symm⟩
  pointwise []

end Cert.Kernel2Ideal.Ffn
-- ==== Proof.FfnRun.lean ====
/- The feed-forward block's program run whole: what its results hold, over real arguments. -/
module

public import proofs.«01_k».proof.Proof.FfnFwd
public import proofs.«01_k».proof.Proof.FfnBwd
public import proofs.«01_k».proof.Proof.FfnDw
public import proofs.«01_k».proof.Proof.FfnHost

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every buffer of the program ends at the last boundary's contents. -/
theorem ends : θ_run (defs (F := Ideal)) (onTc (τ := τ) (main (F := Ideal))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-! ## The results over real arguments -/

/-- The arguments on a device are the real numbers of `D`. -/
structure Reads (c : Dev nD) (D : Args) : Prop where
  X : ∀ n k, (m ((c : Thread nD τ).loc main_arg0) : Vec Ideal S8192x1024 .f32) (ix2 n k) = (D.X n k : EReal)
  T : ∀ n k, (m ((c : Thread nD τ).loc main_arg1) : Vec Ideal S8192x1024 .f32) (ix2 n k) = (D.T n k : EReal)
  g : ∀ k, (m ((c : Thread nD τ).loc main_arg2) : Vec Ideal S1x1024 .f32) (ix2 0 k) = (D.g k : EReal)
  Wg : ∀ k f, (m ((c : Thread nD τ).loc main_arg3) : Vec Ideal S1024x2816 .f32) (ix2 k f) = (D.Wg k f : EReal)
  Wu : ∀ k f, (m ((c : Thread nD τ).loc main_arg4) : Vec Ideal S1024x2816 .f32) (ix2 k f) = (D.Wu k f : EReal)
  Wd : ∀ f k, (m ((c : Thread nD τ).loc main_arg5) : Vec Ideal S2816x1024 .f32) (ix2 f k) = (D.Wd f k : EReal)

section
variable {m} {c : Dev nD} {D : Args} (H : Reads m c D)
include H

theorem V1_X (n : Fin 8192) (k : Fin 1024) : (V1 m ρ c main_arg0 : Vec Ideal S8192x1024 .f32) (ix2 n k) = (D.X n k : EReal) :=
  (congrFun (W1_args m ρ c main_arg0 (by decide)) (ix2 n k)).trans (H.X n k)
theorem V1_T (n : Fin 8192) (k : Fin 1024) : (V1 m ρ c main_arg1 : Vec Ideal S8192x1024 .f32) (ix2 n k) = (D.T n k : EReal) :=
  (congrFun (W1_args m ρ c main_arg1 (by decide)) (ix2 n k)).trans (H.T n k)
theorem V1_g (k : Fin 1024) : (V1 m ρ c main_arg2 : Vec Ideal S1x1024 .f32) (ix2 0 k) = (D.g k : EReal) :=
  (congrFun (W1_args m ρ c main_arg2 (by decide)) (ix2 0 k)).trans (H.g k)
theorem V1_Wg (f : Fin 2816) (k : Fin 1024) : (V1 m ρ c main_v1 : Vec Ideal S2816x1024 .bf16) (ix2 f k) = (D.Wg k f : EReal) :=
  (congrFun (host0_v1 (W0 m ρ c) _ rfl) (ix2 f k)).trans (H.Wg k f)
theorem V1_Wu (f : Fin 2816) (k : Fin 1024) : (V1 m ρ c main_v3 : Vec Ideal S2816x1024 .bf16) (ix2 f k) = (D.Wu k f : EReal) :=
  (congrFun (host0_v3 (W0 m ρ c) _ rfl) (ix2 f k)).trans (H.Wu k f)
theorem V1_Wd (f : Fin 2816) (k : Fin 1024) : (V1 m ρ c main_v4 : Vec Ideal S2816x1024 .bf16) (ix2 f k) = (D.Wd f k : EReal) :=
  (congrFun (host0_v4 (W0 m ρ c) _ rfl) (ix2 f k)).trans (H.Wd f k)

theorem W2_6 : W2 m ρ c (Proc.devRef .tc main_v5_0) = (fun i => ((aA D (i 0) (i 1) : ℝ) : EReal) : Vec Ideal S8192x2816 .bf16) :=
  (W2_arr m ρ c 6).trans (fin0_6 (V1 m ρ) c D (V1_X ρ H) (V1_T ρ H) (V1_g ρ H) (V1_Wg ρ H) (V1_Wu ρ H) (V1_Wd ρ H))
theorem W2_7 : W2 m ρ c (Proc.devRef .tc main_v5_1) = (fun i => ((aU D (i 0) (i 1) : ℝ) : EReal) : Vec Ideal S8192x2816 .bf16) :=
  (W2_arr m ρ c 7).trans (fin0_7 (V1 m ρ) c D (V1_X ρ H) (V1_T ρ H) (V1_g ρ H) (V1_Wg ρ H) (V1_Wu ρ H) (V1_Wd ρ H))
theorem W2_8 : W2 m ρ c (Proc.devRef .tc main_v5_2) = (fun i => ((aY D (i 0) (i 1) : ℝ) : EReal) : Vec Ideal S8192x1024 .f32) :=
  (W2_arr m ρ c 8).trans (fin0_8 (V1 m ρ) c D (V1_X ρ H) (V1_T ρ H) (V1_g ρ H) (V1_Wg ρ H) (V1_Wu ρ H) (V1_Wd ρ H))
theorem W2_9 : W2 m ρ c (Proc.devRef .tc main_v5_3) = (fun i => ((part D (i 0) : ℝ) : EReal) : Vec Ideal S32x8x128 .f32) :=
  (W2_arr m ρ c 9).trans (fin0_9 (V1 m ρ) c D (V1_X ρ H) (V1_T ρ H) (V1_g ρ H) (V1_Wg ρ H) (V1_Wu ρ H) (V1_Wd ρ H))

theorem V3_Y (n : Fin 8192) (k : Fin 1024) : (V3 m ρ c main_v5_2 : Vec Ideal S8192x1024 .f32) (ix2 n k) = (aY D n k : EReal) :=
  congrFun ((W3_of m ρ c main_v5_2 (by decide)).trans (W2_8 ρ H)) (ix2 n k)
theorem V3_A (n : Fin 8192) (k : Fin 2816) : (V3 m ρ c main_v5_0 : Vec Ideal S8192x2816 .bf16) (ix2 n k) = (aA D n k : EReal) :=
  congrFun ((W3_of m ρ c main_v5_0 (by decide)).trans (W2_6 ρ H)) (ix2 n k)
theorem V3_U (n : Fin 8192) (k : Fin 2816) : (V3 m ρ c main_v5_1 : Vec Ideal S8192x2816 .bf16) (ix2 n k) = (aU D n k : EReal) :=
  congrFun ((W3_of m ρ c main_v5_1 (by decide)).trans (W2_7 ρ H)) (ix2 n k)
theorem V3_X (n : Fin 8192) (k : Fin 1024) : (V3 m ρ c main_arg0 : Vec Ideal S8192x1024 .f32) (ix2 n k) = (D.X n k : EReal) :=
  (congrFun (W3_args m ρ c main_arg0 (by decide)) (ix2 n k)).trans (H.X n k)
theorem V3_g (k : Fin 1024) : (V3 m ρ c main_arg2 : Vec Ideal S1x1024 .f32) (ix2 0 k) = (D.g k : EReal) :=
  (congrFun (W3_args m ρ c main_arg2 (by decide)) (ix2 0 k)).trans (H.g k)
theorem V3_Wg (f : Fin 2816) (k : Fin 1024) : (V3 m ρ c main_v1 : Vec Ideal S2816x1024 .bf16) (ix2 f k) = (D.Wg k f : EReal) :=
  (congrFun ((W3_of m ρ c main_v1 (by decide)).trans (W2_of m ρ c main_v1 (by decide))) (ix2 f k)).trans (V1_Wg ρ H f k)
theorem V3_Wu (f : Fin 2816) (k : Fin 1024) : (V3 m ρ c main_v3 : Vec Ideal S2816x1024 .bf16) (ix2 f k) = (D.Wu k f : EReal) :=
  (congrFun ((W3_of m ρ c main_v3 (by decide)).trans (W2_of m ρ c main_v3 (by decide))) (ix2 f k)).trans (V1_Wu ρ H f k)
theorem V3_Wd (f : Fin 2816) (k : Fin 1024) : (V3 m ρ c main_v4 : Vec Ideal S2816x1024 .bf16) (ix2 f k) = (D.Wd f k : EReal) :=
  (congrFun ((W3_of m ρ c main_v4 (by decide)).trans (W2_of m ρ c main_v4 (by decide))) (ix2 f k)).trans (V1_Wd ρ H f k)

theorem W4_8 : W4 m ρ c (Proc.devRef .tc main_v9_0) = (fun i => ((rX D (i 0) (i 1) : ℝ) : EReal) : Vec Ideal S8192x1024 .f32) :=
  (W4_arr m ρ c 8).trans (fin1_8 (V3 m ρ) c D (V3_Y ρ H) (V3_A ρ H) (V3_U ρ H) (V3_X ρ H) (V3_g ρ H) (V3_Wg ρ H) (V3_Wu ρ H) (V3_Wd ρ H))
theorem W4_9 : W4 m ρ c (Proc.devRef .tc main_v9_1) = (fun i => ((aS D (i 0) (i 1) : ℝ) : EReal) : Vec Ideal S8192x2816 .bf16) :=
  (W4_arr m ρ c 9).trans (fin1_9 (V3 m ρ) c D (V3_Y ρ H) (V3_A ρ H) (V3_U ρ H) (V3_X ρ H) (V3_g ρ H) (V3_Wg ρ H) (V3_Wu ρ H) (V3_Wd ρ H))
theorem W4_10 : W4 m ρ c (Proc.devRef .tc main_v9_2) = (fun i => ((aDa D (i 0) (i 1) : ℝ) : EReal) : Vec Ideal S8192x2816 .bf16) :=
  (W4_arr m ρ c 10).trans (fin1_10 (V3 m ρ) c D (V3_Y ρ H) (V3_A ρ H) (V3_U ρ H) (V3_X ρ H) (V3_g ρ H) (V3_Wg ρ H) (V3_Wu ρ H) (V3_Wd ρ H))
theorem W4_11 : W4 m ρ c (Proc.devRef .tc main_v9_3) = (fun i => ((aDu D (i 0) (i 1) : ℝ) : EReal) : Vec Ideal S8192x2816 .bf16) :=
  (W4_arr m ρ c 11).trans (fin1_11 (V3 m ρ) c D (V3_Y ρ H) (V3_A ρ H) (V3_U ρ H) (V3_X ρ H) (V3_g ρ H) (V3_Wg ρ H) (V3_Wu ρ H) (V3_Wd ρ H))
theorem W4_12 : W4 m ρ c (Proc.devRef .tc main_v9_4) = (fun i => ((aH D (i 0) (i 1) : ℝ) : EReal) : Vec Ideal S8192x1024 .bf16) :=
  (W4_arr m ρ c 12).trans (fin1_12 (V3 m ρ) c D (V3_Y ρ H) (V3_A ρ H) (V3_U ρ H) (V3_X ρ H) (V3_g ρ H) (V3_Wg ρ H) (V3_Wu ρ H) (V3_Wd ρ H))
theorem W4_13 (z : Vec Ideal S8x1024 .f32) (hz : W4 m ρ c (Proc.devRef .tc main_v9_5) = z) (k : Fin 1024) : z (ix2 0 k) = ((rG D k : ℝ) : EReal) := by
  subst hz
  exact (congrFun (W4_arr m ρ c 13) (ix2 0 k)).trans (fin1_13 (V3 m ρ) c D (V3_Y ρ H) (V3_A ρ H) (V3_U ρ H) (V3_X ρ H) (V3_g ρ H) (V3_Wg ρ H) (V3_Wu ρ H) (V3_Wd ρ H) k)

theorem V4_S (n : Fin 8192) (k : Fin 2816) : (V4 m ρ c main_v9_1 : Vec Ideal S8192x2816 .bf16) (ix2 n k) = ((aS D n k : ℝ) : EReal) :=
  congrFun (W4_9 ρ H) (ix2 n k)
theorem V4_Y (n : Fin 8192) (k : Fin 1024) : (V4 m ρ c main_v5_2 : Vec Ideal S8192x1024 .f32) (ix2 n k) = ((aY D n k : ℝ) : EReal) :=
  congrFun ((W4_of m ρ c main_v5_2 (by decide)).trans ((W3_of m ρ c main_v5_2 (by decide)).trans (W2_8 ρ H))) (ix2 n k)
theorem V5_Da (n : Fin 8192) (k : Fin 2816) : (V5 m ρ c main_v9_2 : Vec Ideal S8192x2816 .bf16) (ix2 n k) = ((aDa D n k : ℝ) : EReal) :=
  congrFun ((W5_of m ρ c main_v9_2 (by decide)).trans (W4_10 ρ H)) (ix2 n k)
theorem V5_H (n : Fin 8192) (k : Fin 1024) : (V5 m ρ c main_v9_4 : Vec Ideal S8192x1024 .bf16) (ix2 n k) = ((aH D n k : ℝ) : EReal) :=
  congrFun ((W5_of m ρ c main_v9_4 (by decide)).trans (W4_12 ρ H)) (ix2 n k)
theorem V6_Du (n : Fin 8192) (k : Fin 2816) : (V6 m ρ c main_v9_3 : Vec Ideal S8192x2816 .bf16) (ix2 n k) = ((aDu D n k : ℝ) : EReal) :=
  congrFun ((W6_of m ρ c main_v9_3 (by decide)).trans ((W5_of m ρ c main_v9_3 (by decide)).trans (W4_11 ρ H))) (ix2 n k)
theorem V6_H (n : Fin 8192) (k : Fin 1024) : (V6 m ρ c main_v9_4 : Vec Ideal S8192x1024 .bf16) (ix2 n k) = ((aH D n k : ℝ) : EReal) :=
  congrFun ((W6_of m ρ c main_v9_4 (by decide)).trans ((W5_of m ρ c main_v9_4 (by decide)).trans (W4_12 ρ H))) (ix2 n k)

theorem W5_2 : W5 m ρ c (Proc.devRef .tc main_v10) = (fun i => ((∑ n, aS D n (i 0) * aY D n (i 1) : ℝ) : EReal) : Vec Ideal S2816x1024 .f32) :=
  (W5_arr m ρ c 2).trans (fin2_2 (V4 m ρ) c (aS D) (aY D) (V4_S ρ H) (V4_Y ρ H))
theorem W6_2 : W6 m ρ c (Proc.devRef .tc main_v11) = (fun i => ((∑ n, aDa D n (i 0) * aH D n (i 1) : ℝ) : EReal) : Vec Ideal S2816x1024 .f32) :=
  (W6_arr m ρ c 2).trans (fin3_2 (V5 m ρ) c (aDa D) (aH D) (V5_Da ρ H) (V5_H ρ H))
theorem W7_2 : W7 m ρ c (Proc.devRef .tc main_v12) = (fun i => ((∑ n, aDu D n (i 0) * aH D n (i 1) : ℝ) : EReal) : Vec Ideal S2816x1024 .f32) :=
  (W7_arr m ρ c 2).trans (fin4_2 (V6 m ρ) c (aDu D) (aH D) (V6_Du ρ H) (V6_H ρ H))

/-! ## The results at the end -/

theorem end_loss : W8 m ρ c (Proc.devRef .tc main_v8) = (fun _ => ((rLoss D : ℝ) : EReal) : Vec Ideal S_ .f32) := by
  refine ((W8_of m ρ c main_v8 (by decide)).trans ((W7_of m ρ c main_v8 (by decide)).trans ((W6_of m ρ c main_v8 (by decide)).trans ((W5_of m ρ c main_v8 (by decide)).trans (W4_of m ρ c main_v8 (by decide)))))).trans ?_
  refine (host1_v8 (W2 m ρ c) _ (W2_9 ρ H)).trans (funext fun _ => ?_)
  refine (coe_sum_real Finset.univ (fun t : Fin 32 => part D t)).symm.trans ?_
  unfold rLoss part
  rw [sum_tok]
theorem end_dx : W8 m ρ c (Proc.devRef .tc main_v9_0) = (fun i => ((rX D (i 0) (i 1) : ℝ) : EReal) : Vec Ideal S8192x1024 .f32) :=
  (W8_of m ρ c main_v9_0 (by decide)).trans ((W7_of m ρ c main_v9_0 (by decide)).trans ((W6_of m ρ c main_v9_0 (by decide)).trans ((W5_of m ρ c main_v9_0 (by decide)).trans (W4_8 ρ H))))
theorem end_dg : W8 m ρ c (Proc.devRef .tc main_v13) = (fun i => ((rG D (i 1) : ℝ) : EReal) : Vec Ideal S1x1024 .f32) :=
  (host5_v13 (W7 m ρ c) _ rfl).trans (funext fun i => W4_13 ρ H _ ((W7_of m ρ c main_v9_5 (by decide)).trans ((W6_of m ρ c main_v9_5 (by decide)).trans ((W5_of m ρ c main_v9_5 (by decide)).trans (rfl)))).symm (i 1))
theorem end_dwg : W8 m ρ c (Proc.devRef .tc main_v14) = (fun i => ((rWg D (i 0) (i 1) : ℝ) : EReal) : Vec Ideal S1024x2816 .f32) :=
  host5_v14 (W7 m ρ c) _ ((W7_of m ρ c main_v11 (by decide)).trans (W6_2 ρ H))
theorem end_dwu : W8 m ρ c (Proc.devRef .tc main_v15) = (fun i => ((rWu D (i 0) (i 1) : ℝ) : EReal) : Vec Ideal S1024x2816 .f32) :=
  host5_v15 (W7 m ρ c) _ (W7_2 ρ H)
theorem end_dwd : W8 m ρ c (Proc.devRef .tc main_v10) = (fun i => ((rWd D (i 0) (i 1) : ℝ) : EReal) : Vec Ideal S2816x1024 .f32) :=
  (W8_of m ρ c main_v10 (by decide)).trans ((W7_of m ρ c main_v10 (by decide)).trans ((W6_of m ρ c main_v10 (by decide)).trans (W5_2 ρ H)))
end

end Cert.Kernel2Ideal.Ffn
-- ==== Proof.FfnRef.lean ====
/- The feed-forward block's reference read at a place, over real arguments. -/
module

public import proofs.«01_k».proof.Proof.FfnReal
public import proofs.«01_k».proof.Proof.Gen.Reference2Ideal.Run
public import proofs.«01_k».proof.Proof.Gen.Reference2Ideal.Read

@[expose] public section

set_option maxRecDepth 16384

noncomputable section

namespace Cert.Reference2Ideal.Ffn

open Cert.Reference2Ideal Cert.Reference2Ideal.Gen Cert.Reference2Ideal.Read Cert.Ffn Idealize.ShloMosaic

variable (D : Args) (x0 x1 : Vec Ideal S8192x1024 .f32) (x2 : Vec Ideal S1x1024 .f32) (x3 x4 : Vec Ideal S1024x2816 .f32) (x5 : Vec Ideal S2816x1024 .f32)

/-- The reference's arguments are the real numbers of `D`. -/
structure Reads : Prop where
  h0 : ∀ i, x0 i = ((D.X (i 0) (i 1) : ℝ) : EReal)
  h1 : ∀ i, x1 i = ((D.T (i 0) (i 1) : ℝ) : EReal)
  h2 : ∀ i, x2 i = ((D.g (i 1) : ℝ) : EReal)
  h3 : ∀ i, x3 i = ((D.Wg (i 0) (i 1) : ℝ) : EReal)
  h4 : ∀ i, x4 i = ((D.Wu (i 0) (i 1) : ℝ) : EReal)
  h5 : ∀ i, x5 i = ((D.Wd (i 0) (i 1) : ℝ) : EReal)

theorem lit_one : Ideal.ofBits .f32 0x3F800000#32 = ((1 : ℝ) : EReal) := by
  simp [Ideal.ofBits, Ideal.ieee, -EReal.coe_mul]; norm_num
theorem negf_coe (a : ℝ) : (FloatOps.negf (F := Ideal) (φ := .f32) (a : EReal) : EReal) = ((-a : ℝ) : EReal) := rfl
/-- A sum of products of reals is the sum's reading. -/
theorem sum_mul_coe {n : ℕ} (a b : Fin n → ℝ) : ∑ k, (a k : EReal) * (b k : EReal) = ((∑ k, a k * b k : ℝ) : EReal) := by
  rw [coe_sum_real]; rfl

section
variable {D x0 x1 x2 x3 x4 x5} (H : Reads D x0 x1 x2 x3 x4 x5)

include H in
theorem rv0 (i : S8192x1024.Idx) : val_main_v0 (F := Ideal) x0 i = ((D.X (i 0) (i 1) * D.X (i 0) (i 1) : ℝ) : EReal) := by
  rw [val_main_v0_apply, H.h0, Ideal.mulf_def, ← EReal.coe_mul]

include H in
theorem rv1 (i : S8192.Idx) : val_main_v1 (F := Ideal) x0 i = ((∑ k, D.X (i 0) k * D.X (i 0) k : ℝ) : EReal) := by
  rw [val_main_v1_apply, val_main_cst_apply, Ideal.ofBits_def, Ideal.ofBits_zero_f32, zero_add]
  refine (Finset.sum_congr rfl fun k _ => rv0 H _).trans ?_
  exact (coe_sum_real _ _).symm

include H in
theorem rv2 (i : S8192x1.Idx) : val_main_v2 (F := Ideal) x0 i = ((∑ k, D.X (i 0) k * D.X (i 0) k : ℝ) : EReal) := by
  rw [val_main_v2_apply, rv1 H]
  rfl

theorem rv3 (i : S8192x1.Idx) : val_main_v3 (F := Ideal) i = ((1024 : ℝ) : EReal) := by
  rw [val_main_v3_apply, val_main_cst_0_apply, Ideal.ofBits_def, lit_1024]

include H in
theorem rv4 (i : S8192x1.Idx) : val_main_v4 (F := Ideal) x0 i = (((∑ k, D.X (i 0) k * D.X (i 0) k) / 1024 : ℝ) : EReal) := by
  rw [val_main_v4_apply, rv2 H, rv3, Ideal.hostDivf_def, coe_divr _ (by norm_num)]

theorem rv5 (i : S8192x1.Idx) : val_main_v5 (F := Ideal) i = ((eps : ℝ) : EReal) := by
  rw [val_main_v5_apply, val_main_cst_1_apply, Ideal.ofBits_def, lit_eps]

include H in
theorem rv6 (i : S8192x1.Idx) : val_main_v6 (F := Ideal) x0 i = ((ms (D.X (i 0)) : ℝ) : EReal) := by
  rw [val_main_v6_apply, rv4 H, rv5, Ideal.addf_def, ← EReal.coe_add]
  rfl

include H in
theorem rv7 (i : S8192x1.Idx) : val_main_v7 (F := Ideal) x0 i = ((rr (D.X (i 0)) : ℝ) : EReal) := by
  rw [val_main_v7_apply, rv6 H, Ideal.hostUnary_rsqrt_def, coe_rsqrt (ms_pos _)]
  rfl

include H in
theorem rv8 (i : S8192x1.Idx) : val_main_v8 (F := Ideal) x0 i = ((rr (D.X (i 0)) / ms (D.X (i 0)) : ℝ) : EReal) := by
  rw [val_main_v8_apply, rv7 H, rv6 H, Ideal.hostDivf_def, coe_divr _ ((ms_pos _).ne')]

theorem rv9 (i : S8192x1.Idx) : val_main_v9 (F := Ideal) i = ((-(1 / 2) : ℝ) : EReal) := by
  rw [val_main_v9_apply, val_main_cst_2_apply, Ideal.ofBits_def, lit_neg_half]

include H in
theorem rv10 (i : S8192x1.Idx) : val_main_v10 (F := Ideal) x0 i = ((-(1 / 2) * (rr (D.X (i 0)) / ms (D.X (i 0))) : ℝ) : EReal) := by
  rw [val_main_v10_apply, rv9, rv8 H, Ideal.mulf_def, ← EReal.coe_mul]

include H in
theorem rv11 (i : S8192x1024.Idx) : val_main_v11 (F := Ideal) x0 i = ((rr (D.X (i 0)) : ℝ) : EReal) := by
  rw [val_main_v11_apply, rv7 H]
  rfl

include H in
theorem rv12 (i : S8192x1024.Idx) : val_main_v12 (F := Ideal) x0 i = ((xh (D.X (i 0)) (i 1) : ℝ) : EReal) := by
  rw [val_main_v12_apply, H.h0, rv11 H, Ideal.mulf_def, ← EReal.coe_mul]
  rfl

include H in
theorem rv13 (i : S8192x1024.Idx) : val_main_v13 (F := Ideal) x2 i = ((D.g (i 1) : ℝ) : EReal) := by
  rw [val_main_v13_apply, H.h2]
  rfl

include H in
theorem rv14 (i : S8192x1024.Idx) : val_main_v14 (F := Ideal) x0 x2 i = ((aH D (i 0) (i 1) : ℝ) : EReal) := by
  rw [val_main_v14_apply, rv12 H, rv13 H, Ideal.mulf_def, ← EReal.coe_mul]
  rfl

include H in
theorem rv15 (i : S8192x2816.Idx) : val_main_v15 (F := Ideal) x0 x2 x3 i = ((aA D (i 0) (i 1) : ℝ) : EReal) := by
  rw [val_main_v15_apply]
  refine (Finset.sum_congr rfl fun k _ => congrArg₂ (fun p q : EReal => p * q) (rv14 H _) (H.h3 _)).trans ?_
  exact sum_mul_coe _ _

include H in
theorem rv16 (i : S8192x2816.Idx) : val_main_v16 (F := Ideal) x0 x2 x4 i = ((aU D (i 0) (i 1) : ℝ) : EReal) := by
  rw [val_main_v16_apply]
  refine (Finset.sum_congr rfl fun k _ => congrArg₂ (fun p q : EReal => p * q) (rv14 H _) (H.h4 _)).trans ?_
  exact sum_mul_coe _ _

include H in
theorem rcall0_v0 (i : S8192x2816.Idx) : val_main_call0_v0 (F := Ideal) x0 x2 x3 i = ((-(aA D (i 0) (i 1)) : ℝ) : EReal) := by
  rw [val_main_call0_v0_apply, rv15 H, Ideal.hostNegf_def, negf_coe]

include H in
theorem rcall0_v1 (i : S8192x2816.Idx) : val_main_call0_v1 (F := Ideal) x0 x2 x3 i = ((Real.exp (-(aA D (i 0) (i 1))) : ℝ) : EReal) := by
  rw [val_main_call0_v1_apply, rcall0_v0 H, Ideal.hostUnary_exp_def, Ideal.exp_coe]

theorem rcall0_v2 (i : S8192x2816.Idx) : val_main_call0_v2 (F := Ideal) i = ((1 : ℝ) : EReal) := by
  rw [val_main_call0_v2_apply, val_main_call0_cst_apply, Ideal.ofBits_def, lit_one]

theorem rcall0_v4 (i : S8192x2816.Idx) : val_main_call0_v4 (F := Ideal) i = ((1 : ℝ) : EReal) := by
  rw [val_main_call0_v4_apply, val_main_call0_cst_0_apply, Ideal.ofBits_def, lit_one]

theorem rcall0_v6 (i : S8192x2816.Idx) : val_main_call0_v6 (F := Ideal) i = ((1 : ℝ) : EReal) := by
  rw [val_main_call0_v6_apply, val_main_call0_cst_1_apply, Ideal.ofBits_def, lit_one]

include H in
theorem rcall0_v3 (i : S8192x2816.Idx) : val_main_call0_v3 (F := Ideal) x0 x2 x3 i = ((1 + Real.exp (-(aA D (i 0) (i 1))) : ℝ) : EReal) := by
  rw [val_main_call0_v3_apply, rcall0_v2, rcall0_v1 H, Ideal.addf_def, ← EReal.coe_add]

include H in
theorem rv17_2 (i : S8192x2816.Idx) : val_main_v17_2 (F := Ideal) x0 x2 x3 i = ((sg (aA D (i 0) (i 1)) : ℝ) : EReal) := by
  rw [val_main_v17_2_apply, rcall0_v4, rcall0_v3 H, Ideal.hostDivf_def, coe_divr _ (one_add_exp_ne _)]
  rfl

include H in
theorem rcall0_v7 (i : S8192x2816.Idx) : val_main_call0_v7 (F := Ideal) x0 x2 x3 i = ((1 - sg (aA D (i 0) (i 1)) : ℝ) : EReal) := by
  rw [val_main_call0_v7_apply, rcall0_v6, rv17_2 H, Ideal.subf_def, ← EReal.coe_sub]

include H in
theorem rv17_1 (i : S8192x2816.Idx) : val_main_v17_1 (F := Ideal) x0 x2 x3 i = ((sg (aA D (i 0) (i 1)) * (1 - sg (aA D (i 0) (i 1))) : ℝ) : EReal) := by
  rw [val_main_v17_1_apply, rv17_2 H, rcall0_v7 H, Ideal.mulf_def, ← EReal.coe_mul]

include H in
theorem rv17_0 (i : S8192x2816.Idx) : val_main_v17_0 (F := Ideal) x0 x2 x3 i = ((aA D (i 0) (i 1) * sg (aA D (i 0) (i 1)) : ℝ) : EReal) := by
  rw [val_main_v17_0_apply, rv15 H, rv17_2 H, Ideal.mulf_def, ← EReal.coe_mul]

include H in
theorem rv18 (i : S8192x2816.Idx) : val_main_v18 (F := Ideal) x0 x2 x3 x4 i = ((aS D (i 0) (i 1) : ℝ) : EReal) := by
  rw [val_main_v18_apply, rv17_0 H, rv16 H, Ideal.mulf_def, ← EReal.coe_mul]
  rfl

include H in
theorem rv19 (i : S8192x1024.Idx) : val_main_v19 (F := Ideal) x0 x2 x3 x4 x5 i = ((∑ f, aS D (i 0) f * D.Wd f (i 1) : ℝ) : EReal) := by
  rw [val_main_v19_apply]
  refine (Finset.sum_congr rfl fun k _ => congrArg₂ (fun p q : EReal => p * q) (rv18 H _) (H.h5 _)).trans ?_
  exact sum_mul_coe _ _

include H in
theorem rv20 (i : S8192x1024.Idx) : val_main_v20 (F := Ideal) x0 x2 x3 x4 x5 i = ((D.X (i 0) (i 1) + ∑ f, aS D (i 0) f * D.Wd f (i 1) : ℝ) : EReal) := by
  rw [val_main_v20_apply, H.h0, rv19 H, Ideal.addf_def, ← EReal.coe_add]

include H in
theorem rv21 (i : S8192x1024.Idx) : val_main_v21 (F := Ideal) x0 x1 x2 x3 x4 x5 i = ((aE D (i 0) (i 1) : ℝ) : EReal) := by
  rw [val_main_v21_apply, rv20 H, H.h1, Ideal.subf_def, ← EReal.coe_sub]
  rfl

include H in
theorem rv22 (i : S8192x1024.Idx) : val_main_v22 (F := Ideal) x0 x1 x2 x3 x4 x5 i = ((aE D (i 0) (i 1) * aE D (i 0) (i 1) : ℝ) : EReal) := by
  rw [val_main_v22_apply, rv21 H, Ideal.mulf_def, ← EReal.coe_mul]

theorem rv23 (i : S8192x1024.Idx) : val_main_v23 (F := Ideal) i = ((2 : ℝ) : EReal) := by
  rw [val_main_v23_apply, val_main_cst_3_apply, Ideal.ofBits_def, lit_two]

include H in
theorem rv24 (i : S8192x1024.Idx) : val_main_v24 (F := Ideal) x0 x1 x2 x3 x4 x5 i = ((2 * aE D (i 0) (i 1) : ℝ) : EReal) := by
  rw [val_main_v24_apply, rv23, rv21 H, Ideal.mulf_def, ← EReal.coe_mul]

include H in
theorem rv25 (i : S8192.Idx) : val_main_v25 (F := Ideal) x0 x1 x2 x3 x4 x5 i = ((∑ k, aE D (i 0) k * aE D (i 0) k : ℝ) : EReal) := by
  rw [val_main_v25_apply, val_main_cst_4_apply, Ideal.ofBits_def, Ideal.ofBits_zero_f32, zero_add]
  refine (Finset.sum_congr rfl fun k _ => rv22 H _).trans ?_
  exact (coe_sum_real _ _).symm

theorem rv26 (i : S8192.Idx) : val_main_v26 (F := Ideal) i = ((1024 : ℝ) : EReal) := by
  rw [val_main_v26_apply, val_main_cst_5_apply, Ideal.ofBits_def, lit_1024]

include H in
theorem rv27 (i : S8192.Idx) : val_main_v27 (F := Ideal) x0 x1 x2 x3 x4 x5 i = (((∑ k, aE D (i 0) k * aE D (i 0) k) / 1024 : ℝ) : EReal) := by
  rw [val_main_v27_apply, rv25 H, rv26, Ideal.hostDivf_def, coe_divr _ (by norm_num)]

include H in
theorem rv28 (i : S_.Idx) : val_main_v28 (F := Ideal) x0 x1 x2 x3 x4 x5 i = ((∑ n, (∑ k, aE D n k * aE D n k) / 1024 : ℝ) : EReal) := by
  rw [val_main_v28_apply, val_main_cst_6_apply, Ideal.ofBits_def, Ideal.ofBits_zero_f32, zero_add]
  refine (Finset.sum_congr rfl fun k _ => rv27 H _).trans ?_
  rw [sum_idx1]
  exact (coe_sum_real Finset.univ (fun n : Fin 8192 => (∑ k, aE D n k * aE D n k) / 1024)).symm

include H in
theorem rv29 (i : S_.Idx) : val_main_v29 (F := Ideal) x0 x1 x2 x3 x4 x5 i = ((rLoss D : ℝ) : EReal) := by
  rw [val_main_v29_apply, val_main_cst_7_apply, Ideal.ofBits_def, lit_half, rv28 H, Ideal.mulf_def, ← EReal.coe_mul]
  unfold rLoss ls
  rw [Finset.mul_sum]
  congr 1
  exact Finset.sum_congr rfl fun n _ => by ring

theorem rv30 (i : S_.Idx) : val_main_v30 (F := Ideal) i = ((1 / 2 : ℝ) : EReal) := by
  rw [val_main_v30_apply, val_main_cst_8_apply, val_main_cst_9_apply, Ideal.mulf_def, Ideal.ofBits_def, Ideal.ofBits_def, lit_half, lit_one, ← EReal.coe_mul]
  norm_num
theorem rv31 (i : S8192.Idx) : val_main_v31 (F := Ideal) i = ((1 / 2 : ℝ) : EReal) := by
  rw [val_main_v31_apply, rv30]

theorem rv32 (i : S8192.Idx) : val_main_v32 (F := Ideal) i = ((1024 : ℝ) : EReal) := by
  rw [val_main_v32_apply, val_main_cst_10_apply, Ideal.ofBits_def, lit_1024]

theorem rv33 (i : S8192.Idx) : val_main_v33 (F := Ideal) i = ((1 / 2 / 1024 : ℝ) : EReal) := by
  rw [val_main_v33_apply, rv31, rv32, Ideal.hostDivf_def, coe_divr _ (by norm_num)]
theorem rv34 (i : S8192x1024.Idx) : val_main_v34 (F := Ideal) i = ((1 / 2 / 1024 : ℝ) : EReal) := by
  rw [val_main_v34_apply, rv33]

include H in
theorem rv35 (i : S8192x1024.Idx) : val_main_v35 (F := Ideal) x0 x1 x2 x3 x4 x5 i = ((aY D (i 0) (i 1) : ℝ) : EReal) := by
  rw [val_main_v35_apply, rv34, rv24 H, Ideal.mulf_def, ← EReal.coe_mul]
  unfold aY dyv
  congr 1
  ring

include H in
theorem rv36 (i : S1024x2816.Idx) : val_main_v36 (F := Ideal) x0 x1 x2 x3 x4 x5 i = ((∑ n, aY D n (i 0) * aS D n (i 1) : ℝ) : EReal) := by
  rw [val_main_v36_apply]
  refine (Finset.sum_congr rfl fun k _ => congrArg₂ (fun p q : EReal => p * q) (rv35 H _) (rv18 H _)).trans ?_
  exact sum_mul_coe _ _

include H in
theorem rv37 (i : S2816x1024.Idx) : val_main_v37 (F := Ideal) x0 x1 x2 x3 x4 x5 i = ((rWd D (i 0) (i 1) : ℝ) : EReal) := by
  rw [val_main_v37_apply, rv36 H]
  unfold rWd
  congr 1
  exact Finset.sum_congr rfl fun n _ => mul_comm _ _

include H in
theorem rv38 (i : S8192x2816.Idx) : val_main_v38 (F := Ideal) x0 x1 x2 x3 x4 x5 i = ((aDs D (i 0) (i 1) : ℝ) : EReal) := by
  rw [val_main_v38_apply]
  refine (Finset.sum_congr rfl fun k _ => congrArg₂ (fun p q : EReal => p * q) (rv35 H _) (H.h5 _)).trans ?_
  exact sum_mul_coe _ _

include H in
theorem rv39 (i : S8192x2816.Idx) : val_main_v39 (F := Ideal) x0 x1 x2 x3 x4 x5 i = ((aDu D (i 0) (i 1) : ℝ) : EReal) := by
  rw [val_main_v39_apply, rv17_0 H, rv38 H, Ideal.mulf_def, ← EReal.coe_mul]
  unfold aDu duv
  congr 1
  ring

include H in
theorem rv40 (i : S8192x2816.Idx) : val_main_v40 (F := Ideal) x0 x1 x2 x3 x4 x5 i = ((aDs D (i 0) (i 1) * aU D (i 0) (i 1) : ℝ) : EReal) := by
  rw [val_main_v40_apply, rv38 H, rv16 H, Ideal.mulf_def, ← EReal.coe_mul]

include H in
theorem rcall1_v0 (i : S8192x2816.Idx) : val_main_call1_v0 (F := Ideal) x0 x1 x2 x3 x4 x5 i = ((aA D (i 0) (i 1) * (aDs D (i 0) (i 1) * aU D (i 0) (i 1)) : ℝ) : EReal) := by
  rw [val_main_call1_v0_apply, rv15 H, rv40 H, Ideal.mulf_def, ← EReal.coe_mul]

include H in
theorem rcall1_v1 (i : S8192x2816.Idx) : val_main_call1_v1 (F := Ideal) x0 x1 x2 x3 x4 x5 i = ((aDs D (i 0) (i 1) * aU D (i 0) (i 1) * sg (aA D (i 0) (i 1)) : ℝ) : EReal) := by
  rw [val_main_call1_v1_apply, rv40 H, rv17_2 H, Ideal.mulf_def, ← EReal.coe_mul]

include H in
theorem rcall1_v2 (i : S8192x2816.Idx) : val_main_call1_v2 (F := Ideal) x0 x1 x2 x3 x4 x5 i = ((aA D (i 0) (i 1) * (aDs D (i 0) (i 1) * aU D (i 0) (i 1)) * (sg (aA D (i 0) (i 1)) * (1 - sg (aA D (i 0) (i 1)))) : ℝ) : EReal) := by
  rw [val_main_call1_v2_apply, rcall1_v0 H, rv17_1 H, Ideal.mulf_def, ← EReal.coe_mul]

include H in
theorem rv41 (i : S8192x2816.Idx) : val_main_v41 (F := Ideal) x0 x1 x2 x3 x4 x5 i = ((aDa D (i 0) (i 1) : ℝ) : EReal) := by
  rw [val_main_v41_apply, rcall1_v1 H, rcall1_v2 H, Ideal.addf_def, ← EReal.coe_add]
  unfold aDa dav
  congr 1
  ring

include H in
theorem rv42 (i : S2816x1024.Idx) : val_main_v42 (F := Ideal) x0 x1 x2 x3 x4 x5 i = ((∑ n, aDu D n (i 0) * aH D n (i 1) : ℝ) : EReal) := by
  rw [val_main_v42_apply]
  refine (Finset.sum_congr rfl fun k _ => congrArg₂ (fun p q : EReal => p * q) (rv39 H _) (rv14 H _)).trans ?_
  exact sum_mul_coe _ _

include H in
theorem rv43 (i : S1024x2816.Idx) : val_main_v43 (F := Ideal) x0 x1 x2 x3 x4 x5 i = ((rWu D (i 0) (i 1) : ℝ) : EReal) := by
  rw [val_main_v43_apply, rv42 H]
  rfl

include H in
theorem rv44 (i : S8192x1024.Idx) : val_main_v44 (F := Ideal) x0 x1 x2 x3 x4 x5 i = ((∑ f, aDu D (i 0) f * D.Wu (i 1) f : ℝ) : EReal) := by
  rw [val_main_v44_apply]
  refine (Finset.sum_congr rfl fun k _ => congrArg₂ (fun p q : EReal => p * q) (rv39 H _) (H.h4 _)).trans ?_
  exact sum_mul_coe _ _

include H in
theorem rv45 (i : S2816x1024.Idx) : val_main_v45 (F := Ideal) x0 x1 x2 x3 x4 x5 i = ((∑ n, aDa D n (i 0) * aH D n (i 1) : ℝ) : EReal) := by
  rw [val_main_v45_apply]
  refine (Finset.sum_congr rfl fun k _ => congrArg₂ (fun p q : EReal => p * q) (rv41 H _) (rv14 H _)).trans ?_
  exact sum_mul_coe _ _

include H in
theorem rv46 (i : S1024x2816.Idx) : val_main_v46 (F := Ideal) x0 x1 x2 x3 x4 x5 i = ((rWg D (i 0) (i 1) : ℝ) : EReal) := by
  rw [val_main_v46_apply, rv45 H]
  rfl

include H in
theorem rv47 (i : S8192x1024.Idx) : val_main_v47 (F := Ideal) x0 x1 x2 x3 x4 x5 i = ((∑ f, aDa D (i 0) f * D.Wg (i 1) f : ℝ) : EReal) := by
  rw [val_main_v47_apply]
  refine (Finset.sum_congr rfl fun k _ => congrArg₂ (fun p q : EReal => p * q) (rv41 H _) (H.h3 _)).trans ?_
  exact sum_mul_coe _ _

include H in
theorem rv48 (i : S8192x1024.Idx) : val_main_v48 (F := Ideal) x0 x1 x2 x3 x4 x5 i = ((aDh D (i 0) (i 1) : ℝ) : EReal) := by
  rw [val_main_v48_apply, rv44 H, rv47 H, Ideal.addf_def, ← EReal.coe_add]
  unfold aDh dhv
  congr 1
  ring

include H in
theorem rv49 (i : S8192x1024.Idx) : val_main_v49 (F := Ideal) x0 x1 x2 x3 x4 x5 i = ((aDh D (i 0) (i 1) * xh (D.X (i 0)) (i 1) : ℝ) : EReal) := by
  rw [val_main_v49_apply, rv12 H, rv48 H, Ideal.mulf_def, ← EReal.coe_mul]
  congr 1
  ring

include H in
theorem rv50 (i : S1024.Idx) : val_main_v50 (F := Ideal) x0 x1 x2 x3 x4 x5 i = ((rG D (i 0) : ℝ) : EReal) := by
  rw [val_main_v50_apply, val_main_cst_11_apply, Ideal.ofBits_def, Ideal.ofBits_zero_f32, zero_add]
  refine (Finset.sum_congr rfl fun k _ => rv49 H _).trans ?_
  exact (coe_sum_real _ _).symm

include H in
theorem rv51 (i : S1x1024.Idx) : val_main_v51 (F := Ideal) x0 x1 x2 x3 x4 x5 i = ((rG D (i 1) : ℝ) : EReal) := by
  rw [val_main_v51_apply, rv50 H]
  congr 2
  have h0 : (i 0).val < 1 := (i 0).isLt
  apply Fin.ext
  show (i 0).val * 1024 + (i 1).val = (i 1).val
  omega

include H in
theorem rv52 (i : S8192x1024.Idx) : val_main_v52 (F := Ideal) x2 i = ((D.g (i 1) : ℝ) : EReal) := by
  rw [val_main_v52_apply, H.h2]
  rfl

include H in
theorem rv53 (i : S8192x1024.Idx) : val_main_v53 (F := Ideal) x0 x1 x2 x3 x4 x5 i = ((aDh D (i 0) (i 1) * D.g (i 1) : ℝ) : EReal) := by
  rw [val_main_v53_apply, rv48 H, rv52 H, Ideal.mulf_def, ← EReal.coe_mul]

include H in
theorem rv54 (i : S8192x1024.Idx) : val_main_v54 (F := Ideal) x0 x1 x2 x3 x4 x5 i = ((D.X (i 0) (i 1) * (aDh D (i 0) (i 1) * D.g (i 1)) : ℝ) : EReal) := by
  rw [val_main_v54_apply, H.h0, rv53 H, Ideal.mulf_def, ← EReal.coe_mul]

include H in
theorem rv55 (i : S8192.Idx) : val_main_v55 (F := Ideal) x0 x1 x2 x3 x4 x5 i = ((∑ k, D.X (i 0) k * (aDh D (i 0) k * D.g k) : ℝ) : EReal) := by
  rw [val_main_v55_apply, val_main_cst_12_apply, Ideal.ofBits_def, Ideal.ofBits_zero_f32, zero_add]
  refine (Finset.sum_congr rfl fun k _ => rv54 H _).trans ?_
  exact (coe_sum_real _ _).symm

include H in
theorem rv56 (i : S8192x1.Idx) : val_main_v56 (F := Ideal) x0 x1 x2 x3 x4 x5 i = ((∑ k, D.X (i 0) k * (aDh D (i 0) k * D.g k) : ℝ) : EReal) := by
  rw [val_main_v56_apply, rv55 H]
  have e : idx_main_v56 i 0 = i 0 := by
    have h1 : (i 1).val < 1 := (i 1).isLt
    apply Fin.ext
    show (i 0).val * 1 + (i 1).val = (i 0).val
    omega
  rw [e]

include H in
theorem rv57 (i : S8192x1024.Idx) : val_main_v57 (F := Ideal) x0 i = ((rr (D.X (i 0)) : ℝ) : EReal) := by
  rw [val_main_v57_apply, rv7 H]
  rfl

include H in
theorem rv58 (i : S8192x1024.Idx) : val_main_v58 (F := Ideal) x0 x1 x2 x3 x4 x5 i = ((aDh D (i 0) (i 1) * D.g (i 1) * rr (D.X (i 0)) : ℝ) : EReal) := by
  rw [val_main_v58_apply, rv53 H, rv57 H, Ideal.mulf_def, ← EReal.coe_mul]

include H in
theorem rv59 (i : S8192x1024.Idx) : val_main_v59 (F := Ideal) x0 x1 x2 x3 x4 x5 i = ((aY D (i 0) (i 1) + aDh D (i 0) (i 1) * D.g (i 1) * rr (D.X (i 0)) : ℝ) : EReal) := by
  rw [val_main_v59_apply, rv35 H, rv58 H, Ideal.addf_def, ← EReal.coe_add]

include H in
theorem rv60 (i : S8192x1.Idx) : val_main_v60 (F := Ideal) x0 x1 x2 x3 x4 x5 i = (((∑ k, D.X (i 0) k * (aDh D (i 0) k * D.g k)) * (-(1 / 2) * (rr (D.X (i 0)) / ms (D.X (i 0)))) : ℝ) : EReal) := by
  rw [val_main_v60_apply, rv56 H, rv10 H, Ideal.mulf_def, ← EReal.coe_mul]

theorem rv61 (i : S8192x1.Idx) : val_main_v61 (F := Ideal) i = ((1024 : ℝ) : EReal) := by
  rw [val_main_v61_apply, val_main_cst_13_apply, Ideal.ofBits_def, lit_1024]

include H in
theorem rv62 (i : S8192x1.Idx) : val_main_v62 (F := Ideal) x0 x1 x2 x3 x4 x5 i = (((∑ k, D.X (i 0) k * (aDh D (i 0) k * D.g k)) * (-(1 / 2) * (rr (D.X (i 0)) / ms (D.X (i 0)))) / 1024 : ℝ) : EReal) := by
  rw [val_main_v62_apply, rv60 H, rv61, Ideal.hostDivf_def, coe_divr _ (by norm_num)]

include H in
theorem rv63 (i : S8192.Idx) : val_main_v63 (F := Ideal) x0 x1 x2 x3 x4 x5 i = (((∑ k, D.X (i 0) k * (aDh D (i 0) k * D.g k)) * (-(1 / 2) * (rr (D.X (i 0)) / ms (D.X (i 0)))) / 1024 : ℝ) : EReal) := by
  rw [val_main_v63_apply, val_main_cst_14_apply, Ideal.ofBits_def, Ideal.ofBits_zero_f32, zero_add]
  refine (Finset.sum_congr rfl fun k _ => rv62 H _).trans ?_
  exact Fin.sum_univ_one _

include H in
theorem rv64 (i : S8192x1024.Idx) : val_main_v64 (F := Ideal) x0 x1 x2 x3 x4 x5 i = (((∑ k, D.X (i 0) k * (aDh D (i 0) k * D.g k)) * (-(1 / 2) * (rr (D.X (i 0)) / ms (D.X (i 0)))) / 1024 : ℝ) : EReal) := by
  rw [val_main_v64_apply, rv63 H]
  rfl

include H in
theorem rv65 (i : S8192x1024.Idx) : val_main_v65 (F := Ideal) x0 x1 x2 x3 x4 x5 i = ((D.X (i 0) (i 1) * ((∑ k, D.X (i 0) k * (aDh D (i 0) k * D.g k)) * (-(1 / 2) * (rr (D.X (i 0)) / ms (D.X (i 0)))) / 1024) : ℝ) : EReal) := by
  rw [val_main_v65_apply, H.h0, rv64 H, Ideal.mulf_def, ← EReal.coe_mul]

include H in
theorem rv66 (i : S8192x1024.Idx) : val_main_v66 (F := Ideal) x0 x1 x2 x3 x4 x5 i = ((aY D (i 0) (i 1) + aDh D (i 0) (i 1) * D.g (i 1) * rr (D.X (i 0)) + D.X (i 0) (i 1) * ((∑ k, D.X (i 0) k * (aDh D (i 0) k * D.g k)) * (-(1 / 2) * (rr (D.X (i 0)) / ms (D.X (i 0)))) / 1024) : ℝ) : EReal) := by
  rw [val_main_v66_apply, rv59 H, rv65 H, Ideal.addf_def, ← EReal.coe_add]

include H in
theorem rv67 (i : S8192x1024.Idx) : val_main_v67 (F := Ideal) x0 x1 x2 x3 x4 x5 i = (((∑ k, D.X (i 0) k * (aDh D (i 0) k * D.g k)) * (-(1 / 2) * (rr (D.X (i 0)) / ms (D.X (i 0)))) / 1024 * D.X (i 0) (i 1) : ℝ) : EReal) := by
  rw [val_main_v67_apply, rv64 H, H.h0, Ideal.mulf_def, ← EReal.coe_mul]

/-- The root's own gradient: its reciprocal over the mean square is its reciprocal's cube. -/
theorem rr_div_ms (x : Fin 1024 → ℝ) : rr x / ms x = rr x * rr x * rr x := by
  have h := Real.mul_self_sqrt (ms_pos x).le
  have hs : √(ms x) ≠ 0 := (Real.sqrt_pos.mpr (ms_pos x)).ne'
  unfold rr
  rw [div_eq_iff (ms_pos x).ne']
  nth_rewrite 5 [← h]
  field_simp

include H in
theorem rv68 (i : S8192x1024.Idx) : val_main_v68 (F := Ideal) x0 x1 x2 x3 x4 x5 i = ((rX D (i 0) (i 1) : ℝ) : EReal) := by
  rw [val_main_v68_apply, rv66 H, rv67 H, Ideal.addf_def, ← EReal.coe_add]
  congr 1
  unfold rX dxv
  have e : (∑ j, aDh D (i 0) j * D.g j * xh (D.X (i 0)) j) = rr (D.X (i 0)) * ∑ k, D.X (i 0) k * (aDh D (i 0) k * D.g k) := by
    rw [Finset.mul_sum]
    exact Finset.sum_congr rfl fun k _ => by unfold xh; ring
  rw [e, rr_div_ms]
  unfold xh
  ring

end

end Cert.Reference2Ideal.Ffn
-- ==== Proof.FfnClaim.lean ====
/- The feed-forward block's training step: its claims. -/
module

public import proofs.«01_k».proof.Defs
public import proofs.«01_k».proof.Proof.Gen.Kernel2.Frame
public import proofs.«01_k».proof.Proof.Gen.Pre_finite2
public import proofs.«01_k».proof.Proof.GateClaim
public import proofs.«01_k».proof.Proof.FfnRun
public import proofs.«01_k».proof.Proof.FfnRef
public import Idealize.ShloMosaic.Lib.ReduceAll

@[expose] public section

set_option maxRecDepth 16384

noncomputable section

namespace Cert.Proof.Ffn

open Idealize.ShloMosaic Idealize.SL.Sem

section
open Cert.Pre_finite2

/-- An array without axes has one place. -/
instance : Subsingleton S_.Idx := ⟨fun a b => funext fun k => k.elim0⟩

/-- An array all of whose elements are below infinity in absolute value holds real numbers. -/
theorem all_lt {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : x i = (((x i : EReal).toReal : ℝ) : EReal) :=
  Gate.coe_of_abs_lt _ (Host.reduce_andi_all _ _ hr hu j e i)

/-- Six bits set side by side, all ones: each is one. -/
theorem six (y0 y1 y2 y3 y4 y5 : IVec S_ 1) (hb : S_.BroadcastsInDim S1 (![] : Fin 0 → Fin S1.rank)) (hc : Shape.Concatenates [S1, S1, S1, S1, S1, S1] S6 0)
    (h : concatenate S6 0 ([⟨S1, broadcastInDim S1 ![] hb y0⟩, ⟨S1, broadcastInDim S1 ![] hb y1⟩, ⟨S1, broadcastInDim S1 ![] hb y2⟩, ⟨S1, broadcastInDim S1 ![] hb y3⟩, ⟨S1, broadcastInDim S1 ![] hb y4⟩, ⟨S1, broadcastInDim S1 ![] hb y5⟩] : List ((s : Shape) × (s.Idx → BitVec 1))) hc = fun _ => 1#1) :
    y0 ix0 = 1#1 ∧ y1 ix0 = 1#1 ∧ y2 ix0 = 1#1 ∧ y3 ix0 = 1#1 ∧ y4 ix0 = 1#1 ∧ y5 ix0 = 1#1 := by
  have e0 := congrFun h (ix1 (0 : Fin 6)); have e1 := congrFun h (ix1 (1 : Fin 6)); have e2 := congrFun h (ix1 (2 : Fin 6))
  have e3 := congrFun h (ix1 (3 : Fin 6)); have e4 := congrFun h (ix1 (4 : Fin 6)); have e5 := congrFun h (ix1 (5 : Fin 6))
  have z : ∀ j : S_.Idx, j = ix0 := fun j => Subsingleton.elim _ _
  refine ⟨?_, ?_, ?_, ?_, ?_, ?_⟩
  · rw [← e0]; exact congrArg y0 (z _).symm
  · rw [← e1]; exact congrArg y1 (z _).symm
  · rw [← e2]; exact congrArg y2 (z _).symm
  · rw [← e3]; exact congrArg y3 (z _).symm
  · rw [← e4]; exact congrArg y4 (z _).symm
  · rw [← e5]; exact congrArg y5 (z _).symm

section
variable [F : Cert.Pre_finite2.Facts] (x0 x1 : FVec Ideal S8192x1024 .f32) (x2 : FVec Ideal S1x1024 .f32) (x3 x4 : FVec Ideal S1024x2816 .f32) (x5 : FVec Ideal S2816x1024 .f32)
/-- What the precondition says: every element of the six arguments is a real number. -/
theorem finite (h : fn x0 x1 x2 x3 x4 x5 = fun _ => 1#1) :
    (∀ i, x0 i = (((x0 i : EReal).toReal : ℝ) : EReal)) ∧ (∀ i, x1 i = (((x1 i : EReal).toReal : ℝ) : EReal)) ∧ (∀ i, x2 i = (((x2 i : EReal).toReal : ℝ) : EReal))
    ∧ (∀ i, x3 i = (((x3 i : EReal).toReal : ℝ) : EReal)) ∧ (∀ i, x4 i = (((x4 i : EReal).toReal : ℝ) : EReal)) ∧ (∀ i, x5 i = (((x5 i : EReal).toReal : ℝ) : EReal)) := by
  unfold fn fn_part1 at h
  dsimp only at h
  obtain ⟨e0, e1, e2, e3, e4, e5⟩ := six _ _ _ _ _ _ _ _ h
  exact ⟨all_lt x0 _ _ _ _ e0, all_lt x1 _ _ _ _ e1, all_lt x2 _ _ _ _ e2, all_lt x3 _ _ _ _ e3, all_lt x4 _ _ _ _ e4, all_lt x5 _ _ _ _ e5⟩
end
end

theorem frame_kernel : Cert.quiescent_Kernel2 (hKernel2 := Cert.Kernel2.Gen.facts) := fun m ρ _ => Cert.Kernel2.Gen.frame m ρ

theorem frame_ideal : Cert.quiescent_Kernel2Ideal (hKernel2Ideal := Cert.Kernel2Ideal.Gen.facts) :=
  fun m ρ _ => Cert.Kernel2Ideal.Gen.frame m ρ

theorem frame_ideal_pre : Cert.quiescent_Kernel2Ideal_pre_finite2 (hKernel2Ideal := Cert.Kernel2Ideal.Gen.facts) (hPre_finite2 := Cert.Pre_finite2.Gen.facts) :=
  fun m ρ _ => Cert.Kernel2Ideal.Gen.frame m ρ

/-- The reference's arguments are kept, and it declares no semaphore. -/
theorem frame_reference : Cert.quiescent_Reference2Ideal (hReference2Ideal := Cert.Reference2Ideal.Gen.facts) := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

theorem frame_reference_pre : Cert.quiescent_Reference2Ideal_pre_finite2 (hReference2Ideal := Cert.Reference2Ideal.Gen.facts) (hPre_finite2 := Cert.Pre_finite2.Gen.facts) :=
  fun m ρ _ => frame_reference m ρ trivial

variable (m : (ℓ : Loc Cert.Kernel2Ideal.nD Cert.Kernel2Ideal.τ Cert.Kernel2Ideal.sig) → Buf (Elt Ideal) ℓ)

open Cert.Kernel2Ideal Idealize.ShloMosaic.TcCoe in
/-- The arguments of a device as real numbers. -/
def args (c : Dev nD) : Cert.Ffn.Args where
  X n k := EReal.toReal ((m ((c : Thread nD τ).loc main_arg0) : Vec Ideal S8192x1024 .f32) (ix2 n k))
  T n k := EReal.toReal ((m ((c : Thread nD τ).loc main_arg1) : Vec Ideal S8192x1024 .f32) (ix2 n k))
  g k := EReal.toReal ((m ((c : Thread nD τ).loc main_arg2) : Vec Ideal S1x1024 .f32) (ix2 0 k))
  Wg k f := EReal.toReal ((m ((c : Thread nD τ).loc main_arg3) : Vec Ideal S1024x2816 .f32) (ix2 k f))
  Wu k f := EReal.toReal ((m ((c : Thread nD τ).loc main_arg4) : Vec Ideal S1024x2816 .f32) (ix2 k f))
  Wd f k := EReal.toReal ((m ((c : Thread nD τ).loc main_arg5) : Vec Ideal S2816x1024 .f32) (ix2 f k))

theorem kernel_reads (hp : Cert.Pre_Kernel2Ideal_finite2 (hPre_finite2 := Cert.Pre_finite2.Gen.facts) m) (c : Dev Cert.Kernel2Ideal.nD) :
    Cert.Kernel2Ideal.Ffn.Reads m c (args m c) := by
  obtain ⟨f0, f1, f2, f3, f4, f5⟩ := finite _ _ _ _ _ _ (hp c)
  exact ⟨fun n k => f0 (ix2 n k), fun n k => f1 (ix2 n k), fun k => f2 (ix2 0 k), fun k f => f3 (ix2 k f), fun k f => f4 (ix2 k f), fun f k => f5 (ix2 f k)⟩

/-- A place of a one-row array is in row zero. -/
theorem row_eta (i : (⟨2, ![1, 1024]⟩ : Shape).Idx) : i = ix2 (0 : Fin 1) (i 1 : Fin 1024) := by
  funext a
  match a with
  | ⟨0, _⟩ => exact Fin.ext (Nat.lt_one_iff.mp (i 0).isLt)
  | ⟨1, _⟩ => rfl

open Cert.Kernel2Ideal Idealize.ShloMosaic.TcCoe in
theorem reference_reads (hp : Cert.Pre_Kernel2Ideal_finite2 (hPre_finite2 := Cert.Pre_finite2.Gen.facts) m) (c : Dev nD) :
    Cert.Reference2Ideal.Ffn.Reads (args m c) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  have H := kernel_reads m hp c
  refine ⟨fun i => ?_, fun i => ?_, fun i => ?_, fun i => ?_, fun i => ?_, fun i => ?_⟩
  · have e := H.X (i 0) (i 1); rw [ix2_eta] at e; exact e
  · have e := H.T (i 0) (i 1); rw [ix2_eta] at e; exact e
  · exact (congrArg (m ((c : Thread nD τ).loc main_arg2) : Vec Ideal S1x1024 .f32) (row_eta i)).trans (H.g (i 1))
  · have e := H.Wg (i 0) (i 1); rw [ix2_eta] at e; exact e
  · have e := H.Wu (i 0) (i 1); rw [ix2_eta] at e; exact e
  · have e := H.Wd (i 0) (i 1); rw [ix2_eta] at e; exact e

theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m ρ m' ρ' hp hag
  refine ⟨fun c => (fun _ => ((Cert.Ffn.rLoss (args m c) : ℝ) : EReal)), fun c => (fun i => ((Cert.Ffn.rX (args m c) (i 0) (i 1) : ℝ) : EReal)),
    fun c => (fun i => ((Cert.Ffn.rG (args m c) (i 1) : ℝ) : EReal)), fun c => (fun i => ((Cert.Ffn.rWg (args m c) (i 0) (i 1) : ℝ) : EReal)),
    fun c => (fun i => ((Cert.Ffn.rWu (args m c) (i 0) (i 1) : ℝ) : EReal)), fun c => (fun i => ((Cert.Ffn.rWd (args m c) (i 0) (i 1) : ℝ) : EReal)), ?_, ?_⟩
  · refine (θ_run Cert.Kernel2Ideal.defs _ _).mono (fun r h c => ?_) (Cert.Kernel2Ideal.Ffn.ends m ρ)
    have H := kernel_reads m hp c
    have hm := fun b hb => h c _ (Cert.Kernel2Ideal.Gen.mem_uc b hb)
    exact ⟨(hm Cert.Kernel2Ideal.main_v8 (by decide)).trans (Cert.Kernel2Ideal.Ffn.end_loss ρ H),
      (hm Cert.Kernel2Ideal.main_v9_0 (by decide)).trans (Cert.Kernel2Ideal.Ffn.end_dx ρ H),
      (hm Cert.Kernel2Ideal.main_v13 (by decide)).trans (Cert.Kernel2Ideal.Ffn.end_dg ρ H),
      (hm Cert.Kernel2Ideal.main_v14 (by decide)).trans (Cert.Kernel2Ideal.Ffn.end_dwg ρ H),
      (hm Cert.Kernel2Ideal.main_v15 (by decide)).trans (Cert.Kernel2Ideal.Ffn.end_dwu ρ H),
      (hm Cert.Kernel2Ideal.main_v10 (by decide)).trans (Cert.Kernel2Ideal.Ffn.end_dwd ρ H),
      (hm Cert.Kernel2Ideal.main_arg0 (by decide)).trans (Cert.Kernel2Ideal.Gen.W8_main_arg0 m ρ c),
      (hm Cert.Kernel2Ideal.main_arg1 (by decide)).trans (Cert.Kernel2Ideal.Gen.W8_main_arg1 m ρ c),
      (hm Cert.Kernel2Ideal.main_arg2 (by decide)).trans (Cert.Kernel2Ideal.Gen.W8_main_arg2 m ρ c),
      (hm Cert.Kernel2Ideal.main_arg3 (by decide)).trans (Cert.Kernel2Ideal.Gen.W8_main_arg3 m ρ c),
      (hm Cert.Kernel2Ideal.main_arg4 (by decide)).trans (Cert.Kernel2Ideal.Gen.W8_main_arg4 m ρ c),
      (hm Cert.Kernel2Ideal.main_arg5 (by decide)).trans (Cert.Kernel2Ideal.Gen.W8_main_arg5 m ρ c)⟩
  · refine (θ_run Cert.Reference2Ideal.defs _ _).mono (fun r h c => ?_) (Cert.Reference2Ideal.Value.run (F := Ideal) m' ρ')
    obtain ⟨a0, a1, a2, a3, a4, a5⟩ := hag c
    have H := reference_reads m hp c
    rw [← a0, ← a1, ← a2, ← a3, ← a4, ← a5] at H
    obtain ⟨e0, e1, e2, e3, e4, e5, ek⟩ := h c
    exact ⟨e0.trans ((Cert.Reference2Ideal.Read.val_main_v29_eq m' c).trans (funext fun i => Cert.Reference2Ideal.Ffn.rv29 H i)),
      e1.trans ((Cert.Reference2Ideal.Read.val_main_v68_eq m' c).trans (funext fun i => Cert.Reference2Ideal.Ffn.rv68 H i)),
      e2.trans ((Cert.Reference2Ideal.Read.val_main_v51_eq m' c).trans (funext fun i => Cert.Reference2Ideal.Ffn.rv51 H i)),
      e3.trans ((Cert.Reference2Ideal.Read.val_main_v46_eq m' c).trans (funext fun i => Cert.Reference2Ideal.Ffn.rv46 H i)),
      e4.trans ((Cert.Reference2Ideal.Read.val_main_v43_eq m' c).trans (funext fun i => Cert.Reference2Ideal.Ffn.rv43 H i)),
      e5.trans ((Cert.Reference2Ideal.Read.val_main_v37_eq m' c).trans (funext fun i => Cert.Reference2Ideal.Ffn.rv37 H i)), ek⟩

end Cert.Proof.Ffn
-- ==== Proof.InpMath.lean ====
/- The input projection's training step written over the extended reals, one token at a time. -/
module

public import proofs.«01_k».proof.Proof.FfnReal

@[expose] public section

noncomputable section

namespace Cert.Inp

open Cert.Ffn (eps eps_pos)
open Idealize.ShloMosaic

/-- The mean square of a token's row, the small number added. -/
def ms (x : Fin 1024 → EReal) : EReal := Ideal.div (∑ k, x k * x k) ((1024 : ℝ) : EReal) + ((eps : ℝ) : EReal)
/-- The reciprocal root mean square. -/
def rr (x : Fin 1024 → EReal) : EReal := Ideal.rsqrt (ms x)
/-- The row divided by its root mean square. -/
def xh (x : Fin 1024 → EReal) (k : Fin 1024) : EReal := x k * rr x
/-- The normalised row. -/
def hh (x g : Fin 1024 → EReal) (k : Fin 1024) : EReal := xh x k * g k
/-- A row times a matrix of any width. -/
def prw {N : ℕ} (h : Fin 1024 → EReal) (W : Fin 1024 → Fin N → EReal) (c : Fin N) : EReal := ∑ k, h k * W k c
/-- The part of a row's cotangent that comes through its normalisation. -/
def dnv (x dh g : Fin 1024 → EReal) (k : Fin 1024) : EReal :=
  rr x * (dh k * g k - xh x k * Ideal.div (∑ j, dh j * g j * xh x j) ((1024 : ℝ) : EReal))

/-- The call's arguments: the rows, the gain, the weights, the cotangents of the six parts and of the forget columns. -/
structure Args where
  X : Fin 8192 → Fin 1024 → EReal
  g : Fin 1024 → EReal
  W : Fin 1024 → Fin 3080 → EReal
  P : Fin 6 → Fin 8192 → Fin 512 → EReal
  A : Fin 8192 → Fin 8 → EReal

/-- Column `j` of part `b` among the 3072 columns that are not the forget gate's. -/
def cj (b : Fin 6) (j : Fin 512) : Fin 3072 := ⟨512 * b.val + j.val, by have := b.isLt; have := j.isLt; omega⟩
/-- Where a column of the 3072 lies among all 3080. -/
def wcol (c : Fin 3072) : Fin 3080 := if c.val < 1536 then ⟨c.val, by have := c.isLt; omega⟩ else ⟨c.val + 8, by have := c.isLt; omega⟩
/-- Where a forget column lies among all 3080. -/
def fcol (a : Fin 8) : Fin 3080 := ⟨1536 + a.val, by have := a.isLt; omega⟩

/-- The cotangent of the whole projection, column by column. -/
def ct (D : Args) (n : Fin 8192) (c : Fin 3080) : EReal :=
  if h : c.val < 1536 then D.P ⟨c.val / 512, by omega⟩ n ⟨c.val % 512, Nat.mod_lt _ (by norm_num)⟩
  else if h' : c.val < 1544 then D.A n ⟨c.val - 1536, by omega⟩
  else D.P ⟨(c.val - 8) / 512, by have := c.isLt; omega⟩ n ⟨(c.val - 8) % 512, Nat.mod_lt _ (by norm_num)⟩

theorem ct_wcol (D : Args) (n : Fin 8192) (b : Fin 6) (j : Fin 512) : ct D n (wcol (cj b j)) = D.P b n j := by
  have hb := b.isLt; have hj := j.isLt
  by_cases h : 512 * b.val + j.val < 1536
  · have e : wcol (cj b j) = ⟨512 * b.val + j.val, by omega⟩ := if_pos h
    rw [e]; unfold ct
    rw [dif_pos h]
    exact congrArg₂ (fun b j => D.P b n j) (Fin.ext (by dsimp only; omega)) (Fin.ext (by dsimp only; omega))
  · have e : wcol (cj b j) = ⟨512 * b.val + j.val + 8, by omega⟩ := if_neg h
    rw [e]; unfold ct
    rw [dif_neg (by dsimp only; omega), dif_neg (by dsimp only; omega)]
    exact congrArg₂ (fun b j => D.P b n j) (Fin.ext (by dsimp only; omega)) (Fin.ext (by dsimp only; omega))
theorem ct_fcol (D : Args) (n : Fin 8192) (a : Fin 8) : ct D n (fcol a) = D.A n a := by
  have ha := a.isLt
  unfold ct fcol
  rw [dif_neg (by dsimp only; omega), dif_pos (by dsimp only; omega)]
  exact congrArg (D.A n) (Fin.ext (by dsimp only; omega))

/-- The columns, the forget gate's apart and the others part by part. -/
theorem sum_cols (f : Fin 3080 → EReal) : ∑ c, f c = (∑ a, f (fcol a)) + ∑ b : Fin 6, ∑ j : Fin 512, f (wcol (cj b j)) := by
  have hl : ∑ b : Fin 6, ∑ j : Fin 512, f (wcol (cj b j)) = ∑ c : Fin 3072, f (wcol c) := by
    rw [← Fintype.sum_prod_type', ← Equiv.sum_comp (finProdFinEquiv (m := 6) (n := 512))]
    refine Finset.sum_congr rfl fun p _ => congrArg (fun c => f (wcol c)) (Fin.ext ?_)
    show 512 * p.1.val + p.2.val = p.2.val + 512 * p.1.val
    omega
  have h1 : ∑ c, f c = (∑ c : Fin 1536, f ⟨c.val, by omega⟩) + ((∑ a : Fin 8, f ⟨1536 + a.val, by omega⟩) + ∑ c : Fin 1536, f ⟨1544 + c.val, by omega⟩) := by
    rw [show (∑ c : Fin 3080, f c) = ∑ c : Fin (1536 + (8 + 1536)), f c from rfl, Fin.sum_univ_add, Fin.sum_univ_add]
    refine congrArg₂ _ rfl (congrArg₂ _ rfl (Finset.sum_congr rfl fun c _ => congrArg f (Fin.ext ?_)))
    show 1536 + (8 + c.val) = 1544 + c.val
    omega
  have h2 : ∑ c : Fin 3072, f (wcol c) = (∑ c : Fin 1536, f ⟨c.val, by omega⟩) + ∑ c : Fin 1536, f ⟨1544 + c.val, by omega⟩ := by
    rw [show (∑ c : Fin 3072, f (wcol c)) = ∑ c : Fin (1536 + 1536), f (wcol c) from rfl, Fin.sum_univ_add]
    refine congrArg₂ _ (Finset.sum_congr rfl fun c _ => congrArg f ?_) (Finset.sum_congr rfl fun c _ => congrArg f ?_)
    · have := c.isLt
      exact if_pos this
    · refine (if_neg ?_).trans (Fin.ext ?_)
      · show ¬1536 + c.val < 1536
        omega
      · show 1536 + c.val + 8 = 1544 + c.val
        omega
  rw [hl, h1, h2]
  unfold fcol
  exact add_left_comm _ _ _

def aH (D : Args) (n : Fin 8192) : Fin 1024 → EReal := hh (D.X n) D.g
/-- The weights of the 3072 columns, and the forget columns'. -/
def W1 (D : Args) (k : Fin 1024) (c : Fin 3072) : EReal := D.W k (wcol c)
def Wf (D : Args) (k : Fin 1024) (a : Fin 8) : EReal := D.W k (fcol a)
/-- The cotangent of the normalised row, as the kernel adds it up. -/
def aDh (D : Args) (n : Fin 8192) (k : Fin 1024) : EReal :=
  (∑ a, D.A n a * Wf D k a) + ∑ b : Fin 6, ∑ j, D.P b n j * W1 D k (cj b j)
theorem aDh_eq (D : Args) (n : Fin 8192) (k : Fin 1024) : ∑ c, ct D n c * D.W k c = aDh D n k := by
  rw [sum_cols]
  simp only [ct_wcol, ct_fcol]
  rfl
/-- The results: the projection, the forget columns, the rows' gradient less what was passed in, the gain's and the weights'. -/
def rP (D : Args) (n : Fin 8192) (c : Fin 3072) : EReal := prw (aH D n) (W1 D) c
def rF (D : Args) (a : Fin 8) (n : Fin 8192) : EReal := prw (aH D n) (Wf D) a
def rX (D : Args) (n : Fin 8192) (k : Fin 1024) : EReal := dnv (D.X n) (aDh D n) D.g k
def rG (D : Args) (k : Fin 1024) : EReal := ∑ n, aDh D n k * xh (D.X n) k
def rW (D : Args) (k : Fin 1024) (c : Fin 3080) : EReal := ∑ n, aH D n k * ct D n c

/-- The token at place `p` of block `t` of 512. -/
def tok5 (t : ℕ) (ht : t < 16) (p : Fin 512) : Fin 8192 := ⟨512 * t + p.val, by have := p.isLt; omega⟩
/-- A sum over all tokens, block by block of 512. -/
theorem sum_tok5 (f : Fin 8192 → EReal) : ∑ n, f n = ∑ t : Fin 16, ∑ p : Fin 512, f (tok5 t.val t.isLt p) := by
  rw [← Fintype.sum_prod_type', ← Equiv.sum_comp (finProdFinEquiv (m := 16) (n := 512))]
  refine Finset.sum_congr rfl fun p _ => ?_
  congr 1
  apply Fin.ext
  show p.2.val + 512 * p.1.val = 512 * p.1.val + p.2.val
  omega
/-- The token at place `p` of chunk `q` of 1024. -/
def chk (q : ℕ) (p : Fin 1024) : Fin 8192 := ⟨(1024 * q + p.val) % 8192, Nat.mod_lt _ (by norm_num)⟩
/-- A sum over all tokens, chunk by chunk of 1024. -/
theorem sum_chk (f : Fin 8192 → EReal) : ∑ n, f n = ∑ q ∈ Finset.range 8, ∑ p : Fin 1024, f (chk q p) := by
  rw [Finset.sum_range, ← Fintype.sum_prod_type', ← Equiv.sum_comp (finProdFinEquiv (m := 8) (n := 1024))]
  refine Finset.sum_congr rfl fun p _ => ?_
  congr 1
  apply Fin.ext
  show p.2.val + 1024 * p.1.val = (1024 * p.1.val + p.2.val) % 8192
  have := p.1.isLt; have := p.2.isLt
  omega

end Cert.Inp
-- ==== Proof.InpBody.lean ====
/- The input projection's kernel bodies read at an index. -/
module

public import proofs.«01_k».proof.Proof.InpMath
public import proofs.«01_k».proof.Proof.Gen.Kernel3Ideal.Frame
public import Idealize.ShloMosaic.Lib.Pointwise
public import Idealize.ShloMosaic.Lib.Tactic
public import Idealize.ShloMosaic.Lib.Pipeline.ReadBack

@[expose] public section

set_option maxRecDepth 16384

noncomputable section

namespace Cert.Kernel3Ideal.Inp

open Cert.Kernel3Ideal Cert.Kernel3Ideal.Gen Cert.Inp Idealize.ShloMosaic Idealize.ShloMosaic.TcCoe Idealize.SL.Sem
open Cert.Ffn (eps lit_1024 lit_eps)

theorem hz : (![0, 0] : Fin 2 → Nat) = fun _ => 0 := funext fun a => by fin_cases a <;> rfl

abbrev MX : Type := Vec Ideal S512x1024 .f32
abbrev MG : Type := Vec Ideal S1x1024 .f32
abbrev MS : Type := Vec Ideal S1024x512 .bf16
abbrev MP : Type := Vec Ideal S512x512 .bf16

/-! ## Blocks of 512 columns -/

section
variable {R N : ℕ} {e : EltTy}
theorem canon_col (o : ℕ) (inb) (w : (⟨2, ![R, 512]⟩ : Shape).Idx → Elt Ideal e) (L : List (View.Piece (Elt Ideal) (⟨2, ![R, N]⟩ : Shape) e))
    (k : Fin R) (c : Fin N) (j : Fin 512) (h : c.val = o + j.val) :
    View.canon ((⟨Rect.unit (s := (⟨2, ![R, N]⟩ : Shape)) ![0, o] ![R, 512] inb, w⟩ : View.Piece (Elt Ideal) _ e) :: L) (ix2 k c) = w (ix2 k j) := by
  have e : (ix2 k c : (⟨2, ![R, N]⟩ : Shape).Idx) = (Rect.unit (s := (⟨2, ![R, N]⟩ : Shape)) ![0, o] ![R, 512] inb).emb (ix2 k j) := by
    funext a; apply Fin.ext
    match a with
    | ⟨0, _⟩ => show k.val = 0 + 1 * k.val; omega
    | ⟨1, _⟩ => show c.val = o + 1 * j.val; omega
  rw [e]
  exact View.canon_cons_emb _ _ _ _
theorem canon_ncol (o : ℕ) (inb) (w : (⟨2, ![R, 512]⟩ : Shape).Idx → Elt Ideal e) (L : List (View.Piece (Elt Ideal) (⟨2, ![R, N]⟩ : Shape) e))
    (k : Fin R) (c : Fin N) (h : c.val < o ∨ o + 512 ≤ c.val) :
    View.canon ((⟨Rect.unit (s := (⟨2, ![R, N]⟩ : Shape)) ![0, o] ![R, 512] inb, w⟩ : View.Piece (Elt Ideal) _ e) :: L) (ix2 k c) = View.canon L (ix2 k c) := by
  refine View.canon_cons_of_not_mem _ _ fun hm => ?_
  have h1 := (Rect.mem_set_unit (inb := inb).mp hm) (1 : Fin 2)
  have h2 : o ≤ c.val ∧ c.val < o + 512 := h1
  omega
theorem ld_col (X : (⟨2, ![R, N]⟩ : Shape).Idx → Elt Ideal e) (o : ℕ) (inb) (k : Fin R) (j : Fin 512) (c : Fin N) (h : c.val = o + j.val) :
    View.ld X (Rect.unit (s := (⟨2, ![R, N]⟩ : Shape)) ![0, o] ![R, 512] inb) (ix2 k j) = X (ix2 k c) := by
  have e : (ix2 k c : (⟨2, ![R, N]⟩ : Shape).Idx) = (Rect.unit (s := (⟨2, ![R, N]⟩ : Shape)) ![0, o] ![R, 512] inb).emb (ix2 k j) := by
    funext a; apply Fin.ext
    match a with
    | ⟨0, _⟩ => show k.val = 0 + 1 * k.val; omega
    | ⟨1, _⟩ => show c.val = o + 1 * j.val; omega
  exact (congrArg X e).symm
end

/-! ## The projection's body -/

section
variable (v0 : MX) (v11 : MG) (x : Fin 512 → Fin 1024 → EReal) (g : Fin 1024 → EReal)
  (hx : ∀ p k, v0 (ix2 p k) = (x p k : EReal)) (hg : ∀ k, v11 (ix2 0 k) = (g k : EReal))
include hx hg
theorem pay6_0 (p : Fin 512) (k : Fin 1024) : k0_pay6 v0 v11 (ix2 p k) = (hh (x p) g k : EReal) := by
  pointwise [k0_pay6]
  simp only [hx, hg, lit_1024, lit_eps]
  rfl
theorem pay7_0 (p : Fin 512) (k : Fin 1024) : k0_pay7 v0 v11 (ix2 k p) = (hh (x p) g k : EReal) := by
  pointwise [k0_pay7]
  exact pay6_0 v0 v11 x g hx hg p k
variable (w : MS) (W : Fin 1024 → Fin 512 → EReal) (hw : ∀ k j, w (ix2 k j) = (W k j : EReal))
include hw
theorem pay8_0 (p j : Fin 512) : k0_pay8 v0 v11 w (ix2 p j) = (prw (hh (x p) g) W j : EReal) := by
  pointwise [k0_pay8]
  simp only [pay6_0 v0 v11 x g hx hg, hw]; rfl
theorem pay9_0 (p j : Fin 512) : k0_pay9 v0 v11 w (ix2 p j) = (prw (hh (x p) g) W j : EReal) := by
  pointwise [k0_pay9]
  simp only [pay6_0 v0 v11 x g hx hg, hw]; rfl
theorem pay1_0 (p j : Fin 512) : k0_pay1 (k0_pay10 v0 v11 w) (ix2 p j) = (prw (hh (x p) g) W j : EReal) := by
  pointwise [k0_pay1, k0_pay10]
  simp only [pay6_0 v0 v11 x g hx hg, hw]; rfl
theorem pay2_0 (p j : Fin 512) : k0_pay2 (k0_pay6 v0 v11) w (ix2 p j) = (prw (hh (x p) g) W j : EReal) := by
  pointwise [k0_pay2]
  simp only [pay6_0 v0 v11 x g hx hg, hw]; rfl
theorem pay3_0 (p j : Fin 512) : k0_pay3 (k0_pay6 v0 v11) w (ix2 p j) = (prw (hh (x p) g) W j : EReal) := by
  pointwise [k0_pay3]
  simp only [pay6_0 v0 v11 x g hx hg, hw]; rfl
theorem pay4_0 (p j : Fin 512) : k0_pay4 (k0_pay6 v0 v11) w (ix2 p j) = (prw (hh (x p) g) W j : EReal) := by
  pointwise [k0_pay4]
  simp only [pay6_0 v0 v11 x g hx hg, hw]; rfl
omit hw in
theorem pay5_0 (wf : Vec Ideal S8x1024 .bf16) (Wf : Fin 1024 → Fin 8 → EReal) (hwf : ∀ a k, wf (ix2 a k) = (Wf k a : EReal)) (a : Fin 8) (p : Fin 512) :
    k0_pay5 (k0_pay6 v0 v11) wf (ix2 a p) = (prw (hh (x p) g) Wf a : EReal) := by
  pointwise [k0_pay5]
  simp only [pay6_0 v0 v11 x g hx hg, hwf]
  exact Finset.sum_congr rfl fun k _ => mul_comm _ _
end

/-! ## The weights' gradient: one step of the six blocks, and of the forget columns -/

section
variable (v3 : Vec Ideal S1024x1024 .bf16) (z : Vec Ideal S1024x512 .f32) (w : MS) (H : Fin 1024 → Fin 1024 → EReal) (s W : Fin 1024 → Fin 512 → EReal)
  (hH : ∀ k p, v3 (ix2 k p) = (H k p : EReal)) (hs : ∀ k j, z (ix2 k j) = (s k j : EReal)) (hw : ∀ p j, w (ix2 p j) = (W p j : EReal))
  (k : Fin 1024) (j : Fin 512)
include hH hs hw
theorem pay6_1 : k1_pay6 v3 z w (ix2 k j) = ((s k j + ∑ p, H k p * W p j : EReal) : EReal) := by
  pointwise [k1_pay6, k1_pay5]
  simp only [hH, hs, hw]
theorem pay7_1 : k1_pay7 v3 z w (ix2 k j) = ((s k j + ∑ p, H k p * W p j : EReal) : EReal) := by
  pointwise [k1_pay7, k1_pay5]
  simp only [hH, hs, hw]
theorem pay8_1 : k1_pay8 v3 z w (ix2 k j) = ((s k j + ∑ p, H k p * W p j : EReal) : EReal) := by
  pointwise [k1_pay8, k1_pay5]
  simp only [hH, hs, hw]
theorem pay1_1 : k1_pay1 (k1_pay5 v3) (k1_pay9 z) w (ix2 k j) = ((s k j + ∑ p, H k p * W p j : EReal) : EReal) := by
  pointwise [k1_pay1, k1_pay5, k1_pay9]
  simp only [hH, hs, hw]
theorem pay2_1 : k1_pay2 (k1_pay5 v3) z w (ix2 k j) = ((s k j + ∑ p, H k p * W p j : EReal) : EReal) := by
  pointwise [k1_pay2, k1_pay5]
  simp only [hH, hs, hw]
theorem pay3_1 : k1_pay3 (k1_pay5 v3) z w (ix2 k j) = ((s k j + ∑ p, H k p * W p j : EReal) : EReal) := by
  pointwise [k1_pay3, k1_pay5]
  simp only [hH, hs, hw]
end
theorem pay4_1 (k : Fin 1024) (c : Fin 3072) : k1_pay4 (F := Ideal) (ix2 k c) = ((0 : EReal) : EReal) := by
  pointwise [k1_pay4]
theorem pay1_2 (a : Fin 8) (k : Fin 1024) : k2_pay1 (F := Ideal) (ix2 a k) = ((0 : EReal) : EReal) := by
  pointwise [k2_pay1]
theorem pay2_2 (z v5 : Vec Ideal S8x1024 .f32) (v7 : Vec Ideal S1024x1024 .bf16) (s A : Fin 8 → Fin 1024 → EReal) (H : Fin 1024 → Fin 1024 → EReal)
    (hs : ∀ a k, z (ix2 a k) = (s a k : EReal)) (hA : ∀ a p, v5 (ix2 a p) = (A a p : EReal)) (hH : ∀ p k, v7 (ix2 p k) = (H p k : EReal))
    (a : Fin 8) (k : Fin 1024) : k2_pay2 z v5 v7 (ix2 a k) = ((s a k + ∑ p, A a p * H p k : EReal) : EReal) := by
  pointwise [k2_pay2]
  simp only [hH, hs, hA]

/-! ## The backward body -/

section
variable (v3 : Vec Ideal S8x512 .f32) (v5 : Vec Ideal S8x1024 .bf16) (a0 a1 a2 a3 a4 a5 : MP) (w0 w1 w2 w3 w4 w5 : MS)
  (A : Fin 512 → Fin 8 → EReal) (P0 P1 P2 P3 P4 P5 : Fin 512 → Fin 512 → EReal) (Wf : Fin 1024 → Fin 8 → EReal) (W0 W1 W2 W3 W4 W5 : Fin 1024 → Fin 512 → EReal)
  (hA : ∀ a p, v3 (ix2 a p) = (A p a : EReal)) (hf : ∀ a k, v5 (ix2 a k) = (Wf k a : EReal))
  (h0 : ∀ p j, a0 (ix2 p j) = (P0 p j : EReal)) (h1 : ∀ p j, a1 (ix2 p j) = (P1 p j : EReal)) (h2 : ∀ p j, a2 (ix2 p j) = (P2 p j : EReal))
  (h3 : ∀ p j, a3 (ix2 p j) = (P3 p j : EReal)) (h4 : ∀ p j, a4 (ix2 p j) = (P4 p j : EReal)) (h5 : ∀ p j, a5 (ix2 p j) = (P5 p j : EReal))
  (g0 : ∀ k j, w0 (ix2 k j) = (W0 k j : EReal)) (g1 : ∀ k j, w1 (ix2 k j) = (W1 k j : EReal)) (g2 : ∀ k j, w2 (ix2 k j) = (W2 k j : EReal))
  (g3 : ∀ k j, w3 (ix2 k j) = (W3 k j : EReal)) (g4 : ∀ k j, w4 (ix2 k j) = (W4 k j : EReal)) (g5 : ∀ k j, w5 (ix2 k j) = (W5 k j : EReal))
  (p : Fin 512) (k : Fin 1024)
include hA hf h0 h1 h2 h3 g0 g1 g2 g3
theorem pay3_3 : k3_pay3 v3 v5 a0 w0 a1 w1 a2 w2 a3 w3 (ix2 p k) =
    (((∑ a, A p a * Wf k a) + (∑ j, P0 p j * W0 k j) + (∑ j, P1 p j * W1 k j) + (∑ j, P2 p j * W2 k j) + (∑ j, P3 p j * W3 k j) : EReal) : EReal) := by
  pointwise [k3_pay3]
  simp only [hA, hf, h0, h1, h2, h3, g0, g1, g2, g3]
include h4 h5 g4 g5
theorem pay4_3 : k3_pay4 (k3_pay3 v3 v5 a0 w0 a1 w1 a2 w2 a3 w3) a4 w4 a5 w5 (ix2 p k) =
    (((∑ a, A p a * Wf k a) + (∑ j, P0 p j * W0 k j) + (∑ j, P1 p j * W1 k j) + (∑ j, P2 p j * W2 k j) + (∑ j, P3 p j * W3 k j)
      + (∑ j, P4 p j * W4 k j) + (∑ j, P5 p j * W5 k j) : EReal) : EReal) := by
  pointwise [k3_pay4]
  simp only [pay3_3 v3 v5 a0 a1 a2 a3 w0 w1 w2 w3 A P0 P1 P2 P3 Wf W0 W1 W2 W3 hA hf h0 h1 h2 h3 g0 g1 g2 g3, h4, h5, g4, g5]
end

section
variable (v38 : MX) (v49 : MG) (v52 : MX) (x : Fin 512 → Fin 1024 → EReal) (g : Fin 1024 → EReal) (dh : Fin 512 → Fin 1024 → EReal) (v27 : FVec Ideal S512x1024 .f32) (a4 a5 : MP) (w4 w5 : MS)
  (hx : ∀ p k, v38 (ix2 p k) = (x p k : EReal)) (hg : ∀ k, v49 (ix2 0 k) = (g k : EReal))
  (hd : ∀ p k, k3_pay4 v27 a4 w4 a5 w5 (ix2 p k) = (dh p k : EReal))
include hx
theorem pay5_3 (p : Fin 512) (z : Fin 1) : k3_pay5 v38 (ix2 p z) = (rr (x p) : EReal) := by
  pointwise [k3_pay5]
  simp only [hx, lit_1024, lit_eps]
  rfl
theorem pay6_3 (p : Fin 512) (k : Fin 1024) : k3_pay6 v38 (ix2 p k) = (xh (x p) k : EReal) := by
  pointwise [k3_pay6]
  rw [pay5_3 v38 x hx, hx]; rfl
include hg hd
theorem pay7_3 (p : Fin 512) (k : Fin 1024) :
    k3_pay7 v27 a4 w4 a5 w5 v38 v49 v52 (ix2 p k) = v52 (ix2 p k) + (dnv (x p) (dh p) g k : EReal) := by
  pointwise [k3_pay7]
  simp only [pay5_3 v38 x hx, pay6_3 v38 x hx, hd, hg, lit_1024]
  rfl
omit hg in
theorem pay1_3 (z : MG) (s : Fin 1024 → EReal) (hs : ∀ k, z (ix2 0 k) = (s k : EReal)) (k : Fin 1024) :
    k3_pay1 (k3_pay4 v27 a4 w4 a5 w5) (k3_pay6 v38) z (ix2 0 k) = ((s k + ∑ p, dh p k * xh (x p) k : EReal) : EReal) := by
  pointwise [k3_pay1]
  simp only [pay6_3 v38 x hx, hd, hs]
end
theorem pay2_3 (a : Fin 8) (k : Fin 1024) : k3_pay2 (F := Ideal) (ix2 a k) = ((0 : EReal) : EReal) := by
  pointwise [k3_pay2]

end Cert.Kernel3Ideal.Inp
-- ==== Proof.InpFwd.lean ====
/- The projection call over its grid: the whole arrays it leaves, in closed form. -/
module

public import proofs.«01_k».proof.Proof.InpBody

@[expose] public section

set_option maxRecDepth 16384

noncomputable section

namespace Cert.Kernel3Ideal.Inp

open Cert.Kernel3Ideal Cert.Kernel3Ideal.Gen Cert.Inp Idealize.ShloMosaic Idealize.ShloMosaic.TcCoe Idealize.SL.Sem

variable (V : (c : Dev nD) → (b : Ref sig .tc) → Buf (Elt Idealize.ShloMosaic.Ideal) ((c : Thread nD τ).loc b)) (c : Dev nD)

theorem N0 (t : Fin cfg0.N) : t.val < 16 := lt_of_lt_of_eq t.isLt N_0

/-! ## The blocks the call reads -/

theorem idx0_0 : ∀ t : Fin grid0.N, win0_0.index t 0 = t.val ∧ win0_0.index t 1 = 0 := by decide +kernel
theorem in0_0 (t : Fin cfg0.N) (p : Fin 512) (k : Fin 1024) :
    (iblk0 V c 0 t : Vec Ideal S512x1024 .f32) (ix2 p k) = (V c main_arg0 : Vec Ideal S8192x1024 .f32) (ix2 (tok5 t.val (N0 t) p) k) := by
  have hi := idx0_0 t
  unfold iblk0
  rw [View.read_apply]
  show V c main_arg0 _ = V c main_arg0 _
  congr 1
  funext a
  apply Fin.ext
  match a with
  | ⟨0, _⟩ => show win0_0.index t 0 * 512 + 1 * p.val = 512 * t.val + p.val; rw [hi.1]; omega
  | ⟨1, _⟩ => show win0_0.index t 1 * 1024 + 1 * k.val = k.val; rw [hi.2]; omega
theorem idx0_1 : ∀ t : Fin grid0.N, win0_1.index t 0 = 0 ∧ win0_1.index t 1 = 0 := by decide +kernel
theorem in0_1 (t : Fin cfg0.N) (p : Fin 1) (k : Fin 1024) :
    (iblk0 V c 1 t : Vec Ideal S1x1024 .f32) (ix2 p k) = (V c main_arg1 : Vec Ideal S1x1024 .f32) (ix2 p k) := by
  have hi := idx0_1 t
  unfold iblk0
  rw [View.read_apply]
  show V c main_arg1 _ = V c main_arg1 _
  congr 1
  funext a
  apply Fin.ext
  match a with
  | ⟨0, _⟩ => show win0_1.index t 0 * 1 + 1 * p.val = p.val; rw [hi.1]; omega
  | ⟨1, _⟩ => show win0_1.index t 1 * 1024 + 1 * k.val = k.val; rw [hi.2]; omega
theorem idx0_2 : ∀ t : Fin grid0.N, win0_2.index t 0 = 0 ∧ win0_2.index t 1 = 0 := by decide +kernel
theorem in0_2 (t : Fin cfg0.N) (p : Fin 1024) (k : Fin 3072) :
    (iblk0 V c 2 t : Vec Ideal S1024x3072 .bf16) (ix2 p k) = (V c main_v3 : Vec Ideal S1024x3072 .bf16) (ix2 p k) := by
  have hi := idx0_2 t
  unfold iblk0
  rw [View.read_apply]
  show V c main_v3 _ = V c main_v3 _
  congr 1
  funext a
  apply Fin.ext
  match a with
  | ⟨0, _⟩ => show win0_2.index t 0 * 1024 + 1 * p.val = p.val; rw [hi.1]; omega
  | ⟨1, _⟩ => show win0_2.index t 1 * 3072 + 1 * k.val = k.val; rw [hi.2]; omega
theorem idx0_3 : ∀ t : Fin grid0.N, win0_3.index t 0 = 0 ∧ win0_3.index t 1 = 0 := by decide +kernel
theorem in0_3 (t : Fin cfg0.N) (p : Fin 8) (k : Fin 1024) :
    (iblk0 V c 3 t : Vec Ideal S8x1024 .bf16) (ix2 p k) = (V c main_v5 : Vec Ideal S8x1024 .bf16) (ix2 p k) := by
  have hi := idx0_3 t
  unfold iblk0
  rw [View.read_apply]
  show V c main_v5 _ = V c main_v5 _
  congr 1
  funext a
  apply Fin.ext
  match a with
  | ⟨0, _⟩ => show win0_3.index t 0 * 8 + 1 * p.val = p.val; rw [hi.1]; omega
  | ⟨1, _⟩ => show win0_3.index t 1 * 1024 + 1 * k.val = k.val; rw [hi.2]; omega

/-! ## What it leaves -/

section
variable (D : Args)
  (hX : ∀ n k, (V c main_arg0 : Vec Ideal S8192x1024 .f32) (ix2 n k) = (D.X n k : EReal))
  (hg : ∀ k, (V c main_arg1 : Vec Ideal S1x1024 .f32) (ix2 0 k) = (D.g k : EReal))
  (hW : ∀ k j, (V c main_v3 : Vec Ideal S1024x3072 .bf16) (ix2 k j) = (W1 D k j : EReal))
  (hF : ∀ a k, (V c main_v5 : Vec Ideal S8x1024 .bf16) (ix2 a k) = (Wf D k a : EReal))
include hX hg hW hF

theorem out4 (t : Fin cfg0.N) (p : Fin 512) (b : Fin 6) (j : Fin 512) :
    out0_4 (iblk0 V c 0 t) (iblk0 V c 1 t) (iblk0 V c 2 t) (iblk0 V c 3 t) (ix2 p (cj b j)) = (rP D (tok5 t.val (N0 t) p) (cj b j) : EReal) := by
  have hj := j.isLt
  unfold out0_4 k0_pay11
  simp only [View.ld_unit_zero (S := S512x1024) hz, View.ld_unit_zero (S := S1x1024) hz]
  match b with
  | ⟨0, hb⟩ =>
    refine (canon_ncol (R := 512) (N := 3072) 2560 _ _ _ p _ (by left; show 512 * 0 + j.val < 2560; omega)).trans ?_
    refine (canon_ncol (R := 512) (N := 3072) 2048 _ _ _ p _ (by left; show 512 * 0 + j.val < 2048; omega)).trans ?_
    refine (canon_ncol (R := 512) (N := 3072) 1536 _ _ _ p _ (by left; show 512 * 0 + j.val < 1536; omega)).trans ?_
    refine (canon_ncol (R := 512) (N := 3072) 1024 _ _ _ p _ (by left; show 512 * 0 + j.val < 1024; omega)).trans ?_
    refine (canon_ncol (R := 512) (N := 3072) 512 _ _ _ p _ (by left; show 512 * 0 + j.val < 512; omega)).trans ?_
    refine (canon_col (R := 512) (N := 3072) 0 _ _ _ p _ j (by show 512 * 0 + j.val = 0 + j.val; omega)).trans ?_
    exact pay8_0 _ _ (fun p => D.X (tok5 t.val (N0 t) p)) D.g (fun p k => (in0_0 V c t p k).trans (hX _ _)) (fun k => (in0_1 V c t 0 k).trans (hg _)) _ (fun k j => W1 D k (cj ⟨0, hb⟩ j)) (fun k j => (ld_col (R := 1024) (N := 3072) _ 0 _ k j (cj ⟨0, hb⟩ j) (by show 512 * 0 + j.val = 0 + j.val; omega)).trans ((in0_2 V c t k _).trans (hW _ _))) p j
  | ⟨1, hb⟩ =>
    refine (canon_ncol (R := 512) (N := 3072) 2560 _ _ _ p _ (by left; show 512 * 1 + j.val < 2560; omega)).trans ?_
    refine (canon_ncol (R := 512) (N := 3072) 2048 _ _ _ p _ (by left; show 512 * 1 + j.val < 2048; omega)).trans ?_
    refine (canon_ncol (R := 512) (N := 3072) 1536 _ _ _ p _ (by left; show 512 * 1 + j.val < 1536; omega)).trans ?_
    refine (canon_ncol (R := 512) (N := 3072) 1024 _ _ _ p _ (by left; show 512 * 1 + j.val < 1024; omega)).trans ?_
    refine (canon_col (R := 512) (N := 3072) 512 _ _ _ p _ j (by show 512 * 1 + j.val = 512 + j.val; omega)).trans ?_
    exact pay9_0 _ _ (fun p => D.X (tok5 t.val (N0 t) p)) D.g (fun p k => (in0_0 V c t p k).trans (hX _ _)) (fun k => (in0_1 V c t 0 k).trans (hg _)) _ (fun k j => W1 D k (cj ⟨1, hb⟩ j)) (fun k j => (ld_col (R := 1024) (N := 3072) _ 512 _ k j (cj ⟨1, hb⟩ j) (by show 512 * 1 + j.val = 512 + j.val; omega)).trans ((in0_2 V c t k _).trans (hW _ _))) p j
  | ⟨2, hb⟩ =>
    refine (canon_ncol (R := 512) (N := 3072) 2560 _ _ _ p _ (by left; show 512 * 2 + j.val < 2560; omega)).trans ?_
    refine (canon_ncol (R := 512) (N := 3072) 2048 _ _ _ p _ (by left; show 512 * 2 + j.val < 2048; omega)).trans ?_
    refine (canon_ncol (R := 512) (N := 3072) 1536 _ _ _ p _ (by left; show 512 * 2 + j.val < 1536; omega)).trans ?_
    refine (canon_col (R := 512) (N := 3072) 1024 _ _ _ p _ j (by show 512 * 2 + j.val = 1024 + j.val; omega)).trans ?_
    exact pay1_0 _ _ (fun p => D.X (tok5 t.val (N0 t) p)) D.g (fun p k => (in0_0 V c t p k).trans (hX _ _)) (fun k => (in0_1 V c t 0 k).trans (hg _)) _ (fun k j => W1 D k (cj ⟨2, hb⟩ j)) (fun k j => (ld_col (R := 1024) (N := 3072) _ 1024 _ k j (cj ⟨2, hb⟩ j) (by show 512 * 2 + j.val = 1024 + j.val; omega)).trans ((in0_2 V c t k _).trans (hW _ _))) p j
  | ⟨3, hb⟩ =>
    refine (canon_ncol (R := 512) (N := 3072) 2560 _ _ _ p _ (by left; show 512 * 3 + j.val < 2560; omega)).trans ?_
    refine (canon_ncol (R := 512) (N := 3072) 2048 _ _ _ p _ (by left; show 512 * 3 + j.val < 2048; omega)).trans ?_
    refine (canon_col (R := 512) (N := 3072) 1536 _ _ _ p _ j (by show 512 * 3 + j.val = 1536 + j.val; omega)).trans ?_
    exact pay2_0 _ _ (fun p => D.X (tok5 t.val (N0 t) p)) D.g (fun p k => (in0_0 V c t p k).trans (hX _ _)) (fun k => (in0_1 V c t 0 k).trans (hg _)) _ (fun k j => W1 D k (cj ⟨3, hb⟩ j)) (fun k j => (ld_col (R := 1024) (N := 3072) _ 1536 _ k j (cj ⟨3, hb⟩ j) (by show 512 * 3 + j.val = 1536 + j.val; omega)).trans ((in0_2 V c t k _).trans (hW _ _))) p j
  | ⟨4, hb⟩ =>
    refine (canon_ncol (R := 512) (N := 3072) 2560 _ _ _ p _ (by left; show 512 * 4 + j.val < 2560; omega)).trans ?_
    refine (canon_col (R := 512) (N := 3072) 2048 _ _ _ p _ j (by show 512 * 4 + j.val = 2048 + j.val; omega)).trans ?_
    exact pay3_0 _ _ (fun p => D.X (tok5 t.val (N0 t) p)) D.g (fun p k => (in0_0 V c t p k).trans (hX _ _)) (fun k => (in0_1 V c t 0 k).trans (hg _)) _ (fun k j => W1 D k (cj ⟨4, hb⟩ j)) (fun k j => (ld_col (R := 1024) (N := 3072) _ 2048 _ k j (cj ⟨4, hb⟩ j) (by show 512 * 4 + j.val = 2048 + j.val; omega)).trans ((in0_2 V c t k _).trans (hW _ _))) p j
  | ⟨5, hb⟩ =>
    refine (canon_col (R := 512) (N := 3072) 2560 _ _ _ p _ j (by show 512 * 5 + j.val = 2560 + j.val; omega)).trans ?_
    exact pay4_0 _ _ (fun p => D.X (tok5 t.val (N0 t) p)) D.g (fun p k => (in0_0 V c t p k).trans (hX _ _)) (fun k => (in0_1 V c t 0 k).trans (hg _)) _ (fun k j => W1 D k (cj ⟨5, hb⟩ j)) (fun k j => (ld_col (R := 1024) (N := 3072) _ 2560 _ k j (cj ⟨5, hb⟩ j) (by show 512 * 5 + j.val = 2560 + j.val; omega)).trans ((in0_2 V c t k _).trans (hW _ _))) p j
theorem out4' (t : Fin cfg0.N) (p : Fin 512) (k : Fin 3072) :
    out0_4 (iblk0 V c 0 t) (iblk0 V c 1 t) (iblk0 V c 2 t) (iblk0 V c 3 t) (ix2 p k) = (rP D (tok5 t.val (N0 t) p) k : EReal) := by
  have e : k = cj ⟨k.val / 512, by have := k.isLt; omega⟩ ⟨k.val % 512, Nat.mod_lt _ (by norm_num)⟩ := Fin.ext (by show k.val = 512 * (k.val / 512) + k.val % 512; omega)
  rw [e]
  exact out4 V c D hX hg hW hF t p _ _
theorem out5 (t : Fin cfg0.N) (p : Fin 8) (k : Fin 512) :
    out0_5 (iblk0 V c 0 t) (iblk0 V c 1 t) (iblk0 V c 2 t) (iblk0 V c 3 t) (ix2 p k) = (rF D p (tok5 t.val (N0 t) k) : EReal) := by
  unfold out0_5 k0_pay11
  rw [View.canon_unit_zero (S := S8x512) hz]
  simp only [View.ld_unit_zero (S := S512x1024) hz, View.ld_unit_zero (S := S1x1024) hz, View.ld_unit_zero (S := S8x1024) hz]
  exact pay5_0 _ _ (fun p => D.X (tok5 t.val (N0 t) p)) D.g (fun p k => (in0_0 V c t p k).trans (hX _ _)) (fun k => (in0_1 V c t 0 k).trans (hg _)) _ (Wf D) (fun a k => (in0_3 V c t a k).trans (hF _ _)) p k
theorem out6 (t : Fin cfg0.N) (p : Fin 512) (k : Fin 1024) :
    out0_6 (iblk0 V c 0 t) (iblk0 V c 1 t) (iblk0 V c 2 t) (iblk0 V c 3 t) (ix2 p k) = (aH D (tok5 t.val (N0 t) p) k : EReal) := by
  unfold out0_6
  rw [View.canon_unit_zero (S := S512x1024) hz]
  simp only [View.ld_unit_zero (S := S512x1024) hz, View.ld_unit_zero (S := S1x1024) hz]
  exact pay6_0 _ _ (fun p => D.X (tok5 t.val (N0 t) p)) D.g (fun p k => (in0_0 V c t p k).trans (hX _ _)) (fun k => (in0_1 V c t 0 k).trans (hg _)) p k
theorem out7 (t : Fin cfg0.N) (p : Fin 1024) (k : Fin 512) :
    out0_7 (iblk0 V c 0 t) (iblk0 V c 1 t) (iblk0 V c 2 t) (iblk0 V c 3 t) (ix2 p k) = (aH D (tok5 t.val (N0 t) k) p : EReal) := by
  unfold out0_7
  rw [View.canon_unit_zero (S := S1024x512) hz]
  simp only [View.ld_unit_zero (S := S512x1024) hz, View.ld_unit_zero (S := S1x1024) hz]
  exact pay7_0 _ _ (fun p => D.X (tok5 t.val (N0 t) p)) D.g (fun p k => (in0_0 V c t p k).trans (hX _ _)) (fun k => (in0_1 V c t 0 k).trans (hg _)) k p

omit hX hg hW hF in
theorem idx0_4 : ∀ t : Fin grid0.N, win0_4.index t 0 = t.val ∧ win0_4.index t 1 = 0 := by decide +kernel
theorem fin0_4 : (dat0 V c).arrAt 4 cfg0.N = (fun i : S8192x3072.Idx => ((rP D (i 0) (i 1) : EReal) : EReal)) :=
  (dat0 V c).arrAt_eq_of_cover 4 (fun i : S8192x3072.Idx => ((rP D (i 0) (i 1) : EReal) : EReal)) (fun t hf => by
    show (cfg0.win 4).cut (grid0.coords t) ((dat0 V c).after 4 t) = _
    rw [after0_4]
    funext j
    obtain ⟨p, k, rfl⟩ : ∃ (p : Fin 512) (k : Fin 3072), j = ix2 p k := ⟨j 0, j 1, (ix2_eta j).symm⟩
    have hi := idx0_4 t
    rw [View.read_apply]
    refine (out4' V c D hX hg hW hF t p k).trans ?_
    have e : (((cfg0.win 4).blk t).view.emb (ix2 p k) : S8192x3072.Idx) = ix2 (tok5 t.val (N0 t) p) k := by
      funext a
      apply Fin.ext
      match a with
      | ⟨0, _⟩ => show win0_4.index t 0 * 512 + 1 * p.val = 512 * t.val + p.val; rw [hi.1]; omega
      | ⟨1, _⟩ => show win0_4.index t 1 * 3072 + 1 * k.val = k.val; rw [hi.2]; omega
    exact (congrArg (fun i : S8192x3072.Idx => ((rP D (i 0) (i 1) : EReal) : EReal)) e).symm) fun i => by
    have h0 : (i 0 : Nat) < 8192 := (i 0).isLt
    have h1 : (i 1 : Nat) < 3072 := (i 1).isLt
    have ht : (i 0 : Nat) / 512 < cfg0.N := by rw [show cfg0.N = 16 from N_0]; omega
    have hi := idx0_4 ⟨(i 0 : Nat) / 512, ht⟩
    refine ⟨⟨(i 0 : Nat) / 512, ht⟩, flush0_4 _, ?_⟩
    show i ∈ ((View.whole main_v6_0).slice (win0_4.rect ⟨(i 0 : Nat) / 512, ht⟩)).set
    rw [View.set_slice_whole, Rect.mem_set_unit]
    intro a
    match a with
    | ⟨0, _⟩ => show win0_4.index ⟨(i 0 : Nat) / 512, ht⟩ 0 * 512 ≤ (i 0 : Nat) ∧ (i 0 : Nat) < win0_4.index ⟨(i 0 : Nat) / 512, ht⟩ 0 * 512 + 512
                rw [hi.1]; dsimp only; omega
    | ⟨1, _⟩ => show win0_4.index ⟨(i 0 : Nat) / 512, ht⟩ 1 * 3072 ≤ (i 1 : Nat) ∧ (i 1 : Nat) < win0_4.index ⟨(i 0 : Nat) / 512, ht⟩ 1 * 3072 + 3072
                rw [hi.2]; omega
omit hX hg hW hF in
theorem idx0_5 : ∀ t : Fin grid0.N, win0_5.index t 0 = 0 ∧ win0_5.index t 1 = t.val := by decide +kernel
theorem fin0_5 : (dat0 V c).arrAt 5 cfg0.N = (fun i : S8x8192.Idx => ((rF D (i 0) (i 1) : EReal) : EReal)) :=
  (dat0 V c).arrAt_eq_of_cover 5 (fun i : S8x8192.Idx => ((rF D (i 0) (i 1) : EReal) : EReal)) (fun t hf => by
    show (cfg0.win 5).cut (grid0.coords t) ((dat0 V c).after 5 t) = _
    rw [after0_5]
    funext j
    obtain ⟨p, k, rfl⟩ : ∃ (p : Fin 8) (k : Fin 512), j = ix2 p k := ⟨j 0, j 1, (ix2_eta j).symm⟩
    have hi := idx0_5 t
    rw [View.read_apply]
    refine (out5 V c D hX hg hW hF t p k).trans ?_
    have e : (((cfg0.win 5).blk t).view.emb (ix2 p k) : S8x8192.Idx) = ix2 p (tok5 t.val (N0 t) k) := by
      funext a
      apply Fin.ext
      match a with
      | ⟨0, _⟩ => show win0_5.index t 0 * 8 + 1 * p.val = p.val; rw [hi.1]; omega
      | ⟨1, _⟩ => show win0_5.index t 1 * 512 + 1 * k.val = 512 * t.val + k.val; rw [hi.2]; omega
    exact (congrArg (fun i : S8x8192.Idx => ((rF D (i 0) (i 1) : EReal) : EReal)) e).symm) fun i => by
    have h0 : (i 0 : Nat) < 8 := (i 0).isLt
    have h1 : (i 1 : Nat) < 8192 := (i 1).isLt
    have ht : (i 1 : Nat) / 512 < cfg0.N := by rw [show cfg0.N = 16 from N_0]; omega
    have hi := idx0_5 ⟨(i 1 : Nat) / 512, ht⟩
    refine ⟨⟨(i 1 : Nat) / 512, ht⟩, flush0_5 _, ?_⟩
    show i ∈ ((View.whole main_v6_1).slice (win0_5.rect ⟨(i 1 : Nat) / 512, ht⟩)).set
    rw [View.set_slice_whole, Rect.mem_set_unit]
    intro a
    match a with
    | ⟨0, _⟩ => show win0_5.index ⟨(i 1 : Nat) / 512, ht⟩ 0 * 8 ≤ (i 0 : Nat) ∧ (i 0 : Nat) < win0_5.index ⟨(i 1 : Nat) / 512, ht⟩ 0 * 8 + 8
                rw [hi.1]; omega
    | ⟨1, _⟩ => show win0_5.index ⟨(i 1 : Nat) / 512, ht⟩ 1 * 512 ≤ (i 1 : Nat) ∧ (i 1 : Nat) < win0_5.index ⟨(i 1 : Nat) / 512, ht⟩ 1 * 512 + 512
                rw [hi.2]; dsimp only; omega
omit hX hg hW hF in
theorem idx0_6 : ∀ t : Fin grid0.N, win0_6.index t 0 = t.val ∧ win0_6.index t 1 = 0 := by decide +kernel
theorem fin0_6 : (dat0 V c).arrAt 6 cfg0.N = (fun i : S8192x1024.Idx => ((aH D (i 0) (i 1) : EReal) : EReal)) :=
  (dat0 V c).arrAt_eq_of_cover 6 (fun i : S8192x1024.Idx => ((aH D (i 0) (i 1) : EReal) : EReal)) (fun t hf => by
    show (cfg0.win 6).cut (grid0.coords t) ((dat0 V c).after 6 t) = _
    rw [after0_6]
    funext j
    obtain ⟨p, k, rfl⟩ : ∃ (p : Fin 512) (k : Fin 1024), j = ix2 p k := ⟨j 0, j 1, (ix2_eta j).symm⟩
    have hi := idx0_6 t
    rw [View.read_apply]
    refine (out6 V c D hX hg hW hF t p k).trans ?_
    have e : (((cfg0.win 6).blk t).view.emb (ix2 p k) : S8192x1024.Idx) = ix2 (tok5 t.val (N0 t) p) k := by
      funext a
      apply Fin.ext
      match a with
      | ⟨0, _⟩ => show win0_6.index t 0 * 512 + 1 * p.val = 512 * t.val + p.val; rw [hi.1]; omega
      | ⟨1, _⟩ => show win0_6.index t 1 * 1024 + 1 * k.val = k.val; rw [hi.2]; omega
    exact (congrArg (fun i : S8192x1024.Idx => ((aH D (i 0) (i 1) : EReal) : EReal)) e).symm) fun i => by
    have h0 : (i 0 : Nat) < 8192 := (i 0).isLt
    have h1 : (i 1 : Nat) < 1024 := (i 1).isLt
    have ht : (i 0 : Nat) / 512 < cfg0.N := by rw [show cfg0.N = 16 from N_0]; omega
    have hi := idx0_6 ⟨(i 0 : Nat) / 512, ht⟩
    refine ⟨⟨(i 0 : Nat) / 512, ht⟩, flush0_6 _, ?_⟩
    show i ∈ ((View.whole main_v6_2).slice (win0_6.rect ⟨(i 0 : Nat) / 512, ht⟩)).set
    rw [View.set_slice_whole, Rect.mem_set_unit]
    intro a
    match a with
    | ⟨0, _⟩ => show win0_6.index ⟨(i 0 : Nat) / 512, ht⟩ 0 * 512 ≤ (i 0 : Nat) ∧ (i 0 : Nat) < win0_6.index ⟨(i 0 : Nat) / 512, ht⟩ 0 * 512 + 512
                rw [hi.1]; dsimp only; omega
    | ⟨1, _⟩ => show win0_6.index ⟨(i 0 : Nat) / 512, ht⟩ 1 * 1024 ≤ (i 1 : Nat) ∧ (i 1 : Nat) < win0_6.index ⟨(i 0 : Nat) / 512, ht⟩ 1 * 1024 + 1024
                rw [hi.2]; omega
omit hX hg hW hF in
theorem idx0_7 : ∀ t : Fin grid0.N, win0_7.index t 0 = 0 ∧ win0_7.index t 1 = t.val := by decide +kernel
theorem fin0_7 : (dat0 V c).arrAt 7 cfg0.N = (fun i : S1024x8192.Idx => ((aH D (i 1) (i 0) : EReal) : EReal)) :=
  (dat0 V c).arrAt_eq_of_cover 7 (fun i : S1024x8192.Idx => ((aH D (i 1) (i 0) : EReal) : EReal)) (fun t hf => by
    show (cfg0.win 7).cut (grid0.coords t) ((dat0 V c).after 7 t) = _
    rw [after0_7]
    funext j
    obtain ⟨p, k, rfl⟩ : ∃ (p : Fin 1024) (k : Fin 512), j = ix2 p k := ⟨j 0, j 1, (ix2_eta j).symm⟩
    have hi := idx0_7 t
    rw [View.read_apply]
    refine (out7 V c D hX hg hW hF t p k).trans ?_
    have e : (((cfg0.win 7).blk t).view.emb (ix2 p k) : S1024x8192.Idx) = ix2 p (tok5 t.val (N0 t) k) := by
      funext a
      apply Fin.ext
      match a with
      | ⟨0, _⟩ => show win0_7.index t 0 * 1024 + 1 * p.val = p.val; rw [hi.1]; omega
      | ⟨1, _⟩ => show win0_7.index t 1 * 512 + 1 * k.val = 512 * t.val + k.val; rw [hi.2]; omega
    exact (congrArg (fun i : S1024x8192.Idx => ((aH D (i 1) (i 0) : EReal) : EReal)) e).symm) fun i => by
    have h0 : (i 0 : Nat) < 1024 := (i 0).isLt
    have h1 : (i 1 : Nat) < 8192 := (i 1).isLt
    have ht : (i 1 : Nat) / 512 < cfg0.N := by rw [show cfg0.N = 16 from N_0]; omega
    have hi := idx0_7 ⟨(i 1 : Nat) / 512, ht⟩
    refine ⟨⟨(i 1 : Nat) / 512, ht⟩, flush0_7 _, ?_⟩
    show i ∈ ((View.whole main_v6_3).slice (win0_7.rect ⟨(i 1 : Nat) / 512, ht⟩)).set
    rw [View.set_slice_whole, Rect.mem_set_unit]
    intro a
    match a with
    | ⟨0, _⟩ => show win0_7.index ⟨(i 1 : Nat) / 512, ht⟩ 0 * 1024 ≤ (i 0 : Nat) ∧ (i 0 : Nat) < win0_7.index ⟨(i 1 : Nat) / 512, ht⟩ 0 * 1024 + 1024
                rw [hi.1]; omega
    | ⟨1, _⟩ => show win0_7.index ⟨(i 1 : Nat) / 512, ht⟩ 1 * 512 ≤ (i 1 : Nat) ∧ (i 1 : Nat) < win0_7.index ⟨(i 1 : Nat) / 512, ht⟩ 1 * 512 + 512
                rw [hi.2]; dsimp only; omega
end

end Cert.Kernel3Ideal.Inp
-- ==== Proof.InpBwd.lean ====
/- The input projection's backward call over its grid: the arrays it leaves, in closed form. -/
module

public import proofs.«01_k».proof.Proof.InpBody
public import Idealize.ShloMosaic.Lib.Pipeline.ReadBack

@[expose] public section

set_option maxRecDepth 16384

noncomputable section

namespace Cert.Kernel3Ideal.Inp

open Cert.Kernel3Ideal Cert.Kernel3Ideal.Gen Cert.Inp Idealize.ShloMosaic Idealize.ShloMosaic.TcCoe Idealize.SL.Sem

variable (V : (c : Dev nD) → (b : Ref sig .tc) → Buf (Elt Idealize.ShloMosaic.Ideal) ((c : Thread nD τ).loc b)) (c : Dev nD)

/-- A whole block read where the first row of it is. -/
theorem fillRow (v : View sig .tc .vmem S8x1024 .f32) (Z : Vec Ideal S8x1024 .f32) :
    v.readCov (Val := Elt Ideal) [⟨Rect.unit ![0, 0] ![8, 1024] inb_S8x1024_S8x1024_0_0, Z⟩] (Rect.unit ![0, 0] ![1, 1024] inb_S8x1024_S1x1024_0_0).toLoadRect =
      View.ld Z (Rect.unit (s := S8x1024) ![0, 0] ![1, 1024] inb_S8x1024_S1x1024_0_0) := by
  rw [View.readCov_eq_canon']
  exact congrArg (fun z => View.ld z _) (View.canon_unit_zero (S := S8x1024) hz inb_S8x1024_S8x1024_0_0 Z)
/-- The first row of the accumulator. -/
abbrev row0 : Rect S8x1024 := Rect.unit (s := S8x1024) ![0, 0] S1x1024.size inb_S8x1024_S1x1024_0_0

section
variable (i : grid3.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x512 .f32) (harg7 : arg7.IsWhole) (arg8 : Memref sig .tc .vmem S1024x3072 .bf16) (harg8 : arg8.IsWhole) (arg9 : Memref sig .tc .vmem S8x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S8x1024 .f32) (harg14 : arg14.IsWhole)
  (x0 : Vec Ideal S512x512 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S8x512 .f32) (x7 : Vec Ideal S1024x3072 .bf16) (x8 : Vec Ideal S8x1024 .bf16) (x9 : Vec Ideal S512x1024 .f32) (x10 : Vec Ideal S1x1024 .f32) (x11 : Vec Ideal S512x1024 .f32)

theorem out12_A (hc0 : cond3_0 i) : out3_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 =
    k3_pay7 (k3_pay3 x6 x8 x0 (View.ld x7 (Rect.unit (s := S1024x3072) ![0, 0] S1024x512.size inb_S1024x3072_S1024x512_0_0)) x1 (View.ld x7 (Rect.unit (s := S1024x3072) ![0, 512] S1024x512.size inb_S1024x3072_S1024x512_0_512)) x2 (View.ld x7 (Rect.unit (s := S1024x3072) ![0, 1024] S1024x512.size inb_S1024x3072_S1024x512_0_1024)) x3 (View.ld x7 (Rect.unit (s := S1024x3072) ![0, 1536] S1024x512.size inb_S1024x3072_S1024x512_0_1536))) x4 (View.ld x7 (Rect.unit (s := S1024x3072) ![0, 2048] S1024x512.size inb_S1024x3072_S1024x512_0_2048)) x5 (View.ld x7 (Rect.unit (s := S1024x3072) ![0, 2560] S1024x512.size inb_S1024x3072_S1024x512_0_2560)) x9 x10 x11 := by
  unfold out3_A_12
  rw [View.read_writes_eq_canon _ _ _ (cover3_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11)]
  unfold kernelRun3_A
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S8x512) hz, View.ld_unit_zero (S := S8x1024) hz, View.ld_unit_zero (S := S512x512) hz, View.ld_unit_zero (S := S512x1024) hz, View.ld_unit_zero (S := S1x1024) hz]
theorem out13_A (hc0 : cond3_0 i) (k : Fin 1024) : out3_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 (ix2 0 k) =
    k3_pay1 (k3_pay4 (k3_pay3 x6 x8 x0 (View.ld x7 (Rect.unit (s := S1024x3072) ![0, 0] S1024x512.size inb_S1024x3072_S1024x512_0_0)) x1 (View.ld x7 (Rect.unit (s := S1024x3072) ![0, 512] S1024x512.size inb_S1024x3072_S1024x512_0_512)) x2 (View.ld x7 (Rect.unit (s := S1024x3072) ![0, 1024] S1024x512.size inb_S1024x3072_S1024x512_0_1024)) x3 (View.ld x7 (Rect.unit (s := S1024x3072) ![0, 1536] S1024x512.size inb_S1024x3072_S1024x512_0_1536))) x4 (View.ld x7 (Rect.unit (s := S1024x3072) ![0, 2048] S1024x512.size inb_S1024x3072_S1024x512_0_2048)) x5 (View.ld x7 (Rect.unit (s := S1024x3072) ![0, 2560] S1024x512.size inb_S1024x3072_S1024x512_0_2560))) (k3_pay6 x9) (View.ld (k3_pay2 (F := Ideal)) row0) (ix2 0 k) := by
  unfold out3_A_13
  unfold kernelRun3_A
  dsimp only
  sl_unfold_words
  have e : (ix2 0 k : S8x1024.Idx) = row0.emb (ix2 0 k) := by
    funext a; apply Fin.ext
    match a with
    | ⟨0, _⟩ => show 0 = 0 + 1 * 0; omega
    | ⟨1, _⟩ => show k.val = 0 + 1 * k.val; omega
  rw [e]
  refine (View.read_writes_cons_emb _ _ _ _ _ _).trans ?_
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S8x512) hz, View.ld_unit_zero (S := S8x1024) hz, View.ld_unit_zero (S := S512x512) hz, View.ld_unit_zero (S := S512x1024) hz, View.ld_unit_zero (S := S1x1024) hz, harg14.read_unread]
  rw [fillRow]
theorem out12_B (hc0 : ¬cond3_0 i) (xo13 : Vec Ideal S8x1024 .f32) : out3_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xo13 =
    k3_pay7 (k3_pay3 x6 x8 x0 (View.ld x7 (Rect.unit (s := S1024x3072) ![0, 0] S1024x512.size inb_S1024x3072_S1024x512_0_0)) x1 (View.ld x7 (Rect.unit (s := S1024x3072) ![0, 512] S1024x512.size inb_S1024x3072_S1024x512_0_512)) x2 (View.ld x7 (Rect.unit (s := S1024x3072) ![0, 1024] S1024x512.size inb_S1024x3072_S1024x512_0_1024)) x3 (View.ld x7 (Rect.unit (s := S1024x3072) ![0, 1536] S1024x512.size inb_S1024x3072_S1024x512_0_1536))) x4 (View.ld x7 (Rect.unit (s := S1024x3072) ![0, 2048] S1024x512.size inb_S1024x3072_S1024x512_0_2048)) x5 (View.ld x7 (Rect.unit (s := S1024x3072) ![0, 2560] S1024x512.size inb_S1024x3072_S1024x512_0_2560)) x9 x10 x11 := by
  unfold out3_B_12
  rw [View.read_writes_eq_canon _ _ _ (cover3_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xo13)]
  unfold kernelRun3_B
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S8x512) hz, View.ld_unit_zero (S := S8x1024) hz, View.ld_unit_zero (S := S512x512) hz, View.ld_unit_zero (S := S512x1024) hz, View.ld_unit_zero (S := S1x1024) hz]
theorem out13_B (hc0 : ¬cond3_0 i) (xo13 : Vec Ideal S8x1024 .f32) (k : Fin 1024) : out3_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xo13 (ix2 0 k) =
    k3_pay1 (k3_pay4 (k3_pay3 x6 x8 x0 (View.ld x7 (Rect.unit (s := S1024x3072) ![0, 0] S1024x512.size inb_S1024x3072_S1024x512_0_0)) x1 (View.ld x7 (Rect.unit (s := S1024x3072) ![0, 512] S1024x512.size inb_S1024x3072_S1024x512_0_512)) x2 (View.ld x7 (Rect.unit (s := S1024x3072) ![0, 1024] S1024x512.size inb_S1024x3072_S1024x512_0_1024)) x3 (View.ld x7 (Rect.unit (s := S1024x3072) ![0, 1536] S1024x512.size inb_S1024x3072_S1024x512_0_1536))) x4 (View.ld x7 (Rect.unit (s := S1024x3072) ![0, 2048] S1024x512.size inb_S1024x3072_S1024x512_0_2048)) x5 (View.ld x7 (Rect.unit (s := S1024x3072) ![0, 2560] S1024x512.size inb_S1024x3072_S1024x512_0_2560))) (k3_pay6 x9) (View.ld xo13 row0) (ix2 0 k) := by
  unfold out3_B_13
  unfold kernelRun3_B
  dsimp only
  sl_unfold_words
  have e : (ix2 0 k : S8x1024.Idx) = row0.emb (ix2 0 k) := by
    funext a; apply Fin.ext
    match a with
    | ⟨0, _⟩ => show 0 = 0 + 1 * 0; omega
    | ⟨1, _⟩ => show k.val = 0 + 1 * k.val; omega
  rw [e]
  refine (View.read_writes_cons_emb _ _ _ _ _ _).trans ?_
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S8x512) hz, View.ld_unit_zero (S := S8x1024) hz, View.ld_unit_zero (S := S512x512) hz, View.ld_unit_zero (S := S512x1024) hz, View.ld_unit_zero (S := S1x1024) hz, harg14.read_unread]

/-! ## A block of it over the extended reals -/

variable (A : Fin 512 → Fin 8 → EReal) (P : Fin 6 → Fin 512 → Fin 512 → EReal) (wf : Fin 1024 → Fin 8 → EReal) (w : Fin 1024 → Fin 3072 → EReal) (x : Fin 512 → Fin 1024 → EReal) (g : Fin 1024 → EReal)
  (h6 : ∀ a p, x6 (ix2 a p) = (A p a : EReal)) (h8 : ∀ a k, x8 (ix2 a k) = (wf k a : EReal)) (h7 : ∀ k l, x7 (ix2 k l) = (w k l : EReal))
  (h0 : ∀ p j, x0 (ix2 p j) = (P 0 p j : EReal)) (h1 : ∀ p j, x1 (ix2 p j) = (P 1 p j : EReal)) (h2 : ∀ p j, x2 (ix2 p j) = (P 2 p j : EReal)) (h3 : ∀ p j, x3 (ix2 p j) = (P 3 p j : EReal)) (h4 : ∀ p j, x4 (ix2 p j) = (P 4 p j : EReal)) (h5 : ∀ p j, x5 (ix2 p j) = (P 5 p j : EReal))
  (h9 : ∀ p k, x9 (ix2 p k) = (x p k : EReal)) (h10 : ∀ k, x10 (ix2 0 k) = (g k : EReal))
/-- The cotangent of the block's normalised rows. -/
def bdh (p : Fin 512) (k : Fin 1024) : EReal := (∑ a, A p a * wf k a) + ∑ b : Fin 6, ∑ j, P b p j * w k (cj b j)
include h6 h8 h7 h0 h1 h2 h3 h4 h5
theorem dhB (p : Fin 512) (k : Fin 1024) : k3_pay4 (k3_pay3 x6 x8 x0 (View.ld x7 (Rect.unit (s := S1024x3072) ![0, 0] S1024x512.size inb_S1024x3072_S1024x512_0_0)) x1 (View.ld x7 (Rect.unit (s := S1024x3072) ![0, 512] S1024x512.size inb_S1024x3072_S1024x512_0_512)) x2 (View.ld x7 (Rect.unit (s := S1024x3072) ![0, 1024] S1024x512.size inb_S1024x3072_S1024x512_0_1024)) x3 (View.ld x7 (Rect.unit (s := S1024x3072) ![0, 1536] S1024x512.size inb_S1024x3072_S1024x512_0_1536))) x4 (View.ld x7 (Rect.unit (s := S1024x3072) ![0, 2048] S1024x512.size inb_S1024x3072_S1024x512_0_2048)) x5 (View.ld x7 (Rect.unit (s := S1024x3072) ![0, 2560] S1024x512.size inb_S1024x3072_S1024x512_0_2560)) (ix2 p k) = (bdh A P wf w p k : EReal) := by
  refine (pay4_3 x6 x8 x0 x1 x2 x3 x4 x5 _ _ _ _ _ _ A (P 0) (P 1) (P 2) (P 3) (P 4) (P 5) wf (fun k j => w k (cj 0 j)) (fun k j => w k (cj 1 j)) (fun k j => w k (cj 2 j)) (fun k j => w k (cj 3 j)) (fun k j => w k (cj 4 j)) (fun k j => w k (cj 5 j))
    h6 h8 h0 h1 h2 h3 h4 h5 (fun k j => (ld_col (R := 1024) (N := 3072) x7 0 _ k j (cj 0 j) (by show 512 * 0 + j.val = 0 + j.val; omega)).trans (h7 _ _)) (fun k j => (ld_col (R := 1024) (N := 3072) x7 512 _ k j (cj 1 j) (by show 512 * 1 + j.val = 512 + j.val; omega)).trans (h7 _ _)) (fun k j => (ld_col (R := 1024) (N := 3072) x7 1024 _ k j (cj 2 j) (by show 512 * 2 + j.val = 1024 + j.val; omega)).trans (h7 _ _)) (fun k j => (ld_col (R := 1024) (N := 3072) x7 1536 _ k j (cj 3 j) (by show 512 * 3 + j.val = 1536 + j.val; omega)).trans (h7 _ _)) (fun k j => (ld_col (R := 1024) (N := 3072) x7 2048 _ k j (cj 4 j) (by show 512 * 4 + j.val = 2048 + j.val; omega)).trans (h7 _ _)) (fun k j => (ld_col (R := 1024) (N := 3072) x7 2560 _ k j (cj 5 j) (by show 512 * 5 + j.val = 2560 + j.val; omega)).trans (h7 _ _)) p k).trans ?_
  refine congrArg (fun r : EReal => (r : EReal)) ?_
  unfold bdh
  rw [Fin.sum_univ_six]
  simp only [add_assoc]
include h9
theorem dgB (z : MG) (s : Fin 1024 → EReal) (hs : ∀ k, z (ix2 0 k) = (s k : EReal)) (k : Fin 1024) :
    k3_pay1 (k3_pay4 (k3_pay3 x6 x8 x0 (View.ld x7 (Rect.unit (s := S1024x3072) ![0, 0] S1024x512.size inb_S1024x3072_S1024x512_0_0)) x1 (View.ld x7 (Rect.unit (s := S1024x3072) ![0, 512] S1024x512.size inb_S1024x3072_S1024x512_0_512)) x2 (View.ld x7 (Rect.unit (s := S1024x3072) ![0, 1024] S1024x512.size inb_S1024x3072_S1024x512_0_1024)) x3 (View.ld x7 (Rect.unit (s := S1024x3072) ![0, 1536] S1024x512.size inb_S1024x3072_S1024x512_0_1536))) x4 (View.ld x7 (Rect.unit (s := S1024x3072) ![0, 2048] S1024x512.size inb_S1024x3072_S1024x512_0_2048)) x5 (View.ld x7 (Rect.unit (s := S1024x3072) ![0, 2560] S1024x512.size inb_S1024x3072_S1024x512_0_2560))) (k3_pay6 x9) z (ix2 0 k) = ((s k + ∑ p, bdh A P wf w p k * xh (x p) k : EReal) : EReal) :=
  pay1_3 x9 x _ _ _ _ _ _ h9 (dhB x0 x1 x2 x3 x4 x5 x6 x7 x8 A P wf w h6 h8 h7 h0 h1 h2 h3 h4 h5) z s hs k
include h10
theorem dxB (p : Fin 512) (k : Fin 1024) :
    k3_pay7 (k3_pay3 x6 x8 x0 (View.ld x7 (Rect.unit (s := S1024x3072) ![0, 0] S1024x512.size inb_S1024x3072_S1024x512_0_0)) x1 (View.ld x7 (Rect.unit (s := S1024x3072) ![0, 512] S1024x512.size inb_S1024x3072_S1024x512_0_512)) x2 (View.ld x7 (Rect.unit (s := S1024x3072) ![0, 1024] S1024x512.size inb_S1024x3072_S1024x512_0_1024)) x3 (View.ld x7 (Rect.unit (s := S1024x3072) ![0, 1536] S1024x512.size inb_S1024x3072_S1024x512_0_1536))) x4 (View.ld x7 (Rect.unit (s := S1024x3072) ![0, 2048] S1024x512.size inb_S1024x3072_S1024x512_0_2048)) x5 (View.ld x7 (Rect.unit (s := S1024x3072) ![0, 2560] S1024x512.size inb_S1024x3072_S1024x512_0_2560)) x9 x10 x11 (ix2 p k) = x11 (ix2 p k) + (dnv (x p) (bdh A P wf w p) g k : EReal) :=
  pay7_3 x9 x10 x11 x g _ _ _ _ _ _ h9 h10 (dhB x0 x1 x2 x3 x4 x5 x6 x7 x8 A P wf w h6 h8 h7 h0 h1 h2 h3 h4 h5) p k
end

theorem N3 (t : Fin cfg3.N) : t.val < 16 := lt_of_lt_of_eq t.isLt N_3
theorem idx3_0 : ∀ t : Fin grid3.N, win3_0.index t 0 = t.val ∧ win3_0.index t 1 = 0 := by decide +kernel
theorem in3_0 (t : Fin cfg3.N) (p : Fin 512) (k : Fin 512) :
    (iblk3 V c 0 t : Vec Ideal S512x512 .bf16) (ix2 p k) = (V c main_arg3 : Vec Ideal S8192x512 .bf16) (ix2 (tok5 t.val (N3 t) p) k) := by
  have hi := idx3_0 t
  unfold iblk3
  rw [View.read_apply]
  show V c main_arg3 _ = V c main_arg3 _
  congr 1
  funext a
  apply Fin.ext
  match a with
  | ⟨0, _⟩ => show win3_0.index t 0 * 512 + 1 * p.val = 512 * t.val + p.val; rw [hi.1]; omega
  | ⟨1, _⟩ => show win3_0.index t 1 * 512 + 1 * k.val = k.val; rw [hi.2]; omega
theorem idx3_1 : ∀ t : Fin grid3.N, win3_1.index t 0 = t.val ∧ win3_1.index t 1 = 0 := by decide +kernel
theorem in3_1 (t : Fin cfg3.N) (p : Fin 512) (k : Fin 512) :
    (iblk3 V c 1 t : Vec Ideal S512x512 .bf16) (ix2 p k) = (V c main_arg4 : Vec Ideal S8192x512 .bf16) (ix2 (tok5 t.val (N3 t) p) k) := by
  have hi := idx3_1 t
  unfold iblk3
  rw [View.read_apply]
  show V c main_arg4 _ = V c main_arg4 _
  congr 1
  funext a
  apply Fin.ext
  match a with
  | ⟨0, _⟩ => show win3_1.index t 0 * 512 + 1 * p.val = 512 * t.val + p.val; rw [hi.1]; omega
  | ⟨1, _⟩ => show win3_1.index t 1 * 512 + 1 * k.val = k.val; rw [hi.2]; omega
theorem idx3_2 : ∀ t : Fin grid3.N, win3_2.index t 0 = t.val ∧ win3_2.index t 1 = 0 := by decide +kernel
theorem in3_2 (t : Fin cfg3.N) (p : Fin 512) (k : Fin 512) :
    (iblk3 V c 2 t : Vec Ideal S512x512 .bf16) (ix2 p k) = (V c main_arg5 : Vec Ideal S8192x512 .bf16) (ix2 (tok5 t.val (N3 t) p) k) := by
  have hi := idx3_2 t
  unfold iblk3
  rw [View.read_apply]
  show V c main_arg5 _ = V c main_arg5 _
  congr 1
  funext a
  apply Fin.ext
  match a with
  | ⟨0, _⟩ => show win3_2.index t 0 * 512 + 1 * p.val = 512 * t.val + p.val; rw [hi.1]; omega
  | ⟨1, _⟩ => show win3_2.index t 1 * 512 + 1 * k.val = k.val; rw [hi.2]; omega
theorem idx3_3 : ∀ t : Fin grid3.N, win3_3.index t 0 = t.val ∧ win3_3.index t 1 = 0 := by decide +kernel
theorem in3_3 (t : Fin cfg3.N) (p : Fin 512) (k : Fin 512) :
    (iblk3 V c 3 t : Vec Ideal S512x512 .bf16) (ix2 p k) = (V c main_arg6 : Vec Ideal S8192x512 .bf16) (ix2 (tok5 t.val (N3 t) p) k) := by
  have hi := idx3_3 t
  unfold iblk3
  rw [View.read_apply]
  show V c main_arg6 _ = V c main_arg6 _
  congr 1
  funext a
  apply Fin.ext
  match a with
  | ⟨0, _⟩ => show win3_3.index t 0 * 512 + 1 * p.val = 512 * t.val + p.val; rw [hi.1]; omega
  | ⟨1, _⟩ => show win3_3.index t 1 * 512 + 1 * k.val = k.val; rw [hi.2]; omega
theorem idx3_4 : ∀ t : Fin grid3.N, win3_4.index t 0 = t.val ∧ win3_4.index t 1 = 0 := by decide +kernel
theorem in3_4 (t : Fin cfg3.N) (p : Fin 512) (k : Fin 512) :
    (iblk3 V c 4 t : Vec Ideal S512x512 .bf16) (ix2 p k) = (V c main_arg7 : Vec Ideal S8192x512 .bf16) (ix2 (tok5 t.val (N3 t) p) k) := by
  have hi := idx3_4 t
  unfold iblk3
  rw [View.read_apply]
  show V c main_arg7 _ = V c main_arg7 _
  congr 1
  funext a
  apply Fin.ext
  match a with
  | ⟨0, _⟩ => show win3_4.index t 0 * 512 + 1 * p.val = 512 * t.val + p.val; rw [hi.1]; omega
  | ⟨1, _⟩ => show win3_4.index t 1 * 512 + 1 * k.val = k.val; rw [hi.2]; omega
theorem idx3_5 : ∀ t : Fin grid3.N, win3_5.index t 0 = t.val ∧ win3_5.index t 1 = 0 := by decide +kernel
theorem in3_5 (t : Fin cfg3.N) (p : Fin 512) (k : Fin 512) :
    (iblk3 V c 5 t : Vec Ideal S512x512 .bf16) (ix2 p k) = (V c main_arg8 : Vec Ideal S8192x512 .bf16) (ix2 (tok5 t.val (N3 t) p) k) := by
  have hi := idx3_5 t
  unfold iblk3
  rw [View.read_apply]
  show V c main_arg8 _ = V c main_arg8 _
  congr 1
  funext a
  apply Fin.ext
  match a with
  | ⟨0, _⟩ => show win3_5.index t 0 * 512 + 1 * p.val = 512 * t.val + p.val; rw [hi.1]; omega
  | ⟨1, _⟩ => show win3_5.index t 1 * 512 + 1 * k.val = k.val; rw [hi.2]; omega
theorem idx3_6 : ∀ t : Fin grid3.N, win3_6.index t 0 = 0 ∧ win3_6.index t 1 = t.val := by decide +kernel
theorem in3_6 (t : Fin cfg3.N) (p : Fin 8) (k : Fin 512) :
    (iblk3 V c 6 t : Vec Ideal S8x512 .f32) (ix2 p k) = (V c main_arg9 : Vec Ideal S8x8192 .f32) (ix2 p (tok5 t.val (N3 t) k)) := by
  have hi := idx3_6 t
  unfold iblk3
  rw [View.read_apply]
  show V c main_arg9 _ = V c main_arg9 _
  congr 1
  funext a
  apply Fin.ext
  match a with
  | ⟨0, _⟩ => show win3_6.index t 0 * 8 + 1 * p.val = p.val; rw [hi.1]; omega
  | ⟨1, _⟩ => show win3_6.index t 1 * 512 + 1 * k.val = 512 * t.val + k.val; rw [hi.2]; omega
theorem idx3_7 : ∀ t : Fin grid3.N, win3_7.index t 0 = 0 ∧ win3_7.index t 1 = 0 := by decide +kernel
theorem in3_7 (t : Fin cfg3.N) (p : Fin 1024) (k : Fin 3072) :
    (iblk3 V c 7 t : Vec Ideal S1024x3072 .bf16) (ix2 p k) = (V c main_v3 : Vec Ideal S1024x3072 .bf16) (ix2 p k) := by
  have hi := idx3_7 t
  unfold iblk3
  rw [View.read_apply]
  show V c main_v3 _ = V c main_v3 _
  congr 1
  funext a
  apply Fin.ext
  match a with
  | ⟨0, _⟩ => show win3_7.index t 0 * 1024 + 1 * p.val = p.val; rw [hi.1]; omega
  | ⟨1, _⟩ => show win3_7.index t 1 * 3072 + 1 * k.val = k.val; rw [hi.2]; omega
theorem idx3_8 : ∀ t : Fin grid3.N, win3_8.index t 0 = 0 ∧ win3_8.index t 1 = 0 := by decide +kernel
theorem in3_8 (t : Fin cfg3.N) (p : Fin 8) (k : Fin 1024) :
    (iblk3 V c 8 t : Vec Ideal S8x1024 .bf16) (ix2 p k) = (V c main_v5 : Vec Ideal S8x1024 .bf16) (ix2 p k) := by
  have hi := idx3_8 t
  unfold iblk3
  rw [View.read_apply]
  show V c main_v5 _ = V c main_v5 _
  congr 1
  funext a
  apply Fin.ext
  match a with
  | ⟨0, _⟩ => show win3_8.index t 0 * 8 + 1 * p.val = p.val; rw [hi.1]; omega
  | ⟨1, _⟩ => show win3_8.index t 1 * 1024 + 1 * k.val = k.val; rw [hi.2]; omega
theorem idx3_9 : ∀ t : Fin grid3.N, win3_9.index t 0 = t.val ∧ win3_9.index t 1 = 0 := by decide +kernel
theorem in3_9 (t : Fin cfg3.N) (p : Fin 512) (k : Fin 1024) :
    (iblk3 V c 9 t : Vec Ideal S512x1024 .f32) (ix2 p k) = (V c main_arg0 : Vec Ideal S8192x1024 .f32) (ix2 (tok5 t.val (N3 t) p) k) := by
  have hi := idx3_9 t
  unfold iblk3
  rw [View.read_apply]
  show V c main_arg0 _ = V c main_arg0 _
  congr 1
  funext a
  apply Fin.ext
  match a with
  | ⟨0, _⟩ => show win3_9.index t 0 * 512 + 1 * p.val = 512 * t.val + p.val; rw [hi.1]; omega
  | ⟨1, _⟩ => show win3_9.index t 1 * 1024 + 1 * k.val = k.val; rw [hi.2]; omega
theorem idx3_10 : ∀ t : Fin grid3.N, win3_10.index t 0 = 0 ∧ win3_10.index t 1 = 0 := by decide +kernel
theorem in3_10 (t : Fin cfg3.N) (p : Fin 1) (k : Fin 1024) :
    (iblk3 V c 10 t : Vec Ideal S1x1024 .f32) (ix2 p k) = (V c main_arg1 : Vec Ideal S1x1024 .f32) (ix2 p k) := by
  have hi := idx3_10 t
  unfold iblk3
  rw [View.read_apply]
  show V c main_arg1 _ = V c main_arg1 _
  congr 1
  funext a
  apply Fin.ext
  match a with
  | ⟨0, _⟩ => show win3_10.index t 0 * 1 + 1 * p.val = p.val; rw [hi.1]; omega
  | ⟨1, _⟩ => show win3_10.index t 1 * 1024 + 1 * k.val = k.val; rw [hi.2]; omega
theorem idx3_11 : ∀ t : Fin grid3.N, win3_11.index t 0 = t.val ∧ win3_11.index t 1 = 0 := by decide +kernel
theorem in3_11 (t : Fin cfg3.N) (p : Fin 512) (k : Fin 1024) :
    (iblk3 V c 11 t : Vec Ideal S512x1024 .f32) (ix2 p k) = (V c main_arg10 : Vec Ideal S8192x1024 .f32) (ix2 (tok5 t.val (N3 t) p) k) := by
  have hi := idx3_11 t
  unfold iblk3
  rw [View.read_apply]
  show V c main_arg10 _ = V c main_arg10 _
  congr 1
  funext a
  apply Fin.ext
  match a with
  | ⟨0, _⟩ => show win3_11.index t 0 * 512 + 1 * p.val = 512 * t.val + p.val; rw [hi.1]; omega
  | ⟨1, _⟩ => show win3_11.index t 1 * 1024 + 1 * k.val = k.val; rw [hi.2]; omega

/-- What block `q` of tokens gives the gain. -/
def gpart (D : Args) (q : ℕ) (k : Fin 1024) : EReal :=
  if h : q < 16 then ∑ p : Fin 512, aDh D (tok5 q h p) k * xh (D.X (tok5 q h p)) k else 0
theorem sum_gpart (D : Args) (k : Fin 1024) : ∑ q ∈ Finset.range (15 + 1), gpart D q k = rG D k := by
  unfold rG
  rw [sum_tok5, Finset.sum_range]
  refine Finset.sum_congr rfl fun q _ => ?_
  unfold gpart
  rw [dif_pos q.isLt]
theorem ld_row0 (Z : Vec Ideal S8x1024 .f32) (k : Fin 1024) : View.ld Z row0 (ix2 0 k) = Z (ix2 0 k) := by
  refine congrArg Z ?_
  funext a; apply Fin.ext
  match a with
  | ⟨0, _⟩ => show 0 + 1 * 0 = 0; omega
  | ⟨1, _⟩ => show 0 + 1 * k.val = k.val; omega

section
variable (D : Args)
  (hA : ∀ a n, (V c main_arg9 : Vec Ideal S8x8192 .f32) (ix2 a n) = (D.A n a : EReal))
  (hF : ∀ a k, (V c main_v5 : Vec Ideal S8x1024 .bf16) (ix2 a k) = (Wf D k a : EReal))
  (hW : ∀ k j, (V c main_v3 : Vec Ideal S1024x3072 .bf16) (ix2 k j) = (W1 D k j : EReal))
  (hP0 : ∀ n j, (V c main_arg3 : Vec Ideal S8192x512 .bf16) (ix2 n j) = (D.P 0 n j : EReal)) (hP1 : ∀ n j, (V c main_arg4 : Vec Ideal S8192x512 .bf16) (ix2 n j) = (D.P 1 n j : EReal)) (hP2 : ∀ n j, (V c main_arg5 : Vec Ideal S8192x512 .bf16) (ix2 n j) = (D.P 2 n j : EReal)) (hP3 : ∀ n j, (V c main_arg6 : Vec Ideal S8192x512 .bf16) (ix2 n j) = (D.P 3 n j : EReal)) (hP4 : ∀ n j, (V c main_arg7 : Vec Ideal S8192x512 .bf16) (ix2 n j) = (D.P 4 n j : EReal)) (hP5 : ∀ n j, (V c main_arg8 : Vec Ideal S8192x512 .bf16) (ix2 n j) = (D.P 5 n j : EReal))
  (hX : ∀ n k, (V c main_arg0 : Vec Ideal S8192x1024 .f32) (ix2 n k) = (D.X n k : EReal))
include hA hF hW hP0 hP1 hP2 hP3 hP4 hP5 hX

theorem add3 (t : Fin cfg3.N) (z : MG) (s : Fin 1024 → EReal) (hs : ∀ k, z (ix2 0 k) = (s k : EReal)) (k : Fin 1024) :
    k3_pay1 (k3_pay4 (k3_pay3 (iblk3 V c 6 t) (iblk3 V c 8 t) (iblk3 V c 0 t) (View.ld (iblk3 V c 7 t) (Rect.unit (s := S1024x3072) ![0, 0] S1024x512.size inb_S1024x3072_S1024x512_0_0)) (iblk3 V c 1 t) (View.ld (iblk3 V c 7 t) (Rect.unit (s := S1024x3072) ![0, 512] S1024x512.size inb_S1024x3072_S1024x512_0_512)) (iblk3 V c 2 t) (View.ld (iblk3 V c 7 t) (Rect.unit (s := S1024x3072) ![0, 1024] S1024x512.size inb_S1024x3072_S1024x512_0_1024)) (iblk3 V c 3 t) (View.ld (iblk3 V c 7 t) (Rect.unit (s := S1024x3072) ![0, 1536] S1024x512.size inb_S1024x3072_S1024x512_0_1536))) (iblk3 V c 4 t) (View.ld (iblk3 V c 7 t) (Rect.unit (s := S1024x3072) ![0, 2048] S1024x512.size inb_S1024x3072_S1024x512_0_2048)) (iblk3 V c 5 t) (View.ld (iblk3 V c 7 t) (Rect.unit (s := S1024x3072) ![0, 2560] S1024x512.size inb_S1024x3072_S1024x512_0_2560))) (k3_pay6 (iblk3 V c 9 t)) z (ix2 0 k)
      = ((s k + gpart D t.val k : EReal) : EReal) := by
  refine (dgB (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (fun p => D.A (tok5 t.val (N3 t) p)) (fun b p => D.P b (tok5 t.val (N3 t) p)) (Wf D) (W1 D) (fun p => D.X (tok5 t.val (N3 t) p)) (fun a p => (in3_6 V c t a p).trans (hA _ _)) (fun a k => (in3_8 V c t a k).trans (hF _ _)) (fun k l => (in3_7 V c t k l).trans (hW _ _)) (fun p j => (in3_0 V c t p j).trans (hP0 _ _)) (fun p j => (in3_1 V c t p j).trans (hP1 _ _)) (fun p j => (in3_2 V c t p j).trans (hP2 _ _)) (fun p j => (in3_3 V c t p j).trans (hP3 _ _)) (fun p j => (in3_4 V c t p j).trans (hP4 _ _)) (fun p j => (in3_5 V c t p j).trans (hP5 _ _)) (fun p k => (in3_9 V c t p k).trans (hX _ _)) z s hs k).trans ?_
  refine congrArg (fun r : EReal => (r : EReal)) ?_
  unfold gpart
  rw [dif_pos (N3 t)]
  rfl

theorem ptA3 (t : Fin cfg3.N) (h0 : t.val % 16 = 0) (k : Fin 1024) :
    (outsAt3 V c t.val t.isLt).2 (ix2 0 k) = ((∑ q ∈ Finset.range (t.val + 1), gpart D q k : EReal) : EReal) := by
  have h1 : t.val = 0 := by have := N3 t; omega
  rw [outsAt3_A V c t h0]
  dsimp only
  refine (out13_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) ((hcond3_0 t).mpr h0) k).trans ?_
  refine (add3 V c D hA hF hW hP0 hP1 hP2 hP3 hP4 hP5 hX t _ (fun _ => 0) (fun k => (ld_row0 _ k).trans (pay2_3 0 k)) k).trans ?_
  rw [h1]
  simp only [Finset.sum_range_one, zero_add]

theorem pt3 : ∀ (n : ℕ) (hn : n < cfg3.N) (k : Fin 1024), (outsAt3 V c n hn).2 (ix2 0 k) = ((∑ q ∈ Finset.range (n + 1), gpart D q k : EReal) : EReal)
  | 0, hn, k => ptA3 V c D hA hF hW hP0 hP1 hP2 hP3 hP4 hP5 hX ⟨0, hn⟩ rfl k
  | n + 1, hn, k => by
    have h0 : ¬(n + 1) % 16 = 0 := by have : n + 1 < 16 := lt_of_lt_of_eq hn N_3; omega
    refine (congrFun (congrArg (fun z => z.2) (outsAt3_B V c (⟨n + 1, hn⟩ : Fin cfg3.N) h0)) _).trans ?_
    refine (out13_B c (grid3.coords (⟨n + 1, hn⟩ : Fin cfg3.N)) (ms3_0 (⟨n + 1, hn⟩ : Fin cfg3.N)) (hs3_0 (⟨n + 1, hn⟩ : Fin cfg3.N)) (ms3_1 (⟨n + 1, hn⟩ : Fin cfg3.N)) (hs3_1 (⟨n + 1, hn⟩ : Fin cfg3.N)) (ms3_2 (⟨n + 1, hn⟩ : Fin cfg3.N)) (hs3_2 (⟨n + 1, hn⟩ : Fin cfg3.N)) (ms3_3 (⟨n + 1, hn⟩ : Fin cfg3.N)) (hs3_3 (⟨n + 1, hn⟩ : Fin cfg3.N)) (ms3_4 (⟨n + 1, hn⟩ : Fin cfg3.N)) (hs3_4 (⟨n + 1, hn⟩ : Fin cfg3.N)) (ms3_5 (⟨n + 1, hn⟩ : Fin cfg3.N)) (hs3_5 (⟨n + 1, hn⟩ : Fin cfg3.N)) (ms3_6 (⟨n + 1, hn⟩ : Fin cfg3.N)) (hs3_6 (⟨n + 1, hn⟩ : Fin cfg3.N)) (ms3_7 (⟨n + 1, hn⟩ : Fin cfg3.N)) (hs3_7 (⟨n + 1, hn⟩ : Fin cfg3.N)) (ms3_8 (⟨n + 1, hn⟩ : Fin cfg3.N)) (hs3_8 (⟨n + 1, hn⟩ : Fin cfg3.N)) (ms3_9 (⟨n + 1, hn⟩ : Fin cfg3.N)) (hs3_9 (⟨n + 1, hn⟩ : Fin cfg3.N)) (ms3_10 (⟨n + 1, hn⟩ : Fin cfg3.N)) (hs3_10 (⟨n + 1, hn⟩ : Fin cfg3.N)) (ms3_11 (⟨n + 1, hn⟩ : Fin cfg3.N)) (hs3_11 (⟨n + 1, hn⟩ : Fin cfg3.N)) (ms3_12 (⟨n + 1, hn⟩ : Fin cfg3.N)) (hs3_12 (⟨n + 1, hn⟩ : Fin cfg3.N)) (ms3_13 (⟨n + 1, hn⟩ : Fin cfg3.N)) (hs3_13 (⟨n + 1, hn⟩ : Fin cfg3.N)) (iblk3 V c 0 (⟨n + 1, hn⟩ : Fin cfg3.N)) (iblk3 V c 1 (⟨n + 1, hn⟩ : Fin cfg3.N)) (iblk3 V c 2 (⟨n + 1, hn⟩ : Fin cfg3.N)) (iblk3 V c 3 (⟨n + 1, hn⟩ : Fin cfg3.N)) (iblk3 V c 4 (⟨n + 1, hn⟩ : Fin cfg3.N)) (iblk3 V c 5 (⟨n + 1, hn⟩ : Fin cfg3.N)) (iblk3 V c 6 (⟨n + 1, hn⟩ : Fin cfg3.N)) (iblk3 V c 7 (⟨n + 1, hn⟩ : Fin cfg3.N)) (iblk3 V c 8 (⟨n + 1, hn⟩ : Fin cfg3.N)) (iblk3 V c 9 (⟨n + 1, hn⟩ : Fin cfg3.N)) (iblk3 V c 10 (⟨n + 1, hn⟩ : Fin cfg3.N)) (iblk3 V c 11 (⟨n + 1, hn⟩ : Fin cfg3.N)) (fun h => h0 ((hcond3_0 (⟨n + 1, hn⟩ : Fin cfg3.N)).mp h)) _ k).trans ?_
    refine (add3 V c D hA hF hW hP0 hP1 hP2 hP3 hP4 hP5 hX (⟨n + 1, hn⟩ : Fin cfg3.N) _ (fun k => ∑ q ∈ Finset.range (n + 1), gpart D q k) (fun k => (ld_row0 _ k).trans (pt3 n (Nat.lt_of_succ_lt hn) k)) k).trans ?_
    rw [Finset.sum_range_succ _ (n + 1)]

omit hA hF hW hP0 hP1 hP2 hP3 hP4 hP5 hX in
theorem last3 : 15 < cfg3.N := by rw [show cfg3.N = 16 from N_3]; omega
omit hA hF hW hP0 hP1 hP2 hP3 hP4 hP5 hX in
theorem at15 (n : ℕ) (h : n < cfg3.N) (e : n = 15) : outsAt3 V c n h = outsAt3 V c 15 last3 := by
  subst e; rfl
omit hA hF hW hP0 hP1 hP2 hP3 hP4 hP5 hX in
theorem idx3_13 : ∀ t : Fin grid3.N, win3_13.index t 0 = 0 ∧ win3_13.index t 1 = 0 := by decide +kernel
omit hA hF hW hP0 hP1 hP2 hP3 hP4 hP5 hX in
theorem arr3_13 (z : Vec Ideal S8x1024 .f32) (hz : (outsAt3 V c 15 last3).2 = z) : (dat3 V c).arrAt 13 cfg3.N = z :=
  (dat3 V c).arrAt_eq_of_cover 13 z (fun t hf => by
    have h31 : t.val = 15 := by have := (flush3_13 t).mp hf; have := N3 t; omega
    have hz' := (congrArg (fun x => x.2) (at15 V c t.val t.isLt h31)).trans hz
    dsimp only at hz'
    show (cfg3.win 13).cut (grid3.coords t) ((dat3 V c).after 13 t) = _
    rw [after3_13, hz']
    funext j
    obtain ⟨p, k, rfl⟩ : ∃ (p : Fin 8) (k : Fin 1024), j = ix2 p k := ⟨j 0, j 1, (ix2_eta j).symm⟩
    have hi := idx3_13 t
    rw [View.read_apply]
    have e : (((cfg3.win 13).blk t).view.emb (ix2 p k) : S8x1024.Idx) = ix2 p k := by
      funext a
      apply Fin.ext
      match a with
      | ⟨0, _⟩ => show win3_13.index t 0 * 8 + 1 * p.val = p.val; rw [hi.1]; omega
      | ⟨1, _⟩ => show win3_13.index t 1 * 1024 + 1 * k.val = k.val; rw [hi.2]; omega
    refine (rfl : _ = z (ix2 p k)).trans ?_
    exact (congrArg z e).symm) fun i => by
    have h0 : (i 0 : Nat) < 8 := (i 0).isLt
    have h1 : (i 1 : Nat) < 1024 := (i 1).isLt
    have hi := idx3_13 ⟨15, last3⟩
    refine ⟨⟨15, last3⟩, (flush3_13 _).mpr rfl, ?_⟩
    show i ∈ ((View.whole main_v12_1).slice (win3_13.rect ⟨15, last3⟩)).set
    rw [View.set_slice_whole, Rect.mem_set_unit]
    intro a
    match a with
    | ⟨0, _⟩ => show win3_13.index ⟨15, last3⟩ 0 * 8 ≤ (i 0 : Nat) ∧ (i 0 : Nat) < win3_13.index ⟨15, last3⟩ 0 * 8 + 8
                rw [hi.1]; omega
    | ⟨1, _⟩ => show win3_13.index ⟨15, last3⟩ 1 * 1024 ≤ (i 1 : Nat) ∧ (i 1 : Nat) < win3_13.index ⟨15, last3⟩ 1 * 1024 + 1024
                rw [hi.2]; omega

theorem fin3_13 (k : Fin 1024) : ((dat3 V c).arrAt 13 cfg3.N : Vec Ideal S8x1024 .f32) (ix2 0 k) = ((rG D k : EReal) : EReal) := by
  rw [arr3_13 V c _ rfl, pt3 V c D hA hF hW hP0 hP1 hP2 hP3 hP4 hP5 hX 15 last3 k]
  exact sum_gpart D k

/-! ## The rows' gradient -/

variable (hg : ∀ k, (V c main_arg1 : Vec Ideal S1x1024 .f32) (ix2 0 k) = (D.g k : EReal))
  (U : Fin 8192 → Fin 1024 → EReal) (hU : ∀ n k, (V c main_arg10 : Vec Ideal S8192x1024 .f32) (ix2 n k) = U n k)
include hg hU
theorem row3 (t : Fin cfg3.N) (p : Fin 512) (k : Fin 1024) :
    (outsAt3 V c t.val t.isLt).1 (ix2 p k) = U (tok5 t.val (N3 t) p) k + (rX D (tok5 t.val (N3 t) p) k : EReal) := by
  by_cases h0 : t.val % 16 = 0
  · rw [outsAt3_A V c t h0]
    dsimp only
    rw [out12_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) ((hcond3_0 t).mpr h0)]
    refine (dxB (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (fun p => D.A (tok5 t.val (N3 t) p)) (fun b p => D.P b (tok5 t.val (N3 t) p)) (Wf D) (W1 D) (fun p => D.X (tok5 t.val (N3 t) p)) D.g (fun a p => (in3_6 V c t a p).trans (hA _ _)) (fun a k => (in3_8 V c t a k).trans (hF _ _)) (fun k l => (in3_7 V c t k l).trans (hW _ _)) (fun p j => (in3_0 V c t p j).trans (hP0 _ _)) (fun p j => (in3_1 V c t p j).trans (hP1 _ _)) (fun p j => (in3_2 V c t p j).trans (hP2 _ _)) (fun p j => (in3_3 V c t p j).trans (hP3 _ _)) (fun p j => (in3_4 V c t p j).trans (hP4 _ _)) (fun p j => (in3_5 V c t p j).trans (hP5 _ _)) (fun p k => (in3_9 V c t p k).trans (hX _ _)) (fun k => (in3_10 V c t 0 k).trans (hg _)) p k).trans ?_
    rw [in3_11 V c t p k, hU]
    rfl
  · rw [outsAt3_B V c t h0]
    dsimp only
    rw [out12_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (fun h => h0 ((hcond3_0 t).mp h)) _]
    refine (dxB (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (fun p => D.A (tok5 t.val (N3 t) p)) (fun b p => D.P b (tok5 t.val (N3 t) p)) (Wf D) (W1 D) (fun p => D.X (tok5 t.val (N3 t) p)) D.g (fun a p => (in3_6 V c t a p).trans (hA _ _)) (fun a k => (in3_8 V c t a k).trans (hF _ _)) (fun k l => (in3_7 V c t k l).trans (hW _ _)) (fun p j => (in3_0 V c t p j).trans (hP0 _ _)) (fun p j => (in3_1 V c t p j).trans (hP1 _ _)) (fun p j => (in3_2 V c t p j).trans (hP2 _ _)) (fun p j => (in3_3 V c t p j).trans (hP3 _ _)) (fun p j => (in3_4 V c t p j).trans (hP4 _ _)) (fun p j => (in3_5 V c t p j).trans (hP5 _ _)) (fun p k => (in3_9 V c t p k).trans (hX _ _)) (fun k => (in3_10 V c t 0 k).trans (hg _)) p k).trans ?_
    rw [in3_11 V c t p k, hU]
    rfl
omit hA hF hW hP0 hP1 hP2 hP3 hP4 hP5 hX hg hU in
theorem idx3_12 : ∀ t : Fin grid3.N, win3_12.index t 0 = t.val ∧ win3_12.index t 1 = 0 := by decide +kernel
theorem fin3_12 : (dat3 V c).arrAt 12 cfg3.N = (fun i : S8192x1024.Idx => U (i 0) (i 1) + ((rX D (i 0) (i 1) : EReal) : EReal)) :=
  (dat3 V c).arrAt_eq_of_cover 12 (fun i : S8192x1024.Idx => U (i 0) (i 1) + ((rX D (i 0) (i 1) : EReal) : EReal)) (fun t hf => by
    show (cfg3.win 12).cut (grid3.coords t) ((dat3 V c).after 12 t) = _
    rw [after3_12]
    funext j
    obtain ⟨p, k, rfl⟩ : ∃ (p : Fin 512) (k : Fin 1024), j = ix2 p k := ⟨j 0, j 1, (ix2_eta j).symm⟩
    have hi := idx3_12 t
    rw [View.read_apply]
    refine (row3 V c D hA hF hW hP0 hP1 hP2 hP3 hP4 hP5 hX hg U hU t p k).trans ?_
    have e : (((cfg3.win 12).blk t).view.emb (ix2 p k) : S8192x1024.Idx) = ix2 (tok5 t.val (N3 t) p) k := by
      funext a
      apply Fin.ext
      match a with
      | ⟨0, _⟩ => show win3_12.index t 0 * 512 + 1 * p.val = 512 * t.val + p.val; rw [hi.1]; omega
      | ⟨1, _⟩ => show win3_12.index t 1 * 1024 + 1 * k.val = k.val; rw [hi.2]; omega
    exact (congrArg (fun i : S8192x1024.Idx => U (i 0) (i 1) + ((rX D (i 0) (i 1) : EReal) : EReal)) e).symm) fun i => by
    have h0 : (i 0 : Nat) < 8192 := (i 0).isLt
    have h1 : (i 1 : Nat) < 1024 := (i 1).isLt
    have ht : (i 0 : Nat) / 512 < cfg3.N := by rw [show cfg3.N = 16 from N_3]; omega
    have hi := idx3_12 ⟨(i 0 : Nat) / 512, ht⟩
    refine ⟨⟨(i 0 : Nat) / 512, ht⟩, flush3_12 _, ?_⟩
    show i ∈ ((View.whole main_v12_0).slice (win3_12.rect ⟨(i 0 : Nat) / 512, ht⟩)).set
    rw [View.set_slice_whole, Rect.mem_set_unit]
    intro a
    match a with
    | ⟨0, _⟩ => show win3_12.index ⟨(i 0 : Nat) / 512, ht⟩ 0 * 512 ≤ (i 0 : Nat) ∧ (i 0 : Nat) < win3_12.index ⟨(i 0 : Nat) / 512, ht⟩ 0 * 512 + 512
                rw [hi.1]; dsimp only; omega
    | ⟨1, _⟩ => show win3_12.index ⟨(i 0 : Nat) / 512, ht⟩ 1 * 1024 ≤ (i 1 : Nat) ∧ (i 1 : Nat) < win3_12.index ⟨(i 0 : Nat) / 512, ht⟩ 1 * 1024 + 1024
                rw [hi.2]; omega
end

end Cert.Kernel3Ideal.Inp
-- ==== Proof.InpDw.lean ====
/- The input projection's weight gradients over their grids: the whole arrays the two calls leave, in closed form. -/
module

public import proofs.«01_k».proof.Proof.InpBody
public import Idealize.ShloMosaic.Lib.Pipeline.ReadBack

@[expose] public section

set_option maxRecDepth 16384

noncomputable section

namespace Cert.Kernel3Ideal.Inp

open Cert.Kernel3Ideal Cert.Kernel3Ideal.Gen Cert.Inp Idealize.ShloMosaic Idealize.ShloMosaic.TcCoe Idealize.SL.Sem

variable (V : (c : Dev nD) → (b : Ref sig .tc) → Buf (Elt Idealize.ShloMosaic.Ideal) ((c : Thread nD τ).loc b)) (c : Dev nD)

/-! ## The six parts -/

/-- Reading a block of columns of what has been written. -/
theorem readCov_col {R N : ℕ} {e : EltTy} (v : View sig .tc .vmem (⟨2, ![R, N]⟩ : Shape) e) (L : List (View.Piece (Elt Ideal) (⟨2, ![R, N]⟩ : Shape) e))
    (o : ℕ) (inb) (k : Fin R) (j : Fin 512) (c : Fin N) (h : c.val = o + j.val) :
    v.readCov (Val := Elt Ideal) L (Rect.unit (s := (⟨2, ![R, N]⟩ : Shape)) ![0, o] ![R, 512] inb).toLoadRect (ix2 k j) = View.canon L (ix2 k c) := by
  rw [View.readCov_eq_canon']
  exact ld_col (View.canon L) o inb k j c h

section
variable (i : grid1.Coords) (arg1 : Memref sig .tc .vmem S1024x1024 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x3072 .f32) (harg8 : arg8.IsWhole)
  (x0 : Vec Ideal S1024x1024 .bf16) (x1 : Vec Ideal S1024x512 .bf16) (x2 : Vec Ideal S1024x512 .bf16) (x3 : Vec Ideal S1024x512 .bf16) (x4 : Vec Ideal S1024x512 .bf16) (x5 : Vec Ideal S1024x512 .bf16) (x6 : Vec Ideal S1024x512 .bf16)
  (H : Fin 1024 → Fin 1024 → EReal) (Q : Fin 6 → Fin 1024 → Fin 512 → EReal)
  (h0 : ∀ k p, x0 (ix2 k p) = (H k p : EReal)) (h1 : ∀ p j, x1 (ix2 p j) = (Q 0 p j : EReal)) (h2 : ∀ p j, x2 (ix2 p j) = (Q 1 p j : EReal)) (h3 : ∀ p j, x3 (ix2 p j) = (Q 2 p j : EReal)) (h4 : ∀ p j, x4 (ix2 p j) = (Q 3 p j : EReal)) (h5 : ∀ p j, x5 (ix2 p j) = (Q 4 p j : EReal)) (h6 : ∀ p j, x6 (ix2 p j) = (Q 5 p j : EReal))
include h0 h1 h2 h3 h4 h5 h6
theorem dw1_A (hc0 : cond1_0 i) (k : Fin 1024) (b : Fin 6) (j : Fin 512) :
    out1_A_7 c i arg1 harg1 arg2 harg2 arg3 harg3 arg4 harg4 arg5 harg5 arg6 harg6 arg7 harg7 arg8 harg8 hc0 x0 x1 x2 x3 x4 x5 x6 (ix2 k (cj b j)) = ((∑ p, H k p * Q b p j : EReal) : EReal) := by
  have hj := j.isLt
  unfold out1_A_7
  rw [View.read_writes_eq_canon _ _ _ (cover1_A_7 c i arg1 harg1 arg2 harg2 arg3 harg3 arg4 harg4 arg5 harg5 arg6 harg6 arg7 harg7 arg8 harg8 hc0 x0 x1 x2 x3 x4 x5 x6)]
  unfold kernelRun1_A
  dsimp only
  sl_unfold_words
  simp only [View.readAt_eq_ld, harg1.read_unread, harg2.read_unread, harg3.read_unread, harg4.read_unread, harg5.read_unread, harg6.read_unread, harg7.read_unread, harg8.read_unread, View.ld_unit_zero (S := S1024x1024) hz, View.ld_unit_zero (S := S1024x512) hz]
  match b with
  | ⟨0, hb⟩ =>
    refine (canon_ncol (R := 1024) (N := 3072) 2560 _ _ _ k _ (by left; show 512 * 0 + j.val < 2560; omega)).trans ?_
    refine (canon_ncol (R := 1024) (N := 3072) 2048 _ _ _ k _ (by left; show 512 * 0 + j.val < 2048; omega)).trans ?_
    refine (canon_ncol (R := 1024) (N := 3072) 1536 _ _ _ k _ (by left; show 512 * 0 + j.val < 1536; omega)).trans ?_
    refine (canon_ncol (R := 1024) (N := 3072) 1024 _ _ _ k _ (by left; show 512 * 0 + j.val < 1024; omega)).trans ?_
    refine (canon_ncol (R := 1024) (N := 3072) 512 _ _ _ k _ (by left; show 512 * 0 + j.val < 512; omega)).trans ?_
    refine (canon_col (R := 1024) (N := 3072) 0 _ _ _ k _ j (by show 512 * 0 + j.val = 0 + j.val; omega)).trans ?_
    refine (pay6_1 _ _ _ H (fun k j => 0) _ h0 (fun k j => ?_) h1 k j).trans (by simp only [zero_add]; rfl)
    have hj := j.isLt
    refine (readCov_col (R := 1024) (N := 3072) _ _ 0 _ k j (cj ⟨0, hb⟩ j) (by show 512 * 0 + j.val = 0 + j.val; omega)).trans ?_
    exact (congrFun (View.canon_unit_zero (S := S1024x3072) hz _ _) _).trans (pay4_1 k _)
  | ⟨1, hb⟩ =>
    refine (canon_ncol (R := 1024) (N := 3072) 2560 _ _ _ k _ (by left; show 512 * 1 + j.val < 2560; omega)).trans ?_
    refine (canon_ncol (R := 1024) (N := 3072) 2048 _ _ _ k _ (by left; show 512 * 1 + j.val < 2048; omega)).trans ?_
    refine (canon_ncol (R := 1024) (N := 3072) 1536 _ _ _ k _ (by left; show 512 * 1 + j.val < 1536; omega)).trans ?_
    refine (canon_ncol (R := 1024) (N := 3072) 1024 _ _ _ k _ (by left; show 512 * 1 + j.val < 1024; omega)).trans ?_
    refine (canon_col (R := 1024) (N := 3072) 512 _ _ _ k _ j (by show 512 * 1 + j.val = 512 + j.val; omega)).trans ?_
    refine (pay7_1 _ _ _ H (fun k j => 0) _ h0 (fun k j => ?_) h2 k j).trans (by simp only [zero_add]; rfl)
    have hj := j.isLt
    refine (readCov_col (R := 1024) (N := 3072) _ _ 512 _ k j (cj ⟨1, hb⟩ j) (by show 512 * 1 + j.val = 512 + j.val; omega)).trans ?_
    refine (canon_ncol (R := 1024) (N := 3072) 0 _ _ _ k _ (by right; show 0 + 512 ≤ 512 * 1 + j.val; omega)).trans ?_
    exact (congrFun (View.canon_unit_zero (S := S1024x3072) hz _ _) _).trans (pay4_1 k _)
  | ⟨2, hb⟩ =>
    refine (canon_ncol (R := 1024) (N := 3072) 2560 _ _ _ k _ (by left; show 512 * 2 + j.val < 2560; omega)).trans ?_
    refine (canon_ncol (R := 1024) (N := 3072) 2048 _ _ _ k _ (by left; show 512 * 2 + j.val < 2048; omega)).trans ?_
    refine (canon_ncol (R := 1024) (N := 3072) 1536 _ _ _ k _ (by left; show 512 * 2 + j.val < 1536; omega)).trans ?_
    refine (canon_col (R := 1024) (N := 3072) 1024 _ _ _ k _ j (by show 512 * 2 + j.val = 1024 + j.val; omega)).trans ?_
    refine (pay8_1 _ _ _ H (fun k j => 0) _ h0 (fun k j => ?_) h3 k j).trans (by simp only [zero_add]; rfl)
    have hj := j.isLt
    refine (readCov_col (R := 1024) (N := 3072) _ _ 1024 _ k j (cj ⟨2, hb⟩ j) (by show 512 * 2 + j.val = 1024 + j.val; omega)).trans ?_
    refine (canon_ncol (R := 1024) (N := 3072) 512 _ _ _ k _ (by right; show 512 + 512 ≤ 512 * 2 + j.val; omega)).trans ?_
    refine (canon_ncol (R := 1024) (N := 3072) 0 _ _ _ k _ (by right; show 0 + 512 ≤ 512 * 2 + j.val; omega)).trans ?_
    exact (congrFun (View.canon_unit_zero (S := S1024x3072) hz _ _) _).trans (pay4_1 k _)
  | ⟨3, hb⟩ =>
    refine (canon_ncol (R := 1024) (N := 3072) 2560 _ _ _ k _ (by left; show 512 * 3 + j.val < 2560; omega)).trans ?_
    refine (canon_ncol (R := 1024) (N := 3072) 2048 _ _ _ k _ (by left; show 512 * 3 + j.val < 2048; omega)).trans ?_
    refine (canon_col (R := 1024) (N := 3072) 1536 _ _ _ k _ j (by show 512 * 3 + j.val = 1536 + j.val; omega)).trans ?_
    refine (pay1_1 _ _ _ H (fun k j => 0) _ h0 (fun k j => ?_) h4 k j).trans (by simp only [zero_add]; rfl)
    have hj := j.isLt
    refine (readCov_col (R := 1024) (N := 3072) _ _ 1536 _ k j (cj ⟨3, hb⟩ j) (by show 512 * 3 + j.val = 1536 + j.val; omega)).trans ?_
    refine (canon_ncol (R := 1024) (N := 3072) 1024 _ _ _ k _ (by right; show 1024 + 512 ≤ 512 * 3 + j.val; omega)).trans ?_
    refine (canon_ncol (R := 1024) (N := 3072) 512 _ _ _ k _ (by right; show 512 + 512 ≤ 512 * 3 + j.val; omega)).trans ?_
    refine (canon_ncol (R := 1024) (N := 3072) 0 _ _ _ k _ (by right; show 0 + 512 ≤ 512 * 3 + j.val; omega)).trans ?_
    exact (congrFun (View.canon_unit_zero (S := S1024x3072) hz _ _) _).trans (pay4_1 k _)
  | ⟨4, hb⟩ =>
    refine (canon_ncol (R := 1024) (N := 3072) 2560 _ _ _ k _ (by left; show 512 * 4 + j.val < 2560; omega)).trans ?_
    refine (canon_col (R := 1024) (N := 3072) 2048 _ _ _ k _ j (by show 512 * 4 + j.val = 2048 + j.val; omega)).trans ?_
    refine (pay2_1 _ _ _ H (fun k j => 0) _ h0 (fun k j => ?_) h5 k j).trans (by simp only [zero_add]; rfl)
    have hj := j.isLt
    refine (readCov_col (R := 1024) (N := 3072) _ _ 2048 _ k j (cj ⟨4, hb⟩ j) (by show 512 * 4 + j.val = 2048 + j.val; omega)).trans ?_
    refine (canon_ncol (R := 1024) (N := 3072) 1536 _ _ _ k _ (by right; show 1536 + 512 ≤ 512 * 4 + j.val; omega)).trans ?_
    refine (canon_ncol (R := 1024) (N := 3072) 1024 _ _ _ k _ (by right; show 1024 + 512 ≤ 512 * 4 + j.val; omega)).trans ?_
    refine (canon_ncol (R := 1024) (N := 3072) 512 _ _ _ k _ (by right; show 512 + 512 ≤ 512 * 4 + j.val; omega)).trans ?_
    refine (canon_ncol (R := 1024) (N := 3072) 0 _ _ _ k _ (by right; show 0 + 512 ≤ 512 * 4 + j.val; omega)).trans ?_
    exact (congrFun (View.canon_unit_zero (S := S1024x3072) hz _ _) _).trans (pay4_1 k _)
  | ⟨5, hb⟩ =>
    refine (canon_col (R := 1024) (N := 3072) 2560 _ _ _ k _ j (by show 512 * 5 + j.val = 2560 + j.val; omega)).trans ?_
    refine (pay3_1 _ _ _ H (fun k j => 0) _ h0 (fun k j => ?_) h6 k j).trans (by simp only [zero_add]; rfl)
    have hj := j.isLt
    refine (readCov_col (R := 1024) (N := 3072) _ _ 2560 _ k j (cj ⟨5, hb⟩ j) (by show 512 * 5 + j.val = 2560 + j.val; omega)).trans ?_
    refine (canon_ncol (R := 1024) (N := 3072) 2048 _ _ _ k _ (by right; show 2048 + 512 ≤ 512 * 5 + j.val; omega)).trans ?_
    refine (canon_ncol (R := 1024) (N := 3072) 1536 _ _ _ k _ (by right; show 1536 + 512 ≤ 512 * 5 + j.val; omega)).trans ?_
    refine (canon_ncol (R := 1024) (N := 3072) 1024 _ _ _ k _ (by right; show 1024 + 512 ≤ 512 * 5 + j.val; omega)).trans ?_
    refine (canon_ncol (R := 1024) (N := 3072) 512 _ _ _ k _ (by right; show 512 + 512 ≤ 512 * 5 + j.val; omega)).trans ?_
    refine (canon_ncol (R := 1024) (N := 3072) 0 _ _ _ k _ (by right; show 0 + 512 ≤ 512 * 5 + j.val; omega)).trans ?_
    exact (congrFun (View.canon_unit_zero (S := S1024x3072) hz _ _) _).trans (pay4_1 k _)

theorem dw1_B (hc0 : ¬cond1_0 i) (xo7 : Vec Ideal S1024x3072 .f32) (s : Fin 1024 → Fin 3072 → EReal) (hs : ∀ k c, xo7 (ix2 k c) = (s k c : EReal)) (k : Fin 1024) (b : Fin 6) (j : Fin 512) :
    out1_B_7 c i arg1 harg1 arg2 harg2 arg3 harg3 arg4 harg4 arg5 harg5 arg6 harg6 arg7 harg7 arg8 harg8 hc0 x0 x1 x2 x3 x4 x5 x6 xo7 (ix2 k (cj b j)) = ((s k (cj b j) + ∑ p, H k p * Q b p j : EReal) : EReal) := by
  have hj := j.isLt
  unfold out1_B_7
  rw [View.read_writes_eq_canon _ _ _ (cover1_B_7 c i arg1 harg1 arg2 harg2 arg3 harg3 arg4 harg4 arg5 harg5 arg6 harg6 arg7 harg7 arg8 harg8 hc0 x0 x1 x2 x3 x4 x5 x6 xo7)]
  unfold kernelRun1_B
  dsimp only
  sl_unfold_words
  simp only [View.readAt_eq_ld, harg1.read_unread, harg2.read_unread, harg3.read_unread, harg4.read_unread, harg5.read_unread, harg6.read_unread, harg7.read_unread, harg8.read_unread, View.ld_unit_zero (S := S1024x1024) hz, View.ld_unit_zero (S := S1024x512) hz]
  match b with
  | ⟨0, hb⟩ =>
    refine (canon_ncol (R := 1024) (N := 3072) 2560 _ _ _ k _ (by left; show 512 * 0 + j.val < 2560; omega)).trans ?_
    refine (canon_ncol (R := 1024) (N := 3072) 2048 _ _ _ k _ (by left; show 512 * 0 + j.val < 2048; omega)).trans ?_
    refine (canon_ncol (R := 1024) (N := 3072) 1536 _ _ _ k _ (by left; show 512 * 0 + j.val < 1536; omega)).trans ?_
    refine (canon_ncol (R := 1024) (N := 3072) 1024 _ _ _ k _ (by left; show 512 * 0 + j.val < 1024; omega)).trans ?_
    refine (canon_ncol (R := 1024) (N := 3072) 512 _ _ _ k _ (by left; show 512 * 0 + j.val < 512; omega)).trans ?_
    refine (canon_col (R := 1024) (N := 3072) 0 _ _ _ k _ j (by show 512 * 0 + j.val = 0 + j.val; omega)).trans ?_
    exact pay6_1 _ _ _ H (fun k j => s k (cj ⟨0, hb⟩ j)) _ h0 (fun k j => (ld_col (R := 1024) (N := 3072) _ 0 _ k j (cj ⟨0, hb⟩ j) (by show 512 * 0 + j.val = 0 + j.val; omega)).trans (hs _ _)) h1 k j
  | ⟨1, hb⟩ =>
    refine (canon_ncol (R := 1024) (N := 3072) 2560 _ _ _ k _ (by left; show 512 * 1 + j.val < 2560; omega)).trans ?_
    refine (canon_ncol (R := 1024) (N := 3072) 2048 _ _ _ k _ (by left; show 512 * 1 + j.val < 2048; omega)).trans ?_
    refine (canon_ncol (R := 1024) (N := 3072) 1536 _ _ _ k _ (by left; show 512 * 1 + j.val < 1536; omega)).trans ?_
    refine (canon_ncol (R := 1024) (N := 3072) 1024 _ _ _ k _ (by left; show 512 * 1 + j.val < 1024; omega)).trans ?_
    refine (canon_col (R := 1024) (N := 3072) 512 _ _ _ k _ j (by show 512 * 1 + j.val = 512 + j.val; omega)).trans ?_
    exact pay7_1 _ _ _ H (fun k j => s k (cj ⟨1, hb⟩ j)) _ h0 (fun k j => (ld_col (R := 1024) (N := 3072) _ 512 _ k j (cj ⟨1, hb⟩ j) (by show 512 * 1 + j.val = 512 + j.val; omega)).trans (hs _ _)) h2 k j
  | ⟨2, hb⟩ =>
    refine (canon_ncol (R := 1024) (N := 3072) 2560 _ _ _ k _ (by left; show 512 * 2 + j.val < 2560; omega)).trans ?_
    refine (canon_ncol (R := 1024) (N := 3072) 2048 _ _ _ k _ (by left; show 512 * 2 + j.val < 2048; omega)).trans ?_
    refine (canon_ncol (R := 1024) (N := 3072) 1536 _ _ _ k _ (by left; show 512 * 2 + j.val < 1536; omega)).trans ?_
    refine (canon_col (R := 1024) (N := 3072) 1024 _ _ _ k _ j (by show 512 * 2 + j.val = 1024 + j.val; omega)).trans ?_
    exact pay8_1 _ _ _ H (fun k j => s k (cj ⟨2, hb⟩ j)) _ h0 (fun k j => (ld_col (R := 1024) (N := 3072) _ 1024 _ k j (cj ⟨2, hb⟩ j) (by show 512 * 2 + j.val = 1024 + j.val; omega)).trans (hs _ _)) h3 k j
  | ⟨3, hb⟩ =>
    refine (canon_ncol (R := 1024) (N := 3072) 2560 _ _ _ k _ (by left; show 512 * 3 + j.val < 2560; omega)).trans ?_
    refine (canon_ncol (R := 1024) (N := 3072) 2048 _ _ _ k _ (by left; show 512 * 3 + j.val < 2048; omega)).trans ?_
    refine (canon_col (R := 1024) (N := 3072) 1536 _ _ _ k _ j (by show 512 * 3 + j.val = 1536 + j.val; omega)).trans ?_
    exact pay1_1 _ _ _ H (fun k j => s k (cj ⟨3, hb⟩ j)) _ h0 (fun k j => (ld_col (R := 1024) (N := 3072) _ 1536 _ k j (cj ⟨3, hb⟩ j) (by show 512 * 3 + j.val = 1536 + j.val; omega)).trans (hs _ _)) h4 k j
  | ⟨4, hb⟩ =>
    refine (canon_ncol (R := 1024) (N := 3072) 2560 _ _ _ k _ (by left; show 512 * 4 + j.val < 2560; omega)).trans ?_
    refine (canon_col (R := 1024) (N := 3072) 2048 _ _ _ k _ j (by show 512 * 4 + j.val = 2048 + j.val; omega)).trans ?_
    exact pay2_1 _ _ _ H (fun k j => s k (cj ⟨4, hb⟩ j)) _ h0 (fun k j => (ld_col (R := 1024) (N := 3072) _ 2048 _ k j (cj ⟨4, hb⟩ j) (by show 512 * 4 + j.val = 2048 + j.val; omega)).trans (hs _ _)) h5 k j
  | ⟨5, hb⟩ =>
    refine (canon_col (R := 1024) (N := 3072) 2560 _ _ _ k _ j (by show 512 * 5 + j.val = 2560 + j.val; omega)).trans ?_
    exact pay3_1 _ _ _ H (fun k j => s k (cj ⟨5, hb⟩ j)) _ h0 (fun k j => (ld_col (R := 1024) (N := 3072) _ 2560 _ k j (cj ⟨5, hb⟩ j) (by show 512 * 5 + j.val = 2560 + j.val; omega)).trans (hs _ _)) h6 k j

end

theorem N1 (t : Fin cfg1.N) : t.val < 8 := lt_of_lt_of_eq t.isLt N_1
theorem idx1_0 : ∀ t : Fin grid1.N, win1_0.index t 0 = 0 ∧ win1_0.index t 1 = t.val := by decide +kernel
theorem in1_0 (t : Fin cfg1.N) (p : Fin 1024) (k : Fin 1024) :
    (iblk1 V c 0 t : Vec Ideal S1024x1024 .bf16) (ix2 p k) = (V c main_v6_3 : Vec Ideal S1024x8192 .bf16) (ix2 p (chk t.val k)) := by
  have hi := idx1_0 t
  unfold iblk1
  rw [View.read_apply]
  show V c main_v6_3 _ = V c main_v6_3 _
  congr 1
  funext a
  apply Fin.ext
  match a with
  | ⟨0, _⟩ => show win1_0.index t 0 * 1024 + 1 * p.val = p.val; rw [hi.1]; omega
  | ⟨1, _⟩ => show win1_0.index t 1 * 1024 + 1 * k.val = (1024 * t.val + k.val) % 8192; rw [hi.2]; have := k.isLt; have := N1 t; omega
theorem idx1_1 : ∀ t : Fin grid1.N, win1_1.index t 0 = t.val ∧ win1_1.index t 1 = 0 := by decide +kernel
theorem in1_1 (t : Fin cfg1.N) (p : Fin 1024) (k : Fin 512) :
    (iblk1 V c 1 t : Vec Ideal S1024x512 .bf16) (ix2 p k) = (V c main_arg3 : Vec Ideal S8192x512 .bf16) (ix2 (chk t.val p) k) := by
  have hi := idx1_1 t
  unfold iblk1
  rw [View.read_apply]
  show V c main_arg3 _ = V c main_arg3 _
  congr 1
  funext a
  apply Fin.ext
  match a with
  | ⟨0, _⟩ => show win1_1.index t 0 * 1024 + 1 * p.val = (1024 * t.val + p.val) % 8192; rw [hi.1]; have := p.isLt; have := N1 t; omega
  | ⟨1, _⟩ => show win1_1.index t 1 * 512 + 1 * k.val = k.val; rw [hi.2]; omega
theorem idx1_2 : ∀ t : Fin grid1.N, win1_2.index t 0 = t.val ∧ win1_2.index t 1 = 0 := by decide +kernel
theorem in1_2 (t : Fin cfg1.N) (p : Fin 1024) (k : Fin 512) :
    (iblk1 V c 2 t : Vec Ideal S1024x512 .bf16) (ix2 p k) = (V c main_arg4 : Vec Ideal S8192x512 .bf16) (ix2 (chk t.val p) k) := by
  have hi := idx1_2 t
  unfold iblk1
  rw [View.read_apply]
  show V c main_arg4 _ = V c main_arg4 _
  congr 1
  funext a
  apply Fin.ext
  match a with
  | ⟨0, _⟩ => show win1_2.index t 0 * 1024 + 1 * p.val = (1024 * t.val + p.val) % 8192; rw [hi.1]; have := p.isLt; have := N1 t; omega
  | ⟨1, _⟩ => show win1_2.index t 1 * 512 + 1 * k.val = k.val; rw [hi.2]; omega
theorem idx1_3 : ∀ t : Fin grid1.N, win1_3.index t 0 = t.val ∧ win1_3.index t 1 = 0 := by decide +kernel
theorem in1_3 (t : Fin cfg1.N) (p : Fin 1024) (k : Fin 512) :
    (iblk1 V c 3 t : Vec Ideal S1024x512 .bf16) (ix2 p k) = (V c main_arg5 : Vec Ideal S8192x512 .bf16) (ix2 (chk t.val p) k) := by
  have hi := idx1_3 t
  unfold iblk1
  rw [View.read_apply]
  show V c main_arg5 _ = V c main_arg5 _
  congr 1
  funext a
  apply Fin.ext
  match a with
  | ⟨0, _⟩ => show win1_3.index t 0 * 1024 + 1 * p.val = (1024 * t.val + p.val) % 8192; rw [hi.1]; have := p.isLt; have := N1 t; omega
  | ⟨1, _⟩ => show win1_3.index t 1 * 512 + 1 * k.val = k.val; rw [hi.2]; omega
theorem idx1_4 : ∀ t : Fin grid1.N, win1_4.index t 0 = t.val ∧ win1_4.index t 1 = 0 := by decide +kernel
theorem in1_4 (t : Fin cfg1.N) (p : Fin 1024) (k : Fin 512) :
    (iblk1 V c 4 t : Vec Ideal S1024x512 .bf16) (ix2 p k) = (V c main_arg6 : Vec Ideal S8192x512 .bf16) (ix2 (chk t.val p) k) := by
  have hi := idx1_4 t
  unfold iblk1
  rw [View.read_apply]
  show V c main_arg6 _ = V c main_arg6 _
  congr 1
  funext a
  apply Fin.ext
  match a with
  | ⟨0, _⟩ => show win1_4.index t 0 * 1024 + 1 * p.val = (1024 * t.val + p.val) % 8192; rw [hi.1]; have := p.isLt; have := N1 t; omega
  | ⟨1, _⟩ => show win1_4.index t 1 * 512 + 1 * k.val = k.val; rw [hi.2]; omega
theorem idx1_5 : ∀ t : Fin grid1.N, win1_5.index t 0 = t.val ∧ win1_5.index t 1 = 0 := by decide +kernel
theorem in1_5 (t : Fin cfg1.N) (p : Fin 1024) (k : Fin 512) :
    (iblk1 V c 5 t : Vec Ideal S1024x512 .bf16) (ix2 p k) = (V c main_arg7 : Vec Ideal S8192x512 .bf16) (ix2 (chk t.val p) k) := by
  have hi := idx1_5 t
  unfold iblk1
  rw [View.read_apply]
  show V c main_arg7 _ = V c main_arg7 _
  congr 1
  funext a
  apply Fin.ext
  match a with
  | ⟨0, _⟩ => show win1_5.index t 0 * 1024 + 1 * p.val = (1024 * t.val + p.val) % 8192; rw [hi.1]; have := p.isLt; have := N1 t; omega
  | ⟨1, _⟩ => show win1_5.index t 1 * 512 + 1 * k.val = k.val; rw [hi.2]; omega
theorem idx1_6 : ∀ t : Fin grid1.N, win1_6.index t 0 = t.val ∧ win1_6.index t 1 = 0 := by decide +kernel
theorem in1_6 (t : Fin cfg1.N) (p : Fin 1024) (k : Fin 512) :
    (iblk1 V c 6 t : Vec Ideal S1024x512 .bf16) (ix2 p k) = (V c main_arg8 : Vec Ideal S8192x512 .bf16) (ix2 (chk t.val p) k) := by
  have hi := idx1_6 t
  unfold iblk1
  rw [View.read_apply]
  show V c main_arg8 _ = V c main_arg8 _
  congr 1
  funext a
  apply Fin.ext
  match a with
  | ⟨0, _⟩ => show win1_6.index t 0 * 1024 + 1 * p.val = (1024 * t.val + p.val) % 8192; rw [hi.1]; have := p.isLt; have := N1 t; omega
  | ⟨1, _⟩ => show win1_6.index t 1 * 512 + 1 * k.val = k.val; rw [hi.2]; omega

/-- What the first chunks of tokens up to number `m` give a weight. -/
def wsum (D : Args) (m : ℕ) (k : Fin 1024) (c : Fin 3072) : EReal := ∑ q ∈ Finset.range (m + 1), ∑ p : Fin 1024, aH D (chk q p) k * ct D (chk q p) (wcol c)
theorem cj_eta (k : Fin 3072) : k = cj ⟨k.val / 512, by have := k.isLt; omega⟩ ⟨k.val % 512, Nat.mod_lt _ (by norm_num)⟩ :=
  Fin.ext (by show k.val = 512 * (k.val / 512) + k.val % 512; omega)

section
variable (D : Args)
  (hH : ∀ k n, (V c main_v6_3 : Vec Ideal S1024x8192 .bf16) (ix2 k n) = (aH D n k : EReal))
  (hP0 : ∀ n j, (V c main_arg3 : Vec Ideal S8192x512 .bf16) (ix2 n j) = (D.P 0 n j : EReal)) (hP1 : ∀ n j, (V c main_arg4 : Vec Ideal S8192x512 .bf16) (ix2 n j) = (D.P 1 n j : EReal)) (hP2 : ∀ n j, (V c main_arg5 : Vec Ideal S8192x512 .bf16) (ix2 n j) = (D.P 2 n j : EReal)) (hP3 : ∀ n j, (V c main_arg6 : Vec Ideal S8192x512 .bf16) (ix2 n j) = (D.P 3 n j : EReal)) (hP4 : ∀ n j, (V c main_arg7 : Vec Ideal S8192x512 .bf16) (ix2 n j) = (D.P 4 n j : EReal)) (hP5 : ∀ n j, (V c main_arg8 : Vec Ideal S8192x512 .bf16) (ix2 n j) = (D.P 5 n j : EReal))
include hH hP0 hP1 hP2 hP3 hP4 hP5

theorem ptA1 (t : Fin cfg1.N) (h0 : t.val % 8 = 0) (k : Fin 1024) (l : Fin 3072) :
    outsAt1 V c t.val t.isLt (ix2 k l) = (wsum D t.val k l : EReal) := by
  have h1 : t.val = 0 := by have := N1 t; omega
  rw [cj_eta l]
  generalize (⟨l.val / 512, _⟩ : Fin 6) = b
  generalize (⟨l.val % 512, _⟩ : Fin 512) = j
  refine (congrFun (outsAt1_A V c t h0) _).trans ?_
  refine (dw1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t) (fun k p => aH D (chk t.val p) k) (fun b p j => D.P b (chk t.val p) j) (fun k p => (in1_0 V c t k p).trans (hH _ _)) (fun p j => (in1_1 V c t p j).trans (hP0 _ _)) (fun p j => (in1_2 V c t p j).trans (hP1 _ _)) (fun p j => (in1_3 V c t p j).trans (hP2 _ _)) (fun p j => (in1_4 V c t p j).trans (hP3 _ _)) (fun p j => (in1_5 V c t p j).trans (hP4 _ _)) (fun p j => (in1_6 V c t p j).trans (hP5 _ _)) ((hcond1_0 t).mpr h0) k b j).trans ?_
  unfold wsum
  rw [h1]
  simp only [Finset.sum_range_one, ct_wcol, zero_add]

theorem pt1 : ∀ (n : ℕ) (hn : n < cfg1.N) (k : Fin 1024) (l : Fin 3072), outsAt1 V c n hn (ix2 k l) = (wsum D n k l : EReal)
  | 0, hn, k, l => ptA1 V c D hH hP0 hP1 hP2 hP3 hP4 hP5 ⟨0, hn⟩ rfl k l
  | n + 1, hn, k, l => by
    have h0 : ¬(n + 1) % 8 = 0 := by have : n + 1 < 8 := lt_of_lt_of_eq hn N_1; omega
    rw [cj_eta l]
    generalize (⟨l.val / 512, _⟩ : Fin 6) = b
    generalize (⟨l.val % 512, _⟩ : Fin 512) = j
    refine (congrFun (outsAt1_B V c (⟨n + 1, hn⟩ : Fin cfg1.N) h0) _).trans ?_
    refine (dw1_B c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) (ms1_3 (⟨n + 1, hn⟩ : Fin cfg1.N)) (hs1_3 (⟨n + 1, hn⟩ : Fin cfg1.N)) (ms1_4 (⟨n + 1, hn⟩ : Fin cfg1.N)) (hs1_4 (⟨n + 1, hn⟩ : Fin cfg1.N)) (ms1_5 (⟨n + 1, hn⟩ : Fin cfg1.N)) (hs1_5 (⟨n + 1, hn⟩ : Fin cfg1.N)) (ms1_6 (⟨n + 1, hn⟩ : Fin cfg1.N)) (hs1_6 (⟨n + 1, hn⟩ : Fin cfg1.N)) (ms1_7 (⟨n + 1, hn⟩ : Fin cfg1.N)) (hs1_7 (⟨n + 1, hn⟩ : Fin cfg1.N)) (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (iblk1 V c 4 (⟨n + 1, hn⟩ : Fin cfg1.N)) (iblk1 V c 5 (⟨n + 1, hn⟩ : Fin cfg1.N)) (iblk1 V c 6 (⟨n + 1, hn⟩ : Fin cfg1.N)) (fun k p => aH D (chk (⟨n + 1, hn⟩ : Fin cfg1.N).val p) k) (fun b p j => D.P b (chk (⟨n + 1, hn⟩ : Fin cfg1.N).val p) j) (fun k p => (in1_0 V c (⟨n + 1, hn⟩ : Fin cfg1.N) k p).trans (hH _ _)) (fun p j => (in1_1 V c (⟨n + 1, hn⟩ : Fin cfg1.N) p j).trans (hP0 _ _)) (fun p j => (in1_2 V c (⟨n + 1, hn⟩ : Fin cfg1.N) p j).trans (hP1 _ _)) (fun p j => (in1_3 V c (⟨n + 1, hn⟩ : Fin cfg1.N) p j).trans (hP2 _ _)) (fun p j => (in1_4 V c (⟨n + 1, hn⟩ : Fin cfg1.N) p j).trans (hP3 _ _)) (fun p j => (in1_5 V c (⟨n + 1, hn⟩ : Fin cfg1.N) p j).trans (hP4 _ _)) (fun p j => (in1_6 V c (⟨n + 1, hn⟩ : Fin cfg1.N) p j).trans (hP5 _ _)) (fun h => h0 ((hcond1_0 (⟨n + 1, hn⟩ : Fin cfg1.N)).mp h)) _ (wsum D n) (pt1 n (Nat.lt_of_succ_lt hn)) k b j).trans ?_
    unfold wsum
    rw [Finset.sum_range_succ _ (n + 1)]
    simp only [ct_wcol]

theorem end1 (t : Fin cfg1.N) (h : t.val = 7) (k : Fin 1024) (l : Fin 3072) :
    outsAt1 V c t.val t.isLt (ix2 k l) = ((∑ n, aH D n k * ct D n (wcol l) : EReal) : EReal) := by
  refine (pt1 V c D hH hP0 hP1 hP2 hP3 hP4 hP5 t.val t.isLt k l).trans (congrArg (fun r : EReal => (r : EReal)) ?_)
  rw [sum_chk, h, wsum]
omit hH hP0 hP1 hP2 hP3 hP4 hP5 in
theorem idx1_7 : ∀ t : Fin grid1.N, win1_7.index t 0 = 0 ∧ win1_7.index t 1 = 0 := by decide +kernel
theorem fin1_7 : (dat1 V c).arrAt 7 cfg1.N = (fun i : S1024x3072.Idx => ((∑ n, aH D n (i 0) * ct D n (wcol (i 1)) : EReal) : EReal)) :=
  (dat1 V c).arrAt_eq_of_cover 7 (fun i : S1024x3072.Idx => ((∑ n, aH D n (i 0) * ct D n (wcol (i 1)) : EReal) : EReal)) (fun t hf => by
    have h7 := (flush1_7 t).mp hf
    have h8 : t.val = 7 := by have := N1 t; omega
    show (cfg1.win 7).cut (grid1.coords t) ((dat1 V c).after 7 t) = _
    rw [after1_7]
    funext j
    obtain ⟨p, k, rfl⟩ : ∃ (p : Fin 1024) (k : Fin 3072), j = ix2 p k := ⟨j 0, j 1, (ix2_eta j).symm⟩
    have hi := idx1_7 t
    rw [View.read_apply]
    refine (end1 V c D hH hP0 hP1 hP2 hP3 hP4 hP5 t h8 p k).trans ?_
    have e : (((cfg1.win 7).blk t).view.emb (ix2 p k) : S1024x3072.Idx) = ix2 p k := by
      funext a
      apply Fin.ext
      match a with
      | ⟨0, _⟩ => show win1_7.index t 0 * 1024 + 1 * p.val = p.val; rw [hi.1]; omega
      | ⟨1, _⟩ => show win1_7.index t 1 * 3072 + 1 * k.val = k.val; rw [hi.2]; omega
    exact (congrArg (fun i : S1024x3072.Idx => ((∑ n, aH D n (i 0) * ct D n (wcol (i 1)) : EReal) : EReal)) e).symm) fun i => by
    have h0 : (i 0 : Nat) < 1024 := (i 0).isLt
    have h1 : (i 1 : Nat) < 3072 := (i 1).isLt
    have ht : 7 < cfg1.N := by rw [show cfg1.N = 8 from N_1]; omega
    have hi := idx1_7 ⟨7, ht⟩
    refine ⟨⟨7, ht⟩, (flush1_7 _).mpr rfl, ?_⟩
    show i ∈ ((View.whole main_v7).slice (win1_7.rect ⟨7, ht⟩)).set
    rw [View.set_slice_whole, Rect.mem_set_unit]
    intro a
    match a with
    | ⟨0, _⟩ => show win1_7.index ⟨7, ht⟩ 0 * 1024 ≤ (i 0 : Nat) ∧ (i 0 : Nat) < win1_7.index ⟨7, ht⟩ 0 * 1024 + 1024
                rw [hi.1]; omega
    | ⟨1, _⟩ => show win1_7.index ⟨7, ht⟩ 1 * 3072 ≤ (i 1 : Nat) ∧ (i 1 : Nat) < win1_7.index ⟨7, ht⟩ 1 * 3072 + 3072
                rw [hi.2]; omega
end

/-! ## The forget columns -/

section
variable (i : grid2.Coords) (arg1 : Memref sig .tc .vmem S8x1024 .f32) (harg1 : arg1.IsWhole) (arg2 : Memref sig .tc .vmem S1024x1024 .bf16) (harg2 : arg2.IsWhole) (arg3 : Memref sig .tc .vmem S8x1024 .f32) (harg3 : arg3.IsWhole)
  (x0 : Vec Ideal S8x1024 .f32) (x1 : Vec Ideal S1024x1024 .bf16)
theorem dw2_A (hc0 : cond2_0 i) : out2_A_2 c i arg1 harg1 arg2 harg2 arg3 harg3 hc0 x0 x1 = k2_pay2 (k2_pay1 (F := Ideal)) x0 x1 := by
  unfold out2_A_2
  rw [View.read_writes_eq_canon _ _ _ (cover2_A_2 c i arg1 harg1 arg2 harg2 arg3 harg3 hc0 x0 x1)]
  unfold kernelRun2_A
  dsimp only
  sl_unfold_words
  rw [View.canon_cons_unit_zero (S := S8x1024) hz]
  simp only [View.readAt_eq_ld, harg1.read_unread, harg2.read_unread, harg3.read_unread, View.ld_unit_zero (S := S1024x1024) hz, View.ld_unit_zero (S := S8x1024) hz, View.readCov_unit_zero (S := S8x1024) _ hz]
theorem dw2_B (hc0 : ¬cond2_0 i) (xo2 : Vec Ideal S8x1024 .f32) : out2_B_2 c i arg1 harg1 arg2 harg2 arg3 harg3 hc0 x0 x1 xo2 = k2_pay2 xo2 x0 x1 := by
  unfold out2_B_2
  rw [View.read_writes_eq_canon _ _ _ (cover2_B_2 c i arg1 harg1 arg2 harg2 arg3 harg3 hc0 x0 x1 xo2)]
  unfold kernelRun2_B
  dsimp only
  sl_unfold_words
  rw [View.canon_unit_zero (S := S8x1024) hz]
  simp only [View.readAt_eq_ld, harg1.read_unread, harg2.read_unread, harg3.read_unread, View.ld_unit_zero (S := S1024x1024) hz, View.ld_unit_zero (S := S8x1024) hz]
end

theorem N2 (t : Fin cfg2.N) : t.val < 8 := lt_of_lt_of_eq t.isLt N_2
theorem idx2_0 : ∀ t : Fin grid2.N, win2_0.index t 0 = 0 ∧ win2_0.index t 1 = t.val := by decide +kernel
theorem in2_0 (t : Fin cfg2.N) (p : Fin 8) (k : Fin 1024) :
    (iblk2 V c 0 t : Vec Ideal S8x1024 .f32) (ix2 p k) = (V c main_arg9 : Vec Ideal S8x8192 .f32) (ix2 p (chk t.val k)) := by
  have hi := idx2_0 t
  unfold iblk2
  rw [View.read_apply]
  show V c main_arg9 _ = V c main_arg9 _
  congr 1
  funext a
  apply Fin.ext
  match a with
  | ⟨0, _⟩ => show win2_0.index t 0 * 8 + 1 * p.val = p.val; rw [hi.1]; omega
  | ⟨1, _⟩ => show win2_0.index t 1 * 1024 + 1 * k.val = (1024 * t.val + k.val) % 8192; rw [hi.2]; have := k.isLt; have := N2 t; omega
theorem idx2_1 : ∀ t : Fin grid2.N, win2_1.index t 0 = t.val ∧ win2_1.index t 1 = 0 := by decide +kernel
theorem in2_1 (t : Fin cfg2.N) (p : Fin 1024) (k : Fin 1024) :
    (iblk2 V c 1 t : Vec Ideal S1024x1024 .bf16) (ix2 p k) = (V c main_v6_2 : Vec Ideal S8192x1024 .bf16) (ix2 (chk t.val p) k) := by
  have hi := idx2_1 t
  unfold iblk2
  rw [View.read_apply]
  show V c main_v6_2 _ = V c main_v6_2 _
  congr 1
  funext a
  apply Fin.ext
  match a with
  | ⟨0, _⟩ => show win2_1.index t 0 * 1024 + 1 * p.val = (1024 * t.val + p.val) % 8192; rw [hi.1]; have := p.isLt; have := N2 t; omega
  | ⟨1, _⟩ => show win2_1.index t 1 * 1024 + 1 * k.val = k.val; rw [hi.2]; omega

/-- What the first chunks of tokens up to number `m` give a forget weight. -/
def fsum (D : Args) (m : ℕ) (a : Fin 8) (k : Fin 1024) : EReal := ∑ q ∈ Finset.range (m + 1), ∑ p : Fin 1024, D.A (chk q p) a * aH D (chk q p) k

section
variable (D : Args)
  (hA : ∀ a n, (V c main_arg9 : Vec Ideal S8x8192 .f32) (ix2 a n) = (D.A n a : EReal))
  (hH : ∀ n k, (V c main_v6_2 : Vec Ideal S8192x1024 .bf16) (ix2 n k) = (aH D n k : EReal))
include hA hH

theorem add2 (t : Fin cfg2.N) (z : Vec Ideal S8x1024 .f32) (s : Fin 8 → Fin 1024 → EReal) (h : ∀ a k, z (ix2 a k) = (s a k : EReal)) (a : Fin 8) (k : Fin 1024) :
    k2_pay2 z (iblk2 V c 0 t) (iblk2 V c 1 t) (ix2 a k) = ((s a k + ∑ p : Fin 1024, D.A (chk t.val p) a * aH D (chk t.val p) k : EReal) : EReal) :=
  pay2_2 z _ _ s (fun a p => D.A (chk t.val p) a) (fun p k => aH D (chk t.val p) k) h (fun a p => (in2_0 V c t a p).trans (hA _ _)) (fun p k => (in2_1 V c t p k).trans (hH _ _)) a k

theorem ptA2 (t : Fin cfg2.N) (h0 : t.val % 8 = 0) (a : Fin 8) (k : Fin 1024) :
    outsAt2 V c t.val t.isLt (ix2 a k) = (fsum D t.val a k : EReal) := by
  have h1 : t.val = 0 := by have := N2 t; omega
  refine (congrFun ((outsAt2_A V c t h0).trans (dw2_A c (grid2.coords t) (ms2_0 t) (hs2_0 t) (ms2_1 t) (hs2_1 t) (ms2_2 t) (hs2_2 t) (iblk2 V c 0 t) (iblk2 V c 1 t) ((hcond2_0 t).mpr h0))) _).trans ?_
  refine (add2 V c D hA hH t _ (fun _ _ => 0) pay1_2 a k).trans ?_
  unfold fsum
  rw [h1]
  simp only [Finset.sum_range_one, zero_add]

theorem pt2 : ∀ (n : ℕ) (hn : n < cfg2.N) (a : Fin 8) (k : Fin 1024), outsAt2 V c n hn (ix2 a k) = (fsum D n a k : EReal)
  | 0, hn, a, k => ptA2 V c D hA hH ⟨0, hn⟩ rfl a k
  | n + 1, hn, a, k => by
    have h0 : ¬(n + 1) % 8 = 0 := by have : n + 1 < 8 := lt_of_lt_of_eq hn N_2; omega
    refine (congrFun ((outsAt2_B V c (⟨n + 1, hn⟩ : Fin cfg2.N) h0).trans (dw2_B c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (iblk2 V c 0 (⟨n + 1, hn⟩ : Fin cfg2.N)) (iblk2 V c 1 (⟨n + 1, hn⟩ : Fin cfg2.N)) (fun h => h0 ((hcond2_0 (⟨n + 1, hn⟩ : Fin cfg2.N)).mp h)) _)) _).trans ?_
    refine (add2 V c D hA hH (⟨n + 1, hn⟩ : Fin cfg2.N) _ (fsum D n) (pt2 n (Nat.lt_of_succ_lt hn)) a k).trans ?_
    unfold fsum
    rw [Finset.sum_range_succ _ (n + 1)]

theorem end2 (t : Fin cfg2.N) (h : t.val = 7) (a : Fin 8) (k : Fin 1024) :
    outsAt2 V c t.val t.isLt (ix2 a k) = ((∑ n, D.A n a * aH D n k : EReal) : EReal) := by
  refine (pt2 V c D hA hH t.val t.isLt a k).trans (congrArg (fun r : EReal => (r : EReal)) ?_)
  rw [sum_chk, h, fsum]
omit hA hH in
theorem idx2_2 : ∀ t : Fin grid2.N, win2_2.index t 0 = 0 ∧ win2_2.index t 1 = 0 := by decide +kernel
theorem fin2_2 : (dat2 V c).arrAt 2 cfg2.N = (fun i : S8x1024.Idx => ((∑ n, D.A n (i 0) * aH D n (i 1) : EReal) : EReal)) :=
  (dat2 V c).arrAt_eq_of_cover 2 (fun i : S8x1024.Idx => ((∑ n, D.A n (i 0) * aH D n (i 1) : EReal) : EReal)) (fun t hf => by
    have h7 := (flush2_2 t).mp hf
    have h8 : t.val = 7 := by have := N2 t; omega
    show (cfg2.win 2).cut (grid2.coords t) ((dat2 V c).after 2 t) = _
    rw [after2_2]
    funext j
    obtain ⟨p, k, rfl⟩ : ∃ (p : Fin 8) (k : Fin 1024), j = ix2 p k := ⟨j 0, j 1, (ix2_eta j).symm⟩
    have hi := idx2_2 t
    rw [View.read_apply]
    refine (end2 V c D hA hH t h8 p k).trans ?_
    have e : (((cfg2.win 2).blk t).view.emb (ix2 p k) : S8x1024.Idx) = ix2 p k := by
      funext a
      apply Fin.ext
      match a with
      | ⟨0, _⟩ => show win2_2.index t 0 * 8 + 1 * p.val = p.val; rw [hi.1]; omega
      | ⟨1, _⟩ => show win2_2.index t 1 * 1024 + 1 * k.val = k.val; rw [hi.2]; omega
    exact (congrArg (fun i : S8x1024.Idx => ((∑ n, D.A n (i 0) * aH D n (i 1) : EReal) : EReal)) e).symm) fun i => by
    have h0 : (i 0 : Nat) < 8 := (i 0).isLt
    have h1 : (i 1 : Nat) < 1024 := (i 1).isLt
    have ht : 7 < cfg2.N := by rw [show cfg2.N = 8 from N_2]; omega
    have hi := idx2_2 ⟨7, ht⟩
    refine ⟨⟨7, ht⟩, (flush2_2 _).mpr rfl, ?_⟩
    show i ∈ ((View.whole main_v8).slice (win2_2.rect ⟨7, ht⟩)).set
    rw [View.set_slice_whole, Rect.mem_set_unit]
    intro a
    match a with
    | ⟨0, _⟩ => show win2_2.index ⟨7, ht⟩ 0 * 8 ≤ (i 0 : Nat) ∧ (i 0 : Nat) < win2_2.index ⟨7, ht⟩ 0 * 8 + 8
                rw [hi.1]; omega
    | ⟨1, _⟩ => show win2_2.index ⟨7, ht⟩ 1 * 1024 ≤ (i 1 : Nat) ∧ (i 1 : Nat) < win2_2.index ⟨7, ht⟩ 1 * 1024 + 1024
                rw [hi.2]; omega
end

end Cert.Kernel3Ideal.Inp
-- ==== Proof.InpCat.lean ====
/- Arrays set side by side, read at a column. -/
module

public import Idealize.ShloMosaic.Lib.Pointwise
public import Idealize.ShloMosaic.Lib.Pipeline.Value

@[expose] public section

namespace Cert.Inp

open Idealize.ShloMosaic

/-- Column `c` of arrays set side by side is column `j` of the array it falls in, `pre` columns lying before that one. -/
theorem cat_col {α : Type} {R N n : ℕ} (xs : List ((s : Shape) × (s.Idx → α))) (h : Shape.Concatenates (xs.map (·.1)) (⟨2, ![R, N]⟩ : Shape) 1)
    (k : ℕ) (hk : k < xs.length) (x : (⟨2, ![R, n]⟩ : Shape).Idx → α) (hx : xs[k] = ⟨(⟨2, ![R, n]⟩ : Shape), x⟩) (pre : ℕ)
    (hpre : (((xs.take k).map (·.1)).map fun s => if h : s.rank = (⟨2, ![R, N]⟩ : Shape).rank then s.size ((1 : Fin 2).cast h.symm) else 0).sum = pre)
    (r : Fin R) (c : Fin N) (j : Fin n) (e : pre + j.val = c.val) :
    concatenate (⟨2, ![R, N]⟩ : Shape) 1 xs h (ix2 r c) = x (ix2 r j) :=
  concatenate_apply_piece 1 xs h (ix2 r c) k hk _ x hx rfl pre hpre (ix2 r j)
    (fun b hb => match b, hb with
      | ⟨0, _⟩, _ => rfl
      | ⟨1, _⟩, hb => absurd rfl hb) e

end Cert.Inp
-- ==== Proof.InpHost.lean ====
/- The input projection's host lines, read at an index. -/
module

public import proofs.«01_k».proof.Proof.InpBody
public import proofs.«01_k».proof.Proof.InpCat

@[expose] public section

set_option maxRecDepth 16384

noncomputable section

namespace Cert.Kernel3Ideal.Inp

open Cert.Kernel3Ideal Cert.Kernel3Ideal.Gen Cert.Inp Idealize.ShloMosaic Idealize.ShloMosaic.TcCoe Idealize.ShloMosaic.StableHlo Idealize.SL.Sem

variable (X : Valuation τ sig (Elt Idealize.ShloMosaic.Ideal))

theorem host0_v3 (x : Vec Ideal S1024x3080 .f32) (hx : X (Proc.devRef .tc main_arg2) = x) (k : Fin 1024) (c : Fin 3072) :
    (StableHlo.after (hostOps0 (F := Ideal)) X (Proc.devRef .tc main_v3) : Vec Ideal S1024x3072 .bf16) (ix2 k c) = x (ix2 k (wcol c)) := by
  have e : StableHlo.after (hostOps0 (F := Ideal)) X (Proc.devRef .tc main_v3) =
      (concatenate S1024x3072 1 [⟨S1024x1536, (extractStridedSlice S1024x1536 ![0, 0] (truncf (F := Ideal) .bf16 x bitsLt_bf16_f32) slices_S1024x3080_S1024x1536_0_0 : Vec Ideal S1024x1536 .bf16)⟩,
        ⟨S1024x1536, (extractStridedSlice S1024x1536 ![0, 1544] (truncf (F := Ideal) .bf16 x bitsLt_bf16_f32) slices_S1024x3080_S1024x1536_0_1544 : Vec Ideal S1024x1536 .bf16)⟩]
        concatenates_S1024x1536_S1024x1536_S1024x3072_d1 : Vec Ideal S1024x3072 .bf16) := by
    subst hx
    unfold hostOps0; after_results
    try rfl
  rw [e]
  have hc := c.isLt
  by_cases h : c.val < 1536
  · have ew : wcol c = ⟨c.val, by omega⟩ := if_pos h
    rw [ew]
    refine (cat_col (R := 1024) (N := 3072) (n := 1536) _ _ 0 (by simp) _ rfl 0 rfl k c ⟨c.val, h⟩ (by dsimp only; omega)).trans ?_
    pointwise []
  · have ew : wcol c = ⟨c.val + 8, by omega⟩ := if_neg h
    rw [ew]
    refine (cat_col (R := 1024) (N := 3072) (n := 1536) _ _ 1 (by simp) _ rfl 1536 rfl k c ⟨c.val - 1536, by omega⟩ (by dsimp only; omega)).trans ?_
    pointwise []
    exact congrArg x (congrArg (ix2 k) (Fin.ext (by dsimp only; omega)))
theorem host0_v5 (x : Vec Ideal S1024x3080 .f32) (hx : X (Proc.devRef .tc main_arg2) = x) (a : Fin 8) (k : Fin 1024) :
    (StableHlo.after (hostOps0 (F := Ideal)) X (Proc.devRef .tc main_v5) : Vec Ideal S8x1024 .bf16) (ix2 a k) = x (ix2 k (fcol a)) := by
  have e : StableHlo.after (hostOps0 (F := Ideal)) X (Proc.devRef .tc main_v5) =
      (transpose S8x1024 [1, 0] (extractStridedSlice S1024x8 ![0, 1536] (truncf (F := Ideal) .bf16 x bitsLt_bf16_f32) slices_S1024x3080_S1024x8_0_1536) transposes_S1024x8_S8x1024_1_0 : Vec Ideal S8x1024 .bf16) := by
    subst hx
    unfold hostOps0; after_results
    try rfl
  rw [e]
  pointwise []
  try rfl
theorem host3_v9 (x : Vec Ideal S1024x3072 .f32) (hx : X (Proc.devRef .tc main_v7) = x) :
    StableHlo.after (hostOps3 (F := Ideal)) X (Proc.devRef .tc main_v9) = (extractStridedSlice S1024x1536 ![0, 0] x slices_S1024x3072_S1024x1536_0_0 : Vec Ideal S1024x1536 .f32) := by
  subst hx
  unfold hostOps3; after_results
  try rfl
theorem host3_v10 (x : Vec Ideal S8x1024 .f32) (hx : X (Proc.devRef .tc main_v8) = x) :
    StableHlo.after (hostOps3 (F := Ideal)) X (Proc.devRef .tc main_v10) = (transpose S1024x8 [1, 0] x transposes_S8x1024_S1024x8_1_0 : Vec Ideal S1024x8 .f32) := by
  subst hx
  unfold hostOps3; after_results
  try rfl
theorem host3_v11 (x : Vec Ideal S1024x3072 .f32) (hx : X (Proc.devRef .tc main_v7) = x) :
    StableHlo.after (hostOps3 (F := Ideal)) X (Proc.devRef .tc main_v11) = (extractStridedSlice S1024x1536 ![0, 1536] x slices_S1024x3072_S1024x1536_0_1536 : Vec Ideal S1024x1536 .f32) := by
  subst hx
  unfold hostOps3; after_results
  try rfl
theorem host4_v14 (x : Vec Ideal S8x1024 .f32) (hx : X (Proc.devRef .tc main_v12_1) = x) :
    StableHlo.after (hostOps4 (F := Ideal)) X (Proc.devRef .tc main_v14) = (fun i : S1x1024.Idx => x (ix2 0 (i 1)) : Vec Ideal S1x1024 .f32) := by
  have e : StableHlo.after (hostOps4 (F := Ideal)) X (Proc.devRef .tc main_v14) = (extractStridedSlice S1x1024 ![0, 0] x slices_S8x1024_S1x1024_0_0 : Vec Ideal S1x1024 .f32) := by
    subst hx
    unfold hostOps4; after_results
    try rfl
  refine e.trans (funext fun i => ?_)
  obtain ⟨b, rfl⟩ : ∃ b, i = ix2 0 b := ⟨i 1, by rw [← ix2_eta i]; congr 1; exact Subsingleton.elim _ _⟩
  pointwise []
/-- The weights' gradient put together: the six parts' columns around the forget columns. -/
theorem host4_v13 (w : Vec Ideal S1024x3072 .f32) (f : Vec Ideal S8x1024 .f32)
    (h9 : X (Proc.devRef .tc main_v9) = (extractStridedSlice S1024x1536 ![0, 0] w slices_S1024x3072_S1024x1536_0_0 : Vec Ideal S1024x1536 .f32))
    (h10 : X (Proc.devRef .tc main_v10) = (transpose S1024x8 [1, 0] f transposes_S8x1024_S1024x8_1_0 : Vec Ideal S1024x8 .f32))
    (h11 : X (Proc.devRef .tc main_v11) = (extractStridedSlice S1024x1536 ![0, 1536] w slices_S1024x3072_S1024x1536_0_1536 : Vec Ideal S1024x1536 .f32))
    (r : Fin 1024 → Fin 3080 → EReal) (hw : ∀ k c, w (ix2 k c) = r k (wcol c)) (hf : ∀ a k, f (ix2 a k) = r k (fcol a)) (k : Fin 1024) (c : Fin 3080) :
    (StableHlo.after (hostOps4 (F := Ideal)) X (Proc.devRef .tc main_v13) : Vec Ideal S1024x3080 .f32) (ix2 k c) = r k c := by
  have e : StableHlo.after (hostOps4 (F := Ideal)) X (Proc.devRef .tc main_v13) =
      (concatenate S1024x3080 1 [⟨S1024x1536, (extractStridedSlice S1024x1536 ![0, 0] w slices_S1024x3072_S1024x1536_0_0 : Vec Ideal S1024x1536 .f32)⟩,
        ⟨S1024x8, (transpose S1024x8 [1, 0] f transposes_S8x1024_S1024x8_1_0 : Vec Ideal S1024x8 .f32)⟩,
        ⟨S1024x1536, (extractStridedSlice S1024x1536 ![0, 1536] w slices_S1024x3072_S1024x1536_0_1536 : Vec Ideal S1024x1536 .f32)⟩]
        concatenates_S1024x1536_S1024x8_S1024x1536_S1024x3080_d1 : Vec Ideal S1024x3080 .f32) := by
    rw [← h9, ← h10, ← h11]
    unfold hostOps4; after_results
    try rfl
  rw [e]
  have hc := c.isLt
  by_cases h : c.val < 1536
  · refine (cat_col (R := 1024) (N := 3080) (n := 1536) _ _ 0 (by simp) _ rfl 0 rfl k c ⟨c.val, h⟩ (by dsimp only; omega)).trans ?_
    pointwise []
    refine (hw k _).trans (congrArg (r k) ?_)
    exact if_pos (by dsimp only; omega)
  · by_cases h' : c.val < 1544
    · refine (cat_col (R := 1024) (N := 3080) (n := 8) _ _ 1 (by simp) _ rfl 1536 rfl k c ⟨c.val - 1536, by omega⟩ (by dsimp only; omega)).trans ?_
      pointwise []
      refine (hf _ k).trans (congrArg (r k) ?_)
      exact Fin.ext (by show 1536 + (c.val - 1536) = c.val; omega)
    · refine (cat_col (R := 1024) (N := 3080) (n := 1536) _ _ 2 (by simp) _ rfl 1544 rfl k c ⟨c.val - 1544, by omega⟩ (by dsimp only; omega)).trans ?_
      pointwise []
      refine (hw k _).trans (congrArg (r k) ?_)
      exact (if_neg (by dsimp only; omega)).trans (Fin.ext (by dsimp only; omega))

end Cert.Kernel3Ideal.Inp
-- ==== Proof.InpRun.lean ====
/- The input projection's program run whole: what its results hold, in closed form. -/
module

public import proofs.«01_k».proof.Proof.InpFwd
public import proofs.«01_k».proof.Proof.InpBwd
public import proofs.«01_k».proof.Proof.InpDw
public import proofs.«01_k».proof.Proof.InpHost

@[expose] public section

set_option maxRecDepth 16384

noncomputable section

namespace Cert.Kernel3Ideal.Inp

open Cert.Kernel3Ideal Cert.Kernel3Ideal.Gen Cert.Inp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every buffer of the program ends at the last boundary's contents. -/
theorem ends : θ_run (defs (F := Ideal)) (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

/-! ## The results in closed form -/

/-- The arguments on a device are those of `D`, and `U` is what is passed in for the rows' gradient. -/
structure Reads (c : Dev nD) (D : Args) (U : Fin 8192 → Fin 1024 → EReal) : Prop where
  X : ∀ n k, (m ((c : Thread nD τ).loc main_arg0) : Vec Ideal S8192x1024 .f32) (ix2 n k) = (D.X n k : EReal)
  g : ∀ k, (m ((c : Thread nD τ).loc main_arg1) : Vec Ideal S1x1024 .f32) (ix2 0 k) = (D.g k : EReal)
  W : ∀ k j, (m ((c : Thread nD τ).loc main_arg2) : Vec Ideal S1024x3080 .f32) (ix2 k j) = (D.W k j : EReal)
  P0 : ∀ n j, (m ((c : Thread nD τ).loc main_arg3) : Vec Ideal S8192x512 .bf16) (ix2 n j) = (D.P 0 n j : EReal)
  P1 : ∀ n j, (m ((c : Thread nD τ).loc main_arg4) : Vec Ideal S8192x512 .bf16) (ix2 n j) = (D.P 1 n j : EReal)
  P2 : ∀ n j, (m ((c : Thread nD τ).loc main_arg5) : Vec Ideal S8192x512 .bf16) (ix2 n j) = (D.P 2 n j : EReal)
  P3 : ∀ n j, (m ((c : Thread nD τ).loc main_arg6) : Vec Ideal S8192x512 .bf16) (ix2 n j) = (D.P 3 n j : EReal)
  P4 : ∀ n j, (m ((c : Thread nD τ).loc main_arg7) : Vec Ideal S8192x512 .bf16) (ix2 n j) = (D.P 4 n j : EReal)
  P5 : ∀ n j, (m ((c : Thread nD τ).loc main_arg8) : Vec Ideal S8192x512 .bf16) (ix2 n j) = (D.P 5 n j : EReal)
  A : ∀ a n, (m ((c : Thread nD τ).loc main_arg9) : Vec Ideal S8x8192 .f32) (ix2 a n) = (D.A n a : EReal)
  U : ∀ n k, (m ((c : Thread nD τ).loc main_arg10) : Vec Ideal S8192x1024 .f32) (ix2 n k) = U n k

section
variable {m} {c : Dev nD} {D : Args} {U : Fin 8192 → Fin 1024 → EReal} (H : Reads m c D U)
include H

theorem V1_X (n : Fin 8192) (k : Fin 1024) : (V1 m ρ c main_arg0 : Vec Ideal S8192x1024 .f32) (ix2 n k) = (D.X n k : EReal) :=
  (congrFun (W1_args m ρ c main_arg0 (by decide)) (ix2 n k)).trans (H.X n k)
theorem V1_g (k : Fin 1024) : (V1 m ρ c main_arg1 : Vec Ideal S1x1024 .f32) (ix2 0 k) = (D.g k : EReal) :=
  (congrFun (W1_args m ρ c main_arg1 (by decide)) (ix2 0 k)).trans (H.g k)
theorem V1_W (k : Fin 1024) (j : Fin 3072) : (V1 m ρ c main_v3 : Vec Ideal S1024x3072 .bf16) (ix2 k j) = (W1 D k j : EReal) :=
  (host0_v3 (W0 m ρ c) _ rfl k j).trans (H.W k _)
theorem V1_F (a : Fin 8) (k : Fin 1024) : (V1 m ρ c main_v5 : Vec Ideal S8x1024 .bf16) (ix2 a k) = (Wf D k a : EReal) :=
  (host0_v5 (W0 m ρ c) _ rfl a k).trans (H.W k _)

theorem W2_4 : W2 m ρ c (Proc.devRef .tc main_v6_0) = (fun i => ((rP D (i 0) (i 1) : EReal) : EReal) : Vec Ideal S8192x3072 .bf16) :=
  (W2_arr m ρ c 4).trans (fin0_4 (V1 m ρ) c D (V1_X ρ H) (V1_g ρ H) (V1_W ρ H) (V1_F ρ H))
theorem W2_5 : W2 m ρ c (Proc.devRef .tc main_v6_1) = (fun i => ((rF D (i 0) (i 1) : EReal) : EReal) : Vec Ideal S8x8192 .f32) :=
  (W2_arr m ρ c 5).trans (fin0_5 (V1 m ρ) c D (V1_X ρ H) (V1_g ρ H) (V1_W ρ H) (V1_F ρ H))
theorem W2_6 : W2 m ρ c (Proc.devRef .tc main_v6_2) = (fun i => ((aH D (i 0) (i 1) : EReal) : EReal) : Vec Ideal S8192x1024 .bf16) :=
  (W2_arr m ρ c 6).trans (fin0_6 (V1 m ρ) c D (V1_X ρ H) (V1_g ρ H) (V1_W ρ H) (V1_F ρ H))
theorem W2_7 : W2 m ρ c (Proc.devRef .tc main_v6_3) = (fun i => ((aH D (i 1) (i 0) : EReal) : EReal) : Vec Ideal S1024x8192 .bf16) :=
  (W2_arr m ρ c 7).trans (fin0_7 (V1 m ρ) c D (V1_X ρ H) (V1_g ρ H) (V1_W ρ H) (V1_F ρ H))

theorem V2_H (k : Fin 1024) (n : Fin 8192) : (V2 m ρ c main_v6_3 : Vec Ideal S1024x8192 .bf16) (ix2 k n) = (aH D n k : EReal) :=
  congrFun (W2_7 ρ H) (ix2 k n)
theorem V2_P0 (n : Fin 8192) (j : Fin 512) : (V2 m ρ c main_arg3 : Vec Ideal S8192x512 .bf16) (ix2 n j) = (D.P 0 n j : EReal) :=
  (congrFun (W2_args m ρ c main_arg3 (by decide)) (ix2 n j)).trans (H.P0 n j)
theorem V2_P1 (n : Fin 8192) (j : Fin 512) : (V2 m ρ c main_arg4 : Vec Ideal S8192x512 .bf16) (ix2 n j) = (D.P 1 n j : EReal) :=
  (congrFun (W2_args m ρ c main_arg4 (by decide)) (ix2 n j)).trans (H.P1 n j)
theorem V2_P2 (n : Fin 8192) (j : Fin 512) : (V2 m ρ c main_arg5 : Vec Ideal S8192x512 .bf16) (ix2 n j) = (D.P 2 n j : EReal) :=
  (congrFun (W2_args m ρ c main_arg5 (by decide)) (ix2 n j)).trans (H.P2 n j)
theorem V2_P3 (n : Fin 8192) (j : Fin 512) : (V2 m ρ c main_arg6 : Vec Ideal S8192x512 .bf16) (ix2 n j) = (D.P 3 n j : EReal) :=
  (congrFun (W2_args m ρ c main_arg6 (by decide)) (ix2 n j)).trans (H.P3 n j)
theorem V2_P4 (n : Fin 8192) (j : Fin 512) : (V2 m ρ c main_arg7 : Vec Ideal S8192x512 .bf16) (ix2 n j) = (D.P 4 n j : EReal) :=
  (congrFun (W2_args m ρ c main_arg7 (by decide)) (ix2 n j)).trans (H.P4 n j)
theorem V2_P5 (n : Fin 8192) (j : Fin 512) : (V2 m ρ c main_arg8 : Vec Ideal S8192x512 .bf16) (ix2 n j) = (D.P 5 n j : EReal) :=
  (congrFun (W2_args m ρ c main_arg8 (by decide)) (ix2 n j)).trans (H.P5 n j)
theorem W3_7 : W3 m ρ c (Proc.devRef .tc main_v7) = (fun i => ((∑ n, aH D n (i 0) * ct D n (wcol (i 1)) : EReal) : EReal) : Vec Ideal S1024x3072 .f32) :=
  (W3_arr m ρ c 7).trans (fin1_7 (V2 m ρ) c D (V2_H ρ H) (V2_P0 ρ H) (V2_P1 ρ H) (V2_P2 ρ H) (V2_P3 ρ H) (V2_P4 ρ H) (V2_P5 ρ H))
theorem V3_H (n : Fin 8192) (k : Fin 1024) : (V3 m ρ c main_v6_2 : Vec Ideal S8192x1024 .bf16) (ix2 n k) = (aH D n k : EReal) :=
  congrFun ((W3_of m ρ c main_v6_2 (by decide)).trans (W2_6 ρ H)) (ix2 n k)
theorem V3_A (a : Fin 8) (n : Fin 8192) : (V3 m ρ c main_arg9 : Vec Ideal S8x8192 .f32) (ix2 a n) = (D.A n a : EReal) :=
  (congrFun (W3_args m ρ c main_arg9 (by decide)) (ix2 a n)).trans (H.A a n)
theorem W4_2 : W4 m ρ c (Proc.devRef .tc main_v8) = (fun i => ((∑ n, D.A n (i 0) * aH D n (i 1) : EReal) : EReal) : Vec Ideal S8x1024 .f32) :=
  (W4_arr m ρ c 2).trans (fin2_2 (V3 m ρ) c D (V3_A ρ H) (V3_H ρ H))
theorem V5_X (n : Fin 8192) (k : Fin 1024) : (V5 m ρ c main_arg0 : Vec Ideal S8192x1024 .f32) (ix2 n k) = (D.X n k : EReal) :=
  (congrFun (W5_args m ρ c main_arg0 (by decide)) (ix2 n k)).trans (H.X n k)
theorem V5_g (k : Fin 1024) : (V5 m ρ c main_arg1 : Vec Ideal S1x1024 .f32) (ix2 0 k) = (D.g k : EReal) :=
  (congrFun (W5_args m ρ c main_arg1 (by decide)) (ix2 0 k)).trans (H.g k)
theorem V5_U (n : Fin 8192) (k : Fin 1024) : (V5 m ρ c main_arg10 : Vec Ideal S8192x1024 .f32) (ix2 n k) = U n k :=
  (congrFun (W5_args m ρ c main_arg10 (by decide)) (ix2 n k)).trans (H.U n k)
theorem V5_A (a : Fin 8) (n : Fin 8192) : (V5 m ρ c main_arg9 : Vec Ideal S8x8192 .f32) (ix2 a n) = (D.A n a : EReal) :=
  (congrFun (W5_args m ρ c main_arg9 (by decide)) (ix2 a n)).trans (H.A a n)
theorem V5_P0 (n : Fin 8192) (j : Fin 512) : (V5 m ρ c main_arg3 : Vec Ideal S8192x512 .bf16) (ix2 n j) = (D.P 0 n j : EReal) :=
  (congrFun (W5_args m ρ c main_arg3 (by decide)) (ix2 n j)).trans (H.P0 n j)
theorem V5_P1 (n : Fin 8192) (j : Fin 512) : (V5 m ρ c main_arg4 : Vec Ideal S8192x512 .bf16) (ix2 n j) = (D.P 1 n j : EReal) :=
  (congrFun (W5_args m ρ c main_arg4 (by decide)) (ix2 n j)).trans (H.P1 n j)
theorem V5_P2 (n : Fin 8192) (j : Fin 512) : (V5 m ρ c main_arg5 : Vec Ideal S8192x512 .bf16) (ix2 n j) = (D.P 2 n j : EReal) :=
  (congrFun (W5_args m ρ c main_arg5 (by decide)) (ix2 n j)).trans (H.P2 n j)
theorem V5_P3 (n : Fin 8192) (j : Fin 512) : (V5 m ρ c main_arg6 : Vec Ideal S8192x512 .bf16) (ix2 n j) = (D.P 3 n j : EReal) :=
  (congrFun (W5_args m ρ c main_arg6 (by decide)) (ix2 n j)).trans (H.P3 n j)
theorem V5_P4 (n : Fin 8192) (j : Fin 512) : (V5 m ρ c main_arg7 : Vec Ideal S8192x512 .bf16) (ix2 n j) = (D.P 4 n j : EReal) :=
  (congrFun (W5_args m ρ c main_arg7 (by decide)) (ix2 n j)).trans (H.P4 n j)
theorem V5_P5 (n : Fin 8192) (j : Fin 512) : (V5 m ρ c main_arg8 : Vec Ideal S8192x512 .bf16) (ix2 n j) = (D.P 5 n j : EReal) :=
  (congrFun (W5_args m ρ c main_arg8 (by decide)) (ix2 n j)).trans (H.P5 n j)
theorem V5_W (k : Fin 1024) (j : Fin 3072) : (V5 m ρ c main_v3 : Vec Ideal S1024x3072 .bf16) (ix2 k j) = (W1 D k j : EReal) :=
  (congrFun ((W5_of m ρ c main_v3 (by decide)).trans ((W4_of m ρ c main_v3 (by decide)).trans ((W3_of m ρ c main_v3 (by decide)).trans (W2_of m ρ c main_v3 (by decide))))) (ix2 k j)).trans (V1_W ρ H k j)
theorem V5_F (a : Fin 8) (k : Fin 1024) : (V5 m ρ c main_v5 : Vec Ideal S8x1024 .bf16) (ix2 a k) = (Wf D k a : EReal) :=
  (congrFun ((W5_of m ρ c main_v5 (by decide)).trans ((W4_of m ρ c main_v5 (by decide)).trans ((W3_of m ρ c main_v5 (by decide)).trans (W2_of m ρ c main_v5 (by decide))))) (ix2 a k)).trans (V1_F ρ H a k)
theorem W6_12 : W6 m ρ c (Proc.devRef .tc main_v12_0) = (fun i => U (i 0) (i 1) + ((rX D (i 0) (i 1) : EReal) : EReal) : Vec Ideal S8192x1024 .f32) :=
  (W6_arr m ρ c 12).trans (fin3_12 (V5 m ρ) c D (V5_A ρ H) (V5_F ρ H) (V5_W ρ H) (V5_P0 ρ H) (V5_P1 ρ H) (V5_P2 ρ H) (V5_P3 ρ H) (V5_P4 ρ H) (V5_P5 ρ H) (V5_X ρ H) (V5_g ρ H) U (V5_U ρ H))
theorem W6_13 (z : Vec Ideal S8x1024 .f32) (hz : W6 m ρ c (Proc.devRef .tc main_v12_1) = z) (k : Fin 1024) : z (ix2 0 k) = ((rG D k : EReal) : EReal) := by
  subst hz
  exact (congrFun (W6_arr m ρ c 13) (ix2 0 k)).trans (fin3_13 (V5 m ρ) c D (V5_A ρ H) (V5_F ρ H) (V5_W ρ H) (V5_P0 ρ H) (V5_P1 ρ H) (V5_P2 ρ H) (V5_P3 ρ H) (V5_P4 ρ H) (V5_P5 ρ H) (V5_X ρ H) k)

/-! ## The results at the end -/

theorem end_proj : W7 m ρ c (Proc.devRef .tc main_v6_0) = (fun i => ((rP D (i 0) (i 1) : EReal) : EReal) : Vec Ideal S8192x3072 .bf16) :=
  ((W7_of m ρ c main_v6_0 (by decide)).trans ((W6_of m ρ c main_v6_0 (by decide)).trans ((W5_of m ρ c main_v6_0 (by decide)).trans ((W4_of m ρ c main_v6_0 (by decide)).trans (W3_of m ρ c main_v6_0 (by decide)))))).trans (W2_4 ρ H)
theorem end_fa : W7 m ρ c (Proc.devRef .tc main_v6_1) = (fun i => ((rF D (i 0) (i 1) : EReal) : EReal) : Vec Ideal S8x8192 .f32) :=
  ((W7_of m ρ c main_v6_1 (by decide)).trans ((W6_of m ρ c main_v6_1 (by decide)).trans ((W5_of m ρ c main_v6_1 (by decide)).trans ((W4_of m ρ c main_v6_1 (by decide)).trans (W3_of m ρ c main_v6_1 (by decide)))))).trans (W2_5 ρ H)
theorem end_dx : W7 m ρ c (Proc.devRef .tc main_v12_0) = (fun i => U (i 0) (i 1) + ((rX D (i 0) (i 1) : EReal) : EReal) : Vec Ideal S8192x1024 .f32) :=
  (W7_of m ρ c main_v12_0 (by decide)).trans (W6_12 ρ H)
theorem end_dg : W7 m ρ c (Proc.devRef .tc main_v14) = (fun i => ((rG D (i 1) : EReal) : EReal) : Vec Ideal S1x1024 .f32) :=
  (host4_v14 (W6 m ρ c) _ rfl).trans (funext fun i => W6_13 ρ H _ rfl (i 1))
theorem end_dw : W7 m ρ c (Proc.devRef .tc main_v13) = (fun i => ((rW D (i 0) (i 1) : EReal) : EReal) : Vec Ideal S1024x3080 .f32) := by
  have hv7 : W4 m ρ c (Proc.devRef .tc main_v7) = _ := (W4_of m ρ c main_v7 (by decide)).trans (W3_7 ρ H)
  funext i
  obtain ⟨k, l, rfl⟩ : ∃ (k : Fin 1024) (l : Fin 3080), i = ix2 k l := ⟨i 0, i 1, (ix2_eta i).symm⟩
  refine host4_v13 (W6 m ρ c) _ _ ((W6_of m ρ c main_v9 (by decide)).trans (host3_v9 (W4 m ρ c) _ hv7))
    ((W6_of m ρ c main_v10 (by decide)).trans (host3_v10 (W4 m ρ c) _ (W4_2 ρ H)))
    ((W6_of m ρ c main_v11 (by decide)).trans (host3_v11 (W4 m ρ c) _ hv7)) (fun k l => ((rW D k l : EReal) : EReal)) (fun _ _ => rfl) (fun a k => ?_) k l
  refine congrArg (fun r : EReal => (r : EReal)) (Finset.sum_congr rfl fun n _ => ?_)
  show D.A n a * aH D n k = aH D n k * ct D n (fcol a)
  rw [ct_fcol, mul_comm]
end

end Cert.Kernel3Ideal.Inp
-- ==== Proof.InpNorm.lean ====
/- The norm's derivative on the extended reals: the kernel's form and the reference's are equal, whatever the row holds. -/
module

public import proofs.«01_k».proof.Proof.InpMath

@[expose] public section

noncomputable section

namespace Cert.Inp

open Cert.Ffn (eps eps_pos)
open Idealize.ShloMosaic

theorem mul_self_nn (a : EReal) : 0 ≤ a * a := by
  induction a with
  | bot => simp
  | top => simp
  | coe r => rw [← EReal.coe_mul]; exact EReal.coe_nonneg.mpr (mul_self_nonneg r)
theorem div1024 (a : EReal) : Ideal.div a ((1024 : ℝ) : EReal) = a * ((1 / 1024 : ℝ) : EReal) := Ideal.div_coe (by norm_num) a
theorem ms_pos (x : Fin 1024 → EReal) : 0 < ms x := by
  unfold ms
  rw [div1024]
  refine lt_of_lt_of_le (EReal.coe_pos.mpr eps_pos) (le_add_of_nonneg_left (mul_nonneg (Finset.sum_nonneg fun k _ => mul_self_nn _) (EReal.coe_nonneg.mpr (by norm_num))))
/-- A number that is not negative may be taken out of a sum. -/
theorem sum_mul_nn {n : ℕ} (f : Fin n → EReal) {r : ℝ} (hr : 0 ≤ r) : ∑ j, f j * (r : EReal) = (∑ j, f j) * (r : EReal) := by
  induction n with
  | zero => simp
  | succ n ih =>
    rw [Fin.sum_univ_succ, Fin.sum_univ_succ, ih (fun j => f j.succ)]
    exact (EReal.right_distrib_of_nonneg_of_ne_top (EReal.coe_nonneg.mpr hr) (EReal.coe_ne_top r) _ _).symm
/-- The row's cotangent through its norm: as the kernel writes it, and as the two halves of the root's derivative. -/
theorem dnv_eq (x dh g : Fin 1024 → EReal) (k : Fin 1024) : dnv x dh g k =
    dh k * g k * rr x
    + (x k * Ideal.div ((∑ j, x j * (dh j * g j)) * (((-(1 / 2) : ℝ) : EReal) * Ideal.div (rr x) (ms x))) ((1024 : ℝ) : EReal)
      + Ideal.div ((∑ j, x j * (dh j * g j)) * (((-(1 / 2) : ℝ) : EReal) * Ideal.div (rr x) (ms x))) ((1024 : ℝ) : EReal) * x k) := by
  have hp := ms_pos x
  have hS : ∑ j, dh j * g j * xh x j = ∑ j, x j * (dh j * g j) * rr x :=
    Finset.sum_congr rfl fun j _ => by unfold xh; rw [← mul_assoc, mul_comm (dh j * g j)]
  unfold dnv
  rw [hS]
  unfold xh rr
  generalize ms x = q at hp
  simp only [div1024]
  induction q with
  | bot => exact absurd hp (by simp)
  | top => simp [Ideal.div]
  | coe q =>
    have hq : 0 < q := EReal.coe_pos.mp hp
    have hs : √q ≠ 0 := (Real.sqrt_pos.mpr hq).ne'
    have hm := Real.mul_self_sqrt hq.le
    have hr : 0 ≤ (√q)⁻¹ := inv_nonneg.mpr (Real.sqrt_nonneg q)
    rw [Ideal.rsqrt_coe, if_neg hq.le.not_gt, if_neg hq.ne', Ideal.div_coe hq.ne', sum_mul_nn _ hr]
    generalize (∑ j, x j * (dh j * g j)) = S
    generalize dh k * g k = a
    generalize x k = y
    have hr3 : (√q)⁻¹ * ((√q)⁻¹ * ((√q)⁻¹ * (1 / 1024))) = 1 / 2 * ((√q)⁻¹ * (1 / q)) * (1 / 1024) + 1 / 2 * ((√q)⁻¹ * (1 / q)) * (1 / 1024) := by
      rw [← hm]
      field_simp
      rw [Real.sqrt_sq (Real.sqrt_nonneg q)]
      ring
    have hu : 0 ≤ 1 / 2 * ((√q)⁻¹ * (1 / q)) * (1 / 1024) := by positivity
    generalize (√q)⁻¹ = r at hr hr3 hu ⊢
    have e1 : (r : EReal) * (y * r * (S * r * ((1 / 1024 : ℝ) : EReal))) = ((r * (r * (r * (1 / 1024))) : ℝ) : EReal) * (y * S) := by
      simp only [EReal.coe_mul]; ac_rfl
    have e2 : y * (S * (((-(1 / 2) : ℝ) : EReal) * (r * ((1 / q : ℝ) : EReal))) * ((1 / 1024 : ℝ) : EReal))
        = ((1 / 2 * (r * (1 / q)) * (1 / 1024) : ℝ) : EReal) * -(y * S) := by
      rw [mul_neg, ← neg_mul, ← EReal.coe_neg, show -(1 / 2 * (r * (1 / q)) * (1 / 1024)) = -(1 / 2) * (r * (1 / q)) * (1 / 1024) by ring]
      simp only [EReal.coe_mul]; ac_rfl
    rw [mul_comm _ y, e2, sub_eq_add_neg, EReal.left_distrib_of_nonneg_of_ne_top (EReal.coe_nonneg.mpr hr) (EReal.coe_ne_top r), mul_neg, e1, ← mul_neg, hr3,
      EReal.coe_add, EReal.right_distrib_of_nonneg (EReal.coe_nonneg.mpr hu) (EReal.coe_nonneg.mpr hu), mul_comm]

end Cert.Inp
-- ==== Proof.InpRef.lean ====
/- The input projection's reference read at a place, in closed form. -/
module

public import proofs.«01_k».proof.Proof.InpNorm
public import proofs.«01_k».proof.Proof.InpCat
public import proofs.«01_k».proof.Proof.Gen.Reference3Ideal.Run
public import proofs.«01_k».proof.Proof.Gen.Reference3Ideal.Read

@[expose] public section

set_option maxRecDepth 16384

noncomputable section

namespace Cert.Reference3Ideal.Inp

open Cert.Reference3Ideal Cert.Reference3Ideal.Gen Cert.Reference3Ideal.Read Cert.Inp Idealize.ShloMosaic
open Cert.Ffn (eps lit_1024 lit_eps lit_neg_half)

variable (D : Cert.Inp.Args) (x0 : Vec Ideal S8192x1024 .f32) (x1 : Vec Ideal S1x1024 .f32) (x2 : Vec Ideal S1024x3080 .f32) (x3 x4 x5 x6 x7 x8 : Vec Ideal S8192x512 .bf16) (x9 : Vec Ideal S8x8192 .f32)

/-- The reference's arguments but the last are those of `D`. -/
structure Reads : Prop where
  h0 : ∀ i, x0 i = ((D.X (i 0) (i 1) : EReal))
  h1 : ∀ i, x1 i = ((D.g (i 1) : EReal))
  h2 : ∀ i, x2 i = ((D.W (i 0) (i 1) : EReal))
  h3 : ∀ i, x3 i = ((D.P 0 (i 0) (i 1) : EReal))
  h4 : ∀ i, x4 i = ((D.P 1 (i 0) (i 1) : EReal))
  h5 : ∀ i, x5 i = ((D.P 2 (i 0) (i 1) : EReal))
  h6 : ∀ i, x6 i = ((D.P 3 (i 0) (i 1) : EReal))
  h7 : ∀ i, x7 i = ((D.P 4 (i 0) (i 1) : EReal))
  h8 : ∀ i, x8 i = ((D.P 5 (i 0) (i 1) : EReal))
  h9 : ∀ i, x9 i = ((D.A (i 1) (i 0) : EReal))

section
variable {D x0 x1 x2 x3 x4 x5 x6 x7 x8 x9} (H : Reads D x0 x1 x2 x3 x4 x5 x6 x7 x8 x9)

include H in
theorem rv0 (i : S8192x512.Idx) : val_main_v0 (F := Ideal) x3 i = ((D.P 0 (i 0) (i 1) : EReal)) := by
  rw [val_main_v0_apply, H.h3]
  rfl

include H in
theorem rv1 (i : S8192x512.Idx) : val_main_v1 (F := Ideal) x4 i = ((D.P 1 (i 0) (i 1) : EReal)) := by
  rw [val_main_v1_apply, H.h4]
  rfl

include H in
theorem rv2 (i : S8192x512.Idx) : val_main_v2 (F := Ideal) x5 i = ((D.P 2 (i 0) (i 1) : EReal)) := by
  rw [val_main_v2_apply, H.h5]
  rfl

include H in
theorem rv3 (i : S8192x512.Idx) : val_main_v3 (F := Ideal) x6 i = ((D.P 3 (i 0) (i 1) : EReal)) := by
  rw [val_main_v3_apply, H.h6]
  rfl

include H in
theorem rv4 (i : S8192x512.Idx) : val_main_v4 (F := Ideal) x7 i = ((D.P 4 (i 0) (i 1) : EReal)) := by
  rw [val_main_v4_apply, H.h7]
  rfl

include H in
theorem rv5 (i : S8192x512.Idx) : val_main_v5 (F := Ideal) x8 i = ((D.P 5 (i 0) (i 1) : EReal)) := by
  rw [val_main_v5_apply, H.h8]
  rfl

include H in
theorem rv6 (i : S8192x1024.Idx) : val_main_v6 (F := Ideal) x0 i = ((D.X (i 0) (i 1) * D.X (i 0) (i 1) : EReal)) := by
  rw [val_main_v6_apply, H.h0, Ideal.mulf_def]

include H in
theorem rv7 (i : S8192.Idx) : val_main_v7 (F := Ideal) x0 i = ((∑ k, D.X (i 0) k * D.X (i 0) k : EReal)) := by
  rw [val_main_v7_apply, val_main_cst_apply, Ideal.ofBits_def, Ideal.ofBits_zero_f32, zero_add]
  refine (Finset.sum_congr rfl fun k _ => rv6 H _).trans ?_
  rfl

include H in
theorem rv8 (i : S8192x1.Idx) : val_main_v8 (F := Ideal) x0 i = ((∑ k, D.X (i 0) k * D.X (i 0) k : EReal)) := by
  rw [val_main_v8_apply, rv7 H]
  rfl

theorem rv9 (i : S8192x1.Idx) : val_main_v9 (F := Ideal) i = ((((1024 : ℝ) : EReal) : EReal)) := by
  rw [val_main_v9_apply, val_main_cst_0_apply, Ideal.ofBits_def, lit_1024]

include H in
theorem rv10 (i : S8192x1.Idx) : val_main_v10 (F := Ideal) x0 i = ((Ideal.div (∑ k, D.X (i 0) k * D.X (i 0) k) ((1024 : ℝ) : EReal) : EReal)) := by
  rw [val_main_v10_apply, rv8 H, rv9, Ideal.hostDivf_def]

theorem rv11 (i : S8192x1.Idx) : val_main_v11 (F := Ideal) i = ((((eps : ℝ) : EReal) : EReal)) := by
  rw [val_main_v11_apply, val_main_cst_1_apply, Ideal.ofBits_def, lit_eps]

include H in
theorem rv12 (i : S8192x1.Idx) : val_main_v12 (F := Ideal) x0 i = ((ms (D.X (i 0)) : EReal)) := by
  rw [val_main_v12_apply, rv10 H, rv11, Ideal.addf_def]
  rfl

include H in
theorem rv13 (i : S8192x1.Idx) : val_main_v13 (F := Ideal) x0 i = ((rr (D.X (i 0)) : EReal)) := by
  rw [val_main_v13_apply, rv12 H, Ideal.hostUnary_rsqrt_def]
  rfl

include H in
theorem rv14 (i : S8192x1.Idx) : val_main_v14 (F := Ideal) x0 i = ((Ideal.div (rr (D.X (i 0))) (ms (D.X (i 0))) : EReal)) := by
  rw [val_main_v14_apply, rv13 H, rv12 H, Ideal.hostDivf_def]

theorem rv15 (i : S8192x1.Idx) : val_main_v15 (F := Ideal) i = ((((-(1 / 2) : ℝ) : EReal) : EReal)) := by
  rw [val_main_v15_apply, val_main_cst_2_apply, Ideal.ofBits_def, lit_neg_half]

include H in
theorem rv16 (i : S8192x1.Idx) : val_main_v16 (F := Ideal) x0 i = ((((-(1 / 2) : ℝ) : EReal) * Ideal.div (rr (D.X (i 0))) (ms (D.X (i 0))) : EReal)) := by
  rw [val_main_v16_apply, rv15, rv14 H, Ideal.mulf_def]

include H in
theorem rv17 (i : S8192x1024.Idx) : val_main_v17 (F := Ideal) x0 i = ((rr (D.X (i 0)) : EReal)) := by
  rw [val_main_v17_apply, rv13 H]
  rfl

include H in
theorem rv18 (i : S8192x1024.Idx) : val_main_v18 (F := Ideal) x0 i = ((xh (D.X (i 0)) (i 1) : EReal)) := by
  rw [val_main_v18_apply, H.h0, rv17 H, Ideal.mulf_def]
  rfl

include H in
theorem rv19 (i : S8192x1024.Idx) : val_main_v19 (F := Ideal) x1 i = ((D.g (i 1) : EReal)) := by
  rw [val_main_v19_apply, H.h1]
  rfl

include H in
theorem rv20 (i : S8192x1024.Idx) : val_main_v20 (F := Ideal) x0 x1 i = ((aH D (i 0) (i 1) : EReal)) := by
  rw [val_main_v20_apply, rv18 H, rv19 H, Ideal.mulf_def]
  rfl

include H in
theorem rv21 (i : S8192x3080.Idx) : val_main_v21 (F := Ideal) x0 x1 x2 i = ((prw (aH D (i 0)) D.W (i 1) : EReal)) := by
  rw [val_main_v21_apply]
  refine (Finset.sum_congr rfl fun k _ => congrArg₂ (fun p q : EReal => p * q) (rv20 H _) (H.h2 _)).trans ?_
  rfl

include H in
theorem rv22 (i : S8192x512.Idx) : val_main_v22 (F := Ideal) x0 x1 x2 i = ((rP D (i 0) (cj 0 (i 1)) : EReal)) := by
  rw [val_main_v22_apply, rv21 H]
  refine congrArg (fun c : Fin 3080 => (prw (aH D (i 0)) D.W c : EReal)) (Fin.ext ?_)
  have hj : (i 1).val < 512 := (i 1).isLt
  have e : wcol (cj 0 (i 1)) = ⟨0 + (i 1).val, by omega⟩ := (if_pos (by show 512 * 0 + (i 1).val < 1536; omega)).trans (Fin.ext (by show 512 * 0 + (i 1).val = 0 + (i 1).val; omega))
  rw [e]
  show (i 1).val = 0 + (i 1).val
  omega

include H in
theorem rv23 (i : S8192x512.Idx) : val_main_v23 (F := Ideal) x0 x1 x2 i = ((rP D (i 0) (cj 1 (i 1)) : EReal)) := by
  rw [val_main_v23_apply, rv21 H]
  refine congrArg (fun c : Fin 3080 => (prw (aH D (i 0)) D.W c : EReal)) (Fin.ext ?_)
  have hj : (i 1).val < 512 := (i 1).isLt
  have e : wcol (cj 1 (i 1)) = ⟨512 + (i 1).val, by omega⟩ := (if_pos (by show 512 * 1 + (i 1).val < 1536; omega)).trans (Fin.ext (by show 512 * 1 + (i 1).val = 512 + (i 1).val; omega))
  rw [e]

include H in
theorem rv24 (i : S8192x512.Idx) : val_main_v24 (F := Ideal) x0 x1 x2 i = ((rP D (i 0) (cj 2 (i 1)) : EReal)) := by
  rw [val_main_v24_apply, rv21 H]
  refine congrArg (fun c : Fin 3080 => (prw (aH D (i 0)) D.W c : EReal)) (Fin.ext ?_)
  have hj : (i 1).val < 512 := (i 1).isLt
  have e : wcol (cj 2 (i 1)) = ⟨1024 + (i 1).val, by omega⟩ := (if_pos (by show 512 * 2 + (i 1).val < 1536; omega)).trans (Fin.ext (by show 512 * 2 + (i 1).val = 1024 + (i 1).val; omega))
  rw [e]

include H in
theorem rv26 (i : S8192x512.Idx) : val_main_v26 (F := Ideal) x0 x1 x2 i = ((rP D (i 0) (cj 3 (i 1)) : EReal)) := by
  rw [val_main_v26_apply, rv21 H]
  refine congrArg (fun c : Fin 3080 => (prw (aH D (i 0)) D.W c : EReal)) (Fin.ext ?_)
  have hj : (i 1).val < 512 := (i 1).isLt
  have e : wcol (cj 3 (i 1)) = ⟨1544 + (i 1).val, by omega⟩ := (if_neg (by show ¬512 * 3 + (i 1).val < 1536; omega)).trans (Fin.ext (by show 512 * 3 + (i 1).val + 8 = 1544 + (i 1).val; omega))
  rw [e]

include H in
theorem rv27 (i : S8192x512.Idx) : val_main_v27 (F := Ideal) x0 x1 x2 i = ((rP D (i 0) (cj 4 (i 1)) : EReal)) := by
  rw [val_main_v27_apply, rv21 H]
  refine congrArg (fun c : Fin 3080 => (prw (aH D (i 0)) D.W c : EReal)) (Fin.ext ?_)
  have hj : (i 1).val < 512 := (i 1).isLt
  have e : wcol (cj 4 (i 1)) = ⟨2056 + (i 1).val, by omega⟩ := (if_neg (by show ¬512 * 4 + (i 1).val < 1536; omega)).trans (Fin.ext (by show 512 * 4 + (i 1).val + 8 = 2056 + (i 1).val; omega))
  rw [e]

include H in
theorem rv28 (i : S8192x512.Idx) : val_main_v28 (F := Ideal) x0 x1 x2 i = ((rP D (i 0) (cj 5 (i 1)) : EReal)) := by
  rw [val_main_v28_apply, rv21 H]
  refine congrArg (fun c : Fin 3080 => (prw (aH D (i 0)) D.W c : EReal)) (Fin.ext ?_)
  have hj : (i 1).val < 512 := (i 1).isLt
  have e : wcol (cj 5 (i 1)) = ⟨2568 + (i 1).val, by omega⟩ := (if_neg (by show ¬512 * 5 + (i 1).val < 1536; omega)).trans (Fin.ext (by show 512 * 5 + (i 1).val + 8 = 2568 + (i 1).val; omega))
  rw [e]

include H in
theorem rv25 (i : S8192x8.Idx) : val_main_v25 (F := Ideal) x0 x1 x2 i = ((rF D (i 1) (i 0) : EReal)) := by
  rw [val_main_v25_apply, rv21 H]
  rfl

include H in
theorem rv29 (i : S8192x8.Idx) : val_main_v29 (F := Ideal) x9 i = ((D.A (i 0) (i 1) : EReal)) := by
  rw [val_main_v29_apply, H.h9]
  rfl

include H in
theorem rv30 (i : S8192x3080.Idx) : val_main_v30 (F := Ideal) x3 x4 x5 x6 x7 x8 x9 i = ((ct D (i 0) (i 1) : EReal)) := by
  obtain ⟨r, c, rfl⟩ : ∃ r c, i = ix2 r c := ⟨i 0, i 1, (ix2_eta i).symm⟩
  have hc := c.isLt
  unfold val_main_v30
  by_cases h0 : c.val < 512
  · refine (cat_col (R := 8192) (N := 3080) (n := 512) _ _ 0 (by simp) _ rfl 0 rfl r c ⟨c.val - 0, by omega⟩ (by dsimp only; omega)).trans ((rv0 H _).trans ?_)
    exact congrArg (fun z : EReal => z) ((ct_wcol D r 0 ⟨c.val - 0, by omega⟩).symm.trans (congrArg (ct D r) (show wcol (cj 0 ⟨c.val - 0, by omega⟩) = c from (if_pos (by show 512 * 0 + (c.val - 0) < 1536; omega)).trans (Fin.ext (by show 512 * 0 + (c.val - 0) = c.val; omega)))))
  by_cases h1 : c.val < 1024
  · refine (cat_col (R := 8192) (N := 3080) (n := 512) _ _ 1 (by simp) _ rfl 512 rfl r c ⟨c.val - 512, by omega⟩ (by dsimp only; omega)).trans ((rv1 H _).trans ?_)
    exact congrArg (fun z : EReal => z) ((ct_wcol D r 1 ⟨c.val - 512, by omega⟩).symm.trans (congrArg (ct D r) (show wcol (cj 1 ⟨c.val - 512, by omega⟩) = c from (if_pos (by show 512 * 1 + (c.val - 512) < 1536; omega)).trans (Fin.ext (by show 512 * 1 + (c.val - 512) = c.val; omega)))))
  by_cases h2 : c.val < 1536
  · refine (cat_col (R := 8192) (N := 3080) (n := 512) _ _ 2 (by simp) _ rfl 1024 rfl r c ⟨c.val - 1024, by omega⟩ (by dsimp only; omega)).trans ((rv2 H _).trans ?_)
    exact congrArg (fun z : EReal => z) ((ct_wcol D r 2 ⟨c.val - 1024, by omega⟩).symm.trans (congrArg (ct D r) (show wcol (cj 2 ⟨c.val - 1024, by omega⟩) = c from (if_pos (by show 512 * 2 + (c.val - 1024) < 1536; omega)).trans (Fin.ext (by show 512 * 2 + (c.val - 1024) = c.val; omega)))))
  by_cases h3 : c.val < 1544
  · refine (cat_col (R := 8192) (N := 3080) (n := 8) _ _ 3 (by simp) _ rfl 1536 rfl r c ⟨c.val - 1536, by omega⟩ (by dsimp only; omega)).trans ((rv29 H _).trans ?_)
    exact congrArg (fun z : EReal => z) ((ct_fcol D r ⟨c.val - 1536, by omega⟩).symm.trans (congrArg (ct D r) (show fcol (⟨c.val - 1536, by omega⟩ : Fin 8) = c from Fin.ext (by show 1536 + (c.val - 1536) = c.val; omega))))
  by_cases h4 : c.val < 2056
  · refine (cat_col (R := 8192) (N := 3080) (n := 512) _ _ 4 (by simp) _ rfl 1544 rfl r c ⟨c.val - 1544, by omega⟩ (by dsimp only; omega)).trans ((rv3 H _).trans ?_)
    exact congrArg (fun z : EReal => z) ((ct_wcol D r 3 ⟨c.val - 1544, by omega⟩).symm.trans (congrArg (ct D r) (show wcol (cj 3 ⟨c.val - 1544, by omega⟩) = c from (if_neg (by show ¬512 * 3 + (c.val - 1544) < 1536; omega)).trans (Fin.ext (by show 512 * 3 + (c.val - 1544) + 8 = c.val; omega)))))
  by_cases h5 : c.val < 2568
  · refine (cat_col (R := 8192) (N := 3080) (n := 512) _ _ 5 (by simp) _ rfl 2056 rfl r c ⟨c.val - 2056, by omega⟩ (by dsimp only; omega)).trans ((rv4 H _).trans ?_)
    exact congrArg (fun z : EReal => z) ((ct_wcol D r 4 ⟨c.val - 2056, by omega⟩).symm.trans (congrArg (ct D r) (show wcol (cj 4 ⟨c.val - 2056, by omega⟩) = c from (if_neg (by show ¬512 * 4 + (c.val - 2056) < 1536; omega)).trans (Fin.ext (by show 512 * 4 + (c.val - 2056) + 8 = c.val; omega)))))
  refine (cat_col (R := 8192) (N := 3080) (n := 512) _ _ 6 (by simp) _ rfl 2568 rfl r c ⟨c.val - 2568, by omega⟩ (by dsimp only; omega)).trans ((rv5 H _).trans ?_)
  exact congrArg (fun z : EReal => z) ((ct_wcol D r 5 ⟨c.val - 2568, by omega⟩).symm.trans (congrArg (ct D r) (show wcol (cj 5 ⟨c.val - 2568, by omega⟩) = c from (if_neg (by show ¬512 * 5 + (c.val - 2568) < 1536; omega)).trans (Fin.ext (by show 512 * 5 + (c.val - 2568) + 8 = c.val; omega)))))

include H in
theorem rv31 (i : S3080x1024.Idx) : val_main_v31 (F := Ideal) x0 x1 x3 x4 x5 x6 x7 x8 x9 i = ((∑ n, ct D n (i 0) * aH D n (i 1) : EReal)) := by
  rw [val_main_v31_apply]
  refine (Finset.sum_congr rfl fun k _ => congrArg₂ (fun p q : EReal => p * q) (rv30 H _) (rv20 H _)).trans ?_
  rfl

include H in
theorem rv32 (i : S1024x3080.Idx) : val_main_v32 (F := Ideal) x0 x1 x3 x4 x5 x6 x7 x8 x9 i = ((rW D (i 0) (i 1) : EReal)) := by
  rw [val_main_v32_apply, rv31 H]
  refine congrArg (fun z : EReal => z) ?_
  unfold rW
  exact Finset.sum_congr rfl fun n _ => mul_comm _ _

include H in
theorem rv33 (i : S8192x1024.Idx) : val_main_v33 (F := Ideal) x2 x3 x4 x5 x6 x7 x8 x9 i = ((aDh D (i 0) (i 1) : EReal)) := by
  rw [val_main_v33_apply]
  refine (Finset.sum_congr rfl fun k _ => congrArg₂ (fun p q : EReal => p * q) (rv30 H _) (H.h2 _)).trans ?_
  exact aDh_eq D (i 0) (i 1)

include H in
theorem rv34 (i : S8192x1024.Idx) : val_main_v34 (F := Ideal) x0 x2 x3 x4 x5 x6 x7 x8 x9 i = ((aDh D (i 0) (i 1) * xh (D.X (i 0)) (i 1) : EReal)) := by
  rw [val_main_v34_apply, rv18 H, rv33 H, Ideal.mulf_def, mul_comm]

include H in
theorem rv35 (i : S1024.Idx) : val_main_v35 (F := Ideal) x0 x2 x3 x4 x5 x6 x7 x8 x9 i = ((rG D (i 0) : EReal)) := by
  rw [val_main_v35_apply, val_main_cst_3_apply, Ideal.ofBits_def, Ideal.ofBits_zero_f32, zero_add]
  refine (Finset.sum_congr rfl fun k _ => rv34 H _).trans ?_
  rfl

include H in
theorem rv36 (i : S1x1024.Idx) : val_main_v36 (F := Ideal) x0 x2 x3 x4 x5 x6 x7 x8 x9 i = ((rG D (i 1) : EReal)) := by
  rw [val_main_v36_apply, rv35 H]
  refine congrArg (rG D) ?_
  have h0 : (i 0).val < 1 := (i 0).isLt
  apply Fin.ext
  show (i 0).val * 1024 + (i 1).val = (i 1).val
  omega

include H in
theorem rv37 (i : S8192x1024.Idx) : val_main_v37 (F := Ideal) x1 i = ((D.g (i 1) : EReal)) := by
  rw [val_main_v37_apply, H.h1]
  rfl

include H in
theorem rv38 (i : S8192x1024.Idx) : val_main_v38 (F := Ideal) x1 x2 x3 x4 x5 x6 x7 x8 x9 i = ((aDh D (i 0) (i 1) * D.g (i 1) : EReal)) := by
  rw [val_main_v38_apply, rv33 H, rv37 H, Ideal.mulf_def]

include H in
theorem rv39 (i : S8192x1024.Idx) : val_main_v39 (F := Ideal) x0 x1 x2 x3 x4 x5 x6 x7 x8 x9 i = ((D.X (i 0) (i 1) * (aDh D (i 0) (i 1) * D.g (i 1)) : EReal)) := by
  rw [val_main_v39_apply, H.h0, rv38 H, Ideal.mulf_def]

include H in
theorem rv40 (i : S8192.Idx) : val_main_v40 (F := Ideal) x0 x1 x2 x3 x4 x5 x6 x7 x8 x9 i = ((∑ k, D.X (i 0) k * (aDh D (i 0) k * D.g k) : EReal)) := by
  rw [val_main_v40_apply, val_main_cst_4_apply, Ideal.ofBits_def, Ideal.ofBits_zero_f32, zero_add]
  refine (Finset.sum_congr rfl fun k _ => rv39 H _).trans ?_
  rfl

include H in
theorem rv41 (i : S8192x1.Idx) : val_main_v41 (F := Ideal) x0 x1 x2 x3 x4 x5 x6 x7 x8 x9 i = ((∑ k, D.X (i 0) k * (aDh D (i 0) k * D.g k) : EReal)) := by
  rw [val_main_v41_apply, rv40 H]
  have e : idx_main_v41 i 0 = i 0 := by
    have h1 : (i 1).val < 1 := (i 1).isLt
    apply Fin.ext
    show (i 0).val * 1 + (i 1).val = (i 0).val
    omega
  rw [e]

include H in
theorem rv42 (i : S8192x1024.Idx) : val_main_v42 (F := Ideal) x0 i = ((rr (D.X (i 0)) : EReal)) := by
  rw [val_main_v42_apply, rv13 H]
  rfl

include H in
theorem rv43 (i : S8192x1024.Idx) : val_main_v43 (F := Ideal) x0 x1 x2 x3 x4 x5 x6 x7 x8 x9 i = ((aDh D (i 0) (i 1) * D.g (i 1) * rr (D.X (i 0)) : EReal)) := by
  rw [val_main_v43_apply, rv38 H, rv42 H, Ideal.mulf_def]

include H in
theorem rv45 (i : S8192x1.Idx) : val_main_v45 (F := Ideal) x0 x1 x2 x3 x4 x5 x6 x7 x8 x9 i = (((∑ k, D.X (i 0) k * (aDh D (i 0) k * D.g k)) * (((-(1 / 2) : ℝ) : EReal) * Ideal.div (rr (D.X (i 0))) (ms (D.X (i 0)))) : EReal)) := by
  rw [val_main_v45_apply, rv41 H, rv16 H, Ideal.mulf_def]

theorem rv46 (i : S8192x1.Idx) : val_main_v46 (F := Ideal) i = ((((1024 : ℝ) : EReal) : EReal)) := by
  rw [val_main_v46_apply, val_main_cst_5_apply, Ideal.ofBits_def, lit_1024]

include H in
theorem rv47 (i : S8192x1.Idx) : val_main_v47 (F := Ideal) x0 x1 x2 x3 x4 x5 x6 x7 x8 x9 i = ((Ideal.div ((∑ k, D.X (i 0) k * (aDh D (i 0) k * D.g k)) * (((-(1 / 2) : ℝ) : EReal) * Ideal.div (rr (D.X (i 0))) (ms (D.X (i 0))))) ((1024 : ℝ) : EReal) : EReal)) := by
  rw [val_main_v47_apply, rv45 H, rv46, Ideal.hostDivf_def]

include H in
theorem rv48 (i : S8192.Idx) : val_main_v48 (F := Ideal) x0 x1 x2 x3 x4 x5 x6 x7 x8 x9 i = ((Ideal.div ((∑ k, D.X (i 0) k * (aDh D (i 0) k * D.g k)) * (((-(1 / 2) : ℝ) : EReal) * Ideal.div (rr (D.X (i 0))) (ms (D.X (i 0))))) ((1024 : ℝ) : EReal) : EReal)) := by
  rw [val_main_v48_apply, val_main_cst_6_apply, Ideal.ofBits_def, Ideal.ofBits_zero_f32, zero_add]
  refine (Finset.sum_congr rfl fun k _ => rv47 H _).trans ?_
  exact Fin.sum_univ_one _

include H in
theorem rv49 (i : S8192x1024.Idx) : val_main_v49 (F := Ideal) x0 x1 x2 x3 x4 x5 x6 x7 x8 x9 i = ((Ideal.div ((∑ k, D.X (i 0) k * (aDh D (i 0) k * D.g k)) * (((-(1 / 2) : ℝ) : EReal) * Ideal.div (rr (D.X (i 0))) (ms (D.X (i 0))))) ((1024 : ℝ) : EReal) : EReal)) := by
  rw [val_main_v49_apply, rv48 H]
  rfl

include H in
theorem rv50 (i : S8192x1024.Idx) : val_main_v50 (F := Ideal) x0 x1 x2 x3 x4 x5 x6 x7 x8 x9 i = ((D.X (i 0) (i 1) * (Ideal.div ((∑ k, D.X (i 0) k * (aDh D (i 0) k * D.g k)) * (((-(1 / 2) : ℝ) : EReal) * Ideal.div (rr (D.X (i 0))) (ms (D.X (i 0))))) ((1024 : ℝ) : EReal)) : EReal)) := by
  rw [val_main_v50_apply, H.h0, rv49 H, Ideal.mulf_def]

include H in
theorem rv52 (i : S8192x1024.Idx) : val_main_v52 (F := Ideal) x0 x1 x2 x3 x4 x5 x6 x7 x8 x9 i = ((Ideal.div ((∑ k, D.X (i 0) k * (aDh D (i 0) k * D.g k)) * (((-(1 / 2) : ℝ) : EReal) * Ideal.div (rr (D.X (i 0))) (ms (D.X (i 0))))) ((1024 : ℝ) : EReal) * D.X (i 0) (i 1) : EReal)) := by
  rw [val_main_v52_apply, rv49 H, H.h0, Ideal.mulf_def]

include H in
theorem rv53 (x10 : Vec Ideal S8192x1024 .f32) (U : Fin 8192 → Fin 1024 → EReal) (hU : ∀ i, x10 i = U (i 0) (i 1)) (i : S8192x1024.Idx) :
    val_main_v53 (F := Ideal) x0 x1 x2 x3 x4 x5 x6 x7 x8 x9 x10 i = U (i 0) (i 1) + (rX D (i 0) (i 1) : EReal) := by
  rw [val_main_v53_apply, val_main_v51_apply, val_main_v44_apply, rv52 H, rv50 H, rv43 H, hU, Ideal.addf_def, Ideal.addf_def, Ideal.addf_def, add_assoc, add_assoc]
  exact congrArg (fun z : EReal => U (i 0) (i 1) + z) (dnv_eq (D.X (i 0)) (aDh D (i 0)) D.g (i 1)).symm

include H in
theorem rv54 (i : S8192x3072.Idx) : val_main_v54 (F := Ideal) x0 x1 x2 i = ((rP D (i 0) (i 1) : EReal)) := by
  obtain ⟨r, c, rfl⟩ : ∃ r c, i = ix2 r c := ⟨i 0, i 1, (ix2_eta i).symm⟩
  have hc := c.isLt
  unfold val_main_v54
  by_cases h0 : c.val < 512
  · refine (cat_col (R := 8192) (N := 3072) (n := 512) _ _ 0 (by simp) _ rfl 0 rfl r c ⟨c.val - 0, by omega⟩ (by dsimp only; omega)).trans ((rv22 H _).trans ?_)
    exact congrArg (fun z : Fin 3072 => (rP D r z : EReal)) (Fin.ext (by show 512 * 0 + (c.val - 0) = c.val; omega))
  by_cases h1 : c.val < 1024
  · refine (cat_col (R := 8192) (N := 3072) (n := 512) _ _ 1 (by simp) _ rfl 512 rfl r c ⟨c.val - 512, by omega⟩ (by dsimp only; omega)).trans ((rv23 H _).trans ?_)
    exact congrArg (fun z : Fin 3072 => (rP D r z : EReal)) (Fin.ext (by show 512 * 1 + (c.val - 512) = c.val; omega))
  by_cases h2 : c.val < 1536
  · refine (cat_col (R := 8192) (N := 3072) (n := 512) _ _ 2 (by simp) _ rfl 1024 rfl r c ⟨c.val - 1024, by omega⟩ (by dsimp only; omega)).trans ((rv24 H _).trans ?_)
    exact congrArg (fun z : Fin 3072 => (rP D r z : EReal)) (Fin.ext (by show 512 * 2 + (c.val - 1024) = c.val; omega))
  by_cases h3 : c.val < 2048
  · refine (cat_col (R := 8192) (N := 3072) (n := 512) _ _ 3 (by simp) _ rfl 1536 rfl r c ⟨c.val - 1536, by omega⟩ (by dsimp only; omega)).trans ((rv26 H _).trans ?_)
    exact congrArg (fun z : Fin 3072 => (rP D r z : EReal)) (Fin.ext (by show 512 * 3 + (c.val - 1536) = c.val; omega))
  by_cases h4 : c.val < 2560
  · refine (cat_col (R := 8192) (N := 3072) (n := 512) _ _ 4 (by simp) _ rfl 2048 rfl r c ⟨c.val - 2048, by omega⟩ (by dsimp only; omega)).trans ((rv27 H _).trans ?_)
    exact congrArg (fun z : Fin 3072 => (rP D r z : EReal)) (Fin.ext (by show 512 * 4 + (c.val - 2048) = c.val; omega))
  refine (cat_col (R := 8192) (N := 3072) (n := 512) _ _ 5 (by simp) _ rfl 2560 rfl r c ⟨c.val - 2560, by omega⟩ (by dsimp only; omega)).trans ((rv28 H _).trans ?_)
  exact congrArg (fun z : Fin 3072 => (rP D r z : EReal)) (Fin.ext (by show 512 * 5 + (c.val - 2560) = c.val; omega))

include H in
theorem rv55 (i : S8192x3072.Idx) : val_main_v55 (F := Ideal) x0 x1 x2 i = ((rP D (i 0) (i 1) : EReal)) := by
  rw [val_main_v55_apply, rv54 H]
  rfl

include H in
theorem rv56 (i : S8x8192.Idx) : val_main_v56 (F := Ideal) x0 x1 x2 i = ((rF D (i 0) (i 1) : EReal)) := by
  rw [val_main_v56_apply, rv25 H]
  rfl

end

end Cert.Reference3Ideal.Inp
-- ==== Proof.InpClaim.lean ====
/- The input projection's training step: its claims. -/
module

public import proofs.«01_k».proof.Defs
public import proofs.«01_k».proof.Proof.Gen.Kernel3.Frame
public import proofs.«01_k».proof.Proof.FfnClaim
public import proofs.«01_k».proof.Proof.InpRun
public import proofs.«01_k».proof.Proof.InpRef

@[expose] public section

set_option maxRecDepth 16384

noncomputable section

namespace Cert.Proof.Inp

open Idealize.ShloMosaic Idealize.SL.Sem
open Cert.Proof.Ffn (row_eta)

theorem frame_kernel : Cert.quiescent_Kernel3 (hKernel3 := Cert.Kernel3.Gen.facts) := fun m ρ _ => Cert.Kernel3.Gen.frame m ρ

theorem frame_ideal : Cert.quiescent_Kernel3Ideal (hKernel3Ideal := Cert.Kernel3Ideal.Gen.facts) :=
  fun m ρ _ => Cert.Kernel3Ideal.Gen.frame m ρ

/-- The reference's arguments are kept, and it declares no semaphore. -/
theorem frame_reference : Cert.quiescent_Reference3Ideal (hReference3Ideal := Cert.Reference3Ideal.Gen.facts) := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

variable (m : (ℓ : Loc Cert.Kernel3Ideal.nD Cert.Kernel3Ideal.τ Cert.Kernel3Ideal.sig) → Buf (Elt Ideal) ℓ)

open Cert.Kernel3Ideal Idealize.ShloMosaic.TcCoe in
/-- A part's cotangent on a device, by number. -/
def part (c : Dev nD) : Fin 6 → Vec Ideal S8192x512 .bf16 :=
  ![m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8)]

open Cert.Kernel3Ideal Idealize.ShloMosaic.TcCoe in
/-- The arguments of a device but the last. -/
def args (c : Dev nD) : Cert.Inp.Args where
  X n k := ((m ((c : Thread nD τ).loc main_arg0) : Vec Ideal S8192x1024 .f32) (ix2 n k))
  g k := ((m ((c : Thread nD τ).loc main_arg1) : Vec Ideal S1x1024 .f32) (ix2 0 k))
  W k j := ((m ((c : Thread nD τ).loc main_arg2) : Vec Ideal S1024x3080 .f32) (ix2 k j))
  P b n j := (part m c b (ix2 n j))
  A n a := ((m ((c : Thread nD τ).loc main_arg9) : Vec Ideal S8x8192 .f32) (ix2 a n))

open Cert.Kernel3Ideal Idealize.ShloMosaic.TcCoe in
/-- The last argument of a device. -/
def last (c : Dev nD) (n : Fin 8192) (k : Fin 1024) : EReal := (m ((c : Thread nD τ).loc main_arg10) : Vec Ideal S8192x1024 .f32) (ix2 n k)

theorem kernel_reads (c : Dev Cert.Kernel3Ideal.nD) :
    Cert.Kernel3Ideal.Inp.Reads m c (args m c) (last m c) := by
  exact ⟨fun _ _ => rfl, fun _ => rfl, fun _ _ => rfl, fun _ _ => rfl, fun _ _ => rfl, fun _ _ => rfl, fun _ _ => rfl, fun _ _ => rfl, fun _ _ => rfl, fun _ _ => rfl, fun _ _ => rfl⟩

open Cert.Kernel3Ideal Idealize.ShloMosaic.TcCoe in
theorem reference_reads (c : Dev nD) :
    Cert.Reference3Ideal.Inp.Reads (args m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have H := kernel_reads m c
  refine ⟨fun i => ?_, fun i => ?_, fun i => ?_, fun i => ?_, fun i => ?_, fun i => ?_, fun i => ?_, fun i => ?_, fun i => ?_, fun i => ?_⟩
  · have e := H.X (i 0) (i 1); rw [ix2_eta] at e; exact e
  · exact (congrArg (m ((c : Thread nD τ).loc main_arg1) : Vec Ideal S1x1024 .f32) (row_eta i)).trans (H.g (i 1))
  · have e := H.W (i 0) (i 1); rw [ix2_eta] at e; exact e
  · have e := H.P0 (i 0) (i 1); rw [ix2_eta] at e; exact e
  · have e := H.P1 (i 0) (i 1); rw [ix2_eta] at e; exact e
  · have e := H.P2 (i 0) (i 1); rw [ix2_eta] at e; exact e
  · have e := H.P3 (i 0) (i 1); rw [ix2_eta] at e; exact e
  · have e := H.P4 (i 0) (i 1); rw [ix2_eta] at e; exact e
  · have e := H.P5 (i 0) (i 1); rw [ix2_eta] at e; exact e
  · have e := H.A (i 0) (i 1); rw [ix2_eta] at e; exact e

theorem algebraic : Cert.algebraic_Kernel3Ideal_Reference3Ideal (hKernel3Ideal := Cert.Kernel3Ideal.Gen.facts)
    (hReference3Ideal := Cert.Reference3Ideal.Gen.facts) := by
  intro m ρ m' ρ' _ hag
  refine ⟨fun c => (fun i => ((Cert.Inp.rP (args m c) (i 0) (i 1) : EReal))), fun c => (fun i => ((Cert.Inp.rF (args m c) (i 0) (i 1) : EReal))),
    fun c => (fun i => last m c (i 0) (i 1) + ((Cert.Inp.rX (args m c) (i 0) (i 1) : EReal))), fun c => (fun i => ((Cert.Inp.rG (args m c) (i 1) : EReal))),
    fun c => (fun i => ((Cert.Inp.rW (args m c) (i 0) (i 1) : EReal))), ?_, ?_⟩
  · refine (θ_run Cert.Kernel3Ideal.defs _ _).mono (fun r h c => ?_) (Cert.Kernel3Ideal.Inp.ends m ρ)
    have H := kernel_reads m c
    have hm := fun b hb => h c _ (Cert.Kernel3Ideal.Gen.mem_uc b hb)
    exact ⟨(hm Cert.Kernel3Ideal.main_v6_0 (by decide)).trans (Cert.Kernel3Ideal.Inp.end_proj ρ H),
      (hm Cert.Kernel3Ideal.main_v6_1 (by decide)).trans (Cert.Kernel3Ideal.Inp.end_fa ρ H),
      (hm Cert.Kernel3Ideal.main_v12_0 (by decide)).trans (Cert.Kernel3Ideal.Inp.end_dx ρ H),
      (hm Cert.Kernel3Ideal.main_v14 (by decide)).trans (Cert.Kernel3Ideal.Inp.end_dg ρ H),
      (hm Cert.Kernel3Ideal.main_v13 (by decide)).trans (Cert.Kernel3Ideal.Inp.end_dw ρ H),
      (hm Cert.Kernel3Ideal.main_arg0 (by decide)).trans (Cert.Kernel3Ideal.Gen.W7_main_arg0 m ρ c),
      (hm Cert.Kernel3Ideal.main_arg1 (by decide)).trans (Cert.Kernel3Ideal.Gen.W7_main_arg1 m ρ c),
      (hm Cert.Kernel3Ideal.main_arg2 (by decide)).trans (Cert.Kernel3Ideal.Gen.W7_main_arg2 m ρ c),
      (hm Cert.Kernel3Ideal.main_arg3 (by decide)).trans (Cert.Kernel3Ideal.Gen.W7_main_arg3 m ρ c),
      (hm Cert.Kernel3Ideal.main_arg4 (by decide)).trans (Cert.Kernel3Ideal.Gen.W7_main_arg4 m ρ c),
      (hm Cert.Kernel3Ideal.main_arg5 (by decide)).trans (Cert.Kernel3Ideal.Gen.W7_main_arg5 m ρ c),
      (hm Cert.Kernel3Ideal.main_arg6 (by decide)).trans (Cert.Kernel3Ideal.Gen.W7_main_arg6 m ρ c),
      (hm Cert.Kernel3Ideal.main_arg7 (by decide)).trans (Cert.Kernel3Ideal.Gen.W7_main_arg7 m ρ c),
      (hm Cert.Kernel3Ideal.main_arg8 (by decide)).trans (Cert.Kernel3Ideal.Gen.W7_main_arg8 m ρ c),
      (hm Cert.Kernel3Ideal.main_arg9 (by decide)).trans (Cert.Kernel3Ideal.Gen.W7_main_arg9 m ρ c),
      (hm Cert.Kernel3Ideal.main_arg10 (by decide)).trans (Cert.Kernel3Ideal.Gen.W7_main_arg10 m ρ c)⟩
  · refine (θ_run Cert.Reference3Ideal.defs _ _).mono (fun r h c => ?_) (Cert.Reference3Ideal.Value.run (F := Ideal) m' ρ')
    obtain ⟨a0, a1, a2, a3, a4, a5, a6, a7, a8, a9, a10⟩ := hag c
    have H := reference_reads m c
    rw [← a0, ← a1, ← a2, ← a3, ← a4, ← a5, ← a6, ← a7, ← a8, ← a9] at H
    have hU : ∀ i, (m' ((c.tc : Thread Cert.Reference3Ideal.nD Cert.Reference3Ideal.τ).loc Cert.Reference3Ideal.main_arg10) : Vec Ideal Cert.Reference3Ideal.S8192x1024 .f32) i = last m c (i 0) (i 1) := by
      intro i
      rw [a10]
      exact congrArg (m ((c.tc : Thread Cert.Kernel3Ideal.nD Cert.Kernel3Ideal.τ).loc Cert.Kernel3Ideal.main_arg10) : Vec Ideal Cert.Kernel3Ideal.S8192x1024 .f32) (ix2_eta i).symm
    obtain ⟨e0, e1, e2, e3, e4, ek⟩ := h c
    exact ⟨e0.trans ((Cert.Reference3Ideal.Read.val_main_v55_eq m' c).trans (funext fun i => Cert.Reference3Ideal.Inp.rv55 H i)),
      e1.trans ((Cert.Reference3Ideal.Read.val_main_v56_eq _ _ _).trans (funext fun i => Cert.Reference3Ideal.Inp.rv56 H i)),
      e2.trans ((Cert.Reference3Ideal.Read.val_main_v53_eq m' c).trans (funext fun i => Cert.Reference3Ideal.Inp.rv53 H _ (last m c) hU i)),
      e3.trans ((Cert.Reference3Ideal.Read.val_main_v36_eq _ _ _ _ _ _ _ _ _ ).trans (funext fun i => Cert.Reference3Ideal.Inp.rv36 H i)),
      e4.trans ((Cert.Reference3Ideal.Read.val_main_v32_eq _ _ _ _ _ _ _ _ _ ).trans (funext fun i => Cert.Reference3Ideal.Inp.rv32 H i)), ek⟩

end Cert.Proof.Inp
-- ==== Proof.OutMath.lean ====
/- The output projection's training step written over the extended reals, one token at a time. -/
module

public import proofs.«01_k».proof.Proof.InpNorm

@[expose] public section

noncomputable section

namespace Cert.Out

open Cert.Ffn (eps eps_pos)
open Cert.Inp (tok5 sum_tok5 mul_self_nn sum_mul_nn)
open Idealize.ShloMosaic

theorem lit_512 : Ideal.ofBits .f32 0x44000000#32 = ((512 : ℝ) : EReal) := by
  simp [Ideal.ofBits, Ideal.ieee, -EReal.coe_mul]; norm_num

/-- The mean square of a head group's row, the small number added. -/
def ms (x : Fin 512 → EReal) : EReal := Ideal.div (∑ k, x k * x k) ((512 : ℝ) : EReal) + ((eps : ℝ) : EReal)
/-- The reciprocal root mean square. -/
def rr (x : Fin 512 → EReal) : EReal := Ideal.rsqrt (ms x)
/-- The row divided by its root mean square. -/
def xh (x : Fin 512 → EReal) (k : Fin 512) : EReal := x k * rr x
/-- The normalised row. -/
def hh (x g : Fin 512 → EReal) (k : Fin 512) : EReal := xh x k * g k
/-- The row's cotangent from that of its normalisation. -/
def dnv (x dh g : Fin 512 → EReal) (k : Fin 512) : EReal :=
  rr x * (dh k * g k - xh x k * Ideal.div (∑ j, dh j * g j * xh x j) ((512 : ℝ) : EReal))

theorem div512 (a : EReal) : Ideal.div a ((512 : ℝ) : EReal) = a * ((1 / 512 : ℝ) : EReal) := Ideal.div_coe (by norm_num) a
theorem ms_pos (x : Fin 512 → EReal) : 0 < ms x := by
  unfold ms
  rw [div512]
  refine lt_of_lt_of_le (EReal.coe_pos.mpr eps_pos) (le_add_of_nonneg_left (mul_nonneg (Finset.sum_nonneg fun k _ => mul_self_nn _) (EReal.coe_nonneg.mpr (by norm_num))))
/-- The row's cotangent through its norm: as the kernel writes it, and as the two halves of the root's derivative. -/
theorem dnv_eq (x dh g : Fin 512 → EReal) (k : Fin 512) : dnv x dh g k =
    dh k * g k * rr x
    + (x k * Ideal.div ((∑ j, x j * (dh j * g j)) * (((-(1 / 2) : ℝ) : EReal) * Ideal.div (rr x) (ms x))) ((512 : ℝ) : EReal)
      + Ideal.div ((∑ j, x j * (dh j * g j)) * (((-(1 / 2) : ℝ) : EReal) * Ideal.div (rr x) (ms x))) ((512 : ℝ) : EReal) * x k) := by
  have hp := ms_pos x
  have hS : ∑ j, dh j * g j * xh x j = ∑ j, x j * (dh j * g j) * rr x :=
    Finset.sum_congr rfl fun j _ => by unfold xh; rw [← mul_assoc, mul_comm (dh j * g j)]
  unfold dnv
  rw [hS]
  unfold xh rr
  generalize ms x = q at hp
  simp only [div512]
  induction q with
  | bot => exact absurd hp (by simp)
  | top => simp [Ideal.div]
  | coe q =>
    have hq : 0 < q := EReal.coe_pos.mp hp
    have hs : √q ≠ 0 := (Real.sqrt_pos.mpr hq).ne'
    have hm := Real.mul_self_sqrt hq.le
    have hr : 0 ≤ (√q)⁻¹ := inv_nonneg.mpr (Real.sqrt_nonneg q)
    rw [Ideal.rsqrt_coe, if_neg hq.le.not_gt, if_neg hq.ne', Ideal.div_coe hq.ne', sum_mul_nn _ hr]
    generalize (∑ j, x j * (dh j * g j)) = S
    generalize dh k * g k = a
    generalize x k = y
    have hr3 : (√q)⁻¹ * ((√q)⁻¹ * ((√q)⁻¹ * (1 / 512))) = 1 / 2 * ((√q)⁻¹ * (1 / q)) * (1 / 512) + 1 / 2 * ((√q)⁻¹ * (1 / q)) * (1 / 512) := by
      rw [← hm]
      field_simp
      rw [Real.sqrt_sq (Real.sqrt_nonneg q)]
      ring
    have hu : 0 ≤ 1 / 2 * ((√q)⁻¹ * (1 / q)) * (1 / 512) := by positivity
    generalize (√q)⁻¹ = r at hr hr3 hu ⊢
    have e1 : (r : EReal) * (y * r * (S * r * ((1 / 512 : ℝ) : EReal))) = ((r * (r * (r * (1 / 512))) : ℝ) : EReal) * (y * S) := by
      simp only [EReal.coe_mul]; ac_rfl
    have e2 : y * (S * (((-(1 / 2) : ℝ) : EReal) * (r * ((1 / q : ℝ) : EReal))) * ((1 / 512 : ℝ) : EReal))
        = ((1 / 2 * (r * (1 / q)) * (1 / 512) : ℝ) : EReal) * -(y * S) := by
      rw [mul_neg, ← neg_mul, ← EReal.coe_neg, show -(1 / 2 * (r * (1 / q)) * (1 / 512)) = -(1 / 2) * (r * (1 / q)) * (1 / 512) by ring]
      simp only [EReal.coe_mul]; ac_rfl
    rw [mul_comm _ y, e2, sub_eq_add_neg, EReal.left_distrib_of_nonneg_of_ne_top (EReal.coe_nonneg.mpr hr) (EReal.coe_ne_top r), mul_neg, e1, ← mul_neg, hr3,
      EReal.coe_add, EReal.right_distrib_of_nonneg (EReal.coe_nonneg.mpr hu) (EReal.coe_nonneg.mpr hu), mul_comm]

/-- The call's arguments: the two groups' rows and gains, the residual, the weight and the cotangent of the sum. -/
structure Args where
  O : Fin 2 → Fin 8192 → Fin 512 → EReal
  G : Fin 2 → Fin 512 → EReal
  X : Fin 8192 → Fin 1024 → EReal
  W : Fin 1024 → Fin 1024 → EReal
  U : Fin 8192 → Fin 1024 → EReal

/-- Place `j` of group `b` among the 1024. -/
def cw (b : Fin 2) (j : Fin 512) : Fin 1024 := ⟨512 * b.val + j.val, by have := b.isLt; have := j.isLt; omega⟩
theorem cw_eta (k : Fin 1024) : k = cw ⟨k.val / 512, by have := k.isLt; omega⟩ ⟨k.val % 512, Nat.mod_lt _ (by norm_num)⟩ :=
  Fin.ext (by show k.val = 512 * (k.val / 512) + k.val % 512; omega)
theorem cw_div (b : Fin 2) (j : Fin 512) : (⟨(cw b j).val / 512, by have := (cw b j).isLt; omega⟩ : Fin 2) = b :=
  Fin.ext (by have := j.isLt; show (512 * b.val + j.val) / 512 = b.val; omega)
theorem cw_mod (b : Fin 2) (j : Fin 512) : (⟨(cw b j).val % 512, Nat.mod_lt _ (by norm_num)⟩ : Fin 512) = j :=
  Fin.ext (by have := j.isLt; show (512 * b.val + j.val) % 512 = j.val; omega)
/-- A sum over the 1024, group by group. -/
theorem sum_cw (f : Fin 1024 → EReal) : ∑ k, f k = (∑ j, f (cw 0 j)) + ∑ j, f (cw 1 j) := by
  rw [show (∑ k : Fin 1024, f k) = ∑ k : Fin (512 + 512), f k from rfl, Fin.sum_univ_add]
  refine congrArg₂ _ (Finset.sum_congr rfl fun j _ => congrArg f (Fin.ext ?_)) (Finset.sum_congr rfl fun j _ => congrArg f (Fin.ext ?_))
  · show j.val = 512 * 0 + j.val; omega
  · show 512 + j.val = 512 * 1 + j.val; omega

/-- The normalised rows, a group's and both side by side. -/
def aO (D : Args) (b : Fin 2) (n : Fin 8192) : Fin 512 → EReal := hh (D.O b n) (D.G b)
def aC (D : Args) (n : Fin 8192) (k : Fin 1024) : EReal := aO D ⟨k.val / 512, by have := k.isLt; omega⟩ n ⟨k.val % 512, Nat.mod_lt _ (by norm_num)⟩
theorem aC_cw (D : Args) (n : Fin 8192) (b : Fin 2) (j : Fin 512) : aC D n (cw b j) = aO D b n j := by
  unfold aC
  rw [cw_div, cw_mod]
/-- The cotangent of a group's normalised row. -/
def aD (D : Args) (b : Fin 2) (n : Fin 8192) (j : Fin 512) : EReal := ∑ c, D.U n c * D.W (cw b j) c
/-- The results: the sum, the rows' gradients, the gains' and the weight's. -/
def rY (D : Args) (n : Fin 8192) (c : Fin 1024) : EReal := D.X n c + (∑ j, aO D 0 n j * D.W (cw 0 j) c) + ∑ j, aO D 1 n j * D.W (cw 1 j) c
theorem rY_eq (D : Args) (n : Fin 8192) (c : Fin 1024) : D.X n c + ∑ k, aC D n k * D.W k c = rY D n c := by
  rw [sum_cw]
  simp only [aC_cw]
  exact (add_assoc _ _ _).symm
def rO (D : Args) (b : Fin 2) (n : Fin 8192) (j : Fin 512) : EReal := dnv (D.O b n) (aD D b n) (D.G b) j
def rG (D : Args) (b : Fin 2) (j : Fin 512) : EReal := ∑ n, aD D b n j * xh (D.O b n) j
def rW (D : Args) (k c : Fin 1024) : EReal := ∑ n, aC D n k * D.U n c

/-- What block `q` of tokens gives a gain. -/
def gpart (D : Args) (b : Fin 2) (q : ℕ) (j : Fin 512) : EReal :=
  if h : q < 16 then ∑ p : Fin 512, aD D b (tok5 q h p) j * xh (D.O b (tok5 q h p)) j else 0
theorem sum_gpart (D : Args) (b : Fin 2) (j : Fin 512) : ∑ q ∈ Finset.range (15 + 1), gpart D b q j = rG D b j := by
  unfold rG
  rw [sum_tok5, Finset.sum_range]
  refine Finset.sum_congr rfl fun q _ => ?_
  unfold gpart
  rw [dif_pos q.isLt]

end Cert.Out
-- ==== Proof.OutBody.lean ====
/- The output projection's kernel bodies read at an index. -/
module

public import proofs.«01_k».proof.Proof.OutMath
public import proofs.«01_k».proof.Proof.Gen.Kernel4Ideal.Frame
public import Idealize.ShloMosaic.Lib.Pointwise
public import Idealize.ShloMosaic.Lib.Tactic
public import Idealize.ShloMosaic.Lib.Pipeline.ReadBack

@[expose] public section

set_option maxRecDepth 16384

noncomputable section

namespace Cert.Kernel4Ideal.Out

open Cert.Kernel4Ideal Cert.Kernel4Ideal.Gen Cert.Out Idealize.ShloMosaic Idealize.ShloMosaic.TcCoe Idealize.SL.Sem
open Cert.Ffn (eps lit_eps)

theorem hz : (![0, 0] : Fin 2 → Nat) = fun _ => 0 := funext fun a => by fin_cases a <;> rfl

abbrev MO : Type := Vec Ideal S512x512 .f32
abbrev MG : Type := Vec Ideal S1x512 .f32
abbrev MX : Type := Vec Ideal S512x1024 .f32
abbrev MW : Type := Vec Ideal S512x1024 .bf16

/-! ## Blocks of 512 rows -/

section
variable {N : ℕ} {e : EltTy}
theorem canon_row (o : ℕ) (inb) (w : (⟨2, ![512, N]⟩ : Shape).Idx → Elt Ideal e) (L : List (View.Piece (Elt Ideal) (⟨2, ![1024, N]⟩ : Shape) e))
    (k : Fin 1024) (c : Fin N) (j : Fin 512) (h : k.val = o + j.val) :
    View.canon ((⟨Rect.unit (s := (⟨2, ![1024, N]⟩ : Shape)) ![o, 0] ![512, N] inb, w⟩ : View.Piece (Elt Ideal) _ e) :: L) (ix2 k c) = w (ix2 j c) := by
  have e : (ix2 k c : (⟨2, ![1024, N]⟩ : Shape).Idx) = (Rect.unit (s := (⟨2, ![1024, N]⟩ : Shape)) ![o, 0] ![512, N] inb).emb (ix2 j c) := by
    funext a; apply Fin.ext
    match a with
    | ⟨0, _⟩ => show k.val = o + 1 * j.val; omega
    | ⟨1, _⟩ => show c.val = 0 + 1 * c.val; omega
  rw [e]
  exact View.canon_cons_emb _ _ _ _
theorem canon_nrow (o : ℕ) (inb) (w : (⟨2, ![512, N]⟩ : Shape).Idx → Elt Ideal e) (L : List (View.Piece (Elt Ideal) (⟨2, ![1024, N]⟩ : Shape) e))
    (k : Fin 1024) (c : Fin N) (h : k.val < o ∨ o + 512 ≤ k.val) :
    View.canon ((⟨Rect.unit (s := (⟨2, ![1024, N]⟩ : Shape)) ![o, 0] ![512, N] inb, w⟩ : View.Piece (Elt Ideal) _ e) :: L) (ix2 k c) = View.canon L (ix2 k c) := by
  refine View.canon_cons_of_not_mem _ _ fun hm => ?_
  have h1 := (Rect.mem_set_unit (inb := inb).mp hm) (0 : Fin 2)
  have h2 : o ≤ k.val ∧ k.val < o + 512 := h1
  omega
theorem ld_row (X : (⟨2, ![1024, N]⟩ : Shape).Idx → Elt Ideal e) (o : ℕ) (inb) (j : Fin 512) (c : Fin N) (k : Fin 1024) (h : k.val = o + j.val) :
    View.ld X (Rect.unit (s := (⟨2, ![1024, N]⟩ : Shape)) ![o, 0] ![512, N] inb) (ix2 j c) = X (ix2 k c) := by
  have e : (ix2 k c : (⟨2, ![1024, N]⟩ : Shape).Idx) = (Rect.unit (s := (⟨2, ![1024, N]⟩ : Shape)) ![o, 0] ![512, N] inb).emb (ix2 j c) := by
    funext a; apply Fin.ext
    match a with
    | ⟨0, _⟩ => show k.val = o + 1 * j.val; omega
    | ⟨1, _⟩ => show c.val = 0 + 1 * c.val; omega
  exact (congrArg X e).symm
end

/-! ## The projection's body -/

section
variable (o : MO) (v : MG) (x : Fin 512 → Fin 512 → EReal) (g : Fin 512 → EReal)
  (hx : ∀ p k, o (ix2 p k) = x p k) (hg : ∀ k, v (ix2 0 k) = g k)
include hx hg
theorem pay3_0 (p k : Fin 512) : k0_pay3 o v (ix2 p k) = hh (x p) g k := by
  pointwise [k0_pay3]
  simp only [hx, hg, lit_512, lit_eps]
  rfl
theorem pay6_0 (p k : Fin 512) : k0_pay6 o v (ix2 p k) = hh (x p) g k := by
  pointwise [k0_pay6]
  simp only [hx, hg, lit_512, lit_eps]
  rfl
theorem pay4_0 (p k : Fin 512) : k0_pay4 o v (ix2 k p) = hh (x p) g k := by
  pointwise [k0_pay4]
  exact pay3_0 o v x g hx hg p k
theorem pay1_0 (p k : Fin 512) : k0_pay1 (k0_pay6 o v) (ix2 k p) = hh (x p) g k := by
  pointwise [k0_pay1]
  exact pay6_0 o v x g hx hg p k
variable (w : MW) (W : Fin 512 → Fin 1024 → EReal) (hw : ∀ k j, w (ix2 k j) = W k j)
include hw
theorem pay5_0 (z : MX) (p : Fin 512) (c : Fin 1024) : k0_pay5 z o v w (ix2 p c) = z (ix2 p c) + ∑ j, hh (x p) g j * W j c := by
  pointwise [k0_pay5]
  simp only [pay3_0 o v x g hx hg, hw]
theorem pay2_0 (z : MX) (p : Fin 512) (c : Fin 1024) : k0_pay2 z (k0_pay6 o v) w (ix2 p c) = z (ix2 p c) + ∑ j, hh (x p) g j * W j c := by
  pointwise [k0_pay2]
  simp only [pay6_0 o v x g hx hg, hw]
end

/-! ## The weight's gradient: one step -/

theorem pay1_1 (k c : Fin 1024) : k1_pay1 (F := Ideal) (ix2 k c) = (0 : EReal) := by
  pointwise [k1_pay1]
theorem pay2_1 (z : Vec Ideal S1024x1024 .f32) (a : Vec Ideal S1024x1024 .bf16) (b : Vec Ideal S1024x1024 .f32) (s H U : Fin 1024 → Fin 1024 → EReal)
    (hs : ∀ k c, z (ix2 k c) = s k c) (hH : ∀ k p, a (ix2 k p) = H k p) (hU : ∀ p c, b (ix2 p c) = U p c) (k c : Fin 1024) :
    k1_pay2 z a b (ix2 k c) = s k c + ∑ p, H k p * U p c := by
  pointwise [k1_pay2]
  simp only [hs, hH, hU]

/-! ## The backward body -/

section
variable (u : MX) (w : MW) (o : MO) (v : MG) (U : Fin 512 → Fin 1024 → EReal) (W : Fin 512 → Fin 1024 → EReal) (x : Fin 512 → Fin 512 → EReal) (g : Fin 512 → EReal)
  (hu : ∀ p c, u (ix2 p c) = U p c) (hw : ∀ j c, w (ix2 j c) = W j c) (hx : ∀ p k, o (ix2 p k) = x p k) (hg : ∀ k, v (ix2 0 k) = g k)
include hx
theorem pay5_2 (p : Fin 512) (z : Fin 1) : k2_pay5 o (ix2 p z) = rr (x p) := by
  pointwise [k2_pay5]
  simp only [hx, lit_512, lit_eps]
  rfl
theorem pay12_2 (p : Fin 512) (z : Fin 1) : k2_pay12 o (ix2 p z) = rr (x p) := by
  pointwise [k2_pay12]
  simp only [hx, lit_512, lit_eps]
  rfl
theorem pay6_2 (p k : Fin 512) : k2_pay6 o (ix2 p k) = xh (x p) k := by
  pointwise [k2_pay6]
  rw [pay5_2 o x hx, hx]; rfl
theorem pay13_2 (p k : Fin 512) : k2_pay13 o (ix2 p k) = xh (x p) k := by
  pointwise [k2_pay13]
  rw [pay12_2 o x hx, hx]; rfl
include hu hw
omit hx in
theorem pay4_2 (p j : Fin 512) : k2_pay4 u w (ix2 p j) = ∑ c, U p c * W j c := by
  pointwise [k2_pay4, k2_pay3]
  simp only [hu, hw]
omit hx in
theorem pay11_2 (p j : Fin 512) : k2_pay11 (k2_pay3 u) w (ix2 p j) = ∑ c, U p c * W j c := by
  pointwise [k2_pay11, k2_pay3]
  simp only [hu, hw]
theorem pay10_2 (z : MG) (s : Fin 512 → EReal) (hs : ∀ k, z (ix2 0 k) = s k) (k : Fin 512) :
    k2_pay10 (k2_pay8 z) (k2_pay9 u w o) (ix2 0 k) = s k + ∑ p, (∑ c, U p c * W k c) * xh (x p) k := by
  pointwise [k2_pay10, k2_pay8, k2_pay9]
  simp only [pay6_2 o x hx, pay4_2 u w U W hu hw, hs]
theorem pay15_2 (z : MG) (s : Fin 512 → EReal) (hs : ∀ k, z (ix2 0 k) = s k) (k : Fin 512) :
    k2_pay15 (k2_pay3 u) w o z (ix2 0 k) = s k + ∑ p, (∑ c, U p c * W k c) * xh (x p) k := by
  pointwise [k2_pay15]
  simp only [pay13_2 o x hx, pay11_2 u w U W hu hw, hs]
include hg
theorem pay7_2 (p k : Fin 512) : k2_pay7 u w o v (ix2 p k) = dnv (x p) (fun j => ∑ c, U p c * W j c) g k := by
  pointwise [k2_pay7]
  simp only [pay5_2 o x hx, pay6_2 o x hx, pay4_2 u w U W hu hw, hg, lit_512]
  rfl
theorem pay14_2 (p k : Fin 512) : k2_pay14 (k2_pay3 u) w o v (ix2 p k) = dnv (x p) (fun j => ∑ c, U p c * W j c) g k := by
  pointwise [k2_pay14]
  simp only [pay12_2 o x hx, pay13_2 o x hx, pay11_2 u w U W hu hw, hg, lit_512]
  rfl
end
theorem pay1_2 (a : Fin 8) (k : Fin 512) : k2_pay1 (F := Ideal) (ix2 a k) = (0 : EReal) := by
  pointwise [k2_pay1]
theorem pay2_2 (a : Fin 8) (k : Fin 512) : k2_pay2 (F := Ideal) (ix2 a k) = (0 : EReal) := by
  pointwise [k2_pay2]

end Cert.Kernel4Ideal.Out
-- ==== Proof.OutFwd.lean ====
/- The projection call over its grid: the whole arrays it leaves, in closed form. -/
module

public import proofs.«01_k».proof.Proof.OutBody

@[expose] public section

set_option maxRecDepth 16384

noncomputable section

namespace Cert.Kernel4Ideal.Out

open Cert.Kernel4Ideal Cert.Kernel4Ideal.Gen Cert.Out Idealize.ShloMosaic Idealize.ShloMosaic.TcCoe Idealize.SL.Sem
open Cert.Inp (tok5 chk sum_tok5 sum_chk)

variable (V : (c : Dev nD) → (b : Ref sig .tc) → Buf (Elt Idealize.ShloMosaic.Ideal) ((c : Thread nD τ).loc b)) (c : Dev nD)

theorem N0 (t : Fin cfg0.N) : t.val < 16 := lt_of_lt_of_eq t.isLt N_0

/-! ## The blocks the call reads -/

theorem idx0_0 : ∀ t : Fin grid0.N, win0_0.index t 0 = t.val ∧ win0_0.index t 1 = 0 := by decide +kernel
theorem in0_0 (t : Fin cfg0.N) (p : Fin 512) (k : Fin 512) :
    (iblk0 V c 0 t : Vec Ideal S512x512 .f32) (ix2 p k) = (V c main_arg0 : Vec Ideal S8192x512 .f32) (ix2 (tok5 t.val (N0 t) p) k) := by
  have hi := idx0_0 t
  unfold iblk0
  rw [View.read_apply]
  show V c main_arg0 _ = V c main_arg0 _
  congr 1
  funext a
  apply Fin.ext
  match a with
  | ⟨0, _⟩ => show win0_0.index t 0 * 512 + 1 * p.val = 512 * t.val + p.val; rw [hi.1]; omega
  | ⟨1, _⟩ => show win0_0.index t 1 * 512 + 1 * k.val = k.val; rw [hi.2]; omega
theorem idx0_1 : ∀ t : Fin grid0.N, win0_1.index t 0 = t.val ∧ win0_1.index t 1 = 0 := by decide +kernel
theorem in0_1 (t : Fin cfg0.N) (p : Fin 512) (k : Fin 512) :
    (iblk0 V c 1 t : Vec Ideal S512x512 .f32) (ix2 p k) = (V c main_arg1 : Vec Ideal S8192x512 .f32) (ix2 (tok5 t.val (N0 t) p) k) := by
  have hi := idx0_1 t
  unfold iblk0
  rw [View.read_apply]
  show V c main_arg1 _ = V c main_arg1 _
  congr 1
  funext a
  apply Fin.ext
  match a with
  | ⟨0, _⟩ => show win0_1.index t 0 * 512 + 1 * p.val = 512 * t.val + p.val; rw [hi.1]; omega
  | ⟨1, _⟩ => show win0_1.index t 1 * 512 + 1 * k.val = k.val; rw [hi.2]; omega
theorem idx0_2 : ∀ t : Fin grid0.N, win0_2.index t 0 = t.val ∧ win0_2.index t 1 = 0 := by decide +kernel
theorem in0_2 (t : Fin cfg0.N) (p : Fin 512) (k : Fin 1024) :
    (iblk0 V c 2 t : Vec Ideal S512x1024 .f32) (ix2 p k) = (V c main_arg2 : Vec Ideal S8192x1024 .f32) (ix2 (tok5 t.val (N0 t) p) k) := by
  have hi := idx0_2 t
  unfold iblk0
  rw [View.read_apply]
  show V c main_arg2 _ = V c main_arg2 _
  congr 1
  funext a
  apply Fin.ext
  match a with
  | ⟨0, _⟩ => show win0_2.index t 0 * 512 + 1 * p.val = 512 * t.val + p.val; rw [hi.1]; omega
  | ⟨1, _⟩ => show win0_2.index t 1 * 1024 + 1 * k.val = k.val; rw [hi.2]; omega
theorem idx0_3 : ∀ t : Fin grid0.N, win0_3.index t 0 = 0 ∧ win0_3.index t 1 = 0 := by decide +kernel
theorem in0_3 (t : Fin cfg0.N) (p : Fin 1) (k : Fin 512) :
    (iblk0 V c 3 t : Vec Ideal S1x512 .f32) (ix2 p k) = (V c main_arg3 : Vec Ideal S1x512 .f32) (ix2 p k) := by
  have hi := idx0_3 t
  unfold iblk0
  rw [View.read_apply]
  show V c main_arg3 _ = V c main_arg3 _
  congr 1
  funext a
  apply Fin.ext
  match a with
  | ⟨0, _⟩ => show win0_3.index t 0 * 1 + 1 * p.val = p.val; rw [hi.1]; omega
  | ⟨1, _⟩ => show win0_3.index t 1 * 512 + 1 * k.val = k.val; rw [hi.2]; omega
theorem idx0_4 : ∀ t : Fin grid0.N, win0_4.index t 0 = 0 ∧ win0_4.index t 1 = 0 := by decide +kernel
theorem in0_4 (t : Fin cfg0.N) (p : Fin 1) (k : Fin 512) :
    (iblk0 V c 4 t : Vec Ideal S1x512 .f32) (ix2 p k) = (V c main_arg4 : Vec Ideal S1x512 .f32) (ix2 p k) := by
  have hi := idx0_4 t
  unfold iblk0
  rw [View.read_apply]
  show V c main_arg4 _ = V c main_arg4 _
  congr 1
  funext a
  apply Fin.ext
  match a with
  | ⟨0, _⟩ => show win0_4.index t 0 * 1 + 1 * p.val = p.val; rw [hi.1]; omega
  | ⟨1, _⟩ => show win0_4.index t 1 * 512 + 1 * k.val = k.val; rw [hi.2]; omega
theorem idx0_5 : ∀ t : Fin grid0.N, win0_5.index t 0 = 0 ∧ win0_5.index t 1 = 0 := by decide +kernel
theorem in0_5 (t : Fin cfg0.N) (p : Fin 1024) (k : Fin 1024) :
    (iblk0 V c 5 t : Vec Ideal S1024x1024 .bf16) (ix2 p k) = (V c main_v0 : Vec Ideal S1024x1024 .bf16) (ix2 p k) := by
  have hi := idx0_5 t
  unfold iblk0
  rw [View.read_apply]
  show V c main_v0 _ = V c main_v0 _
  congr 1
  funext a
  apply Fin.ext
  match a with
  | ⟨0, _⟩ => show win0_5.index t 0 * 1024 + 1 * p.val = p.val; rw [hi.1]; omega
  | ⟨1, _⟩ => show win0_5.index t 1 * 1024 + 1 * k.val = k.val; rw [hi.2]; omega

/-! ## What it leaves -/

section
variable (D : Args)
  (hO0 : ∀ n j, (V c main_arg0 : Vec Ideal S8192x512 .f32) (ix2 n j) = D.O 0 n j)
  (hO1 : ∀ n j, (V c main_arg1 : Vec Ideal S8192x512 .f32) (ix2 n j) = D.O 1 n j)
  (hX : ∀ n k, (V c main_arg2 : Vec Ideal S8192x1024 .f32) (ix2 n k) = D.X n k)
  (hG0 : ∀ j, (V c main_arg3 : Vec Ideal S1x512 .f32) (ix2 0 j) = D.G 0 j)
  (hG1 : ∀ j, (V c main_arg4 : Vec Ideal S1x512 .f32) (ix2 0 j) = D.G 1 j)
  (hW : ∀ k j, (V c main_v0 : Vec Ideal S1024x1024 .bf16) (ix2 k j) = D.W k j)
include hO0 hO1 hX hG0 hG1 hW

theorem out6 (t : Fin cfg0.N) (p : Fin 512) (k : Fin 1024) :
    out0_6 (iblk0 V c 0 t) (iblk0 V c 1 t) (iblk0 V c 2 t) (iblk0 V c 3 t) (iblk0 V c 4 t) (iblk0 V c 5 t) (ix2 p k) = rY D (tok5 t.val (N0 t) p) k := by
  unfold out0_6 k0_pay7
  rw [View.canon_unit_zero (S := S512x1024) hz]
  simp only [View.ld_unit_zero (S := S512x1024) hz, View.ld_unit_zero (S := S512x512) hz, View.ld_unit_zero (S := S1x512) hz]
  refine (pay2_0 _ _ (fun p => D.O 1 (tok5 t.val (N0 t) p)) (D.G 1) (fun p k => (in0_1 V c t p k).trans (hO1 _ _)) (fun k => (in0_4 V c t 0 k).trans (hG1 _)) _ (fun j l => D.W (cw 1 j) l) (fun j l => (ld_row (N := 1024) _ 512 _ j l (cw 1 j) (by show 512 * 1 + j.val = 512 + j.val; omega)).trans ((in0_5 V c t _ _).trans (hW _ _))) _ p k).trans ?_
  refine congrArg (· + _) ((pay5_0 _ _ (fun p => D.O 0 (tok5 t.val (N0 t) p)) (D.G 0) (fun p k => (in0_0 V c t p k).trans (hO0 _ _)) (fun k => (in0_3 V c t 0 k).trans (hG0 _)) _ (fun j l => D.W (cw 0 j) l) (fun j l => (ld_row (N := 1024) _ 0 _ j l (cw 0 j) (by show 512 * 0 + j.val = 0 + j.val; omega)).trans ((in0_5 V c t _ _).trans (hW _ _))) _ p k).trans ?_)
  rw [in0_2 V c t p k, hX]
  rfl
theorem out7c (t : Fin cfg0.N) (b : Fin 2) (j : Fin 512) (p : Fin 512) :
    out0_7 (iblk0 V c 0 t) (iblk0 V c 1 t) (iblk0 V c 2 t) (iblk0 V c 3 t) (iblk0 V c 4 t) (iblk0 V c 5 t) (ix2 (cw b j) p) = aC D (tok5 t.val (N0 t) p) (cw b j) := by
  have hj := j.isLt
  rw [aC_cw]
  unfold out0_7 k0_pay7
  simp only [View.ld_unit_zero (S := S512x1024) hz, View.ld_unit_zero (S := S512x512) hz, View.ld_unit_zero (S := S1x512) hz]
  match b with
  | ⟨0, hb⟩ =>
    refine (canon_nrow (N := 512) 512 _ _ _ _ p (by left; show 512 * 0 + j.val < 512; omega)).trans ?_
    refine (canon_row (N := 512) 0 _ _ _ _ p j (by show 512 * 0 + j.val = 0 + j.val; omega)).trans ?_
    exact pay4_0 _ _ (fun p => D.O 0 (tok5 t.val (N0 t) p)) (D.G 0) (fun p k => (in0_0 V c t p k).trans (hO0 _ _)) (fun k => (in0_3 V c t 0 k).trans (hG0 _)) p j
  | ⟨1, hb⟩ =>
    refine (canon_row (N := 512) 512 _ _ _ _ p j (by show 512 * 1 + j.val = 512 + j.val; omega)).trans ?_
    exact pay1_0 _ _ (fun p => D.O 1 (tok5 t.val (N0 t) p)) (D.G 1) (fun p k => (in0_1 V c t p k).trans (hO1 _ _)) (fun k => (in0_4 V c t 0 k).trans (hG1 _)) p j
theorem out7 (t : Fin cfg0.N) (k : Fin 1024) (p : Fin 512) :
    out0_7 (iblk0 V c 0 t) (iblk0 V c 1 t) (iblk0 V c 2 t) (iblk0 V c 3 t) (iblk0 V c 4 t) (iblk0 V c 5 t) (ix2 k p) = aC D (tok5 t.val (N0 t) p) k := by
  rw [cw_eta k]
  exact out7c V c D hO0 hO1 hX hG0 hG1 hW t _ _ p

omit hO0 hO1 hX hG0 hG1 hW in
theorem idx0_6 : ∀ t : Fin grid0.N, win0_6.index t 0 = t.val ∧ win0_6.index t 1 = 0 := by decide +kernel
theorem fin0_6 : (dat0 V c).arrAt 6 cfg0.N = (fun i : S8192x1024.Idx => rY D (i 0) (i 1)) :=
  (dat0 V c).arrAt_eq_of_cover 6 (fun i : S8192x1024.Idx => rY D (i 0) (i 1)) (fun t hf => by
    show (cfg0.win 6).cut (grid0.coords t) ((dat0 V c).after 6 t) = _
    rw [after0_6]
    funext j
    obtain ⟨p, k, rfl⟩ : ∃ (p : Fin 512) (k : Fin 1024), j = ix2 p k := ⟨j 0, j 1, (ix2_eta j).symm⟩
    have hi := idx0_6 t
    rw [View.read_apply]
    refine (out6 V c D hO0 hO1 hX hG0 hG1 hW t p k).trans ?_
    have e : (((cfg0.win 6).blk t).view.emb (ix2 p k) : S8192x1024.Idx) = ix2 (tok5 t.val (N0 t) p) k := by
      funext a
      apply Fin.ext
      match a with
      | ⟨0, _⟩ => show win0_6.index t 0 * 512 + 1 * p.val = 512 * t.val + p.val; rw [hi.1]; omega
      | ⟨1, _⟩ => show win0_6.index t 1 * 1024 + 1 * k.val = k.val; rw [hi.2]; omega
    exact (congrArg (fun i : S8192x1024.Idx => rY D (i 0) (i 1)) e).symm) fun i => by
    have h0 : (i 0 : Nat) < 8192 := (i 0).isLt
    have h1 : (i 1 : Nat) < 1024 := (i 1).isLt
    have ht : (i 0 : Nat) / 512 < cfg0.N := by rw [show cfg0.N = 16 from N_0]; omega
    have hi := idx0_6 ⟨(i 0 : Nat) / 512, ht⟩
    refine ⟨⟨(i 0 : Nat) / 512, ht⟩, flush0_6 _, ?_⟩
    show i ∈ ((View.whole main_v1_0).slice (win0_6.rect ⟨(i 0 : Nat) / 512, ht⟩)).set
    rw [View.set_slice_whole, Rect.mem_set_unit]
    intro a
    match a with
    | ⟨0, _⟩ => show win0_6.index ⟨(i 0 : Nat) / 512, ht⟩ 0 * 512 ≤ (i 0 : Nat) ∧ (i 0 : Nat) < win0_6.index ⟨(i 0 : Nat) / 512, ht⟩ 0 * 512 + 512
                rw [hi.1]; dsimp only; omega
    | ⟨1, _⟩ => show win0_6.index ⟨(i 0 : Nat) / 512, ht⟩ 1 * 1024 ≤ (i 1 : Nat) ∧ (i 1 : Nat) < win0_6.index ⟨(i 0 : Nat) / 512, ht⟩ 1 * 1024 + 1024
                rw [hi.2]; omega
omit hO0 hO1 hX hG0 hG1 hW in
theorem idx0_7 : ∀ t : Fin grid0.N, win0_7.index t 0 = 0 ∧ win0_7.index t 1 = t.val := by decide +kernel
theorem fin0_7 : (dat0 V c).arrAt 7 cfg0.N = (fun i : S1024x8192.Idx => aC D (i 1) (i 0)) :=
  (dat0 V c).arrAt_eq_of_cover 7 (fun i : S1024x8192.Idx => aC D (i 1) (i 0)) (fun t hf => by
    show (cfg0.win 7).cut (grid0.coords t) ((dat0 V c).after 7 t) = _
    rw [after0_7]
    funext j
    obtain ⟨p, k, rfl⟩ : ∃ (p : Fin 1024) (k : Fin 512), j = ix2 p k := ⟨j 0, j 1, (ix2_eta j).symm⟩
    have hi := idx0_7 t
    rw [View.read_apply]
    refine (out7 V c D hO0 hO1 hX hG0 hG1 hW t p k).trans ?_
    have e : (((cfg0.win 7).blk t).view.emb (ix2 p k) : S1024x8192.Idx) = ix2 p (tok5 t.val (N0 t) k) := by
      funext a
      apply Fin.ext
      match a with
      | ⟨0, _⟩ => show win0_7.index t 0 * 1024 + 1 * p.val = p.val; rw [hi.1]; omega
      | ⟨1, _⟩ => show win0_7.index t 1 * 512 + 1 * k.val = 512 * t.val + k.val; rw [hi.2]; omega
    exact (congrArg (fun i : S1024x8192.Idx => aC D (i 1) (i 0)) e).symm) fun i => by
    have h0 : (i 0 : Nat) < 1024 := (i 0).isLt
    have h1 : (i 1 : Nat) < 8192 := (i 1).isLt
    have ht : (i 1 : Nat) / 512 < cfg0.N := by rw [show cfg0.N = 16 from N_0]; omega
    have hi := idx0_7 ⟨(i 1 : Nat) / 512, ht⟩
    refine ⟨⟨(i 1 : Nat) / 512, ht⟩, flush0_7 _, ?_⟩
    show i ∈ ((View.whole main_v1_1).slice (win0_7.rect ⟨(i 1 : Nat) / 512, ht⟩)).set
    rw [View.set_slice_whole, Rect.mem_set_unit]
    intro a
    match a with
    | ⟨0, _⟩ => show win0_7.index ⟨(i 1 : Nat) / 512, ht⟩ 0 * 1024 ≤ (i 0 : Nat) ∧ (i 0 : Nat) < win0_7.index ⟨(i 1 : Nat) / 512, ht⟩ 0 * 1024 + 1024
                rw [hi.1]; omega
    | ⟨1, _⟩ => show win0_7.index ⟨(i 1 : Nat) / 512, ht⟩ 1 * 512 ≤ (i 1 : Nat) ∧ (i 1 : Nat) < win0_7.index ⟨(i 1 : Nat) / 512, ht⟩ 1 * 512 + 512
                rw [hi.2]; dsimp only; omega
end

end Cert.Kernel4Ideal.Out
-- ==== Proof.OutBwd.lean ====
/- The output projection's backward call over its grid: the arrays it leaves, in closed form. -/
module

public import proofs.«01_k».proof.Proof.OutBody

@[expose] public section

set_option maxRecDepth 16384

noncomputable section

namespace Cert.Kernel4Ideal.Out

open Cert.Kernel4Ideal Cert.Kernel4Ideal.Gen Cert.Out Idealize.ShloMosaic Idealize.ShloMosaic.TcCoe Idealize.SL.Sem
open Cert.Inp (tok5 chk sum_tok5 sum_chk)

variable (V : (c : Dev nD) → (b : Ref sig .tc) → Buf (Elt Idealize.ShloMosaic.Ideal) ((c : Thread nD τ).loc b)) (c : Dev nD)

/-- A whole block read where the first row of it is. -/
theorem fillRow (v : View sig .tc .vmem S8x512 .f32) (Z : Vec Ideal S8x512 .f32) :
    v.readCov (Val := Elt Ideal) [⟨Rect.unit ![0, 0] ![8, 512] inb_S8x512_S8x512_0_0, Z⟩] (Rect.unit ![0, 0] ![1, 512] inb_S8x512_S1x512_0_0).toLoadRect =
      View.ld Z (Rect.unit (s := S8x512) ![0, 0] ![1, 512] inb_S8x512_S1x512_0_0) := by
  rw [View.readCov_eq_canon']
  exact congrArg (fun z => View.ld z _) (View.canon_unit_zero (S := S8x512) hz inb_S8x512_S8x512_0_0 Z)
/-- The first row of an accumulator. -/
abbrev row0 : Rect S8x512 := Rect.unit (s := S8x512) ![0, 0] S1x512.size inb_S8x512_S1x512_0_0
theorem ld_row0 (Z : Vec Ideal S8x512 .f32) (k : Fin 512) : View.ld Z row0 (ix2 0 k) = Z (ix2 0 k) := by
  refine congrArg Z ?_
  funext a; apply Fin.ext
  match a with
  | ⟨0, _⟩ => show 0 + 1 * 0 = 0; omega
  | ⟨1, _⟩ => show 0 + 1 * k.val = k.val; omega

section
variable (i : grid2.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S8x512 .f32) (harg9 : arg9.IsWhole) (arg10 : Memref sig .tc .vmem S8x512 .f32) (harg10 : arg10.IsWhole)
  (x0 : Vec Ideal S512x1024 .f32) (x1 : Vec Ideal S512x512 .f32) (x2 : Vec Ideal S512x512 .f32) (x3 : Vec Ideal S1x512 .f32) (x4 : Vec Ideal S1x512 .f32) (x5 : Vec Ideal S1024x1024 .bf16)

theorem out6_A (hc0 : cond2_0 i) : out2_A_6 c i arg1 harg1 arg2 harg2 arg3 harg3 arg4 harg4 arg5 harg5 arg6 harg6 arg7 harg7 arg8 harg8 arg9 harg9 arg10 harg10 hc0 x0 x1 x2 x3 x4 x5 =
    k2_pay7 x0 (View.ld x5 (Rect.unit (s := S1024x1024) ![0, 0] S512x1024.size inb_S1024x1024_S512x1024_0_0)) x1 x3 := by
  unfold out2_A_6
  rw [View.read_writes_eq_canon _ _ _ (cover2_A_6 c i arg1 harg1 arg2 harg2 arg3 harg3 arg4 harg4 arg5 harg5 arg6 harg6 arg7 harg7 arg8 harg8 arg9 harg9 arg10 harg10 hc0 x0 x1 x2 x3 x4 x5)]
  unfold kernelRun2_A
  dsimp only
  sl_unfold_words
  rw [View.canon_unit_zero (S := S512x512) hz]
  simp only [View.readAt_eq_ld, harg1.read_unread, harg2.read_unread, harg3.read_unread, harg4.read_unread, harg5.read_unread, harg6.read_unread, View.ld_unit_zero (S := S512x512) hz, View.ld_unit_zero (S := S512x1024) hz, View.ld_unit_zero (S := S1x512) hz]
theorem out7_A (hc0 : cond2_0 i) : out2_A_7 c i arg1 harg1 arg2 harg2 arg3 harg3 arg4 harg4 arg5 harg5 arg6 harg6 arg7 harg7 arg8 harg8 arg9 harg9 arg10 harg10 hc0 x0 x1 x2 x3 x4 x5 =
    k2_pay14 (k2_pay3 x0) (View.ld x5 (Rect.unit (s := S1024x1024) ![512, 0] S512x1024.size inb_S1024x1024_S512x1024_512_0)) x2 x4 := by
  unfold out2_A_7
  rw [View.read_writes_eq_canon _ _ _ (cover2_A_7 c i arg1 harg1 arg2 harg2 arg3 harg3 arg4 harg4 arg5 harg5 arg6 harg6 arg7 harg7 arg8 harg8 arg9 harg9 arg10 harg10 hc0 x0 x1 x2 x3 x4 x5)]
  unfold kernelRun2_A
  dsimp only
  sl_unfold_words
  rw [View.canon_unit_zero (S := S512x512) hz]
  simp only [View.readAt_eq_ld, harg1.read_unread, harg2.read_unread, harg3.read_unread, harg4.read_unread, harg5.read_unread, harg6.read_unread, View.ld_unit_zero (S := S512x512) hz, View.ld_unit_zero (S := S512x1024) hz, View.ld_unit_zero (S := S1x512) hz]
theorem out8_A (hc0 : cond2_0 i) (k : Fin 512) : out2_A_8 c i arg1 harg1 arg2 harg2 arg3 harg3 arg4 harg4 arg5 harg5 arg6 harg6 arg7 harg7 arg8 harg8 arg9 harg9 arg10 harg10 hc0 x0 x1 x2 x3 x4 x5 (ix2 0 k) =
    k2_pay10 (k2_pay8 (View.ld (k2_pay1 (F := Ideal)) row0)) (k2_pay9 x0 (View.ld x5 (Rect.unit (s := S1024x1024) ![0, 0] S512x1024.size inb_S1024x1024_S512x1024_0_0)) x1) (ix2 0 k) := by
  unfold out2_A_8
  unfold kernelRun2_A
  dsimp only
  sl_unfold_words
  have e : (ix2 0 k : S8x512.Idx) = row0.emb (ix2 0 k) := by
    funext a; apply Fin.ext
    match a with
    | ⟨0, _⟩ => show 0 = 0 + 1 * 0; omega
    | ⟨1, _⟩ => show k.val = 0 + 1 * k.val; omega
  rw [e]
  refine (View.read_writes_cons_emb _ _ _ _ _ _).trans ?_
  simp only [View.readAt_eq_ld, harg1.read_unread, harg2.read_unread, harg3.read_unread, harg4.read_unread, harg5.read_unread, harg6.read_unread, View.ld_unit_zero (S := S512x512) hz, View.ld_unit_zero (S := S512x1024) hz, View.ld_unit_zero (S := S1x512) hz, harg9.read_unread, harg10.read_unread]
  rw [fillRow]
theorem out9_A (hc0 : cond2_0 i) (k : Fin 512) : out2_A_9 c i arg1 harg1 arg2 harg2 arg3 harg3 arg4 harg4 arg5 harg5 arg6 harg6 arg7 harg7 arg8 harg8 arg9 harg9 arg10 harg10 hc0 x0 x1 x2 x3 x4 x5 (ix2 0 k) =
    k2_pay15 (k2_pay3 x0) (View.ld x5 (Rect.unit (s := S1024x1024) ![512, 0] S512x1024.size inb_S1024x1024_S512x1024_512_0)) x2 (View.ld (k2_pay2 (F := Ideal)) row0) (ix2 0 k) := by
  unfold out2_A_9
  unfold kernelRun2_A
  dsimp only
  sl_unfold_words
  have e : (ix2 0 k : S8x512.Idx) = row0.emb (ix2 0 k) := by
    funext a; apply Fin.ext
    match a with
    | ⟨0, _⟩ => show 0 = 0 + 1 * 0; omega
    | ⟨1, _⟩ => show k.val = 0 + 1 * k.val; omega
  rw [e]
  refine (View.read_writes_cons_emb _ _ _ _ _ _).trans ?_
  simp only [View.readAt_eq_ld, harg1.read_unread, harg2.read_unread, harg3.read_unread, harg4.read_unread, harg5.read_unread, harg6.read_unread, View.ld_unit_zero (S := S512x512) hz, View.ld_unit_zero (S := S512x1024) hz, View.ld_unit_zero (S := S1x512) hz, harg9.read_unread, harg10.read_unread]
  rw [fillRow]
theorem out6_B (hc0 : ¬cond2_0 i) (xo8 xo9 : Vec Ideal S8x512 .f32) : out2_B_6 c i arg1 harg1 arg2 harg2 arg3 harg3 arg4 harg4 arg5 harg5 arg6 harg6 arg7 harg7 arg8 harg8 arg9 harg9 arg10 harg10 hc0 x0 x1 x2 x3 x4 x5 xo8 xo9 =
    k2_pay7 x0 (View.ld x5 (Rect.unit (s := S1024x1024) ![0, 0] S512x1024.size inb_S1024x1024_S512x1024_0_0)) x1 x3 := by
  unfold out2_B_6
  rw [View.read_writes_eq_canon _ _ _ (cover2_B_6 c i arg1 harg1 arg2 harg2 arg3 harg3 arg4 harg4 arg5 harg5 arg6 harg6 arg7 harg7 arg8 harg8 arg9 harg9 arg10 harg10 hc0 x0 x1 x2 x3 x4 x5 xo8 xo9)]
  unfold kernelRun2_B
  dsimp only
  sl_unfold_words
  rw [View.canon_unit_zero (S := S512x512) hz]
  simp only [View.readAt_eq_ld, harg1.read_unread, harg2.read_unread, harg3.read_unread, harg4.read_unread, harg5.read_unread, harg6.read_unread, View.ld_unit_zero (S := S512x512) hz, View.ld_unit_zero (S := S512x1024) hz, View.ld_unit_zero (S := S1x512) hz]
theorem out7_B (hc0 : ¬cond2_0 i) (xo8 xo9 : Vec Ideal S8x512 .f32) : out2_B_7 c i arg1 harg1 arg2 harg2 arg3 harg3 arg4 harg4 arg5 harg5 arg6 harg6 arg7 harg7 arg8 harg8 arg9 harg9 arg10 harg10 hc0 x0 x1 x2 x3 x4 x5 xo8 xo9 =
    k2_pay14 (k2_pay3 x0) (View.ld x5 (Rect.unit (s := S1024x1024) ![512, 0] S512x1024.size inb_S1024x1024_S512x1024_512_0)) x2 x4 := by
  unfold out2_B_7
  rw [View.read_writes_eq_canon _ _ _ (cover2_B_7 c i arg1 harg1 arg2 harg2 arg3 harg3 arg4 harg4 arg5 harg5 arg6 harg6 arg7 harg7 arg8 harg8 arg9 harg9 arg10 harg10 hc0 x0 x1 x2 x3 x4 x5 xo8 xo9)]
  unfold kernelRun2_B
  dsimp only
  sl_unfold_words
  rw [View.canon_unit_zero (S := S512x512) hz]
  simp only [View.readAt_eq_ld, harg1.read_unread, harg2.read_unread, harg3.read_unread, harg4.read_unread, harg5.read_unread, harg6.read_unread, View.ld_unit_zero (S := S512x512) hz, View.ld_unit_zero (S := S512x1024) hz, View.ld_unit_zero (S := S1x512) hz]
theorem out8_B (hc0 : ¬cond2_0 i) (xo8 xo9 : Vec Ideal S8x512 .f32) (k : Fin 512) : out2_B_8 c i arg1 harg1 arg2 harg2 arg3 harg3 arg4 harg4 arg5 harg5 arg6 harg6 arg7 harg7 arg8 harg8 arg9 harg9 arg10 harg10 hc0 x0 x1 x2 x3 x4 x5 xo8 xo9 (ix2 0 k) =
    k2_pay10 (k2_pay8 (View.ld xo8 row0)) (k2_pay9 x0 (View.ld x5 (Rect.unit (s := S1024x1024) ![0, 0] S512x1024.size inb_S1024x1024_S512x1024_0_0)) x1) (ix2 0 k) := by
  unfold out2_B_8
  unfold kernelRun2_B
  dsimp only
  sl_unfold_words
  have e : (ix2 0 k : S8x512.Idx) = row0.emb (ix2 0 k) := by
    funext a; apply Fin.ext
    match a with
    | ⟨0, _⟩ => show 0 = 0 + 1 * 0; omega
    | ⟨1, _⟩ => show k.val = 0 + 1 * k.val; omega
  rw [e]
  refine (View.read_writes_cons_emb _ _ _ _ _ _).trans ?_
  simp only [View.readAt_eq_ld, harg1.read_unread, harg2.read_unread, harg3.read_unread, harg4.read_unread, harg5.read_unread, harg6.read_unread, View.ld_unit_zero (S := S512x512) hz, View.ld_unit_zero (S := S512x1024) hz, View.ld_unit_zero (S := S1x512) hz, harg9.read_unread, harg10.read_unread]
theorem out9_B (hc0 : ¬cond2_0 i) (xo8 xo9 : Vec Ideal S8x512 .f32) (k : Fin 512) : out2_B_9 c i arg1 harg1 arg2 harg2 arg3 harg3 arg4 harg4 arg5 harg5 arg6 harg6 arg7 harg7 arg8 harg8 arg9 harg9 arg10 harg10 hc0 x0 x1 x2 x3 x4 x5 xo8 xo9 (ix2 0 k) =
    k2_pay15 (k2_pay3 x0) (View.ld x5 (Rect.unit (s := S1024x1024) ![512, 0] S512x1024.size inb_S1024x1024_S512x1024_512_0)) x2 (View.ld xo9 row0) (ix2 0 k) := by
  unfold out2_B_9
  unfold kernelRun2_B
  dsimp only
  sl_unfold_words
  have e : (ix2 0 k : S8x512.Idx) = row0.emb (ix2 0 k) := by
    funext a; apply Fin.ext
    match a with
    | ⟨0, _⟩ => show 0 = 0 + 1 * 0; omega
    | ⟨1, _⟩ => show k.val = 0 + 1 * k.val; omega
  rw [e]
  refine (View.read_writes_cons_emb _ _ _ _ _ _).trans ?_
  simp only [View.readAt_eq_ld, harg1.read_unread, harg2.read_unread, harg3.read_unread, harg4.read_unread, harg5.read_unread, harg6.read_unread, View.ld_unit_zero (S := S512x512) hz, View.ld_unit_zero (S := S512x1024) hz, View.ld_unit_zero (S := S1x512) hz, harg9.read_unread, harg10.read_unread]
end

theorem N2 (t : Fin cfg2.N) : t.val < 16 := lt_of_lt_of_eq t.isLt N_2
theorem idx2_0 : ∀ t : Fin grid2.N, win2_0.index t 0 = t.val ∧ win2_0.index t 1 = 0 := by decide +kernel
theorem in2_0 (t : Fin cfg2.N) (p : Fin 512) (k : Fin 1024) :
    (iblk2 V c 0 t : Vec Ideal S512x1024 .f32) (ix2 p k) = (V c main_arg6 : Vec Ideal S8192x1024 .f32) (ix2 (tok5 t.val (N2 t) p) k) := by
  have hi := idx2_0 t
  unfold iblk2
  rw [View.read_apply]
  show V c main_arg6 _ = V c main_arg6 _
  congr 1
  funext a
  apply Fin.ext
  match a with
  | ⟨0, _⟩ => show win2_0.index t 0 * 512 + 1 * p.val = 512 * t.val + p.val; rw [hi.1]; omega
  | ⟨1, _⟩ => show win2_0.index t 1 * 1024 + 1 * k.val = k.val; rw [hi.2]; omega
theorem idx2_1 : ∀ t : Fin grid2.N, win2_1.index t 0 = t.val ∧ win2_1.index t 1 = 0 := by decide +kernel
theorem in2_1 (t : Fin cfg2.N) (p : Fin 512) (k : Fin 512) :
    (iblk2 V c 1 t : Vec Ideal S512x512 .f32) (ix2 p k) = (V c main_arg0 : Vec Ideal S8192x512 .f32) (ix2 (tok5 t.val (N2 t) p) k) := by
  have hi := idx2_1 t
  unfold iblk2
  rw [View.read_apply]
  show V c main_arg0 _ = V c main_arg0 _
  congr 1
  funext a
  apply Fin.ext
  match a with
  | ⟨0, _⟩ => show win2_1.index t 0 * 512 + 1 * p.val = 512 * t.val + p.val; rw [hi.1]; omega
  | ⟨1, _⟩ => show win2_1.index t 1 * 512 + 1 * k.val = k.val; rw [hi.2]; omega
theorem idx2_2 : ∀ t : Fin grid2.N, win2_2.index t 0 = t.val ∧ win2_2.index t 1 = 0 := by decide +kernel
theorem in2_2 (t : Fin cfg2.N) (p : Fin 512) (k : Fin 512) :
    (iblk2 V c 2 t : Vec Ideal S512x512 .f32) (ix2 p k) = (V c main_arg1 : Vec Ideal S8192x512 .f32) (ix2 (tok5 t.val (N2 t) p) k) := by
  have hi := idx2_2 t
  unfold iblk2
  rw [View.read_apply]
  show V c main_arg1 _ = V c main_arg1 _
  congr 1
  funext a
  apply Fin.ext
  match a with
  | ⟨0, _⟩ => show win2_2.index t 0 * 512 + 1 * p.val = 512 * t.val + p.val; rw [hi.1]; omega
  | ⟨1, _⟩ => show win2_2.index t 1 * 512 + 1 * k.val = k.val; rw [hi.2]; omega
theorem idx2_3 : ∀ t : Fin grid2.N, win2_3.index t 0 = 0 ∧ win2_3.index t 1 = 0 := by decide +kernel
theorem in2_3 (t : Fin cfg2.N) (p : Fin 1) (k : Fin 512) :
    (iblk2 V c 3 t : Vec Ideal S1x512 .f32) (ix2 p k) = (V c main_arg3 : Vec Ideal S1x512 .f32) (ix2 p k) := by
  have hi := idx2_3 t
  unfold iblk2
  rw [View.read_apply]
  show V c main_arg3 _ = V c main_arg3 _
  congr 1
  funext a
  apply Fin.ext
  match a with
  | ⟨0, _⟩ => show win2_3.index t 0 * 1 + 1 * p.val = p.val; rw [hi.1]; omega
  | ⟨1, _⟩ => show win2_3.index t 1 * 512 + 1 * k.val = k.val; rw [hi.2]; omega
theorem idx2_4 : ∀ t : Fin grid2.N, win2_4.index t 0 = 0 ∧ win2_4.index t 1 = 0 := by decide +kernel
theorem in2_4 (t : Fin cfg2.N) (p : Fin 1) (k : Fin 512) :
    (iblk2 V c 4 t : Vec Ideal S1x512 .f32) (ix2 p k) = (V c main_arg4 : Vec Ideal S1x512 .f32) (ix2 p k) := by
  have hi := idx2_4 t
  unfold iblk2
  rw [View.read_apply]
  show V c main_arg4 _ = V c main_arg4 _
  congr 1
  funext a
  apply Fin.ext
  match a with
  | ⟨0, _⟩ => show win2_4.index t 0 * 1 + 1 * p.val = p.val; rw [hi.1]; omega
  | ⟨1, _⟩ => show win2_4.index t 1 * 512 + 1 * k.val = k.val; rw [hi.2]; omega
theorem idx2_5 : ∀ t : Fin grid2.N, win2_5.index t 0 = 0 ∧ win2_5.index t 1 = 0 := by decide +kernel
theorem in2_5 (t : Fin cfg2.N) (p : Fin 1024) (k : Fin 1024) :
    (iblk2 V c 5 t : Vec Ideal S1024x1024 .bf16) (ix2 p k) = (V c main_v0 : Vec Ideal S1024x1024 .bf16) (ix2 p k) := by
  have hi := idx2_5 t
  unfold iblk2
  rw [View.read_apply]
  show V c main_v0 _ = V c main_v0 _
  congr 1
  funext a
  apply Fin.ext
  match a with
  | ⟨0, _⟩ => show win2_5.index t 0 * 1024 + 1 * p.val = p.val; rw [hi.1]; omega
  | ⟨1, _⟩ => show win2_5.index t 1 * 1024 + 1 * k.val = k.val; rw [hi.2]; omega

section
variable (D : Args)
  (hU : ∀ n k, (V c main_arg6 : Vec Ideal S8192x1024 .f32) (ix2 n k) = D.U n k)
  (hO0 : ∀ n j, (V c main_arg0 : Vec Ideal S8192x512 .f32) (ix2 n j) = D.O 0 n j)
  (hO1 : ∀ n j, (V c main_arg1 : Vec Ideal S8192x512 .f32) (ix2 n j) = D.O 1 n j)
  (hW : ∀ k j, (V c main_v0 : Vec Ideal S1024x1024 .bf16) (ix2 k j) = D.W k j)
include hU hO0 hO1 hW

theorem add8 (t : Fin cfg2.N) (z : MG) (s : Fin 512 → EReal) (hs : ∀ k, z (ix2 0 k) = s k) (k : Fin 512) :
    k2_pay10 (k2_pay8 z) (k2_pay9 (iblk2 V c 0 t) (View.ld (iblk2 V c 5 t) (Rect.unit (s := S1024x1024) ![0, 0] S512x1024.size inb_S1024x1024_S512x1024_0_0)) (iblk2 V c 1 t)) (ix2 0 k) = s k + gpart D 0 t.val k := by
  refine (pay10_2 _ _ _ (fun p l => D.U (tok5 t.val (N2 t) p) l) (fun j l => D.W (cw 0 j) l) (fun p => D.O 0 (tok5 t.val (N2 t) p)) (fun p l => (in2_0 V c t p l).trans (hU _ _)) (fun j l => (ld_row (N := 1024) _ 0 _ j l (cw 0 j) (by show 512 * 0 + j.val = 0 + j.val; omega)).trans ((in2_5 V c t _ _).trans (hW _ _))) (fun p k => (in2_1 V c t p k).trans (hO0 _ _)) z s hs k).trans ?_
  unfold gpart
  rw [dif_pos (N2 t)]
  rfl
theorem ptA8 (t : Fin cfg2.N) (h0 : t.val % 16 = 0) (k : Fin 512) :
    (outsAt2 V c t.val t.isLt).2.2.1 (ix2 0 k) = ∑ q ∈ Finset.range (t.val + 1), gpart D 0 q k := by
  have h1 : t.val = 0 := by have := N2 t; omega
  rw [outsAt2_A V c t h0]
  dsimp only
  refine (out8_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (iblk2 V c 0 t) (iblk2 V c 1 t) (iblk2 V c 2 t) (iblk2 V c 3 t) (iblk2 V c 4 t) (iblk2 V c 5 t) ((hcond2_0 t).mpr h0) k).trans ?_
  refine (add8 V c D hU hO0 hO1 hW t _ (fun _ => 0) (fun k => (ld_row0 _ k).trans (pay1_2 0 k)) k).trans ?_
  rw [h1]
  simp only [Finset.sum_range_one, zero_add]
theorem pt8 : ∀ (n : ℕ) (hn : n < cfg2.N) (k : Fin 512), (outsAt2 V c n hn).2.2.1 (ix2 0 k) = ∑ q ∈ Finset.range (n + 1), gpart D 0 q k
  | 0, hn, k => ptA8 V c D hU hO0 hO1 hW ⟨0, hn⟩ rfl k
  | n + 1, hn, k => by
    have h0 : ¬(n + 1) % 16 = 0 := by have : n + 1 < 16 := lt_of_lt_of_eq hn N_2; omega
    refine (congrFun (congrArg (fun z => z.2.2.1) (outsAt2_B V c (⟨n + 1, hn⟩ : Fin cfg2.N) h0)) _).trans ?_
    refine (out8_B c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) (ms2_8 (⟨n + 1, hn⟩ : Fin cfg2.N)) (hs2_8 (⟨n + 1, hn⟩ : Fin cfg2.N)) (ms2_9 (⟨n + 1, hn⟩ : Fin cfg2.N)) (hs2_9 (⟨n + 1, hn⟩ : Fin cfg2.N)) (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (iblk2 V c 5 (⟨n + 1, hn⟩ : Fin cfg2.N)) (fun h => h0 ((hcond2_0 (⟨n + 1, hn⟩ : Fin cfg2.N)).mp h)) _ _ k).trans ?_
    refine (add8 V c D hU hO0 hO1 hW (⟨n + 1, hn⟩ : Fin cfg2.N) _ (fun k => ∑ q ∈ Finset.range (n + 1), gpart D 0 q k) (fun k => (ld_row0 _ k).trans (pt8 n (Nat.lt_of_succ_lt hn) k)) k).trans ?_
    rw [Finset.sum_range_succ _ (n + 1)]

theorem add9 (t : Fin cfg2.N) (z : MG) (s : Fin 512 → EReal) (hs : ∀ k, z (ix2 0 k) = s k) (k : Fin 512) :
    k2_pay15 (k2_pay3 (iblk2 V c 0 t)) (View.ld (iblk2 V c 5 t) (Rect.unit (s := S1024x1024) ![512, 0] S512x1024.size inb_S1024x1024_S512x1024_512_0)) (iblk2 V c 2 t) z (ix2 0 k) = s k + gpart D 1 t.val k := by
  refine (pay15_2 _ _ _ (fun p l => D.U (tok5 t.val (N2 t) p) l) (fun j l => D.W (cw 1 j) l) (fun p => D.O 1 (tok5 t.val (N2 t) p)) (fun p l => (in2_0 V c t p l).trans (hU _ _)) (fun j l => (ld_row (N := 1024) _ 512 _ j l (cw 1 j) (by show 512 * 1 + j.val = 512 + j.val; omega)).trans ((in2_5 V c t _ _).trans (hW _ _))) (fun p k => (in2_2 V c t p k).trans (hO1 _ _)) z s hs k).trans ?_
  unfold gpart
  rw [dif_pos (N2 t)]
  rfl
theorem ptA9 (t : Fin cfg2.N) (h0 : t.val % 16 = 0) (k : Fin 512) :
    (outsAt2 V c t.val t.isLt).2.2.2 (ix2 0 k) = ∑ q ∈ Finset.range (t.val + 1), gpart D 1 q k := by
  have h1 : t.val = 0 := by have := N2 t; omega
  rw [outsAt2_A V c t h0]
  dsimp only
  refine (out9_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (iblk2 V c 0 t) (iblk2 V c 1 t) (iblk2 V c 2 t) (iblk2 V c 3 t) (iblk2 V c 4 t) (iblk2 V c 5 t) ((hcond2_0 t).mpr h0) k).trans ?_
  refine (add9 V c D hU hO0 hO1 hW t _ (fun _ => 0) (fun k => (ld_row0 _ k).trans (pay2_2 0 k)) k).trans ?_
  rw [h1]
  simp only [Finset.sum_range_one, zero_add]
theorem pt9 : ∀ (n : ℕ) (hn : n < cfg2.N) (k : Fin 512), (outsAt2 V c n hn).2.2.2 (ix2 0 k) = ∑ q ∈ Finset.range (n + 1), gpart D 1 q k
  | 0, hn, k => ptA9 V c D hU hO0 hO1 hW ⟨0, hn⟩ rfl k
  | n + 1, hn, k => by
    have h0 : ¬(n + 1) % 16 = 0 := by have : n + 1 < 16 := lt_of_lt_of_eq hn N_2; omega
    refine (congrFun (congrArg (fun z => z.2.2.2) (outsAt2_B V c (⟨n + 1, hn⟩ : Fin cfg2.N) h0)) _).trans ?_
    refine (out9_B c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) (ms2_8 (⟨n + 1, hn⟩ : Fin cfg2.N)) (hs2_8 (⟨n + 1, hn⟩ : Fin cfg2.N)) (ms2_9 (⟨n + 1, hn⟩ : Fin cfg2.N)) (hs2_9 (⟨n + 1, hn⟩ : Fin cfg2.N)) (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (iblk2 V c 5 (⟨n + 1, hn⟩ : Fin cfg2.N)) (fun h => h0 ((hcond2_0 (⟨n + 1, hn⟩ : Fin cfg2.N)).mp h)) _ _ k).trans ?_
    refine (add9 V c D hU hO0 hO1 hW (⟨n + 1, hn⟩ : Fin cfg2.N) _ (fun k => ∑ q ∈ Finset.range (n + 1), gpart D 1 q k) (fun k => (ld_row0 _ k).trans (pt9 n (Nat.lt_of_succ_lt hn) k)) k).trans ?_
    rw [Finset.sum_range_succ _ (n + 1)]

omit hU hO0 hO1 hW in
theorem last2 : 15 < cfg2.N := by rw [show cfg2.N = 16 from N_2]; omega
omit hU hO0 hO1 hW in
theorem at15 (n : ℕ) (h : n < cfg2.N) (e : n = 15) : outsAt2 V c n h = outsAt2 V c 15 last2 := by
  subst e; rfl
omit hU hO0 hO1 hW in
theorem idx2_8 : ∀ t : Fin grid2.N, win2_8.index t 0 = 0 ∧ win2_8.index t 1 = 0 := by decide +kernel
omit hU hO0 hO1 hW in
theorem arr2_8 (z : Vec Ideal S8x512 .f32) (hz : (outsAt2 V c 15 last2).2.2.1 = z) : (dat2 V c).arrAt 8 cfg2.N = z :=
  (dat2 V c).arrAt_eq_of_cover 8 z (fun t hf => by
    have h31 : t.val = 15 := by have := (flush2_8 t).mp hf; have := N2 t; omega
    have hz' := (congrArg (fun x => x.2.2.1) (at15 V c t.val t.isLt h31)).trans hz
    dsimp only at hz'
    show (cfg2.win 8).cut (grid2.coords t) ((dat2 V c).after 8 t) = _
    rw [after2_8, hz']
    funext j
    obtain ⟨p, k, rfl⟩ : ∃ (p : Fin 8) (k : Fin 512), j = ix2 p k := ⟨j 0, j 1, (ix2_eta j).symm⟩
    have hi := idx2_8 t
    rw [View.read_apply]
    have e : (((cfg2.win 8).blk t).view.emb (ix2 p k) : S8x512.Idx) = ix2 p k := by
      funext a
      apply Fin.ext
      match a with
      | ⟨0, _⟩ => show win2_8.index t 0 * 8 + 1 * p.val = p.val; rw [hi.1]; omega
      | ⟨1, _⟩ => show win2_8.index t 1 * 512 + 1 * k.val = k.val; rw [hi.2]; omega
    refine (rfl : _ = z (ix2 p k)).trans ?_
    exact (congrArg z e).symm) fun i => by
    have h0 : (i 0 : Nat) < 8 := (i 0).isLt
    have h1 : (i 1 : Nat) < 512 := (i 1).isLt
    have hi := idx2_8 ⟨15, last2⟩
    refine ⟨⟨15, last2⟩, (flush2_8 _).mpr rfl, ?_⟩
    show i ∈ ((View.whole main_v3_2).slice (win2_8.rect ⟨15, last2⟩)).set
    rw [View.set_slice_whole, Rect.mem_set_unit]
    intro a
    match a with
    | ⟨0, _⟩ => show win2_8.index ⟨15, last2⟩ 0 * 8 ≤ (i 0 : Nat) ∧ (i 0 : Nat) < win2_8.index ⟨15, last2⟩ 0 * 8 + 8
                rw [hi.1]; omega
    | ⟨1, _⟩ => show win2_8.index ⟨15, last2⟩ 1 * 512 ≤ (i 1 : Nat) ∧ (i 1 : Nat) < win2_8.index ⟨15, last2⟩ 1 * 512 + 512
                rw [hi.2]; omega
theorem fin2_8 (k : Fin 512) : ((dat2 V c).arrAt 8 cfg2.N : Vec Ideal S8x512 .f32) (ix2 0 k) = rG D 0 k := by
  rw [arr2_8 V c _ rfl, pt8 V c D hU hO0 hO1 hW 15 last2 k]
  exact sum_gpart D 0 k
omit hU hO0 hO1 hW in
theorem idx2_9 : ∀ t : Fin grid2.N, win2_9.index t 0 = 0 ∧ win2_9.index t 1 = 0 := by decide +kernel
omit hU hO0 hO1 hW in
theorem arr2_9 (z : Vec Ideal S8x512 .f32) (hz : (outsAt2 V c 15 last2).2.2.2 = z) : (dat2 V c).arrAt 9 cfg2.N = z :=
  (dat2 V c).arrAt_eq_of_cover 9 z (fun t hf => by
    have h31 : t.val = 15 := by have := (flush2_9 t).mp hf; have := N2 t; omega
    have hz' := (congrArg (fun x => x.2.2.2) (at15 V c t.val t.isLt h31)).trans hz
    dsimp only at hz'
    show (cfg2.win 9).cut (grid2.coords t) ((dat2 V c).after 9 t) = _
    rw [after2_9, hz']
    funext j
    obtain ⟨p, k, rfl⟩ : ∃ (p : Fin 8) (k : Fin 512), j = ix2 p k := ⟨j 0, j 1, (ix2_eta j).symm⟩
    have hi := idx2_9 t
    rw [View.read_apply]
    have e : (((cfg2.win 9).blk t).view.emb (ix2 p k) : S8x512.Idx) = ix2 p k := by
      funext a
      apply Fin.ext
      match a with
      | ⟨0, _⟩ => show win2_9.index t 0 * 8 + 1 * p.val = p.val; rw [hi.1]; omega
      | ⟨1, _⟩ => show win2_9.index t 1 * 512 + 1 * k.val = k.val; rw [hi.2]; omega
    refine (rfl : _ = z (ix2 p k)).trans ?_
    exact (congrArg z e).symm) fun i => by
    have h0 : (i 0 : Nat) < 8 := (i 0).isLt
    have h1 : (i 1 : Nat) < 512 := (i 1).isLt
    have hi := idx2_9 ⟨15, last2⟩
    refine ⟨⟨15, last2⟩, (flush2_9 _).mpr rfl, ?_⟩
    show i ∈ ((View.whole main_v3_3).slice (win2_9.rect ⟨15, last2⟩)).set
    rw [View.set_slice_whole, Rect.mem_set_unit]
    intro a
    match a with
    | ⟨0, _⟩ => show win2_9.index ⟨15, last2⟩ 0 * 8 ≤ (i 0 : Nat) ∧ (i 0 : Nat) < win2_9.index ⟨15, last2⟩ 0 * 8 + 8
                rw [hi.1]; omega
    | ⟨1, _⟩ => show win2_9.index ⟨15, last2⟩ 1 * 512 ≤ (i 1 : Nat) ∧ (i 1 : Nat) < win2_9.index ⟨15, last2⟩ 1 * 512 + 512
                rw [hi.2]; omega
theorem fin2_9 (k : Fin 512) : ((dat2 V c).arrAt 9 cfg2.N : Vec Ideal S8x512 .f32) (ix2 0 k) = rG D 1 k := by
  rw [arr2_9 V c _ rfl, pt9 V c D hU hO0 hO1 hW 15 last2 k]
  exact sum_gpart D 1 k

/-! ## The rows' gradients -/

variable (hG0 : ∀ j, (V c main_arg3 : Vec Ideal S1x512 .f32) (ix2 0 j) = D.G 0 j)
  (hG1 : ∀ j, (V c main_arg4 : Vec Ideal S1x512 .f32) (ix2 0 j) = D.G 1 j)
include hG0 hG1
theorem row6 (t : Fin cfg2.N) (p k : Fin 512) :
    (outsAt2 V c t.val t.isLt).1 (ix2 p k) = rO D 0 (tok5 t.val (N2 t) p) k := by
  by_cases h0 : t.val % 16 = 0
  · rw [outsAt2_A V c t h0]
    dsimp only
    rw [out6_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (iblk2 V c 0 t) (iblk2 V c 1 t) (iblk2 V c 2 t) (iblk2 V c 3 t) (iblk2 V c 4 t) (iblk2 V c 5 t) ((hcond2_0 t).mpr h0)]
    exact pay7_2 _ _ _ _ (fun p l => D.U (tok5 t.val (N2 t) p) l) (fun j l => D.W (cw 0 j) l) (fun p => D.O 0 (tok5 t.val (N2 t) p)) (D.G 0) (fun p l => (in2_0 V c t p l).trans (hU _ _)) (fun j l => (ld_row (N := 1024) _ 0 _ j l (cw 0 j) (by show 512 * 0 + j.val = 0 + j.val; omega)).trans ((in2_5 V c t _ _).trans (hW _ _))) (fun p k => (in2_1 V c t p k).trans (hO0 _ _)) (fun k => (in2_3 V c t 0 k).trans (hG0 _)) p k
  · rw [outsAt2_B V c t h0]
    dsimp only
    rw [out6_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (iblk2 V c 0 t) (iblk2 V c 1 t) (iblk2 V c 2 t) (iblk2 V c 3 t) (iblk2 V c 4 t) (iblk2 V c 5 t) (fun h => h0 ((hcond2_0 t).mp h)) _ _]
    exact pay7_2 _ _ _ _ (fun p l => D.U (tok5 t.val (N2 t) p) l) (fun j l => D.W (cw 0 j) l) (fun p => D.O 0 (tok5 t.val (N2 t) p)) (D.G 0) (fun p l => (in2_0 V c t p l).trans (hU _ _)) (fun j l => (ld_row (N := 1024) _ 0 _ j l (cw 0 j) (by show 512 * 0 + j.val = 0 + j.val; omega)).trans ((in2_5 V c t _ _).trans (hW _ _))) (fun p k => (in2_1 V c t p k).trans (hO0 _ _)) (fun k => (in2_3 V c t 0 k).trans (hG0 _)) p k
omit hU hO0 hO1 hW hG0 hG1 in
theorem idx2_6 : ∀ t : Fin grid2.N, win2_6.index t 0 = t.val ∧ win2_6.index t 1 = 0 := by decide +kernel
theorem fin2_6 : (dat2 V c).arrAt 6 cfg2.N = (fun i : S8192x512.Idx => rO D 0 (i 0) (i 1)) :=
  (dat2 V c).arrAt_eq_of_cover 6 (fun i : S8192x512.Idx => rO D 0 (i 0) (i 1)) (fun t hf => by
    show (cfg2.win 6).cut (grid2.coords t) ((dat2 V c).after 6 t) = _
    rw [after2_6]
    funext j
    obtain ⟨p, k, rfl⟩ : ∃ (p : Fin 512) (k : Fin 512), j = ix2 p k := ⟨j 0, j 1, (ix2_eta j).symm⟩
    have hi := idx2_6 t
    rw [View.read_apply]
    refine (row6 V c D hU hO0 hO1 hW hG0 hG1 t p k).trans ?_
    have e : (((cfg2.win 6).blk t).view.emb (ix2 p k) : S8192x512.Idx) = ix2 (tok5 t.val (N2 t) p) k := by
      funext a
      apply Fin.ext
      match a with
      | ⟨0, _⟩ => show win2_6.index t 0 * 512 + 1 * p.val = 512 * t.val + p.val; rw [hi.1]; omega
      | ⟨1, _⟩ => show win2_6.index t 1 * 512 + 1 * k.val = k.val; rw [hi.2]; omega
    exact (congrArg (fun i : S8192x512.Idx => rO D 0 (i 0) (i 1)) e).symm) fun i => by
    have h0 : (i 0 : Nat) < 8192 := (i 0).isLt
    have h1 : (i 1 : Nat) < 512 := (i 1).isLt
    have ht : (i 0 : Nat) / 512 < cfg2.N := by rw [show cfg2.N = 16 from N_2]; omega
    have hi := idx2_6 ⟨(i 0 : Nat) / 512, ht⟩
    refine ⟨⟨(i 0 : Nat) / 512, ht⟩, flush2_6 _, ?_⟩
    show i ∈ ((View.whole main_v3_0).slice (win2_6.rect ⟨(i 0 : Nat) / 512, ht⟩)).set
    rw [View.set_slice_whole, Rect.mem_set_unit]
    intro a
    match a with
    | ⟨0, _⟩ => show win2_6.index ⟨(i 0 : Nat) / 512, ht⟩ 0 * 512 ≤ (i 0 : Nat) ∧ (i 0 : Nat) < win2_6.index ⟨(i 0 : Nat) / 512, ht⟩ 0 * 512 + 512
                rw [hi.1]; dsimp only; omega
    | ⟨1, _⟩ => show win2_6.index ⟨(i 0 : Nat) / 512, ht⟩ 1 * 512 ≤ (i 1 : Nat) ∧ (i 1 : Nat) < win2_6.index ⟨(i 0 : Nat) / 512, ht⟩ 1 * 512 + 512
                rw [hi.2]; omega
theorem row7 (t : Fin cfg2.N) (p k : Fin 512) :
    (outsAt2 V c t.val t.isLt).2.1 (ix2 p k) = rO D 1 (tok5 t.val (N2 t) p) k := by
  by_cases h0 : t.val % 16 = 0
  · rw [outsAt2_A V c t h0]
    dsimp only
    rw [out7_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (iblk2 V c 0 t) (iblk2 V c 1 t) (iblk2 V c 2 t) (iblk2 V c 3 t) (iblk2 V c 4 t) (iblk2 V c 5 t) ((hcond2_0 t).mpr h0)]
    exact pay14_2 _ _ _ _ (fun p l => D.U (tok5 t.val (N2 t) p) l) (fun j l => D.W (cw 1 j) l) (fun p => D.O 1 (tok5 t.val (N2 t) p)) (D.G 1) (fun p l => (in2_0 V c t p l).trans (hU _ _)) (fun j l => (ld_row (N := 1024) _ 512 _ j l (cw 1 j) (by show 512 * 1 + j.val = 512 + j.val; omega)).trans ((in2_5 V c t _ _).trans (hW _ _))) (fun p k => (in2_2 V c t p k).trans (hO1 _ _)) (fun k => (in2_4 V c t 0 k).trans (hG1 _)) p k
  · rw [outsAt2_B V c t h0]
    dsimp only
    rw [out7_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (iblk2 V c 0 t) (iblk2 V c 1 t) (iblk2 V c 2 t) (iblk2 V c 3 t) (iblk2 V c 4 t) (iblk2 V c 5 t) (fun h => h0 ((hcond2_0 t).mp h)) _ _]
    exact pay14_2 _ _ _ _ (fun p l => D.U (tok5 t.val (N2 t) p) l) (fun j l => D.W (cw 1 j) l) (fun p => D.O 1 (tok5 t.val (N2 t) p)) (D.G 1) (fun p l => (in2_0 V c t p l).trans (hU _ _)) (fun j l => (ld_row (N := 1024) _ 512 _ j l (cw 1 j) (by show 512 * 1 + j.val = 512 + j.val; omega)).trans ((in2_5 V c t _ _).trans (hW _ _))) (fun p k => (in2_2 V c t p k).trans (hO1 _ _)) (fun k => (in2_4 V c t 0 k).trans (hG1 _)) p k
omit hU hO0 hO1 hW hG0 hG1 in
theorem idx2_7 : ∀ t : Fin grid2.N, win2_7.index t 0 = t.val ∧ win2_7.index t 1 = 0 := by decide +kernel
theorem fin2_7 : (dat2 V c).arrAt 7 cfg2.N = (fun i : S8192x512.Idx => rO D 1 (i 0) (i 1)) :=
  (dat2 V c).arrAt_eq_of_cover 7 (fun i : S8192x512.Idx => rO D 1 (i 0) (i 1)) (fun t hf => by
    show (cfg2.win 7).cut (grid2.coords t) ((dat2 V c).after 7 t) = _
    rw [after2_7]
    funext j
    obtain ⟨p, k, rfl⟩ : ∃ (p : Fin 512) (k : Fin 512), j = ix2 p k := ⟨j 0, j 1, (ix2_eta j).symm⟩
    have hi := idx2_7 t
    rw [View.read_apply]
    refine (row7 V c D hU hO0 hO1 hW hG0 hG1 t p k).trans ?_
    have e : (((cfg2.win 7).blk t).view.emb (ix2 p k) : S8192x512.Idx) = ix2 (tok5 t.val (N2 t) p) k := by
      funext a
      apply Fin.ext
      match a with
      | ⟨0, _⟩ => show win2_7.index t 0 * 512 + 1 * p.val = 512 * t.val + p.val; rw [hi.1]; omega
      | ⟨1, _⟩ => show win2_7.index t 1 * 512 + 1 * k.val = k.val; rw [hi.2]; omega
    exact (congrArg (fun i : S8192x512.Idx => rO D 1 (i 0) (i 1)) e).symm) fun i => by
    have h0 : (i 0 : Nat) < 8192 := (i 0).isLt
    have h1 : (i 1 : Nat) < 512 := (i 1).isLt
    have ht : (i 0 : Nat) / 512 < cfg2.N := by rw [show cfg2.N = 16 from N_2]; omega
    have hi := idx2_7 ⟨(i 0 : Nat) / 512, ht⟩
    refine ⟨⟨(i 0 : Nat) / 512, ht⟩, flush2_7 _, ?_⟩
    show i ∈ ((View.whole main_v3_1).slice (win2_7.rect ⟨(i 0 : Nat) / 512, ht⟩)).set
    rw [View.set_slice_whole, Rect.mem_set_unit]
    intro a
    match a with
    | ⟨0, _⟩ => show win2_7.index ⟨(i 0 : Nat) / 512, ht⟩ 0 * 512 ≤ (i 0 : Nat) ∧ (i 0 : Nat) < win2_7.index ⟨(i 0 : Nat) / 512, ht⟩ 0 * 512 + 512
                rw [hi.1]; dsimp only; omega
    | ⟨1, _⟩ => show win2_7.index ⟨(i 0 : Nat) / 512, ht⟩ 1 * 512 ≤ (i 1 : Nat) ∧ (i 1 : Nat) < win2_7.index ⟨(i 0 : Nat) / 512, ht⟩ 1 * 512 + 512
                rw [hi.2]; omega
end

end Cert.Kernel4Ideal.Out
-- ==== Proof.OutDw.lean ====
/- The output projection's weight gradient over its grid: the whole array the call leaves, in closed form. -/
module

public import proofs.«01_k».proof.Proof.OutBody

@[expose] public section

set_option maxRecDepth 16384

noncomputable section

namespace Cert.Kernel4Ideal.Out

open Cert.Kernel4Ideal Cert.Kernel4Ideal.Gen Cert.Out Idealize.ShloMosaic Idealize.ShloMosaic.TcCoe Idealize.SL.Sem
open Cert.Inp (tok5 chk sum_tok5 sum_chk)

variable (V : (c : Dev nD) → (b : Ref sig .tc) → Buf (Elt Idealize.ShloMosaic.Ideal) ((c : Thread nD τ).loc b)) (c : Dev nD)

section
variable (i : grid1.Coords) (arg2 : Memref sig .tc .vmem S1024x1024 .bf16) (harg2 : arg2.IsWhole) (arg3 : Memref sig .tc .vmem S1024x1024 .f32) (harg3 : arg3.IsWhole) (arg4 : Memref sig .tc .vmem S1024x1024 .f32) (harg4 : arg4.IsWhole)
  (x0 : Vec Ideal S1024x1024 .bf16) (x1 : Vec Ideal S1024x1024 .f32)
theorem dw1_A (hc0 : cond1_0 i) : out1_A_2 c i arg2 harg2 arg3 harg3 arg4 harg4 hc0 x0 x1 = k1_pay2 (k1_pay1 (F := Ideal)) x0 x1 := by
  unfold out1_A_2
  rw [View.read_writes_eq_canon _ _ _ (cover1_A_2 c i arg2 harg2 arg3 harg3 arg4 harg4 hc0 x0 x1)]
  unfold kernelRun1_A
  dsimp only
  sl_unfold_words
  rw [View.canon_cons_unit_zero (S := S1024x1024) hz]
  simp only [View.readAt_eq_ld, harg2.read_unread, harg3.read_unread, harg4.read_unread, View.ld_unit_zero (S := S1024x1024) hz, View.readCov_unit_zero (S := S1024x1024) _ hz]
theorem dw1_B (hc0 : ¬cond1_0 i) (xo2 : Vec Ideal S1024x1024 .f32) : out1_B_2 c i arg2 harg2 arg3 harg3 arg4 harg4 hc0 x0 x1 xo2 = k1_pay2 xo2 x0 x1 := by
  unfold out1_B_2
  rw [View.read_writes_eq_canon _ _ _ (cover1_B_2 c i arg2 harg2 arg3 harg3 arg4 harg4 hc0 x0 x1 xo2)]
  unfold kernelRun1_B
  dsimp only
  sl_unfold_words
  rw [View.canon_unit_zero (S := S1024x1024) hz]
  simp only [View.readAt_eq_ld, harg2.read_unread, harg3.read_unread, harg4.read_unread, View.ld_unit_zero (S := S1024x1024) hz]
end

theorem N1 (t : Fin cfg1.N) : t.val < 8 := lt_of_lt_of_eq t.isLt N_1
theorem idx1_0 : ∀ t : Fin grid1.N, win1_0.index t 0 = 0 ∧ win1_0.index t 1 = t.val := by decide +kernel
theorem in1_0 (t : Fin cfg1.N) (p : Fin 1024) (k : Fin 1024) :
    (iblk1 V c 0 t : Vec Ideal S1024x1024 .bf16) (ix2 p k) = (V c main_v1_1 : Vec Ideal S1024x8192 .bf16) (ix2 p (chk t.val k)) := by
  have hi := idx1_0 t
  unfold iblk1
  rw [View.read_apply]
  show V c main_v1_1 _ = V c main_v1_1 _
  congr 1
  funext a
  apply Fin.ext
  match a with
  | ⟨0, _⟩ => show win1_0.index t 0 * 1024 + 1 * p.val = p.val; rw [hi.1]; omega
  | ⟨1, _⟩ => show win1_0.index t 1 * 1024 + 1 * k.val = (1024 * t.val + k.val) % 8192; rw [hi.2]; have := k.isLt; have := N1 t; omega
theorem idx1_1 : ∀ t : Fin grid1.N, win1_1.index t 0 = t.val ∧ win1_1.index t 1 = 0 := by decide +kernel
theorem in1_1 (t : Fin cfg1.N) (p : Fin 1024) (k : Fin 1024) :
    (iblk1 V c 1 t : Vec Ideal S1024x1024 .f32) (ix2 p k) = (V c main_arg6 : Vec Ideal S8192x1024 .f32) (ix2 (chk t.val p) k) := by
  have hi := idx1_1 t
  unfold iblk1
  rw [View.read_apply]
  show V c main_arg6 _ = V c main_arg6 _
  congr 1
  funext a
  apply Fin.ext
  match a with
  | ⟨0, _⟩ => show win1_1.index t 0 * 1024 + 1 * p.val = (1024 * t.val + p.val) % 8192; rw [hi.1]; have := p.isLt; have := N1 t; omega
  | ⟨1, _⟩ => show win1_1.index t 1 * 1024 + 1 * k.val = k.val; rw [hi.2]; omega

/-- What the first chunks of tokens up to number `m` give a weight. -/
def wsum (D : Args) (m : ℕ) (k l : Fin 1024) : EReal := ∑ q ∈ Finset.range (m + 1), ∑ p : Fin 1024, aC D (chk q p) k * D.U (chk q p) l

section
variable (D : Args)
  (hN : ∀ k n, (V c main_v1_1 : Vec Ideal S1024x8192 .bf16) (ix2 k n) = aC D n k)
  (hU : ∀ n k, (V c main_arg6 : Vec Ideal S8192x1024 .f32) (ix2 n k) = D.U n k)
include hN hU

theorem add1 (t : Fin cfg1.N) (z : Vec Ideal S1024x1024 .f32) (s : Fin 1024 → Fin 1024 → EReal) (h : ∀ k l, z (ix2 k l) = s k l) (k l : Fin 1024) :
    k1_pay2 z (iblk1 V c 0 t) (iblk1 V c 1 t) (ix2 k l) = s k l + ∑ p : Fin 1024, aC D (chk t.val p) k * D.U (chk t.val p) l :=
  pay2_1 z _ _ s (fun k p => aC D (chk t.val p) k) (fun p l => D.U (chk t.val p) l) h (fun k p => (in1_0 V c t k p).trans (hN _ _)) (fun p l => (in1_1 V c t p l).trans (hU _ _)) k l

theorem ptA1 (t : Fin cfg1.N) (h0 : t.val % 8 = 0) (k l : Fin 1024) :
    outsAt1 V c t.val t.isLt (ix2 k l) = wsum D t.val k l := by
  have h1 : t.val = 0 := by have := N1 t; omega
  refine (congrFun ((outsAt1_A V c t h0).trans (dw1_A c (grid1.coords t) (ms1_0 t) (hs1_0 t) (ms1_1 t) (hs1_1 t) (ms1_2 t) (hs1_2 t) (iblk1 V c 0 t) (iblk1 V c 1 t) ((hcond1_0 t).mpr h0))) _).trans ?_
  refine (add1 V c D hN hU t _ (fun _ _ => 0) pay1_1 k l).trans ?_
  unfold wsum
  rw [h1]
  simp only [Finset.sum_range_one, zero_add]

theorem pt1 : ∀ (n : ℕ) (hn : n < cfg1.N) (k l : Fin 1024), outsAt1 V c n hn (ix2 k l) = wsum D n k l
  | 0, hn, k, l => ptA1 V c D hN hU ⟨0, hn⟩ rfl k l
  | n + 1, hn, k, l => by
    have h0 : ¬(n + 1) % 8 = 0 := by have : n + 1 < 8 := lt_of_lt_of_eq hn N_1; omega
    refine (congrFun ((outsAt1_B V c (⟨n + 1, hn⟩ : Fin cfg1.N) h0).trans (dw1_B c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) (iblk1 V c 0 (⟨n + 1, hn⟩ : Fin cfg1.N)) (iblk1 V c 1 (⟨n + 1, hn⟩ : Fin cfg1.N)) (fun h => h0 ((hcond1_0 (⟨n + 1, hn⟩ : Fin cfg1.N)).mp h)) _)) _).trans ?_
    refine (add1 V c D hN hU (⟨n + 1, hn⟩ : Fin cfg1.N) _ (wsum D n) (pt1 n (Nat.lt_of_succ_lt hn)) k l).trans ?_
    unfold wsum
    rw [Finset.sum_range_succ _ (n + 1)]

theorem end1 (t : Fin cfg1.N) (h : t.val = 7) (k l : Fin 1024) : outsAt1 V c t.val t.isLt (ix2 k l) = rW D k l := by
  refine (pt1 V c D hN hU t.val t.isLt k l).trans ?_
  unfold rW
  rw [sum_chk, h, wsum]

omit hN hU in
theorem idx1_2 : ∀ t : Fin grid1.N, win1_2.index t 0 = 0 ∧ win1_2.index t 1 = 0 := by decide +kernel
theorem fin1_2 : (dat1 V c).arrAt 2 cfg1.N = (fun i : S1024x1024.Idx => rW D (i 0) (i 1)) :=
  (dat1 V c).arrAt_eq_of_cover 2 (fun i : S1024x1024.Idx => rW D (i 0) (i 1)) (fun t hf => by
    have h7 := (flush1_2 t).mp hf
    have h8 : t.val = 7 := by have := N1 t; omega
    show (cfg1.win 2).cut (grid1.coords t) ((dat1 V c).after 2 t) = _
    rw [after1_2]
    funext j
    obtain ⟨p, k, rfl⟩ : ∃ (p : Fin 1024) (k : Fin 1024), j = ix2 p k := ⟨j 0, j 1, (ix2_eta j).symm⟩
    have hi := idx1_2 t
    rw [View.read_apply]
    refine (end1 V c D hN hU t h8 p k).trans ?_
    have e : (((cfg1.win 2).blk t).view.emb (ix2 p k) : S1024x1024.Idx) = ix2 p k := by
      funext a
      apply Fin.ext
      match a with
      | ⟨0, _⟩ => show win1_2.index t 0 * 1024 + 1 * p.val = p.val; rw [hi.1]; omega
      | ⟨1, _⟩ => show win1_2.index t 1 * 1024 + 1 * k.val = k.val; rw [hi.2]; omega
    exact (congrArg (fun i : S1024x1024.Idx => rW D (i 0) (i 1)) e).symm) fun i => by
    have h0 : (i 0 : Nat) < 1024 := (i 0).isLt
    have h1 : (i 1 : Nat) < 1024 := (i 1).isLt
    have ht : 7 < cfg1.N := by rw [show cfg1.N = 8 from N_1]; omega
    have hi := idx1_2 ⟨7, ht⟩
    refine ⟨⟨7, ht⟩, (flush1_2 _).mpr rfl, ?_⟩
    show i ∈ ((View.whole main_v2).slice (win1_2.rect ⟨7, ht⟩)).set
    rw [View.set_slice_whole, Rect.mem_set_unit]
    intro a
    match a with
    | ⟨0, _⟩ => show win1_2.index ⟨7, ht⟩ 0 * 1024 ≤ (i 0 : Nat) ∧ (i 0 : Nat) < win1_2.index ⟨7, ht⟩ 0 * 1024 + 1024
                rw [hi.1]; omega
    | ⟨1, _⟩ => show win1_2.index ⟨7, ht⟩ 1 * 1024 ≤ (i 1 : Nat) ∧ (i 1 : Nat) < win1_2.index ⟨7, ht⟩ 1 * 1024 + 1024
                rw [hi.2]; omega
end

end Cert.Kernel4Ideal.Out
-- ==== Proof.OutHost.lean ====
/- The output projection's host lines, read at an index. -/
module

public import proofs.«01_k».proof.Proof.OutBody

@[expose] public section

set_option maxRecDepth 16384

noncomputable section

namespace Cert.Kernel4Ideal.Out

open Cert.Kernel4Ideal Cert.Kernel4Ideal.Gen Cert.Out Idealize.ShloMosaic Idealize.ShloMosaic.TcCoe Idealize.ShloMosaic.StableHlo Idealize.SL.Sem

variable (X : Valuation τ sig (Elt Idealize.ShloMosaic.Ideal))

theorem host0_v0 (x : Vec Ideal S1024x1024 .f32) (hx : X (Proc.devRef .tc main_arg5) = x) (k c : Fin 1024) :
    (StableHlo.after (hostOps0 (F := Ideal)) X (Proc.devRef .tc main_v0) : Vec Ideal S1024x1024 .bf16) (ix2 k c) = x (ix2 k c) := by
  have e : StableHlo.after (hostOps0 (F := Ideal)) X (Proc.devRef .tc main_v0) = (truncf (F := Ideal) .bf16 x bitsLt_bf16_f32 : Vec Ideal S1024x1024 .bf16) := by
    subst hx
    unfold hostOps0; after_results
    try rfl
  rw [e]
  pointwise []
theorem host3_v4 (x : Vec Ideal S8x512 .f32) (hx : X (Proc.devRef .tc main_v3_2) = x) :
    StableHlo.after (hostOps3 (F := Ideal)) X (Proc.devRef .tc main_v4) = (fun i : S1x512.Idx => x (ix2 0 (i 1)) : Vec Ideal S1x512 .f32) := by
  have e : StableHlo.after (hostOps3 (F := Ideal)) X (Proc.devRef .tc main_v4) = (extractStridedSlice S1x512 ![0, 0] x slices_S8x512_S1x512_0_0 : Vec Ideal S1x512 .f32) := by
    subst hx
    unfold hostOps3; after_results
    try rfl
  refine e.trans (funext fun i => ?_)
  obtain ⟨b, rfl⟩ : ∃ b, i = ix2 0 b := ⟨i 1, by rw [← ix2_eta i]; congr 1; exact Subsingleton.elim _ _⟩
  pointwise []
theorem host3_v5 (x : Vec Ideal S8x512 .f32) (hx : X (Proc.devRef .tc main_v3_3) = x) :
    StableHlo.after (hostOps3 (F := Ideal)) X (Proc.devRef .tc main_v5) = (fun i : S1x512.Idx => x (ix2 0 (i 1)) : Vec Ideal S1x512 .f32) := by
  have e : StableHlo.after (hostOps3 (F := Ideal)) X (Proc.devRef .tc main_v5) = (extractStridedSlice S1x512 ![0, 0] x slices_S8x512_S1x512_0_0 : Vec Ideal S1x512 .f32) := by
    subst hx
    unfold hostOps3; after_results
    try rfl
  refine e.trans (funext fun i => ?_)
  obtain ⟨b, rfl⟩ : ∃ b, i = ix2 0 b := ⟨i 1, by rw [← ix2_eta i]; congr 1; exact Subsingleton.elim _ _⟩
  pointwise []

end Cert.Kernel4Ideal.Out
-- ==== Proof.OutRun.lean ====
/- The output projection's program run whole: what its results hold, in closed form. -/
module

public import proofs.«01_k».proof.Proof.OutFwd
public import proofs.«01_k».proof.Proof.OutBwd
public import proofs.«01_k».proof.Proof.OutDw
public import proofs.«01_k».proof.Proof.OutHost

@[expose] public section

set_option maxRecDepth 16384

noncomputable section

namespace Cert.Kernel4Ideal.Out

open Cert.Kernel4Ideal Cert.Kernel4Ideal.Gen Cert.Out
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every buffer of the program ends at the last boundary's contents. -/
theorem ends : θ_run (defs (F := Ideal)) (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-! ## The results in closed form -/

/-- The arguments on a device are those of `D`. -/
structure Reads (c : Dev nD) (D : Args) : Prop where
  O0 : ∀ n j, (m ((c : Thread nD τ).loc main_arg0) : Vec Ideal S8192x512 .f32) (ix2 n j) = D.O 0 n j
  O1 : ∀ n j, (m ((c : Thread nD τ).loc main_arg1) : Vec Ideal S8192x512 .f32) (ix2 n j) = D.O 1 n j
  X : ∀ n k, (m ((c : Thread nD τ).loc main_arg2) : Vec Ideal S8192x1024 .f32) (ix2 n k) = D.X n k
  G0 : ∀ j, (m ((c : Thread nD τ).loc main_arg3) : Vec Ideal S1x512 .f32) (ix2 0 j) = D.G 0 j
  G1 : ∀ j, (m ((c : Thread nD τ).loc main_arg4) : Vec Ideal S1x512 .f32) (ix2 0 j) = D.G 1 j
  W : ∀ k j, (m ((c : Thread nD τ).loc main_arg5) : Vec Ideal S1024x1024 .f32) (ix2 k j) = D.W k j
  U : ∀ n k, (m ((c : Thread nD τ).loc main_arg6) : Vec Ideal S8192x1024 .f32) (ix2 n k) = D.U n k

section
variable {m} {c : Dev nD} {D : Args} (H : Reads m c D)
include H

theorem V1_O0 (n : Fin 8192) (j : Fin 512) : (V1 m ρ c main_arg0 : Vec Ideal S8192x512 .f32) (ix2 n j) = D.O 0 n j :=
  (congrFun (W1_args m ρ c main_arg0 (by decide)) (ix2 n j)).trans (H.O0 n j)
theorem V1_O1 (n : Fin 8192) (j : Fin 512) : (V1 m ρ c main_arg1 : Vec Ideal S8192x512 .f32) (ix2 n j) = D.O 1 n j :=
  (congrFun (W1_args m ρ c main_arg1 (by decide)) (ix2 n j)).trans (H.O1 n j)
theorem V1_X (n : Fin 8192) (k : Fin 1024) : (V1 m ρ c main_arg2 : Vec Ideal S8192x1024 .f32) (ix2 n k) = D.X n k :=
  (congrFun (W1_args m ρ c main_arg2 (by decide)) (ix2 n k)).trans (H.X n k)
theorem V1_G0 (j : Fin 512) : (V1 m ρ c main_arg3 : Vec Ideal S1x512 .f32) (ix2 0 j) = D.G 0 j :=
  (congrFun (W1_args m ρ c main_arg3 (by decide)) (ix2 0 j)).trans (H.G0 j)
theorem V1_G1 (j : Fin 512) : (V1 m ρ c main_arg4 : Vec Ideal S1x512 .f32) (ix2 0 j) = D.G 1 j :=
  (congrFun (W1_args m ρ c main_arg4 (by decide)) (ix2 0 j)).trans (H.G1 j)
theorem V1_W (k j : Fin 1024) : (V1 m ρ c main_v0 : Vec Ideal S1024x1024 .bf16) (ix2 k j) = D.W k j :=
  (host0_v0 (W0 m ρ c) _ rfl k j).trans (H.W k j)
theorem W2_6 : W2 m ρ c (Proc.devRef .tc main_v1_0) = (fun i => rY D (i 0) (i 1) : Vec Ideal S8192x1024 .f32) :=
  (W2_arr m ρ c 6).trans (fin0_6 (V1 m ρ) c D (V1_O0 ρ H) (V1_O1 ρ H) (V1_X ρ H) (V1_G0 ρ H) (V1_G1 ρ H) (V1_W ρ H))
theorem W2_7 : W2 m ρ c (Proc.devRef .tc main_v1_1) = (fun i => aC D (i 1) (i 0) : Vec Ideal S1024x8192 .bf16) :=
  (W2_arr m ρ c 7).trans (fin0_7 (V1 m ρ) c D (V1_O0 ρ H) (V1_O1 ρ H) (V1_X ρ H) (V1_G0 ρ H) (V1_G1 ρ H) (V1_W ρ H))
theorem V2_N (k : Fin 1024) (n : Fin 8192) : (V2 m ρ c main_v1_1 : Vec Ideal S1024x8192 .bf16) (ix2 k n) = aC D n k :=
  congrFun (W2_7 ρ H) (ix2 k n)
theorem V2_U (n : Fin 8192) (k : Fin 1024) : (V2 m ρ c main_arg6 : Vec Ideal S8192x1024 .f32) (ix2 n k) = D.U n k :=
  (congrFun (W2_args m ρ c main_arg6 (by decide)) (ix2 n k)).trans (H.U n k)
theorem W3_2 : W3 m ρ c (Proc.devRef .tc main_v2) = (fun i => rW D (i 0) (i 1) : Vec Ideal S1024x1024 .f32) :=
  (W3_arr m ρ c 2).trans (fin1_2 (V2 m ρ) c D (V2_N ρ H) (V2_U ρ H))
theorem V3_O0 (n : Fin 8192) (j : Fin 512) : (V3 m ρ c main_arg0 : Vec Ideal S8192x512 .f32) (ix2 n j) = D.O 0 n j :=
  (congrFun (W3_args m ρ c main_arg0 (by decide)) (ix2 n j)).trans (H.O0 n j)
theorem V3_O1 (n : Fin 8192) (j : Fin 512) : (V3 m ρ c main_arg1 : Vec Ideal S8192x512 .f32) (ix2 n j) = D.O 1 n j :=
  (congrFun (W3_args m ρ c main_arg1 (by decide)) (ix2 n j)).trans (H.O1 n j)
theorem V3_G0 (j : Fin 512) : (V3 m ρ c main_arg3 : Vec Ideal S1x512 .f32) (ix2 0 j) = D.G 0 j :=
  (congrFun (W3_args m ρ c main_arg3 (by decide)) (ix2 0 j)).trans (H.G0 j)
theorem V3_G1 (j : Fin 512) : (V3 m ρ c main_arg4 : Vec Ideal S1x512 .f32) (ix2 0 j) = D.G 1 j :=
  (congrFun (W3_args m ρ c main_arg4 (by decide)) (ix2 0 j)).trans (H.G1 j)
theorem V3_U (n : Fin 8192) (k : Fin 1024) : (V3 m ρ c main_arg6 : Vec Ideal S8192x1024 .f32) (ix2 n k) = D.U n k :=
  (congrFun (W3_args m ρ c main_arg6 (by decide)) (ix2 n k)).trans (H.U n k)
theorem V3_W (k j : Fin 1024) : (V3 m ρ c main_v0 : Vec Ideal S1024x1024 .bf16) (ix2 k j) = D.W k j :=
  (congrFun ((W3_of m ρ c main_v0 (by decide)).trans (W2_of m ρ c main_v0 (by decide))) (ix2 k j)).trans (V1_W ρ H k j)
theorem W4_6 : W4 m ρ c (Proc.devRef .tc main_v3_0) = (fun i => rO D 0 (i 0) (i 1) : Vec Ideal S8192x512 .f32) :=
  (W4_arr m ρ c 6).trans (fin2_6 (V3 m ρ) c D (V3_U ρ H) (V3_O0 ρ H) (V3_O1 ρ H) (V3_W ρ H) (V3_G0 ρ H) (V3_G1 ρ H))
theorem W4_8 (z : Vec Ideal S8x512 .f32) (hz : W4 m ρ c (Proc.devRef .tc main_v3_2) = z) (k : Fin 512) : z (ix2 0 k) = rG D 0 k := by
  subst hz
  exact (congrFun (W4_arr m ρ c 8) (ix2 0 k)).trans (fin2_8 (V3 m ρ) c D (V3_U ρ H) (V3_O0 ρ H) (V3_O1 ρ H) (V3_W ρ H) k)
theorem W4_7 : W4 m ρ c (Proc.devRef .tc main_v3_1) = (fun i => rO D 1 (i 0) (i 1) : Vec Ideal S8192x512 .f32) :=
  (W4_arr m ρ c 7).trans (fin2_7 (V3 m ρ) c D (V3_U ρ H) (V3_O0 ρ H) (V3_O1 ρ H) (V3_W ρ H) (V3_G0 ρ H) (V3_G1 ρ H))
theorem W4_9 (z : Vec Ideal S8x512 .f32) (hz : W4 m ρ c (Proc.devRef .tc main_v3_3) = z) (k : Fin 512) : z (ix2 0 k) = rG D 1 k := by
  subst hz
  exact (congrFun (W4_arr m ρ c 9) (ix2 0 k)).trans (fin2_9 (V3 m ρ) c D (V3_U ρ H) (V3_O0 ρ H) (V3_O1 ρ H) (V3_W ρ H) k)

/-! ## The results at the end -/

theorem end_y : W5 m ρ c (Proc.devRef .tc main_v1_0) = (fun i => rY D (i 0) (i 1) : Vec Ideal S8192x1024 .f32) :=
  ((W5_of m ρ c main_v1_0 (by decide)).trans ((W4_of m ρ c main_v1_0 (by decide)).trans (W3_of m ρ c main_v1_0 (by decide)))).trans (W2_6 ρ H)
theorem end_w : W5 m ρ c (Proc.devRef .tc main_v2) = (fun i => rW D (i 0) (i 1) : Vec Ideal S1024x1024 .f32) :=
  ((W5_of m ρ c main_v2 (by decide)).trans (W4_of m ρ c main_v2 (by decide))).trans (W3_2 ρ H)
theorem end_o0 : W5 m ρ c (Proc.devRef .tc main_v3_0) = (fun i => rO D 0 (i 0) (i 1) : Vec Ideal S8192x512 .f32) :=
  (W5_of m ρ c main_v3_0 (by decide)).trans (W4_6 ρ H)
theorem end_g0 : W5 m ρ c (Proc.devRef .tc main_v4) = (fun i => rG D 0 (i 1) : Vec Ideal S1x512 .f32) :=
  (host3_v4 (W4 m ρ c) _ rfl).trans (funext fun i => W4_8 ρ H _ rfl (i 1))
theorem end_o1 : W5 m ρ c (Proc.devRef .tc main_v3_1) = (fun i => rO D 1 (i 0) (i 1) : Vec Ideal S8192x512 .f32) :=
  (W5_of m ρ c main_v3_1 (by decide)).trans (W4_7 ρ H)
theorem end_g1 : W5 m ρ c (Proc.devRef .tc main_v5) = (fun i => rG D 1 (i 1) : Vec Ideal S1x512 .f32) :=
  (host3_v5 (W4 m ρ c) _ rfl).trans (funext fun i => W4_9 ρ H _ rfl (i 1))
end

end Cert.Kernel4Ideal.Out
-- ==== Proof.OutRef.lean ====
/- The output projection's reference read at a place, in closed form. -/
module

public import proofs.«01_k».proof.Proof.OutMath
public import proofs.«01_k».proof.Proof.InpCat
public import proofs.«01_k».proof.Proof.Gen.Reference4Ideal.Run
public import proofs.«01_k».proof.Proof.Gen.Reference4Ideal.Read

@[expose] public section

set_option maxRecDepth 16384

noncomputable section

namespace Cert.Reference4Ideal.Out

open Cert.Reference4Ideal Cert.Reference4Ideal.Gen Cert.Reference4Ideal.Read Cert.Out Idealize.ShloMosaic
open Cert.Ffn (eps lit_eps lit_neg_half)
open Cert.Inp (cat_col)

variable (D : Cert.Out.Args) (x0 x1 : Vec Ideal S8192x512 .f32) (x2 : Vec Ideal S8192x1024 .f32) (x3 x4 : Vec Ideal S1x512 .f32) (x5 : Vec Ideal S1024x1024 .f32) (x6 : Vec Ideal S8192x1024 .f32)

/-- The reference's arguments are those of `D`. -/
structure Reads : Prop where
  h0 : ∀ i, x0 i = D.O 0 (i 0) (i 1)
  h1 : ∀ i, x1 i = D.O 1 (i 0) (i 1)
  h2 : ∀ i, x2 i = D.X (i 0) (i 1)
  h3 : ∀ i, x3 i = D.G 0 (i 1)
  h4 : ∀ i, x4 i = D.G 1 (i 1)
  h5 : ∀ i, x5 i = D.W (i 0) (i 1)
  h6 : ∀ i, x6 i = D.U (i 0) (i 1)

section
variable {D x0 x1 x2 x3 x4 x5 x6} (H : Reads D x0 x1 x2 x3 x4 x5 x6)

include H in
theorem rv0 (i : S8192x512.Idx) : val_main_v0 (F := Ideal) x0 i = D.O 0 (i 0) (i 1) * D.O 0 (i 0) (i 1) := by
  rw [val_main_v0_apply, H.h0, Ideal.mulf_def]

include H in
theorem rv1 (i : S8192.Idx) : val_main_v1 (F := Ideal) x0 i = ∑ k, D.O 0 (i 0) k * D.O 0 (i 0) k := by
  rw [val_main_v1_apply, val_main_cst_apply, Ideal.ofBits_def, Ideal.ofBits_zero_f32, zero_add]
  refine (Finset.sum_congr rfl fun k _ => rv0 H _).trans ?_
  rfl

include H in
theorem rv2 (i : S8192x1.Idx) : val_main_v2 (F := Ideal) x0 i = ∑ k, D.O 0 (i 0) k * D.O 0 (i 0) k := by
  rw [val_main_v2_apply, rv1 H]
  rfl

theorem rv3 (i : S8192x1.Idx) : val_main_v3 (F := Ideal) i = ((512 : ℝ) : EReal) := by
  rw [val_main_v3_apply, val_main_cst_0_apply, Ideal.ofBits_def, lit_512]

include H in
theorem rv4 (i : S8192x1.Idx) : val_main_v4 (F := Ideal) x0 i = Ideal.div (∑ k, D.O 0 (i 0) k * D.O 0 (i 0) k) ((512 : ℝ) : EReal) := by
  rw [val_main_v4_apply, rv2 H, rv3, Ideal.hostDivf_def]

theorem rv5 (i : S8192x1.Idx) : val_main_v5 (F := Ideal) i = ((eps : ℝ) : EReal) := by
  rw [val_main_v5_apply, val_main_cst_1_apply, Ideal.ofBits_def, lit_eps]

include H in
theorem rv6 (i : S8192x1.Idx) : val_main_v6 (F := Ideal) x0 i = ms (D.O 0 (i 0)) := by
  rw [val_main_v6_apply, rv4 H, rv5, Ideal.addf_def]
  rfl

include H in
theorem rv7 (i : S8192x1.Idx) : val_main_v7 (F := Ideal) x0 i = rr (D.O 0 (i 0)) := by
  rw [val_main_v7_apply, rv6 H, Ideal.hostUnary_rsqrt_def]
  rfl

include H in
theorem rv8 (i : S8192x1.Idx) : val_main_v8 (F := Ideal) x0 i = Ideal.div (rr (D.O 0 (i 0))) (ms (D.O 0 (i 0))) := by
  rw [val_main_v8_apply, rv7 H, rv6 H, Ideal.hostDivf_def]

theorem rv9 (i : S8192x1.Idx) : val_main_v9 (F := Ideal) i = ((-(1 / 2) : ℝ) : EReal) := by
  rw [val_main_v9_apply, val_main_cst_2_apply, Ideal.ofBits_def, lit_neg_half]

include H in
theorem rv10 (i : S8192x1.Idx) : val_main_v10 (F := Ideal) x0 i = ((-(1 / 2) : ℝ) : EReal) * Ideal.div (rr (D.O 0 (i 0))) (ms (D.O 0 (i 0))) := by
  rw [val_main_v10_apply, rv9, rv8 H, Ideal.mulf_def]

include H in
theorem rv11 (i : S8192x512.Idx) : val_main_v11 (F := Ideal) x0 i = rr (D.O 0 (i 0)) := by
  rw [val_main_v11_apply, rv7 H]
  rfl

include H in
theorem rv12 (i : S8192x512.Idx) : val_main_v12 (F := Ideal) x0 i = xh (D.O 0 (i 0)) (i 1) := by
  rw [val_main_v12_apply, H.h0, rv11 H, Ideal.mulf_def]
  rfl

include H in
theorem rv13 (i : S8192x512.Idx) : val_main_v13 (F := Ideal) x3 i = D.G 0 (i 1) := by
  rw [val_main_v13_apply, H.h3]
  rfl

include H in
theorem rv14 (i : S8192x512.Idx) : val_main_v14 (F := Ideal) x0 x3 i = aO D 0 (i 0) (i 1) := by
  rw [val_main_v14_apply, rv12 H, rv13 H, Ideal.mulf_def]
  rfl

include H in
theorem rv15 (i : S8192x512.Idx) : val_main_v15 (F := Ideal) x1 i = D.O 1 (i 0) (i 1) * D.O 1 (i 0) (i 1) := by
  rw [val_main_v15_apply, H.h1, Ideal.mulf_def]

include H in
theorem rv16 (i : S8192.Idx) : val_main_v16 (F := Ideal) x1 i = ∑ k, D.O 1 (i 0) k * D.O 1 (i 0) k := by
  rw [val_main_v16_apply, val_main_cst_3_apply, Ideal.ofBits_def, Ideal.ofBits_zero_f32, zero_add]
  refine (Finset.sum_congr rfl fun k _ => rv15 H _).trans ?_
  rfl

include H in
theorem rv17 (i : S8192x1.Idx) : val_main_v17 (F := Ideal) x1 i = ∑ k, D.O 1 (i 0) k * D.O 1 (i 0) k := by
  rw [val_main_v17_apply, rv16 H]
  rfl

theorem rv18 (i : S8192x1.Idx) : val_main_v18 (F := Ideal) i = ((512 : ℝ) : EReal) := by
  rw [val_main_v18_apply, val_main_cst_4_apply, Ideal.ofBits_def, lit_512]

include H in
theorem rv19 (i : S8192x1.Idx) : val_main_v19 (F := Ideal) x1 i = Ideal.div (∑ k, D.O 1 (i 0) k * D.O 1 (i 0) k) ((512 : ℝ) : EReal) := by
  rw [val_main_v19_apply, rv17 H, rv18, Ideal.hostDivf_def]

theorem rv20 (i : S8192x1.Idx) : val_main_v20 (F := Ideal) i = ((eps : ℝ) : EReal) := by
  rw [val_main_v20_apply, val_main_cst_5_apply, Ideal.ofBits_def, lit_eps]

include H in
theorem rv21 (i : S8192x1.Idx) : val_main_v21 (F := Ideal) x1 i = ms (D.O 1 (i 0)) := by
  rw [val_main_v21_apply, rv19 H, rv20, Ideal.addf_def]
  rfl

include H in
theorem rv22 (i : S8192x1.Idx) : val_main_v22 (F := Ideal) x1 i = rr (D.O 1 (i 0)) := by
  rw [val_main_v22_apply, rv21 H, Ideal.hostUnary_rsqrt_def]
  rfl

include H in
theorem rv23 (i : S8192x1.Idx) : val_main_v23 (F := Ideal) x1 i = Ideal.div (rr (D.O 1 (i 0))) (ms (D.O 1 (i 0))) := by
  rw [val_main_v23_apply, rv22 H, rv21 H, Ideal.hostDivf_def]

theorem rv24 (i : S8192x1.Idx) : val_main_v24 (F := Ideal) i = ((-(1 / 2) : ℝ) : EReal) := by
  rw [val_main_v24_apply, val_main_cst_6_apply, Ideal.ofBits_def, lit_neg_half]

include H in
theorem rv25 (i : S8192x1.Idx) : val_main_v25 (F := Ideal) x1 i = ((-(1 / 2) : ℝ) : EReal) * Ideal.div (rr (D.O 1 (i 0))) (ms (D.O 1 (i 0))) := by
  rw [val_main_v25_apply, rv24, rv23 H, Ideal.mulf_def]

include H in
theorem rv26 (i : S8192x512.Idx) : val_main_v26 (F := Ideal) x1 i = rr (D.O 1 (i 0)) := by
  rw [val_main_v26_apply, rv22 H]
  rfl

include H in
theorem rv27 (i : S8192x512.Idx) : val_main_v27 (F := Ideal) x1 i = xh (D.O 1 (i 0)) (i 1) := by
  rw [val_main_v27_apply, H.h1, rv26 H, Ideal.mulf_def]
  rfl

include H in
theorem rv28 (i : S8192x512.Idx) : val_main_v28 (F := Ideal) x4 i = D.G 1 (i 1) := by
  rw [val_main_v28_apply, H.h4]
  rfl

include H in
theorem rv29 (i : S8192x512.Idx) : val_main_v29 (F := Ideal) x1 x4 i = aO D 1 (i 0) (i 1) := by
  rw [val_main_v29_apply, rv27 H, rv28 H, Ideal.mulf_def]
  rfl

include H in
theorem rv30 (i : S8192x1024.Idx) : val_main_v30 (F := Ideal) x0 x1 x3 x4 i = aC D (i 0) (i 1) := by
  obtain ⟨r, c, rfl⟩ : ∃ r c, i = ix2 r c := ⟨i 0, i 1, (ix2_eta i).symm⟩
  have hc := c.isLt
  show _ = aC D r c
  unfold val_main_v30
  by_cases h0 : c.val < 512
  · refine (cat_col (R := 8192) (N := 1024) (n := 512) _ _ 0 (by simp) _ rfl 0 rfl r c ⟨c.val, h0⟩ (by dsimp only; omega)).trans ((rv14 H _).trans ?_)
    exact (aC_cw D r 0 ⟨c.val, h0⟩).symm.trans (congrArg (aC D r) (Fin.ext (by show 512 * 0 + c.val = c.val; omega)))
  · refine (cat_col (R := 8192) (N := 1024) (n := 512) _ _ 1 (by simp) _ rfl 512 rfl r c ⟨c.val - 512, by omega⟩ (by dsimp only; omega)).trans ((rv29 H _).trans ?_)
    exact (aC_cw D r 1 ⟨c.val - 512, by omega⟩).symm.trans (congrArg (aC D r) (Fin.ext (by show 512 * 1 + (c.val - 512) = c.val; omega)))

include H in
theorem rv31 (i : S8192x1024.Idx) : val_main_v31 (F := Ideal) x0 x1 x3 x4 x5 i = ∑ k, aC D (i 0) k * D.W k (i 1) := by
  rw [val_main_v31_apply]
  refine (Finset.sum_congr rfl fun k _ => congrArg₂ (fun p q : EReal => p * q) (rv30 H _) (H.h5 _)).trans ?_
  rfl

include H in
theorem rv32 (i : S8192x1024.Idx) : val_main_v32 (F := Ideal) x0 x1 x2 x3 x4 x5 i = rY D (i 0) (i 1) := by
  rw [val_main_v32_apply, rv31 H, H.h2, Ideal.addf_def]
  exact rY_eq D (i 0) (i 1)

include H in
theorem rv33 (i : S8192x1024.Idx) : val_main_v33 (F := Ideal) x6 i = D.U (i 0) (i 1) := by
  rw [val_main_v33_apply, H.h6]
  have h0 : (i 0).val < 8192 := (i 0).isLt
  have h1 : (i 1).val < 1024 := (i 1).isLt
  refine congrArg₂ D.U (Fin.ext ?_) (Fin.ext ?_)
  · show ((i 0).val * 1024 + (i 1).val) / 1024 = (i 0).val
    omega
  · show ((i 0).val * 1024 + (i 1).val) % 1024 = (i 1).val
    omega

include H in
theorem rv34 (i : S1024x1024.Idx) : val_main_v34 (F := Ideal) x0 x1 x3 x4 x6 i = ∑ n, D.U n (i 0) * aC D n (i 1) := by
  rw [val_main_v34_apply]
  refine (Finset.sum_congr rfl fun k _ => congrArg₂ (fun p q : EReal => p * q) (rv33 H _) (rv30 H _)).trans ?_
  rfl

include H in
theorem rv35 (i : S1024x1024.Idx) : val_main_v35 (F := Ideal) x0 x1 x3 x4 x6 i = rW D (i 0) (i 1) := by
  rw [val_main_v35_apply, rv34 H]
  unfold rW
  exact Finset.sum_congr rfl fun n _ => mul_comm _ _

include H in
theorem rv36 (i : S8192x1024.Idx) : val_main_v36 (F := Ideal) x5 x6 i = ∑ c, D.U (i 0) c * D.W (i 1) c := by
  rw [val_main_v36_apply]
  refine (Finset.sum_congr rfl fun k _ => congrArg₂ (fun p q : EReal => p * q) (rv33 H _) (H.h5 _)).trans ?_
  rfl

include H in
theorem rv37 (i : S8192x512.Idx) : val_main_v37 (F := Ideal) x5 x6 i = aD D 0 (i 0) (i 1) := by
  rw [val_main_v37_apply, rv36 H]
  unfold aD
  refine Finset.sum_congr rfl fun c _ => congrArg (fun k : Fin 1024 => D.U (i 0) c * D.W k c) (Fin.ext ?_)
  show (i 1).val = 512 * 0 + (i 1).val
  omega

include H in
theorem rv38 (i : S8192x512.Idx) : val_main_v38 (F := Ideal) x5 x6 i = aD D 1 (i 0) (i 1) := by
  rw [val_main_v38_apply, rv36 H]
  rfl

include H in
theorem rv39 (i : S8192x512.Idx) : val_main_v39 (F := Ideal) x1 x5 x6 i = aD D 1 (i 0) (i 1) * xh (D.O 1 (i 0)) (i 1) := by
  rw [val_main_v39_apply, rv27 H, rv38 H, Ideal.mulf_def, mul_comm]

include H in
theorem rv40 (i : S512.Idx) : val_main_v40 (F := Ideal) x1 x5 x6 i = rG D 1 (i 0) := by
  rw [val_main_v40_apply, val_main_cst_7_apply, Ideal.ofBits_def, Ideal.ofBits_zero_f32, zero_add]
  refine (Finset.sum_congr rfl fun k _ => rv39 H _).trans ?_
  rfl

include H in
theorem rv41 (i : S1x512.Idx) : val_main_v41 (F := Ideal) x1 x5 x6 i = rG D 1 (i 1) := by
  rw [val_main_v41_apply, rv40 H]
  refine congrArg (rG D 1) ?_
  have h0 : (i 0).val < 1 := (i 0).isLt
  apply Fin.ext
  show (i 0).val * 512 + (i 1).val = (i 1).val
  omega

include H in
theorem rv42 (i : S8192x512.Idx) : val_main_v42 (F := Ideal) x4 i = D.G 1 (i 1) := by
  rw [val_main_v42_apply, H.h4]
  rfl

include H in
theorem rv43 (i : S8192x512.Idx) : val_main_v43 (F := Ideal) x4 x5 x6 i = aD D 1 (i 0) (i 1) * D.G 1 (i 1) := by
  rw [val_main_v43_apply, rv38 H, rv42 H, Ideal.mulf_def]

include H in
theorem rv44 (i : S8192x512.Idx) : val_main_v44 (F := Ideal) x1 x4 x5 x6 i = D.O 1 (i 0) (i 1) * (aD D 1 (i 0) (i 1) * D.G 1 (i 1)) := by
  rw [val_main_v44_apply, H.h1, rv43 H, Ideal.mulf_def]

include H in
theorem rv45 (i : S8192.Idx) : val_main_v45 (F := Ideal) x1 x4 x5 x6 i = (∑ k, D.O 1 (i 0) k * (aD D 1 (i 0) k * D.G 1 k)) := by
  rw [val_main_v45_apply, val_main_cst_8_apply, Ideal.ofBits_def, Ideal.ofBits_zero_f32, zero_add]
  refine (Finset.sum_congr rfl fun k _ => rv44 H _).trans ?_
  rfl

include H in
theorem rv46 (i : S8192x1.Idx) : val_main_v46 (F := Ideal) x1 x4 x5 x6 i = (∑ k, D.O 1 (i 0) k * (aD D 1 (i 0) k * D.G 1 k)) := by
  rw [val_main_v46_apply, rv45 H]
  have e : idx_main_v46 i 0 = i 0 := by
    have h1 : (i 1).val < 1 := (i 1).isLt
    apply Fin.ext
    show (i 0).val * 1 + (i 1).val = (i 0).val
    omega
  rw [e]

include H in
theorem rv47 (i : S8192x512.Idx) : val_main_v47 (F := Ideal) x1 i = rr (D.O 1 (i 0)) := by
  rw [val_main_v47_apply, rv22 H]
  rfl

include H in
theorem rv48 (i : S8192x512.Idx) : val_main_v48 (F := Ideal) x1 x4 x5 x6 i = aD D 1 (i 0) (i 1) * D.G 1 (i 1) * rr (D.O 1 (i 0)) := by
  rw [val_main_v48_apply, rv43 H, rv47 H, Ideal.mulf_def]

include H in
theorem rv49 (i : S8192x1.Idx) : val_main_v49 (F := Ideal) x1 x4 x5 x6 i = (∑ k, D.O 1 (i 0) k * (aD D 1 (i 0) k * D.G 1 k)) * (((-(1 / 2) : ℝ) : EReal) * Ideal.div (rr (D.O 1 (i 0))) (ms (D.O 1 (i 0)))) := by
  rw [val_main_v49_apply, rv46 H, rv25 H, Ideal.mulf_def]

theorem rv50 (i : S8192x1.Idx) : val_main_v50 (F := Ideal) i = ((512 : ℝ) : EReal) := by
  rw [val_main_v50_apply, val_main_cst_9_apply, Ideal.ofBits_def, lit_512]

include H in
theorem rv51 (i : S8192x1.Idx) : val_main_v51 (F := Ideal) x1 x4 x5 x6 i = Ideal.div ((∑ k, D.O 1 (i 0) k * (aD D 1 (i 0) k * D.G 1 k)) * (((-(1 / 2) : ℝ) : EReal) * Ideal.div (rr (D.O 1 (i 0))) (ms (D.O 1 (i 0))))) ((512 : ℝ) : EReal) := by
  rw [val_main_v51_apply, rv49 H, rv50, Ideal.hostDivf_def]

include H in
theorem rv52 (i : S8192.Idx) : val_main_v52 (F := Ideal) x1 x4 x5 x6 i = Ideal.div ((∑ k, D.O 1 (i 0) k * (aD D 1 (i 0) k * D.G 1 k)) * (((-(1 / 2) : ℝ) : EReal) * Ideal.div (rr (D.O 1 (i 0))) (ms (D.O 1 (i 0))))) ((512 : ℝ) : EReal) := by
  rw [val_main_v52_apply, val_main_cst_10_apply, Ideal.ofBits_def, Ideal.ofBits_zero_f32, zero_add]
  refine (Finset.sum_congr rfl fun k _ => rv51 H _).trans ?_
  exact Fin.sum_univ_one _

include H in
theorem rv53 (i : S8192x512.Idx) : val_main_v53 (F := Ideal) x1 x4 x5 x6 i = Ideal.div ((∑ k, D.O 1 (i 0) k * (aD D 1 (i 0) k * D.G 1 k)) * (((-(1 / 2) : ℝ) : EReal) * Ideal.div (rr (D.O 1 (i 0))) (ms (D.O 1 (i 0))))) ((512 : ℝ) : EReal) := by
  rw [val_main_v53_apply, rv52 H]
  rfl

include H in
theorem rv54 (i : S8192x512.Idx) : val_main_v54 (F := Ideal) x1 x4 x5 x6 i = D.O 1 (i 0) (i 1) * Ideal.div ((∑ k, D.O 1 (i 0) k * (aD D 1 (i 0) k * D.G 1 k)) * (((-(1 / 2) : ℝ) : EReal) * Ideal.div (rr (D.O 1 (i 0))) (ms (D.O 1 (i 0))))) ((512 : ℝ) : EReal) := by
  rw [val_main_v54_apply, H.h1, rv53 H, Ideal.mulf_def]

include H in
theorem rv56 (i : S8192x512.Idx) : val_main_v56 (F := Ideal) x1 x4 x5 x6 i = Ideal.div ((∑ k, D.O 1 (i 0) k * (aD D 1 (i 0) k * D.G 1 k)) * (((-(1 / 2) : ℝ) : EReal) * Ideal.div (rr (D.O 1 (i 0))) (ms (D.O 1 (i 0))))) ((512 : ℝ) : EReal) * D.O 1 (i 0) (i 1) := by
  rw [val_main_v56_apply, rv53 H, H.h1, Ideal.mulf_def]

include H in
theorem rv57 (i : S8192x512.Idx) : val_main_v57 (F := Ideal) x1 x4 x5 x6 i = rO D 1 (i 0) (i 1) := by
  rw [val_main_v57_apply, val_main_v55_apply, rv56 H, rv54 H, rv48 H, Ideal.addf_def, Ideal.addf_def, add_assoc]
  exact (dnv_eq (D.O 1 (i 0)) (aD D 1 (i 0)) (D.G 1) (i 1)).symm

include H in
theorem rv58 (i : S8192x512.Idx) : val_main_v58 (F := Ideal) x0 x5 x6 i = aD D 0 (i 0) (i 1) * xh (D.O 0 (i 0)) (i 1) := by
  rw [val_main_v58_apply, rv12 H, rv37 H, Ideal.mulf_def, mul_comm]

include H in
theorem rv59 (i : S512.Idx) : val_main_v59 (F := Ideal) x0 x5 x6 i = rG D 0 (i 0) := by
  rw [val_main_v59_apply, val_main_cst_11_apply, Ideal.ofBits_def, Ideal.ofBits_zero_f32, zero_add]
  refine (Finset.sum_congr rfl fun k _ => rv58 H _).trans ?_
  rfl

include H in
theorem rv60 (i : S1x512.Idx) : val_main_v60 (F := Ideal) x0 x5 x6 i = rG D 0 (i 1) := by
  rw [val_main_v60_apply, rv59 H]
  refine congrArg (rG D 0) ?_
  have h0 : (i 0).val < 1 := (i 0).isLt
  apply Fin.ext
  show (i 0).val * 512 + (i 1).val = (i 1).val
  omega

include H in
theorem rv61 (i : S8192x512.Idx) : val_main_v61 (F := Ideal) x3 i = D.G 0 (i 1) := by
  rw [val_main_v61_apply, H.h3]
  rfl

include H in
theorem rv62 (i : S8192x512.Idx) : val_main_v62 (F := Ideal) x3 x5 x6 i = aD D 0 (i 0) (i 1) * D.G 0 (i 1) := by
  rw [val_main_v62_apply, rv37 H, rv61 H, Ideal.mulf_def]

include H in
theorem rv63 (i : S8192x512.Idx) : val_main_v63 (F := Ideal) x0 x3 x5 x6 i = D.O 0 (i 0) (i 1) * (aD D 0 (i 0) (i 1) * D.G 0 (i 1)) := by
  rw [val_main_v63_apply, H.h0, rv62 H, Ideal.mulf_def]

include H in
theorem rv64 (i : S8192.Idx) : val_main_v64 (F := Ideal) x0 x3 x5 x6 i = (∑ k, D.O 0 (i 0) k * (aD D 0 (i 0) k * D.G 0 k)) := by
  rw [val_main_v64_apply, val_main_cst_12_apply, Ideal.ofBits_def, Ideal.ofBits_zero_f32, zero_add]
  refine (Finset.sum_congr rfl fun k _ => rv63 H _).trans ?_
  rfl

include H in
theorem rv65 (i : S8192x1.Idx) : val_main_v65 (F := Ideal) x0 x3 x5 x6 i = (∑ k, D.O 0 (i 0) k * (aD D 0 (i 0) k * D.G 0 k)) := by
  rw [val_main_v65_apply, rv64 H]
  have e : idx_main_v65 i 0 = i 0 := by
    have h1 : (i 1).val < 1 := (i 1).isLt
    apply Fin.ext
    show (i 0).val * 1 + (i 1).val = (i 0).val
    omega
  rw [e]

include H in
theorem rv66 (i : S8192x512.Idx) : val_main_v66 (F := Ideal) x0 i = rr (D.O 0 (i 0)) := by
  rw [val_main_v66_apply, rv7 H]
  rfl

include H in
theorem rv67 (i : S8192x512.Idx) : val_main_v67 (F := Ideal) x0 x3 x5 x6 i = aD D 0 (i 0) (i 1) * D.G 0 (i 1) * rr (D.O 0 (i 0)) := by
  rw [val_main_v67_apply, rv62 H, rv66 H, Ideal.mulf_def]

include H in
theorem rv68 (i : S8192x1.Idx) : val_main_v68 (F := Ideal) x0 x3 x5 x6 i = (∑ k, D.O 0 (i 0) k * (aD D 0 (i 0) k * D.G 0 k)) * (((-(1 / 2) : ℝ) : EReal) * Ideal.div (rr (D.O 0 (i 0))) (ms (D.O 0 (i 0)))) := by
  rw [val_main_v68_apply, rv65 H, rv10 H, Ideal.mulf_def]

theorem rv69 (i : S8192x1.Idx) : val_main_v69 (F := Ideal) i = ((512 : ℝ) : EReal) := by
  rw [val_main_v69_apply, val_main_cst_13_apply, Ideal.ofBits_def, lit_512]

include H in
theorem rv70 (i : S8192x1.Idx) : val_main_v70 (F := Ideal) x0 x3 x5 x6 i = Ideal.div ((∑ k, D.O 0 (i 0) k * (aD D 0 (i 0) k * D.G 0 k)) * (((-(1 / 2) : ℝ) : EReal) * Ideal.div (rr (D.O 0 (i 0))) (ms (D.O 0 (i 0))))) ((512 : ℝ) : EReal) := by
  rw [val_main_v70_apply, rv68 H, rv69, Ideal.hostDivf_def]

include H in
theorem rv71 (i : S8192.Idx) : val_main_v71 (F := Ideal) x0 x3 x5 x6 i = Ideal.div ((∑ k, D.O 0 (i 0) k * (aD D 0 (i 0) k * D.G 0 k)) * (((-(1 / 2) : ℝ) : EReal) * Ideal.div (rr (D.O 0 (i 0))) (ms (D.O 0 (i 0))))) ((512 : ℝ) : EReal) := by
  rw [val_main_v71_apply, val_main_cst_14_apply, Ideal.ofBits_def, Ideal.ofBits_zero_f32, zero_add]
  refine (Finset.sum_congr rfl fun k _ => rv70 H _).trans ?_
  exact Fin.sum_univ_one _

include H in
theorem rv72 (i : S8192x512.Idx) : val_main_v72 (F := Ideal) x0 x3 x5 x6 i = Ideal.div ((∑ k, D.O 0 (i 0) k * (aD D 0 (i 0) k * D.G 0 k)) * (((-(1 / 2) : ℝ) : EReal) * Ideal.div (rr (D.O 0 (i 0))) (ms (D.O 0 (i 0))))) ((512 : ℝ) : EReal) := by
  rw [val_main_v72_apply, rv71 H]
  rfl

include H in
theorem rv73 (i : S8192x512.Idx) : val_main_v73 (F := Ideal) x0 x3 x5 x6 i = D.O 0 (i 0) (i 1) * Ideal.div ((∑ k, D.O 0 (i 0) k * (aD D 0 (i 0) k * D.G 0 k)) * (((-(1 / 2) : ℝ) : EReal) * Ideal.div (rr (D.O 0 (i 0))) (ms (D.O 0 (i 0))))) ((512 : ℝ) : EReal) := by
  rw [val_main_v73_apply, H.h0, rv72 H, Ideal.mulf_def]

include H in
theorem rv75 (i : S8192x512.Idx) : val_main_v75 (F := Ideal) x0 x3 x5 x6 i = Ideal.div ((∑ k, D.O 0 (i 0) k * (aD D 0 (i 0) k * D.G 0 k)) * (((-(1 / 2) : ℝ) : EReal) * Ideal.div (rr (D.O 0 (i 0))) (ms (D.O 0 (i 0))))) ((512 : ℝ) : EReal) * D.O 0 (i 0) (i 1) := by
  rw [val_main_v75_apply, rv72 H, H.h0, Ideal.mulf_def]

include H in
theorem rv76 (i : S8192x512.Idx) : val_main_v76 (F := Ideal) x0 x3 x5 x6 i = rO D 0 (i 0) (i 1) := by
  rw [val_main_v76_apply, val_main_v74_apply, rv75 H, rv73 H, rv67 H, Ideal.addf_def, Ideal.addf_def, add_assoc]
  exact (dnv_eq (D.O 0 (i 0)) (aD D 0 (i 0)) (D.G 0) (i 1)).symm

end

end Cert.Reference4Ideal.Out
-- ==== Proof.OutClaim.lean ====
/- The output projection's training step: its claims. -/
module

public import proofs.«01_k».proof.Defs
public import proofs.«01_k».proof.Proof.Gen.Kernel4.Frame
public import proofs.«01_k».proof.Proof.OutRun
public import proofs.«01_k».proof.Proof.OutRef

@[expose] public section

set_option maxRecDepth 16384

noncomputable section

namespace Cert.Proof.Out

open Idealize.ShloMosaic Idealize.SL.Sem
/-- An index of a single row of 512 is its column. -/
theorem row_eta (i : (⟨2, ![1, 512]⟩ : Shape).Idx) : i = ix2 (0 : Fin 1) (i 1 : Fin 512) := by
  funext a
  match a with
  | ⟨0, _⟩ => exact Fin.ext (Nat.lt_one_iff.mp (i 0).isLt)
  | ⟨1, _⟩ => rfl

theorem frame_kernel : Cert.quiescent_Kernel4 (hKernel4 := Cert.Kernel4.Gen.facts) := fun m ρ _ => Cert.Kernel4.Gen.frame m ρ

theorem frame_ideal : Cert.quiescent_Kernel4Ideal (hKernel4Ideal := Cert.Kernel4Ideal.Gen.facts) :=
  fun m ρ _ => Cert.Kernel4Ideal.Gen.frame m ρ

/-- The reference's arguments are kept, and it declares no semaphore. -/
theorem frame_reference : Cert.quiescent_Reference4Ideal (hReference4Ideal := Cert.Reference4Ideal.Gen.facts) := fun m ρ _ =>
  (θ_run Cert.Reference4Ideal.defs _ _).mono (fun r h => ⟨fun c => (h c).2.2.2.2.2.2, sem_eq_zero_of_no_sems (by decide) r.2⟩)
    (Cert.Reference4Ideal.Value.run (F := Ideal) m ρ)

variable (m : (ℓ : Loc Cert.Kernel4Ideal.nD Cert.Kernel4Ideal.τ Cert.Kernel4Ideal.sig) → Buf (Elt Ideal) ℓ)

open Cert.Kernel4Ideal Idealize.ShloMosaic.TcCoe in
/-- A head group's attention output on a device, by number. -/
def outs (c : Dev nD) : Fin 2 → Vec Ideal S8192x512 .f32 := ![m ((c : Thread nD τ).loc main_arg0), m ((c : Thread nD τ).loc main_arg1)]

open Cert.Kernel4Ideal Idealize.ShloMosaic.TcCoe in
/-- A head group's gain on a device, by number. -/
def gains (c : Dev nD) : Fin 2 → Vec Ideal S1x512 .f32 := ![m ((c : Thread nD τ).loc main_arg3), m ((c : Thread nD τ).loc main_arg4)]

open Cert.Kernel4Ideal Idealize.ShloMosaic.TcCoe in
/-- The arguments of a device. -/
def args (c : Dev nD) : Cert.Out.Args where
  O b n j := (outs m c b (ix2 n j))
  G b j := (gains m c b (ix2 0 j))
  X n k := ((m ((c : Thread nD τ).loc main_arg2) : Vec Ideal S8192x1024 .f32) (ix2 n k))
  W k j := ((m ((c : Thread nD τ).loc main_arg5) : Vec Ideal S1024x1024 .f32) (ix2 k j))
  U n k := ((m ((c : Thread nD τ).loc main_arg6) : Vec Ideal S8192x1024 .f32) (ix2 n k))

theorem kernel_reads (c : Dev Cert.Kernel4Ideal.nD) : Cert.Kernel4Ideal.Out.Reads m c (args m c) :=
  ⟨fun _ _ => rfl, fun _ _ => rfl, fun _ _ => rfl, fun _ => rfl, fun _ => rfl, fun _ _ => rfl, fun _ _ => rfl⟩

open Cert.Kernel4Ideal Idealize.ShloMosaic.TcCoe in
theorem reference_reads (c : Dev nD) :
    Cert.Reference4Ideal.Out.Reads (args m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have H := kernel_reads m c
  refine ⟨fun i => ?_, fun i => ?_, fun i => ?_, fun i => ?_, fun i => ?_, fun i => ?_, fun i => ?_⟩
  · have e := H.O0 (i 0) (i 1); rw [ix2_eta] at e; exact e
  · have e := H.O1 (i 0) (i 1); rw [ix2_eta] at e; exact e
  · have e := H.X (i 0) (i 1); rw [ix2_eta] at e; exact e
  · exact (congrArg (m ((c : Thread nD τ).loc main_arg3) : Vec Ideal S1x512 .f32) (row_eta i)).trans (H.G0 (i 1))
  · exact (congrArg (m ((c : Thread nD τ).loc main_arg4) : Vec Ideal S1x512 .f32) (row_eta i)).trans (H.G1 (i 1))
  · have e := H.W (i 0) (i 1); rw [ix2_eta] at e; exact e
  · have e := H.U (i 0) (i 1); rw [ix2_eta] at e; exact e

theorem algebraic : Cert.algebraic_Kernel4Ideal_Reference4Ideal (hKernel4Ideal := Cert.Kernel4Ideal.Gen.facts)
    (hReference4Ideal := Cert.Reference4Ideal.Gen.facts) := by
  intro m ρ m' ρ' _ hag
  refine ⟨fun c => (fun i => ((Cert.Out.rY (args m c) (i 0) (i 1) : EReal))),
    fun c => (fun i => ((Cert.Out.rO (args m c) 0 (i 0) (i 1) : EReal))),
    fun c => (fun i => ((Cert.Out.rO (args m c) 1 (i 0) (i 1) : EReal))),
    fun c => (fun i => ((Cert.Out.rG (args m c) 0 (i 1) : EReal))),
    fun c => (fun i => ((Cert.Out.rG (args m c) 1 (i 1) : EReal))),
    fun c => (fun i => ((Cert.Out.rW (args m c) (i 0) (i 1) : EReal))), ?_, ?_⟩
  · refine (θ_run Cert.Kernel4Ideal.defs _ _).mono (fun r h c => ?_) (Cert.Kernel4Ideal.Out.ends m ρ)
    have H := kernel_reads m c
    have hm := fun b hb => h c _ (Cert.Kernel4Ideal.Gen.mem_uc b hb)
    exact ⟨(hm Cert.Kernel4Ideal.main_v1_0 (by decide)).trans (Cert.Kernel4Ideal.Out.end_y ρ H),
      (hm Cert.Kernel4Ideal.main_v3_0 (by decide)).trans (Cert.Kernel4Ideal.Out.end_o0 ρ H),
      (hm Cert.Kernel4Ideal.main_v3_1 (by decide)).trans (Cert.Kernel4Ideal.Out.end_o1 ρ H),
      (hm Cert.Kernel4Ideal.main_v4 (by decide)).trans (Cert.Kernel4Ideal.Out.end_g0 ρ H),
      (hm Cert.Kernel4Ideal.main_v5 (by decide)).trans (Cert.Kernel4Ideal.Out.end_g1 ρ H),
      (hm Cert.Kernel4Ideal.main_v2 (by decide)).trans (Cert.Kernel4Ideal.Out.end_w ρ H),
      (hm Cert.Kernel4Ideal.main_arg0 (by decide)).trans (Cert.Kernel4Ideal.Gen.W5_main_arg0 m ρ c),
      (hm Cert.Kernel4Ideal.main_arg1 (by decide)).trans (Cert.Kernel4Ideal.Gen.W5_main_arg1 m ρ c),
      (hm Cert.Kernel4Ideal.main_arg2 (by decide)).trans (Cert.Kernel4Ideal.Gen.W5_main_arg2 m ρ c),
      (hm Cert.Kernel4Ideal.main_arg3 (by decide)).trans (Cert.Kernel4Ideal.Gen.W5_main_arg3 m ρ c),
      (hm Cert.Kernel4Ideal.main_arg4 (by decide)).trans (Cert.Kernel4Ideal.Gen.W5_main_arg4 m ρ c),
      (hm Cert.Kernel4Ideal.main_arg5 (by decide)).trans (Cert.Kernel4Ideal.Gen.W5_main_arg5 m ρ c),
      (hm Cert.Kernel4Ideal.main_arg6 (by decide)).trans (Cert.Kernel4Ideal.Gen.W5_main_arg6 m ρ c)⟩
  · refine (θ_run Cert.Reference4Ideal.defs _ _).mono (fun r h c => ?_) (Cert.Reference4Ideal.Value.run (F := Ideal) m' ρ')
    obtain ⟨a0, a1, a2, a3, a4, a5, a6⟩ := hag c
    have H := reference_reads m c
    rw [← a0, ← a1, ← a2, ← a3, ← a4, ← a5, ← a6] at H
    obtain ⟨e0, e1, e2, e3, e4, e5, ek⟩ := h c
    exact ⟨e0.trans ((Cert.Reference4Ideal.Read.val_main_v32_eq _ _ _ _ _ _).trans (funext fun i => Cert.Reference4Ideal.Out.rv32 H i)),
      e1.trans ((Cert.Reference4Ideal.Read.val_main_v76_eq m' c).trans (funext fun i => Cert.Reference4Ideal.Out.rv76 H i)),
      e2.trans ((Cert.Reference4Ideal.Read.val_main_v57_eq m' c).trans (funext fun i => Cert.Reference4Ideal.Out.rv57 H i)),
      e3.trans ((Cert.Reference4Ideal.Read.val_main_v60_eq _ _ _).trans (funext fun i => Cert.Reference4Ideal.Out.rv60 H i)),
      e4.trans ((Cert.Reference4Ideal.Read.val_main_v41_eq _ _ _).trans (funext fun i => Cert.Reference4Ideal.Out.rv41 H i)),
      e5.trans ((Cert.Reference4Ideal.Read.val_main_v35_eq _ _ _ _ _).trans (funext fun i => Cert.Reference4Ideal.Out.rv35 H i)), ek⟩

end Cert.Proof.Out
-- ==== Proof.OptRun.lean ====
/- The weight update's program run whole: every buffer ends at the last boundary's contents. -/
module

public import Idealize.ShloMosaic.PureOps.Ideal
public import proofs.«01_k».proof.Proof.Gen.Kernel5Ideal.Frame

@[expose] public section

set_option maxRecDepth 16384

noncomputable section

namespace Cert.Kernel5Ideal.Opt

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option maxHeartbeats 4000000 in
set_option backward.isDefEq.respectTransparency.types false in
/-- Every buffer of the program ends at the last boundary's contents. -/
theorem ends : θ_run (defs (F := Ideal)) (onTc (τ := τ) (main (F := Ideal))) ⟨m, fun _ => 0, ρ⟩ (fun r =>
      ∀ c : Dev nD, ∀ b ∈ Pipeline.ucRefs τ sig, r.2.mem (((c : Thread nD τ)).1, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => h)

variable {m ρ} in
/-- Every argument ends as it was. -/
theorem kept {μ : (ℓ : Loc nD τ sig) → Buf (Elt Ideal) ℓ} {c : Dev nD} (h : ∀ b ∈ Pipeline.ucRefs τ sig, μ (((c : Thread nD τ)).1, b) = W10 m ρ c b) (a : Ref sig .tc)
    (ha : a ∈ argRefs) (hu : Proc.devRef (τ := τ) .tc a ∈ Pipeline.ucRefs τ sig) : μ ((c : Thread nD τ).loc a) = m ((c : Thread nD τ).loc a) :=
  (h _ hu).trans (W10_args m ρ c a ha)

end Cert.Kernel5Ideal.Opt
-- ==== Proof.OptMath.lean ====
/- One weight's update, entry by entry. -/
module

public import proofs.«01_k».proof.Kernel5Ideal
public import Idealize.ShloMosaic.Lib.Pipeline.Value
public import Idealize.ShloMosaic.PureOps.Ideal

@[expose] public section

noncomputable section

namespace Cert.Opt

open Idealize.ShloMosaic

/-- The number a word stands for. -/
def lit (w : BitVec 32) : Ideal .f32 := Scalar.ofBits (F := Ideal) .f32 w

/-- The new first moment of an entry, from its gradient and its first moment. -/
def nm (g m : Ideal .f32) : Ideal .f32 := FloatOps.addf (FloatOps.mulf (lit 0x3F666666#32) m) (FloatOps.mulf (lit 0x3DCCCCCD#32) g)

/-- The new second moment of an entry, from its gradient and its second moment. -/
def nv (g v : Ideal .f32) : Ideal .f32 := FloatOps.addf (FloatOps.mulf (lit 0x3F7FBE77#32) v) (FloatOps.mulf (lit 0x3A83126F#32) (FloatOps.mulf g g))

/-- The step of an entry, from the weight, its gradient and its two moments. -/
def dl (w g m v : Ideal .f32) : Ideal .f32 :=
  FloatOps.mulf (lit 0xBA83126F#32) (FloatOps.addf (FloatOps.divf (FloatOps.divf (nm g m) (lit 0x3F26BD02#32))
    (FloatOps.addf (FloatOps.sqrt (FloatOps.divf (nv g v) (lit 0x3C231ACC#32))) (lit 0x322BCC77#32))) (FloatOps.mulf (lit 0x3C23D70A#32) w))

variable {S : Shape}

/-- The steps of an array. -/
def steps (w g m v : S.Idx → Ideal .f32) : S.Idx → Ideal .f32 := fun i => dl (w i) (g i) (m i) (v i)

/-- The new first moments of an array. -/
def firsts (g m : S.Idx → Ideal .f32) : S.Idx → Ideal .f32 := fun i => nm (g i) (m i)

/-- The new second moments of an array. -/
def seconds (g v : S.Idx → Ideal .f32) : S.Idx → Ideal .f32 := fun i => nv (g i) (v i)

/-- Three arrays are a weight's update: its steps, and its new moments. -/
abbrev Updates (S : Shape) (x y z w g m v : S.Idx → Ideal .f32) : Prop := x = steps w g m v ∧ y = firsts g m ∧ z = seconds g v

/-- An update, read at equal arrays. -/
theorem update {S : Shape} {a b d x y z w g m v w' g' m' v' : S.Idx → Ideal .f32} (h : Updates S a b d w g m v)
    (ha : x = a) (hb : y = b) (hd : z = d) (hw : w = w') (hg : g = g') (hm : m = m') (hv : v = v') : Updates S x y z w' g' m' v' := by
  subst ha hb hd hw hg hm hv; exact h

end Cert.Opt
-- ==== Proof.OptRows.lean ====
/- The weight update's calls over their grids: the whole arrays they leave, entry by entry. -/
module

public import proofs.«01_k».proof.Proof.OptMath
public import proofs.«01_k».proof.Proof.Gen.Kernel5Ideal.Frame

@[expose] public section

set_option maxRecDepth 16384

noncomputable section

namespace Cert.Kernel5Ideal.Opt

open Cert.Kernel5Ideal Cert.Kernel5Ideal.Gen Cert.Opt Idealize.ShloMosaic Idealize.ShloMosaic.TcCoe Idealize.SL.Sem

variable (V : (c : Dev nD) → (b : Ref sig .tc) → Buf (Elt Idealize.ShloMosaic.Ideal) ((c : Thread nD τ).loc b)) (c : Dev nD)

set_option maxHeartbeats 4000000 in
theorem fin1 : Updates S1x1024 ((dat1 V c).arrAt 4 cfg1.N) ((dat1 V c).arrAt 5 cfg1.N) ((dat1 V c).arrAt 6 cfg1.N) (V c main_arg0) (V c main_arg7) (V c main_arg14) (V c main_arg21) := by
  have hz : (![0, 0] : Fin 2 → Nat) = fun _ => 0 := by decide
  have hN : 0 < cfg1.N := by rw [show cfg1.N = 1 from N_1]; omega
  have hi4 : ∀ (t : Fin grid1.N) a, win1_4.index t a = 0 := by decide +kernel
  have hi5 : ∀ (t : Fin grid1.N) a, win1_5.index t a = 0 := by decide +kernel
  have hi6 : ∀ (t : Fin grid1.N) a, win1_6.index t a = 0 := by decide +kernel
  have hm (i : S1x1024.Idx) (x : Fin 2 → Nat) (hx : ∀ a, x a = 0) (a) : x a * S1x1024.size a ≤ (i a : Nat) ∧ (i a : Nat) < x a * S1x1024.size a + S1x1024.size a := by
    rw [hx, Nat.zero_mul, Nat.zero_add]; exact ⟨Nat.zero_le _, (i a).isLt⟩
  refine ⟨(dat1 V c).arrAt_eq_of_cover 4 _ (fun t _ => ?_) fun i => ⟨⟨0, hN⟩, flush1_4 _, ?_⟩,
    (dat1 V c).arrAt_eq_of_cover 5 _ (fun t _ => ?_) fun i => ⟨⟨0, hN⟩, flush1_5 _, ?_⟩,
    (dat1 V c).arrAt_eq_of_cover 6 _ (fun t _ => ?_) fun i => ⟨⟨0, hN⟩, flush1_6 _, ?_⟩⟩
  · show (cfg1.win 4).cut (grid1.coords t) ((dat1 V c).after 4 t) = _; rw [after1_4]; funext j; rw [View.read_apply]; unfold out1_4
    rw [View.canon_unit_zero hz]; simp only [View.ld_unit_zero (S := S1x1024) hz, k1_pay1, k1_pay2, k1_pay3, shapeCast_self]; rfl
  · show i ∈ ((View.whole main_v13_0).slice (win1_4.rect ⟨0, hN⟩)).set; rw [View.set_slice_whole, Rect.mem_set_unit]
    exact hm i (win1_4.index ⟨0, hN⟩) (hi4 _)
  · show (cfg1.win 5).cut (grid1.coords t) ((dat1 V c).after 5 t) = _; rw [after1_5]; funext j; rw [View.read_apply]; unfold out1_5
    rw [View.canon_unit_zero hz]; simp only [View.ld_unit_zero (S := S1x1024) hz, k1_pay1, k1_pay2, k1_pay3, shapeCast_self]; rfl
  · show i ∈ ((View.whole main_v13_1).slice (win1_5.rect ⟨0, hN⟩)).set; rw [View.set_slice_whole, Rect.mem_set_unit]
    exact hm i (win1_5.index ⟨0, hN⟩) (hi5 _)
  · show (cfg1.win 6).cut (grid1.coords t) ((dat1 V c).after 6 t) = _; rw [after1_6]; funext j; rw [View.read_apply]; unfold out1_6
    rw [View.canon_unit_zero hz]; simp only [View.ld_unit_zero (S := S1x1024) hz, k1_pay1, k1_pay2, k1_pay3, shapeCast_self]; rfl
  · show i ∈ ((View.whole main_v13_2).slice (win1_6.rect ⟨0, hN⟩)).set; rw [View.set_slice_whole, Rect.mem_set_unit]
    exact hm i (win1_6.index ⟨0, hN⟩) (hi6 _)

set_option maxHeartbeats 4000000 in
theorem fin3 : Updates S1x8 ((dat3 V c).arrAt 4 cfg3.N) ((dat3 V c).arrAt 5 cfg3.N) ((dat3 V c).arrAt 6 cfg3.N) (V c main_arg2) (V c main_arg9) (V c main_arg16) (V c main_arg23) := by
  have hz : (![0, 0] : Fin 2 → Nat) = fun _ => 0 := by decide
  have hN : 0 < cfg3.N := by rw [show cfg3.N = 1 from N_3]; omega
  have hi4 : ∀ (t : Fin grid3.N) a, win3_4.index t a = 0 := by decide +kernel
  have hi5 : ∀ (t : Fin grid3.N) a, win3_5.index t a = 0 := by decide +kernel
  have hi6 : ∀ (t : Fin grid3.N) a, win3_6.index t a = 0 := by decide +kernel
  have hm (i : S1x8.Idx) (x : Fin 2 → Nat) (hx : ∀ a, x a = 0) (a) : x a * S1x8.size a ≤ (i a : Nat) ∧ (i a : Nat) < x a * S1x8.size a + S1x8.size a := by
    rw [hx, Nat.zero_mul, Nat.zero_add]; exact ⟨Nat.zero_le _, (i a).isLt⟩
  refine ⟨(dat3 V c).arrAt_eq_of_cover 4 _ (fun t _ => ?_) fun i => ⟨⟨0, hN⟩, flush3_4 _, ?_⟩,
    (dat3 V c).arrAt_eq_of_cover 5 _ (fun t _ => ?_) fun i => ⟨⟨0, hN⟩, flush3_5 _, ?_⟩,
    (dat3 V c).arrAt_eq_of_cover 6 _ (fun t _ => ?_) fun i => ⟨⟨0, hN⟩, flush3_6 _, ?_⟩⟩
  · show (cfg3.win 4).cut (grid3.coords t) ((dat3 V c).after 4 t) = _; rw [after3_4]; funext j; rw [View.read_apply]; unfold out3_4
    rw [View.canon_unit_zero hz]; simp only [View.ld_unit_zero (S := S1x8) hz, k3_pay1, k3_pay2, k3_pay3, shapeCast_self]; rfl
  · show i ∈ ((View.whole main_v15_0).slice (win3_4.rect ⟨0, hN⟩)).set; rw [View.set_slice_whole, Rect.mem_set_unit]
    exact hm i (win3_4.index ⟨0, hN⟩) (hi4 _)
  · show (cfg3.win 5).cut (grid3.coords t) ((dat3 V c).after 5 t) = _; rw [after3_5]; funext j; rw [View.read_apply]; unfold out3_5
    rw [View.canon_unit_zero hz]; simp only [View.ld_unit_zero (S := S1x8) hz, k3_pay1, k3_pay2, k3_pay3, shapeCast_self]; rfl
  · show i ∈ ((View.whole main_v15_1).slice (win3_5.rect ⟨0, hN⟩)).set; rw [View.set_slice_whole, Rect.mem_set_unit]
    exact hm i (win3_5.index ⟨0, hN⟩) (hi5 _)
  · show (cfg3.win 6).cut (grid3.coords t) ((dat3 V c).after 6 t) = _; rw [after3_6]; funext j; rw [View.read_apply]; unfold out3_6
    rw [View.canon_unit_zero hz]; simp only [View.ld_unit_zero (S := S1x8) hz, k3_pay1, k3_pay2, k3_pay3, shapeCast_self]; rfl
  · show i ∈ ((View.whole main_v15_2).slice (win3_6.rect ⟨0, hN⟩)).set; rw [View.set_slice_whole, Rect.mem_set_unit]
    exact hm i (win3_6.index ⟨0, hN⟩) (hi6 _)

end Cert.Kernel5Ideal.Opt
-- ==== Proof.OptMats.lean ====
/- The weight update's calls over their grids: the whole arrays they leave, entry by entry. -/
module

public import proofs.«01_k».proof.Proof.OptMath
public import proofs.«01_k».proof.Proof.Gen.Kernel5Ideal.Frame

@[expose] public section

set_option maxRecDepth 16384

noncomputable section

namespace Cert.Kernel5Ideal.Opt

open Cert.Kernel5Ideal Cert.Kernel5Ideal.Gen Cert.Opt Idealize.ShloMosaic Idealize.ShloMosaic.TcCoe Idealize.SL.Sem

variable (V : (c : Dev nD) → (b : Ref sig .tc) → Buf (Elt Idealize.ShloMosaic.Ideal) ((c : Thread nD τ).loc b)) (c : Dev nD)

set_option maxHeartbeats 4000000 in
theorem fin0 : Updates S1x704x1024 ((dat0 V c).arrAt 4 cfg0.N) ((dat0 V c).arrAt 5 cfg0.N) ((dat0 V c).arrAt 6 cfg0.N) (V c main_arg6) (V c main_arg13) (V c main_arg20) (V c main_arg27) := by
  have hz : (![0, 0, 0] : Fin 3 → Nat) = fun _ => 0 := by decide
  have hN (i : S1x704x1024.Idx) : (i 1 : Nat) / 352 < cfg0.N := by have h : (i 1 : Nat) < 704 := (i 1).isLt; rw [show cfg0.N = 2 from N_0]; omega
  have hi4 : ∀ (t : Fin grid0.N) a, win0_4.index t a = if a = 1 then t.val else 0 := by decide +kernel
  have hi5 : ∀ (t : Fin grid0.N) a, win0_5.index t a = if a = 1 then t.val else 0 := by decide +kernel
  have hi6 : ∀ (t : Fin grid0.N) a, win0_6.index t a = if a = 1 then t.val else 0 := by decide +kernel
  have hm (i : S1x704x1024.Idx) (x : Fin 3 → Nat) (hx : ∀ a, x a = if a = 1 then (i 1 : Nat) / 352 else 0) (a) :
      x a * S1x352x1024.size a ≤ (i a : Nat) ∧ (i a : Nat) < x a * S1x352x1024.size a + S1x352x1024.size a := by
    rw [hx]
    match a with
    | ⟨0, _⟩ => have h : (i 0 : Nat) < 1 := (i 0).isLt; show 0 * 1 ≤ (i 0 : Nat) ∧ (i 0 : Nat) < 0 * 1 + 1; omega
    | ⟨1, _⟩ => show (i 1 : Nat) / 352 * 352 ≤ (i 1 : Nat) ∧ (i 1 : Nat) < (i 1 : Nat) / 352 * 352 + 352; omega
    | ⟨2, _⟩ => have h : (i 2 : Nat) < 1024 := (i 2).isLt; show 0 * 1024 ≤ (i 2 : Nat) ∧ (i 2 : Nat) < 0 * 1024 + 1024; omega
  refine ⟨(dat0 V c).arrAt_eq_of_cover 4 _ (fun t _ => ?_) fun i => ⟨⟨(i 1 : Nat) / 352, hN i⟩, flush0_4 _, ?_⟩,
    (dat0 V c).arrAt_eq_of_cover 5 _ (fun t _ => ?_) fun i => ⟨⟨(i 1 : Nat) / 352, hN i⟩, flush0_5 _, ?_⟩,
    (dat0 V c).arrAt_eq_of_cover 6 _ (fun t _ => ?_) fun i => ⟨⟨(i 1 : Nat) / 352, hN i⟩, flush0_6 _, ?_⟩⟩
  · show (cfg0.win 4).cut (grid0.coords t) ((dat0 V c).after 4 t) = _; rw [after0_4]; funext j; rw [View.read_apply]; unfold out0_4
    rw [View.canon_unit_zero hz]; simp only [View.ld_unit_zero (S := S1x352x1024) hz, k0_pay1, k0_pay2, k0_pay3, shapeCast_self]; rfl
  · show i ∈ ((View.whole main_v8_0).slice (win0_4.rect ⟨(i 1 : Nat) / 352, hN i⟩)).set; rw [View.set_slice_whole, Rect.mem_set_unit]
    exact hm i (win0_4.index ⟨(i 1 : Nat) / 352, hN i⟩) (hi4 _)
  · show (cfg0.win 5).cut (grid0.coords t) ((dat0 V c).after 5 t) = _; rw [after0_5]; funext j; rw [View.read_apply]; unfold out0_5
    rw [View.canon_unit_zero hz]; simp only [View.ld_unit_zero (S := S1x352x1024) hz, k0_pay1, k0_pay2, k0_pay3, shapeCast_self]; rfl
  · show i ∈ ((View.whole main_v8_1).slice (win0_5.rect ⟨(i 1 : Nat) / 352, hN i⟩)).set; rw [View.set_slice_whole, Rect.mem_set_unit]
    exact hm i (win0_5.index ⟨(i 1 : Nat) / 352, hN i⟩) (hi5 _)
  · show (cfg0.win 6).cut (grid0.coords t) ((dat0 V c).after 6 t) = _; rw [after0_6]; funext j; rw [View.read_apply]; unfold out0_6
    rw [View.canon_unit_zero hz]; simp only [View.ld_unit_zero (S := S1x352x1024) hz, k0_pay1, k0_pay2, k0_pay3, shapeCast_self]; rfl
  · show i ∈ ((View.whole main_v8_2).slice (win0_6.rect ⟨(i 1 : Nat) / 352, hN i⟩)).set; rw [View.set_slice_whole, Rect.mem_set_unit]
    exact hm i (win0_6.index ⟨(i 1 : Nat) / 352, hN i⟩) (hi6 _)

set_option maxHeartbeats 4000000 in
theorem fin2 : Updates S770x1x1024 ((dat2 V c).arrAt 4 cfg2.N) ((dat2 V c).arrAt 5 cfg2.N) ((dat2 V c).arrAt 6 cfg2.N) (V c main_v9) (V c main_v10) (V c main_v11) (V c main_v12) := by
  have hz : (![0, 0, 0] : Fin 3 → Nat) = fun _ => 0 := by decide
  have hN (i : S770x1x1024.Idx) : (i 0 : Nat) / 55 < cfg2.N := by have h : (i 0 : Nat) < 770 := (i 0).isLt; rw [show cfg2.N = 14 from N_2]; omega
  have hi4 : ∀ (t : Fin grid2.N) a, win2_4.index t a = if a = 0 then t.val else 0 := by decide +kernel
  have hi5 : ∀ (t : Fin grid2.N) a, win2_5.index t a = if a = 0 then t.val else 0 := by decide +kernel
  have hi6 : ∀ (t : Fin grid2.N) a, win2_6.index t a = if a = 0 then t.val else 0 := by decide +kernel
  have hm (i : S770x1x1024.Idx) (x : Fin 3 → Nat) (hx : ∀ a, x a = if a = 0 then (i 0 : Nat) / 55 else 0) (a) :
      x a * S55x1x1024.size a ≤ (i a : Nat) ∧ (i a : Nat) < x a * S55x1x1024.size a + S55x1x1024.size a := by
    rw [hx]
    match a with
    | ⟨0, _⟩ => show (i 0 : Nat) / 55 * 55 ≤ (i 0 : Nat) ∧ (i 0 : Nat) < (i 0 : Nat) / 55 * 55 + 55; omega
    | ⟨1, _⟩ => have h : (i 1 : Nat) < 1 := (i 1).isLt; show 0 * 1 ≤ (i 1 : Nat) ∧ (i 1 : Nat) < 0 * 1 + 1; omega
    | ⟨2, _⟩ => have h : (i 2 : Nat) < 1024 := (i 2).isLt; show 0 * 1024 ≤ (i 2 : Nat) ∧ (i 2 : Nat) < 0 * 1024 + 1024; omega
  refine ⟨(dat2 V c).arrAt_eq_of_cover 4 _ (fun t _ => ?_) fun i => ⟨⟨(i 0 : Nat) / 55, hN i⟩, flush2_4 _, ?_⟩,
    (dat2 V c).arrAt_eq_of_cover 5 _ (fun t _ => ?_) fun i => ⟨⟨(i 0 : Nat) / 55, hN i⟩, flush2_5 _, ?_⟩,
    (dat2 V c).arrAt_eq_of_cover 6 _ (fun t _ => ?_) fun i => ⟨⟨(i 0 : Nat) / 55, hN i⟩, flush2_6 _, ?_⟩⟩
  · show (cfg2.win 4).cut (grid2.coords t) ((dat2 V c).after 4 t) = _; rw [after2_4]; funext j; rw [View.read_apply]; unfold out2_4
    rw [View.canon_unit_zero hz]; simp only [View.ld_unit_zero (S := S55x1x1024) hz, k2_pay1, k2_pay2, k2_pay3, k2_pay4, k2_pay5, k2_pay6, shapeCast_self]; rfl
  · show i ∈ ((View.whole main_v14_0).slice (win2_4.rect ⟨(i 0 : Nat) / 55, hN i⟩)).set; rw [View.set_slice_whole, Rect.mem_set_unit]
    exact hm i (win2_4.index ⟨(i 0 : Nat) / 55, hN i⟩) (hi4 _)
  · show (cfg2.win 5).cut (grid2.coords t) ((dat2 V c).after 5 t) = _; rw [after2_5]; funext j; rw [View.read_apply]; unfold out2_5
    rw [View.canon_unit_zero hz]; simp only [View.ld_unit_zero (S := S55x1x1024) hz, k2_pay1, k2_pay2, k2_pay3, k2_pay4, k2_pay5, k2_pay6, shapeCast_self]; rfl
  · show i ∈ ((View.whole main_v14_1).slice (win2_5.rect ⟨(i 0 : Nat) / 55, hN i⟩)).set; rw [View.set_slice_whole, Rect.mem_set_unit]
    exact hm i (win2_5.index ⟨(i 0 : Nat) / 55, hN i⟩) (hi5 _)
  · show (cfg2.win 6).cut (grid2.coords t) ((dat2 V c).after 6 t) = _; rw [after2_6]; funext j; rw [View.read_apply]; unfold out2_6
    rw [View.canon_unit_zero hz]; simp only [View.ld_unit_zero (S := S55x1x1024) hz, k2_pay1, k2_pay2, k2_pay3, k2_pay4, k2_pay5, k2_pay6, shapeCast_self]; rfl
  · show i ∈ ((View.whole main_v14_2).slice (win2_6.rect ⟨(i 0 : Nat) / 55, hN i⟩)).set; rw [View.set_slice_whole, Rect.mem_set_unit]
    exact hm i (win2_6.index ⟨(i 0 : Nat) / 55, hN i⟩) (hi6 _)

end Cert.Kernel5Ideal.Opt
-- ==== Proof.OptMats2.lean ====
/- The weight update's calls over their grids: the whole arrays they leave, entry by entry. -/
module

public import proofs.«01_k».proof.Proof.OptMath
public import proofs.«01_k».proof.Proof.Gen.Kernel5Ideal.Frame

@[expose] public section

set_option maxRecDepth 16384

noncomputable section

namespace Cert.Kernel5Ideal.Opt

open Cert.Kernel5Ideal Cert.Kernel5Ideal.Gen Cert.Opt Idealize.ShloMosaic Idealize.ShloMosaic.TcCoe Idealize.SL.Sem

variable (V : (c : Dev nD) → (b : Ref sig .tc) → Buf (Elt Idealize.ShloMosaic.Ideal) ((c : Thread nD τ).loc b)) (c : Dev nD)

set_option maxHeartbeats 4000000 in
theorem fin4 : Updates S1x256x1024 ((dat4 V c).arrAt 4 cfg4.N) ((dat4 V c).arrAt 5 cfg4.N) ((dat4 V c).arrAt 6 cfg4.N) (V c main_arg3) (V c main_arg10) (V c main_arg17) (V c main_arg24) := by
  have hz : (![0, 0, 0] : Fin 3 → Nat) = fun _ => 0 := by decide
  have hN : 0 < cfg4.N := by rw [show cfg4.N = 1 from N_4]; omega
  have hi4 : ∀ (t : Fin grid4.N) a, win4_4.index t a = 0 := by decide +kernel
  have hi5 : ∀ (t : Fin grid4.N) a, win4_5.index t a = 0 := by decide +kernel
  have hi6 : ∀ (t : Fin grid4.N) a, win4_6.index t a = 0 := by decide +kernel
  have hm (i : S1x256x1024.Idx) (x : Fin 3 → Nat) (hx : ∀ a, x a = 0) (a) : x a * S1x256x1024.size a ≤ (i a : Nat) ∧ (i a : Nat) < x a * S1x256x1024.size a + S1x256x1024.size a := by
    rw [hx, Nat.zero_mul, Nat.zero_add]; exact ⟨Nat.zero_le _, (i a).isLt⟩
  refine ⟨(dat4 V c).arrAt_eq_of_cover 4 _ (fun t _ => ?_) fun i => ⟨⟨0, hN⟩, flush4_4 _, ?_⟩,
    (dat4 V c).arrAt_eq_of_cover 5 _ (fun t _ => ?_) fun i => ⟨⟨0, hN⟩, flush4_5 _, ?_⟩,
    (dat4 V c).arrAt_eq_of_cover 6 _ (fun t _ => ?_) fun i => ⟨⟨0, hN⟩, flush4_6 _, ?_⟩⟩
  · show (cfg4.win 4).cut (grid4.coords t) ((dat4 V c).after 4 t) = _; rw [after4_4]; funext j; rw [View.read_apply]; unfold out4_4
    rw [View.canon_unit_zero hz]; simp only [View.ld_unit_zero (S := S1x256x1024) hz, k4_pay1, k4_pay2, k4_pay3, shapeCast_self]; rfl
  · show i ∈ ((View.whole main_v16_0).slice (win4_4.rect ⟨0, hN⟩)).set; rw [View.set_slice_whole, Rect.mem_set_unit]
    exact hm i (win4_4.index ⟨0, hN⟩) (hi4 _)
  · show (cfg4.win 5).cut (grid4.coords t) ((dat4 V c).after 5 t) = _; rw [after4_5]; funext j; rw [View.read_apply]; unfold out4_5
    rw [View.canon_unit_zero hz]; simp only [View.ld_unit_zero (S := S1x256x1024) hz, k4_pay1, k4_pay2, k4_pay3, shapeCast_self]; rfl
  · show i ∈ ((View.whole main_v16_1).slice (win4_5.rect ⟨0, hN⟩)).set; rw [View.set_slice_whole, Rect.mem_set_unit]
    exact hm i (win4_5.index ⟨0, hN⟩) (hi5 _)
  · show (cfg4.win 6).cut (grid4.coords t) ((dat4 V c).after 6 t) = _; rw [after4_6]; funext j; rw [View.read_apply]; unfold out4_6
    rw [View.canon_unit_zero hz]; simp only [View.ld_unit_zero (S := S1x256x1024) hz, k4_pay1, k4_pay2, k4_pay3, shapeCast_self]; rfl
  · show i ∈ ((View.whole main_v16_2).slice (win4_6.rect ⟨0, hN⟩)).set; rw [View.set_slice_whole, Rect.mem_set_unit]
    exact hm i (win4_6.index ⟨0, hN⟩) (hi6 _)

set_option maxHeartbeats 4000000 in
theorem fin5 : Updates S1x704x1024 ((dat5 V c).arrAt 4 cfg5.N) ((dat5 V c).arrAt 5 cfg5.N) ((dat5 V c).arrAt 6 cfg5.N) (V c main_v0) (V c main_v1) (V c main_v2) (V c main_v3) := by
  have hz : (![0, 0, 0] : Fin 3 → Nat) = fun _ => 0 := by decide
  have hN (i : S1x704x1024.Idx) : (i 1 : Nat) / 352 < cfg5.N := by have h : (i 1 : Nat) < 704 := (i 1).isLt; rw [show cfg5.N = 2 from N_5]; omega
  have hi4 : ∀ (t : Fin grid5.N) a, win5_4.index t a = if a = 1 then t.val else 0 := by decide +kernel
  have hi5 : ∀ (t : Fin grid5.N) a, win5_5.index t a = if a = 1 then t.val else 0 := by decide +kernel
  have hi6 : ∀ (t : Fin grid5.N) a, win5_6.index t a = if a = 1 then t.val else 0 := by decide +kernel
  have hm (i : S1x704x1024.Idx) (x : Fin 3 → Nat) (hx : ∀ a, x a = if a = 1 then (i 1 : Nat) / 352 else 0) (a) :
      x a * S1x352x1024.size a ≤ (i a : Nat) ∧ (i a : Nat) < x a * S1x352x1024.size a + S1x352x1024.size a := by
    rw [hx]
    match a with
    | ⟨0, _⟩ => have h : (i 0 : Nat) < 1 := (i 0).isLt; show 0 * 1 ≤ (i 0 : Nat) ∧ (i 0 : Nat) < 0 * 1 + 1; omega
    | ⟨1, _⟩ => show (i 1 : Nat) / 352 * 352 ≤ (i 1 : Nat) ∧ (i 1 : Nat) < (i 1 : Nat) / 352 * 352 + 352; omega
    | ⟨2, _⟩ => have h : (i 2 : Nat) < 1024 := (i 2).isLt; show 0 * 1024 ≤ (i 2 : Nat) ∧ (i 2 : Nat) < 0 * 1024 + 1024; omega
  refine ⟨(dat5 V c).arrAt_eq_of_cover 4 _ (fun t _ => ?_) fun i => ⟨⟨(i 1 : Nat) / 352, hN i⟩, flush5_4 _, ?_⟩,
    (dat5 V c).arrAt_eq_of_cover 5 _ (fun t _ => ?_) fun i => ⟨⟨(i 1 : Nat) / 352, hN i⟩, flush5_5 _, ?_⟩,
    (dat5 V c).arrAt_eq_of_cover 6 _ (fun t _ => ?_) fun i => ⟨⟨(i 1 : Nat) / 352, hN i⟩, flush5_6 _, ?_⟩⟩
  · show (cfg5.win 4).cut (grid5.coords t) ((dat5 V c).after 4 t) = _; rw [after5_4]; funext j; rw [View.read_apply]; unfold out5_4
    rw [View.canon_unit_zero hz]; simp only [View.ld_unit_zero (S := S1x352x1024) hz, k5_pay1, k5_pay2, k5_pay3, k5_pay4, k5_pay5, k5_pay6, shapeCast_self]; rfl
  · show i ∈ ((View.whole main_v17_0).slice (win5_4.rect ⟨(i 1 : Nat) / 352, hN i⟩)).set; rw [View.set_slice_whole, Rect.mem_set_unit]
    exact hm i (win5_4.index ⟨(i 1 : Nat) / 352, hN i⟩) (hi4 _)
  · show (cfg5.win 5).cut (grid5.coords t) ((dat5 V c).after 5 t) = _; rw [after5_5]; funext j; rw [View.read_apply]; unfold out5_5
    rw [View.canon_unit_zero hz]; simp only [View.ld_unit_zero (S := S1x352x1024) hz, k5_pay1, k5_pay2, k5_pay3, k5_pay4, k5_pay5, k5_pay6, shapeCast_self]; rfl
  · show i ∈ ((View.whole main_v17_1).slice (win5_5.rect ⟨(i 1 : Nat) / 352, hN i⟩)).set; rw [View.set_slice_whole, Rect.mem_set_unit]
    exact hm i (win5_5.index ⟨(i 1 : Nat) / 352, hN i⟩) (hi5 _)
  · show (cfg5.win 6).cut (grid5.coords t) ((dat5 V c).after 6 t) = _; rw [after5_6]; funext j; rw [View.read_apply]; unfold out5_6
    rw [View.canon_unit_zero hz]; simp only [View.ld_unit_zero (S := S1x352x1024) hz, k5_pay1, k5_pay2, k5_pay3, k5_pay4, k5_pay5, k5_pay6, shapeCast_self]; rfl
  · show i ∈ ((View.whole main_v17_2).slice (win5_6.rect ⟨(i 1 : Nat) / 352, hN i⟩)).set; rw [View.set_slice_whole, Rect.mem_set_unit]
    exact hm i (win5_6.index ⟨(i 1 : Nat) / 352, hN i⟩) (hi6 _)

set_option maxHeartbeats 4000000 in
theorem fin6 : Updates S1x704x1024 ((dat6 V c).arrAt 4 cfg6.N) ((dat6 V c).arrAt 5 cfg6.N) ((dat6 V c).arrAt 6 cfg6.N) (V c main_v4) (V c main_v5) (V c main_v6) (V c main_v7) := by
  have hz : (![0, 0, 0] : Fin 3 → Nat) = fun _ => 0 := by decide
  have hN (i : S1x704x1024.Idx) : (i 1 : Nat) / 352 < cfg6.N := by have h : (i 1 : Nat) < 704 := (i 1).isLt; rw [show cfg6.N = 2 from N_6]; omega
  have hi4 : ∀ (t : Fin grid6.N) a, win6_4.index t a = if a = 1 then t.val else 0 := by decide +kernel
  have hi5 : ∀ (t : Fin grid6.N) a, win6_5.index t a = if a = 1 then t.val else 0 := by decide +kernel
  have hi6 : ∀ (t : Fin grid6.N) a, win6_6.index t a = if a = 1 then t.val else 0 := by decide +kernel
  have hm (i : S1x704x1024.Idx) (x : Fin 3 → Nat) (hx : ∀ a, x a = if a = 1 then (i 1 : Nat) / 352 else 0) (a) :
      x a * S1x352x1024.size a ≤ (i a : Nat) ∧ (i a : Nat) < x a * S1x352x1024.size a + S1x352x1024.size a := by
    rw [hx]
    match a with
    | ⟨0, _⟩ => have h : (i 0 : Nat) < 1 := (i 0).isLt; show 0 * 1 ≤ (i 0 : Nat) ∧ (i 0 : Nat) < 0 * 1 + 1; omega
    | ⟨1, _⟩ => show (i 1 : Nat) / 352 * 352 ≤ (i 1 : Nat) ∧ (i 1 : Nat) < (i 1 : Nat) / 352 * 352 + 352; omega
    | ⟨2, _⟩ => have h : (i 2 : Nat) < 1024 := (i 2).isLt; show 0 * 1024 ≤ (i 2 : Nat) ∧ (i 2 : Nat) < 0 * 1024 + 1024; omega
  refine ⟨(dat6 V c).arrAt_eq_of_cover 4 _ (fun t _ => ?_) fun i => ⟨⟨(i 1 : Nat) / 352, hN i⟩, flush6_4 _, ?_⟩,
    (dat6 V c).arrAt_eq_of_cover 5 _ (fun t _ => ?_) fun i => ⟨⟨(i 1 : Nat) / 352, hN i⟩, flush6_5 _, ?_⟩,
    (dat6 V c).arrAt_eq_of_cover 6 _ (fun t _ => ?_) fun i => ⟨⟨(i 1 : Nat) / 352, hN i⟩, flush6_6 _, ?_⟩⟩
  · show (cfg6.win 4).cut (grid6.coords t) ((dat6 V c).after 4 t) = _; rw [after6_4]; funext j; rw [View.read_apply]; unfold out6_4
    rw [View.canon_unit_zero hz]; simp only [View.ld_unit_zero (S := S1x352x1024) hz, k6_pay1, k6_pay2, k6_pay3, k6_pay4, k6_pay5, k6_pay6, shapeCast_self]; rfl
  · show i ∈ ((View.whole main_v18_0).slice (win6_4.rect ⟨(i 1 : Nat) / 352, hN i⟩)).set; rw [View.set_slice_whole, Rect.mem_set_unit]
    exact hm i (win6_4.index ⟨(i 1 : Nat) / 352, hN i⟩) (hi4 _)
  · show (cfg6.win 5).cut (grid6.coords t) ((dat6 V c).after 5 t) = _; rw [after6_5]; funext j; rw [View.read_apply]; unfold out6_5
    rw [View.canon_unit_zero hz]; simp only [View.ld_unit_zero (S := S1x352x1024) hz, k6_pay1, k6_pay2, k6_pay3, k6_pay4, k6_pay5, k6_pay6, shapeCast_self]; rfl
  · show i ∈ ((View.whole main_v18_1).slice (win6_5.rect ⟨(i 1 : Nat) / 352, hN i⟩)).set; rw [View.set_slice_whole, Rect.mem_set_unit]
    exact hm i (win6_5.index ⟨(i 1 : Nat) / 352, hN i⟩) (hi5 _)
  · show (cfg6.win 6).cut (grid6.coords t) ((dat6 V c).after 6 t) = _; rw [after6_6]; funext j; rw [View.read_apply]; unfold out6_6
    rw [View.canon_unit_zero hz]; simp only [View.ld_unit_zero (S := S1x352x1024) hz, k6_pay1, k6_pay2, k6_pay3, k6_pay4, k6_pay5, k6_pay6, shapeCast_self]; rfl
  · show i ∈ ((View.whole main_v18_2).slice (win6_6.rect ⟨(i 1 : Nat) / 352, hN i⟩)).set; rw [View.set_slice_whole, Rect.mem_set_unit]
    exact hm i (win6_6.index ⟨(i 1 : Nat) / 352, hN i⟩) (hi6 _)

end Cert.Kernel5Ideal.Opt
-- ==== Proof.OptEnd.lean ====
/- The weight update's program: what its results hold, from its arguments. -/
module

public import proofs.«01_k».proof.Proof.OptRun
public import proofs.«01_k».proof.Proof.OptRows
public import proofs.«01_k».proof.Proof.OptMats
public import proofs.«01_k».proof.Proof.OptMats2

@[expose] public section

set_option maxRecDepth 16384

noncomputable section

namespace Cert.Kernel5Ideal.Opt

open Cert.Kernel5Ideal Cert.Kernel5Ideal.Gen Cert.Opt Idealize.ShloMosaic Idealize.ShloMosaic.TcCoe Idealize.ShloMosaic.StableHlo Idealize.SL.Sem

variable (m : (ℓ : Loc nD τ sig) → Buf (Elt Idealize.ShloMosaic.Ideal) ℓ) (ρ : Dev nD → PrngReg) (c : Dev nD)

/-- A buffer as launched, and as it ends. -/
abbrev A (b : Ref sig .tc) : Buf (Elt Idealize.ShloMosaic.Ideal) ((c : Thread nD τ).loc b) := m ((c : Thread nD τ).loc b)
abbrev E (b : Ref sig .tc) : Buf (Elt Idealize.ShloMosaic.Ideal) ((c : Thread nD τ).loc b) := W10 m ρ c (Proc.devRef .tc b)

/-! ## Buffers that are final at a boundary -/

def fin_1 : List (Ref sig .tc) := [main_v0, main_v1, main_v2, main_v3, main_v4, main_v5, main_v6, main_v7]
def fin_2 : List (Ref sig .tc) := [main_v8_0, main_v8_1, main_v8_2] ++ fin_1
def fin_3 : List (Ref sig .tc) := [main_v9, main_v10, main_v11, main_v12] ++ fin_2
def fin_4 : List (Ref sig .tc) := [main_v13_0, main_v13_1, main_v13_2] ++ fin_3
def fin_5 : List (Ref sig .tc) := [main_v14_0, main_v14_1, main_v14_2] ++ fin_4
def fin_6 : List (Ref sig .tc) := [main_v15_0, main_v15_1, main_v15_2] ++ fin_5
def fin_7 : List (Ref sig .tc) := [main_v16_0, main_v16_1, main_v16_2] ++ fin_6
def fin_8 : List (Ref sig .tc) := [main_v17_0, main_v17_1, main_v17_2] ++ fin_7
def fin_9 : List (Ref sig .tc) := [main_v18_0, main_v18_1, main_v18_2] ++ fin_8
theorem at_9 : ∀ b ∈ fin_9, E m ρ c b = W9 m ρ c (Proc.devRef .tc b) := fun b hb =>
  W10_of m ρ c b (ListAll.forall_mem_of_all_decide (l := fin_9) (p := fun b => b ∉ hostOps7_W) (by decide +kernel) b hb)
theorem at_8 : ∀ b ∈ fin_8, E m ρ c b = W8 m ρ c (Proc.devRef .tc b) := fun b hb =>
  (at_9 m ρ c b (List.mem_append_right _ hb)).trans (W9_of m ρ c b (ListAll.forall_mem_of_all_decide (l := fin_8) (p := fun b => ∀ w : Fin cfg6.W, Pipeline.arrRef spec6 w = b → (cfg6.win w).isOut = false) (by decide +kernel) b hb))
theorem at_7 : ∀ b ∈ fin_7, E m ρ c b = W7 m ρ c (Proc.devRef .tc b) := fun b hb =>
  (at_8 m ρ c b (List.mem_append_right _ hb)).trans (W8_of m ρ c b (ListAll.forall_mem_of_all_decide (l := fin_7) (p := fun b => ∀ w : Fin cfg5.W, Pipeline.arrRef spec5 w = b → (cfg5.win w).isOut = false) (by decide +kernel) b hb))
theorem at_6 : ∀ b ∈ fin_6, E m ρ c b = W6 m ρ c (Proc.devRef .tc b) := fun b hb =>
  (at_7 m ρ c b (List.mem_append_right _ hb)).trans (W7_of m ρ c b (ListAll.forall_mem_of_all_decide (l := fin_6) (p := fun b => ∀ w : Fin cfg4.W, Pipeline.arrRef spec4 w = b → (cfg4.win w).isOut = false) (by decide +kernel) b hb))
theorem at_5 : ∀ b ∈ fin_5, E m ρ c b = W5 m ρ c (Proc.devRef .tc b) := fun b hb =>
  (at_6 m ρ c b (List.mem_append_right _ hb)).trans (W6_of m ρ c b (ListAll.forall_mem_of_all_decide (l := fin_5) (p := fun b => ∀ w : Fin cfg3.W, Pipeline.arrRef spec3 w = b → (cfg3.win w).isOut = false) (by decide +kernel) b hb))
theorem at_4 : ∀ b ∈ fin_4, E m ρ c b = W4 m ρ c (Proc.devRef .tc b) := fun b hb =>
  (at_5 m ρ c b (List.mem_append_right _ hb)).trans (W5_of m ρ c b (ListAll.forall_mem_of_all_decide (l := fin_4) (p := fun b => ∀ w : Fin cfg2.W, Pipeline.arrRef spec2 w = b → (cfg2.win w).isOut = false) (by decide +kernel) b hb))
theorem at_3 : ∀ b ∈ fin_3, E m ρ c b = W3 m ρ c (Proc.devRef .tc b) := fun b hb =>
  (at_4 m ρ c b (List.mem_append_right _ hb)).trans (W4_of m ρ c b (ListAll.forall_mem_of_all_decide (l := fin_3) (p := fun b => ∀ w : Fin cfg1.W, Pipeline.arrRef spec1 w = b → (cfg1.win w).isOut = false) (by decide +kernel) b hb))
theorem at_2 : ∀ b ∈ fin_2, E m ρ c b = W2 m ρ c (Proc.devRef .tc b) := fun b hb =>
  (at_3 m ρ c b (List.mem_append_right _ hb)).trans (W3_of m ρ c b (ListAll.forall_mem_of_all_decide (l := fin_2) (p := fun b => b ∉ hostOps1_W) (by decide +kernel) b hb))
theorem at_1 : ∀ b ∈ fin_1, E m ρ c b = W1 m ρ c (Proc.devRef .tc b) := fun b hb =>
  (at_2 m ρ c b (List.mem_append_right _ hb)).trans (W2_of m ρ c b (ListAll.forall_mem_of_all_decide (l := fin_1) (p := fun b => ∀ w : Fin cfg0.W, Pipeline.arrRef spec0 w = b → (cfg0.win w).isOut = false) (by decide +kernel) b hb))

/-! ## The host lines -/

variable (X : Valuation τ sig (Elt Idealize.ShloMosaic.Ideal))

/-- A weight's axes in its call's order, and back. -/
abbrev to_gate (x : Vec Ideal S1x1024x704 .f32) : Vec Ideal S1x704x1024 .f32 := transpose S1x704x1024 [0, 2, 1] x transposes_S1x1024x704_S1x704x1024_0_2_1
abbrev from_gate (x : Vec Ideal S1x704x1024 .f32) : Vec Ideal S1x1024x704 .f32 := transpose S1x1024x704 [0, 2, 1] x transposes_S1x704x1024_S1x1024x704_0_2_1
theorem back_gate {x y z : Vec Ideal S1x704x1024 .f32} {w g m v : Vec Ideal S1x1024x704 .f32} (h : Updates S1x704x1024 x y z (to_gate w) (to_gate g) (to_gate m) (to_gate v)) :
    Updates S1x1024x704 (from_gate x) (from_gate y) (from_gate z) w g m v := by
  have e (x : Vec Ideal S1x1024x704 .f32) : from_gate (to_gate x) = x := funext fun i => by
    refine (transpose_apply (s := S1x704x1024) (t := S1x1024x704) _ (to_gate x) _ i (fun a => match a with | ⟨0, _⟩ => i 0 | ⟨1, _⟩ => i 2 | ⟨2, _⟩ => i 1) (fun b => match b with | ⟨0, _⟩ => rfl | ⟨1, _⟩ => rfl | ⟨2, _⟩ => rfl)).trans ?_
    exact transpose_apply (s := S1x1024x704) (t := S1x704x1024) _ x _ _ i (fun b => match b with | ⟨0, _⟩ => rfl | ⟨1, _⟩ => rfl | ⟨2, _⟩ => rfl)
  obtain ⟨rfl, rfl, rfl⟩ := h
  exact update ⟨rfl, rfl, rfl⟩ rfl rfl rfl (e w) (e g) (e m) (e v)
/-- A weight's axes in its call's order, and back. -/
abbrev to_in (x : Vec Ideal S1x1024x770 .f32) : Vec Ideal S770x1x1024 .f32 := transpose S770x1x1024 [2, 0, 1] x transposes_S1x1024x770_S770x1x1024_2_0_1
abbrev from_in (x : Vec Ideal S770x1x1024 .f32) : Vec Ideal S1x1024x770 .f32 := transpose S1x1024x770 [1, 2, 0] x transposes_S770x1x1024_S1x1024x770_1_2_0
theorem back_in {x y z : Vec Ideal S770x1x1024 .f32} {w g m v : Vec Ideal S1x1024x770 .f32} (h : Updates S770x1x1024 x y z (to_in w) (to_in g) (to_in m) (to_in v)) :
    Updates S1x1024x770 (from_in x) (from_in y) (from_in z) w g m v := by
  have e (x : Vec Ideal S1x1024x770 .f32) : from_in (to_in x) = x := funext fun i => by
    refine (transpose_apply (s := S770x1x1024) (t := S1x1024x770) _ (to_in x) _ i (fun a => match a with | ⟨0, _⟩ => i 2 | ⟨1, _⟩ => i 0 | ⟨2, _⟩ => i 1) (fun b => match b with | ⟨0, _⟩ => rfl | ⟨1, _⟩ => rfl | ⟨2, _⟩ => rfl)).trans ?_
    exact transpose_apply (s := S1x1024x770) (t := S770x1x1024) _ x _ _ i (fun b => match b with | ⟨0, _⟩ => rfl | ⟨1, _⟩ => rfl | ⟨2, _⟩ => rfl)
  obtain ⟨rfl, rfl, rfl⟩ := h
  exact update ⟨rfl, rfl, rfl⟩ rfl rfl rfl (e w) (e g) (e m) (e v)
theorem host_v0 : StableHlo.after (hostOps0 (F := Ideal)) X (Proc.devRef .tc main_v0) = to_gate (X (Proc.devRef .tc main_arg4)) := by
  unfold hostOps0; after_results; try rfl
theorem host_v1 : StableHlo.after (hostOps0 (F := Ideal)) X (Proc.devRef .tc main_v1) = to_gate (X (Proc.devRef .tc main_arg11)) := by
  unfold hostOps0; after_results; try rfl
theorem host_v2 : StableHlo.after (hostOps0 (F := Ideal)) X (Proc.devRef .tc main_v2) = to_gate (X (Proc.devRef .tc main_arg18)) := by
  unfold hostOps0; after_results; try rfl
theorem host_v3 : StableHlo.after (hostOps0 (F := Ideal)) X (Proc.devRef .tc main_v3) = to_gate (X (Proc.devRef .tc main_arg25)) := by
  unfold hostOps0; after_results; try rfl
theorem host_v4 : StableHlo.after (hostOps0 (F := Ideal)) X (Proc.devRef .tc main_v4) = to_gate (X (Proc.devRef .tc main_arg5)) := by
  unfold hostOps0; after_results; try rfl
theorem host_v5 : StableHlo.after (hostOps0 (F := Ideal)) X (Proc.devRef .tc main_v5) = to_gate (X (Proc.devRef .tc main_arg12)) := by
  unfold hostOps0; after_results; try rfl
theorem host_v6 : StableHlo.after (hostOps0 (F := Ideal)) X (Proc.devRef .tc main_v6) = to_gate (X (Proc.devRef .tc main_arg19)) := by
  unfold hostOps0; after_results; try rfl
theorem host_v7 : StableHlo.after (hostOps0 (F := Ideal)) X (Proc.devRef .tc main_v7) = to_gate (X (Proc.devRef .tc main_arg26)) := by
  unfold hostOps0; after_results; try rfl
theorem host_v9 : StableHlo.after (hostOps1 (F := Ideal)) X (Proc.devRef .tc main_v9) = to_in (X (Proc.devRef .tc main_arg1)) := by
  unfold hostOps1; after_results; try rfl
theorem host_v10 : StableHlo.after (hostOps1 (F := Ideal)) X (Proc.devRef .tc main_v10) = to_in (X (Proc.devRef .tc main_arg8)) := by
  unfold hostOps1; after_results; try rfl
theorem host_v11 : StableHlo.after (hostOps1 (F := Ideal)) X (Proc.devRef .tc main_v11) = to_in (X (Proc.devRef .tc main_arg15)) := by
  unfold hostOps1; after_results; try rfl
theorem host_v12 : StableHlo.after (hostOps1 (F := Ideal)) X (Proc.devRef .tc main_v12) = to_in (X (Proc.devRef .tc main_arg22)) := by
  unfold hostOps1; after_results; try rfl
theorem host_v19 : StableHlo.after (hostOps7 (F := Ideal)) X (Proc.devRef .tc main_v19) = from_gate (X (Proc.devRef .tc main_v17_0)) := by
  unfold hostOps7; after_results; try rfl
theorem host_v20 : StableHlo.after (hostOps7 (F := Ideal)) X (Proc.devRef .tc main_v20) = from_gate (X (Proc.devRef .tc main_v17_1)) := by
  unfold hostOps7; after_results; try rfl
theorem host_v21 : StableHlo.after (hostOps7 (F := Ideal)) X (Proc.devRef .tc main_v21) = from_gate (X (Proc.devRef .tc main_v17_2)) := by
  unfold hostOps7; after_results; try rfl
theorem host_v22 : StableHlo.after (hostOps7 (F := Ideal)) X (Proc.devRef .tc main_v22) = from_gate (X (Proc.devRef .tc main_v18_0)) := by
  unfold hostOps7; after_results; try rfl
theorem host_v23 : StableHlo.after (hostOps7 (F := Ideal)) X (Proc.devRef .tc main_v23) = from_gate (X (Proc.devRef .tc main_v18_1)) := by
  unfold hostOps7; after_results; try rfl
theorem host_v24 : StableHlo.after (hostOps7 (F := Ideal)) X (Proc.devRef .tc main_v24) = from_gate (X (Proc.devRef .tc main_v18_2)) := by
  unfold hostOps7; after_results; try rfl
theorem host_v25 : StableHlo.after (hostOps7 (F := Ideal)) X (Proc.devRef .tc main_v25) = from_in (X (Proc.devRef .tc main_v14_0)) := by
  unfold hostOps7; after_results; try rfl
theorem host_v26 : StableHlo.after (hostOps7 (F := Ideal)) X (Proc.devRef .tc main_v26) = from_in (X (Proc.devRef .tc main_v14_1)) := by
  unfold hostOps7; after_results; try rfl
theorem host_v27 : StableHlo.after (hostOps7 (F := Ideal)) X (Proc.devRef .tc main_v27) = from_in (X (Proc.devRef .tc main_v14_2)) := by
  unfold hostOps7; after_results; try rfl

/-! ## The results -/

theorem end_6 : Updates S1x704x1024 (E m ρ c main_v8_0) (E m ρ c main_v8_1) (E m ρ c main_v8_2) (A m c main_arg6) (A m c main_arg13) (A m c main_arg20) (A m c main_arg27) :=
  update (fin0 (V1 m ρ) c) ((at_2 m ρ c main_v8_0 (by decide)).trans (W2_arr m ρ c 4)) ((at_2 m ρ c main_v8_1 (by decide)).trans (W2_arr m ρ c 5)) ((at_2 m ρ c main_v8_2 (by decide)).trans (W2_arr m ρ c 6))
    (W1_args m ρ c main_arg6 (by decide)) (W1_args m ρ c main_arg13 (by decide)) (W1_args m ρ c main_arg20 (by decide)) (W1_args m ρ c main_arg27 (by decide))
theorem end_0 : Updates S1x1024 (E m ρ c main_v13_0) (E m ρ c main_v13_1) (E m ρ c main_v13_2) (A m c main_arg0) (A m c main_arg7) (A m c main_arg14) (A m c main_arg21) :=
  update (fin1 (V3 m ρ) c) ((at_4 m ρ c main_v13_0 (by decide)).trans (W4_arr m ρ c 4)) ((at_4 m ρ c main_v13_1 (by decide)).trans (W4_arr m ρ c 5)) ((at_4 m ρ c main_v13_2 (by decide)).trans (W4_arr m ρ c 6))
    (W3_args m ρ c main_arg0 (by decide)) (W3_args m ρ c main_arg7 (by decide)) (W3_args m ρ c main_arg14 (by decide)) (W3_args m ρ c main_arg21 (by decide))
theorem mid_1 : Updates S770x1x1024 (W9 m ρ c (Proc.devRef .tc main_v14_0)) (W9 m ρ c (Proc.devRef .tc main_v14_1)) (W9 m ρ c (Proc.devRef .tc main_v14_2)) (to_in (A m c main_arg1)) (to_in (A m c main_arg8)) (to_in (A m c main_arg15)) (to_in (A m c main_arg22)) :=
  update (fin2 (V4 m ρ) c) ((at_9 m ρ c main_v14_0 (by decide)).symm.trans ((at_5 m ρ c main_v14_0 (by decide)).trans (W5_arr m ρ c 4))) ((at_9 m ρ c main_v14_1 (by decide)).symm.trans ((at_5 m ρ c main_v14_1 (by decide)).trans (W5_arr m ρ c 5))) ((at_9 m ρ c main_v14_2 (by decide)).symm.trans ((at_5 m ρ c main_v14_2 (by decide)).trans (W5_arr m ρ c 6)))
    (((at_4 m ρ c main_v9 (by decide)).symm.trans (at_3 m ρ c main_v9 (by decide))).trans ((host_v9 (W2 m ρ c)).trans (congrArg to_in (W2_args m ρ c main_arg1 (by decide)))))
    (((at_4 m ρ c main_v10 (by decide)).symm.trans (at_3 m ρ c main_v10 (by decide))).trans ((host_v10 (W2 m ρ c)).trans (congrArg to_in (W2_args m ρ c main_arg8 (by decide)))))
    (((at_4 m ρ c main_v11 (by decide)).symm.trans (at_3 m ρ c main_v11 (by decide))).trans ((host_v11 (W2 m ρ c)).trans (congrArg to_in (W2_args m ρ c main_arg15 (by decide)))))
    (((at_4 m ρ c main_v12 (by decide)).symm.trans (at_3 m ρ c main_v12 (by decide))).trans ((host_v12 (W2 m ρ c)).trans (congrArg to_in (W2_args m ρ c main_arg22 (by decide)))))
theorem end_1 : Updates S1x1024x770 (E m ρ c main_v25) (E m ρ c main_v26) (E m ρ c main_v27) (A m c main_arg1) (A m c main_arg8) (A m c main_arg15) (A m c main_arg22) :=
  update (back_in (mid_1 m ρ c)) (host_v25 (W9 m ρ c)) (host_v26 (W9 m ρ c)) (host_v27 (W9 m ρ c)) rfl rfl rfl rfl
theorem end_2 : Updates S1x8 (E m ρ c main_v15_0) (E m ρ c main_v15_1) (E m ρ c main_v15_2) (A m c main_arg2) (A m c main_arg9) (A m c main_arg16) (A m c main_arg23) :=
  update (fin3 (V5 m ρ) c) ((at_6 m ρ c main_v15_0 (by decide)).trans (W6_arr m ρ c 4)) ((at_6 m ρ c main_v15_1 (by decide)).trans (W6_arr m ρ c 5)) ((at_6 m ρ c main_v15_2 (by decide)).trans (W6_arr m ρ c 6))
    (W5_args m ρ c main_arg2 (by decide)) (W5_args m ρ c main_arg9 (by decide)) (W5_args m ρ c main_arg16 (by decide)) (W5_args m ρ c main_arg23 (by decide))
theorem end_3 : Updates S1x256x1024 (E m ρ c main_v16_0) (E m ρ c main_v16_1) (E m ρ c main_v16_2) (A m c main_arg3) (A m c main_arg10) (A m c main_arg17) (A m c main_arg24) :=
  update (fin4 (V6 m ρ) c) ((at_7 m ρ c main_v16_0 (by decide)).trans (W7_arr m ρ c 4)) ((at_7 m ρ c main_v16_1 (by decide)).trans (W7_arr m ρ c 5)) ((at_7 m ρ c main_v16_2 (by decide)).trans (W7_arr m ρ c 6))
    (W6_args m ρ c main_arg3 (by decide)) (W6_args m ρ c main_arg10 (by decide)) (W6_args m ρ c main_arg17 (by decide)) (W6_args m ρ c main_arg24 (by decide))
theorem mid_4 : Updates S1x704x1024 (W9 m ρ c (Proc.devRef .tc main_v17_0)) (W9 m ρ c (Proc.devRef .tc main_v17_1)) (W9 m ρ c (Proc.devRef .tc main_v17_2)) (to_gate (A m c main_arg4)) (to_gate (A m c main_arg11)) (to_gate (A m c main_arg18)) (to_gate (A m c main_arg25)) :=
  update (fin5 (V7 m ρ) c) ((at_9 m ρ c main_v17_0 (by decide)).symm.trans ((at_8 m ρ c main_v17_0 (by decide)).trans (W8_arr m ρ c 4))) ((at_9 m ρ c main_v17_1 (by decide)).symm.trans ((at_8 m ρ c main_v17_1 (by decide)).trans (W8_arr m ρ c 5))) ((at_9 m ρ c main_v17_2 (by decide)).symm.trans ((at_8 m ρ c main_v17_2 (by decide)).trans (W8_arr m ρ c 6)))
    (((at_7 m ρ c main_v0 (by decide)).symm.trans (at_1 m ρ c main_v0 (by decide))).trans (host_v0 (W0 m ρ c)))
    (((at_7 m ρ c main_v1 (by decide)).symm.trans (at_1 m ρ c main_v1 (by decide))).trans (host_v1 (W0 m ρ c)))
    (((at_7 m ρ c main_v2 (by decide)).symm.trans (at_1 m ρ c main_v2 (by decide))).trans (host_v2 (W0 m ρ c)))
    (((at_7 m ρ c main_v3 (by decide)).symm.trans (at_1 m ρ c main_v3 (by decide))).trans (host_v3 (W0 m ρ c)))
theorem end_4 : Updates S1x1024x704 (E m ρ c main_v19) (E m ρ c main_v20) (E m ρ c main_v21) (A m c main_arg4) (A m c main_arg11) (A m c main_arg18) (A m c main_arg25) :=
  update (back_gate (mid_4 m ρ c)) (host_v19 (W9 m ρ c)) (host_v20 (W9 m ρ c)) (host_v21 (W9 m ρ c)) rfl rfl rfl rfl
theorem mid_5 : Updates S1x704x1024 (W9 m ρ c (Proc.devRef .tc main_v18_0)) (W9 m ρ c (Proc.devRef .tc main_v18_1)) (W9 m ρ c (Proc.devRef .tc main_v18_2)) (to_gate (A m c main_arg5)) (to_gate (A m c main_arg12)) (to_gate (A m c main_arg19)) (to_gate (A m c main_arg26)) :=
  update (fin6 (V8 m ρ) c) ((at_9 m ρ c main_v18_0 (by decide)).symm.trans ((at_9 m ρ c main_v18_0 (by decide)).trans (W9_arr m ρ c 4))) ((at_9 m ρ c main_v18_1 (by decide)).symm.trans ((at_9 m ρ c main_v18_1 (by decide)).trans (W9_arr m ρ c 5))) ((at_9 m ρ c main_v18_2 (by decide)).symm.trans ((at_9 m ρ c main_v18_2 (by decide)).trans (W9_arr m ρ c 6)))
    (((at_8 m ρ c main_v4 (by decide)).symm.trans (at_1 m ρ c main_v4 (by decide))).trans (host_v4 (W0 m ρ c)))
    (((at_8 m ρ c main_v5 (by decide)).symm.trans (at_1 m ρ c main_v5 (by decide))).trans (host_v5 (W0 m ρ c)))
    (((at_8 m ρ c main_v6 (by decide)).symm.trans (at_1 m ρ c main_v6 (by decide))).trans (host_v6 (W0 m ρ c)))
    (((at_8 m ρ c main_v7 (by decide)).symm.trans (at_1 m ρ c main_v7 (by decide))).trans (host_v7 (W0 m ρ c)))
theorem end_5 : Updates S1x1024x704 (E m ρ c main_v22) (E m ρ c main_v23) (E m ρ c main_v24) (A m c main_arg5) (A m c main_arg12) (A m c main_arg19) (A m c main_arg26) :=
  update (back_gate (mid_5 m ρ c)) (host_v22 (W9 m ρ c)) (host_v23 (W9 m ρ c)) (host_v24 (W9 m ρ c)) rfl rfl rfl rfl

end Cert.Kernel5Ideal.Opt
-- ==== Proof.OptRun2.lean ====
/- The weight update's program run whole: every buffer ends at the last boundary's contents. -/
module

public import Idealize.ShloMosaic.PureOps.Ideal
public import proofs.«01_k».proof.Proof.Gen.Kernel6Ideal.Frame

@[expose] public section

set_option maxRecDepth 16384

noncomputable section

namespace Cert.Kernel6Ideal.Opt

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option maxHeartbeats 4000000 in
set_option backward.isDefEq.respectTransparency.types false in
/-- Every buffer of the program ends at the last boundary's contents. -/
theorem ends : θ_run (defs (F := Ideal)) (onTc (τ := τ) (main (F := Ideal))) ⟨m, fun _ => 0, ρ⟩ (fun r =>
      ∀ c : Dev nD, ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

variable {m ρ} in
/-- Every argument ends as it was. -/
theorem kept {μ : (ℓ : Loc nD τ sig) → Buf (Elt Ideal) ℓ} {c : Dev nD} (h : ∀ b ∈ Pipeline.ucRefs τ sig, μ (((c : Thread nD τ)).1, b) = W7 m ρ c b) (a : Ref sig .tc)
    (ha : a ∈ argRefs) (hu : Proc.devRef (τ := τ) .tc a ∈ Pipeline.ucRefs τ sig) : μ ((c : Thread nD τ).loc a) = m ((c : Thread nD τ).loc a) :=
  (h _ hu).trans (W7_args m ρ c a ha)

end Cert.Kernel6Ideal.Opt
-- ==== Proof.OptGains.lean ====
/- The weight update's calls over their grids: the whole arrays they leave, entry by entry. -/
module

public import proofs.«01_k».proof.Proof.OptMath
public import proofs.«01_k».proof.Proof.Gen.Kernel6Ideal.Frame

@[expose] public section

set_option maxRecDepth 16384

noncomputable section

namespace Cert.Kernel6Ideal.Opt

open Cert.Kernel6Ideal Cert.Kernel6Ideal.Gen Cert.Opt Idealize.ShloMosaic Idealize.ShloMosaic.TcCoe Idealize.SL.Sem

variable (V : (c : Dev nD) → (b : Ref sig .tc) → Buf (Elt Idealize.ShloMosaic.Ideal) ((c : Thread nD τ).loc b)) (c : Dev nD)

set_option maxHeartbeats 4000000 in
theorem fin0 : Updates S1x64 ((dat0 V c).arrAt 4 cfg0.N) ((dat0 V c).arrAt 5 cfg0.N) ((dat0 V c).arrAt 6 cfg0.N) (V c main_arg0) (V c main_arg7) (V c main_arg14) (V c main_arg21) := by
  have hz : (![0, 0] : Fin 2 → Nat) = fun _ => 0 := by decide
  have hN : 0 < cfg0.N := by rw [show cfg0.N = 1 from N_0]; omega
  have hi4 : ∀ (t : Fin grid0.N) a, win0_4.index t a = 0 := by decide +kernel
  have hi5 : ∀ (t : Fin grid0.N) a, win0_5.index t a = 0 := by decide +kernel
  have hi6 : ∀ (t : Fin grid0.N) a, win0_6.index t a = 0 := by decide +kernel
  have hm (i : S1x64.Idx) (x : Fin 2 → Nat) (hx : ∀ a, x a = 0) (a) : x a * S1x64.size a ≤ (i a : Nat) ∧ (i a : Nat) < x a * S1x64.size a + S1x64.size a := by
    rw [hx, Nat.zero_mul, Nat.zero_add]; exact ⟨Nat.zero_le _, (i a).isLt⟩
  refine ⟨(dat0 V c).arrAt_eq_of_cover 4 _ (fun t _ => ?_) fun i => ⟨⟨0, hN⟩, flush0_4 _, ?_⟩,
    (dat0 V c).arrAt_eq_of_cover 5 _ (fun t _ => ?_) fun i => ⟨⟨0, hN⟩, flush0_5 _, ?_⟩,
    (dat0 V c).arrAt_eq_of_cover 6 _ (fun t _ => ?_) fun i => ⟨⟨0, hN⟩, flush0_6 _, ?_⟩⟩
  · show (cfg0.win 4).cut (grid0.coords t) ((dat0 V c).after 4 t) = _; rw [after0_4]; funext j; rw [View.read_apply]; unfold out0_4
    rw [View.canon_unit_zero hz]; simp only [View.ld_unit_zero (S := S1x64) hz, k0_pay1, k0_pay2, k0_pay3, shapeCast_self]; rfl
  · show i ∈ ((View.whole main_v0_0).slice (win0_4.rect ⟨0, hN⟩)).set; rw [View.set_slice_whole, Rect.mem_set_unit]
    exact hm i (win0_4.index ⟨0, hN⟩) (hi4 _)
  · show (cfg0.win 5).cut (grid0.coords t) ((dat0 V c).after 5 t) = _; rw [after0_5]; funext j; rw [View.read_apply]; unfold out0_5
    rw [View.canon_unit_zero hz]; simp only [View.ld_unit_zero (S := S1x64) hz, k0_pay1, k0_pay2, k0_pay3, shapeCast_self]; rfl
  · show i ∈ ((View.whole main_v0_1).slice (win0_5.rect ⟨0, hN⟩)).set; rw [View.set_slice_whole, Rect.mem_set_unit]
    exact hm i (win0_5.index ⟨0, hN⟩) (hi5 _)
  · show (cfg0.win 6).cut (grid0.coords t) ((dat0 V c).after 6 t) = _; rw [after0_6]; funext j; rw [View.read_apply]; unfold out0_6
    rw [View.canon_unit_zero hz]; simp only [View.ld_unit_zero (S := S1x64) hz, k0_pay1, k0_pay2, k0_pay3, shapeCast_self]; rfl
  · show i ∈ ((View.whole main_v0_2).slice (win0_6.rect ⟨0, hN⟩)).set; rw [View.set_slice_whole, Rect.mem_set_unit]
    exact hm i (win0_6.index ⟨0, hN⟩) (hi6 _)

set_option maxHeartbeats 4000000 in
theorem fin1 : Updates S1x64 ((dat1 V c).arrAt 4 cfg1.N) ((dat1 V c).arrAt 5 cfg1.N) ((dat1 V c).arrAt 6 cfg1.N) (V c main_arg1) (V c main_arg8) (V c main_arg15) (V c main_arg22) := by
  have hz : (![0, 0] : Fin 2 → Nat) = fun _ => 0 := by decide
  have hN : 0 < cfg1.N := by rw [show cfg1.N = 1 from N_1]; omega
  have hi4 : ∀ (t : Fin grid1.N) a, win1_4.index t a = 0 := by decide +kernel
  have hi5 : ∀ (t : Fin grid1.N) a, win1_5.index t a = 0 := by decide +kernel
  have hi6 : ∀ (t : Fin grid1.N) a, win1_6.index t a = 0 := by decide +kernel
  have hm (i : S1x64.Idx) (x : Fin 2 → Nat) (hx : ∀ a, x a = 0) (a) : x a * S1x64.size a ≤ (i a : Nat) ∧ (i a : Nat) < x a * S1x64.size a + S1x64.size a := by
    rw [hx, Nat.zero_mul, Nat.zero_add]; exact ⟨Nat.zero_le _, (i a).isLt⟩
  refine ⟨(dat1 V c).arrAt_eq_of_cover 4 _ (fun t _ => ?_) fun i => ⟨⟨0, hN⟩, flush1_4 _, ?_⟩,
    (dat1 V c).arrAt_eq_of_cover 5 _ (fun t _ => ?_) fun i => ⟨⟨0, hN⟩, flush1_5 _, ?_⟩,
    (dat1 V c).arrAt_eq_of_cover 6 _ (fun t _ => ?_) fun i => ⟨⟨0, hN⟩, flush1_6 _, ?_⟩⟩
  · show (cfg1.win 4).cut (grid1.coords t) ((dat1 V c).after 4 t) = _; rw [after1_4]; funext j; rw [View.read_apply]; unfold out1_4
    rw [View.canon_unit_zero hz]; simp only [View.ld_unit_zero (S := S1x64) hz, k1_pay1, k1_pay2, k1_pay3, shapeCast_self]; rfl
  · show i ∈ ((View.whole main_v1_0).slice (win1_4.rect ⟨0, hN⟩)).set; rw [View.set_slice_whole, Rect.mem_set_unit]
    exact hm i (win1_4.index ⟨0, hN⟩) (hi4 _)
  · show (cfg1.win 5).cut (grid1.coords t) ((dat1 V c).after 5 t) = _; rw [after1_5]; funext j; rw [View.read_apply]; unfold out1_5
    rw [View.canon_unit_zero hz]; simp only [View.ld_unit_zero (S := S1x64) hz, k1_pay1, k1_pay2, k1_pay3, shapeCast_self]; rfl
  · show i ∈ ((View.whole main_v1_1).slice (win1_5.rect ⟨0, hN⟩)).set; rw [View.set_slice_whole, Rect.mem_set_unit]
    exact hm i (win1_5.index ⟨0, hN⟩) (hi5 _)
  · show (cfg1.win 6).cut (grid1.coords t) ((dat1 V c).after 6 t) = _; rw [after1_6]; funext j; rw [View.read_apply]; unfold out1_6
    rw [View.canon_unit_zero hz]; simp only [View.ld_unit_zero (S := S1x64) hz, k1_pay1, k1_pay2, k1_pay3, shapeCast_self]; rfl
  · show i ∈ ((View.whole main_v1_2).slice (win1_6.rect ⟨0, hN⟩)).set; rw [View.set_slice_whole, Rect.mem_set_unit]
    exact hm i (win1_6.index ⟨0, hN⟩) (hi6 _)

set_option maxHeartbeats 4000000 in
theorem fin2 : Updates S1x64 ((dat2 V c).arrAt 4 cfg2.N) ((dat2 V c).arrAt 5 cfg2.N) ((dat2 V c).arrAt 6 cfg2.N) (V c main_arg2) (V c main_arg9) (V c main_arg16) (V c main_arg23) := by
  have hz : (![0, 0] : Fin 2 → Nat) = fun _ => 0 := by decide
  have hN : 0 < cfg2.N := by rw [show cfg2.N = 1 from N_2]; omega
  have hi4 : ∀ (t : Fin grid2.N) a, win2_4.index t a = 0 := by decide +kernel
  have hi5 : ∀ (t : Fin grid2.N) a, win2_5.index t a = 0 := by decide +kernel
  have hi6 : ∀ (t : Fin grid2.N) a, win2_6.index t a = 0 := by decide +kernel
  have hm (i : S1x64.Idx) (x : Fin 2 → Nat) (hx : ∀ a, x a = 0) (a) : x a * S1x64.size a ≤ (i a : Nat) ∧ (i a : Nat) < x a * S1x64.size a + S1x64.size a := by
    rw [hx, Nat.zero_mul, Nat.zero_add]; exact ⟨Nat.zero_le _, (i a).isLt⟩
  refine ⟨(dat2 V c).arrAt_eq_of_cover 4 _ (fun t _ => ?_) fun i => ⟨⟨0, hN⟩, flush2_4 _, ?_⟩,
    (dat2 V c).arrAt_eq_of_cover 5 _ (fun t _ => ?_) fun i => ⟨⟨0, hN⟩, flush2_5 _, ?_⟩,
    (dat2 V c).arrAt_eq_of_cover 6 _ (fun t _ => ?_) fun i => ⟨⟨0, hN⟩, flush2_6 _, ?_⟩⟩
  · show (cfg2.win 4).cut (grid2.coords t) ((dat2 V c).after 4 t) = _; rw [after2_4]; funext j; rw [View.read_apply]; unfold out2_4
    rw [View.canon_unit_zero hz]; simp only [View.ld_unit_zero (S := S1x64) hz, k2_pay1, k2_pay2, k2_pay3, shapeCast_self]; rfl
  · show i ∈ ((View.whole main_v2_0).slice (win2_4.rect ⟨0, hN⟩)).set; rw [View.set_slice_whole, Rect.mem_set_unit]
    exact hm i (win2_4.index ⟨0, hN⟩) (hi4 _)
  · show (cfg2.win 5).cut (grid2.coords t) ((dat2 V c).after 5 t) = _; rw [after2_5]; funext j; rw [View.read_apply]; unfold out2_5
    rw [View.canon_unit_zero hz]; simp only [View.ld_unit_zero (S := S1x64) hz, k2_pay1, k2_pay2, k2_pay3, shapeCast_self]; rfl
  · show i ∈ ((View.whole main_v2_1).slice (win2_5.rect ⟨0, hN⟩)).set; rw [View.set_slice_whole, Rect.mem_set_unit]
    exact hm i (win2_5.index ⟨0, hN⟩) (hi5 _)
  · show (cfg2.win 6).cut (grid2.coords t) ((dat2 V c).after 6 t) = _; rw [after2_6]; funext j; rw [View.read_apply]; unfold out2_6
    rw [View.canon_unit_zero hz]; simp only [View.ld_unit_zero (S := S1x64) hz, k2_pay1, k2_pay2, k2_pay3, shapeCast_self]; rfl
  · show i ∈ ((View.whole main_v2_2).slice (win2_6.rect ⟨0, hN⟩)).set; rw [View.set_slice_whole, Rect.mem_set_unit]
    exact hm i (win2_6.index ⟨0, hN⟩) (hi6 _)

set_option maxHeartbeats 4000000 in
theorem fin3 : Updates S1x64 ((dat3 V c).arrAt 4 cfg3.N) ((dat3 V c).arrAt 5 cfg3.N) ((dat3 V c).arrAt 6 cfg3.N) (V c main_arg3) (V c main_arg10) (V c main_arg17) (V c main_arg24) := by
  have hz : (![0, 0] : Fin 2 → Nat) = fun _ => 0 := by decide
  have hN : 0 < cfg3.N := by rw [show cfg3.N = 1 from N_3]; omega
  have hi4 : ∀ (t : Fin grid3.N) a, win3_4.index t a = 0 := by decide +kernel
  have hi5 : ∀ (t : Fin grid3.N) a, win3_5.index t a = 0 := by decide +kernel
  have hi6 : ∀ (t : Fin grid3.N) a, win3_6.index t a = 0 := by decide +kernel
  have hm (i : S1x64.Idx) (x : Fin 2 → Nat) (hx : ∀ a, x a = 0) (a) : x a * S1x64.size a ≤ (i a : Nat) ∧ (i a : Nat) < x a * S1x64.size a + S1x64.size a := by
    rw [hx, Nat.zero_mul, Nat.zero_add]; exact ⟨Nat.zero_le _, (i a).isLt⟩
  refine ⟨(dat3 V c).arrAt_eq_of_cover 4 _ (fun t _ => ?_) fun i => ⟨⟨0, hN⟩, flush3_4 _, ?_⟩,
    (dat3 V c).arrAt_eq_of_cover 5 _ (fun t _ => ?_) fun i => ⟨⟨0, hN⟩, flush3_5 _, ?_⟩,
    (dat3 V c).arrAt_eq_of_cover 6 _ (fun t _ => ?_) fun i => ⟨⟨0, hN⟩, flush3_6 _, ?_⟩⟩
  · show (cfg3.win 4).cut (grid3.coords t) ((dat3 V c).after 4 t) = _; rw [after3_4]; funext j; rw [View.read_apply]; unfold out3_4
    rw [View.canon_unit_zero hz]; simp only [View.ld_unit_zero (S := S1x64) hz, k3_pay1, k3_pay2, k3_pay3, shapeCast_self]; rfl
  · show i ∈ ((View.whole main_v3_0).slice (win3_4.rect ⟨0, hN⟩)).set; rw [View.set_slice_whole, Rect.mem_set_unit]
    exact hm i (win3_4.index ⟨0, hN⟩) (hi4 _)
  · show (cfg3.win 5).cut (grid3.coords t) ((dat3 V c).after 5 t) = _; rw [after3_5]; funext j; rw [View.read_apply]; unfold out3_5
    rw [View.canon_unit_zero hz]; simp only [View.ld_unit_zero (S := S1x64) hz, k3_pay1, k3_pay2, k3_pay3, shapeCast_self]; rfl
  · show i ∈ ((View.whole main_v3_1).slice (win3_5.rect ⟨0, hN⟩)).set; rw [View.set_slice_whole, Rect.mem_set_unit]
    exact hm i (win3_5.index ⟨0, hN⟩) (hi5 _)
  · show (cfg3.win 6).cut (grid3.coords t) ((dat3 V c).after 6 t) = _; rw [after3_6]; funext j; rw [View.read_apply]; unfold out3_6
    rw [View.canon_unit_zero hz]; simp only [View.ld_unit_zero (S := S1x64) hz, k3_pay1, k3_pay2, k3_pay3, shapeCast_self]; rfl
  · show i ∈ ((View.whole main_v3_2).slice (win3_6.rect ⟨0, hN⟩)).set; rw [View.set_slice_whole, Rect.mem_set_unit]
    exact hm i (win3_6.index ⟨0, hN⟩) (hi6 _)

end Cert.Kernel6Ideal.Opt
-- ==== Proof.OptGains2.lean ====
/- The weight update's calls over their grids: the whole arrays they leave, entry by entry. -/
module

public import proofs.«01_k».proof.Proof.OptMath
public import proofs.«01_k».proof.Proof.Gen.Kernel6Ideal.Frame

@[expose] public section

set_option maxRecDepth 16384

noncomputable section

namespace Cert.Kernel6Ideal.Opt

open Cert.Kernel6Ideal Cert.Kernel6Ideal.Gen Cert.Opt Idealize.ShloMosaic Idealize.ShloMosaic.TcCoe Idealize.SL.Sem

variable (V : (c : Dev nD) → (b : Ref sig .tc) → Buf (Elt Idealize.ShloMosaic.Ideal) ((c : Thread nD τ).loc b)) (c : Dev nD)

set_option maxHeartbeats 4000000 in
theorem fin4 : Updates S1x512 ((dat4 V c).arrAt 4 cfg4.N) ((dat4 V c).arrAt 5 cfg4.N) ((dat4 V c).arrAt 6 cfg4.N) (V c main_arg4) (V c main_arg11) (V c main_arg18) (V c main_arg25) := by
  have hz : (![0, 0] : Fin 2 → Nat) = fun _ => 0 := by decide
  have hN : 0 < cfg4.N := by rw [show cfg4.N = 1 from N_4]; omega
  have hi4 : ∀ (t : Fin grid4.N) a, win4_4.index t a = 0 := by decide +kernel
  have hi5 : ∀ (t : Fin grid4.N) a, win4_5.index t a = 0 := by decide +kernel
  have hi6 : ∀ (t : Fin grid4.N) a, win4_6.index t a = 0 := by decide +kernel
  have hm (i : S1x512.Idx) (x : Fin 2 → Nat) (hx : ∀ a, x a = 0) (a) : x a * S1x512.size a ≤ (i a : Nat) ∧ (i a : Nat) < x a * S1x512.size a + S1x512.size a := by
    rw [hx, Nat.zero_mul, Nat.zero_add]; exact ⟨Nat.zero_le _, (i a).isLt⟩
  refine ⟨(dat4 V c).arrAt_eq_of_cover 4 _ (fun t _ => ?_) fun i => ⟨⟨0, hN⟩, flush4_4 _, ?_⟩,
    (dat4 V c).arrAt_eq_of_cover 5 _ (fun t _ => ?_) fun i => ⟨⟨0, hN⟩, flush4_5 _, ?_⟩,
    (dat4 V c).arrAt_eq_of_cover 6 _ (fun t _ => ?_) fun i => ⟨⟨0, hN⟩, flush4_6 _, ?_⟩⟩
  · show (cfg4.win 4).cut (grid4.coords t) ((dat4 V c).after 4 t) = _; rw [after4_4]; funext j; rw [View.read_apply]; unfold out4_4
    rw [View.canon_unit_zero hz]; simp only [View.ld_unit_zero (S := S1x512) hz, k4_pay1, k4_pay2, k4_pay3, shapeCast_self]; rfl
  · show i ∈ ((View.whole main_v4_0).slice (win4_4.rect ⟨0, hN⟩)).set; rw [View.set_slice_whole, Rect.mem_set_unit]
    exact hm i (win4_4.index ⟨0, hN⟩) (hi4 _)
  · show (cfg4.win 5).cut (grid4.coords t) ((dat4 V c).after 5 t) = _; rw [after4_5]; funext j; rw [View.read_apply]; unfold out4_5
    rw [View.canon_unit_zero hz]; simp only [View.ld_unit_zero (S := S1x512) hz, k4_pay1, k4_pay2, k4_pay3, shapeCast_self]; rfl
  · show i ∈ ((View.whole main_v4_1).slice (win4_5.rect ⟨0, hN⟩)).set; rw [View.set_slice_whole, Rect.mem_set_unit]
    exact hm i (win4_5.index ⟨0, hN⟩) (hi5 _)
  · show (cfg4.win 6).cut (grid4.coords t) ((dat4 V c).after 6 t) = _; rw [after4_6]; funext j; rw [View.read_apply]; unfold out4_6
    rw [View.canon_unit_zero hz]; simp only [View.ld_unit_zero (S := S1x512) hz, k4_pay1, k4_pay2, k4_pay3, shapeCast_self]; rfl
  · show i ∈ ((View.whole main_v4_2).slice (win4_6.rect ⟨0, hN⟩)).set; rw [View.set_slice_whole, Rect.mem_set_unit]
    exact hm i (win4_6.index ⟨0, hN⟩) (hi6 _)

set_option maxHeartbeats 4000000 in
theorem fin5 : Updates S1x512 ((dat5 V c).arrAt 4 cfg5.N) ((dat5 V c).arrAt 5 cfg5.N) ((dat5 V c).arrAt 6 cfg5.N) (V c main_arg5) (V c main_arg12) (V c main_arg19) (V c main_arg26) := by
  have hz : (![0, 0] : Fin 2 → Nat) = fun _ => 0 := by decide
  have hN : 0 < cfg5.N := by rw [show cfg5.N = 1 from N_5]; omega
  have hi4 : ∀ (t : Fin grid5.N) a, win5_4.index t a = 0 := by decide +kernel
  have hi5 : ∀ (t : Fin grid5.N) a, win5_5.index t a = 0 := by decide +kernel
  have hi6 : ∀ (t : Fin grid5.N) a, win5_6.index t a = 0 := by decide +kernel
  have hm (i : S1x512.Idx) (x : Fin 2 → Nat) (hx : ∀ a, x a = 0) (a) : x a * S1x512.size a ≤ (i a : Nat) ∧ (i a : Nat) < x a * S1x512.size a + S1x512.size a := by
    rw [hx, Nat.zero_mul, Nat.zero_add]; exact ⟨Nat.zero_le _, (i a).isLt⟩
  refine ⟨(dat5 V c).arrAt_eq_of_cover 4 _ (fun t _ => ?_) fun i => ⟨⟨0, hN⟩, flush5_4 _, ?_⟩,
    (dat5 V c).arrAt_eq_of_cover 5 _ (fun t _ => ?_) fun i => ⟨⟨0, hN⟩, flush5_5 _, ?_⟩,
    (dat5 V c).arrAt_eq_of_cover 6 _ (fun t _ => ?_) fun i => ⟨⟨0, hN⟩, flush5_6 _, ?_⟩⟩
  · show (cfg5.win 4).cut (grid5.coords t) ((dat5 V c).after 4 t) = _; rw [after5_4]; funext j; rw [View.read_apply]; unfold out5_4
    rw [View.canon_unit_zero hz]; simp only [View.ld_unit_zero (S := S1x512) hz, k5_pay1, k5_pay2, k5_pay3, shapeCast_self]; rfl
  · show i ∈ ((View.whole main_v5_0).slice (win5_4.rect ⟨0, hN⟩)).set; rw [View.set_slice_whole, Rect.mem_set_unit]
    exact hm i (win5_4.index ⟨0, hN⟩) (hi4 _)
  · show (cfg5.win 5).cut (grid5.coords t) ((dat5 V c).after 5 t) = _; rw [after5_5]; funext j; rw [View.read_apply]; unfold out5_5
    rw [View.canon_unit_zero hz]; simp only [View.ld_unit_zero (S := S1x512) hz, k5_pay1, k5_pay2, k5_pay3, shapeCast_self]; rfl
  · show i ∈ ((View.whole main_v5_1).slice (win5_5.rect ⟨0, hN⟩)).set; rw [View.set_slice_whole, Rect.mem_set_unit]
    exact hm i (win5_5.index ⟨0, hN⟩) (hi5 _)
  · show (cfg5.win 6).cut (grid5.coords t) ((dat5 V c).after 6 t) = _; rw [after5_6]; funext j; rw [View.read_apply]; unfold out5_6
    rw [View.canon_unit_zero hz]; simp only [View.ld_unit_zero (S := S1x512) hz, k5_pay1, k5_pay2, k5_pay3, shapeCast_self]; rfl
  · show i ∈ ((View.whole main_v5_2).slice (win5_6.rect ⟨0, hN⟩)).set; rw [View.set_slice_whole, Rect.mem_set_unit]
    exact hm i (win5_6.index ⟨0, hN⟩) (hi6 _)

set_option maxHeartbeats 4000000 in
theorem fin6 : Updates S1x1024 ((dat6 V c).arrAt 4 cfg6.N) ((dat6 V c).arrAt 5 cfg6.N) ((dat6 V c).arrAt 6 cfg6.N) (V c main_arg6) (V c main_arg13) (V c main_arg20) (V c main_arg27) := by
  have hz : (![0, 0] : Fin 2 → Nat) = fun _ => 0 := by decide
  have hN : 0 < cfg6.N := by rw [show cfg6.N = 1 from N_6]; omega
  have hi4 : ∀ (t : Fin grid6.N) a, win6_4.index t a = 0 := by decide +kernel
  have hi5 : ∀ (t : Fin grid6.N) a, win6_5.index t a = 0 := by decide +kernel
  have hi6 : ∀ (t : Fin grid6.N) a, win6_6.index t a = 0 := by decide +kernel
  have hm (i : S1x1024.Idx) (x : Fin 2 → Nat) (hx : ∀ a, x a = 0) (a) : x a * S1x1024.size a ≤ (i a : Nat) ∧ (i a : Nat) < x a * S1x1024.size a + S1x1024.size a := by
    rw [hx, Nat.zero_mul, Nat.zero_add]; exact ⟨Nat.zero_le _, (i a).isLt⟩
  refine ⟨(dat6 V c).arrAt_eq_of_cover 4 _ (fun t _ => ?_) fun i => ⟨⟨0, hN⟩, flush6_4 _, ?_⟩,
    (dat6 V c).arrAt_eq_of_cover 5 _ (fun t _ => ?_) fun i => ⟨⟨0, hN⟩, flush6_5 _, ?_⟩,
    (dat6 V c).arrAt_eq_of_cover 6 _ (fun t _ => ?_) fun i => ⟨⟨0, hN⟩, flush6_6 _, ?_⟩⟩
  · show (cfg6.win 4).cut (grid6.coords t) ((dat6 V c).after 4 t) = _; rw [after6_4]; funext j; rw [View.read_apply]; unfold out6_4
    rw [View.canon_unit_zero hz]; simp only [View.ld_unit_zero (S := S1x1024) hz, k6_pay1, k6_pay2, k6_pay3, shapeCast_self]; rfl
  · show i ∈ ((View.whole main_v6_0).slice (win6_4.rect ⟨0, hN⟩)).set; rw [View.set_slice_whole, Rect.mem_set_unit]
    exact hm i (win6_4.index ⟨0, hN⟩) (hi4 _)
  · show (cfg6.win 5).cut (grid6.coords t) ((dat6 V c).after 5 t) = _; rw [after6_5]; funext j; rw [View.read_apply]; unfold out6_5
    rw [View.canon_unit_zero hz]; simp only [View.ld_unit_zero (S := S1x1024) hz, k6_pay1, k6_pay2, k6_pay3, shapeCast_self]; rfl
  · show i ∈ ((View.whole main_v6_1).slice (win6_5.rect ⟨0, hN⟩)).set; rw [View.set_slice_whole, Rect.mem_set_unit]
    exact hm i (win6_5.index ⟨0, hN⟩) (hi5 _)
  · show (cfg6.win 6).cut (grid6.coords t) ((dat6 V c).after 6 t) = _; rw [after6_6]; funext j; rw [View.read_apply]; unfold out6_6
    rw [View.canon_unit_zero hz]; simp only [View.ld_unit_zero (S := S1x1024) hz, k6_pay1, k6_pay2, k6_pay3, shapeCast_self]; rfl
  · show i ∈ ((View.whole main_v6_2).slice (win6_6.rect ⟨0, hN⟩)).set; rw [View.set_slice_whole, Rect.mem_set_unit]
    exact hm i (win6_6.index ⟨0, hN⟩) (hi6 _)

end Cert.Kernel6Ideal.Opt
-- ==== Proof.OptEnd2.lean ====
/- The gains' update's program: what its results hold, from its arguments. -/
module

public import proofs.«01_k».proof.Proof.OptRun2
public import proofs.«01_k».proof.Proof.OptGains
public import proofs.«01_k».proof.Proof.OptGains2

@[expose] public section

set_option maxRecDepth 16384

noncomputable section

namespace Cert.Kernel6Ideal.Opt

open Cert.Kernel6Ideal Cert.Kernel6Ideal.Gen Cert.Opt Idealize.ShloMosaic Idealize.ShloMosaic.TcCoe Idealize.ShloMosaic.StableHlo Idealize.SL.Sem

variable (m : (ℓ : Loc nD τ sig) → Buf (Elt Idealize.ShloMosaic.Ideal) ℓ) (ρ : Dev nD → PrngReg) (c : Dev nD)

/-- A buffer as launched, and as it ends. -/
abbrev A (b : Ref sig .tc) : Buf (Elt Idealize.ShloMosaic.Ideal) ((c : Thread nD τ).loc b) := m ((c : Thread nD τ).loc b)
abbrev E (b : Ref sig .tc) : Buf (Elt Idealize.ShloMosaic.Ideal) ((c : Thread nD τ).loc b) := W7 m ρ c (Proc.devRef .tc b)

/-! ## Buffers that are final at a boundary -/

def fin_1 : List (Ref sig .tc) := [main_v0_0, main_v0_1, main_v0_2]
def fin_2 : List (Ref sig .tc) := [main_v1_0, main_v1_1, main_v1_2] ++ fin_1
def fin_3 : List (Ref sig .tc) := [main_v2_0, main_v2_1, main_v2_2] ++ fin_2
def fin_4 : List (Ref sig .tc) := [main_v3_0, main_v3_1, main_v3_2] ++ fin_3
def fin_5 : List (Ref sig .tc) := [main_v4_0, main_v4_1, main_v4_2] ++ fin_4
def fin_6 : List (Ref sig .tc) := [main_v5_0, main_v5_1, main_v5_2] ++ fin_5
theorem at_6 : ∀ b ∈ fin_6, E m ρ c b = W6 m ρ c (Proc.devRef .tc b) := fun b hb =>
  W7_of m ρ c b (ListAll.forall_mem_of_all_decide (l := fin_6) (p := fun b => ∀ w : Fin cfg6.W, Pipeline.arrRef spec6 w = b → (cfg6.win w).isOut = false) (by decide +kernel) b hb)
theorem at_5 : ∀ b ∈ fin_5, E m ρ c b = W5 m ρ c (Proc.devRef .tc b) := fun b hb =>
  (at_6 m ρ c b (List.mem_append_right _ hb)).trans (W6_of m ρ c b (ListAll.forall_mem_of_all_decide (l := fin_5) (p := fun b => ∀ w : Fin cfg5.W, Pipeline.arrRef spec5 w = b → (cfg5.win w).isOut = false) (by decide +kernel) b hb))
theorem at_4 : ∀ b ∈ fin_4, E m ρ c b = W4 m ρ c (Proc.devRef .tc b) := fun b hb =>
  (at_5 m ρ c b (List.mem_append_right _ hb)).trans (W5_of m ρ c b (ListAll.forall_mem_of_all_decide (l := fin_4) (p := fun b => ∀ w : Fin cfg4.W, Pipeline.arrRef spec4 w = b → (cfg4.win w).isOut = false) (by decide +kernel) b hb))
theorem at_3 : ∀ b ∈ fin_3, E m ρ c b = W3 m ρ c (Proc.devRef .tc b) := fun b hb =>
  (at_4 m ρ c b (List.mem_append_right _ hb)).trans (W4_of m ρ c b (ListAll.forall_mem_of_all_decide (l := fin_3) (p := fun b => ∀ w : Fin cfg3.W, Pipeline.arrRef spec3 w = b → (cfg3.win w).isOut = false) (by decide +kernel) b hb))
theorem at_2 : ∀ b ∈ fin_2, E m ρ c b = W2 m ρ c (Proc.devRef .tc b) := fun b hb =>
  (at_3 m ρ c b (List.mem_append_right _ hb)).trans (W3_of m ρ c b (ListAll.forall_mem_of_all_decide (l := fin_2) (p := fun b => ∀ w : Fin cfg2.W, Pipeline.arrRef spec2 w = b → (cfg2.win w).isOut = false) (by decide +kernel) b hb))
theorem at_1 : ∀ b ∈ fin_1, E m ρ c b = W1 m ρ c (Proc.devRef .tc b) := fun b hb =>
  (at_2 m ρ c b (List.mem_append_right _ hb)).trans (W2_of m ρ c b (ListAll.forall_mem_of_all_decide (l := fin_1) (p := fun b => ∀ w : Fin cfg1.W, Pipeline.arrRef spec1 w = b → (cfg1.win w).isOut = false) (by decide +kernel) b hb))

/-! ## The results -/

theorem end_0 : Updates S1x64 (E m ρ c main_v0_0) (E m ρ c main_v0_1) (E m ρ c main_v0_2) (A m c main_arg0) (A m c main_arg7) (A m c main_arg14) (A m c main_arg21) :=
  update (fin0 (V0 m ρ) c) ((at_1 m ρ c main_v0_0 (by decide)).trans (W1_arr m ρ c 4)) ((at_1 m ρ c main_v0_1 (by decide)).trans (W1_arr m ρ c 5)) ((at_1 m ρ c main_v0_2 (by decide)).trans (W1_arr m ρ c 6))
    (W0_args m ρ c main_arg0 (by decide)) (W0_args m ρ c main_arg7 (by decide)) (W0_args m ρ c main_arg14 (by decide)) (W0_args m ρ c main_arg21 (by decide))
theorem end_1 : Updates S1x64 (E m ρ c main_v1_0) (E m ρ c main_v1_1) (E m ρ c main_v1_2) (A m c main_arg1) (A m c main_arg8) (A m c main_arg15) (A m c main_arg22) :=
  update (fin1 (V1 m ρ) c) ((at_2 m ρ c main_v1_0 (by decide)).trans (W2_arr m ρ c 4)) ((at_2 m ρ c main_v1_1 (by decide)).trans (W2_arr m ρ c 5)) ((at_2 m ρ c main_v1_2 (by decide)).trans (W2_arr m ρ c 6))
    (W1_args m ρ c main_arg1 (by decide)) (W1_args m ρ c main_arg8 (by decide)) (W1_args m ρ c main_arg15 (by decide)) (W1_args m ρ c main_arg22 (by decide))
theorem end_2 : Updates S1x64 (E m ρ c main_v2_0) (E m ρ c main_v2_1) (E m ρ c main_v2_2) (A m c main_arg2) (A m c main_arg9) (A m c main_arg16) (A m c main_arg23) :=
  update (fin2 (V2 m ρ) c) ((at_3 m ρ c main_v2_0 (by decide)).trans (W3_arr m ρ c 4)) ((at_3 m ρ c main_v2_1 (by decide)).trans (W3_arr m ρ c 5)) ((at_3 m ρ c main_v2_2 (by decide)).trans (W3_arr m ρ c 6))
    (W2_args m ρ c main_arg2 (by decide)) (W2_args m ρ c main_arg9 (by decide)) (W2_args m ρ c main_arg16 (by decide)) (W2_args m ρ c main_arg23 (by decide))
theorem end_3 : Updates S1x64 (E m ρ c main_v3_0) (E m ρ c main_v3_1) (E m ρ c main_v3_2) (A m c main_arg3) (A m c main_arg10) (A m c main_arg17) (A m c main_arg24) :=
  update (fin3 (V3 m ρ) c) ((at_4 m ρ c main_v3_0 (by decide)).trans (W4_arr m ρ c 4)) ((at_4 m ρ c main_v3_1 (by decide)).trans (W4_arr m ρ c 5)) ((at_4 m ρ c main_v3_2 (by decide)).trans (W4_arr m ρ c 6))
    (W3_args m ρ c main_arg3 (by decide)) (W3_args m ρ c main_arg10 (by decide)) (W3_args m ρ c main_arg17 (by decide)) (W3_args m ρ c main_arg24 (by decide))
theorem end_4 : Updates S1x512 (E m ρ c main_v4_0) (E m ρ c main_v4_1) (E m ρ c main_v4_2) (A m c main_arg4) (A m c main_arg11) (A m c main_arg18) (A m c main_arg25) :=
  update (fin4 (V4 m ρ) c) ((at_5 m ρ c main_v4_0 (by decide)).trans (W5_arr m ρ c 4)) ((at_5 m ρ c main_v4_1 (by decide)).trans (W5_arr m ρ c 5)) ((at_5 m ρ c main_v4_2 (by decide)).trans (W5_arr m ρ c 6))
    (W4_args m ρ c main_arg4 (by decide)) (W4_args m ρ c main_arg11 (by decide)) (W4_args m ρ c main_arg18 (by decide)) (W4_args m ρ c main_arg25 (by decide))
theorem end_5 : Updates S1x512 (E m ρ c main_v5_0) (E m ρ c main_v5_1) (E m ρ c main_v5_2) (A m c main_arg5) (A m c main_arg12) (A m c main_arg19) (A m c main_arg26) :=
  update (fin5 (V5 m ρ) c) ((at_6 m ρ c main_v5_0 (by decide)).trans (W6_arr m ρ c 4)) ((at_6 m ρ c main_v5_1 (by decide)).trans (W6_arr m ρ c 5)) ((at_6 m ρ c main_v5_2 (by decide)).trans (W6_arr m ρ c 6))
    (W5_args m ρ c main_arg5 (by decide)) (W5_args m ρ c main_arg12 (by decide)) (W5_args m ρ c main_arg19 (by decide)) (W5_args m ρ c main_arg26 (by decide))
theorem end_6 : Updates S1x1024 (E m ρ c main_v6_0) (E m ρ c main_v6_1) (E m ρ c main_v6_2) (A m c main_arg6) (A m c main_arg13) (A m c main_arg20) (A m c main_arg27) :=
  update (fin6 (V6 m ρ) c) (W7_arr m ρ c 4) (W7_arr m ρ c 5) (W7_arr m ρ c 6)
    (W6_args m ρ c main_arg6 (by decide)) (W6_args m ρ c main_arg13 (by decide)) (W6_args m ρ c main_arg20 (by decide)) (W6_args m ρ c main_arg27 (by decide))

end Cert.Kernel6Ideal.Opt
-- ==== Proof.OptClaim.lean ====
/- The weight update's training step: its claims. -/
module

public import proofs.«01_k».proof.Defs
public import proofs.«01_k».proof.Proof.OptEnd
public import proofs.«01_k».proof.Proof.OptEnd2
public import proofs.«01_k».proof.Proof.Gen.Kernel5.Frame
public import proofs.«01_k».proof.Proof.Gen.Kernel6.Frame
public import proofs.«01_k».proof.Proof.Gen.Reference5Ideal.Run
public import proofs.«01_k».proof.Proof.Gen.Reference6Ideal.Run

@[expose] public section

set_option maxRecDepth 16384

noncomputable section

namespace Cert.Proof.Opt

open Idealize.ShloMosaic Idealize.SL.Sem Cert.Opt

/-! ## The reference's arrays -/

section
variable {S : Shape} (h : (⟨0, ![]⟩ : Shape).BroadcastsInDim S (![] : Fin 0 → Fin S.rank)) (w g m v w' g' m' v' : S.Idx → Ideal .f32)

/-- A constant array. -/
abbrev con (k : BitVec 32) : FVec Ideal S .f32 := broadcastInDim S ![] h (constant ⟨0, ![]⟩ .f32 k)

/-- The reference's new moments and steps, as it computes them. -/
abbrev rm : FVec Ideal S .f32 := addf (mulf (con h 0x3F666666#32) m) (mulf (con h 0x3DCCCCCD#32) g)
abbrev rv : FVec Ideal S .f32 := addf (mulf (con h 0x3F7FBE77#32) v) (mulf (con h 0x3A83126F#32) (mulf g g))
abbrev rd : FVec Ideal S .f32 := mulf (con h 0xBA83126F#32) (addf (Host.divf (Host.divf (rm h g m) (con h 0x3F26BD02#32))
  (addf (Host.sqrt (Host.divf (rv h g v) (con h 0x3C231ACC#32))) (con h 0x322BCC77#32))) (mulf (con h 0x3C23D70A#32) w))

variable {w g m v w' g' m' v'}
theorem rm_eq (eg : g = g') (em : m = m') : rm h g m = firsts g' m' := by subst eg em; rfl
theorem rv_eq (eg : g = g') (ev : v = v') : rv h g v = seconds g' v' := by subst eg ev; rfl
theorem rd_eq (ew : w = w') (eg : g = g') (em : m = m') (ev : v = v') : rd h w g m v = steps w' g' m' v' := by subst ew eg em ev; rfl
end

end Cert.Proof.Opt

/-! ## The weights -/

namespace Cert.Proof.Opt

open Idealize.ShloMosaic Idealize.SL.Sem Cert.Opt Cert.Proof.Opt

theorem frame_kernel : Cert.quiescent_Kernel5 (hKernel5 := Cert.Kernel5.Gen.facts) := fun m ρ _ => Cert.Kernel5.Gen.frame m ρ

theorem frame_ideal : Cert.quiescent_Kernel5Ideal (hKernel5Ideal := Cert.Kernel5Ideal.Gen.facts) := fun m ρ _ => Cert.Kernel5Ideal.Gen.frame m ρ

/-- The reference's arguments are kept, and it declares no semaphore. -/
theorem frame_reference : Cert.quiescent_Reference5Ideal (hReference5Ideal := Cert.Reference5Ideal.Gen.facts) := fun m ρ _ =>
  (θ_run Cert.Reference5Ideal.defs _ _).mono (fun r h => ⟨fun c => (h c).2.2.2.2.2.2.2.2.2.2.2.2.2.2.2.2.2.2.2.2.2, sem_eq_zero_of_no_sems (by decide) r.2⟩)
    (Cert.Reference5Ideal.Value.run (F := Ideal) m ρ)

open Cert.Kernel5Ideal Cert.Kernel5Ideal.Opt in
set_option maxHeartbeats 40000000 in
theorem algebraic : Cert.algebraic_Kernel5Ideal_Reference5Ideal (hKernel5Ideal := Cert.Kernel5Ideal.Gen.facts)
    (hReference5Ideal := Cert.Reference5Ideal.Gen.facts) := by
  intro m ρ m' ρ' _ hag
  refine ⟨fun c => steps (A m c main_arg0) (A m c main_arg7) (A m c main_arg14) (A m c main_arg21),
    fun c => steps (A m c main_arg1) (A m c main_arg8) (A m c main_arg15) (A m c main_arg22),
    fun c => steps (A m c main_arg2) (A m c main_arg9) (A m c main_arg16) (A m c main_arg23),
    fun c => steps (A m c main_arg3) (A m c main_arg10) (A m c main_arg17) (A m c main_arg24),
    fun c => steps (A m c main_arg4) (A m c main_arg11) (A m c main_arg18) (A m c main_arg25),
    fun c => steps (A m c main_arg5) (A m c main_arg12) (A m c main_arg19) (A m c main_arg26),
    fun c => steps (A m c main_arg6) (A m c main_arg13) (A m c main_arg20) (A m c main_arg27),
    fun c => firsts (A m c main_arg7) (A m c main_arg14),
    fun c => firsts (A m c main_arg8) (A m c main_arg15),
    fun c => firsts (A m c main_arg9) (A m c main_arg16),
    fun c => firsts (A m c main_arg10) (A m c main_arg17),
    fun c => firsts (A m c main_arg11) (A m c main_arg18),
    fun c => firsts (A m c main_arg12) (A m c main_arg19),
    fun c => firsts (A m c main_arg13) (A m c main_arg20),
    fun c => seconds (A m c main_arg7) (A m c main_arg21),
    fun c => seconds (A m c main_arg8) (A m c main_arg22),
    fun c => seconds (A m c main_arg9) (A m c main_arg23),
    fun c => seconds (A m c main_arg10) (A m c main_arg24),
    fun c => seconds (A m c main_arg11) (A m c main_arg25),
    fun c => seconds (A m c main_arg12) (A m c main_arg26),
    fun c => seconds (A m c main_arg13) (A m c main_arg27), ?_, ?_⟩
  · refine (θ_run Cert.Kernel5Ideal.defs _ _).mono (fun r h c => ?_) (Cert.Kernel5Ideal.Opt.ends m ρ)
    have k := Cert.Kernel5Ideal.Opt.kept (h c)
    have hm := fun b hb => h c _ (Cert.Kernel5Ideal.Gen.mem_uc b hb)
    have e0 := end_0 m ρ c
    have e1 := end_1 m ρ c
    have e2 := end_2 m ρ c
    have e3 := end_3 m ρ c
    have e4 := end_4 m ρ c
    have e5 := end_5 m ρ c
    have e6 := end_6 m ρ c
    exact ⟨(hm main_v13_0 (by decide)).trans e0.1,
      (hm main_v25 (by decide)).trans e1.1,
      (hm main_v15_0 (by decide)).trans e2.1,
      (hm main_v16_0 (by decide)).trans e3.1,
      (hm main_v19 (by decide)).trans e4.1,
      (hm main_v22 (by decide)).trans e5.1,
      (hm main_v8_0 (by decide)).trans e6.1,
      (hm main_v13_1 (by decide)).trans e0.2.1,
      (hm main_v26 (by decide)).trans e1.2.1,
      (hm main_v15_1 (by decide)).trans e2.2.1,
      (hm main_v16_1 (by decide)).trans e3.2.1,
      (hm main_v20 (by decide)).trans e4.2.1,
      (hm main_v23 (by decide)).trans e5.2.1,
      (hm main_v8_1 (by decide)).trans e6.2.1,
      (hm main_v13_2 (by decide)).trans e0.2.2,
      (hm main_v27 (by decide)).trans e1.2.2,
      (hm main_v15_2 (by decide)).trans e2.2.2,
      (hm main_v16_2 (by decide)).trans e3.2.2,
      (hm main_v21 (by decide)).trans e4.2.2,
      (hm main_v24 (by decide)).trans e5.2.2,
      (hm main_v8_2 (by decide)).trans e6.2.2,
      k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide), k main_arg11 (by decide) (by decide), k main_arg12 (by decide) (by decide), k main_arg13 (by decide) (by decide), k main_arg14 (by decide) (by decide), k main_arg15 (by decide) (by decide), k main_arg16 (by decide) (by decide), k main_arg17 (by decide) (by decide), k main_arg18 (by decide) (by decide), k main_arg19 (by decide) (by decide), k main_arg20 (by decide) (by decide), k main_arg21 (by decide) (by decide), k main_arg22 (by decide) (by decide), k main_arg23 (by decide) (by decide), k main_arg24 (by decide) (by decide), k main_arg25 (by decide) (by decide), k main_arg26 (by decide) (by decide), k main_arg27 (by decide) (by decide)⟩
  · refine (θ_run Cert.Reference5Ideal.defs _ _).mono (fun r h c => ?_) (Cert.Reference5Ideal.Value.run (F := Ideal) m' ρ')
    obtain ⟨a0, a1, a2, a3, a4, a5, a6, a7, a8, a9, a10, a11, a12, a13, a14, a15, a16, a17, a18, a19, a20, a21, a22, a23, a24, a25, a26, a27⟩ := hag c
    obtain ⟨e0, e1, e2, e3, e4, e5, e6, e7, e8, e9, e10, e11, e12, e13, e14, e15, e16, e17, e18, e19, e20, ek⟩ := h c
    exact ⟨e0.trans (rd_eq _ a0 a7 a14 a21),
      e1.trans (rd_eq _ a1 a8 a15 a22),
      e2.trans (rd_eq _ a2 a9 a16 a23),
      e3.trans (rd_eq _ a3 a10 a17 a24),
      e4.trans (rd_eq _ a4 a11 a18 a25),
      e5.trans (rd_eq _ a5 a12 a19 a26),
      e6.trans (rd_eq _ a6 a13 a20 a27),
      e7.trans (rm_eq _ a7 a14),
      e8.trans (rm_eq _ a8 a15),
      e9.trans (rm_eq _ a9 a16),
      e10.trans (rm_eq _ a10 a17),
      e11.trans (rm_eq _ a11 a18),
      e12.trans (rm_eq _ a12 a19),
      e13.trans (rm_eq _ a13 a20),
      e14.trans (rv_eq _ a7 a21),
      e15.trans (rv_eq _ a8 a22),
      e16.trans (rv_eq _ a9 a23),
      e17.trans (rv_eq _ a10 a24),
      e18.trans (rv_eq _ a11 a25),
      e19.trans (rv_eq _ a12 a26),
      e20.trans (rv_eq _ a13 a27), ek⟩

end Cert.Proof.Opt

/-! ## The gains -/

namespace Cert.Proof.Gains

open Idealize.ShloMosaic Idealize.SL.Sem Cert.Opt Cert.Proof.Opt

theorem frame_kernel : Cert.quiescent_Kernel6 (hKernel6 := Cert.Kernel6.Gen.facts) := fun m ρ _ => Cert.Kernel6.Gen.frame m ρ

theorem frame_ideal : Cert.quiescent_Kernel6Ideal (hKernel6Ideal := Cert.Kernel6Ideal.Gen.facts) := fun m ρ _ => Cert.Kernel6Ideal.Gen.frame m ρ

/-- The reference's arguments are kept, and it declares no semaphore. -/
theorem frame_reference : Cert.quiescent_Reference6Ideal (hReference6Ideal := Cert.Reference6Ideal.Gen.facts) := fun m ρ _ =>
  (θ_run Cert.Reference6Ideal.defs _ _).mono (fun r h => ⟨fun c => (h c).2.2.2.2.2.2.2.2.2.2.2.2.2.2.2.2.2.2.2.2.2, sem_eq_zero_of_no_sems (by decide) r.2⟩)
    (Cert.Reference6Ideal.Value.run (F := Ideal) m ρ)

open Cert.Kernel6Ideal Cert.Kernel6Ideal.Opt in
set_option maxHeartbeats 40000000 in
theorem algebraic : Cert.algebraic_Kernel6Ideal_Reference6Ideal (hKernel6Ideal := Cert.Kernel6Ideal.Gen.facts)
    (hReference6Ideal := Cert.Reference6Ideal.Gen.facts) := by
  intro m ρ m' ρ' _ hag
  refine ⟨fun c => steps (A m c main_arg0) (A m c main_arg7) (A m c main_arg14) (A m c main_arg21),
    fun c => steps (A m c main_arg1) (A m c main_arg8) (A m c main_arg15) (A m c main_arg22),
    fun c => steps (A m c main_arg2) (A m c main_arg9) (A m c main_arg16) (A m c main_arg23),
    fun c => steps (A m c main_arg3) (A m c main_arg10) (A m c main_arg17) (A m c main_arg24),
    fun c => steps (A m c main_arg4) (A m c main_arg11) (A m c main_arg18) (A m c main_arg25),
    fun c => steps (A m c main_arg5) (A m c main_arg12) (A m c main_arg19) (A m c main_arg26),
    fun c => steps (A m c main_arg6) (A m c main_arg13) (A m c main_arg20) (A m c main_arg27),
    fun c => firsts (A m c main_arg7) (A m c main_arg14),
    fun c => firsts (A m c main_arg8) (A m c main_arg15),
    fun c => firsts (A m c main_arg9) (A m c main_arg16),
    fun c => firsts (A m c main_arg10) (A m c main_arg17),
    fun c => firsts (A m c main_arg11) (A m c main_arg18),
    fun c => firsts (A m c main_arg12) (A m c main_arg19),
    fun c => firsts (A m c main_arg13) (A m c main_arg20),
    fun c => seconds (A m c main_arg7) (A m c main_arg21),
    fun c => seconds (A m c main_arg8) (A m c main_arg22),
    fun c => seconds (A m c main_arg9) (A m c main_arg23),
    fun c => seconds (A m c main_arg10) (A m c main_arg24),
    fun c => seconds (A m c main_arg11) (A m c main_arg25),
    fun c => seconds (A m c main_arg12) (A m c main_arg26),
    fun c => seconds (A m c main_arg13) (A m c main_arg27), ?_, ?_⟩
  · refine (θ_run Cert.Kernel6Ideal.defs _ _).mono (fun r h c => ?_) (Cert.Kernel6Ideal.Opt.ends m ρ)
    have k := Cert.Kernel6Ideal.Opt.kept (h c)
    have hm := fun b hb => h c _ (Cert.Kernel6Ideal.Gen.mem_uc b hb)
    have e0 := end_0 m ρ c
    have e1 := end_1 m ρ c
    have e2 := end_2 m ρ c
    have e3 := end_3 m ρ c
    have e4 := end_4 m ρ c
    have e5 := end_5 m ρ c
    have e6 := end_6 m ρ c
    exact ⟨(hm main_v0_0 (by decide)).trans e0.1,
      (hm main_v1_0 (by decide)).trans e1.1,
      (hm main_v2_0 (by decide)).trans e2.1,
      (hm main_v3_0 (by decide)).trans e3.1,
      (hm main_v4_0 (by decide)).trans e4.1,
      (hm main_v5_0 (by decide)).trans e5.1,
      (hm main_v6_0 (by decide)).trans e6.1,
      (hm main_v0_1 (by decide)).trans e0.2.1,
      (hm main_v1_1 (by decide)).trans e1.2.1,
      (hm main_v2_1 (by decide)).trans e2.2.1,
      (hm main_v3_1 (by decide)).trans e3.2.1,
      (hm main_v4_1 (by decide)).trans e4.2.1,
      (hm main_v5_1 (by decide)).trans e5.2.1,
      (hm main_v6_1 (by decide)).trans e6.2.1,
      (hm main_v0_2 (by decide)).trans e0.2.2,
      (hm main_v1_2 (by decide)).trans e1.2.2,
      (hm main_v2_2 (by decide)).trans e2.2.2,
      (hm main_v3_2 (by decide)).trans e3.2.2,
      (hm main_v4_2 (by decide)).trans e4.2.2,
      (hm main_v5_2 (by decide)).trans e5.2.2,
      (hm main_v6_2 (by decide)).trans e6.2.2,
      k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide), k main_arg11 (by decide) (by decide), k main_arg12 (by decide) (by decide), k main_arg13 (by decide) (by decide), k main_arg14 (by decide) (by decide), k main_arg15 (by decide) (by decide), k main_arg16 (by decide) (by decide), k main_arg17 (by decide) (by decide), k main_arg18 (by decide) (by decide), k main_arg19 (by decide) (by decide), k main_arg20 (by decide) (by decide), k main_arg21 (by decide) (by decide), k main_arg22 (by decide) (by decide), k main_arg23 (by decide) (by decide), k main_arg24 (by decide) (by decide), k main_arg25 (by decide) (by decide), k main_arg26 (by decide) (by decide), k main_arg27 (by decide) (by decide)⟩
  · refine (θ_run Cert.Reference6Ideal.defs _ _).mono (fun r h c => ?_) (Cert.Reference6Ideal.Value.run (F := Ideal) m' ρ')
    obtain ⟨a0, a1, a2, a3, a4, a5, a6, a7, a8, a9, a10, a11, a12, a13, a14, a15, a16, a17, a18, a19, a20, a21, a22, a23, a24, a25, a26, a27⟩ := hag c
    obtain ⟨e0, e1, e2, e3, e4, e5, e6, e7, e8, e9, e10, e11, e12, e13, e14, e15, e16, e17, e18, e19, e20, ek⟩ := h c
    exact ⟨e0.trans (rd_eq _ a0 a7 a14 a21),
      e1.trans (rd_eq _ a1 a8 a15 a22),
      e2.trans (rd_eq _ a2 a9 a16 a23),
      e3.trans (rd_eq _ a3 a10 a17 a24),
      e4.trans (rd_eq _ a4 a11 a18 a25),
      e5.trans (rd_eq _ a5 a12 a19 a26),
      e6.trans (rd_eq _ a6 a13 a20 a27),
      e7.trans (rm_eq _ a7 a14),
      e8.trans (rm_eq _ a8 a15),
      e9.trans (rm_eq _ a9 a16),
      e10.trans (rm_eq _ a10 a17),
      e11.trans (rm_eq _ a11 a18),
      e12.trans (rm_eq _ a12 a19),
      e13.trans (rm_eq _ a13 a20),
      e14.trans (rv_eq _ a7 a21),
      e15.trans (rv_eq _ a8 a22),
      e16.trans (rv_eq _ a9 a23),
      e17.trans (rv_eq _ a10 a24),
      e18.trans (rv_eq _ a11 a25),
      e19.trans (rv_eq _ a12 a26),
      e20.trans (rv_eq _ a13 a27), ek⟩

end Cert.Proof.Gains
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Pre_finite
public import proofs.«01_k».proof.Proof.Gen.Pre_finite2
public import proofs.«01_k».proof.Proof.GateClaim
public import proofs.«01_k».proof.Proof.FfnClaim
public import proofs.«01_k».proof.Proof.InpClaim
public import proofs.«01_k».proof.Proof.OutClaim
public import proofs.«01_k».proof.Proof.OptClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Gate.preFacts, Cert.Pre_finite2.Gen.facts,
  Gate.frame_kernel, Gate.frame_ideal, Gate.frame_ideal_pre, Gate.frame_reference, Gate.frame_reference_pre,
  Ffn.frame_kernel, Ffn.frame_ideal, Ffn.frame_ideal_pre, Ffn.frame_reference, Ffn.frame_reference_pre,
  Inp.frame_kernel, Inp.frame_ideal, Inp.frame_reference,
  Out.frame_kernel, Out.frame_ideal, Out.frame_reference,
  Opt.frame_kernel, Opt.frame_ideal, Opt.frame_reference, Gains.frame_kernel, Gains.frame_ideal, Gains.frame_reference,
  trivial, Gate.algebraic, trivial, Ffn.algebraic, trivial, Inp.algebraic, trivial, Out.algebraic, trivial, Opt.algebraic, trivial, Gains.algebraic⟩

end Cert.Proof

end
